-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11)
      ∧ r.2.mem ((c.tc : Thread Cert.Kernel3.nD Cert.Kernel3.τ).loc Cert.Kernel3.main_arg12) = m ((c.tc : Thread Cert.Kernel3.nD Cert.Kernel3.τ).loc Cert.Kernel3.main_arg12)
      ∧ r.2.mem ((c.tc : Thread Cert.Kernel3.nD Cert.Kernel3.τ).loc Cert.Kernel3.main_arg13) = m ((c.tc : Thread Cert.Kernel3.nD Cert.Kernel3.τ).loc Cert.Kernel3.main_arg13)
      ∧ r.2.mem ((c.tc : Thread Cert.Kernel3.nD Cert.Kernel3.τ).loc Cert.Kernel3.main_arg14) = m ((c.tc : Thread Cert.Kernel3.nD Cert.Kernel3.τ).loc Cert.Kernel3.main_arg14)
      ∧ r.2.mem ((c.tc : Thread Cert.Kernel3.nD Cert.Kernel3.τ).loc Cert.Kernel3.main_arg15) = m ((c.tc : Thread Cert.Kernel3.nD Cert.Kernel3.τ).loc Cert.Kernel3.main_arg15)
      ∧ r.2.mem ((c.tc : Thread Cert.Kernel3.nD Cert.Kernel3.τ).loc Cert.Kernel3.main_arg16) = m ((c.tc : Thread Cert.Kernel3.nD Cert.Kernel3.τ).loc Cert.Kernel3.main_arg16))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
      ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
      ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13)
      ∧ r.2.mem ((c.tc : Thread Cert.Kernel3Ideal.nD Cert.Kernel3Ideal.τ).loc Cert.Kernel3Ideal.main_arg14) = m ((c.tc : Thread Cert.Kernel3Ideal.nD Cert.Kernel3Ideal.τ).loc Cert.Kernel3Ideal.main_arg14)
      ∧ r.2.mem ((c.tc : Thread Cert.Kernel3Ideal.nD Cert.Kernel3Ideal.τ).loc Cert.Kernel3Ideal.main_arg15) = m ((c.tc : Thread Cert.Kernel3Ideal.nD Cert.Kernel3Ideal.τ).loc Cert.Kernel3Ideal.main_arg15)
      ∧ r.2.mem ((c.tc : Thread Cert.Kernel3Ideal.nD Cert.Kernel3Ideal.τ).loc Cert.Kernel3Ideal.main_arg16) = m ((c.tc : Thread Cert.Kernel3Ideal.nD Cert.Kernel3Ideal.τ).loc Cert.Kernel3Ideal.main_arg16))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11)
      ∧ r.2.mem ((c.tc : Thread Cert.Reference3Ideal.nD Cert.Reference3Ideal.τ).loc Cert.Reference3Ideal.main_arg12) = m ((c.tc : Thread Cert.Reference3Ideal.nD Cert.Reference3Ideal.τ).loc Cert.Reference3Ideal.main_arg12)
      ∧ r.2.mem ((c.tc : Thread Cert.Reference3Ideal.nD Cert.Reference3Ideal.τ).loc Cert.Reference3Ideal.main_arg13) = m ((c.tc : Thread Cert.Reference3Ideal.nD Cert.Reference3Ideal.τ).loc Cert.Reference3Ideal.main_arg13)
      ∧ r.2.mem ((c.tc : Thread Cert.Reference3Ideal.nD Cert.Reference3Ideal.τ).loc Cert.Reference3Ideal.main_arg14) = m ((c.tc : Thread Cert.Reference3Ideal.nD Cert.Reference3Ideal.τ).loc Cert.Reference3Ideal.main_arg14)
      ∧ r.2.mem ((c.tc : Thread Cert.Reference3Ideal.nD Cert.Reference3Ideal.τ).loc Cert.Reference3Ideal.main_arg15) = m ((c.tc : Thread Cert.Reference3Ideal.nD Cert.Reference3Ideal.τ).loc Cert.Reference3Ideal.main_arg15)
      ∧ r.2.mem ((c.tc : Thread Cert.Reference3Ideal.nD Cert.Reference3Ideal.τ).loc Cert.Reference3Ideal.main_arg16) = m ((c.tc : Thread Cert.Reference3Ideal.nD Cert.Reference3Ideal.τ).loc Cert.Reference3Ideal.main_arg16))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8))
      ∧ r.2.sem = fun _ => 0)

def preserves_Kernel_KernelIdeal : Prop :=
  IdealRules.named_const.Statement Cert.KernelIdeal.κ "qscale" .f32 0x3E8293EE#32 (((Real.sqrt 32)⁻¹ * (Real.log 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def preserves_Kernel2_Kernel2Ideal : Prop :=
  IdealRules.named_const.Statement Cert.Kernel2Ideal.κ "scale64" .f32 0x3E38AA3B#32 (((Real.sqrt 64)⁻¹ * (Real.log 2)⁻¹ : ℝ) : EReal)
  ∧ IdealRules.named_const.Statement Cert.Kernel2Ideal.κ "scale32" .f32 0x3E8293EE#32 (((Real.sqrt 32)⁻¹ * (Real.log 2)⁻¹ : ℝ) : EReal)

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v78_0)) (v1 : (c : Dev Cert.Kernel2Ideal.nD) → Buf (Elt Ideal) ((c.tc : Thread Cert.Kernel2Ideal.nD Cert.Kernel2Ideal.τ).loc Cert.Kernel2Ideal.main_v78_1)) (v2 : (c : Dev Cert.Kernel2Ideal.nD) → Buf (Elt Ideal) ((c.tc : Thread Cert.Kernel2Ideal.nD Cert.Kernel2Ideal.τ).loc Cert.Kernel2Ideal.main_v78_2)) (v3 : (c : Dev Cert.Kernel2Ideal.nD) → Buf (Elt Ideal) ((c.tc : Thread Cert.Kernel2Ideal.nD Cert.Kernel2Ideal.τ).loc Cert.Kernel2Ideal.main_v78_3)) (v4 : (c : Dev Cert.Kernel2Ideal.nD) → Buf (Elt Ideal) ((c.tc : Thread Cert.Kernel2Ideal.nD Cert.Kernel2Ideal.τ).loc Cert.Kernel2Ideal.main_v78_4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v78_0) = v0 c
          ∧ r.2.mem ((c.tc : Thread Cert.Kernel2Ideal.nD Cert.Kernel2Ideal.τ).loc Cert.Kernel2Ideal.main_v78_1) = v1 c
          ∧ r.2.mem ((c.tc : Thread Cert.Kernel2Ideal.nD Cert.Kernel2Ideal.τ).loc Cert.Kernel2Ideal.main_v78_2) = v2 c
          ∧ r.2.mem ((c.tc : Thread Cert.Kernel2Ideal.nD Cert.Kernel2Ideal.τ).loc Cert.Kernel2Ideal.main_v78_3) = v3 c
          ∧ r.2.mem ((c.tc : Thread Cert.Kernel2Ideal.nD Cert.Kernel2Ideal.τ).loc Cert.Kernel2Ideal.main_v78_4) = v4 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v286) = v0 c
          ∧ r.2.mem ((c.tc : Thread Cert.Reference2Ideal.nD Cert.Reference2Ideal.τ).loc Cert.Reference2Ideal.main_v287) = v1 c
          ∧ r.2.mem ((c.tc : Thread Cert.Reference2Ideal.nD Cert.Reference2Ideal.τ).loc Cert.Reference2Ideal.main_v289) = v2 c
          ∧ r.2.mem ((c.tc : Thread Cert.Reference2Ideal.nD Cert.Reference2Ideal.τ).loc Cert.Reference2Ideal.main_v291) = v3 c
          ∧ r.2.mem ((c.tc : Thread Cert.Reference2Ideal.nD Cert.Reference2Ideal.τ).loc Cert.Reference2Ideal.main_v293) = v4 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  IdealRules.bf16_pair.Statement Cert.Kernel3Ideal.S1024x512 Cert.Kernel3Ideal.S512x512
  ∧ IdealRules.bf16_pack.Statement Cert.Kernel3Ideal.S512x512

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)
      ∧ m' ((c.tc : Thread Cert.Reference3Ideal.nD Cert.Reference3Ideal.τ).loc Cert.Reference3Ideal.main_arg12) = m ((c.tc : Thread Cert.Kernel3Ideal.nD Cert.Kernel3Ideal.τ).loc Cert.Kernel3Ideal.main_arg12)
      ∧ m' ((c.tc : Thread Cert.Reference3Ideal.nD Cert.Reference3Ideal.τ).loc Cert.Reference3Ideal.main_arg13) = m ((c.tc : Thread Cert.Kernel3Ideal.nD Cert.Kernel3Ideal.τ).loc Cert.Kernel3Ideal.main_arg13)
      ∧ m' ((c.tc : Thread Cert.Reference3Ideal.nD Cert.Reference3Ideal.τ).loc Cert.Reference3Ideal.main_arg14) = m ((c.tc : Thread Cert.Kernel3Ideal.nD Cert.Kernel3Ideal.τ).loc Cert.Kernel3Ideal.main_arg14)
      ∧ m' ((c.tc : Thread Cert.Reference3Ideal.nD Cert.Reference3Ideal.τ).loc Cert.Reference3Ideal.main_arg15) = m ((c.tc : Thread Cert.Kernel3Ideal.nD Cert.Kernel3Ideal.τ).loc Cert.Kernel3Ideal.main_arg15)
      ∧ m' ((c.tc : Thread Cert.Reference3Ideal.nD Cert.Reference3Ideal.τ).loc Cert.Reference3Ideal.main_arg16) = m ((c.tc : Thread Cert.Kernel3Ideal.nD Cert.Kernel3Ideal.τ).loc Cert.Kernel3Ideal.main_arg16)) →
    ∃ (v0 : (c : Dev Cert.Kernel3Ideal.nD) → Buf (Elt Ideal) ((c.tc : Thread Cert.Kernel3Ideal.nD Cert.Kernel3Ideal.τ).loc Cert.Kernel3Ideal.main_v7_0)) (v1 : (c : Dev Cert.Kernel3Ideal.nD) → Buf (Elt Ideal) ((c.tc : Thread Cert.Kernel3Ideal.nD Cert.Kernel3Ideal.τ).loc Cert.Kernel3Ideal.main_v7_1)) (v2 : (c : Dev Cert.Kernel3Ideal.nD) → Buf (Elt Ideal) ((c.tc : Thread Cert.Kernel3Ideal.nD Cert.Kernel3Ideal.τ).loc Cert.Kernel3Ideal.main_v7_3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v7_0) = v0 c
          ∧ r.2.mem ((c.tc : Thread Cert.Kernel3Ideal.nD Cert.Kernel3Ideal.τ).loc Cert.Kernel3Ideal.main_v7_1) = v1 c
          ∧ r.2.mem ((c.tc : Thread Cert.Kernel3Ideal.nD Cert.Kernel3Ideal.τ).loc Cert.Kernel3Ideal.main_v7_3) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
          ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
          ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13)
          ∧ r.2.mem ((c.tc : Thread Cert.Kernel3Ideal.nD Cert.Kernel3Ideal.τ).loc Cert.Kernel3Ideal.main_arg14) = m ((c.tc : Thread Cert.Kernel3Ideal.nD Cert.Kernel3Ideal.τ).loc Cert.Kernel3Ideal.main_arg14)
          ∧ r.2.mem ((c.tc : Thread Cert.Kernel3Ideal.nD Cert.Kernel3Ideal.τ).loc Cert.Kernel3Ideal.main_arg15) = m ((c.tc : Thread Cert.Kernel3Ideal.nD Cert.Kernel3Ideal.τ).loc Cert.Kernel3Ideal.main_arg15)
          ∧ r.2.mem ((c.tc : Thread Cert.Kernel3Ideal.nD Cert.Kernel3Ideal.τ).loc Cert.Kernel3Ideal.main_arg16) = m ((c.tc : Thread Cert.Kernel3Ideal.nD Cert.Kernel3Ideal.τ).loc Cert.Kernel3Ideal.main_arg16))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v88) = v0 c
          ∧ r.2.mem ((c.tc : Thread Cert.Reference3Ideal.nD Cert.Reference3Ideal.τ).loc Cert.Reference3Ideal.main_v89) = v1 c
          ∧ r.2.mem ((c.tc : Thread Cert.Reference3Ideal.nD Cert.Reference3Ideal.τ).loc Cert.Reference3Ideal.main_v91) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11)
          ∧ r.2.mem ((c.tc : Thread Cert.Reference3Ideal.nD Cert.Reference3Ideal.τ).loc Cert.Reference3Ideal.main_arg12) = m' ((c.tc : Thread Cert.Reference3Ideal.nD Cert.Reference3Ideal.τ).loc Cert.Reference3Ideal.main_arg12)
          ∧ r.2.mem ((c.tc : Thread Cert.Reference3Ideal.nD Cert.Reference3Ideal.τ).loc Cert.Reference3Ideal.main_arg13) = m' ((c.tc : Thread Cert.Reference3Ideal.nD Cert.Reference3Ideal.τ).loc Cert.Reference3Ideal.main_arg13)
          ∧ r.2.mem ((c.tc : Thread Cert.Reference3Ideal.nD Cert.Reference3Ideal.τ).loc Cert.Reference3Ideal.main_arg14) = m' ((c.tc : Thread Cert.Reference3Ideal.nD Cert.Reference3Ideal.τ).loc Cert.Reference3Ideal.main_arg14)
          ∧ r.2.mem ((c.tc : Thread Cert.Reference3Ideal.nD Cert.Reference3Ideal.τ).loc Cert.Reference3Ideal.main_arg15) = m' ((c.tc : Thread Cert.Reference3Ideal.nD Cert.Reference3Ideal.τ).loc Cert.Reference3Ideal.main_arg15)
          ∧ r.2.mem ((c.tc : Thread Cert.Reference3Ideal.nD Cert.Reference3Ideal.τ).loc Cert.Reference3Ideal.main_arg16) = m' ((c.tc : Thread Cert.Reference3Ideal.nD Cert.Reference3Ideal.τ).loc Cert.Reference3Ideal.main_arg16))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)) →
    ∃ (v0 : (c : Dev Cert.Kernel4Ideal.nD) → Buf (Elt Ideal) ((c.tc : Thread Cert.Kernel4Ideal.nD Cert.Kernel4Ideal.τ).loc Cert.Kernel4Ideal.main_v11)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v11) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v72) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Pre_finite.lean ====
abbrev S8x4096x256 : Shape := ⟨3, ![8, 4096, 256]⟩
abbrev S2048x768 : Shape := ⟨2, ![2048, 768]⟩
abbrev S32 : Shape := ⟨1, ![32]⟩
abbrev S64 : Shape := ⟨1, ![64]⟩
abbrev S2048x512 : Shape := ⟨2, ![2048, 512]⟩
abbrev S_ : Shape := ⟨0, ![]⟩

class Facts : Prop where
  bitsLt_bf16_f32 : FTy.bits .bf16 < FTy.bits .f32
  slices_S2048x768_S2048x512_0_256 : S2048x768.Slices ![0, 256] S2048x512
  bcast_S_S8x4096x256 : S_.BroadcastsInDim S8x4096x256 (![] : Fin 0 → Fin S8x4096x256.rank)
  reducesTo_S8x4096x256_S_d0_1_2 : S8x4096x256.ReducesTo [0, 1, 2] S_
  h_S_ : 0 < S_.numel
  bcast_S_S2048x512 : S_.BroadcastsInDim S2048x512 (![] : Fin 0 → Fin S2048x512.rank)
  reducesTo_S2048x512_S_d0_1 : S2048x512.ReducesTo [0, 1] S_
  bcast_S_S32 : S_.BroadcastsInDim S32 (![] : Fin 0 → Fin S32.rank)
  reducesTo_S32_S_d0 : S32.ReducesTo [0] S_

variable [Facts]

def fn_part2 {F : FTy → Type} [FloatOps F] (main_arg7 : FVec F S32 .f32) (main_v31 : IVec S_ 1) (main_v32 : FVec F S32 .f32) (main_v33 : FVec F S32 .f32) : IVec S_ 1 :=
  let main_v34 : IVec S32 1 := cmpf .olt main_v32 main_v33
  let main_c_12 : IVec S_ 1 := constantI S_ 1 1#1
  let main_v35 : IVec S_ 1 := (fun x v => Host.reduce IntOp.andi x v reducesTo_S32_S_d0 h_S_) main_v34 main_c_12
  let main_v36 : IVec S_ 1 := andi main_v31 main_v35
  let main_v37 : FVec F S32 .f32 := Host.absf main_arg7
  let main_cst_13 : FVec F S_ .f32 := constant S_ .f32 0x7F800000#32
  let main_v38 : FVec F S32 .f32 := broadcastInDim S32 ![] bcast_S_S32 main_cst_13
  let main_v39 : IVec S32 1 := cmpf .olt main_v37 main_v38
  let main_c_14 : IVec S_ 1 := constantI S_ 1 1#1
  let main_v40 : IVec S_ 1 := (fun x v => Host.reduce IntOp.andi x v reducesTo_S32_S_d0 h_S_) main_v39 main_c_14
  let main_v41 : IVec S_ 1 := andi main_v36 main_v40
  main_v41

def fn_part1 {F : FTy → Type} [FloatOps F] (main_arg4 : FVec F S32 .f32) (main_arg5 : FVec F S32 .f32) (main_arg6 : FVec F S32 .f32) (main_arg7 : FVec F S32 .f32) (main_v1 : FVec F S2048x512 .f32) (main_v16 : IVec S_ 1) : IVec S_ 1 :=
  let main_v17 : FVec F S2048x512 .f32 := Host.absf main_v1
  let main_cst_5 : FVec F S_ .f32 := constant S_ .f32 0x7F800000#32
  let main_v18 : FVec F S2048x512 .f32 := broadcastInDim S2048x512 ![] bcast_S_S2048x512 main_cst_5
  let main_v19 : IVec S2048x512 1 := cmpf .olt main_v17 main_v18
  let main_c_6 : IVec S_ 1 := constantI S_ 1 1#1
  let main_v20 : IVec S_ 1 := (fun x v => Host.reduce IntOp.andi x v reducesTo_S2048x512_S_d0_1 h_S_) main_v19 main_c_6
  let main_v21 : IVec S_ 1 := andi main_v16 main_v20
  let main_v22 : FVec F S32 .f32 := Host.absf main_arg4
  let main_cst_7 : FVec F S_ .f32 := constant S_ .f32 0x7F800000#32
  let main_v23 : FVec F S32 .f32 := broadcastInDim S32 ![] bcast_S_S32 main_cst_7
  let main_v24 : IVec S32 1 := cmpf .olt main_v22 main_v23
  let main_c_8 : IVec S_ 1 := constantI S_ 1 1#1
  let main_v25 : IVec S_ 1 := (fun x v => Host.reduce IntOp.andi x v reducesTo_S32_S_d0 h_S_) main_v24 main_c_8
  let main_v26 : IVec S_ 1 := andi main_v21 main_v25
  let main_v27 : FVec F S32 .f32 := Host.absf main_arg5
  let main_cst_9 : FVec F S_ .f32 := constant S_ .f32 0x7F800000#32
  let main_v28 : FVec F S32 .f32 := broadcastInDim S32 ![] bcast_S_S32 main_cst_9
  let main_v29 : IVec S32 1 := cmpf .olt main_v27 main_v28
  let main_c_10 : IVec S_ 1 := constantI S_ 1 1#1
  let main_v30 : IVec S_ 1 := (fun x v => Host.reduce IntOp.andi x v reducesTo_S32_S_d0 h_S_) main_v29 main_c_10
  let main_v31 : IVec S_ 1 := andi main_v26 main_v30
  let main_v32 : FVec F S32 .f32 := Host.absf main_arg6
  let main_cst_11 : FVec F S_ .f32 := constant S_ .f32 0x7F800000#32
  let main_v33 : FVec F S32 .f32 := broadcastInDim S32 ![] bcast_S_S32 main_cst_11
  fn_part2 (F := F) main_arg7 main_v31 main_v32 main_v33

def fn {F : FTy → Type} [FloatOps F] (main_arg0 : FVec F S8x4096x256 .f32) (main_arg1 : FVec F S8x4096x256 .f32) (main_arg2 : FVec F S8x4096x256 .f32) (main_arg3 : FVec F S2048x768 .bf16) (main_arg4 : FVec F S32 .f32) (main_arg5 : FVec F S32 .f32) (main_arg6 : FVec F S32 .f32) (main_arg7 : FVec F S32 .f32) (main_arg8 : FVec F S64 .f32) : IVec S_ 1 :=
  let main_v0 : FVec F S2048x768 .f32 := (extf .f32 · bitsLt_bf16_f32) main_arg3
  let main_v1 : FVec F S2048x512 .f32 := (extractStridedSlice S2048x512 ![0, 256] · slices_S2048x768_S2048x512_0_256) main_v0
  let main_v2 : FVec F S8x4096x256 .f32 := Host.absf main_arg0
  let main_cst : FVec F S_ .f32 := constant S_ .f32 0x7F800000#32
  let main_v3 : FVec F S8x4096x256 .f32 := broadcastInDim S8x4096x256 ![] bcast_S_S8x4096x256 main_cst
  let main_v4 : IVec S8x4096x256 1 := cmpf .olt main_v2 main_v3
  let main_c : IVec S_ 1 := constantI S_ 1 1#1
  let main_v5 : IVec S_ 1 := (fun x v => Host.reduce IntOp.andi x v reducesTo_S8x4096x256_S_d0_1_2 h_S_) main_v4 main_c
  let main_c_0 : IVec S_ 1 := constantI S_ 1 1#1
  let main_v6 : IVec S_ 1 := andi main_c_0 main_v5
  let main_v7 : FVec F S8x4096x256 .f32 := Host.absf main_arg1
  let main_cst_1 : FVec F S_ .f32 := constant S_ .f32 0x7F800000#32
  let main_v8 : FVec F S8x4096x256 .f32 := broadcastInDim S8x4096x256 ![] bcast_S_S8x4096x256 main_cst_1
  let main_v9 : IVec S8x4096x256 1 := cmpf .olt main_v7 main_v8
  let main_c_2 : IVec S_ 1 := constantI S_ 1 1#1
  let main_v10 : IVec S_ 1 := (fun x v => Host.reduce IntOp.andi x v reducesTo_S8x4096x256_S_d0_1_2 h_S_) main_v9 main_c_2
  let main_v11 : IVec S_ 1 := andi main_v6 main_v10
  let main_v12 : FVec F S8x4096x256 .f32 := Host.absf main_arg2
  let main_cst_3 : FVec F S_ .f32 := constant S_ .f32 0x7F800000#32
  let main_v13 : FVec F S8x4096x256 .f32 := broadcastInDim S8x4096x256 ![] bcast_S_S8x4096x256 main_cst_3
  let main_v14 : IVec S8x4096x256 1 := cmpf .olt main_v12 main_v13
  let main_c_4 : IVec S_ 1 := constantI S_ 1 1#1
  let main_v15 : IVec S_ 1 := (fun x v => Host.reduce IntOp.andi x v reducesTo_S8x4096x256_S_d0_1_2 h_S_) main_v14 main_c_4
  let main_v16 : IVec S_ 1 := andi main_v11 main_v15
  fn_part1 (F := F) main_arg4 main_arg5 main_arg6 main_arg7 main_v1 main_v16
-- ==== Kernel.lean ====
abbrev S8x4096x256 : Shape := ⟨3, ![8, 4096, 256]⟩
abbrev S2048x768 : Shape := ⟨2, ![2048, 768]⟩
abbrev S32 : Shape := ⟨1, ![32]⟩
abbrev S64 : Shape := ⟨1, ![64]⟩
abbrev S8x256x4096 : Shape := ⟨3, ![8, 256, 4096]⟩
abbrev S8x16x256x256 : Shape := ⟨4, ![8, 16, 256, 256]⟩
abbrev S8x4096x4x64 : Shape := ⟨4, ![8, 4096, 4, 64]⟩
abbrev S_ : Shape := ⟨0, ![]⟩
abbrev S8x4096x4x16 : Shape := ⟨4, ![8, 4096, 4, 16]⟩
abbrev S1 : Shape := ⟨1, ![1]⟩
abbrev S8x4096x4 : Shape := ⟨3, ![8, 4096, 4]⟩
abbrev S8x4096x4x80 : Shape := ⟨4, ![8, 4096, 4, 80]⟩
abbrev S8x4096x320 : Shape := ⟨3, ![8, 4096, 320]⟩
abbrev S8x320x4096 : Shape := ⟨3, ![8, 320, 4096]⟩
abbrev S8x320x16x256 : Shape := ⟨4, ![8, 320, 16, 256]⟩
abbrev S8x16x320x256 : Shape := ⟨4, ![8, 16, 320, 256]⟩
abbrev S1x32 : Shape := ⟨2, ![1, 32]⟩
abbrev S8x256x768 : Shape := ⟨3, ![8, 256, 768]⟩
abbrev S8x256x256 : Shape := ⟨3, ![8, 256, 256]⟩
abbrev S8x256x4x64 : Shape := ⟨4, ![8, 256, 4, 64]⟩
abbrev S8x256x4x16 : Shape := ⟨4, ![8, 256, 4, 16]⟩
abbrev S8x256x4 : Shape := ⟨3, ![8, 256, 4]⟩
abbrev S8x256x4x80 : Shape := ⟨4, ![8, 256, 4, 80]⟩
abbrev S8x256x320 : Shape := ⟨3, ![8, 256, 320]⟩
abbrev S8x320x256 : Shape := ⟨3, ![8, 320, 256]⟩
abbrev S64x1 : Shape := ⟨2, ![64, 1]⟩
abbrev S32768x256 : Shape := ⟨2, ![32768, 256]⟩
abbrev S1x256x512 : Shape := ⟨3, ![1, 256, 512]⟩
abbrev S1x16x256x256 : Shape := ⟨4, ![1, 16, 256, 256]⟩
abbrev S1x16x320x256 : Shape := ⟨4, ![1, 16, 320, 256]⟩
abbrev S1x256x256 : Shape := ⟨3, ![1, 256, 256]⟩
abbrev S1x320x256 : Shape := ⟨3, ![1, 320, 256]⟩
abbrev S512x256 : Shape := ⟨2, ![512, 256]⟩
abbrev S256x4096 : Shape := ⟨2, ![256, 4096]⟩
abbrev S4x80x1024 : Shape := ⟨3, ![4, 80, 1024]⟩
abbrev S2x4x256x1024 : Shape := ⟨4, ![2, 4, 256, 1024]⟩
abbrev S1x1 : Shape := ⟨2, ![1, 1]⟩
abbrev S256x512 : Shape := ⟨2, ![256, 512]⟩
abbrev S1x1024 : Shape := ⟨2, ![1, 1024]⟩
abbrev S1x1x256x256 : Shape := ⟨4, ![1, 1, 256, 256]⟩
abbrev S256x256 : Shape := ⟨2, ![256, 256]⟩
abbrev S256x1024 : Shape := ⟨2, ![256, 1024]⟩
abbrev S1x1x256x1024 : Shape := ⟨4, ![1, 1, 256, 1024]⟩
abbrev S1024 : Shape := ⟨1, ![1024]⟩
abbrev S1x1x80x256 : Shape := ⟨4, ![1, 1, 80, 256]⟩
abbrev S80x256 : Shape := ⟨2, ![80, 256]⟩
abbrev S1x80x1024 : Shape := ⟨3, ![1, 80, 1024]⟩
abbrev S80x1024 : Shape := ⟨2, ![80, 1024]⟩
abbrev S1x80x256 : Shape := ⟨3, ![1, 80, 256]⟩
abbrev S1x64x1024 : Shape := ⟨3, ![1, 64, 1024]⟩
abbrev S64x1024 : Shape := ⟨2, ![64, 1024]⟩
abbrev S1x1x1024 : Shape := ⟨3, ![1, 1, 1024]⟩
abbrev S64x512 : Shape := ⟨2, ![64, 512]⟩
abbrev S512 : Shape := ⟨1, ![512]⟩
abbrev S1x512 : Shape := ⟨2, ![1, 512]⟩

abbrev nBuf : Space → Nat
  | .hbm => 45
  | .vmem => 20
  | .smem => 0
  | _ => 0

abbrev bufTy : (tb : Table) → Fin (tcTables nBuf tb) → BufTy
  | .hbm, ⟨0, _⟩ => ⟨S8x4096x256, .f32⟩
  | .hbm, ⟨1, _⟩ => ⟨S8x4096x256, .f32⟩
  | .hbm, ⟨2, _⟩ => ⟨S8x4096x256, .f32⟩
  | .hbm, ⟨3, _⟩ => ⟨S2048x768, .bf16⟩
  | .hbm, ⟨4, _⟩ => ⟨S32, .f32⟩
  | .hbm, ⟨5, _⟩ => ⟨S32, .f32⟩
  | .hbm, ⟨6, _⟩ => ⟨S32, .f32⟩
  | .hbm, ⟨7, _⟩ => ⟨S32, .f32⟩
  | .hbm, ⟨8, _⟩ => ⟨S64, .f32⟩
  | .hbm, ⟨9, _⟩ => ⟨S8x256x4096, .f32⟩
  | .hbm, ⟨10, _⟩ => ⟨S8x16x256x256, .f32⟩
  | .hbm, ⟨11, _⟩ => ⟨S8x16x256x256, .bf16⟩
  | .hbm, ⟨12, _⟩ => ⟨S8x4096x256, .bf16⟩
  | .hbm, ⟨13, _⟩ => ⟨S8x4096x4x64, .bf16⟩
  | .hbm, ⟨14, _⟩ => ⟨S_, .bf16⟩
  | .hbm, ⟨15, _⟩ => ⟨S8x4096x4x16, .bf16⟩
  | .hbm, ⟨16, _⟩ => ⟨S_, .i32⟩
  | .hbm, ⟨17, _⟩ => ⟨S1, .i32⟩
  | .hbm, ⟨18, _⟩ => ⟨S_, .bf16⟩
  | .hbm, ⟨19, _⟩ => ⟨S8x4096x4, .bf16⟩
  | .hbm, ⟨20, _⟩ => ⟨S8x4096x4x16, .bf16⟩
  | .hbm, ⟨21, _⟩ => ⟨S8x4096x4x80, .bf16⟩
  | .hbm, ⟨22, _⟩ => ⟨S8x4096x320, .bf16⟩
  | .hbm, ⟨23, _⟩ => ⟨S8x320x4096, .bf16⟩
  | .hbm, ⟨24, _⟩ => ⟨S8x320x16x256, .bf16⟩
  | .hbm, ⟨25, _⟩ => ⟨S8x16x320x256, .bf16⟩
  | .hbm, ⟨26, _⟩ => ⟨S1x32, .f32⟩
  | .hbm, ⟨27, _⟩ => ⟨S1x32, .f32⟩
  | .hbm, ⟨28, _⟩ => ⟨S1x32, .f32⟩
  | .hbm, ⟨29, _⟩ => ⟨S1x32, .f32⟩
  | .hbm, ⟨30, _⟩ => ⟨S8x256x768, .bf16⟩
  | .hbm, ⟨31, _⟩ => ⟨S8x256x256, .bf16⟩
  | .hbm, ⟨32, _⟩ => ⟨S8x256x4x64, .bf16⟩
  | .hbm, ⟨33, _⟩ => ⟨S_, .bf16⟩
  | .hbm, ⟨34, _⟩ => ⟨S8x256x4x16, .bf16⟩
  | .hbm, ⟨35, _⟩ => ⟨S_, .i32⟩
  | .hbm, ⟨36, _⟩ => ⟨S1, .i32⟩
  | .hbm, ⟨37, _⟩ => ⟨S_, .bf16⟩
  | .hbm, ⟨38, _⟩ => ⟨S8x256x4, .bf16⟩
  | .hbm, ⟨39, _⟩ => ⟨S8x256x4x16, .bf16⟩
  | .hbm, ⟨40, _⟩ => ⟨S8x256x4x80, .bf16⟩
  | .hbm, ⟨41, _⟩ => ⟨S8x256x320, .bf16⟩
  | .hbm, ⟨42, _⟩ => ⟨S8x320x256, .bf16⟩
  | .hbm, ⟨43, _⟩ => ⟨S64x1, .f32⟩
  | .hbm, ⟨44, _⟩ => ⟨S32768x256, .bf16⟩
  | .local _ .vmem, ⟨0, _⟩ => ⟨S1x256x512, .f32⟩
  | .local _ .vmem, ⟨1, _⟩ => ⟨S1x256x512, .f32⟩
  | .local _ .vmem, ⟨2, _⟩ => ⟨S1x16x256x256, .bf16⟩
  | .local _ .vmem, ⟨3, _⟩ => ⟨S1x16x256x256, .bf16⟩
  | .local _ .vmem, ⟨4, _⟩ => ⟨S1x16x320x256, .bf16⟩
  | .local _ .vmem, ⟨5, _⟩ => ⟨S1x16x320x256, .bf16⟩
  | .local _ .vmem, ⟨6, _⟩ => ⟨S1x256x256, .bf16⟩
  | .local _ .vmem, ⟨7, _⟩ => ⟨S1x256x256, .bf16⟩
  | .local _ .vmem, ⟨8, _⟩ => ⟨S1x320x256, .bf16⟩
  | .local _ .vmem, ⟨9, _⟩ => ⟨S1x320x256, .bf16⟩
  | .local _ .vmem, ⟨10, _⟩ => ⟨S1x32, .f32⟩
  | .local _ .vmem, ⟨11, _⟩ => ⟨S1x32, .f32⟩
  | .local _ .vmem, ⟨12, _⟩ => ⟨S1x32, .f32⟩
  | .local _ .vmem, ⟨13, _⟩ => ⟨S1x32, .f32⟩
  | .local _ .vmem, ⟨14, _⟩ => ⟨S64x1, .f32⟩
  | .local _ .vmem, ⟨15, _⟩ => ⟨S512x256, .bf16⟩
  | .local _ .vmem, ⟨16, _⟩ => ⟨S512x256, .bf16⟩
  | .local _ .vmem, ⟨17, _⟩ => ⟨S256x4096, .bf16⟩
  | .local _ .vmem, ⟨18, _⟩ => ⟨S4x80x1024, .f32⟩
  | .local _ .vmem, ⟨19, _⟩ => ⟨S2x4x256x1024, .f32⟩
  | _, _ => ⟨S8x4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst : Ref sig .tc := ⟨.hbm, 14, rfl⟩
abbrev main_v5 : Ref sig .tc := ⟨.hbm, 15, rfl⟩
abbrev main_c : Ref sig .tc := ⟨.hbm, 16, rfl⟩
abbrev main_v6 : Ref sig .tc := ⟨.hbm, 17, rfl⟩
abbrev main_cst_0 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_1 : Ref sig .tc := ⟨.hbm, 33, rfl⟩
abbrev main_v21 : Ref sig .tc := ⟨.hbm, 34, rfl⟩
abbrev main_c_2 : Ref sig .tc := ⟨.hbm, 35, rfl⟩
abbrev main_v22 : Ref sig .tc := ⟨.hbm, 36, rfl⟩
abbrev main_cst_3 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨2, ![8, 8], ![false, false]⟩

@[reducible] def k0_t1_loop : Scf.Loop 32 :=
  let c0_i32_82 : BitVec 32 := 0#32
  let c7_i32_83 : BitVec 32 := 7#32
  let v142 : BitVec 32 := Scalar.addi c0_i32_82 c7_i32_83
  let c1_i32_84 : BitVec 32 := 1#32
  ⟨c0_i32_82, v142, c1_i32_84⟩
def k0_off1 (k0_t1 : Fin k0_t1_loop.trips) : Fin 4 → Nat :=
  let c0_401 : Index := 0#32
  let c2_i32_398 : BitVec 32 := 2#32
  let c0_i32_82 : BitVec 32 := 0#32
  let c1_i32_84 : BitVec 32 := 1#32
  let arg16 : BitVec 32 := Scf.iv c0_i32_82 c1_i32_84 k0_t1
  let v568 : BitVec 32 := Scalar.muli c2_i32_398 arg16
  let c1_i32_400 : BitVec 32 := 1#32
  let v570 : BitVec 32 := Scalar.addi v568 c1_i32_400
  let v571 : Index := Scalar.indexCast v570
  let c0_402 : Index := 0#32
  let c0_403 : Index := 0#32
  ![0, v571.toNat, 0, 0]
def k0_off2 (k0_t1 : Fin k0_t1_loop.trips) : Fin 4 → Nat :=
  let c0_416 : Index := 0#32
  let c2_i32_398 : BitVec 32 := 2#32
  let c0_i32_82 : BitVec 32 := 0#32
  let c1_i32_84 : BitVec 32 := 1#32
  let arg16 : BitVec 32 := Scf.iv c0_i32_82 c1_i32_84 k0_t1
  let v568 : BitVec 32 := Scalar.muli c2_i32_398 arg16
  let v590 : Index := Scalar.indexCast v568
  let c0_417 : Index := 0#32
  let c0_418 : Index := 0#32
  ![0, v590.toNat, 0, 0]
def k0_off3 (k0_t1 : Fin k0_t1_loop.trips) : Fin 4 → Nat :=
  let c0_442 : Index := 0#32
  let c2_i32_398 : BitVec 32 := 2#32
  let c0_i32_82 : BitVec 32 := 0#32
  let c1_i32_84 : BitVec 32 := 1#32
  let arg16 : BitVec 32 := Scf.iv c0_i32_82 c1_i32_84 k0_t1
  let v568 : BitVec 32 := Scalar.muli c2_i32_398 arg16
  let v622 : Index := Scalar.indexCast v568
  let c80_443 : Index := 80#32
  let c0_444 : Index := 0#32
  ![0, v622.toNat, 80, 0]
def k0_off4 (k0_t1 : Fin k0_t1_loop.trips) : Fin 4 → Nat :=
  let c0_468 : Index := 0#32
  let c2_i32_398 : BitVec 32 := 2#32
  let c0_i32_82 : BitVec 32 := 0#32
  let c1_i32_84 : BitVec 32 := 1#32
  let arg16 : BitVec 32 := Scf.iv c0_i32_82 c1_i32_84 k0_t1
  let v568 : BitVec 32 := Scalar.muli c2_i32_398 arg16
  let v654 : Index := Scalar.indexCast v568
  let c160_469 : Index := 160#32
  let c0_470 : Index := 0#32
  ![0, v654.toNat, 160, 0]
def k0_off5 (k0_t1 : Fin k0_t1_loop.trips) : Fin 4 → Nat :=
  let c0_494 : Index := 0#32
  let c2_i32_398 : BitVec 32 := 2#32
  let c0_i32_82 : BitVec 32 := 0#32
  let c1_i32_84 : BitVec 32 := 1#32
  let arg16 : BitVec 32 := Scf.iv c0_i32_82 c1_i32_84 k0_t1
  let v568 : BitVec 32 := Scalar.muli c2_i32_398 arg16
  let v686 : Index := Scalar.indexCast v568
  let c240_495 : Index := 240#32
  let c0_496 : Index := 0#32
  ![0, v686.toNat, 240, 0]
def k0_off6 (k0_t1 : Fin k0_t1_loop.trips) : Fin 4 → Nat :=
  let c0_505 : Index := 0#32
  let c2_i32_398 : BitVec 32 := 2#32
  let c0_i32_82 : BitVec 32 := 0#32
  let c1_i32_84 : BitVec 32 := 1#32
  let arg16 : BitVec 32 := Scf.iv c0_i32_82 c1_i32_84 k0_t1
  let v568 : BitVec 32 := Scalar.muli c2_i32_398 arg16
  let c1_i32_399 : BitVec 32 := 1#32
  let v569 : BitVec 32 := Scalar.addi v568 c1_i32_399
  let c1_i32_504 : BitVec 32 := 1#32
  let v698 : BitVec 32 := Scalar.addi v569 c1_i32_504
  let v699 : Index := Scalar.indexCast v698
  let c0_506 : Index := 0#32
  let c0_507 : Index := 0#32
  ![0, v699.toNat, 0, 0]
def k0_off7 (k0_t1 : Fin k0_t1_loop.trips) : Fin 4 → Nat :=
  let c0_520 : Index := 0#32
  let c2_i32_398 : BitVec 32 := 2#32
  let c0_i32_82 : BitVec 32 := 0#32
  let c1_i32_84 : BitVec 32 := 1#32
  let arg16 : BitVec 32 := Scf.iv c0_i32_82 c1_i32_84 k0_t1
  let v568 : BitVec 32 := Scalar.muli c2_i32_398 arg16
  let c1_i32_399 : BitVec 32 := 1#32
  let v569 : BitVec 32 := Scalar.addi v568 c1_i32_399
  let v718 : Index := Scalar.indexCast v569
  let c0_521 : Index := 0#32
  let c0_522 : Index := 0#32
  ![0, v718.toNat, 0, 0]
def k0_off8 (k0_t1 : Fin k0_t1_loop.trips) : Fin 4 → Nat :=
  let c0_546 : Index := 0#32
  let c2_i32_398 : BitVec 32 := 2#32
  let c0_i32_82 : BitVec 32 := 0#32
  let c1_i32_84 : BitVec 32 := 1#32
  let arg16 : BitVec 32 := Scf.iv c0_i32_82 c1_i32_84 k0_t1
  let v568 : BitVec 32 := Scalar.muli c2_i32_398 arg16
  let c1_i32_399 : BitVec 32 := 1#32
  let v569 : BitVec 32 := Scalar.addi v568 c1_i32_399
  let v750 : Index := Scalar.indexCast v569
  let c80_547 : Index := 80#32
  let c0_548 : Index := 0#32
  ![0, v750.toNat, 80, 0]
def k0_off9 (k0_t1 : Fin k0_t1_loop.trips) : Fin 4 → Nat :=
  let c0_572 : Index := 0#32
  let c2_i32_398 : BitVec 32 := 2#32
  let c0_i32_82 : BitVec 32 := 0#32
  let c1_i32_84 : BitVec 32 := 1#32
  let arg16 : BitVec 32 := Scf.iv c0_i32_82 c1_i32_84 k0_t1
  let v568 : BitVec 32 := Scalar.muli c2_i32_398 arg16
  let c1_i32_399 : BitVec 32 := 1#32
  let v569 : BitVec 32 := Scalar.addi v568 c1_i32_399
  let v782 : Index := Scalar.indexCast v569
  let c160_573 : Index := 160#32
  let c0_574 : Index := 0#32
  ![0, v782.toNat, 160, 0]
def k0_off10 (k0_t1 : Fin k0_t1_loop.trips) : Fin 4 → Nat :=
  let c0_598 : Index := 0#32
  let c2_i32_398 : BitVec 32 := 2#32
  let c0_i32_82 : BitVec 32 := 0#32
  let c1_i32_84 : BitVec 32 := 1#32
  let arg16 : BitVec 32 := Scf.iv c0_i32_82 c1_i32_84 k0_t1
  let v568 : BitVec 32 := Scalar.muli c2_i32_398 arg16
  let c1_i32_399 : BitVec 32 := 1#32
  let v569 : BitVec 32 := Scalar.addi v568 c1_i32_399
  let v814 : Index := Scalar.indexCast v569
  let c240_599 : Index := 240#32
  let c0_600 : Index := 0#32
  ![0, v814.toNat, 240, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  ![arg0.toNat, c0_i32.toNat, c1_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1x256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16x256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x16x320x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x320x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x32 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x32 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S64x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S512x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== KernelIdeal.lean ====
variable {F : FTy → Type} [FloatOps F] [Named F]
def κ : String → Option EReal := fun
  | "qscale" => some (((Real.sqrt 32)⁻¹ * (Real.log 2)⁻¹ : ℝ) : EReal)
  | _ => none
-- ==== ReferenceIdeal.lean ====
abbrev S8x4096x256 : Shape := ⟨3, ![8, 4096, 256]⟩
abbrev S2048x768 : Shape := ⟨2, ![2048, 768]⟩
abbrev S32 : Shape := ⟨1, ![32]⟩
abbrev S64 : Shape := ⟨1, ![64]⟩
abbrev S8x4096x4x2x32 : Shape := ⟨5, ![8, 4096, 4, 2, 32]⟩
abbrev S8x4096x4x64 : Shape := ⟨4, ![8, 4096, 4, 64]⟩
abbrev S8x256x768 : Shape := ⟨3, ![8, 256, 768]⟩
abbrev S8x256x256 : Shape := ⟨3, ![8, 256, 256]⟩
abbrev S8x256x4x2x32 : Shape := ⟨5, ![8, 256, 4, 2, 32]⟩
abbrev S8x256x4x64 : Shape := ⟨4, ![8, 256, 4, 64]⟩
abbrev S_ : Shape := ⟨0, ![]⟩
abbrev S8x4x2x4096x4096 : Shape := ⟨5, ![8, 4, 2, 4096, 4096]⟩
abbrev S8x4x2x4096x256 : Shape := ⟨5, ![8, 4, 2, 4096, 256]⟩
abbrev S8x4x2x4096x4352 : Shape := ⟨5, ![8, 4, 2, 4096, 4352]⟩
abbrev S8x4x2x4096 : Shape := ⟨4, ![8, 4, 2, 4096]⟩
abbrev S8x4x2x4096x1 : Shape := ⟨5, ![8, 4, 2, 4096, 1]⟩
abbrev S8x4x1x4096x4352 : Shape := ⟨5, ![8, 4, 1, 4096, 4352]⟩
abbrev S8x4x4096x4352 : Shape := ⟨4, ![8, 4, 4096, 4352]⟩
abbrev S8x4x4096x4096 : Shape := ⟨4, ![8, 4, 4096, 4096]⟩
abbrev S8x4x64x4096 : Shape := ⟨4, ![8, 4, 64, 4096]⟩
abbrev S8x4x4096x256 : Shape := ⟨4, ![8, 4, 4096, 256]⟩
abbrev S8x4096x4 : Shape := ⟨3, ![8, 4096, 4]⟩
abbrev S8x4096x4x1 : Shape := ⟨4, ![8, 4096, 4, 1]⟩
abbrev S1x1x1x64 : Shape := ⟨4, ![1, 1, 1, 64]⟩
abbrev S32768x256 : Shape := ⟨2, ![32768, 256]⟩

abbrev nBuf : Space → Nat
  | .hbm => 85
  | .vmem => 0
  | .smem => 0
  | _ => 0

abbrev bufTy : (tb : Table) → Fin (tcTables nBuf tb) → BufTy
  | .hbm, ⟨0, _⟩ => ⟨S8x4096x256, .f32⟩
  | .hbm, ⟨1, _⟩ => ⟨S8x4096x256, .f32⟩
  | .hbm, ⟨2, _⟩ => ⟨S8x4096x256, .f32⟩
  | .hbm, ⟨3, _⟩ => ⟨S2048x768, .bf16⟩
  | .hbm, ⟨4, _⟩ => ⟨S32, .f32⟩
  | .hbm, ⟨5, _⟩ => ⟨S32, .f32⟩
  | .hbm, ⟨6, _⟩ => ⟨S32, .f32⟩
  | .hbm, ⟨7, _⟩ => ⟨S32, .f32⟩
  | .hbm, ⟨8, _⟩ => ⟨S64, .f32⟩
  | .hbm, ⟨9, _⟩ => ⟨S8x4096x4x2x32, .f32⟩
  | .hbm, ⟨10, _⟩ => ⟨S8x4096x4x2x32, .f32⟩
  | .hbm, ⟨11, _⟩ => ⟨S8x4096x4x64, .f32⟩
  | .hbm, ⟨12, _⟩ => ⟨S2048x768, .f32⟩
  | .hbm, ⟨13, _⟩ => ⟨S8x256x768, .f32⟩
  | .hbm, ⟨14, _⟩ => ⟨S8x256x256, .f32⟩
  | .hbm, ⟨15, _⟩ => ⟨S8x256x4x2x32, .f32⟩
  | .hbm, ⟨16, _⟩ => ⟨S8x256x256, .f32⟩
  | .hbm, ⟨17, _⟩ => ⟨S8x256x4x64, .f32⟩
  | .hbm, ⟨18, _⟩ => ⟨S32, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S32, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S8x4x2x4096x4096, .f32⟩
  | .hbm, ⟨30, _⟩ => ⟨S8x4x2x4096x256, .f32⟩
  | .hbm, ⟨31, _⟩ => ⟨S8x4x2x4096x4352, .f32⟩
  | .hbm, ⟨32, _⟩ => ⟨S_, .f32⟩
  | .hbm, ⟨33, _⟩ => ⟨S_, .f32⟩
  | .hbm, ⟨34, _⟩ => ⟨S8x4x2x4096x4352, .f32⟩
  | .hbm, ⟨35, _⟩ => ⟨S8x4x2x4096x4352, .f32⟩
  | .hbm, ⟨36, _⟩ => ⟨S_, .f32⟩
  | .hbm, ⟨37, _⟩ => ⟨S8x4x2x4096, .f32⟩
  | .hbm, ⟨38, _⟩ => ⟨S_, .f32⟩
  | .hbm, ⟨39, _⟩ => ⟨S8x4x2x4096, .f32⟩
  | .hbm, ⟨40, _⟩ => ⟨S8x4x2x4096, .f32⟩
  | .hbm, ⟨41, _⟩ => ⟨S8x4x2x4096x1, .f32⟩
  | .hbm, ⟨42, _⟩ => ⟨S8x4x2x4096x4352, .f32⟩
  | .hbm, ⟨43, _⟩ => ⟨S8x4x2x4096x4352, .f32⟩
  | .hbm, ⟨44, _⟩ => ⟨S8x4x2x4096x4352, .f32⟩
  | .hbm, ⟨45, _⟩ => ⟨S_, .f32⟩
  | .hbm, ⟨46, _⟩ => ⟨S8x4x2x4096, .f32⟩
  | .hbm, ⟨47, _⟩ => ⟨S8x4x2x4096x1, .f32⟩
  | .hbm, ⟨48, _⟩ => ⟨S8x4x2x4096x4352, .f32⟩
  | .hbm, ⟨49, _⟩ => ⟨S8x4x2x4096x4352, .f32⟩
  | .hbm, ⟨50, _⟩ => ⟨S8x4x1x4096x4352, .f32⟩
  | .hbm, ⟨51, _⟩ => ⟨S8x4x4096x4352, .f32⟩
  | .hbm, ⟨52, _⟩ => ⟨S8x4x1x4096x4352, .f32⟩
  | .hbm, ⟨53, _⟩ => ⟨S8x4x4096x4352, .f32⟩
  | .hbm, ⟨54, _⟩ => ⟨S8x4x4096x4352, .f32⟩
  | .hbm, ⟨55, _⟩ => ⟨S8x4x4096x4352, .f32⟩
  | .hbm, ⟨56, _⟩ => ⟨S8x4x4096x4352, .f32⟩
  | .hbm, ⟨57, _⟩ => ⟨S8x4x4096x4096, .f32⟩
  | .hbm, ⟨58, _⟩ => ⟨S8x4x64x4096, .f32⟩
  | .hbm, ⟨59, _⟩ => ⟨S8x4096x4x64, .f32⟩
  | .hbm, ⟨60, _⟩ => ⟨S8x4x4096x256, .f32⟩
  | .hbm, ⟨61, _⟩ => ⟨S8x4x64x4096, .f32⟩
  | .hbm, ⟨62, _⟩ => ⟨S8x4096x4x64, .f32⟩
  | .hbm, ⟨63, _⟩ => ⟨S8x4096x4x64, .f32⟩
  | .hbm, ⟨64, _⟩ => ⟨S8x4096x4x64, .f32⟩
  | .hbm, ⟨65, _⟩ => ⟨S_, .f32⟩
  | .hbm, ⟨66, _⟩ => ⟨S8x4096x4, .f32⟩
  | .hbm, ⟨67, _⟩ => ⟨S8x4096x4x1, .f32⟩
  | .hbm, ⟨68, _⟩ => ⟨S_, .f32⟩
  | .hbm, ⟨69, _⟩ => ⟨S8x4096x4x1, .f32⟩
  | .hbm, ⟨70, _⟩ => ⟨S8x4096x4x1, .f32⟩
  | .hbm, ⟨71, _⟩ => ⟨S_, .f32⟩
  | .hbm, ⟨72, _⟩ => ⟨S8x4096x4x1, .f32⟩
  | .hbm, ⟨73, _⟩ => ⟨S8x4096x4x1, .f32⟩
  | .hbm, ⟨74, _⟩ => ⟨S8x4096x4x1, .f32⟩
  | .hbm, ⟨75, _⟩ => ⟨S8x4096x4x64, .f32⟩
  | .hbm, ⟨76, _⟩ => ⟨S8x4096x4x64, .f32⟩
  | .hbm, ⟨77, _⟩ => ⟨S1x1x1x64, .f32⟩
  | .hbm, ⟨78, _⟩ => ⟨S8x4096x4x64, .f32⟩
  | .hbm, ⟨79, _⟩ => ⟨S8x4096x4x64, .f32⟩
  | .hbm, ⟨80, _⟩ => ⟨S_, .f32⟩
  | .hbm, ⟨81, _⟩ => ⟨S8x4096x4x64, .f32⟩
  | .hbm, ⟨82, _⟩ => ⟨S8x4096x4x64, .f32⟩
  | .hbm, ⟨83, _⟩ => ⟨S32768x256, .f32⟩
  | .hbm, ⟨84, _⟩ => ⟨S32768x256, .bf16⟩
  | _, _ => ⟨S8x4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_0 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_1 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_2 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_3 : Ref sig .tc := ⟨.hbm, 36, rfl⟩
abbrev main_v23 : Ref sig .tc := ⟨.hbm, 37, rfl⟩
abbrev main_cst_4 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_5 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_cst_6 : Ref sig .tc := ⟨.hbm, 65, rfl⟩
abbrev main_v49 : Ref sig .tc := ⟨.hbm, 66, rfl⟩
abbrev main_v50 : Ref sig .tc := ⟨.hbm, 67, rfl⟩
abbrev main_cst_7 : Ref sig .tc := ⟨.hbm, 68, rfl⟩
abbrev main_v51 : Ref sig .tc := ⟨.hbm, 69, rfl⟩
abbrev main_v52 : Ref sig .tc := ⟨.hbm, 70, rfl⟩
abbrev main_cst_8 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_cst_9 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩

abbrev nD : Nat := 1
abbrev τ : Topo := Topo.v7x

variable {F : FTy → Type} [FloatOps F]
-- ==== Kernel2.lean ====
abbrev S32768x1024 : Shape := ⟨2, ![32768, 1024]⟩
abbrev S1024 : Shape := ⟨1, ![1024]⟩
abbrev S8x1x1024 : Shape := ⟨3, ![8, 1, 1024]⟩
abbrev S1024x6400 : Shape := ⟨2, ![1024, 6400]⟩
abbrev S128 : Shape := ⟨1, ![128]⟩
abbrev S1x128 : Shape := ⟨2, ![1, 128]⟩
abbrev S1024x4096 : Shape := ⟨2, ![1024, 4096]⟩
abbrev S1024x2304 : Shape := ⟨2, ![1024, 2304]⟩
abbrev S4096 : Shape := ⟨1, ![4096]⟩
abbrev S_ : Shape := ⟨0, ![]⟩
abbrev S16 : Shape := ⟨1, ![16]⟩
abbrev S4096x1 : Shape := ⟨2, ![4096, 1]⟩
abbrev S1x16 : Shape := ⟨2, ![1, 16]⟩
abbrev S4096x16 : Shape := ⟨2, ![4096, 16]⟩
abbrev S128x1 : Shape := ⟨2, ![128, 1]⟩
abbrev S4096x128 : Shape := ⟨2, ![4096, 128]⟩
abbrev S8 : Shape := ⟨1, ![8]⟩
abbrev S1x8 : Shape := ⟨2, ![1, 8]⟩
abbrev S4096x8 : Shape := ⟨2, ![4096, 8]⟩
abbrev S1x1024 : Shape := ⟨2, ![1, 1024]⟩
abbrev S32768x4096 : Shape := ⟨2, ![32768, 4096]⟩
abbrev S32768x256 : Shape := ⟨2, ![32768, 256]⟩
abbrev S32768x768 : Shape := ⟨2, ![32768, 768]⟩
abbrev S32768x512 : Shape := ⟨2, ![32768, 512]⟩
abbrev S8x256x4096 : Shape := ⟨3, ![8, 256, 4096]⟩
abbrev S8x320x4096 : Shape := ⟨3, ![8, 320, 4096]⟩
abbrev S8x160x4096 : Shape := ⟨3, ![8, 160, 4096]⟩
abbrev S8x16x256x256 : Shape := ⟨4, ![8, 16, 256, 256]⟩
abbrev S8x16x320x256 : Shape := ⟨4, ![8, 16, 320, 256]⟩
abbrev S512x1024 : Shape := ⟨2, ![512, 1024]⟩
abbrev S1x1x1024 : Shape := ⟨3, ![1, 1, 1024]⟩
abbrev S512x128 : Shape := ⟨2, ![512, 128]⟩
abbrev S512x4096 : Shape := ⟨2, ![512, 4096]⟩
abbrev S512x256 : Shape := ⟨2, ![512, 256]⟩
abbrev S512x768 : Shape := ⟨2, ![512, 768]⟩
abbrev S512x512 : Shape := ⟨2, ![512, 512]⟩
abbrev S1x256x512 : Shape := ⟨3, ![1, 256, 512]⟩
abbrev S1x320x512 : Shape := ⟨3, ![1, 320, 512]⟩
abbrev S1x160x512 : Shape := ⟨3, ![1, 160, 512]⟩
abbrev S1x2x256x256 : Shape := ⟨4, ![1, 2, 256, 256]⟩
abbrev S1x2x320x256 : Shape := ⟨4, ![1, 2, 320, 256]⟩
abbrev S512 : Shape := ⟨1, ![512]⟩
abbrev S512x1 : Shape := ⟨2, ![512, 1]⟩
abbrev S1024x512 : Shape := ⟨2, ![1024, 512]⟩
abbrev S1024x256 : Shape := ⟨2, ![1024, 256]⟩
abbrev S1024x768 : Shape := ⟨2, ![1024, 768]⟩
abbrev S256x512 : Shape := ⟨2, ![256, 512]⟩
abbrev S16x512 : Shape := ⟨2, ![16, 512]⟩
abbrev S64x512 : Shape := ⟨2, ![64, 512]⟩
abbrev S320x512 : Shape := ⟨2, ![320, 512]⟩
abbrev S128x512 : Shape := ⟨2, ![128, 512]⟩
abbrev S160x512 : Shape := ⟨2, ![160, 512]⟩
abbrev S256x256 : Shape := ⟨2, ![256, 256]⟩
abbrev S1x1x256x256 : Shape := ⟨4, ![1, 1, 256, 256]⟩
abbrev S320x256 : Shape := ⟨2, ![320, 256]⟩
abbrev S1x1x320x256 : Shape := ⟨4, ![1, 1, 320, 256]⟩

abbrev nBuf : Space → Nat
  | .hbm => 155
  | .vmem => 40
  | .smem => 0
  | _ => 0

abbrev hbmTy0_0 (i : Nat) : BufTy := match i % 128 with
  | 0 => ⟨S32768x1024, .f32⟩
  | 1 => ⟨S1024, .f32⟩
  | 2 => ⟨S8x1x1024, .f32⟩
  | 3 => ⟨S8x1x1024, .f32⟩
  | 4 => ⟨S1024x6400, .f32⟩
  | 5 => ⟨S128, .i32⟩
  | 6 => ⟨S128, .i1⟩
  | 7 => ⟨S128, .i1⟩
  | 8 => ⟨S128, .i1⟩
  | 9 => ⟨S1x128, .i1⟩
  | 10 => ⟨S128, .i1⟩
  | 11 => ⟨S1x128, .i1⟩
  | 12 => ⟨S128, .i32⟩
  | 13 => ⟨S128, .i1⟩
  | 14 => ⟨S128, .i1⟩
  | 15 => ⟨S128, .i1⟩
  | 16 => ⟨S1x128, .i1⟩
  | 17 => ⟨S128, .i1⟩
  | 18 => ⟨S1x128, .i1⟩
  | 19 => ⟨S1024x4096, .f32⟩
  | 20 => ⟨S1024x2304, .f32⟩
  | 21 => ⟨S1024x6400, .f32⟩
  | 22 => ⟨S1024x6400, .bf16⟩
  | 23 => ⟨S4096, .i32⟩
  | 24 => ⟨S_, .i32⟩
  | 25 => ⟨S_, .i32⟩
  | 26 => ⟨S4096, .i32⟩
  | 27 => ⟨S4096, .i32⟩
  | 28 => ⟨S4096, .i32⟩
  | 29 => ⟨S_, .i32⟩
  | 30 => ⟨S4096, .i32⟩
  | 31 => ⟨S4096, .i1⟩
  | 32 => ⟨S4096, .i32⟩
  | 33 => ⟨S4096, .i32⟩
  | 34 => ⟨S_, .i32⟩
  | 35 => ⟨S4096, .i32⟩
  | 36 => ⟨S4096, .i1⟩
  | 37 => ⟨S4096, .i1⟩
  | 38 => ⟨S_, .i32⟩
  | 39 => ⟨S4096, .i32⟩
  | 40 => ⟨S4096, .i32⟩
  | 41 => ⟨S4096, .i32⟩
  | 42 => ⟨S4096, .f32⟩
  | 43 => ⟨S_, .i32⟩
  | 44 => ⟨S_, .i32⟩
  | 45 => ⟨S_, .i32⟩
  | 46 => ⟨S_, .i1⟩
  | 47 => ⟨S_, .i32⟩
  | 48 => ⟨S_, .i32⟩
  | 49 => ⟨S4096, .i32⟩
  | 50 => ⟨S4096, .i32⟩
  | 51 => ⟨S_, .i32⟩
  | 52 => ⟨S4096, .i32⟩
  | 53 => ⟨S4096, .i1⟩
  | 54 => ⟨S_, .i32⟩
  | 55 => ⟨S4096, .i32⟩
  | 56 => ⟨S4096, .i1⟩
  | 57 => ⟨S_, .i32⟩
  | 58 => ⟨S_, .i1⟩
  | 59 => ⟨S4096, .i1⟩
  | 60 => ⟨S4096, .i1⟩
  | 61 => ⟨S4096, .i1⟩
  | 62 => ⟨S4096, .i32⟩
  | 63 => ⟨S4096, .i32⟩
  | 64 => ⟨S4096, .i32⟩
  | 65 => ⟨S4096, .f32⟩
  | 66 => ⟨S16, .f32⟩
  | 67 => ⟨S16, .f32⟩
  | 68 => ⟨S_, .f32⟩
  | 69 => ⟨S16, .f32⟩
  | 70 => ⟨S16, .f32⟩
  | 71 => ⟨S_, .f32⟩
  | 72 => ⟨S16, .f32⟩
  | 73 => ⟨S16, .f32⟩
  | 74 => ⟨S4096x1, .f32⟩
  | 75 => ⟨S1x16, .f32⟩
  | 76 => ⟨S4096x16, .f32⟩
  | 77 => ⟨S4096x16, .f32⟩
  | 78 => ⟨S4096x16, .f32⟩
  | 79 => ⟨S4096x1, .f32⟩
  | 80 => ⟨S1x16, .f32⟩
  | 81 => ⟨S4096x16, .f32⟩
  | 82 => ⟨S4096x16, .f32⟩
  | 83 => ⟨S4096x16, .f32⟩
  | 84 => ⟨S_, .i32⟩
  | 85 => ⟨S128, .i32⟩
  | 86 => ⟨S128, .i32⟩
  | 87 => ⟨S128, .i32⟩
  | 88 => ⟨S128x1, .i32⟩
  | 89 => ⟨S4096x128, .f32⟩
  | 90 => ⟨S_, .i32⟩
  | 91 => ⟨S128, .i32⟩
  | 92 => ⟨S128, .i32⟩
  | 93 => ⟨S128, .i32⟩
  | 94 => ⟨S128x1, .i32⟩
  | 95 => ⟨S4096x128, .f32⟩
  | 96 => ⟨S4096x128, .i1⟩
  | 97 => ⟨S4096x128, .f32⟩
  | 98 => ⟨S4096x128, .f32⟩
  | 99 => ⟨S4096x128, .f32⟩
  | 100 => ⟨S4096x128, .f32⟩
  | 101 => ⟨S4096x128, .f32⟩
  | 102 => ⟨S4096x128, .i1⟩
  | 103 => ⟨S4096x128, .f32⟩
  | 104 => ⟨S8, .f32⟩
  | 105 => ⟨S8, .f32⟩
  | 106 => ⟨S_, .f32⟩
  | 107 => ⟨S8, .f32⟩
  | 108 => ⟨S8, .f32⟩
  | 109 => ⟨S_, .f32⟩
  | 110 => ⟨S8, .f32⟩
  | 111 => ⟨S8, .f32⟩
  | 112 => ⟨S4096x1, .f32⟩
  | 113 => ⟨S1x8, .f32⟩
  | 114 => ⟨S4096x8, .f32⟩
  | 115 => ⟨S4096x8, .f32⟩
  | 116 => ⟨S4096x8, .f32⟩
  | 117 => ⟨S4096x1, .f32⟩
  | 118 => ⟨S1x8, .f32⟩
  | 119 => ⟨S4096x8, .f32⟩
  | 120 => ⟨S4096x8, .f32⟩
  | 121 => ⟨S4096x8, .f32⟩
  | 122 => ⟨S_, .i32⟩
  | 123 => ⟨S128, .i32⟩
  | 124 => ⟨S128, .i32⟩
  | 125 => ⟨S128, .i32⟩
  | 126 => ⟨S128x1, .i32⟩
  | 127 => ⟨S4096x128, .f32⟩
  | _ => ⟨S32768x1024, .f32⟩

abbrev hbmTy0_1 (i : Nat) : BufTy := match i % 128 with
  | 0 => ⟨S_, .i32⟩
  | 1 => ⟨S128, .i32⟩
  | 2 => ⟨S128, .i32⟩
  | 3 => ⟨S128, .i32⟩
  | 4 => ⟨S128x1, .i32⟩
  | 5 => ⟨S4096x128, .f32⟩
  | 6 => ⟨S4096x128, .i1⟩
  | 7 => ⟨S4096x128, .f32⟩
  | 8 => ⟨S4096x128, .f32⟩
  | 9 => ⟨S4096x128, .f32⟩
  | 10 => ⟨S4096x128, .f32⟩
  | 11 => ⟨S4096x128, .f32⟩
  | 12 => ⟨S4096x128, .i1⟩
  | 13 => ⟨S4096x128, .f32⟩
  | 14 => ⟨S1x1024, .f32⟩
  | 15 => ⟨S32768x4096, .bf16⟩
  | 16 => ⟨S32768x256, .f32⟩
  | 17 => ⟨S32768x768, .bf16⟩
  | 18 => ⟨S32768x512, .bf16⟩
  | 19 => ⟨S32768x768, .bf16⟩
  | 20 => ⟨S8x256x4096, .bf16⟩
  | 21 => ⟨S8x256x4096, .bf16⟩
  | 22 => ⟨S8x256x4096, .bf16⟩
  | 23 => ⟨S8x320x4096, .bf16⟩
  | 24 => ⟨S8x160x4096, .bf16⟩
  | 25 => ⟨S8x16x256x256, .bf16⟩
  | 26 => ⟨S8x16x320x256, .bf16⟩
  | _ => ⟨S32768x1024, .f32⟩

abbrev hbmTy (i : Nat) : BufTy := match i / 128 with
  | 0 => hbmTy0_0 i
  | 1 => hbmTy0_1 i
  | _ => ⟨S32768x1024, .f32⟩

abbrev bufTy : (tb : Table) → Fin (tcTables nBuf tb) → BufTy
  | .hbm, ⟨i, _⟩ => hbmTy i
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1024x6400, .bf16⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S512x128, .f32⟩
  | .local _ .vmem, ⟨15, _⟩ => ⟨S512x128, .f32⟩
  | .local _ .vmem, ⟨16, _⟩ => ⟨S512x4096, .bf16⟩
  | .local _ .vmem, ⟨17, _⟩ => ⟨S512x4096, .bf16⟩
  | .local _ .vmem, ⟨18, _⟩ => ⟨S512x256, .f32⟩
  | .local _ .vmem, ⟨19, _⟩ => ⟨S512x256, .f32⟩
  | .local _ .vmem, ⟨20, _⟩ => ⟨S512x768, .bf16⟩
  | .local _ .vmem, ⟨21, _⟩ => ⟨S512x768, .bf16⟩
  | .local _ .vmem, ⟨22, _⟩ => ⟨S512x512, .bf16⟩
  | .local _ .vmem, ⟨23, _⟩ => ⟨S512x512, .bf16⟩
  | .local _ .vmem, ⟨24, _⟩ => ⟨S512x768, .bf16⟩
  | .local _ .vmem, ⟨25, _⟩ => ⟨S512x768, .bf16⟩
  | .local _ .vmem, ⟨26, _⟩ => ⟨S1x256x512, .bf16⟩
  | .local _ .vmem, ⟨27, _⟩ => ⟨S1x256x512, .bf16⟩
  | .local _ .vmem, ⟨28, _⟩ => ⟨S1x256x512, .bf16⟩
  | .local _ .vmem, ⟨29, _⟩ => ⟨S1x256x512, .bf16⟩
  | .local _ .vmem, ⟨30, _⟩ => ⟨S1x256x512, .bf16⟩
  | .local _ .vmem, ⟨31, _⟩ => ⟨S1x256x512, .bf16⟩
  | .local _ .vmem, ⟨32, _⟩ => ⟨S1x320x512, .bf16⟩
  | .local _ .vmem, ⟨33, _⟩ => ⟨S1x320x512, .bf16⟩
  | .local _ .vmem, ⟨34, _⟩ => ⟨S1x160x512, .bf16⟩
  | .local _ .vmem, ⟨35, _⟩ => ⟨S1x160x512, .bf16⟩
  | .local _ .vmem, ⟨36, _⟩ => ⟨S1x2x256x256, .bf16⟩
  | .local _ .vmem, ⟨37, _⟩ => ⟨S1x2x256x256, .bf16⟩
  | .local _ .vmem, ⟨38, _⟩ => ⟨S1x2x320x256, .bf16⟩
  | .local _ .vmem, ⟨39, _⟩ => ⟨S1x2x320x256, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_c_1 : Ref sig .tc := ⟨.hbm, 7, rfl⟩
abbrev main_c_2 : Ref sig .tc := ⟨.hbm, 8, rfl⟩
abbrev main_v0 : Ref sig .tc := ⟨.hbm, 9, rfl⟩
abbrev main_c_3 : Ref sig .tc := ⟨.hbm, 10, rfl⟩
abbrev main_v1 : Ref sig .tc := ⟨.hbm, 11, rfl⟩
abbrev main_c_4 : Ref sig .tc := ⟨.hbm, 12, rfl⟩
abbrev main_c_5 : Ref sig .tc := ⟨.hbm, 13, rfl⟩
abbrev main_c_6 : Ref sig .tc := ⟨.hbm, 14, rfl⟩
abbrev main_c_7 : Ref sig .tc := ⟨.hbm, 15, rfl⟩
abbrev main_v2 : Ref sig .tc := ⟨.hbm, 16, rfl⟩
abbrev main_c_8 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_c_9 : Ref sig .tc := ⟨.hbm, 24, rfl⟩
abbrev main_call0_v0 : Ref sig .tc := ⟨.hbm, 25, rfl⟩
abbrev main_call0_v1 : Ref sig .tc := ⟨.hbm, 26, rfl⟩
abbrev main_call0_v2 : Ref sig .tc := ⟨.hbm, 27, rfl⟩
abbrev main_call0_v3 : Ref sig .tc := ⟨.hbm, 28, rfl⟩
abbrev main_call0_v4 : Ref sig .tc := ⟨.hbm, 29, rfl⟩
abbrev main_call0_v5 : Ref sig .tc := ⟨.hbm, 30, rfl⟩
abbrev main_call0_v6 : Ref sig .tc := ⟨.hbm, 31, rfl⟩
abbrev main_call0_v7 : Ref sig .tc := ⟨.hbm, 32, rfl⟩
abbrev main_call0_v8 : Ref sig .tc := ⟨.hbm, 33, rfl⟩
abbrev main_call0_c : Ref sig .tc := ⟨.hbm, 34, rfl⟩
abbrev main_call0_v9 : Ref sig .tc := ⟨.hbm, 35, rfl⟩
abbrev main_call0_v10 : Ref sig .tc := ⟨.hbm, 36, rfl⟩
abbrev main_call0_v11 : Ref sig .tc := ⟨.hbm, 37, rfl⟩
abbrev main_call0_c_0 : Ref sig .tc := ⟨.hbm, 38, rfl⟩
abbrev main_call0_v12 : Ref sig .tc := ⟨.hbm, 39, rfl⟩
abbrev main_call0_v13 : Ref sig .tc := ⟨.hbm, 40, rfl⟩
abbrev main_v9 : Ref sig .tc := ⟨.hbm, 41, rfl⟩
abbrev main_v10 : Ref sig .tc := ⟨.hbm, 42, rfl⟩
abbrev main_c_10 : Ref sig .tc := ⟨.hbm, 43, rfl⟩
abbrev main_call1_v0 : Ref sig .tc := ⟨.hbm, 44, rfl⟩
abbrev main_call1_c : Ref sig .tc := ⟨.hbm, 45, rfl⟩
abbrev main_call1_v1 : Ref sig .tc := ⟨.hbm, 46, rfl⟩
abbrev main_call1_c_0 : Ref sig .tc := ⟨.hbm, 47, rfl⟩
abbrev main_call1_v2 : Ref sig .tc := ⟨.hbm, 48, rfl⟩
abbrev main_call1_v3 : Ref sig .tc := ⟨.hbm, 49, rfl⟩
abbrev main_call1_v4 : Ref sig .tc := ⟨.hbm, 50, rfl⟩
abbrev main_call1_c_1 : Ref sig .tc := ⟨.hbm, 51, rfl⟩
abbrev main_call1_v5 : Ref sig .tc := ⟨.hbm, 52, rfl⟩
abbrev main_call1_v6 : Ref sig .tc := ⟨.hbm, 53, rfl⟩
abbrev main_call1_c_2 : Ref sig .tc := ⟨.hbm, 54, rfl⟩
abbrev main_call1_v7 : Ref sig .tc := ⟨.hbm, 55, rfl⟩
abbrev main_call1_v8 : Ref sig .tc := ⟨.hbm, 56, rfl⟩
abbrev main_call1_c_3 : Ref sig .tc := ⟨.hbm, 57, rfl⟩
abbrev main_call1_v9 : Ref sig .tc := ⟨.hbm, 58, rfl⟩
abbrev main_call1_v10 : Ref sig .tc := ⟨.hbm, 59, rfl⟩
abbrev main_call1_v11 : Ref sig .tc := ⟨.hbm, 60, rfl⟩
abbrev main_call1_v12 : Ref sig .tc := ⟨.hbm, 61, rfl⟩
abbrev main_call1_v13 : Ref sig .tc := ⟨.hbm, 62, rfl⟩
abbrev main_call1_v14 : Ref sig .tc := ⟨.hbm, 63, rfl⟩
abbrev main_v11 : Ref sig .tc := ⟨.hbm, 64, rfl⟩
abbrev main_v12 : Ref sig .tc := ⟨.hbm, 65, rfl⟩
abbrev main_v13 : Ref sig .tc := ⟨.hbm, 66, rfl⟩
abbrev main_v14 : Ref sig .tc := ⟨.hbm, 67, rfl⟩
abbrev main_cst : Ref sig .tc := ⟨.hbm, 68, rfl⟩
abbrev main_v15 : Ref sig .tc := ⟨.hbm, 69, rfl⟩
abbrev main_v16 : Ref sig .tc := ⟨.hbm, 70, rfl⟩
abbrev main_cst_11 : Ref sig .tc := ⟨.hbm, 71, rfl⟩
abbrev main_v17 : Ref sig .tc := ⟨.hbm, 72, rfl⟩
abbrev main_v18 : Ref sig .tc := ⟨.hbm, 73, rfl⟩
abbrev main_v19 : Ref sig .tc := ⟨.hbm, 74, rfl⟩
abbrev main_v20 : Ref sig .tc := ⟨.hbm, 75, rfl⟩
abbrev main_v21 : Ref sig .tc := ⟨.hbm, 76, rfl⟩
abbrev main_v22 : Ref sig .tc := ⟨.hbm, 77, rfl⟩
abbrev main_v23 : Ref sig .tc := ⟨.hbm, 78, rfl⟩
abbrev main_v24 : Ref sig .tc := ⟨.hbm, 79, rfl⟩
abbrev main_v25 : Ref sig .tc := ⟨.hbm, 80, rfl⟩
abbrev main_v26 : Ref sig .tc := ⟨.hbm, 81, rfl⟩
abbrev main_v27 : Ref sig .tc := ⟨.hbm, 82, rfl⟩
abbrev main_v28 : Ref sig .tc := ⟨.hbm, 83, rfl⟩
abbrev main_c_12 : Ref sig .tc := ⟨.hbm, 84, rfl⟩
abbrev main_v29 : Ref sig .tc := ⟨.hbm, 85, rfl⟩
abbrev main_v30 : Ref sig .tc := ⟨.hbm, 86, rfl⟩
abbrev main_v31 : Ref sig .tc := ⟨.hbm, 87, rfl⟩
abbrev main_v32 : Ref sig .tc := ⟨.hbm, 88, rfl⟩
abbrev main_v33 : Ref sig .tc := ⟨.hbm, 89, rfl⟩
abbrev main_c_13 : Ref sig .tc := ⟨.hbm, 90, rfl⟩
abbrev main_v34 : Ref sig .tc := ⟨.hbm, 91, rfl⟩
abbrev main_v35 : Ref sig .tc := ⟨.hbm, 92, rfl⟩
abbrev main_v36 : Ref sig .tc := ⟨.hbm, 93, rfl⟩
abbrev main_v37 : Ref sig .tc := ⟨.hbm, 94, rfl⟩
abbrev main_v38 : Ref sig .tc := ⟨.hbm, 95, rfl⟩
abbrev main_call2_v0 : Ref sig .tc := ⟨.hbm, 96, rfl⟩
abbrev main_v39 : Ref sig .tc := ⟨.hbm, 97, rfl⟩
abbrev main_v40 : Ref sig .tc := ⟨.hbm, 98, rfl⟩
abbrev main_v41 : Ref sig .tc := ⟨.hbm, 99, rfl⟩
abbrev main_v42 : Ref sig .tc := ⟨.hbm, 100, rfl⟩
abbrev main_v43 : Ref sig .tc := ⟨.hbm, 101, rfl⟩
abbrev main_call3_v0 : Ref sig .tc := ⟨.hbm, 102, rfl⟩
abbrev main_v44 : Ref sig .tc := ⟨.hbm, 103, rfl⟩
abbrev main_v45 : Ref sig .tc := ⟨.hbm, 104, rfl⟩
abbrev main_v46 : Ref sig .tc := ⟨.hbm, 105, rfl⟩
abbrev main_cst_14 : Ref sig .tc := ⟨.hbm, 106, rfl⟩
abbrev main_v47 : Ref sig .tc := ⟨.hbm, 107, rfl⟩
abbrev main_v48 : Ref sig .tc := ⟨.hbm, 108, rfl⟩
abbrev main_cst_15 : Ref sig .tc := ⟨.hbm, 109, rfl⟩
abbrev main_v49 : Ref sig .tc := ⟨.hbm, 110, rfl⟩
abbrev main_v50 : Ref sig .tc := ⟨.hbm, 111, rfl⟩
abbrev main_v51 : Ref sig .tc := ⟨.hbm, 112, rfl⟩
abbrev main_v52 : Ref sig .tc := ⟨.hbm, 113, rfl⟩
abbrev main_v53 : Ref sig .tc := ⟨.hbm, 114, rfl⟩
abbrev main_v54 : Ref sig .tc := ⟨.hbm, 115, rfl⟩
abbrev main_v55 : Ref sig .tc := ⟨.hbm, 116, rfl⟩
abbrev main_v56 : Ref sig .tc := ⟨.hbm, 117, rfl⟩
abbrev main_v57 : Ref sig .tc := ⟨.hbm, 118, rfl⟩
abbrev main_v58 : Ref sig .tc := ⟨.hbm, 119, rfl⟩
abbrev main_v59 : Ref sig .tc := ⟨.hbm, 120, rfl⟩
abbrev main_v60 : Ref sig .tc := ⟨.hbm, 121, rfl⟩
abbrev main_c_16 : Ref sig .tc := ⟨.hbm, 122, rfl⟩
abbrev main_v61 : Ref sig .tc := ⟨.hbm, 123, rfl⟩
abbrev main_v62 : Ref sig .tc := ⟨.hbm, 124, rfl⟩
abbrev main_v63 : Ref sig .tc := ⟨.hbm, 125, rfl⟩
abbrev main_v64 : Ref sig .tc := ⟨.hbm, 126, rfl⟩
abbrev main_v65 : Ref sig .tc := ⟨.hbm, 127, rfl⟩
abbrev main_c_17 : Ref sig .tc := ⟨.hbm, 128, rfl⟩
abbrev main_v66 : Ref sig .tc := ⟨.hbm, 129, rfl⟩
abbrev main_v67 : Ref sig .tc := ⟨.hbm, 130, rfl⟩
abbrev main_v68 : Ref sig .tc := ⟨.hbm, 131, rfl⟩
abbrev main_v69 : Ref sig .tc := ⟨.hbm, 132, rfl⟩
abbrev main_v70 : Ref sig .tc := ⟨.hbm, 133, rfl⟩
abbrev main_call4_v0 : Ref sig .tc := ⟨.hbm, 134, rfl⟩
abbrev main_v71 : Ref sig .tc := ⟨.hbm, 135, rfl⟩
abbrev main_v72 : Ref sig .tc := ⟨.hbm, 136, rfl⟩
abbrev main_v73 : Ref sig .tc := ⟨.hbm, 137, rfl⟩
abbrev main_v74 : Ref sig .tc := ⟨.hbm, 138, rfl⟩
abbrev main_v75 : Ref sig .tc := ⟨.hbm, 139, rfl⟩
abbrev main_call5_v0 : Ref sig .tc := ⟨.hbm, 140, rfl⟩
abbrev main_v76 : Ref sig .tc := ⟨.hbm, 141, rfl⟩
abbrev main_v77 : Ref sig .tc := ⟨.hbm, 142, rfl⟩
abbrev main_v78_0 : Ref sig .tc := ⟨.hbm, 143, rfl⟩
abbrev main_v78_1 : Ref sig .tc := ⟨.hbm, 144, rfl⟩
abbrev main_v78_2 : Ref sig .tc := ⟨.hbm, 145, rfl⟩
abbrev main_v78_3 : Ref sig .tc := ⟨.hbm, 146, rfl⟩
abbrev main_v78_4 : Ref sig .tc := ⟨.hbm, 147, rfl⟩
abbrev main_v78_5 : Ref sig .tc := ⟨.hbm, 148, rfl⟩
abbrev main_v78_6 : Ref sig .tc := ⟨.hbm, 149, rfl⟩
abbrev main_v78_7 : Ref sig .tc := ⟨.hbm, 150, rfl⟩
abbrev main_v78_8 : Ref sig .tc := ⟨.hbm, 151, rfl⟩
abbrev main_v78_9 : Ref sig .tc := ⟨.hbm, 152, rfl⟩
abbrev main_v78_10 : Ref sig .tc := ⟨.hbm, 153, rfl⟩
abbrev main_v78_11 : Ref sig .tc := ⟨.hbm, 154, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg14_1 : Ref sig .tc := ⟨.vmem, 27, rfl⟩
abbrev cc0_stg15_0 : Ref sig .tc := ⟨.vmem, 28, rfl⟩
abbrev cc0_stg15_1 : Ref sig .tc := ⟨.vmem, 29, rfl⟩
abbrev cc0_stg16_0 : Ref sig .tc := ⟨.vmem, 30, rfl⟩
abbrev cc0_stg16_1 : Ref sig .tc := ⟨.vmem, 31, rfl⟩
abbrev cc0_stg17_0 : Ref sig .tc := ⟨.vmem, 32, rfl⟩
abbrev cc0_stg17_1 : Ref sig .tc := ⟨.vmem, 33, rfl⟩
abbrev cc0_stg18_0 : Ref sig .tc := ⟨.vmem, 34, rfl⟩
abbrev cc0_stg18_1 : Ref sig .tc := ⟨.vmem, 35, rfl⟩
abbrev cc0_stg19_0 : Ref sig .tc := ⟨.vmem, 36, rfl⟩
abbrev cc0_stg19_1 : Ref sig .tc := ⟨.vmem, 37, rfl⟩
abbrev cc0_stg20_0 : Ref sig .tc := ⟨.vmem, 38, rfl⟩
abbrev cc0_stg20_1 : Ref sig .tc := ⟨.vmem, 39, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25
abbrev cc0_sem14_0 : DmaSem sig := 26
abbrev cc0_sem14_1 : DmaSem sig := 27
abbrev cc0_sem15_0 : DmaSem sig := 28
abbrev cc0_sem15_1 : DmaSem sig := 29
abbrev cc0_sem16_0 : DmaSem sig := 30
abbrev cc0_sem16_1 : DmaSem sig := 31
abbrev cc0_sem17_0 : DmaSem sig := 32
abbrev cc0_sem17_1 : DmaSem sig := 33
abbrev cc0_sem18_0 : DmaSem sig := 34
abbrev cc0_sem18_1 : DmaSem sig := 35
abbrev cc0_sem19_0 : DmaSem sig := 36
abbrev cc0_sem19_1 : DmaSem sig := 37
abbrev cc0_sem20_0 : DmaSem sig := 38
abbrev cc0_sem20_1 : DmaSem sig := 39

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c512_i32 : BitVec 32 := 512#32
  let v0 : BitVec 32 := Scalar.muli arg0 c512_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_3 (i : grid0.Coords) : Fin 3 → Nat :=
  let arg0 : BitVec 32 := BitVec.ofNat 32 (i 0).val
  let c512_i32 : BitVec 32 := 512#32
  let v0 : BitVec 32 := Scalar.muli arg0 c512_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_6 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_7 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_8 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_15 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_16 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_17 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_18 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_19 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, v26.toNat, c0_i32_10.toNat, c0_i32_11.toNat]

def cc0_transform_20 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, v26.toNat, c0_i32_10.toNat, c0_i32_11.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x6400 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x4096 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x768 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x768 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x256x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1x256x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1x256x512 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S1x320x512 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S1x160x512 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S1x2x256x256 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S1x2x320x256 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]
-- ==== Kernel2Ideal.lean ====
variable {F : FTy → Type} [FloatOps F] [Named F]
def κ : String → Option EReal := fun
  | "scale32" => some (((Real.sqrt 32)⁻¹ * (Real.log 2)⁻¹ : ℝ) : EReal)
  | "scale64" => some (((Real.sqrt 64)⁻¹ * (Real.log 2)⁻¹ : ℝ) : EReal)
  | _ => none
-- ==== Reference2Ideal.lean ====
abbrev S32768x1024 : Shape := ⟨2, ![32768, 1024]⟩
abbrev S1024 : Shape := ⟨1, ![1024]⟩
abbrev S8x1x1024 : Shape := ⟨3, ![8, 1, 1024]⟩
abbrev S1024x6400 : Shape := ⟨2, ![1024, 6400]⟩
abbrev S8x4096x1024 : Shape := ⟨3, ![8, 4096, 1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x6400 : Shape := ⟨3, ![8, 4096, 6400]⟩
abbrev S8x4096x256 : Shape := ⟨3, ![8, 4096, 256]⟩
abbrev S8x4096x128 : Shape := ⟨3, ![8, 4096, 128]⟩
abbrev S8x4096x4096 : Shape := ⟨3, ![8, 4096, 4096]⟩
abbrev S8x4096x4x64 : Shape := ⟨4, ![8, 4096, 4, 64]⟩
abbrev S4096 : Shape := ⟨1, ![4096]⟩
abbrev S16 : Shape := ⟨1, ![16]⟩
abbrev S8x4096x4x32 : Shape := ⟨4, ![8, 4096, 4, 32]⟩
abbrev S4096x1 : Shape := ⟨2, ![4096, 1]⟩
abbrev S1x16 : Shape := ⟨2, ![1, 16]⟩
abbrev S4096x16 : Shape := ⟨2, ![4096, 16]⟩
abbrev S1x4096x1x16 : Shape := ⟨4, ![1, 4096, 1, 16]⟩
abbrev S8x4096x4x16 : Shape := ⟨4, ![8, 4096, 4, 16]⟩
abbrev S8x4096x2x64 : Shape := ⟨4, ![8, 4096, 2, 64]⟩
abbrev S8x4096x2x32 : Shape := ⟨4, ![8, 4096, 2, 32]⟩
abbrev S8x4096x2x16 : Shape := ⟨4, ![8, 4096, 2, 16]⟩
abbrev S8x4096x8x32 : Shape := ⟨4, ![8, 4096, 8, 32]⟩
abbrev S8 : Shape := ⟨1, ![8]⟩
abbrev S8x4096x8x16 : Shape := ⟨4, ![8, 4096, 8, 16]⟩
abbrev S1x8 : Shape := ⟨2, ![1, 8]⟩
abbrev S4096x8 : Shape := ⟨2, ![4096, 8]⟩
abbrev S1x4096x1x8 : Shape := ⟨4, ![1, 4096, 1, 8]⟩
abbrev S8x4096x8x8 : Shape := ⟨4, ![8, 4096, 8, 8]⟩
abbrev S8x4096x768 : Shape := ⟨3, ![8, 4096, 768]⟩
abbrev S8x4096x512 : Shape := ⟨3, ![8, 4096, 512]⟩
abbrev S32768x4096 : Shape := ⟨2, ![32768, 4096]⟩
abbrev S32768x256 : Shape := ⟨2, ![32768, 256]⟩
abbrev S32768x768 : Shape := ⟨2, ![32768, 768]⟩
abbrev S32768x512 : Shape := ⟨2, ![32768, 512]⟩

abbrev nBuf : Space → Nat
  | .hbm => 469
  | .vmem => 0
  | .smem => 0
  | _ => 0

abbrev hbmTy0_0 (i : Nat) : BufTy := match i % 128 with
  | 0 => ⟨S32768x1024, .f32⟩
  | 1 => ⟨S1024, .f32⟩
  | 2 => ⟨S8x1x1024, .f32⟩
  | 3 => ⟨S8x1x1024, .f32⟩
  | 4 => ⟨S1024x6400, .f32⟩
  | 5 => ⟨S8x4096x1024, .f32⟩
  | 6 => ⟨S8x4096x1024, .f32⟩
  | 7 => ⟨S_, .f32⟩
  | 8 => ⟨S8x4096, .f32⟩
  | 9 => ⟨S8x4096x1, .f32⟩
  | 10 => ⟨S_, .f32⟩
  | 11 => ⟨S8x4096x1, .f32⟩
  | 12 => ⟨S8x4096x1, .f32⟩
  | 13 => ⟨S_, .f32⟩
  | 14 => ⟨S8x4096x1, .f32⟩
  | 15 => ⟨S8x4096x1, .f32⟩
  | 16 => ⟨S8x4096x1, .f32⟩
  | 17 => ⟨S8x4096x1024, .f32⟩
  | 18 => ⟨S8x4096x1024, .f32⟩
  | 19 => ⟨S1x1x1024, .f32⟩
  | 20 => ⟨S8x4096x1024, .f32⟩
  | 21 => ⟨S8x4096x1024, .f32⟩
  | 22 => ⟨S_, .f32⟩
  | 23 => ⟨S8x1x1024, .f32⟩
  | 24 => ⟨S8x1x1024, .f32⟩
  | 25 => ⟨S8x4096x1024, .f32⟩
  | 26 => ⟨S8x4096x1024, .f32⟩
  | 27 => ⟨S8x4096x1024, .f32⟩
  | 28 => ⟨S8x4096x1024, .f32⟩
  | 29 => ⟨S8x4096x6400, .f32⟩
  | 30 => ⟨S8x4096x256, .f32⟩
  | 31 => ⟨S8x4096x256, .f32⟩
  | 32 => ⟨S8x4096x256, .f32⟩
  | 33 => ⟨S8x4096x256, .f32⟩
  | 34 => ⟨S8x4096x256, .f32⟩
  | 35 => ⟨S8x4096x128, .f32⟩
  | 36 => ⟨S8x4096x128, .f32⟩
  | 37 => ⟨S8x4096x256, .f32⟩
  | 38 => ⟨S8x4096x256, .f32⟩
  | 39 => ⟨S8x4096x256, .f32⟩
  | 40 => ⟨S8x4096x4096, .f32⟩
  | 41 => ⟨S8x4096x4096, .f32⟩
  | 42 => ⟨S8x4096x4096, .f32⟩
  | 43 => ⟨S_, .f32⟩
  | 44 => ⟨S8x4096x4096, .f32⟩
  | 45 => ⟨S8x4096x4096, .f32⟩
  | 46 => ⟨S_, .f32⟩
  | 47 => ⟨S8x4096x4096, .f32⟩
  | 48 => ⟨S8x4096x4096, .f32⟩
  | 49 => ⟨S_, .f32⟩
  | 50 => ⟨S_, .f32⟩
  | 51 => ⟨S_, .f32⟩
  | 52 => ⟨S_, .f32⟩
  | 53 => ⟨S_, .f32⟩
  | 54 => ⟨S_, .f32⟩
  | 55 => ⟨S_, .f32⟩
  | 56 => ⟨S_, .f32⟩
  | 57 => ⟨S_, .f32⟩
  | 58 => ⟨S_, .f32⟩
  | 59 => ⟨S8x4096x4x64, .f32⟩
  | 60 => ⟨S4096, .i32⟩
  | 61 => ⟨S_, .i32⟩
  | 62 => ⟨S_, .i32⟩
  | 63 => ⟨S4096, .i32⟩
  | 64 => ⟨S4096, .i32⟩
  | 65 => ⟨S4096, .i32⟩
  | 66 => ⟨S_, .i32⟩
  | 67 => ⟨S4096, .i32⟩
  | 68 => ⟨S4096, .i1⟩
  | 69 => ⟨S4096, .i32⟩
  | 70 => ⟨S4096, .i32⟩
  | 71 => ⟨S_, .i32⟩
  | 72 => ⟨S4096, .i32⟩
  | 73 => ⟨S4096, .i1⟩
  | 74 => ⟨S4096, .i1⟩
  | 75 => ⟨S_, .i32⟩
  | 76 => ⟨S4096, .i32⟩
  | 77 => ⟨S4096, .i32⟩
  | 78 => ⟨S4096, .i32⟩
  | 79 => ⟨S4096, .f32⟩
  | 80 => ⟨S_, .i32⟩
  | 81 => ⟨S_, .i32⟩
  | 82 => ⟨S_, .i32⟩
  | 83 => ⟨S_, .i1⟩
  | 84 => ⟨S_, .i32⟩
  | 85 => ⟨S_, .i32⟩
  | 86 => ⟨S4096, .i32⟩
  | 87 => ⟨S4096, .i32⟩
  | 88 => ⟨S_, .i32⟩
  | 89 => ⟨S4096, .i32⟩
  | 90 => ⟨S4096, .i1⟩
  | 91 => ⟨S_, .i32⟩
  | 92 => ⟨S4096, .i32⟩
  | 93 => ⟨S4096, .i1⟩
  | 94 => ⟨S_, .i32⟩
  | 95 => ⟨S_, .i1⟩
  | 96 => ⟨S4096, .i1⟩
  | 97 => ⟨S4096, .i1⟩
  | 98 => ⟨S4096, .i1⟩
  | 99 => ⟨S4096, .i32⟩
  | 100 => ⟨S4096, .i32⟩
  | 101 => ⟨S4096, .i32⟩
  | 102 => ⟨S4096, .f32⟩
  | 103 => ⟨S16, .f32⟩
  | 104 => ⟨S16, .f32⟩
  | 105 => ⟨S_, .f32⟩
  | 106 => ⟨S16, .f32⟩
  | 107 => ⟨S16, .f32⟩
  | 108 => ⟨S_, .f32⟩
  | 109 => ⟨S16, .f32⟩
  | 110 => ⟨S16, .f32⟩
  | 111 => ⟨S8x4096x4x32, .f32⟩
  | 112 => ⟨S8x4096x4x32, .f32⟩
  | 113 => ⟨S4096x1, .f32⟩
  | 114 => ⟨S1x16, .f32⟩
  | 115 => ⟨S4096x16, .f32⟩
  | 116 => ⟨S4096x16, .f32⟩
  | 117 => ⟨S4096x16, .f32⟩
  | 118 => ⟨S1x4096x1x16, .f32⟩
  | 119 => ⟨S1x4096x1x16, .f32⟩
  | 120 => ⟨S1x4096x1x16, .f32⟩
  | 121 => ⟨S8x4096x4x16, .f32⟩
  | 122 => ⟨S8x4096x4x16, .f32⟩
  | 123 => ⟨S8x4096x4x16, .f32⟩
  | 124 => ⟨S8x4096x4x16, .f32⟩
  | 125 => ⟨S8x4096x4x16, .f32⟩
  | 126 => ⟨S8x4096x4x16, .f32⟩
  | 127 => ⟨S8x4096x4x16, .f32⟩
  | _ => ⟨S32768x1024, .f32⟩

abbrev hbmTy0_1 (i : Nat) : BufTy := match i % 128 with
  | 0 => ⟨S8x4096x4x16, .f32⟩
  | 1 => ⟨S8x4096x4x16, .f32⟩
  | 2 => ⟨S8x4096x4x16, .f32⟩
  | 3 => ⟨S8x4096x4x16, .f32⟩
  | 4 => ⟨S8x4096x4x16, .f32⟩
  | 5 => ⟨S8x4096x4x32, .f32⟩
  | 6 => ⟨S4096x1, .f32⟩
  | 7 => ⟨S1x16, .f32⟩
  | 8 => ⟨S4096x16, .f32⟩
  | 9 => ⟨S4096x16, .f32⟩
  | 10 => ⟨S4096x16, .f32⟩
  | 11 => ⟨S1x4096x1x16, .f32⟩
  | 12 => ⟨S1x4096x1x16, .f32⟩
  | 13 => ⟨S1x4096x1x16, .f32⟩
  | 14 => ⟨S8x4096x4x16, .f32⟩
  | 15 => ⟨S8x4096x4x16, .f32⟩
  | 16 => ⟨S8x4096x4x16, .f32⟩
  | 17 => ⟨S8x4096x4x16, .f32⟩
  | 18 => ⟨S8x4096x4x16, .f32⟩
  | 19 => ⟨S8x4096x4x16, .f32⟩
  | 20 => ⟨S8x4096x4x16, .f32⟩
  | 21 => ⟨S8x4096x4x16, .f32⟩
  | 22 => ⟨S8x4096x4x16, .f32⟩
  | 23 => ⟨S8x4096x4x16, .f32⟩
  | 24 => ⟨S8x4096x4x16, .f32⟩
  | 25 => ⟨S8x4096x4x16, .f32⟩
  | 26 => ⟨S8x4096x4x32, .f32⟩
  | 27 => ⟨S8x4096x4x64, .f32⟩
  | 28 => ⟨S8x4096x256, .f32⟩
  | 29 => ⟨S8x4096x2x64, .f32⟩
  | 30 => ⟨S4096, .i32⟩
  | 31 => ⟨S_, .i32⟩
  | 32 => ⟨S_, .i32⟩
  | 33 => ⟨S4096, .i32⟩
  | 34 => ⟨S4096, .i32⟩
  | 35 => ⟨S4096, .i32⟩
  | 36 => ⟨S_, .i32⟩
  | 37 => ⟨S4096, .i32⟩
  | 38 => ⟨S4096, .i1⟩
  | 39 => ⟨S4096, .i32⟩
  | 40 => ⟨S4096, .i32⟩
  | 41 => ⟨S_, .i32⟩
  | 42 => ⟨S4096, .i32⟩
  | 43 => ⟨S4096, .i1⟩
  | 44 => ⟨S4096, .i1⟩
  | 45 => ⟨S_, .i32⟩
  | 46 => ⟨S4096, .i32⟩
  | 47 => ⟨S4096, .i32⟩
  | 48 => ⟨S4096, .i32⟩
  | 49 => ⟨S4096, .f32⟩
  | 50 => ⟨S_, .i32⟩
  | 51 => ⟨S_, .i32⟩
  | 52 => ⟨S_, .i32⟩
  | 53 => ⟨S_, .i1⟩
  | 54 => ⟨S_, .i32⟩
  | 55 => ⟨S_, .i32⟩
  | 56 => ⟨S4096, .i32⟩
  | 57 => ⟨S4096, .i32⟩
  | 58 => ⟨S_, .i32⟩
  | 59 => ⟨S4096, .i32⟩
  | 60 => ⟨S4096, .i1⟩
  | 61 => ⟨S_, .i32⟩
  | 62 => ⟨S4096, .i32⟩
  | 63 => ⟨S4096, .i1⟩
  | 64 => ⟨S_, .i32⟩
  | 65 => ⟨S_, .i1⟩
  | 66 => ⟨S4096, .i1⟩
  | 67 => ⟨S4096, .i1⟩
  | 68 => ⟨S4096, .i1⟩
  | 69 => ⟨S4096, .i32⟩
  | 70 => ⟨S4096, .i32⟩
  | 71 => ⟨S4096, .i32⟩
  | 72 => ⟨S4096, .f32⟩
  | 73 => ⟨S16, .f32⟩
  | 74 => ⟨S16, .f32⟩
  | 75 => ⟨S_, .f32⟩
  | 76 => ⟨S16, .f32⟩
  | 77 => ⟨S16, .f32⟩
  | 78 => ⟨S_, .f32⟩
  | 79 => ⟨S16, .f32⟩
  | 80 => ⟨S16, .f32⟩
  | 81 => ⟨S8x4096x2x32, .f32⟩
  | 82 => ⟨S8x4096x2x32, .f32⟩
  | 83 => ⟨S4096x1, .f32⟩
  | 84 => ⟨S1x16, .f32⟩
  | 85 => ⟨S4096x16, .f32⟩
  | 86 => ⟨S4096x16, .f32⟩
  | 87 => ⟨S4096x16, .f32⟩
  | 88 => ⟨S1x4096x1x16, .f32⟩
  | 89 => ⟨S1x4096x1x16, .f32⟩
  | 90 => ⟨S1x4096x1x16, .f32⟩
  | 91 => ⟨S8x4096x2x16, .f32⟩
  | 92 => ⟨S8x4096x2x16, .f32⟩
  | 93 => ⟨S8x4096x2x16, .f32⟩
  | 94 => ⟨S8x4096x2x16, .f32⟩
  | 95 => ⟨S8x4096x2x16, .f32⟩
  | 96 => ⟨S8x4096x2x16, .f32⟩
  | 97 => ⟨S8x4096x2x16, .f32⟩
  | 98 => ⟨S8x4096x2x16, .f32⟩
  | 99 => ⟨S8x4096x2x16, .f32⟩
  | 100 => ⟨S8x4096x2x16, .f32⟩
  | 101 => ⟨S8x4096x2x16, .f32⟩
  | 102 => ⟨S8x4096x2x16, .f32⟩
  | 103 => ⟨S8x4096x2x32, .f32⟩
  | 104 => ⟨S4096x1, .f32⟩
  | 105 => ⟨S1x16, .f32⟩
  | 106 => ⟨S4096x16, .f32⟩
  | 107 => ⟨S4096x16, .f32⟩
  | 108 => ⟨S4096x16, .f32⟩
  | 109 => ⟨S1x4096x1x16, .f32⟩
  | 110 => ⟨S1x4096x1x16, .f32⟩
  | 111 => ⟨S1x4096x1x16, .f32⟩
  | 112 => ⟨S8x4096x2x16, .f32⟩
  | 113 => ⟨S8x4096x2x16, .f32⟩
  | 114 => ⟨S8x4096x2x16, .f32⟩
  | 115 => ⟨S8x4096x2x16, .f32⟩
  | 116 => ⟨S8x4096x2x16, .f32⟩
  | 117 => ⟨S8x4096x2x16, .f32⟩
  | 118 => ⟨S8x4096x2x16, .f32⟩
  | 119 => ⟨S8x4096x2x16, .f32⟩
  | 120 => ⟨S8x4096x2x16, .f32⟩
  | 121 => ⟨S8x4096x2x16, .f32⟩
  | 122 => ⟨S8x4096x2x16, .f32⟩
  | 123 => ⟨S8x4096x2x16, .f32⟩
  | 124 => ⟨S8x4096x2x32, .f32⟩
  | 125 => ⟨S8x4096x2x64, .f32⟩
  | 126 => ⟨S8x4096x128, .f32⟩
  | 127 => ⟨S8x4096x8x32, .f32⟩
  | _ => ⟨S32768x1024, .f32⟩

abbrev hbmTy0_2 (i : Nat) : BufTy := match i % 128 with
  | 0 => ⟨S4096, .i32⟩
  | 1 => ⟨S_, .i32⟩
  | 2 => ⟨S_, .i32⟩
  | 3 => ⟨S4096, .i32⟩
  | 4 => ⟨S4096, .i32⟩
  | 5 => ⟨S4096, .i32⟩
  | 6 => ⟨S_, .i32⟩
  | 7 => ⟨S4096, .i32⟩
  | 8 => ⟨S4096, .i1⟩
  | 9 => ⟨S4096, .i32⟩
  | 10 => ⟨S4096, .i32⟩
  | 11 => ⟨S_, .i32⟩
  | 12 => ⟨S4096, .i32⟩
  | 13 => ⟨S4096, .i1⟩
  | 14 => ⟨S4096, .i1⟩
  | 15 => ⟨S_, .i32⟩
  | 16 => ⟨S4096, .i32⟩
  | 17 => ⟨S4096, .i32⟩
  | 18 => ⟨S4096, .i32⟩
  | 19 => ⟨S4096, .f32⟩
  | 20 => ⟨S_, .i32⟩
  | 21 => ⟨S_, .i32⟩
  | 22 => ⟨S_, .i32⟩
  | 23 => ⟨S_, .i1⟩
  | 24 => ⟨S_, .i32⟩
  | 25 => ⟨S_, .i32⟩
  | 26 => ⟨S4096, .i32⟩
  | 27 => ⟨S4096, .i32⟩
  | 28 => ⟨S_, .i32⟩
  | 29 => ⟨S4096, .i32⟩
  | 30 => ⟨S4096, .i1⟩
  | 31 => ⟨S_, .i32⟩
  | 32 => ⟨S4096, .i32⟩
  | 33 => ⟨S4096, .i1⟩
  | 34 => ⟨S_, .i32⟩
  | 35 => ⟨S_, .i1⟩
  | 36 => ⟨S4096, .i1⟩
  | 37 => ⟨S4096, .i1⟩
  | 38 => ⟨S4096, .i1⟩
  | 39 => ⟨S4096, .i32⟩
  | 40 => ⟨S4096, .i32⟩
  | 41 => ⟨S4096, .i32⟩
  | 42 => ⟨S4096, .f32⟩
  | 43 => ⟨S8, .f32⟩
  | 44 => ⟨S8, .f32⟩
  | 45 => ⟨S_, .f32⟩
  | 46 => ⟨S8, .f32⟩
  | 47 => ⟨S8, .f32⟩
  | 48 => ⟨S_, .f32⟩
  | 49 => ⟨S8, .f32⟩
  | 50 => ⟨S8, .f32⟩
  | 51 => ⟨S8x4096x8x16, .f32⟩
  | 52 => ⟨S8x4096x8x16, .f32⟩
  | 53 => ⟨S4096x1, .f32⟩
  | 54 => ⟨S1x8, .f32⟩
  | 55 => ⟨S4096x8, .f32⟩
  | 56 => ⟨S4096x8, .f32⟩
  | 57 => ⟨S4096x8, .f32⟩
  | 58 => ⟨S1x4096x1x8, .f32⟩
  | 59 => ⟨S1x4096x1x8, .f32⟩
  | 60 => ⟨S1x4096x1x8, .f32⟩
  | 61 => ⟨S8x4096x8x8, .f32⟩
  | 62 => ⟨S8x4096x8x8, .f32⟩
  | 63 => ⟨S8x4096x8x8, .f32⟩
  | 64 => ⟨S8x4096x8x8, .f32⟩
  | 65 => ⟨S8x4096x8x8, .f32⟩
  | 66 => ⟨S8x4096x8x8, .f32⟩
  | 67 => ⟨S8x4096x8x8, .f32⟩
  | 68 => ⟨S8x4096x8x8, .f32⟩
  | 69 => ⟨S8x4096x8x8, .f32⟩
  | 70 => ⟨S8x4096x8x8, .f32⟩
  | 71 => ⟨S8x4096x8x8, .f32⟩
  | 72 => ⟨S8x4096x8x8, .f32⟩
  | 73 => ⟨S8x4096x8x16, .f32⟩
  | 74 => ⟨S4096x1, .f32⟩
  | 75 => ⟨S1x8, .f32⟩
  | 76 => ⟨S4096x8, .f32⟩
  | 77 => ⟨S4096x8, .f32⟩
  | 78 => ⟨S4096x8, .f32⟩
  | 79 => ⟨S1x4096x1x8, .f32⟩
  | 80 => ⟨S1x4096x1x8, .f32⟩
  | 81 => ⟨S1x4096x1x8, .f32⟩
  | 82 => ⟨S8x4096x8x8, .f32⟩
  | 83 => ⟨S8x4096x8x8, .f32⟩
  | 84 => ⟨S8x4096x8x8, .f32⟩
  | 85 => ⟨S8x4096x8x8, .f32⟩
  | 86 => ⟨S8x4096x8x8, .f32⟩
  | 87 => ⟨S8x4096x8x8, .f32⟩
  | 88 => ⟨S8x4096x8x8, .f32⟩
  | 89 => ⟨S8x4096x8x8, .f32⟩
  | 90 => ⟨S8x4096x8x8, .f32⟩
  | 91 => ⟨S8x4096x8x8, .f32⟩
  | 92 => ⟨S8x4096x8x8, .f32⟩
  | 93 => ⟨S8x4096x8x8, .f32⟩
  | 94 => ⟨S8x4096x8x16, .f32⟩
  | 95 => ⟨S8x4096x8x32, .f32⟩
  | 96 => ⟨S8x4096x256, .f32⟩
  | 97 => ⟨S8x4096x8x32, .f32⟩
  | 98 => ⟨S4096, .i32⟩
  | 99 => ⟨S_, .i32⟩
  | 100 => ⟨S_, .i32⟩
  | 101 => ⟨S4096, .i32⟩
  | 102 => ⟨S4096, .i32⟩
  | 103 => ⟨S4096, .i32⟩
  | 104 => ⟨S_, .i32⟩
  | 105 => ⟨S4096, .i32⟩
  | 106 => ⟨S4096, .i1⟩
  | 107 => ⟨S4096, .i32⟩
  | 108 => ⟨S4096, .i32⟩
  | 109 => ⟨S_, .i32⟩
  | 110 => ⟨S4096, .i32⟩
  | 111 => ⟨S4096, .i1⟩
  | 112 => ⟨S4096, .i1⟩
  | 113 => ⟨S_, .i32⟩
  | 114 => ⟨S4096, .i32⟩
  | 115 => ⟨S4096, .i32⟩
  | 116 => ⟨S4096, .i32⟩
  | 117 => ⟨S4096, .f32⟩
  | 118 => ⟨S_, .i32⟩
  | 119 => ⟨S_, .i32⟩
  | 120 => ⟨S_, .i32⟩
  | 121 => ⟨S_, .i1⟩
  | 122 => ⟨S_, .i32⟩
  | 123 => ⟨S_, .i32⟩
  | 124 => ⟨S4096, .i32⟩
  | 125 => ⟨S4096, .i32⟩
  | 126 => ⟨S_, .i32⟩
  | 127 => ⟨S4096, .i32⟩
  | _ => ⟨S32768x1024, .f32⟩

abbrev hbmTy0_3 (i : Nat) : BufTy := match i % 128 with
  | 0 => ⟨S4096, .i1⟩
  | 1 => ⟨S_, .i32⟩
  | 2 => ⟨S4096, .i32⟩
  | 3 => ⟨S4096, .i1⟩
  | 4 => ⟨S_, .i32⟩
  | 5 => ⟨S_, .i1⟩
  | 6 => ⟨S4096, .i1⟩
  | 7 => ⟨S4096, .i1⟩
  | 8 => ⟨S4096, .i1⟩
  | 9 => ⟨S4096, .i32⟩
  | 10 => ⟨S4096, .i32⟩
  | 11 => ⟨S4096, .i32⟩
  | 12 => ⟨S4096, .f32⟩
  | 13 => ⟨S8, .f32⟩
  | 14 => ⟨S8, .f32⟩
  | 15 => ⟨S_, .f32⟩
  | 16 => ⟨S8, .f32⟩
  | 17 => ⟨S8, .f32⟩
  | 18 => ⟨S_, .f32⟩
  | 19 => ⟨S8, .f32⟩
  | 20 => ⟨S8, .f32⟩
  | 21 => ⟨S8x4096x8x16, .f32⟩
  | 22 => ⟨S8x4096x8x16, .f32⟩
  | 23 => ⟨S4096x1, .f32⟩
  | 24 => ⟨S1x8, .f32⟩
  | 25 => ⟨S4096x8, .f32⟩
  | 26 => ⟨S4096x8, .f32⟩
  | 27 => ⟨S4096x8, .f32⟩
  | 28 => ⟨S1x4096x1x8, .f32⟩
  | 29 => ⟨S1x4096x1x8, .f32⟩
  | 30 => ⟨S1x4096x1x8, .f32⟩
  | 31 => ⟨S8x4096x8x8, .f32⟩
  | 32 => ⟨S8x4096x8x8, .f32⟩
  | 33 => ⟨S8x4096x8x8, .f32⟩
  | 34 => ⟨S8x4096x8x8, .f32⟩
  | 35 => ⟨S8x4096x8x8, .f32⟩
  | 36 => ⟨S8x4096x8x8, .f32⟩
  | 37 => ⟨S8x4096x8x8, .f32⟩
  | 38 => ⟨S8x4096x8x8, .f32⟩
  | 39 => ⟨S8x4096x8x8, .f32⟩
  | 40 => ⟨S8x4096x8x8, .f32⟩
  | 41 => ⟨S8x4096x8x8, .f32⟩
  | 42 => ⟨S8x4096x8x8, .f32⟩
  | 43 => ⟨S8x4096x8x16, .f32⟩
  | 44 => ⟨S4096x1, .f32⟩
  | 45 => ⟨S1x8, .f32⟩
  | 46 => ⟨S4096x8, .f32⟩
  | 47 => ⟨S4096x8, .f32⟩
  | 48 => ⟨S4096x8, .f32⟩
  | 49 => ⟨S1x4096x1x8, .f32⟩
  | 50 => ⟨S1x4096x1x8, .f32⟩
  | 51 => ⟨S1x4096x1x8, .f32⟩
  | 52 => ⟨S8x4096x8x8, .f32⟩
  | 53 => ⟨S8x4096x8x8, .f32⟩
  | 54 => ⟨S8x4096x8x8, .f32⟩
  | 55 => ⟨S8x4096x8x8, .f32⟩
  | 56 => ⟨S8x4096x8x8, .f32⟩
  | 57 => ⟨S8x4096x8x8, .f32⟩
  | 58 => ⟨S8x4096x8x8, .f32⟩
  | 59 => ⟨S8x4096x8x8, .f32⟩
  | 60 => ⟨S8x4096x8x8, .f32⟩
  | 61 => ⟨S8x4096x8x8, .f32⟩
  | 62 => ⟨S8x4096x8x8, .f32⟩
  | 63 => ⟨S8x4096x8x8, .f32⟩
  | 64 => ⟨S8x4096x8x16, .f32⟩
  | 65 => ⟨S8x4096x8x32, .f32⟩
  | 66 => ⟨S8x4096x256, .f32⟩
  | 67 => ⟨S8x4096x256, .f32⟩
  | 68 => ⟨S8x4096x256, .f32⟩
  | 69 => ⟨S8x4096x768, .f32⟩
  | 70 => ⟨S8x4096x256, .f32⟩
  | 71 => ⟨S8x4096x256, .f32⟩
  | 72 => ⟨S8x4096x512, .f32⟩
  | 73 => ⟨S8x4096x256, .f32⟩
  | 74 => ⟨S8x4096x256, .f32⟩
  | 75 => ⟨S8x4096x768, .f32⟩
  | 76 => ⟨S32768x4096, .f32⟩
  | 77 => ⟨S32768x4096, .bf16⟩
  | 78 => ⟨S32768x256, .f32⟩
  | 79 => ⟨S32768x768, .f32⟩
  | 80 => ⟨S32768x768, .bf16⟩
  | 81 => ⟨S32768x512, .f32⟩
  | 82 => ⟨S32768x512, .bf16⟩
  | 83 => ⟨S32768x768, .f32⟩
  | 84 => ⟨S32768x768, .bf16⟩
  | _ => ⟨S32768x1024, .f32⟩

abbrev hbmTy (i : Nat) : BufTy := match i / 128 with
  | 0 => hbmTy0_0 i
  | 1 => hbmTy0_1 i
  | 2 => hbmTy0_2 i
  | 3 => hbmTy0_3 i
  | _ => ⟨S32768x1024, .f32⟩

abbrev bufTy : (tb : Table) → Fin (tcTables nBuf tb) → BufTy
  | .hbm, ⟨i, _⟩ => hbmTy i
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_cst_3 : Ref sig .tc := ⟨.hbm, 43, rfl⟩
abbrev main_v34 : Ref sig .tc := ⟨.hbm, 44, rfl⟩
abbrev main_v35 : Ref sig .tc := ⟨.hbm, 45, rfl⟩
abbrev main_cst_4 : Ref sig .tc := ⟨.hbm, 46, rfl⟩
abbrev main_v36 : Ref sig .tc := ⟨.hbm, 47, rfl⟩
abbrev main_v37 : Ref sig .tc := ⟨.hbm, 48, rfl⟩
abbrev main_cst_5 : Ref sig .tc := ⟨.hbm, 49, rfl⟩
abbrev main_v38 : Ref sig .tc := ⟨.hbm, 50, rfl⟩
abbrev main_cst_6 : Ref sig .tc := ⟨.hbm, 51, rfl⟩
abbrev main_v39 : Ref sig .tc := ⟨.hbm, 52, rfl⟩
abbrev main_v40 : Ref sig .tc := ⟨.hbm, 53, rfl⟩
abbrev main_cst_7 : Ref sig .tc := ⟨.hbm, 54, rfl⟩
abbrev main_v41 : Ref sig .tc := ⟨.hbm, 55, rfl⟩
abbrev main_cst_8 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_c : Ref sig .tc := ⟨.hbm, 61, rfl⟩
abbrev main_call0_v0 : Ref sig .tc := ⟨.hbm, 62, rfl⟩
abbrev main_call0_v1 : Ref sig .tc := ⟨.hbm, 63, rfl⟩
abbrev main_call0_v2 : Ref sig .tc := ⟨.hbm, 64, rfl⟩
abbrev main_call0_v3 : Ref sig .tc := ⟨.hbm, 65, rfl⟩
abbrev main_call0_v4 : Ref sig .tc := ⟨.hbm, 66, rfl⟩
abbrev main_call0_v5 : Ref sig .tc := ⟨.hbm, 67, rfl⟩
abbrev main_call0_v6 : Ref sig .tc := ⟨.hbm, 68, rfl⟩
abbrev main_call0_v7 : Ref sig .tc := ⟨.hbm, 69, rfl⟩
abbrev main_call0_v8 : Ref sig .tc := ⟨.hbm, 70, rfl⟩
abbrev main_call0_c : Ref sig .tc := ⟨.hbm, 71, rfl⟩
abbrev main_call0_v9 : Ref sig .tc := ⟨.hbm, 72, rfl⟩
abbrev main_call0_v10 : Ref sig .tc := ⟨.hbm, 73, rfl⟩
abbrev main_call0_v11 : Ref sig .tc := ⟨.hbm, 74, rfl⟩
abbrev main_call0_c_0 : Ref sig .tc := ⟨.hbm, 75, rfl⟩
abbrev main_call0_v12 : Ref sig .tc := ⟨.hbm, 76, rfl⟩
abbrev main_call0_v13 : Ref sig .tc := ⟨.hbm, 77, rfl⟩
abbrev main_v46 : Ref sig .tc := ⟨.hbm, 78, rfl⟩
abbrev main_v47 : Ref sig .tc := ⟨.hbm, 79, rfl⟩
abbrev main_c_9 : Ref sig .tc := ⟨.hbm, 80, rfl⟩
abbrev main_call1_v0 : Ref sig .tc := ⟨.hbm, 81, rfl⟩
abbrev main_call1_c : Ref sig .tc := ⟨.hbm, 82, rfl⟩
abbrev main_call1_v1 : Ref sig .tc := ⟨.hbm, 83, rfl⟩
abbrev main_call1_c_0 : Ref sig .tc := ⟨.hbm, 84, rfl⟩
abbrev main_call1_v2 : Ref sig .tc := ⟨.hbm, 85, rfl⟩
abbrev main_call1_v3 : Ref sig .tc := ⟨.hbm, 86, rfl⟩
abbrev main_call1_v4 : Ref sig .tc := ⟨.hbm, 87, rfl⟩
abbrev main_call1_c_1 : Ref sig .tc := ⟨.hbm, 88, rfl⟩
abbrev main_call1_v5 : Ref sig .tc := ⟨.hbm, 89, rfl⟩
abbrev main_call1_v6 : Ref sig .tc := ⟨.hbm, 90, rfl⟩
abbrev main_call1_c_2 : Ref sig .tc := ⟨.hbm, 91, rfl⟩
abbrev main_call1_v7 : Ref sig .tc := ⟨.hbm, 92, rfl⟩
abbrev main_call1_v8 : Ref sig .tc := ⟨.hbm, 93, rfl⟩
abbrev main_call1_c_3 : Ref sig .tc := ⟨.hbm, 94, rfl⟩
abbrev main_call1_v9 : Ref sig .tc := ⟨.hbm, 95, rfl⟩
abbrev main_call1_v10 : Ref sig .tc := ⟨.hbm, 96, rfl⟩
abbrev main_call1_v11 : Ref sig .tc := ⟨.hbm, 97, rfl⟩
abbrev main_call1_v12 : Ref sig .tc := ⟨.hbm, 98, rfl⟩
abbrev main_call1_v13 : Ref sig .tc := ⟨.hbm, 99, rfl⟩
abbrev main_call1_v14 : Ref sig .tc := ⟨.hbm, 100, rfl⟩
abbrev main_v48 : Ref sig .tc := ⟨.hbm, 101, rfl⟩
abbrev main_v49 : Ref sig .tc := ⟨.hbm, 102, rfl⟩
abbrev main_v50 : Ref sig .tc := ⟨.hbm, 103, rfl⟩
abbrev main_v51 : Ref sig .tc := ⟨.hbm, 104, rfl⟩
abbrev main_cst_10 : Ref sig .tc := ⟨.hbm, 105, rfl⟩
abbrev main_v52 : Ref sig .tc := ⟨.hbm, 106, rfl⟩
abbrev main_v53 : Ref sig .tc := ⟨.hbm, 107, rfl⟩
abbrev main_cst_11 : Ref sig .tc := ⟨.hbm, 108, rfl⟩
abbrev main_v54 : Ref sig .tc := ⟨.hbm, 109, rfl⟩
abbrev main_v55 : Ref sig .tc := ⟨.hbm, 110, rfl⟩
abbrev main_v56 : Ref sig .tc := ⟨.hbm, 111, rfl⟩
abbrev main_v57 : Ref sig .tc := ⟨.hbm, 112, rfl⟩
abbrev main_v58 : Ref sig .tc := ⟨.hbm, 113, rfl⟩
abbrev main_v59 : Ref sig .tc := ⟨.hbm, 114, rfl⟩
abbrev main_v60 : Ref sig .tc := ⟨.hbm, 115, rfl⟩
abbrev main_v61 : Ref sig .tc := ⟨.hbm, 116, rfl⟩
abbrev main_v62 : Ref sig .tc := ⟨.hbm, 117, rfl⟩
abbrev main_v63 : Ref sig .tc := ⟨.hbm, 118, rfl⟩
abbrev main_v64 : Ref sig .tc := ⟨.hbm, 119, rfl⟩
abbrev main_v65 : Ref sig .tc := ⟨.hbm, 120, rfl⟩
abbrev main_v66 : Ref sig .tc := ⟨.hbm, 121, rfl⟩
abbrev main_v67 : Ref sig .tc := ⟨.hbm, 122, rfl⟩
abbrev main_v68 : Ref sig .tc := ⟨.hbm, 123, rfl⟩
abbrev main_v69 : Ref sig .tc := ⟨.hbm, 124, rfl⟩
abbrev main_v70 : Ref sig .tc := ⟨.hbm, 125, rfl⟩
abbrev main_v71 : Ref sig .tc := ⟨.hbm, 126, rfl⟩
abbrev main_v72 : Ref sig .tc := ⟨.hbm, 127, rfl⟩
abbrev main_v73 : Ref sig .tc := ⟨.hbm, 128, rfl⟩
abbrev main_v74 : Ref sig .tc := ⟨.hbm, 129, rfl⟩
abbrev main_v75 : Ref sig .tc := ⟨.hbm, 130, rfl⟩
abbrev main_v76 : Ref sig .tc := ⟨.hbm, 131, rfl⟩
abbrev main_v77 : Ref sig .tc := ⟨.hbm, 132, rfl⟩
abbrev main_v78 : Ref sig .tc := ⟨.hbm, 133, rfl⟩
abbrev main_v79 : Ref sig .tc := ⟨.hbm, 134, rfl⟩
abbrev main_v80 : Ref sig .tc := ⟨.hbm, 135, rfl⟩
abbrev main_v81 : Ref sig .tc := ⟨.hbm, 136, rfl⟩
abbrev main_v82 : Ref sig .tc := ⟨.hbm, 137, rfl⟩
abbrev main_v83 : Ref sig .tc := ⟨.hbm, 138, rfl⟩
abbrev main_v84 : Ref sig .tc := ⟨.hbm, 139, rfl⟩
abbrev main_v85 : Ref sig .tc := ⟨.hbm, 140, rfl⟩
abbrev main_v86 : Ref sig .tc := ⟨.hbm, 141, rfl⟩
abbrev main_v87 : Ref sig .tc := ⟨.hbm, 142, rfl⟩
abbrev main_v88 : Ref sig .tc := ⟨.hbm, 143, rfl⟩
abbrev main_v89 : Ref sig .tc := ⟨.hbm, 144, rfl⟩
abbrev main_v90 : Ref sig .tc := ⟨.hbm, 145, rfl⟩
abbrev main_v91 : Ref sig .tc := ⟨.hbm, 146, rfl⟩
abbrev main_v92 : Ref sig .tc := ⟨.hbm, 147, rfl⟩
abbrev main_v93 : Ref sig .tc := ⟨.hbm, 148, rfl⟩
abbrev main_v94 : Ref sig .tc := ⟨.hbm, 149, rfl⟩
abbrev main_v95 : Ref sig .tc := ⟨.hbm, 150, rfl⟩
abbrev main_v96 : Ref sig .tc := ⟨.hbm, 151, rfl⟩
abbrev main_v97 : Ref sig .tc := ⟨.hbm, 152, rfl⟩
abbrev main_v98 : Ref sig .tc := ⟨.hbm, 153, rfl⟩
abbrev main_v99 : Ref sig .tc := ⟨.hbm, 154, rfl⟩
abbrev main_v100 : Ref sig .tc := ⟨.hbm, 155, rfl⟩
abbrev main_v101 : Ref sig .tc := ⟨.hbm, 156, rfl⟩
abbrev main_v102 : Ref sig .tc := ⟨.hbm, 157, rfl⟩
abbrev main_v103 : Ref sig .tc := ⟨.hbm, 158, rfl⟩
abbrev main_c_12 : Ref sig .tc := ⟨.hbm, 159, rfl⟩
abbrev main_call2_v0 : Ref sig .tc := ⟨.hbm, 160, rfl⟩
abbrev main_call2_v1 : Ref sig .tc := ⟨.hbm, 161, rfl⟩
abbrev main_call2_v2 : Ref sig .tc := ⟨.hbm, 162, rfl⟩
abbrev main_call2_v3 : Ref sig .tc := ⟨.hbm, 163, rfl⟩
abbrev main_call2_v4 : Ref sig .tc := ⟨.hbm, 164, rfl⟩
abbrev main_call2_v5 : Ref sig .tc := ⟨.hbm, 165, rfl⟩
abbrev main_call2_v6 : Ref sig .tc := ⟨.hbm, 166, rfl⟩
abbrev main_call2_v7 : Ref sig .tc := ⟨.hbm, 167, rfl⟩
abbrev main_call2_v8 : Ref sig .tc := ⟨.hbm, 168, rfl⟩
abbrev main_call2_c : Ref sig .tc := ⟨.hbm, 169, rfl⟩
abbrev main_call2_v9 : Ref sig .tc := ⟨.hbm, 170, rfl⟩
abbrev main_call2_v10 : Ref sig .tc := ⟨.hbm, 171, rfl⟩
abbrev main_call2_v11 : Ref sig .tc := ⟨.hbm, 172, rfl⟩
abbrev main_call2_c_0 : Ref sig .tc := ⟨.hbm, 173, rfl⟩
abbrev main_call2_v12 : Ref sig .tc := ⟨.hbm, 174, rfl⟩
abbrev main_call2_v13 : Ref sig .tc := ⟨.hbm, 175, rfl⟩
abbrev main_v104 : Ref sig .tc := ⟨.hbm, 176, rfl⟩
abbrev main_v105 : Ref sig .tc := ⟨.hbm, 177, rfl⟩
abbrev main_c_13 : Ref sig .tc := ⟨.hbm, 178, rfl⟩
abbrev main_call3_v0 : Ref sig .tc := ⟨.hbm, 179, rfl⟩
abbrev main_call3_c : Ref sig .tc := ⟨.hbm, 180, rfl⟩
abbrev main_call3_v1 : Ref sig .tc := ⟨.hbm, 181, rfl⟩
abbrev main_call3_c_0 : Ref sig .tc := ⟨.hbm, 182, rfl⟩
abbrev main_call3_v2 : Ref sig .tc := ⟨.hbm, 183, rfl⟩
abbrev main_call3_v3 : Ref sig .tc := ⟨.hbm, 184, rfl⟩
abbrev main_call3_v4 : Ref sig .tc := ⟨.hbm, 185, rfl⟩
abbrev main_call3_c_1 : Ref sig .tc := ⟨.hbm, 186, rfl⟩
abbrev main_call3_v5 : Ref sig .tc := ⟨.hbm, 187, rfl⟩
abbrev main_call3_v6 : Ref sig .tc := ⟨.hbm, 188, rfl⟩
abbrev main_call3_c_2 : Ref sig .tc := ⟨.hbm, 189, rfl⟩
abbrev main_call3_v7 : Ref sig .tc := ⟨.hbm, 190, rfl⟩
abbrev main_call3_v8 : Ref sig .tc := ⟨.hbm, 191, rfl⟩
abbrev main_call3_c_3 : Ref sig .tc := ⟨.hbm, 192, rfl⟩
abbrev main_call3_v9 : Ref sig .tc := ⟨.hbm, 193, rfl⟩
abbrev main_call3_v10 : Ref sig .tc := ⟨.hbm, 194, rfl⟩
abbrev main_call3_v11 : Ref sig .tc := ⟨.hbm, 195, rfl⟩
abbrev main_call3_v12 : Ref sig .tc := ⟨.hbm, 196, rfl⟩
abbrev main_call3_v13 : Ref sig .tc := ⟨.hbm, 197, rfl⟩
abbrev main_call3_v14 : Ref sig .tc := ⟨.hbm, 198, rfl⟩
abbrev main_v106 : Ref sig .tc := ⟨.hbm, 199, rfl⟩
abbrev main_v107 : Ref sig .tc := ⟨.hbm, 200, rfl⟩
abbrev main_v108 : Ref sig .tc := ⟨.hbm, 201, rfl⟩
abbrev main_v109 : Ref sig .tc := ⟨.hbm, 202, rfl⟩
abbrev main_cst_14 : Ref sig .tc := ⟨.hbm, 203, rfl⟩
abbrev main_v110 : Ref sig .tc := ⟨.hbm, 204, rfl⟩
abbrev main_v111 : Ref sig .tc := ⟨.hbm, 205, rfl⟩
abbrev main_cst_15 : Ref sig .tc := ⟨.hbm, 206, rfl⟩
abbrev main_v112 : Ref sig .tc := ⟨.hbm, 207, rfl⟩
abbrev main_v113 : Ref sig .tc := ⟨.hbm, 208, rfl⟩
abbrev main_v114 : Ref sig .tc := ⟨.hbm, 209, rfl⟩
abbrev main_v115 : Ref sig .tc := ⟨.hbm, 210, rfl⟩
abbrev main_v116 : Ref sig .tc := ⟨.hbm, 211, rfl⟩
abbrev main_v117 : Ref sig .tc := ⟨.hbm, 212, rfl⟩
abbrev main_v118 : Ref sig .tc := ⟨.hbm, 213, rfl⟩
abbrev main_v119 : Ref sig .tc := ⟨.hbm, 214, rfl⟩
abbrev main_v120 : Ref sig .tc := ⟨.hbm, 215, rfl⟩
abbrev main_v121 : Ref sig .tc := ⟨.hbm, 216, rfl⟩
abbrev main_v122 : Ref sig .tc := ⟨.hbm, 217, rfl⟩
abbrev main_v123 : Ref sig .tc := ⟨.hbm, 218, rfl⟩
abbrev main_v124 : Ref sig .tc := ⟨.hbm, 219, rfl⟩
abbrev main_v125 : Ref sig .tc := ⟨.hbm, 220, rfl⟩
abbrev main_v126 : Ref sig .tc := ⟨.hbm, 221, rfl⟩
abbrev main_v127 : Ref sig .tc := ⟨.hbm, 222, rfl⟩
abbrev main_v128 : Ref sig .tc := ⟨.hbm, 223, rfl⟩
abbrev main_v129 : Ref sig .tc := ⟨.hbm, 224, rfl⟩
abbrev main_v130 : Ref sig .tc := ⟨.hbm, 225, rfl⟩
abbrev main_v131 : Ref sig .tc := ⟨.hbm, 226, rfl⟩
abbrev main_v132 : Ref sig .tc := ⟨.hbm, 227, rfl⟩
abbrev main_v133 : Ref sig .tc := ⟨.hbm, 228, rfl⟩
abbrev main_v134 : Ref sig .tc := ⟨.hbm, 229, rfl⟩
abbrev main_v135 : Ref sig .tc := ⟨.hbm, 230, rfl⟩
abbrev main_v136 : Ref sig .tc := ⟨.hbm, 231, rfl⟩
abbrev main_v137 : Ref sig .tc := ⟨.hbm, 232, rfl⟩
abbrev main_v138 : Ref sig .tc := ⟨.hbm, 233, rfl⟩
abbrev main_v139 : Ref sig .tc := ⟨.hbm, 234, rfl⟩
abbrev main_v140 : Ref sig .tc := ⟨.hbm, 235, rfl⟩
abbrev main_v141 : Ref sig .tc := ⟨.hbm, 236, rfl⟩
abbrev main_v142 : Ref sig .tc := ⟨.hbm, 237, rfl⟩
abbrev main_v143 : Ref sig .tc := ⟨.hbm, 238, rfl⟩
abbrev main_v144 : Ref sig .tc := ⟨.hbm, 239, rfl⟩
abbrev main_v145 : Ref sig .tc := ⟨.hbm, 240, rfl⟩
abbrev main_v146 : Ref sig .tc := ⟨.hbm, 241, rfl⟩
abbrev main_v147 : Ref sig .tc := ⟨.hbm, 242, rfl⟩
abbrev main_v148 : Ref sig .tc := ⟨.hbm, 243, rfl⟩
abbrev main_v149 : Ref sig .tc := ⟨.hbm, 244, rfl⟩
abbrev main_v150 : Ref sig .tc := ⟨.hbm, 245, rfl⟩
abbrev main_v151 : Ref sig .tc := ⟨.hbm, 246, rfl⟩
abbrev main_v152 : Ref sig .tc := ⟨.hbm, 247, rfl⟩
abbrev main_v153 : Ref sig .tc := ⟨.hbm, 248, rfl⟩
abbrev main_v154 : Ref sig .tc := ⟨.hbm, 249, rfl⟩
abbrev main_v155 : Ref sig .tc := ⟨.hbm, 250, rfl⟩
abbrev main_v156 : Ref sig .tc := ⟨.hbm, 251, rfl⟩
abbrev main_v157 : Ref sig .tc := ⟨.hbm, 252, rfl⟩
abbrev main_v158 : Ref sig .tc := ⟨.hbm, 253, rfl⟩
abbrev main_v159 : Ref sig .tc := ⟨.hbm, 254, rfl⟩
abbrev main_v160 : Ref sig .tc := ⟨.hbm, 255, rfl⟩
abbrev main_v161 : Ref sig .tc := ⟨.hbm, 256, rfl⟩
abbrev main_c_16 : Ref sig .tc := ⟨.hbm, 257, rfl⟩
abbrev main_call4_v0 : Ref sig .tc := ⟨.hbm, 258, rfl⟩
abbrev main_call4_v1 : Ref sig .tc := ⟨.hbm, 259, rfl⟩
abbrev main_call4_v2 : Ref sig .tc := ⟨.hbm, 260, rfl⟩
abbrev main_call4_v3 : Ref sig .tc := ⟨.hbm, 261, rfl⟩
abbrev main_call4_v4 : Ref sig .tc := ⟨.hbm, 262, rfl⟩
abbrev main_call4_v5 : Ref sig .tc := ⟨.hbm, 263, rfl⟩
abbrev main_call4_v6 : Ref sig .tc := ⟨.hbm, 264, rfl⟩
abbrev main_call4_v7 : Ref sig .tc := ⟨.hbm, 265, rfl⟩
abbrev main_call4_v8 : Ref sig .tc := ⟨.hbm, 266, rfl⟩
abbrev main_call4_c : Ref sig .tc := ⟨.hbm, 267, rfl⟩
abbrev main_call4_v9 : Ref sig .tc := ⟨.hbm, 268, rfl⟩
abbrev main_call4_v10 : Ref sig .tc := ⟨.hbm, 269, rfl⟩
abbrev main_call4_v11 : Ref sig .tc := ⟨.hbm, 270, rfl⟩
abbrev main_call4_c_0 : Ref sig .tc := ⟨.hbm, 271, rfl⟩
abbrev main_call4_v12 : Ref sig .tc := ⟨.hbm, 272, rfl⟩
abbrev main_call4_v13 : Ref sig .tc := ⟨.hbm, 273, rfl⟩
abbrev main_v162 : Ref sig .tc := ⟨.hbm, 274, rfl⟩
abbrev main_v163 : Ref sig .tc := ⟨.hbm, 275, rfl⟩
abbrev main_c_17 : Ref sig .tc := ⟨.hbm, 276, rfl⟩
abbrev main_call5_v0 : Ref sig .tc := ⟨.hbm, 277, rfl⟩
abbrev main_call5_c : Ref sig .tc := ⟨.hbm, 278, rfl⟩
abbrev main_call5_v1 : Ref sig .tc := ⟨.hbm, 279, rfl⟩
abbrev main_call5_c_0 : Ref sig .tc := ⟨.hbm, 280, rfl⟩
abbrev main_call5_v2 : Ref sig .tc := ⟨.hbm, 281, rfl⟩
abbrev main_call5_v3 : Ref sig .tc := ⟨.hbm, 282, rfl⟩
abbrev main_call5_v4 : Ref sig .tc := ⟨.hbm, 283, rfl⟩
abbrev main_call5_c_1 : Ref sig .tc := ⟨.hbm, 284, rfl⟩
abbrev main_call5_v5 : Ref sig .tc := ⟨.hbm, 285, rfl⟩
abbrev main_call5_v6 : Ref sig .tc := ⟨.hbm, 286, rfl⟩
abbrev main_call5_c_2 : Ref sig .tc := ⟨.hbm, 287, rfl⟩
abbrev main_call5_v7 : Ref sig .tc := ⟨.hbm, 288, rfl⟩
abbrev main_call5_v8 : Ref sig .tc := ⟨.hbm, 289, rfl⟩
abbrev main_call5_c_3 : Ref sig .tc := ⟨.hbm, 290, rfl⟩
abbrev main_call5_v9 : Ref sig .tc := ⟨.hbm, 291, rfl⟩
abbrev main_call5_v10 : Ref sig .tc := ⟨.hbm, 292, rfl⟩
abbrev main_call5_v11 : Ref sig .tc := ⟨.hbm, 293, rfl⟩
abbrev main_call5_v12 : Ref sig .tc := ⟨.hbm, 294, rfl⟩
abbrev main_call5_v13 : Ref sig .tc := ⟨.hbm, 295, rfl⟩
abbrev main_call5_v14 : Ref sig .tc := ⟨.hbm, 296, rfl⟩
abbrev main_v164 : Ref sig .tc := ⟨.hbm, 297, rfl⟩
abbrev main_v165 : Ref sig .tc := ⟨.hbm, 298, rfl⟩
abbrev main_v166 : Ref sig .tc := ⟨.hbm, 299, rfl⟩
abbrev main_v167 : Ref sig .tc := ⟨.hbm, 300, rfl⟩
abbrev main_cst_18 : Ref sig .tc := ⟨.hbm, 301, rfl⟩
abbrev main_v168 : Ref sig .tc := ⟨.hbm, 302, rfl⟩
abbrev main_v169 : Ref sig .tc := ⟨.hbm, 303, rfl⟩
abbrev main_cst_19 : Ref sig .tc := ⟨.hbm, 304, rfl⟩
abbrev main_v170 : Ref sig .tc := ⟨.hbm, 305, rfl⟩
abbrev main_v171 : Ref sig .tc := ⟨.hbm, 306, rfl⟩
abbrev main_v172 : Ref sig .tc := ⟨.hbm, 307, rfl⟩
abbrev main_v173 : Ref sig .tc := ⟨.hbm, 308, rfl⟩
abbrev main_v174 : Ref sig .tc := ⟨.hbm, 309, rfl⟩
abbrev main_v175 : Ref sig .tc := ⟨.hbm, 310, rfl⟩
abbrev main_v176 : Ref sig .tc := ⟨.hbm, 311, rfl⟩
abbrev main_v177 : Ref sig .tc := ⟨.hbm, 312, rfl⟩
abbrev main_v178 : Ref sig .tc := ⟨.hbm, 313, rfl⟩
abbrev main_v179 : Ref sig .tc := ⟨.hbm, 314, rfl⟩
abbrev main_v180 : Ref sig .tc := ⟨.hbm, 315, rfl⟩
abbrev main_v181 : Ref sig .tc := ⟨.hbm, 316, rfl⟩
abbrev main_v182 : Ref sig .tc := ⟨.hbm, 317, rfl⟩
abbrev main_v183 : Ref sig .tc := ⟨.hbm, 318, rfl⟩
abbrev main_v184 : Ref sig .tc := ⟨.hbm, 319, rfl⟩
abbrev main_v185 : Ref sig .tc := ⟨.hbm, 320, rfl⟩
abbrev main_v186 : Ref sig .tc := ⟨.hbm, 321, rfl⟩
abbrev main_v187 : Ref sig .tc := ⟨.hbm, 322, rfl⟩
abbrev main_v188 : Ref sig .tc := ⟨.hbm, 323, rfl⟩
abbrev main_v189 : Ref sig .tc := ⟨.hbm, 324, rfl⟩
abbrev main_v190 : Ref sig .tc := ⟨.hbm, 325, rfl⟩
abbrev main_v191 : Ref sig .tc := ⟨.hbm, 326, rfl⟩
abbrev main_v192 : Ref sig .tc := ⟨.hbm, 327, rfl⟩
abbrev main_v193 : Ref sig .tc := ⟨.hbm, 328, rfl⟩
abbrev main_v194 : Ref sig .tc := ⟨.hbm, 329, rfl⟩
abbrev main_v195 : Ref sig .tc := ⟨.hbm, 330, rfl⟩
abbrev main_v196 : Ref sig .tc := ⟨.hbm, 331, rfl⟩
abbrev main_v197 : Ref sig .tc := ⟨.hbm, 332, rfl⟩
abbrev main_v198 : Ref sig .tc := ⟨.hbm, 333, rfl⟩
abbrev main_v199 : Ref sig .tc := ⟨.hbm, 334, rfl⟩
abbrev main_v200 : Ref sig .tc := ⟨.hbm, 335, rfl⟩
abbrev main_v201 : Ref sig .tc := ⟨.hbm, 336, rfl⟩
abbrev main_v202 : Ref sig .tc := ⟨.hbm, 337, rfl⟩
abbrev main_v203 : Ref sig .tc := ⟨.hbm, 338, rfl⟩
abbrev main_v204 : Ref sig .tc := ⟨.hbm, 339, rfl⟩
abbrev main_v205 : Ref sig .tc := ⟨.hbm, 340, rfl⟩
abbrev main_v206 : Ref sig .tc := ⟨.hbm, 341, rfl⟩
abbrev main_v207 : Ref sig .tc := ⟨.hbm, 342, rfl⟩
abbrev main_v208 : Ref sig .tc := ⟨.hbm, 343, rfl⟩
abbrev main_v209 : Ref sig .tc := ⟨.hbm, 344, rfl⟩
abbrev main_v210 : Ref sig .tc := ⟨.hbm, 345, rfl⟩
abbrev main_v211 : Ref sig .tc := ⟨.hbm, 346, rfl⟩
abbrev main_v212 : Ref sig .tc := ⟨.hbm, 347, rfl⟩
abbrev main_v213 : Ref sig .tc := ⟨.hbm, 348, rfl⟩
abbrev main_v214 : Ref sig .tc := ⟨.hbm, 349, rfl⟩
abbrev main_v215 : Ref sig .tc := ⟨.hbm, 350, rfl⟩
abbrev main_v216 : Ref sig .tc := ⟨.hbm, 351, rfl⟩
abbrev main_v217 : Ref sig .tc := ⟨.hbm, 352, rfl⟩
abbrev main_v218 : Ref sig .tc := ⟨.hbm, 353, rfl⟩
abbrev main_v219 : Ref sig .tc := ⟨.hbm, 354, rfl⟩
abbrev main_c_20 : Ref sig .tc := ⟨.hbm, 355, rfl⟩
abbrev main_call6_v0 : Ref sig .tc := ⟨.hbm, 356, rfl⟩
abbrev main_call6_v1 : Ref sig .tc := ⟨.hbm, 357, rfl⟩
abbrev main_call6_v2 : Ref sig .tc := ⟨.hbm, 358, rfl⟩
abbrev main_call6_v3 : Ref sig .tc := ⟨.hbm, 359, rfl⟩
abbrev main_call6_v4 : Ref sig .tc := ⟨.hbm, 360, rfl⟩
abbrev main_call6_v5 : Ref sig .tc := ⟨.hbm, 361, rfl⟩
abbrev main_call6_v6 : Ref sig .tc := ⟨.hbm, 362, rfl⟩
abbrev main_call6_v7 : Ref sig .tc := ⟨.hbm, 363, rfl⟩
abbrev main_call6_v8 : Ref sig .tc := ⟨.hbm, 364, rfl⟩
abbrev main_call6_c : Ref sig .tc := ⟨.hbm, 365, rfl⟩
abbrev main_call6_v9 : Ref sig .tc := ⟨.hbm, 366, rfl⟩
abbrev main_call6_v10 : Ref sig .tc := ⟨.hbm, 367, rfl⟩
abbrev main_call6_v11 : Ref sig .tc := ⟨.hbm, 368, rfl⟩
abbrev main_call6_c_0 : Ref sig .tc := ⟨.hbm, 369, rfl⟩
abbrev main_call6_v12 : Ref sig .tc := ⟨.hbm, 370, rfl⟩
abbrev main_call6_v13 : Ref sig .tc := ⟨.hbm, 371, rfl⟩
abbrev main_v220 : Ref sig .tc := ⟨.hbm, 372, rfl⟩
abbrev main_v221 : Ref sig .tc := ⟨.hbm, 373, rfl⟩
abbrev main_c_21 : Ref sig .tc := ⟨.hbm, 374, rfl⟩
abbrev main_call7_v0 : Ref sig .tc := ⟨.hbm, 375, rfl⟩
abbrev main_call7_c : Ref sig .tc := ⟨.hbm, 376, rfl⟩
abbrev main_call7_v1 : Ref sig .tc := ⟨.hbm, 377, rfl⟩
abbrev main_call7_c_0 : Ref sig .tc := ⟨.hbm, 378, rfl⟩
abbrev main_call7_v2 : Ref sig .tc := ⟨.hbm, 379, rfl⟩
abbrev main_call7_v3 : Ref sig .tc := ⟨.hbm, 380, rfl⟩
abbrev main_call7_v4 : Ref sig .tc := ⟨.hbm, 381, rfl⟩
abbrev main_call7_c_1 : Ref sig .tc := ⟨.hbm, 382, rfl⟩
abbrev main_call7_v5 : Ref sig .tc := ⟨.hbm, 383, rfl⟩
abbrev main_call7_v6 : Ref sig .tc := ⟨.hbm, 384, rfl⟩
abbrev main_call7_c_2 : Ref sig .tc := ⟨.hbm, 385, rfl⟩
abbrev main_call7_v7 : Ref sig .tc := ⟨.hbm, 386, rfl⟩
abbrev main_call7_v8 : Ref sig .tc := ⟨.hbm, 387, rfl⟩
abbrev main_call7_c_3 : Ref sig .tc := ⟨.hbm, 388, rfl⟩
abbrev main_call7_v9 : Ref sig .tc := ⟨.hbm, 389, rfl⟩
abbrev main_call7_v10 : Ref sig .tc := ⟨.hbm, 390, rfl⟩
abbrev main_call7_v11 : Ref sig .tc := ⟨.hbm, 391, rfl⟩
abbrev main_call7_v12 : Ref sig .tc := ⟨.hbm, 392, rfl⟩
abbrev main_call7_v13 : Ref sig .tc := ⟨.hbm, 393, rfl⟩
abbrev main_call7_v14 : Ref sig .tc := ⟨.hbm, 394, rfl⟩
abbrev main_v222 : Ref sig .tc := ⟨.hbm, 395, rfl⟩
abbrev main_v223 : Ref sig .tc := ⟨.hbm, 396, rfl⟩
abbrev main_v224 : Ref sig .tc := ⟨.hbm, 397, rfl⟩
abbrev main_v225 : Ref sig .tc := ⟨.hbm, 398, rfl⟩
abbrev main_cst_22 : Ref sig .tc := ⟨.hbm, 399, rfl⟩
abbrev main_v226 : Ref sig .tc := ⟨.hbm, 400, rfl⟩
abbrev main_v227 : Ref sig .tc := ⟨.hbm, 401, rfl⟩
abbrev main_cst_23 : Ref sig .tc := ⟨.hbm, 402, rfl⟩
abbrev main_v228 : Ref sig .tc := ⟨.hbm, 403, rfl⟩
abbrev main_v229 : Ref sig .tc := ⟨.hbm, 404, rfl⟩
abbrev main_v230 : Ref sig .tc := ⟨.hbm, 405, rfl⟩
abbrev main_v231 : Ref sig .tc := ⟨.hbm, 406, rfl⟩
abbrev main_v232 : Ref sig .tc := ⟨.hbm, 407, rfl⟩
abbrev main_v233 : Ref sig .tc := ⟨.hbm, 408, rfl⟩
abbrev main_v234 : Ref sig .tc := ⟨.hbm, 409, rfl⟩
abbrev main_v235 : Ref sig .tc := ⟨.hbm, 410, rfl⟩
abbrev main_v236 : Ref sig .tc := ⟨.hbm, 411, rfl⟩
abbrev main_v237 : Ref sig .tc := ⟨.hbm, 412, rfl⟩
abbrev main_v238 : Ref sig .tc := ⟨.hbm, 413, rfl⟩
abbrev main_v239 : Ref sig .tc := ⟨.hbm, 414, rfl⟩
abbrev main_v240 : Ref sig .tc := ⟨.hbm, 415, rfl⟩
abbrev main_v241 : Ref sig .tc := ⟨.hbm, 416, rfl⟩
abbrev main_v242 : Ref sig .tc := ⟨.hbm, 417, rfl⟩
abbrev main_v243 : Ref sig .tc := ⟨.hbm, 418, rfl⟩
abbrev main_v244 : Ref sig .tc := ⟨.hbm, 419, rfl⟩
abbrev main_v245 : Ref sig .tc := ⟨.hbm, 420, rfl⟩
abbrev main_v246 : Ref sig .tc := ⟨.hbm, 421, rfl⟩
abbrev main_v247 : Ref sig .tc := ⟨.hbm, 422, rfl⟩
abbrev main_v248 : Ref sig .tc := ⟨.hbm, 423, rfl⟩
abbrev main_v249 : Ref sig .tc := ⟨.hbm, 424, rfl⟩
abbrev main_v250 : Ref sig .tc := ⟨.hbm, 425, rfl⟩
abbrev main_v251 : Ref sig .tc := ⟨.hbm, 426, rfl⟩
abbrev main_v252 : Ref sig .tc := ⟨.hbm, 427, rfl⟩
abbrev main_v253 : Ref sig .tc := ⟨.hbm, 428, rfl⟩
abbrev main_v254 : Ref sig .tc := ⟨.hbm, 429, rfl⟩
abbrev main_v255 : Ref sig .tc := ⟨.hbm, 430, rfl⟩
abbrev main_v256 : Ref sig .tc := ⟨.hbm, 431, rfl⟩
abbrev main_v257 : Ref sig .tc := ⟨.hbm, 432, rfl⟩
abbrev main_v258 : Ref sig .tc := ⟨.hbm, 433, rfl⟩
abbrev main_v259 : Ref sig .tc := ⟨.hbm, 434, rfl⟩
abbrev main_v260 : Ref sig .tc := ⟨.hbm, 435, rfl⟩
abbrev main_v261 : Ref sig .tc := ⟨.hbm, 436, rfl⟩
abbrev main_v262 : Ref sig .tc := ⟨.hbm, 437, rfl⟩
abbrev main_v263 : Ref sig .tc := ⟨.hbm, 438, rfl⟩
abbrev main_v264 : Ref sig .tc := ⟨.hbm, 439, rfl⟩
abbrev main_v265 : Ref sig .tc := ⟨.hbm, 440, rfl⟩
abbrev main_v266 : Ref sig .tc := ⟨.hbm, 441, rfl⟩
abbrev main_v267 : Ref sig .tc := ⟨.hbm, 442, rfl⟩
abbrev main_v268 : Ref sig .tc := ⟨.hbm, 443, rfl⟩
abbrev main_v269 : Ref sig .tc := ⟨.hbm, 444, rfl⟩
abbrev main_v270 : Ref sig .tc := ⟨.hbm, 445, rfl⟩
abbrev main_v271 : Ref sig .tc := ⟨.hbm, 446, rfl⟩
abbrev main_v272 : Ref sig .tc := ⟨.hbm, 447, rfl⟩
abbrev main_v273 : Ref sig .tc := ⟨.hbm, 448, rfl⟩
abbrev main_v274 : Ref sig .tc := ⟨.hbm, 449, rfl⟩
abbrev main_v275 : Ref sig .tc := ⟨.hbm, 450, rfl⟩
abbrev main_v276 : Ref sig .tc := ⟨.hbm, 451, rfl⟩
abbrev main_v277 : Ref sig .tc := ⟨.hbm, 452, rfl⟩
abbrev main_v278 : Ref sig .tc := ⟨.hbm, 453, rfl⟩
abbrev main_v279 : Ref sig .tc := ⟨.hbm, 454, rfl⟩
abbrev main_v280 : Ref sig .tc := ⟨.hbm, 455, rfl⟩
abbrev main_v281 : Ref sig .tc := ⟨.hbm, 456, rfl⟩
abbrev main_v282 : Ref sig .tc := ⟨.hbm, 457, rfl⟩
abbrev main_v283 : Ref sig .tc := ⟨.hbm, 458, rfl⟩
abbrev main_v284 : Ref sig .tc := ⟨.hbm, 459, rfl⟩
abbrev main_v285 : Ref sig .tc := ⟨.hbm, 460, rfl⟩
abbrev main_v286 : Ref sig .tc := ⟨.hbm, 461, rfl⟩
abbrev main_v287 : Ref sig .tc := ⟨.hbm, 462, rfl⟩
abbrev main_v288 : Ref sig .tc := ⟨.hbm, 463, rfl⟩
abbrev main_v289 : Ref sig .tc := ⟨.hbm, 464, rfl⟩
abbrev main_v290 : Ref sig .tc := ⟨.hbm, 465, rfl⟩
abbrev main_v291 : Ref sig .tc := ⟨.hbm, 466, rfl⟩
abbrev main_v292 : Ref sig .tc := ⟨.hbm, 467, rfl⟩
abbrev main_v293 : Ref sig .tc := ⟨.hbm, 468, rfl⟩

abbrev nD : Nat := 1
abbrev τ : Topo := Topo.v7x

variable {F : FTy → Type} [FloatOps F]
-- ==== Kernel3.lean ====
abbrev S32768x256 : Shape := ⟨2, ![32768, 256]⟩
abbrev S2x8x4352x256 : Shape := ⟨4, ![2, 8, 4352, 256]⟩
abbrev S256 : Shape := ⟨1, ![256]⟩
abbrev S256x256 : Shape := ⟨2, ![256, 256]⟩
abbrev S32768x4096 : Shape := ⟨2, ![32768, 4096]⟩
abbrev S4x256x1024 : Shape := ⟨3, ![4, 256, 1024]⟩
abbrev S1024x1024 : Shape := ⟨2, ![1024, 1024]⟩
abbrev S32768x1024 : Shape := ⟨2, ![32768, 1024]⟩
abbrev S8x1x1024 : Shape := ⟨3, ![8, 1, 1024]⟩
abbrev S1024 : Shape := ⟨1, ![1024]⟩
abbrev S1024x64 : Shape := ⟨2, ![1024, 64]⟩
abbrev S1x256 : Shape := ⟨2, ![1, 256]⟩
abbrev S1x1024 : Shape := ⟨2, ![1, 1024]⟩
abbrev S64x1024 : Shape := ⟨2, ![64, 1024]⟩
abbrev S65536x512 : Shape := ⟨2, ![65536, 512]⟩
abbrev S64x32768 : Shape := ⟨2, ![64, 32768]⟩
abbrev S512x256 : Shape := ⟨2, ![512, 256]⟩
abbrev S1x1x512x256 : Shape := ⟨4, ![1, 1, 512, 256]⟩
abbrev S512x4096 : Shape := ⟨2, ![512, 4096]⟩
abbrev S512x1024 : Shape := ⟨2, ![512, 1024]⟩
abbrev S1x1x1024 : Shape := ⟨3, ![1, 1, 1024]⟩
abbrev S1024x512 : Shape := ⟨2, ![1024, 512]⟩
abbrev S64x512 : Shape := ⟨2, ![64, 512]⟩
abbrev S1x256x1024 : Shape := ⟨3, ![1, 256, 1024]⟩
abbrev S256x1024 : Shape := ⟨2, ![256, 1024]⟩
abbrev S512 : Shape := ⟨1, ![512]⟩
abbrev S512x1 : Shape := ⟨2, ![512, 1]⟩
abbrev S512x512 : Shape := ⟨2, ![512, 512]⟩

abbrev nBuf : Space → Nat
  | .hbm => 28
  | .vmem => 37
  | .smem => 0
  | _ => 0

abbrev bufTy : (tb : Table) → Fin (tcTables nBuf tb) → BufTy
  | .hbm, ⟨0, _⟩ => ⟨S32768x256, .f32⟩
  | .hbm, ⟨1, _⟩ => ⟨S2x8x4352x256, .f32⟩
  | .hbm, ⟨2, _⟩ => ⟨S256, .f32⟩
  | .hbm, ⟨3, _⟩ => ⟨S256x256, .f32⟩
  | .hbm, ⟨4, _⟩ => ⟨S256, .f32⟩
  | .hbm, ⟨5, _⟩ => ⟨S32768x256, .bf16⟩
  | .hbm, ⟨6, _⟩ => ⟨S32768x256, .bf16⟩
  | .hbm, ⟨7, _⟩ => ⟨S32768x256, .bf16⟩
  | .hbm, ⟨8, _⟩ => ⟨S32768x4096, .bf16⟩
  | .hbm, ⟨9, _⟩ => ⟨S4x256x1024, .f32⟩
  | .hbm, ⟨10, _⟩ => ⟨S1024x1024, .f32⟩
  | .hbm, ⟨11, _⟩ => ⟨S32768x1024, .f32⟩
  | .hbm, ⟨12, _⟩ => ⟨S8x1x1024, .f32⟩
  | .hbm, ⟨13, _⟩ => ⟨S1024, .f32⟩
  | .hbm, ⟨14, _⟩ => ⟨S8x1x1024, .f32⟩
  | .hbm, ⟨15, _⟩ => ⟨S8x1x1024, .f32⟩
  | .hbm, ⟨16, _⟩ => ⟨S1024x64, .f32⟩
  | .hbm, ⟨17, _⟩ => ⟨S1x256, .f32⟩
  | .hbm, ⟨18, _⟩ => ⟨S256x256, .bf16⟩
  | .hbm, ⟨19, _⟩ => ⟨S1x256, .f32⟩
  | .hbm, ⟨20, _⟩ => ⟨S4x256x1024, .bf16⟩
  | .hbm, ⟨21, _⟩ => ⟨S1024x1024, .bf16⟩
  | .hbm, ⟨22, _⟩ => ⟨S1x1024, .f32⟩
  | .hbm, ⟨23, _⟩ => ⟨S64x1024, .f32⟩
  | .hbm, ⟨24, _⟩ => ⟨S32768x1024, .f32⟩
  | .hbm, ⟨25, _⟩ => ⟨S32768x1024, .bf16⟩
  | .hbm, ⟨26, _⟩ => ⟨S65536x512, .bf16⟩
  | .hbm, ⟨27, _⟩ => ⟨S64x32768, .f32⟩
  | .local _ .vmem, ⟨0, _⟩ => ⟨S512x256, .f32⟩
  | .local _ .vmem, ⟨1, _⟩ => ⟨S512x256, .f32⟩
  | .local _ .vmem, ⟨2, _⟩ => ⟨S1x1x512x256, .f32⟩
  | .local _ .vmem, ⟨3, _⟩ => ⟨S1x1x512x256, .f32⟩
  | .local _ .vmem, ⟨4, _⟩ => ⟨S1x1x512x256, .f32⟩
  | .local _ .vmem, ⟨5, _⟩ => ⟨S1x1x512x256, .f32⟩
  | .local _ .vmem, ⟨6, _⟩ => ⟨S1x256, .f32⟩
  | .local _ .vmem, ⟨7, _⟩ => ⟨S256x256, .bf16⟩
  | .local _ .vmem, ⟨8, _⟩ => ⟨S1x256, .f32⟩
  | .local _ .vmem, ⟨9, _⟩ => ⟨S512x256, .bf16⟩
  | .local _ .vmem, ⟨10, _⟩ => ⟨S512x256, .bf16⟩
  | .local _ .vmem, ⟨11, _⟩ => ⟨S512x256, .bf16⟩
  | .local _ .vmem, ⟨12, _⟩ => ⟨S512x256, .bf16⟩
  | .local _ .vmem, ⟨13, _⟩ => ⟨S512x256, .bf16⟩
  | .local _ .vmem, ⟨14, _⟩ => ⟨S512x256, .bf16⟩
  | .local _ .vmem, ⟨15, _⟩ => ⟨S512x4096, .bf16⟩
  | .local _ .vmem, ⟨16, _⟩ => ⟨S512x4096, .bf16⟩
  | .local _ .vmem, ⟨17, _⟩ => ⟨S4x256x1024, .bf16⟩
  | .local _ .vmem, ⟨18, _⟩ => ⟨S1024x1024, .bf16⟩
  | .local _ .vmem, ⟨19, _⟩ => ⟨S512x1024, .f32⟩
  | .local _ .vmem, ⟨20, _⟩ => ⟨S512x1024, .f32⟩
  | .local _ .vmem, ⟨21, _⟩ => ⟨S1x1x1024, .f32⟩
  | .local _ .vmem, ⟨22, _⟩ => ⟨S1x1x1024, .f32⟩
  | .local _ .vmem, ⟨23, _⟩ => ⟨S1x1024, .f32⟩
  | .local _ .vmem, ⟨24, _⟩ => ⟨S1x1x1024, .f32⟩
  | .local _ .vmem, ⟨25, _⟩ => ⟨S1x1x1024, .f32⟩
  | .local _ .vmem, ⟨26, _⟩ => ⟨S1x1x1024, .f32⟩
  | .local _ .vmem, ⟨27, _⟩ => ⟨S1x1x1024, .f32⟩
  | .local _ .vmem, ⟨28, _⟩ => ⟨S64x1024, .f32⟩
  | .local _ .vmem, ⟨29, _⟩ => ⟨S512x1024, .f32⟩
  | .local _ .vmem, ⟨30, _⟩ => ⟨S512x1024, .f32⟩
  | .local _ .vmem, ⟨31, _⟩ => ⟨S512x1024, .bf16⟩
  | .local _ .vmem, ⟨32, _⟩ => ⟨S512x1024, .bf16⟩
  | .local _ .vmem, ⟨33, _⟩ => ⟨S1024x512, .bf16⟩
  | .local _ .vmem, ⟨34, _⟩ => ⟨S1024x512, .bf16⟩
  | .local _ .vmem, ⟨35, _⟩ => ⟨S64x512, .f32⟩
  | .local _ .vmem, ⟨36, _⟩ => ⟨S64x512, .f32⟩
  | _, _ => ⟨S32768x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7_0 : Ref sig .tc := ⟨.hbm, 24, rfl⟩
abbrev main_v7_1 : Ref sig .tc := ⟨.hbm, 25, rfl⟩
abbrev main_v7_2 : Ref sig .tc := ⟨.hbm, 26, rfl⟩
abbrev main_v7_3 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg15_0 : Ref sig .tc := ⟨.vmem, 24, rfl⟩
abbrev cc0_stg15_1 : Ref sig .tc := ⟨.vmem, 25, rfl⟩
abbrev cc0_stg16_0 : Ref sig .tc := ⟨.vmem, 26, rfl⟩
abbrev cc0_stg16_1 : Ref sig .tc := ⟨.vmem, 27, rfl⟩
abbrev cc0_stg17_0 : Ref sig .tc := ⟨.vmem, 28, rfl⟩
abbrev cc0_stg18_0 : Ref sig .tc := ⟨.vmem, 29, rfl⟩
abbrev cc0_stg18_1 : Ref sig .tc := ⟨.vmem, 30, rfl⟩
abbrev cc0_stg19_0 : Ref sig .tc := ⟨.vmem, 31, rfl⟩
abbrev cc0_stg19_1 : Ref sig .tc := ⟨.vmem, 32, rfl⟩
abbrev cc0_stg20_0 : Ref sig .tc := ⟨.vmem, 33, rfl⟩
abbrev cc0_stg20_1 : Ref sig .tc := ⟨.vmem, 34, rfl⟩
abbrev cc0_stg21_0 : Ref sig .tc := ⟨.vmem, 35, rfl⟩
abbrev cc0_stg21_1 : Ref sig .tc := ⟨.vmem, 36, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem11_0 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem15_0 : DmaSem sig := 24
abbrev cc0_sem15_1 : DmaSem sig := 25
abbrev cc0_sem16_0 : DmaSem sig := 26
abbrev cc0_sem16_1 : DmaSem sig := 27
abbrev cc0_sem17_0 : DmaSem sig := 28
abbrev cc0_sem18_0 : DmaSem sig := 29
abbrev cc0_sem18_1 : DmaSem sig := 30
abbrev cc0_sem19_0 : DmaSem sig := 31
abbrev cc0_sem19_1 : DmaSem sig := 32
abbrev cc0_sem20_0 : DmaSem sig := 33
abbrev cc0_sem20_1 : DmaSem sig := 34
abbrev cc0_sem21_0 : DmaSem sig := 35
abbrev cc0_sem21_1 : DmaSem sig := 36

abbrev nD : Nat := 1
abbrev τ : Topo := Topo.v7x

variable {F : FTy → Type} [BitOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let v27 : BitVec 32 := Scalar.addi c0_i32_10 v26
  let c0_i32_11 : BitVec 32 := 0#32
  let c0_i32_12 : BitVec 32 := 0#32
  let c0_i32_13 : BitVec 32 := 0#32
  ![c0_i32_11.toNat, v16.toNat, v27.toNat, c0_i32_12.toNat]

def cc0_transform_2 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let v27 : BitVec 32 := Scalar.addi c0_i32_10 v26
  let c1_i32_11 : BitVec 32 := 1#32
  let c0_i32_12 : BitVec 32 := 0#32
  let c0_i32_13 : BitVec 32 := 0#32
  ![c1_i32_11.toNat, v16.toNat, v27.toNat, c0_i32_12.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 3 → Nat :=
  let arg0 : BitVec 32 := BitVec.ofNat 32 (i 0).val
  let c512_i32 : BitVec 32 := 512#32
  let v0 : BitVec 32 := Scalar.muli arg0 c512_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 3 → Nat :=
  let arg0 : BitVec 32 := BitVec.ofNat 32 (i 0).val
  let c512_i32 : BitVec 32 := 512#32
  let v0 : BitVec 32 := Scalar.muli arg0 c512_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_16 (i : grid0.Coords) : Fin 3 → Nat :=
  let arg0 : BitVec 32 := BitVec.ofNat 32 (i 0).val
  let c512_i32 : BitVec 32 := 512#32
  let v0 : BitVec 32 := Scalar.muli arg0 c512_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x4096 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S4x256x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x1x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S1x1x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1x1x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 1 → Memref sig .tc .vmem S64x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 2 → Memref sig .tc .vmem S512x1024 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S512x1024 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S1024x512 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S64x512 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]
-- ==== Kernel3Ideal.lean ====
variable {F : FTy → Type} [FloatOps F]
-- ==== Reference3Ideal.lean ====
abbrev S32768x256 : Shape := ⟨2, ![32768, 256]⟩
abbrev S2x8x4352x256 : Shape := ⟨4, ![2, 8, 4352, 256]⟩
abbrev S256 : Shape := ⟨1, ![256]⟩
abbrev S256x256 : Shape := ⟨2, ![256, 256]⟩
abbrev S32768x4096 : Shape := ⟨2, ![32768, 4096]⟩
abbrev S4x256x1024 : Shape := ⟨3, ![4, 256, 1024]⟩
abbrev S1024x1024 : Shape := ⟨2, ![1024, 1024]⟩
abbrev S32768x1024 : Shape := ⟨2, ![32768, 1024]⟩
abbrev S8x1x1024 : Shape := ⟨3, ![8, 1, 1024]⟩
abbrev S1024 : Shape := ⟨1, ![1024]⟩
abbrev S1024x64 : Shape := ⟨2, ![1024, 64]⟩
abbrev S8x4096x256 : Shape := ⟨3, ![8, 4096, 256]⟩
abbrev S1x1x256 : Shape := ⟨3, ![1, 1, 256]⟩
abbrev S1x8x4096x256 : Shape := ⟨4, ![1, 8, 4096, 256]⟩
abbrev S_ : Shape := ⟨0, ![]⟩
abbrev S1x256x1024 : Shape := ⟨3, ![1, 256, 1024]⟩
abbrev S256x1024 : Shape := ⟨2, ![256, 1024]⟩
abbrev S8x4096x1024 : Shape := ⟨3, ![8, 4096, 1024]⟩
abbrev S8x4096 : Shape := ⟨2, ![8, 4096]⟩
abbrev S8x4096x1 : Shape := ⟨3, ![8, 4096, 1]⟩
abbrev S1x1x1024 : Shape := ⟨3, ![1, 1, 1024]⟩
abbrev S32768x64 : Shape := ⟨2, ![32768, 64]⟩
abbrev S64x32768 : Shape := ⟨2, ![64, 32768]⟩

abbrev nBuf : Space → Nat
  | .hbm => 119
  | .vmem => 0
  | .smem => 0
  | _ => 0

abbrev bufTy : (tb : Table) → Fin (tcTables nBuf tb) → BufTy
  | .hbm, ⟨0, _⟩ => ⟨S32768x256, .f32⟩
  | .hbm, ⟨1, _⟩ => ⟨S2x8x4352x256, .f32⟩
  | .hbm, ⟨2, _⟩ => ⟨S256, .f32⟩
  | .hbm, ⟨3, _⟩ => ⟨S256x256, .f32⟩
  | .hbm, ⟨4, _⟩ => ⟨S256, .f32⟩
  | .hbm, ⟨5, _⟩ => ⟨S32768x256, .bf16⟩
  | .hbm, ⟨6, _⟩ => ⟨S32768x256, .bf16⟩
  | .hbm, ⟨7, _⟩ => ⟨S32768x256, .bf16⟩
  | .hbm, ⟨8, _⟩ => ⟨S32768x4096, .bf16⟩
  | .hbm, ⟨9, _⟩ => ⟨S4x256x1024, .f32⟩
  | .hbm, ⟨10, _⟩ => ⟨S1024x1024, .f32⟩
  | .hbm, ⟨11, _⟩ => ⟨S32768x1024, .f32⟩
  | .hbm, ⟨12, _⟩ => ⟨S8x1x1024, .f32⟩
  | .hbm, ⟨13, _⟩ => ⟨S1024, .f32⟩
  | .hbm, ⟨14, _⟩ => ⟨S8x1x1024, .f32⟩
  | .hbm, ⟨15, _⟩ => ⟨S8x1x1024, .f32⟩
  | .hbm, ⟨16, _⟩ => ⟨S1024x64, .f32⟩
  | .hbm, ⟨17, _⟩ => ⟨S8x4096x256, .f32⟩
  | .hbm, ⟨18, _⟩ => ⟨S1x1x256, .f32⟩
  | .hbm, ⟨19, _⟩ => ⟨S8x4096x256, .f32⟩
  | .hbm, ⟨20, _⟩ => ⟨S8x4096x256, .f32⟩
  | .hbm, ⟨21, _⟩ => ⟨S1x8x4096x256, .f32⟩
  | .hbm, ⟨22, _⟩ => ⟨S8x4096x256, .f32⟩
  | .hbm, ⟨23, _⟩ => ⟨S8x4096x256, .f32⟩
  | .hbm, ⟨24, _⟩ => ⟨S1x8x4096x256, .f32⟩
  | .hbm, ⟨25, _⟩ => ⟨S8x4096x256, .f32⟩
  | .hbm, ⟨26, _⟩ => ⟨S8x4096x256, .f32⟩
  | .hbm, ⟨27, _⟩ => ⟨S8x4096x256, .f32⟩
  | .hbm, ⟨28, _⟩ => ⟨S8x4096x256, .f32⟩
  | .hbm, ⟨29, _⟩ => ⟨S_, .f32⟩
  | .hbm, ⟨30, _⟩ => ⟨S8x4096x256, .f32⟩
  | .hbm, ⟨31, _⟩ => ⟨S8x4096x256, .f32⟩
  | .hbm, ⟨32, _⟩ => ⟨S8x4096x256, .f32⟩
  | .hbm, ⟨33, _⟩ => ⟨S_, .f32⟩
  | .hbm, ⟨34, _⟩ => ⟨S8x4096x256, .f32⟩
  | .hbm, ⟨35, _⟩ => ⟨S8x4096x256, .f32⟩
  | .hbm, ⟨36, _⟩ => ⟨S8x4096x256, .f32⟩
  | .hbm, ⟨37, _⟩ => ⟨S_, .f32⟩
  | .hbm, ⟨38, _⟩ => ⟨S8x4096x256, .f32⟩
  | .hbm, ⟨39, _⟩ => ⟨S8x4096x256, .f32⟩
  | .hbm, ⟨40, _⟩ => ⟨S_, .f32⟩
  | .hbm, ⟨41, _⟩ => ⟨S8x4096x256, .f32⟩
  | .hbm, ⟨42, _⟩ => ⟨S8x4096x256, .f32⟩
  | .hbm, ⟨43, _⟩ => ⟨S8x4096x256, .f32⟩
  | .hbm, ⟨44, _⟩ => ⟨S8x4096x256, .f32⟩
  | .hbm, ⟨45, _⟩ => ⟨S1x1x256, .f32⟩
  | .hbm, ⟨46, _⟩ => ⟨S8x4096x256, .f32⟩
  | .hbm, ⟨47, _⟩ => ⟨S8x4096x256, .f32⟩
  | .hbm, ⟨48, _⟩ => ⟨S8x4096x256, .f32⟩
  | .hbm, ⟨49, _⟩ => ⟨S8x4096x256, .f32⟩
  | .hbm, ⟨50, _⟩ => ⟨S_, .f32⟩
  | .hbm, ⟨51, _⟩ => ⟨S8x4096x256, .f32⟩
  | .hbm, ⟨52, _⟩ => ⟨S8x4096x256, .f32⟩
  | .hbm, ⟨53, _⟩ => ⟨S_, .f32⟩
  | .hbm, ⟨54, _⟩ => ⟨S8x4096x256, .f32⟩
  | .hbm, ⟨55, _⟩ => ⟨S8x4096x256, .f32⟩
  | .hbm, ⟨56, _⟩ => ⟨S8x4096x256, .f32⟩
  | .hbm, ⟨57, _⟩ => ⟨S32768x256, .f32⟩
  | .hbm, ⟨58, _⟩ => ⟨S32768x4096, .f32⟩
  | .hbm, ⟨59, _⟩ => ⟨S32768x1024, .f32⟩
  | .hbm, ⟨60, _⟩ => ⟨S1x256x1024, .f32⟩
  | .hbm, ⟨61, _⟩ => ⟨S256x1024, .f32⟩
  | .hbm, ⟨62, _⟩ => ⟨S32768x1024, .f32⟩
  | .hbm, ⟨63, _⟩ => ⟨S32768x1024, .f32⟩
  | .hbm, ⟨64, _⟩ => ⟨S32768x1024, .f32⟩
  | .hbm, ⟨65, _⟩ => ⟨S32768x256, .f32⟩
  | .hbm, ⟨66, _⟩ => ⟨S1x256x1024, .f32⟩
  | .hbm, ⟨67, _⟩ => ⟨S256x1024, .f32⟩
  | .hbm, ⟨68, _⟩ => ⟨S32768x1024, .f32⟩
  | .hbm, ⟨69, _⟩ => ⟨S32768x1024, .f32⟩
  | .hbm, ⟨70, _⟩ => ⟨S32768x1024, .f32⟩
  | .hbm, ⟨71, _⟩ => ⟨S32768x1024, .f32⟩
  | .hbm, ⟨72, _⟩ => ⟨S32768x256, .f32⟩
  | .hbm, ⟨73, _⟩ => ⟨S1x256x1024, .f32⟩
  | .hbm, ⟨74, _⟩ => ⟨S256x1024, .f32⟩
  | .hbm, ⟨75, _⟩ => ⟨S32768x1024, .f32⟩
  | .hbm, ⟨76, _⟩ => ⟨S32768x1024, .f32⟩
  | .hbm, ⟨77, _⟩ => ⟨S32768x1024, .f32⟩
  | .hbm, ⟨78, _⟩ => ⟨S32768x1024, .f32⟩
  | .hbm, ⟨79, _⟩ => ⟨S32768x256, .f32⟩
  | .hbm, ⟨80, _⟩ => ⟨S1x256x1024, .f32⟩
  | .hbm, ⟨81, _⟩ => ⟨S256x1024, .f32⟩
  | .hbm, ⟨82, _⟩ => ⟨S32768x1024, .f32⟩
  | .hbm, ⟨83, _⟩ => ⟨S32768x1024, .f32⟩
  | .hbm, ⟨84, _⟩ => ⟨S32768x1024, .f32⟩
  | .hbm, ⟨85, _⟩ => ⟨S32768x1024, .f32⟩
  | .hbm, ⟨86, _⟩ => ⟨S8x4096x1024, .f32⟩
  | .hbm, ⟨87, _⟩ => ⟨S8x4096x1024, .f32⟩
  | .hbm, ⟨88, _⟩ => ⟨S8x4096x1024, .f32⟩
  | .hbm, ⟨89, _⟩ => ⟨S8x4096x1024, .f32⟩
  | .hbm, ⟨90, _⟩ => ⟨S8x4096x1024, .f32⟩
  | .hbm, ⟨91, _⟩ => ⟨S8x4096x1024, .f32⟩
  | .hbm, ⟨92, _⟩ => ⟨S_, .f32⟩
  | .hbm, ⟨93, _⟩ => ⟨S8x4096, .f32⟩
  | .hbm, ⟨94, _⟩ => ⟨S8x4096x1, .f32⟩
  | .hbm, ⟨95, _⟩ => ⟨S_, .f32⟩
  | .hbm, ⟨96, _⟩ => ⟨S8x4096x1, .f32⟩
  | .hbm, ⟨97, _⟩ => ⟨S8x4096x1, .f32⟩
  | .hbm, ⟨98, _⟩ => ⟨S_, .f32⟩
  | .hbm, ⟨99, _⟩ => ⟨S8x4096x1, .f32⟩
  | .hbm, ⟨100, _⟩ => ⟨S8x4096x1, .f32⟩
  | .hbm, ⟨101, _⟩ => ⟨S8x4096x1, .f32⟩
  | .hbm, ⟨102, _⟩ => ⟨S8x4096x1024, .f32⟩
  | .hbm, ⟨103, _⟩ => ⟨S8x4096x1024, .f32⟩
  | .hbm, ⟨104, _⟩ => ⟨S1x1x1024, .f32⟩
  | .hbm, ⟨105, _⟩ => ⟨S8x4096x1024, .f32⟩
  | .hbm, ⟨106, _⟩ => ⟨S8x4096x1024, .f32⟩
  | .hbm, ⟨107, _⟩ => ⟨S_, .f32⟩
  | .hbm, ⟨108, _⟩ => ⟨S8x1x1024, .f32⟩
  | .hbm, ⟨109, _⟩ => ⟨S8x1x1024, .f32⟩
  | .hbm, ⟨110, _⟩ => ⟨S8x4096x1024, .f32⟩
  | .hbm, ⟨111, _⟩ => ⟨S8x4096x1024, .f32⟩
  | .hbm, ⟨112, _⟩ => ⟨S8x4096x1024, .f32⟩
  | .hbm, ⟨113, _⟩ => ⟨S8x4096x1024, .f32⟩
  | .hbm, ⟨114, _⟩ => ⟨S32768x1024, .f32⟩
  | .hbm, ⟨115, _⟩ => ⟨S32768x1024, .f32⟩
  | .hbm, ⟨116, _⟩ => ⟨S32768x1024, .bf16⟩
  | .hbm, ⟨117, _⟩ => ⟨S32768x64, .f32⟩
  | .hbm, ⟨118, _⟩ => ⟨S64x32768, .f32⟩
  | _, _ => ⟨S32768x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_cst : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_cst_0 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_cst_1 : Ref sig .tc := ⟨.hbm, 37, rfl⟩
abbrev main_v18 : Ref sig .tc := ⟨.hbm, 38, rfl⟩
abbrev main_v19 : Ref sig .tc := ⟨.hbm, 39, rfl⟩
abbrev main_cst_2 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_cst_3 : Ref sig .tc := ⟨.hbm, 50, rfl⟩
abbrev main_v29 : Ref sig .tc := ⟨.hbm, 51, rfl⟩
abbrev main_v30 : Ref sig .tc := ⟨.hbm, 52, rfl⟩
abbrev main_cst_4 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_cst_5 : Ref sig .tc := ⟨.hbm, 92, rfl⟩
abbrev main_v69 : Ref sig .tc := ⟨.hbm, 93, rfl⟩
abbrev main_v70 : Ref sig .tc := ⟨.hbm, 94, rfl⟩
abbrev main_cst_6 : Ref sig .tc := ⟨.hbm, 95, rfl⟩
abbrev main_v71 : Ref sig .tc := ⟨.hbm, 96, rfl⟩
abbrev main_v72 : Ref sig .tc := ⟨.hbm, 97, rfl⟩
abbrev main_cst_7 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_cst_8 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩

abbrev nD : Nat := 1
abbrev τ : Topo := Topo.v7x

variable {F : FTy → Type} [FloatOps F]
-- ==== Kernel4.lean ====
abbrev S32768x8 : Shape := ⟨2, ![32768, 8]⟩
abbrev S6x32768x512 : Shape := ⟨3, ![6, 32768, 512]⟩
abbrev S32768x1024 : Shape := ⟨2, ![32768, 1024]⟩
abbrev S1024x256 : Shape := ⟨2, ![1024, 256]⟩
abbrev S256x1024 : Shape := ⟨2, ![256, 1024]⟩
abbrev S8x1x1024 : Shape := ⟨3, ![8, 1, 1024]⟩
abbrev S1024 : Shape := ⟨1, ![1024]⟩
abbrev S1024x512 : Shape := ⟨2, ![1024, 512]⟩
abbrev S1x1024 : Shape := ⟨2, ![1, 1024]⟩
abbrev S6x8192x512 : Shape := ⟨3, ![6, 8192, 512]⟩
abbrev S512x8 : Shape := ⟨2, ![512, 8]⟩
abbrev S6x512x512 : Shape := ⟨3, ![6, 512, 512]⟩
abbrev S512x1024 : Shape := ⟨2, ![512, 1024]⟩
abbrev S1x1x1024 : Shape := ⟨3, ![1, 1, 1024]⟩
abbrev S512x512 : Shape := ⟨2, ![512, 512]⟩
abbrev S512x256 : Shape := ⟨2, ![512, 256]⟩
abbrev S1x512x512 : Shape := ⟨3, ![1, 512, 512]⟩
abbrev S512x1 : Shape := ⟨2, ![512, 1]⟩
abbrev S512 : Shape := ⟨1, ![512]⟩

abbrev nBuf : Space → Nat
  | .hbm => 21
  | .vmem => 60
  | .smem => 0
  | _ => 0

abbrev bufTy : (tb : Table) → Fin (tcTables nBuf tb) → BufTy
  | .hbm, ⟨0, _⟩ => ⟨S32768x8, .f32⟩
  | .hbm, ⟨1, _⟩ => ⟨S6x32768x512, .i32⟩
  | .hbm, ⟨2, _⟩ => ⟨S32768x1024, .bf16⟩
  | .hbm, ⟨3, _⟩ => ⟨S1024x256, .f32⟩
  | .hbm, ⟨4, _⟩ => ⟨S1024x256, .f32⟩
  | .hbm, ⟨5, _⟩ => ⟨S256x1024, .f32⟩
  | .hbm, ⟨6, _⟩ => ⟨S32768x1024, .f32⟩
  | .hbm, ⟨7, _⟩ => ⟨S8x1x1024, .f32⟩
  | .hbm, ⟨8, _⟩ => ⟨S1024, .f32⟩
  | .hbm, ⟨9, _⟩ => ⟨S1024x512, .f32⟩
  | .hbm, ⟨10, _⟩ => ⟨S1024x512, .bf16⟩
  | .hbm, ⟨11, _⟩ => ⟨S256x1024, .bf16⟩
  | .hbm, ⟨12, _⟩ => ⟨S1x1024, .f32⟩
  | .hbm, ⟨13, _⟩ => ⟨S6x8192x512, .i32⟩
  | .hbm, ⟨14, _⟩ => ⟨S32768x1024, .f32⟩
  | .hbm, ⟨15, _⟩ => ⟨S6x8192x512, .i32⟩
  | .hbm, ⟨16, _⟩ => ⟨S32768x1024, .f32⟩
  | .hbm, ⟨17, _⟩ => ⟨S6x8192x512, .i32⟩
  | .hbm, ⟨18, _⟩ => ⟨S32768x1024, .f32⟩
  | .hbm, ⟨19, _⟩ => ⟨S6x8192x512, .i32⟩
  | .hbm, ⟨20, _⟩ => ⟨S32768x1024, .f32⟩
  | .local _ .vmem, ⟨0, _⟩ => ⟨S512x8, .f32⟩
  | .local _ .vmem, ⟨1, _⟩ => ⟨S512x8, .f32⟩
  | .local _ .vmem, ⟨2, _⟩ => ⟨S6x512x512, .i32⟩
  | .local _ .vmem, ⟨3, _⟩ => ⟨S6x512x512, .i32⟩
  | .local _ .vmem, ⟨4, _⟩ => ⟨S512x1024, .bf16⟩
  | .local _ .vmem, ⟨5, _⟩ => ⟨S512x1024, .bf16⟩
  | .local _ .vmem, ⟨6, _⟩ => ⟨S1024x512, .bf16⟩
  | .local _ .vmem, ⟨7, _⟩ => ⟨S256x1024, .bf16⟩
  | .local _ .vmem, ⟨8, _⟩ => ⟨S512x1024, .f32⟩
  | .local _ .vmem, ⟨9, _⟩ => ⟨S512x1024, .f32⟩
  | .local _ .vmem, ⟨10, _⟩ => ⟨S1x1x1024, .f32⟩
  | .local _ .vmem, ⟨11, _⟩ => ⟨S1x1x1024, .f32⟩
  | .local _ .vmem, ⟨12, _⟩ => ⟨S1x1024, .f32⟩
  | .local _ .vmem, ⟨13, _⟩ => ⟨S512x1024, .f32⟩
  | .local _ .vmem, ⟨14, _⟩ => ⟨S512x1024, .f32⟩
  | .local _ .vmem, ⟨15, _⟩ => ⟨S512x8, .f32⟩
  | .local _ .vmem, ⟨16, _⟩ => ⟨S512x8, .f32⟩
  | .local _ .vmem, ⟨17, _⟩ => ⟨S6x512x512, .i32⟩
  | .local _ .vmem, ⟨18, _⟩ => ⟨S6x512x512, .i32⟩
  | .local _ .vmem, ⟨19, _⟩ => ⟨S512x1024, .bf16⟩
  | .local _ .vmem, ⟨20, _⟩ => ⟨S512x1024, .bf16⟩
  | .local _ .vmem, ⟨21, _⟩ => ⟨S1024x512, .bf16⟩
  | .local _ .vmem, ⟨22, _⟩ => ⟨S256x1024, .bf16⟩
  | .local _ .vmem, ⟨23, _⟩ => ⟨S512x1024, .f32⟩
  | .local _ .vmem, ⟨24, _⟩ => ⟨S512x1024, .f32⟩
  | .local _ .vmem, ⟨25, _⟩ => ⟨S1x1x1024, .f32⟩
  | .local _ .vmem, ⟨26, _⟩ => ⟨S1x1x1024, .f32⟩
  | .local _ .vmem, ⟨27, _⟩ => ⟨S1x1024, .f32⟩
  | .local _ .vmem, ⟨28, _⟩ => ⟨S512x1024, .f32⟩
  | .local _ .vmem, ⟨29, _⟩ => ⟨S512x1024, .f32⟩
  | .local _ .vmem, ⟨30, _⟩ => ⟨S512x8, .f32⟩
  | .local _ .vmem, ⟨31, _⟩ => ⟨S512x8, .f32⟩
  | .local _ .vmem, ⟨32, _⟩ => ⟨S6x512x512, .i32⟩
  | .local _ .vmem, ⟨33, _⟩ => ⟨S6x512x512, .i32⟩
  | .local _ .vmem, ⟨34, _⟩ => ⟨S512x1024, .bf16⟩
  | .local _ .vmem, ⟨35, _⟩ => ⟨S512x1024, .bf16⟩
  | .local _ .vmem, ⟨36, _⟩ => ⟨S1024x512, .bf16⟩
  | .local _ .vmem, ⟨37, _⟩ => ⟨S256x1024, .bf16⟩
  | .local _ .vmem, ⟨38, _⟩ => ⟨S512x1024, .f32⟩
  | .local _ .vmem, ⟨39, _⟩ => ⟨S512x1024, .f32⟩
  | .local _ .vmem, ⟨40, _⟩ => ⟨S1x1x1024, .f32⟩
  | .local _ .vmem, ⟨41, _⟩ => ⟨S1x1x1024, .f32⟩
  | .local _ .vmem, ⟨42, _⟩ => ⟨S1x1024, .f32⟩
  | .local _ .vmem, ⟨43, _⟩ => ⟨S512x1024, .f32⟩
  | .local _ .vmem, ⟨44, _⟩ => ⟨S512x1024, .f32⟩
  | .local _ .vmem, ⟨45, _⟩ => ⟨S512x8, .f32⟩
  | .local _ .vmem, ⟨46, _⟩ => ⟨S512x8, .f32⟩
  | .local _ .vmem, ⟨47, _⟩ => ⟨S6x512x512, .i32⟩
  | .local _ .vmem, ⟨48, _⟩ => ⟨S6x512x512, .i32⟩
  | .local _ .vmem, ⟨49, _⟩ => ⟨S512x1024, .bf16⟩
  | .local _ .vmem, ⟨50, _⟩ => ⟨S512x1024, .bf16⟩
  | .local _ .vmem, ⟨51, _⟩ => ⟨S1024x512, .bf16⟩
  | .local _ .vmem, ⟨52, _⟩ => ⟨S256x1024, .bf16⟩
  | .local _ .vmem, ⟨53, _⟩ => ⟨S512x1024, .f32⟩
  | .local _ .vmem, ⟨54, _⟩ => ⟨S512x1024, .f32⟩
  | .local _ .vmem, ⟨55, _⟩ => ⟨S1x1x1024, .f32⟩
  | .local _ .vmem, ⟨56, _⟩ => ⟨S1x1x1024, .f32⟩
  | .local _ .vmem, ⟨57, _⟩ => ⟨S1x1024, .f32⟩
  | .local _ .vmem, ⟨58, _⟩ => ⟨S512x1024, .f32⟩
  | .local _ .vmem, ⟨59, _⟩ => ⟨S512x1024, .f32⟩
  | _, _ => ⟨S32768x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | _, _ => false

abbrev semScoped : Fin 0 → Bool
  | ⟨_, h⟩ => absurd h (Nat.not_lt_zero _)

abbrev dmaSemScoped : Fin 60 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | _ => false

abbrev sig : RefSig :=
  ofTc nBuf bufTy 0 60 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc1_stg0_0 : Ref sig .tc := ⟨.vmem, 15, rfl⟩
abbrev cc1_stg0_1 : Ref sig .tc := ⟨.vmem, 16, rfl⟩
abbrev cc1_stg1_0 : Ref sig .tc := ⟨.vmem, 17, rfl⟩
abbrev cc1_stg1_1 : Ref sig .tc := ⟨.vmem, 18, rfl⟩
abbrev cc1_stg2_0 : Ref sig .tc := ⟨.vmem, 19, rfl⟩
abbrev cc1_stg2_1 : Ref sig .tc := ⟨.vmem, 20, rfl⟩
abbrev cc1_stg3_0 : Ref sig .tc := ⟨.vmem, 21, rfl⟩
abbrev cc1_stg4_0 : Ref sig .tc := ⟨.vmem, 22, rfl⟩
abbrev cc1_stg5_0 : Ref sig .tc := ⟨.vmem, 23, rfl⟩
abbrev cc1_stg5_1 : Ref sig .tc := ⟨.vmem, 24, rfl⟩
abbrev cc1_stg6_0 : Ref sig .tc := ⟨.vmem, 25, rfl⟩
abbrev cc1_stg6_1 : Ref sig .tc := ⟨.vmem, 26, rfl⟩
abbrev cc1_stg7_0 : Ref sig .tc := ⟨.vmem, 27, rfl⟩
abbrev cc1_stg8_0 : Ref sig .tc := ⟨.vmem, 28, rfl⟩
abbrev cc1_stg8_1 : Ref sig .tc := ⟨.vmem, 29, rfl⟩
abbrev cc2_stg0_0 : Ref sig .tc := ⟨.vmem, 30, rfl⟩
abbrev cc2_stg0_1 : Ref sig .tc := ⟨.vmem, 31, rfl⟩
abbrev cc2_stg1_0 : Ref sig .tc := ⟨.vmem, 32, rfl⟩
abbrev cc2_stg1_1 : Ref sig .tc := ⟨.vmem, 33, rfl⟩
abbrev cc2_stg2_0 : Ref sig .tc := ⟨.vmem, 34, rfl⟩
abbrev cc2_stg2_1 : Ref sig .tc := ⟨.vmem, 35, rfl⟩
abbrev cc2_stg3_0 : Ref sig .tc := ⟨.vmem, 36, rfl⟩
abbrev cc2_stg4_0 : Ref sig .tc := ⟨.vmem, 37, rfl⟩
abbrev cc2_stg5_0 : Ref sig .tc := ⟨.vmem, 38, rfl⟩
abbrev cc2_stg5_1 : Ref sig .tc := ⟨.vmem, 39, rfl⟩
abbrev cc2_stg6_0 : Ref sig .tc := ⟨.vmem, 40, rfl⟩
abbrev cc2_stg6_1 : Ref sig .tc := ⟨.vmem, 41, rfl⟩
abbrev cc2_stg7_0 : Ref sig .tc := ⟨.vmem, 42, rfl⟩
abbrev cc2_stg8_0 : Ref sig .tc := ⟨.vmem, 43, rfl⟩
abbrev cc2_stg8_1 : Ref sig .tc := ⟨.vmem, 44, rfl⟩
abbrev cc3_stg0_0 : Ref sig .tc := ⟨.vmem, 45, rfl⟩
abbrev cc3_stg0_1 : Ref sig .tc := ⟨.vmem, 46, rfl⟩
abbrev cc3_stg1_0 : Ref sig .tc := ⟨.vmem, 47, rfl⟩
abbrev cc3_stg1_1 : Ref sig .tc := ⟨.vmem, 48, rfl⟩
abbrev cc3_stg2_0 : Ref sig .tc := ⟨.vmem, 49, rfl⟩
abbrev cc3_stg2_1 : Ref sig .tc := ⟨.vmem, 50, rfl⟩
abbrev cc3_stg3_0 : Ref sig .tc := ⟨.vmem, 51, rfl⟩
abbrev cc3_stg4_0 : Ref sig .tc := ⟨.vmem, 52, rfl⟩
abbrev cc3_stg5_0 : Ref sig .tc := ⟨.vmem, 53, rfl⟩
abbrev cc3_stg5_1 : Ref sig .tc := ⟨.vmem, 54, rfl⟩
abbrev cc3_stg6_0 : Ref sig .tc := ⟨.vmem, 55, rfl⟩
abbrev cc3_stg6_1 : Ref sig .tc := ⟨.vmem, 56, rfl⟩
abbrev cc3_stg7_0 : Ref sig .tc := ⟨.vmem, 57, rfl⟩
abbrev cc3_stg8_0 : Ref sig .tc := ⟨.vmem, 58, rfl⟩
abbrev cc3_stg8_1 : Ref sig .tc := ⟨.vmem, 59, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem8_1 : DmaSem sig := 14
abbrev cc1_sem0_0 : DmaSem sig := 15
abbrev cc1_sem0_1 : DmaSem sig := 16
abbrev cc1_sem1_0 : DmaSem sig := 17
abbrev cc1_sem1_1 : DmaSem sig := 18
abbrev cc1_sem2_0 : DmaSem sig := 19
abbrev cc1_sem2_1 : DmaSem sig := 20
abbrev cc1_sem3_0 : DmaSem sig := 21
abbrev cc1_sem4_0 : DmaSem sig := 22
abbrev cc1_sem5_0 : DmaSem sig := 23
abbrev cc1_sem5_1 : DmaSem sig := 24
abbrev cc1_sem6_0 : DmaSem sig := 25
abbrev cc1_sem6_1 : DmaSem sig := 26
abbrev cc1_sem7_0 : DmaSem sig := 27
abbrev cc1_sem8_0 : DmaSem sig := 28
abbrev cc1_sem8_1 : DmaSem sig := 29
abbrev cc2_sem0_0 : DmaSem sig := 30
abbrev cc2_sem0_1 : DmaSem sig := 31
abbrev cc2_sem1_0 : DmaSem sig := 32
abbrev cc2_sem1_1 : DmaSem sig := 33
abbrev cc2_sem2_0 : DmaSem sig := 34
abbrev cc2_sem2_1 : DmaSem sig := 35
abbrev cc2_sem3_0 : DmaSem sig := 36
abbrev cc2_sem4_0 : DmaSem sig := 37
abbrev cc2_sem5_0 : DmaSem sig := 38
abbrev cc2_sem5_1 : DmaSem sig := 39
abbrev cc2_sem6_0 : DmaSem sig := 40
abbrev cc2_sem6_1 : DmaSem sig := 41
abbrev cc2_sem7_0 : DmaSem sig := 42
abbrev cc2_sem8_0 : DmaSem sig := 43
abbrev cc2_sem8_1 : DmaSem sig := 44
abbrev cc3_sem0_0 : DmaSem sig := 45
abbrev cc3_sem0_1 : DmaSem sig := 46
abbrev cc3_sem1_0 : DmaSem sig := 47
abbrev cc3_sem1_1 : DmaSem sig := 48
abbrev cc3_sem2_0 : DmaSem sig := 49
abbrev cc3_sem2_1 : DmaSem sig := 50
abbrev cc3_sem3_0 : DmaSem sig := 51
abbrev cc3_sem4_0 : DmaSem sig := 52
abbrev cc3_sem5_0 : DmaSem sig := 53
abbrev cc3_sem5_1 : DmaSem sig := 54
abbrev cc3_sem6_0 : DmaSem sig := 55
abbrev cc3_sem6_1 : DmaSem sig := 56
abbrev cc3_sem7_0 : DmaSem sig := 57
abbrev cc3_sem8_0 : DmaSem sig := 58
abbrev cc3_sem8_1 : DmaSem sig := 59

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_6 (i : grid0.Coords) : Fin 3 → Nat :=
  let arg0 : BitVec 32 := BitVec.ofNat 32 (i 0).val
  let c0_i32 : BitVec 32 := 0#32
  let v0 : BitVec 32 := Scalar.addi c0_i32 arg0
  let c512_i32 : BitVec 32 := 512#32
  let v1 : BitVec 32 := Scalar.muli v0 c512_i32
  let c4096_i32 : BitVec 32 := 4096#32
  let v2 : BitVec 32 := Scalar.divsi v1 c4096_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c4096_i32 c0_i32_2
  let v9 : BitVec 32 := Scalar.extui v8
  let c0_i32_3 : BitVec 32 := 0#32
  let v10 : BitVec 1 := Scalar.cmpi .slt c4096_i32 c0_i32_3
  let v11 : BitVec 32 := Scalar.extui v10
  let v12 : BitVec 32 := Scalar.subi v9 v11
  let v13 : BitVec 1 := Scalar.cmpi .ne v7 v12
  let v14 : BitVec 32 := Scalar.remsi v1 c4096_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c0_i32_5 : BitVec 32 := 0#32
  let c0_i32_6 : BitVec 32 := 0#32
  let c0_i32_7 : BitVec 32 := 0#32
  ![v18.toNat, c0_i32_5.toNat, c0_i32_6.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

abbrev stage0_0 : Fin 2 → Memref sig .tc .vmem S512x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S6x512x512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c16_i32 : BitVec 32 := 16#32
  let v0 : BitVec 32 := Scalar.addi c16_i32 arg0
  let c0_i32 : BitVec 32 := 0#32
  let c0_i32_0 : BitVec 32 := 0#32
  ![v0.toNat, c0_i32.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_2 (i : grid1.Coords) : Fin 2 → Nat :=
  let arg0 : BitVec 32 := BitVec.ofNat 32 (i 0).val
  let c16_i32 : BitVec 32 := 16#32
  let v0 : BitVec 32 := Scalar.addi c16_i32 arg0
  let c0_i32 : BitVec 32 := 0#32
  let c0_i32_0 : BitVec 32 := 0#32
  ![v0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c16_i32 : BitVec 32 := 16#32
  let v0 : BitVec 32 := Scalar.addi c16_i32 arg0
  let c0_i32 : BitVec 32 := 0#32
  let c0_i32_0 : BitVec 32 := 0#32
  ![v0.toNat, c0_i32.toNat]

def cc1_transform_6 (i : grid1.Coords) : Fin 3 → Nat :=
  let arg0 : BitVec 32 := BitVec.ofNat 32 (i 0).val
  let c16_i32 : BitVec 32 := 16#32
  let v0 : BitVec 32 := Scalar.addi c16_i32 arg0
  let c512_i32 : BitVec 32 := 512#32
  let v1 : BitVec 32 := Scalar.muli v0 c512_i32
  let c4096_i32 : BitVec 32 := 4096#32
  let v2 : BitVec 32 := Scalar.divsi v1 c4096_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c4096_i32 c0_i32_1
  let v9 : BitVec 32 := Scalar.extui v8
  let c0_i32_2 : BitVec 32 := 0#32
  let v10 : BitVec 1 := Scalar.cmpi .slt c4096_i32 c0_i32_2
  let v11 : BitVec 32 := Scalar.extui v10
  let v12 : BitVec 32 := Scalar.subi v9 v11
  let v13 : BitVec 1 := Scalar.cmpi .ne v7 v12
  let v14 : BitVec 32 := Scalar.remsi v1 c4096_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c0_i32_4 : BitVec 32 := 0#32
  let c0_i32_5 : BitVec 32 := 0#32
  let c0_i32_6 : BitVec 32 := 0#32
  ![v18.toNat, c0_i32_4.toNat, c0_i32_5.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c16_i32 : BitVec 32 := 16#32
  let v0 : BitVec 32 := Scalar.addi c16_i32 arg0
  let c0_i32 : BitVec 32 := 0#32
  let c0_i32_0 : BitVec 32 := 0#32
  ![v0.toNat, c0_i32.toNat]

abbrev stage1_0 : Fin 2 → Memref sig .tc .vmem S512x8 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S6x512x512 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S512x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1024x512 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256x1024 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S512x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S1x1x1024 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 1 → Memref sig .tc .vmem S1x1024 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S512x1024 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev grid2 : Pipeline.Grid := ⟨1, ![16], ![false]⟩

def cc2_transform_0 (i : grid2.Coords) : Fin 2 → Nat :=
  let arg0 : BitVec 32 := BitVec.ofNat 32 (i 0).val
  let c32_i32 : BitVec 32 := 32#32
  let v0 : BitVec 32 := Scalar.addi c32_i32 arg0
  let c0_i32 : BitVec 32 := 0#32
  let c0_i32_0 : BitVec 32 := 0#32
  ![v0.toNat, c0_i32.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc2_transform_2 (i : grid2.Coords) : Fin 2 → Nat :=
  let arg0 : BitVec 32 := BitVec.ofNat 32 (i 0).val
  let c32_i32 : BitVec 32 := 32#32
  let v0 : BitVec 32 := Scalar.addi c32_i32 arg0
  let c0_i32 : BitVec 32 := 0#32
  let c0_i32_0 : BitVec 32 := 0#32
  ![v0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c32_i32 : BitVec 32 := 32#32
  let v0 : BitVec 32 := Scalar.addi c32_i32 arg0
  let c0_i32 : BitVec 32 := 0#32
  let c0_i32_0 : BitVec 32 := 0#32
  ![v0.toNat, c0_i32.toNat]

def cc2_transform_6 (i : grid2.Coords) : Fin 3 → Nat :=
  let arg0 : BitVec 32 := BitVec.ofNat 32 (i 0).val
  let c32_i32 : BitVec 32 := 32#32
  let v0 : BitVec 32 := Scalar.addi c32_i32 arg0
  let c512_i32 : BitVec 32 := 512#32
  let v1 : BitVec 32 := Scalar.muli v0 c512_i32
  let c4096_i32 : BitVec 32 := 4096#32
  let v2 : BitVec 32 := Scalar.divsi v1 c4096_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c4096_i32 c0_i32_1
  let v9 : BitVec 32 := Scalar.extui v8
  let c0_i32_2 : BitVec 32 := 0#32
  let v10 : BitVec 1 := Scalar.cmpi .slt c4096_i32 c0_i32_2
  let v11 : BitVec 32 := Scalar.extui v10
  let v12 : BitVec 32 := Scalar.subi v9 v11
  let v13 : BitVec 1 := Scalar.cmpi .ne v7 v12
  let v14 : BitVec 32 := Scalar.remsi v1 c4096_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c0_i32_4 : BitVec 32 := 0#32
  let c0_i32_5 : BitVec 32 := 0#32
  let c0_i32_6 : BitVec 32 := 0#32
  ![v18.toNat, c0_i32_4.toNat, c0_i32_5.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c32_i32 : BitVec 32 := 32#32
  let v0 : BitVec 32 := Scalar.addi c32_i32 arg0
  let c0_i32 : BitVec 32 := 0#32
  let c0_i32_0 : BitVec 32 := 0#32
  ![v0.toNat, c0_i32.toNat]

abbrev stage2_0 : Fin 2 → Memref sig .tc .vmem S512x8 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S6x512x512 .i32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S512x1024 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1024x512 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S256x1024 .bf16 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S512x1024 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S1x1x1024 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 1 → Memref sig .tc .vmem S1x1024 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 2 → Memref sig .tc .vmem S512x1024 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

abbrev grid3 : Pipeline.Grid := ⟨1, ![16], ![false]⟩

def cc3_transform_0 (i : grid3.Coords) : Fin 2 → Nat :=
  let arg0 : BitVec 32 := BitVec.ofNat 32 (i 0).val
  let c48_i32 : BitVec 32 := 48#32
  let v0 : BitVec 32 := Scalar.addi c48_i32 arg0
  let c0_i32 : BitVec 32 := 0#32
  let c0_i32_0 : BitVec 32 := 0#32
  ![v0.toNat, c0_i32.toNat]

def cc3_transform_1 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc3_transform_2 (i : grid3.Coords) : Fin 2 → Nat :=
  let arg0 : BitVec 32 := BitVec.ofNat 32 (i 0).val
  let c48_i32 : BitVec 32 := 48#32
  let v0 : BitVec 32 := Scalar.addi c48_i32 arg0
  let c0_i32 : BitVec 32 := 0#32
  let c0_i32_0 : BitVec 32 := 0#32
  ![v0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c48_i32 : BitVec 32 := 48#32
  let v0 : BitVec 32 := Scalar.addi c48_i32 arg0
  let c0_i32 : BitVec 32 := 0#32
  let c0_i32_0 : BitVec 32 := 0#32
  ![v0.toNat, c0_i32.toNat]

def cc3_transform_6 (i : grid3.Coords) : Fin 3 → Nat :=
  let arg0 : BitVec 32 := BitVec.ofNat 32 (i 0).val
  let c48_i32 : BitVec 32 := 48#32
  let v0 : BitVec 32 := Scalar.addi c48_i32 arg0
  let c512_i32 : BitVec 32 := 512#32
  let v1 : BitVec 32 := Scalar.muli v0 c512_i32
  let c4096_i32 : BitVec 32 := 4096#32
  let v2 : BitVec 32 := Scalar.divsi v1 c4096_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c4096_i32 c0_i32_1
  let v9 : BitVec 32 := Scalar.extui v8
  let c0_i32_2 : BitVec 32 := 0#32
  let v10 : BitVec 1 := Scalar.cmpi .slt c4096_i32 c0_i32_2
  let v11 : BitVec 32 := Scalar.extui v10
  let v12 : BitVec 32 := Scalar.subi v9 v11
  let v13 : BitVec 1 := Scalar.cmpi .ne v7 v12
  let v14 : BitVec 32 := Scalar.remsi v1 c4096_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c0_i32_4 : BitVec 32 := 0#32
  let c0_i32_5 : BitVec 32 := 0#32
  let c0_i32_6 : BitVec 32 := 0#32
  ![v18.toNat, c0_i32_4.toNat, c0_i32_5.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 2 → Nat :=
  let arg0 : BitVec 32 := BitVec.ofNat 32 (i 0).val
  let c48_i32 : BitVec 32 := 48#32
  let v0 : BitVec 32 := Scalar.addi c48_i32 arg0
  let c0_i32 : BitVec 32 := 0#32
  let c0_i32_0 : BitVec 32 := 0#32
  ![v0.toNat, c0_i32.toNat]

abbrev stage3_0 : Fin 2 → Memref sig .tc .vmem S512x8 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S6x512x512 .i32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S512x1024 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1024x512 .bf16 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S256x1024 .bf16 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S512x1024 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev stage3_6 : Fin 2 → Memref sig .tc .vmem S1x1x1024 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev stage3_7 : Fin 1 → Memref sig .tc .vmem S1x1024 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 2 → Memref sig .tc .vmem S512x1024 .f32 := fun | 0 => Memref.whole cc3_stg8_0 | 1 => Memref.whole cc3_stg8_1 | ⟨_ + 2, h⟩ => absurd h (Nat.not_lt.2 (Nat.le_add_left _ _))
abbrev sem3_8 : Fin 2 → DmaSem sig := fun | 0 => cc3_sem8_0 | 1 => cc3_sem8_1 | ⟨_ + 2, h⟩ => absurd h (Nat.not_lt.2 (Nat.le_add_left _ _))
abbrev reads3_8 : Fin grid3.rank → Bool := ![true]
-- ==== Reference4Ideal.lean ====
abbrev S32768x8 : Shape := ⟨2, ![32768, 8]⟩
abbrev S6x32768x512 : Shape := ⟨3, ![6, 32768, 512]⟩
abbrev S32768x1024 : Shape := ⟨2, ![32768, 1024]⟩
abbrev S1024x256 : Shape := ⟨2, ![1024, 256]⟩
abbrev S256x1024 : Shape := ⟨2, ![256, 1024]⟩
abbrev S8x1x1024 : Shape := ⟨3, ![8, 1, 1024]⟩
abbrev S1024 : Shape := ⟨1, ![1024]⟩
abbrev S6x32768x512x2 : Shape := ⟨4, ![6, 32768, 512, 2]⟩
abbrev S6x32768x512x1 : Shape := ⟨4, ![6, 32768, 512, 1]⟩
abbrev S6x32768x1024 : Shape := ⟨3, ![6, 32768, 1024]⟩
abbrev S32768x256 : Shape := ⟨2, ![32768, 256]⟩
abbrev S_ : Shape := ⟨0, ![]⟩
abbrev S32768x1 : Shape := ⟨2, ![32768, 1]⟩
abbrev S1x32768x1024 : Shape := ⟨3, ![1, 32768, 1024]⟩
abbrev S8x4096x1024 : Shape := ⟨3, ![8, 4096, 1024]⟩
abbrev S8x4096 : Shape := ⟨2, ![8, 4096]⟩
abbrev S8x4096x1 : Shape := ⟨3, ![8, 4096, 1]⟩
abbrev S1x1x1024 : Shape := ⟨3, ![1, 1, 1024]⟩

abbrev nBuf : Space → Nat
  | .hbm => 93
  | .vmem => 0
  | .smem => 0
  | _ => 0

abbrev bufTy : (tb : Table) → Fin (tcTables nBuf tb) → BufTy
  | .hbm, ⟨0, _⟩ => ⟨S32768x8, .f32⟩
  | .hbm, ⟨1, _⟩ => ⟨S6x32768x512, .i32⟩
  | .hbm, ⟨2, _⟩ => ⟨S32768x1024, .bf16⟩
  | .hbm, ⟨3, _⟩ => ⟨S1024x256, .f32⟩
  | .hbm, ⟨4, _⟩ => ⟨S1024x256, .f32⟩
  | .hbm, ⟨5, _⟩ => ⟨S256x1024, .f32⟩
  | .hbm, ⟨6, _⟩ => ⟨S32768x1024, .f32⟩
  | .hbm, ⟨7, _⟩ => ⟨S8x1x1024, .f32⟩
  | .hbm, ⟨8, _⟩ => ⟨S1024, .f32⟩
  | .hbm, ⟨9, _⟩ => ⟨S6x32768x512x2, .bf16⟩
  | .hbm, ⟨10, _⟩ => ⟨S6x32768x512x1, .bf16⟩
  | .hbm, ⟨11, _⟩ => ⟨S6x32768x512, .bf16⟩
  | .hbm, ⟨12, _⟩ => ⟨S6x32768x512x1, .bf16⟩
  | .hbm, ⟨13, _⟩ => ⟨S6x32768x512, .bf16⟩
  | .hbm, ⟨14, _⟩ => ⟨S6x32768x1024, .bf16⟩
  | .hbm, ⟨15, _⟩ => ⟨S32768x1024, .f32⟩
  | .hbm, ⟨16, _⟩ => ⟨S32768x256, .f32⟩
  | .hbm, ⟨17, _⟩ => ⟨S32768x256, .f32⟩
  | .hbm, ⟨18, _⟩ => ⟨S32768x256, .f32⟩
  | .hbm, ⟨19, _⟩ => ⟨S_, .f32⟩
  | .hbm, ⟨20, _⟩ => ⟨S32768x256, .f32⟩
  | .hbm, ⟨21, _⟩ => ⟨S32768x256, .f32⟩
  | .hbm, ⟨22, _⟩ => ⟨S_, .f32⟩
  | .hbm, ⟨23, _⟩ => ⟨S32768x256, .f32⟩
  | .hbm, ⟨24, _⟩ => ⟨S32768x256, .f32⟩
  | .hbm, ⟨25, _⟩ => ⟨S32768x256, .f32⟩
  | .hbm, ⟨26, _⟩ => ⟨S32768x256, .f32⟩
  | .hbm, ⟨27, _⟩ => ⟨S32768x256, .f32⟩
  | .hbm, ⟨28, _⟩ => ⟨S32768x1024, .f32⟩
  | .hbm, ⟨29, _⟩ => ⟨S32768x1, .f32⟩
  | .hbm, ⟨30, _⟩ => ⟨S1x32768x1024, .bf16⟩
  | .hbm, ⟨31, _⟩ => ⟨S32768x1024, .bf16⟩
  | .hbm, ⟨32, _⟩ => ⟨S32768x1024, .f32⟩
  | .hbm, ⟨33, _⟩ => ⟨S32768x1024, .f32⟩
  | .hbm, ⟨34, _⟩ => ⟨S32768x1024, .f32⟩
  | .hbm, ⟨35, _⟩ => ⟨S32768x1024, .f32⟩
  | .hbm, ⟨36, _⟩ => ⟨S32768x1, .f32⟩
  | .hbm, ⟨37, _⟩ => ⟨S1x32768x1024, .bf16⟩
  | .hbm, ⟨38, _⟩ => ⟨S32768x1024, .bf16⟩
  | .hbm, ⟨39, _⟩ => ⟨S32768x1024, .f32⟩
  | .hbm, ⟨40, _⟩ => ⟨S32768x1024, .f32⟩
  | .hbm, ⟨41, _⟩ => ⟨S32768x1024, .f32⟩
  | .hbm, ⟨42, _⟩ => ⟨S32768x1024, .f32⟩
  | .hbm, ⟨43, _⟩ => ⟨S32768x1, .f32⟩
  | .hbm, ⟨44, _⟩ => ⟨S1x32768x1024, .bf16⟩
  | .hbm, ⟨45, _⟩ => ⟨S32768x1024, .bf16⟩
  | .hbm, ⟨46, _⟩ => ⟨S32768x1024, .f32⟩
  | .hbm, ⟨47, _⟩ => ⟨S32768x1024, .f32⟩
  | .hbm, ⟨48, _⟩ => ⟨S32768x1024, .f32⟩
  | .hbm, ⟨49, _⟩ => ⟨S32768x1024, .f32⟩
  | .hbm, ⟨50, _⟩ => ⟨S32768x1, .f32⟩
  | .hbm, ⟨51, _⟩ => ⟨S1x32768x1024, .bf16⟩
  | .hbm, ⟨52, _⟩ => ⟨S32768x1024, .bf16⟩
  | .hbm, ⟨53, _⟩ => ⟨S32768x1024, .f32⟩
  | .hbm, ⟨54, _⟩ => ⟨S32768x1024, .f32⟩
  | .hbm, ⟨55, _⟩ => ⟨S32768x1024, .f32⟩
  | .hbm, ⟨56, _⟩ => ⟨S32768x1024, .f32⟩
  | .hbm, ⟨57, _⟩ => ⟨S32768x1, .f32⟩
  | .hbm, ⟨58, _⟩ => ⟨S1x32768x1024, .bf16⟩
  | .hbm, ⟨59, _⟩ => ⟨S32768x1024, .bf16⟩
  | .hbm, ⟨60, _⟩ => ⟨S32768x1024, .f32⟩
  | .hbm, ⟨61, _⟩ => ⟨S32768x1024, .f32⟩
  | .hbm, ⟨62, _⟩ => ⟨S32768x1024, .f32⟩
  | .hbm, ⟨63, _⟩ => ⟨S32768x1024, .f32⟩
  | .hbm, ⟨64, _⟩ => ⟨S32768x1, .f32⟩
  | .hbm, ⟨65, _⟩ => ⟨S1x32768x1024, .bf16⟩
  | .hbm, ⟨66, _⟩ => ⟨S32768x1024, .bf16⟩
  | .hbm, ⟨67, _⟩ => ⟨S32768x1024, .f32⟩
  | .hbm, ⟨68, _⟩ => ⟨S32768x1024, .f32⟩
  | .hbm, ⟨69, _⟩ => ⟨S32768x1024, .f32⟩
  | .hbm, ⟨70, _⟩ => ⟨S32768x1024, .f32⟩
  | .hbm, ⟨71, _⟩ => ⟨S8x4096x1024, .f32⟩
  | .hbm, ⟨72, _⟩ => ⟨S8x4096x1024, .f32⟩
  | .hbm, ⟨73, _⟩ => ⟨S8x4096x1024, .f32⟩
  | .hbm, ⟨74, _⟩ => ⟨S8x4096x1024, .f32⟩
  | .hbm, ⟨75, _⟩ => ⟨S8x4096x1024, .f32⟩
  | .hbm, ⟨76, _⟩ => ⟨S8x4096x1024, .f32⟩
  | .hbm, ⟨77, _⟩ => ⟨S_, .f32⟩
  | .hbm, ⟨78, _⟩ => ⟨S8x4096, .f32⟩
  | .hbm, ⟨79, _⟩ => ⟨S8x4096x1, .f32⟩
  | .hbm, ⟨80, _⟩ => ⟨S_, .f32⟩
  | .hbm, ⟨81, _⟩ => ⟨S8x4096x1, .f32⟩
  | .hbm, ⟨82, _⟩ => ⟨S8x4096x1, .f32⟩
  | .hbm, ⟨83, _⟩ => ⟨S_, .f32⟩
  | .hbm, ⟨84, _⟩ => ⟨S8x4096x1, .f32⟩
  | .hbm, ⟨85, _⟩ => ⟨S8x4096x1, .f32⟩
  | .hbm, ⟨86, _⟩ => ⟨S8x4096x1, .f32⟩
  | .hbm, ⟨87, _⟩ => ⟨S8x4096x1024, .f32⟩
  | .hbm, ⟨88, _⟩ => ⟨S8x4096x1024, .f32⟩
  | .hbm, ⟨89, _⟩ => ⟨S1x1x1024, .f32⟩
  | .hbm, ⟨90, _⟩ => ⟨S8x4096x1024, .f32⟩
  | .hbm, ⟨91, _⟩ => ⟨S8x4096x1024, .f32⟩
  | .hbm, ⟨92, _⟩ => ⟨S32768x1024, .f32⟩
  | _, _ => ⟨S32768x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_call0_v0 : Ref sig .tc := ⟨.hbm, 17, rfl⟩
abbrev main_call0_v1 : Ref sig .tc := ⟨.hbm, 18, rfl⟩
abbrev main_call0_cst : Ref sig .tc := ⟨.hbm, 19, rfl⟩
abbrev main_call0_v2 : Ref sig .tc := ⟨.hbm, 20, rfl⟩
abbrev main_call0_v3 : Ref sig .tc := ⟨.hbm, 21, rfl⟩
abbrev main_call0_cst_0 : Ref sig .tc := ⟨.hbm, 22, rfl⟩
abbrev main_call0_v4 : Ref sig .tc := ⟨.hbm, 23, rfl⟩
abbrev main_call0_v5 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_cst : Ref sig .tc := ⟨.hbm, 77, rfl⟩
abbrev main_v60 : Ref sig .tc := ⟨.hbm, 78, rfl⟩
abbrev main_v61 : Ref sig .tc := ⟨.hbm, 79, rfl⟩
abbrev main_cst_0 : Ref sig .tc := ⟨.hbm, 80, rfl⟩
abbrev main_v62 : Ref sig .tc := ⟨.hbm, 81, rfl⟩
abbrev main_v63 : Ref sig .tc := ⟨.hbm, 82, rfl⟩
abbrev main_cst_1 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩

abbrev nD : Nat := 1
abbrev τ : Topo := Topo.v7x

variable {F : FTy → Type} [FloatOps F]
-- ==== Proof.RunKernelIdeal.lean ====
/- One point of the kernel's grid, run from whole staging buffers and scratch buffers at any contents: the block it leaves
   in the output window, as a function of the input blocks and of what the scratch held. -/
module

public import proofs.«01_k».proof.Proof.Gen.KernelIdeal.Loops
public import proofs.«01_k».proof.Proof.Gen.KernelIdeal.Frame
public import Idealize.ShloMosaic.Lib.VecWindow

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
/-- The body's run. Inputs are handed back as they were, the output window at the block named here, the scratch at some contents. -/
@[irreducible] def pointRun (c : Dev nD) (i : grid0.Coords) (arg2 : Memref sig .tc .vmem S1x256x512 .f32) (harg2 : arg2.IsWhole) (arg3 : Memref sig .tc .vmem S1x16x256x256 .bf16) (harg3 : arg3.IsWhole) (arg4 : Memref sig .tc .vmem S1x16x320x256 .bf16) (harg4 : arg4.IsWhole) (arg5 : Memref sig .tc .vmem S1x256x256 .bf16) (harg5 : arg5.IsWhole) (arg6 : Memref sig .tc .vmem S1x320x256 .bf16) (harg6 : arg6.IsWhole) (arg7 : Memref sig .tc .vmem S1x32 .f32) (harg7 : arg7.IsWhole) (arg8 : Memref sig .tc .vmem S1x32 .f32) (harg8 : arg8.IsWhole) (arg9 : Memref sig .tc .vmem S1x32 .f32) (harg9 : arg9.IsWhole) (arg10 : Memref sig .tc .vmem S1x32 .f32) (harg10 : arg10.IsWhole) (arg11 : Memref sig .tc .vmem S64x1 .f32) (harg11 : arg11.IsWhole) (arg12 : Memref sig .tc .vmem S512x256 .bf16) (harg12 : arg12.IsWhole) (arg13 : Memref sig .tc .vmem S256x4096 .bf16) (harg13 : arg13.IsWhole) (arg14 : Memref sig .tc .vmem S4x80x1024 .f32) (harg14 : arg14.IsWhole) (arg15 : Memref sig .tc .vmem S2x4x256x1024 .f32) (harg15 : arg15.IsWhole)
    (x2 : Vec F S1x256x512 .f32) (x3 : Vec F S1x16x256x256 .bf16) (x4 : Vec F S1x16x320x256 .bf16) (x5 : Vec F S1x256x256 .bf16) (x6 : Vec F S1x320x256 .bf16) (x7 : Vec F S1x32 .f32) (x8 : Vec F S1x32 .f32) (x9 : Vec F S1x32 .f32) (x10 : Vec F S1x32 .f32) (x11 : Vec F S64x1 .f32) (y13 : Vec F S256x4096 .bf16) (y14 : Vec F S4x80x1024 .f32) (y15 : Vec F S2x4x256x1024 .f32) :
    { out : Vec F S512x256 .bf16 // ∀ (E : Set ℕ) (K : PUnit → sProp 𝕄),
      iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ (∃ d, owns (c : Thread nD τ) arg12 fullShare d) ∗ owns (c : Thread nD τ) arg13 fullShare y13 ∗ owns (c : Thread nD τ) arg14 fullShare y14 ∗ owns (c : Thread nD τ) arg15 fullShare y15
          ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare out ∗ (∃ d, owns (c : Thread nD τ) arg13 fullShare d) ∗ (∃ d, owns (c : Thread nD τ) arg14 fullShare d) ∗ (∃ d, owns (c : Thread nD τ) arg15 fullShare d)) -∗ K ⟨⟩))
        ⊢ wp frame (wpE (defs₀ (F := F)) Variants.none c none) E (cc0_diff_attention i arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, fun E K => ?run⟩
  case run =>
    simp only [cc0_diff_attention_eq_skeleton]; unfold cc0_diff_attention_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton]
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%f13, %hf13, H13⟩, ⟨%f14, %hf14, H14⟩, ⟨%f15, %hf15, H15⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg13.eq_unread hf13; obtain rfl := harg14.eq_unread hf14; obtain rfl := harg15.eq_unread hf15
    sl_exec
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; swap; · iexact H12
      ipureintro
      exact View.read_writes_full _ _ _ _ _
    isplitl [H13]
    · iexists _, _; isplitr; swap; · iexact H13
      ipureintro; rfl
    isplitl [H14]
    · iexists _, _; isplitr; swap; · iexact H14
      ipureintro; rfl
    iexists _, _; isplitr; swap; · iexact H15
    ipureintro; rfl

end Cert.KernelIdeal.Hand

end
-- ==== Proof.Model.lean ====
/- The kernel body as pure functions: one head's scores of a chunk, the running column maximum, the rescaled accumulator, and
   the last step of a head; and how a store list is read back. -/
module

public import proofs.«01_k».proof.Proof.Gen.KernelIdeal.Loops
public import Idealize.ShloMosaic.Lib.VecWindow
public import Idealize.ShloMosaic.Lib.Pipeline.Value

@[expose] public section

set_option maxRecDepth 16384

noncomputable section

namespace Cert.KernelIdeal.Hand

open Cert.KernelIdeal.Gen
open Idealize.ShloMosaic Idealize.ShloMosaic.TcCoe Idealize.ShloMosaic.Tactic

variable {F : FTy → Type} [FloatOps F]

/-! ## Reading a list of stores back -/

section Read

variable {σ : RefSig} {κ' : Kind} {sp : Space} {s : Shape} {e : EltTy} {Val : EltTy → Type} (v : View σ κ' sp s e)
  (f : v.ty.Contents Val)

/-- The newest store is the one loaded. -/
theorem rd_hit {off size : Fin s.rank → ℕ} (inb inb' : ∀ a, off a + size a ≤ s.size a)
    (w : (Rect.unit off size inb').shape.Idx → Val e) (L : List (View.Piece Val s e)) :
    v.readAt Val (Rect.unit off size inb).toLoadRect (v.writes Val f (⟨Rect.unit off size inb', w⟩ :: L)) = w := by
  funext y
  refine View.read_writes_cons_unit_of_mem v f inb' w L _ y rfl fun a => ?_
  show off a + 1 * (y a).val = off a + (y a).val
  omega

/-- The newest store lies elsewhere on some axis. -/
theorem rd_miss {off size off' size' : Fin s.rank → ℕ} (inb : ∀ a, off a + size a ≤ s.size a)
    (inb' : ∀ a, off' a + size' a ≤ s.size a)
    (w : (Rect.unit off' size' inb').shape.Idx → Val e) (L : List (View.Piece Val s e))
    (h : ∃ a, off a + size a ≤ off' a ∨ off' a + size' a ≤ off a) :
    v.readAt Val (Rect.unit off size inb).toLoadRect (v.writes Val f (⟨Rect.unit off' size' inb', w⟩ :: L))
      = v.readAt Val (Rect.unit off size inb).toLoadRect (v.writes Val f L) := by
  funext y
  obtain ⟨a, ha⟩ := h
  refine View.read_writes_cons_unit_of_not_mem v f inb' w L _ rfl a ?_
  have h1 : (y a).val < size a := (y a).isLt
  show off a + 1 * (y a).val < off' a ∨ off' a + size' a ≤ off a + 1 * (y a).val
  omega

/-- A list of stores over another list. -/
theorem wr_append (L L' : List (View.Piece Val s e)) : v.writes Val f (L ++ L') = v.writes Val (v.writes Val f L') L := by
  induction L with
  | nil => rfl
  | cons p L ih => rw [List.cons_append, View.writes_cons, View.writes_cons, ih]

end Read

/-! ## One head -/

/-- Scores of one chunk: the keys times the head's two query maps side by side. -/
def scr (kb : FVec F S256x256 .bf16) (qb : Vec F S256x1024 .bf16) : FVec F S256x1024 .f32 :=
  matmul dot_S256x256_S256x1024_S256x1024_1_0_0_1_n_n none kb qb (constant S256x1024 .f32 0x00000000#32)

/-- The chunk's column maxima. -/
def cmx (s : FVec F S256x1024 .f32) : FVec F S1x1024 .f32 :=
  shapeCast S1x1024 (multiReduction .maximumf [0] S1024 s 0xFF800000#32 reduces_S256x1024_S1024 (.inl rfl) rfl)
    shapeCasts_S1024_S1x1024

/-- The chunk's weights relative to the maximum `m'`. -/
def wts (s : FVec F S256x1024 .f32) (m' : FVec F S1x1024 .f32) : FVec F S256x1024 .bf16 :=
  exp2 (truncf .bf16 (subf s (broadcastTo S256x1024 m' broadcasts_S1x1024_S256x1024)) bitsLt_bf16_f32)

/-- The accumulator rescaled from maximum `m` to `m'`, and the chunk's weighted values added. -/
def acst (m m' : FVec F S1x1024 .f32) (s : FVec F S256x1024 .f32) (vb : FVec F S80x256 .bf16) (a : FVec F S80x1024 .f32) :
    FVec F S80x1024 .f32 :=
  addf (mulf (broadcastTo S80x1024 (exp2 (subf m m')) broadcasts_S1x1024_S80x1024) a)
    (matmul dot_S80x256_S256x1024_S80x1024_1_0_0_1_n_n none vb (wts s m') (constant S80x1024 .f32 0x00000000#32))

/-- The running maximum and the accumulator after `n` chunks. -/
def mo (kb : ℕ → FVec F S256x256 .bf16) (vb : ℕ → FVec F S80x256 .bf16) (qb : Vec F S256x1024 .bf16) :
    ℕ → FVec F S1x1024 .f32 × FVec F S80x1024 .f32
  | 0 => (broadcast S1x1024 (Scalar.ofBits .f32 0xF149F2CA#32), broadcast S80x1024 (Scalar.ofBits .f32 0x00000000#32))
  | n + 1 =>
    (maximumf (mo kb vb qb n).1 (cmx (scr (kb n) qb)),
     acst (mo kb vb qb n).1 (maximumf (mo kb vb qb n).1 (cmx (scr (kb n) qb))) (scr (kb n) qb) (vb n) (mo kb vb qb n).2)

theorem mo_succ (kb : ℕ → FVec F S256x256 .bf16) (vb : ℕ → FVec F S80x256 .bf16) (qb : Vec F S256x1024 .bf16) (n : ℕ) :
    mo kb vb qb (n + 1) = (maximumf (mo kb vb qb n).1 (cmx (scr (kb n) qb)),
     acst (mo kb vb qb n).1 (maximumf (mo kb vb qb n).1 (cmx (scr (kb n) qb))) (scr (kb n) qb) (vb n) (mo kb vb qb n).2) := rfl

end Cert.KernelIdeal.Hand

end
-- ==== Proof.Trip.lean ====
/- One trip of the counted loop, two chunks: what it yields and what it leaves in the accumulator and in the score
   buffer, head by head. -/
module

public import proofs.«01_k».proof.Proof.Model

@[expose] public section

set_option maxRecDepth 16384

noncomputable section

namespace Cert.KernelIdeal.Hand

open Cert.KernelIdeal.Gen
open Idealize.ShloMosaic Idealize.ShloMosaic.TcCoe Idealize.ShloMosaic.Tactic

variable {F : FTy → Type} [FloatOps F] [Named F]

set_option maxHeartbeats 4000000 in
/-- What the trip yields. -/
theorem tripR_eq (𝒱 : Variants) (c : Dev nD) (bd : Option 𝒱.V) (i : grid0.Coords) (arg2 : Memref sig .tc .vmem S1x256x512 .f32) (harg2 : arg2.IsWhole) (arg3 : Memref sig .tc .vmem S1x16x256x256 .bf16) (harg3 : arg3.IsWhole) (arg4 : Memref sig .tc .vmem S1x16x320x256 .bf16) (harg4 : arg4.IsWhole) (arg5 : Memref sig .tc .vmem S1x256x256 .bf16) (harg5 : arg5.IsWhole) (arg6 : Memref sig .tc .vmem S1x320x256 .bf16) (harg6 : arg6.IsWhole) (arg7 : Memref sig .tc .vmem S1x32 .f32) (harg7 : arg7.IsWhole) (arg8 : Memref sig .tc .vmem S1x32 .f32) (harg8 : arg8.IsWhole) (arg9 : Memref sig .tc .vmem S1x32 .f32) (harg9 : arg9.IsWhole) (arg10 : Memref sig .tc .vmem S1x32 .f32) (harg10 : arg10.IsWhole) (arg11 : Memref sig .tc .vmem S64x1 .f32) (harg11 : arg11.IsWhole) (arg12 : Memref sig .tc .vmem S512x256 .bf16) (harg12 : arg12.IsWhole) (arg13 : Memref sig .tc .vmem S256x4096 .bf16) (harg13 : arg13.IsWhole) (arg14 : Memref sig .tc .vmem S4x80x1024 .f32) (harg14 : arg14.IsWhole) (arg15 : Memref sig .tc .vmem S2x4x256x1024 .f32) (harg15 : arg15.IsWhole) (v102 v103 v104 v105 v114 v123 v132 : FVec F S1x1024 .f32) (X3 : BufTy.Contents (Elt F) arg3.view.ty) (X4 : BufTy.Contents (Elt F) arg4.view.ty) (X13 : BufTy.Contents (Elt F) arg13.view.ty) (k : Fin k0_t1_loop.trips) (acc : FVec F S1x1024 .f32 × FVec F S1x1024 .f32 × FVec F S1x1024 .f32 × FVec F S1x1024 .f32 × FVec F S1x1024 .f32 × FVec F S1x1024 .f32 × FVec F S1x1024 .f32 × FVec F S1x1024 .f32) (f14 : BufTy.Contents (Elt F) arg14.view.ty) (f15 : BufTy.Contents (Elt F) arg15.view.ty) : tripR_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 v102 v103 v104 v105 v114 v123 v132 X3 X4 X13 k acc f14 f15 = ((maximumf (maximumf acc.1 acc.2.2.2.2.1) (cmx (scr (shapeCast S256x256 (arg3.view.readAt (Elt F) (Rect.unit (s := S1x16x256x256) (k0_off1 k) S1x1x256x256.size (k0_off1_inb k)).toLoadRect X3) shapeCasts_S1x1x256x256_S256x256) (arg13.view.readAt (Elt F) (Rect.unit (s := S256x4096) ![0, 0] S256x1024.size inb_S256x4096_S256x1024_0_0).toLoadRect X13)))), (maximumf (maximumf acc.2.1 acc.2.2.2.2.2.1) (cmx (scr (shapeCast S256x256 (arg3.view.readAt (Elt F) (Rect.unit (s := S1x16x256x256) (k0_off1 k) S1x1x256x256.size (k0_off1_inb k)).toLoadRect X3) shapeCasts_S1x1x256x256_S256x256) (arg13.view.readAt (Elt F) (Rect.unit (s := S256x4096) ![0, 1024] S256x1024.size inb_S256x4096_S256x1024_0_1024).toLoadRect X13)))), (maximumf (maximumf acc.2.2.1 acc.2.2.2.2.2.2.1) (cmx (scr (shapeCast S256x256 (arg3.view.readAt (Elt F) (Rect.unit (s := S1x16x256x256) (k0_off1 k) S1x1x256x256.size (k0_off1_inb k)).toLoadRect X3) shapeCasts_S1x1x256x256_S256x256) (arg13.view.readAt (Elt F) (Rect.unit (s := S256x4096) ![0, 2048] S256x1024.size inb_S256x4096_S256x1024_0_2048).toLoadRect X13)))), (maximumf (maximumf acc.2.2.2.1 acc.2.2.2.2.2.2.2) (cmx (scr (shapeCast S256x256 (arg3.view.readAt (Elt F) (Rect.unit (s := S1x16x256x256) (k0_off1 k) S1x1x256x256.size (k0_off1_inb k)).toLoadRect X3) shapeCasts_S1x1x256x256_S256x256) (arg13.view.readAt (Elt F) (Rect.unit (s := S256x4096) ![0, 3072] S256x1024.size inb_S256x4096_S256x1024_0_3072).toLoadRect X13)))), cmx (scr (shapeCast S256x256 (arg3.view.readAt (Elt F) (Rect.unit (s := S1x16x256x256) (k0_off6 k) S1x1x256x256.size (k0_off6_inb k)).toLoadRect X3) shapeCasts_S1x1x256x256_S256x256) (arg13.view.readAt (Elt F) (Rect.unit (s := S256x4096) ![0, 0] S256x1024.size inb_S256x4096_S256x1024_0_0).toLoadRect X13)), cmx (scr (shapeCast S256x256 (arg3.view.readAt (Elt F) (Rect.unit (s := S1x16x256x256) (k0_off6 k) S1x1x256x256.size (k0_off6_inb k)).toLoadRect X3) shapeCasts_S1x1x256x256_S256x256) (arg13.view.readAt (Elt F) (Rect.unit (s := S256x4096) ![0, 1024] S256x1024.size inb_S256x4096_S256x1024_0_1024).toLoadRect X13)), cmx (scr (shapeCast S256x256 (arg3.view.readAt (Elt F) (Rect.unit (s := S1x16x256x256) (k0_off6 k) S1x1x256x256.size (k0_off6_inb k)).toLoadRect X3) shapeCasts_S1x1x256x256_S256x256) (arg13.view.readAt (Elt F) (Rect.unit (s := S256x4096) ![0, 2048] S256x1024.size inb_S256x4096_S256x1024_0_2048).toLoadRect X13)), cmx (scr (shapeCast S256x256 (arg3.view.readAt (Elt F) (Rect.unit (s := S1x16x256x256) (k0_off6 k) S1x1x256x256.size (k0_off6_inb k)).toLoadRect X3) shapeCasts_S1x1x256x256_S256x256) (arg13.view.readAt (Elt F) (Rect.unit (s := S256x4096) ![0, 3072] S256x1024.size inb_S256x4096_S256x1024_0_3072).toLoadRect X13))) := by
  unfold tripR_k0_t1 trip_k0_t1
  rfl

set_option maxHeartbeats 4000000 in
/-- The score buffer after the trip, slot 0. -/
theorem tripS_0 (𝒱 : Variants) (c : Dev nD) (bd : Option 𝒱.V) (i : grid0.Coords) (arg2 : Memref sig .tc .vmem S1x256x512 .f32) (harg2 : arg2.IsWhole) (arg3 : Memref sig .tc .vmem S1x16x256x256 .bf16) (harg3 : arg3.IsWhole) (arg4 : Memref sig .tc .vmem S1x16x320x256 .bf16) (harg4 : arg4.IsWhole) (arg5 : Memref sig .tc .vmem S1x256x256 .bf16) (harg5 : arg5.IsWhole) (arg6 : Memref sig .tc .vmem S1x320x256 .bf16) (harg6 : arg6.IsWhole) (arg7 : Memref sig .tc .vmem S1x32 .f32) (harg7 : arg7.IsWhole) (arg8 : Memref sig .tc .vmem S1x32 .f32) (harg8 : arg8.IsWhole) (arg9 : Memref sig .tc .vmem S1x32 .f32) (harg9 : arg9.IsWhole) (arg10 : Memref sig .tc .vmem S1x32 .f32) (harg10 : arg10.IsWhole) (arg11 : Memref sig .tc .vmem S64x1 .f32) (harg11 : arg11.IsWhole) (arg12 : Memref sig .tc .vmem S512x256 .bf16) (harg12 : arg12.IsWhole) (arg13 : Memref sig .tc .vmem S256x4096 .bf16) (harg13 : arg13.IsWhole) (arg14 : Memref sig .tc .vmem S4x80x1024 .f32) (harg14 : arg14.IsWhole) (arg15 : Memref sig .tc .vmem S2x4x256x1024 .f32) (harg15 : arg15.IsWhole) (v102 v103 v104 v105 v114 v123 v132 : FVec F S1x1024 .f32) (X3 : BufTy.Contents (Elt F) arg3.view.ty) (X4 : BufTy.Contents (Elt F) arg4.view.ty) (X13 : BufTy.Contents (Elt F) arg13.view.ty) (k : Fin k0_t1_loop.trips) (acc : FVec F S1x1024 .f32 × FVec F S1x1024 .f32 × FVec F S1x1024 .f32 × FVec F S1x1024 .f32 × FVec F S1x1024 .f32 × FVec F S1x1024 .f32 × FVec F S1x1024 .f32 × FVec F S1x1024 .f32) (f14 : BufTy.Contents (Elt F) arg14.view.ty) (f15 : BufTy.Contents (Elt F) arg15.view.ty) (f : BufTy.Contents (Elt F) arg15.view.ty) (L : List (View.Piece (Elt F) S2x4x256x1024 .f32)) :
  (shapeCast S256x1024 (arg15.view.readAt (Elt F) (Rect.unit (s := S2x4x256x1024) ![0, 0, 0, 0] S1x1x256x1024.size inb_S2x4x256x1024_S1x1x256x1024_0_0_0_0).toLoadRect (arg15.view.writes (Elt F) f ((tripL_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 v102 v103 v104 v105 v114 v123 v132 X3 X4 X13 k acc f14 f15).2 ++ L))) shapeCasts_S1x1x256x1024_S256x1024) = scr (shapeCast S256x256 (arg3.view.readAt (Elt F) (Rect.unit (s := S1x16x256x256) (k0_off6 k) S1x1x256x256.size (k0_off6_inb k)).toLoadRect X3) shapeCasts_S1x1x256x256_S256x256) (arg13.view.readAt (Elt F) (Rect.unit (s := S256x4096) ![0, 0] S256x1024.size inb_S256x4096_S256x1024_0_0).toLoadRect X13) := by
  unfold tripL_k0_t1 trip_k0_t1
  dsimp only [trip_k0_t1.sl.HW_arg15_8, trip_k0_t1.sl.HW_arg15_7, trip_k0_t1.sl.HW_arg15_6, trip_k0_t1.sl.HW_arg15_5, List.cons_append, List.nil_append]
  repeat first | rw [rd_hit] | rw [rd_miss _ _ _ _ _ _ (by decide)]
  exact shapeCast_shapeCast _ _ _

/-- The second chunk's scores, loaded back. -/
theorem tripv712 (arg3 : Memref sig .tc .vmem S1x16x256x256 .bf16) (arg13 : Memref sig .tc .vmem S256x4096 .bf16) (arg15 : Memref sig .tc .vmem S2x4x256x1024 .f32) (X3 : BufTy.Contents (Elt F) arg3.view.ty) (X13 : BufTy.Contents (Elt F) arg13.view.ty) (k : Fin k0_t1_loop.trips) :
  trip_k0_t1.sl.v712 arg3 arg13 arg15 X3 X13 k = shapeCast S1x1x256x1024 (scr (shapeCast S256x256 (arg3.view.readAt (Elt F) (Rect.unit (s := S1x16x256x256) (k0_off1 k) S1x1x256x256.size (k0_off1_inb k)).toLoadRect X3) shapeCasts_S1x1x256x256_S256x256) (arg13.view.readAt (Elt F) (Rect.unit (s := S256x4096) ![0, 0] S256x1024.size inb_S256x4096_S256x1024_0_0).toLoadRect X13)) shapeCasts_S256x1024_S1x1x256x1024 := by
  unfold trip_k0_t1.sl.v712 View.readCov
  dsimp only [trip_k0_t1.sl.HW_arg15_8, trip_k0_t1.sl.HW_arg15_7, trip_k0_t1.sl.HW_arg15_6, trip_k0_t1.sl.HW_arg15_5]
  repeat first | rw [rd_hit] | rw [rd_miss _ _ _ _ _ _ (by decide)]
  rfl

/-- The accumulator after the first chunk, loaded back. -/
theorem tripv721 (arg4 : Memref sig .tc .vmem S1x16x320x256 .bf16) (arg14 : Memref sig .tc .vmem S4x80x1024 .f32) (arg15 : Memref sig .tc .vmem S2x4x256x1024 .f32) (X4 : BufTy.Contents (Elt F) arg4.view.ty) (k : Fin k0_t1_loop.trips) (acc : FVec F S1x1024 .f32 × FVec F S1x1024 .f32 × FVec F S1x1024 .f32 × FVec F S1x1024 .f32 × FVec F S1x1024 .f32 × FVec F S1x1024 .f32 × FVec F S1x1024 .f32 × FVec F S1x1024 .f32) (f14 : BufTy.Contents (Elt F) arg14.view.ty) (f15 : BufTy.Contents (Elt F) arg15.view.ty) :
  trip_k0_t1.sl.v721 arg4 arg14 arg15 X4 k acc f14 f15 = shapeCast S1x80x1024 (acst acc.1 (maximumf acc.1 acc.2.2.2.2.1) (shapeCast S256x1024 (arg15.view.readAt (Elt F) (Rect.unit (s := S2x4x256x1024) ![0, 0, 0, 0] S1x1x256x1024.size inb_S2x4x256x1024_S1x1x256x1024_0_0_0_0).toLoadRect f15) shapeCasts_S1x1x256x1024_S256x1024) (shapeCast S80x256 (arg4.view.readAt (Elt F) (Rect.unit (s := S1x16x320x256) (k0_off2 k) S1x1x80x256.size (k0_off2_inb k)).toLoadRect X4) shapeCasts_S1x1x80x256_S80x256) (shapeCast S80x1024 (arg14.view.readAt (Elt F) (Rect.unit (s := S4x80x1024) ![0, 0, 0] S1x80x1024.size inb_S4x80x1024_S1x80x1024_0_0_0).toLoadRect f14) shapeCasts_S1x80x1024_S80x1024)) shapeCasts_S80x1024_S1x80x1024 := by
  unfold trip_k0_t1.sl.v721 View.readCov
  dsimp only [trip_k0_t1.sl.HW_arg14_7, trip_k0_t1.sl.HW_arg14_6, trip_k0_t1.sl.HW_arg14_5, trip_k0_t1.sl.HW_arg14_4]
  repeat first | rw [rd_hit] | rw [rd_miss _ _ _ _ _ _ (by decide)]
  rfl

set_option maxHeartbeats 4000000 in
/-- The accumulator after the trip. -/
theorem tripA_0 (𝒱 : Variants) (c : Dev nD) (bd : Option 𝒱.V) (i : grid0.Coords) (arg2 : Memref sig .tc .vmem S1x256x512 .f32) (harg2 : arg2.IsWhole) (arg3 : Memref sig .tc .vmem S1x16x256x256 .bf16) (harg3 : arg3.IsWhole) (arg4 : Memref sig .tc .vmem S1x16x320x256 .bf16) (harg4 : arg4.IsWhole) (arg5 : Memref sig .tc .vmem S1x256x256 .bf16) (harg5 : arg5.IsWhole) (arg6 : Memref sig .tc .vmem S1x320x256 .bf16) (harg6 : arg6.IsWhole) (arg7 : Memref sig .tc .vmem S1x32 .f32) (harg7 : arg7.IsWhole) (arg8 : Memref sig .tc .vmem S1x32 .f32) (harg8 : arg8.IsWhole) (arg9 : Memref sig .tc .vmem S1x32 .f32) (harg9 : arg9.IsWhole) (arg10 : Memref sig .tc .vmem S1x32 .f32) (harg10 : arg10.IsWhole) (arg11 : Memref sig .tc .vmem S64x1 .f32) (harg11 : arg11.IsWhole) (arg12 : Memref sig .tc .vmem S512x256 .bf16) (harg12 : arg12.IsWhole) (arg13 : Memref sig .tc .vmem S256x4096 .bf16) (harg13 : arg13.IsWhole) (arg14 : Memref sig .tc .vmem S4x80x1024 .f32) (harg14 : arg14.IsWhole) (arg15 : Memref sig .tc .vmem S2x4x256x1024 .f32) (harg15 : arg15.IsWhole) (v102 v103 v104 v105 v114 v123 v132 : FVec F S1x1024 .f32) (X3 : BufTy.Contents (Elt F) arg3.view.ty) (X4 : BufTy.Contents (Elt F) arg4.view.ty) (X13 : BufTy.Contents (Elt F) arg13.view.ty) (k : Fin k0_t1_loop.trips) (acc : FVec F S1x1024 .f32 × FVec F S1x1024 .f32 × FVec F S1x1024 .f32 × FVec F S1x1024 .f32 × FVec F S1x1024 .f32 × FVec F S1x1024 .f32 × FVec F S1x1024 .f32 × FVec F S1x1024 .f32) (f14 : BufTy.Contents (Elt F) arg14.view.ty) (f15 : BufTy.Contents (Elt F) arg15.view.ty) (f : BufTy.Contents (Elt F) arg14.view.ty) (L : List (View.Piece (Elt F) S4x80x1024 .f32)) :
  (shapeCast S80x1024 (arg14.view.readAt (Elt F) (Rect.unit (s := S4x80x1024) ![0, 0, 0] S1x80x1024.size inb_S4x80x1024_S1x80x1024_0_0_0).toLoadRect (arg14.view.writes (Elt F) f ((tripL_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 v102 v103 v104 v105 v114 v123 v132 X3 X4 X13 k acc f14 f15).1 ++ L))) shapeCasts_S1x80x1024_S80x1024) = acst (maximumf acc.1 acc.2.2.2.2.1) (maximumf (maximumf acc.1 acc.2.2.2.2.1) (cmx (scr (shapeCast S256x256 (arg3.view.readAt (Elt F) (Rect.unit (s := S1x16x256x256) (k0_off1 k) S1x1x256x256.size (k0_off1_inb k)).toLoadRect X3) shapeCasts_S1x1x256x256_S256x256) (arg13.view.readAt (Elt F) (Rect.unit (s := S256x4096) ![0, 0] S256x1024.size inb_S256x4096_S256x1024_0_0).toLoadRect X13)))) (scr (shapeCast S256x256 (arg3.view.readAt (Elt F) (Rect.unit (s := S1x16x256x256) (k0_off1 k) S1x1x256x256.size (k0_off1_inb k)).toLoadRect X3) shapeCasts_S1x1x256x256_S256x256) (arg13.view.readAt (Elt F) (Rect.unit (s := S256x4096) ![0, 0] S256x1024.size inb_S256x4096_S256x1024_0_0).toLoadRect X13)) (shapeCast S80x256 (arg4.view.readAt (Elt F) (Rect.unit (s := S1x16x320x256) (k0_off7 k) S1x1x80x256.size (k0_off7_inb k)).toLoadRect X4) shapeCasts_S1x1x80x256_S80x256) (acst acc.1 (maximumf acc.1 acc.2.2.2.2.1) (shapeCast S256x1024 (arg15.view.readAt (Elt F) (Rect.unit (s := S2x4x256x1024) ![0, 0, 0, 0] S1x1x256x1024.size inb_S2x4x256x1024_S1x1x256x1024_0_0_0_0).toLoadRect f15) shapeCasts_S1x1x256x1024_S256x1024) (shapeCast S80x256 (arg4.view.readAt (Elt F) (Rect.unit (s := S1x16x320x256) (k0_off2 k) S1x1x80x256.size (k0_off2_inb k)).toLoadRect X4) shapeCasts_S1x1x80x256_S80x256) (shapeCast S80x1024 (arg14.view.readAt (Elt F) (Rect.unit (s := S4x80x1024) ![0, 0, 0] S1x80x1024.size inb_S4x80x1024_S1x80x1024_0_0_0).toLoadRect f14) shapeCasts_S1x80x1024_S80x1024)) := by
  unfold tripL_k0_t1 trip_k0_t1
  dsimp only [trip_k0_t1.sl.HW_arg14_7, trip_k0_t1.sl.HW_arg14_6, trip_k0_t1.sl.HW_arg14_5, trip_k0_t1.sl.HW_arg14_4, List.cons_append, List.nil_append]
  repeat first | rw [rd_hit] | rw [rd_miss _ _ _ _ _ _ (by decide)]
  refine (congrArg (fun x => shapeCast S80x1024 x shapeCasts_S1x80x1024_S80x1024) (show _ = shapeCast S1x80x1024 (acst (maximumf acc.1 acc.2.2.2.2.1) (maximumf (maximumf acc.1 acc.2.2.2.2.1) (cmx (scr (shapeCast S256x256 (arg3.view.readAt (Elt F) (Rect.unit (s := S1x16x256x256) (k0_off1 k) S1x1x256x256.size (k0_off1_inb k)).toLoadRect X3) shapeCasts_S1x1x256x256_S256x256) (arg13.view.readAt (Elt F) (Rect.unit (s := S256x4096) ![0, 0] S256x1024.size inb_S256x4096_S256x1024_0_0).toLoadRect X13)))) (shapeCast S256x1024 (trip_k0_t1.sl.v712 arg3 arg13 arg15 X3 X13 k) shapeCasts_S1x1x256x1024_S256x1024) (shapeCast S80x256 (arg4.view.readAt (Elt F) (Rect.unit (s := S1x16x320x256) (k0_off7 k) S1x1x80x256.size (k0_off7_inb k)).toLoadRect X4) shapeCasts_S1x1x80x256_S80x256) (shapeCast S80x1024 (trip_k0_t1.sl.v721 arg4 arg14 arg15 X4 k acc f14 f15) shapeCasts_S1x80x1024_S80x1024)) shapeCasts_S80x1024_S1x80x1024 from rfl)).trans ?_
  rw [tripv712, tripv721]
  exact (shapeCast_shapeCast _ _ _).trans (congrArg₂ (fun x y => acst (maximumf acc.1 acc.2.2.2.2.1) (maximumf (maximumf acc.1 acc.2.2.2.2.1) (cmx (scr (shapeCast S256x256 (arg3.view.readAt (Elt F) (Rect.unit (s := S1x16x256x256) (k0_off1 k) S1x1x256x256.size (k0_off1_inb k)).toLoadRect X3) shapeCasts_S1x1x256x256_S256x256) (arg13.view.readAt (Elt F) (Rect.unit (s := S256x4096) ![0, 0] S256x1024.size inb_S256x4096_S256x1024_0_0).toLoadRect X13)))) x (shapeCast S80x256 (arg4.view.readAt (Elt F) (Rect.unit (s := S1x16x320x256) (k0_off7 k) S1x1x80x256.size (k0_off7_inb k)).toLoadRect X4) shapeCasts_S1x1x80x256_S80x256) y) (shapeCast_shapeCast _ _ _) (shapeCast_shapeCast _ _ _))
set_option maxHeartbeats 4000000 in
/-- The score buffer after the trip, slot 0. -/
theorem tripS_1 (𝒱 : Variants) (c : Dev nD) (bd : Option 𝒱.V) (i : grid0.Coords) (arg2 : Memref sig .tc .vmem S1x256x512 .f32) (harg2 : arg2.IsWhole) (arg3 : Memref sig .tc .vmem S1x16x256x256 .bf16) (harg3 : arg3.IsWhole) (arg4 : Memref sig .tc .vmem S1x16x320x256 .bf16) (harg4 : arg4.IsWhole) (arg5 : Memref sig .tc .vmem S1x256x256 .bf16) (harg5 : arg5.IsWhole) (arg6 : Memref sig .tc .vmem S1x320x256 .bf16) (harg6 : arg6.IsWhole) (arg7 : Memref sig .tc .vmem S1x32 .f32) (harg7 : arg7.IsWhole) (arg8 : Memref sig .tc .vmem S1x32 .f32) (harg8 : arg8.IsWhole) (arg9 : Memref sig .tc .vmem S1x32 .f32) (harg9 : arg9.IsWhole) (arg10 : Memref sig .tc .vmem S1x32 .f32) (harg10 : arg10.IsWhole) (arg11 : Memref sig .tc .vmem S64x1 .f32) (harg11 : arg11.IsWhole) (arg12 : Memref sig .tc .vmem S512x256 .bf16) (harg12 : arg12.IsWhole) (arg13 : Memref sig .tc .vmem S256x4096 .bf16) (harg13 : arg13.IsWhole) (arg14 : Memref sig .tc .vmem S4x80x1024 .f32) (harg14 : arg14.IsWhole) (arg15 : Memref sig .tc .vmem S2x4x256x1024 .f32) (harg15 : arg15.IsWhole) (v102 v103 v104 v105 v114 v123 v132 : FVec F S1x1024 .f32) (X3 : BufTy.Contents (Elt F) arg3.view.ty) (X4 : BufTy.Contents (Elt F) arg4.view.ty) (X13 : BufTy.Contents (Elt F) arg13.view.ty) (k : Fin k0_t1_loop.trips) (acc : FVec F S1x1024 .f32 × FVec F S1x1024 .f32 × FVec F S1x1024 .f32 × FVec F S1x1024 .f32 × FVec F S1x1024 .f32 × FVec F S1x1024 .f32 × FVec F S1x1024 .f32 × FVec F S1x1024 .f32) (f14 : BufTy.Contents (Elt F) arg14.view.ty) (f15 : BufTy.Contents (Elt F) arg15.view.ty) (f : BufTy.Contents (Elt F) arg15.view.ty) (L : List (View.Piece (Elt F) S2x4x256x1024 .f32)) :
  (shapeCast S256x1024 (arg15.view.readAt (Elt F) (Rect.unit (s := S2x4x256x1024) ![0, 1, 0, 0] S1x1x256x1024.size inb_S2x4x256x1024_S1x1x256x1024_0_1_0_0).toLoadRect (arg15.view.writes (Elt F) f ((tripL_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 v102 v103 v104 v105 v114 v123 v132 X3 X4 X13 k acc f14 f15).2 ++ L))) shapeCasts_S1x1x256x1024_S256x1024) = scr (shapeCast S256x256 (arg3.view.readAt (Elt F) (Rect.unit (s := S1x16x256x256) (k0_off6 k) S1x1x256x256.size (k0_off6_inb k)).toLoadRect X3) shapeCasts_S1x1x256x256_S256x256) (arg13.view.readAt (Elt F) (Rect.unit (s := S256x4096) ![0, 1024] S256x1024.size inb_S256x4096_S256x1024_0_1024).toLoadRect X13) := by
  unfold tripL_k0_t1 trip_k0_t1
  dsimp only [trip_k0_t1.sl.HW_arg15_8, trip_k0_t1.sl.HW_arg15_7, trip_k0_t1.sl.HW_arg15_6, trip_k0_t1.sl.HW_arg15_5, List.cons_append, List.nil_append]
  repeat first | rw [rd_hit] | rw [rd_miss _ _ _ _ _ _ (by decide)]
  exact shapeCast_shapeCast _ _ _

/-- The second chunk's scores, loaded back. -/
theorem tripv744 (arg3 : Memref sig .tc .vmem S1x16x256x256 .bf16) (arg13 : Memref sig .tc .vmem S256x4096 .bf16) (arg15 : Memref sig .tc .vmem S2x4x256x1024 .f32) (X3 : BufTy.Contents (Elt F) arg3.view.ty) (X13 : BufTy.Contents (Elt F) arg13.view.ty) (k : Fin k0_t1_loop.trips) :
  trip_k0_t1.sl.v744 arg3 arg13 arg15 X3 X13 k = shapeCast S1x1x256x1024 (scr (shapeCast S256x256 (arg3.view.readAt (Elt F) (Rect.unit (s := S1x16x256x256) (k0_off1 k) S1x1x256x256.size (k0_off1_inb k)).toLoadRect X3) shapeCasts_S1x1x256x256_S256x256) (arg13.view.readAt (Elt F) (Rect.unit (s := S256x4096) ![0, 1024] S256x1024.size inb_S256x4096_S256x1024_0_1024).toLoadRect X13)) shapeCasts_S256x1024_S1x1x256x1024 := by
  unfold trip_k0_t1.sl.v744 View.readCov
  dsimp only [trip_k0_t1.sl.HW_arg15_8, trip_k0_t1.sl.HW_arg15_7, trip_k0_t1.sl.HW_arg15_6, trip_k0_t1.sl.HW_arg15_5]
  repeat first | rw [rd_hit] | rw [rd_miss _ _ _ _ _ _ (by decide)]
  rfl

/-- The accumulator after the first chunk, loaded back. -/
theorem tripv753 (arg3 : Memref sig .tc .vmem S1x16x256x256 .bf16) (arg13 : Memref sig .tc .vmem S256x4096 .bf16) (arg4 : Memref sig .tc .vmem S1x16x320x256 .bf16) (arg14 : Memref sig .tc .vmem S4x80x1024 .f32) (arg15 : Memref sig .tc .vmem S2x4x256x1024 .f32) (X3 : BufTy.Contents (Elt F) arg3.view.ty) (X13 : BufTy.Contents (Elt F) arg13.view.ty) (X4 : BufTy.Contents (Elt F) arg4.view.ty) (k : Fin k0_t1_loop.trips) (acc : FVec F S1x1024 .f32 × FVec F S1x1024 .f32 × FVec F S1x1024 .f32 × FVec F S1x1024 .f32 × FVec F S1x1024 .f32 × FVec F S1x1024 .f32 × FVec F S1x1024 .f32 × FVec F S1x1024 .f32) (f14 : BufTy.Contents (Elt F) arg14.view.ty) (f15 : BufTy.Contents (Elt F) arg15.view.ty) :
  trip_k0_t1.sl.v753 arg3 arg4 arg13 arg14 arg15 X3 X4 X13 k acc f14 f15 = shapeCast S1x80x1024 (acst acc.2.1 (maximumf acc.2.1 acc.2.2.2.2.2.1) (shapeCast S256x1024 (arg15.view.readAt (Elt F) (Rect.unit (s := S2x4x256x1024) ![0, 1, 0, 0] S1x1x256x1024.size inb_S2x4x256x1024_S1x1x256x1024_0_1_0_0).toLoadRect f15) shapeCasts_S1x1x256x1024_S256x1024) (shapeCast S80x256 (arg4.view.readAt (Elt F) (Rect.unit (s := S1x16x320x256) (k0_off3 k) S1x1x80x256.size (k0_off3_inb k)).toLoadRect X4) shapeCasts_S1x1x80x256_S80x256) (shapeCast S80x1024 (arg14.view.readAt (Elt F) (Rect.unit (s := S4x80x1024) ![1, 0, 0] S1x80x1024.size inb_S4x80x1024_S1x80x1024_1_0_0).toLoadRect f14) shapeCasts_S1x80x1024_S80x1024)) shapeCasts_S80x1024_S1x80x1024 := by
  unfold trip_k0_t1.sl.v753 View.readCov
  dsimp only [trip_k0_t1.sl.HW_arg14_7, trip_k0_t1.sl.HW_arg14_6, trip_k0_t1.sl.HW_arg14_5, trip_k0_t1.sl.HW_arg14_4]
  repeat first | rw [rd_hit] | rw [rd_miss _ _ _ _ _ _ (by decide)]
  rfl

set_option maxHeartbeats 4000000 in
/-- The accumulator after the trip. -/
theorem tripA_1 (𝒱 : Variants) (c : Dev nD) (bd : Option 𝒱.V) (i : grid0.Coords) (arg2 : Memref sig .tc .vmem S1x256x512 .f32) (harg2 : arg2.IsWhole) (arg3 : Memref sig .tc .vmem S1x16x256x256 .bf16) (harg3 : arg3.IsWhole) (arg4 : Memref sig .tc .vmem S1x16x320x256 .bf16) (harg4 : arg4.IsWhole) (arg5 : Memref sig .tc .vmem S1x256x256 .bf16) (harg5 : arg5.IsWhole) (arg6 : Memref sig .tc .vmem S1x320x256 .bf16) (harg6 : arg6.IsWhole) (arg7 : Memref sig .tc .vmem S1x32 .f32) (harg7 : arg7.IsWhole) (arg8 : Memref sig .tc .vmem S1x32 .f32) (harg8 : arg8.IsWhole) (arg9 : Memref sig .tc .vmem S1x32 .f32) (harg9 : arg9.IsWhole) (arg10 : Memref sig .tc .vmem S1x32 .f32) (harg10 : arg10.IsWhole) (arg11 : Memref sig .tc .vmem S64x1 .f32) (harg11 : arg11.IsWhole) (arg12 : Memref sig .tc .vmem S512x256 .bf16) (harg12 : arg12.IsWhole) (arg13 : Memref sig .tc .vmem S256x4096 .bf16) (harg13 : arg13.IsWhole) (arg14 : Memref sig .tc .vmem S4x80x1024 .f32) (harg14 : arg14.IsWhole) (arg15 : Memref sig .tc .vmem S2x4x256x1024 .f32) (harg15 : arg15.IsWhole) (v102 v103 v104 v105 v114 v123 v132 : FVec F S1x1024 .f32) (X3 : BufTy.Contents (Elt F) arg3.view.ty) (X4 : BufTy.Contents (Elt F) arg4.view.ty) (X13 : BufTy.Contents (Elt F) arg13.view.ty) (k : Fin k0_t1_loop.trips) (acc : FVec F S1x1024 .f32 × FVec F S1x1024 .f32 × FVec F S1x1024 .f32 × FVec F S1x1024 .f32 × FVec F S1x1024 .f32 × FVec F S1x1024 .f32 × FVec F S1x1024 .f32 × FVec F S1x1024 .f32) (f14 : BufTy.Contents (Elt F) arg14.view.ty) (f15 : BufTy.Contents (Elt F) arg15.view.ty) (f : BufTy.Contents (Elt F) arg14.view.ty) (L : List (View.Piece (Elt F) S4x80x1024 .f32)) :
  (shapeCast S80x1024 (arg14.view.readAt (Elt F) (Rect.unit (s := S4x80x1024) ![1, 0, 0] S1x80x1024.size inb_S4x80x1024_S1x80x1024_1_0_0).toLoadRect (arg14.view.writes (Elt F) f ((tripL_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 v102 v103 v104 v105 v114 v123 v132 X3 X4 X13 k acc f14 f15).1 ++ L))) shapeCasts_S1x80x1024_S80x1024) = acst (maximumf acc.2.1 acc.2.2.2.2.2.1) (maximumf (maximumf acc.2.1 acc.2.2.2.2.2.1) (cmx (scr (shapeCast S256x256 (arg3.view.readAt (Elt F) (Rect.unit (s := S1x16x256x256) (k0_off1 k) S1x1x256x256.size (k0_off1_inb k)).toLoadRect X3) shapeCasts_S1x1x256x256_S256x256) (arg13.view.readAt (Elt F) (Rect.unit (s := S256x4096) ![0, 1024] S256x1024.size inb_S256x4096_S256x1024_0_1024).toLoadRect X13)))) (scr (shapeCast S256x256 (arg3.view.readAt (Elt F) (Rect.unit (s := S1x16x256x256) (k0_off1 k) S1x1x256x256.size (k0_off1_inb k)).toLoadRect X3) shapeCasts_S1x1x256x256_S256x256) (arg13.view.readAt (Elt F) (Rect.unit (s := S256x4096) ![0, 1024] S256x1024.size inb_S256x4096_S256x1024_0_1024).toLoadRect X13)) (shapeCast S80x256 (arg4.view.readAt (Elt F) (Rect.unit (s := S1x16x320x256) (k0_off8 k) S1x1x80x256.size (k0_off8_inb k)).toLoadRect X4) shapeCasts_S1x1x80x256_S80x256) (acst acc.2.1 (maximumf acc.2.1 acc.2.2.2.2.2.1) (shapeCast S256x1024 (arg15.view.readAt (Elt F) (Rect.unit (s := S2x4x256x1024) ![0, 1, 0, 0] S1x1x256x1024.size inb_S2x4x256x1024_S1x1x256x1024_0_1_0_0).toLoadRect f15) shapeCasts_S1x1x256x1024_S256x1024) (shapeCast S80x256 (arg4.view.readAt (Elt F) (Rect.unit (s := S1x16x320x256) (k0_off3 k) S1x1x80x256.size (k0_off3_inb k)).toLoadRect X4) shapeCasts_S1x1x80x256_S80x256) (shapeCast S80x1024 (arg14.view.readAt (Elt F) (Rect.unit (s := S4x80x1024) ![1, 0, 0] S1x80x1024.size inb_S4x80x1024_S1x80x1024_1_0_0).toLoadRect f14) shapeCasts_S1x80x1024_S80x1024)) := by
  unfold tripL_k0_t1 trip_k0_t1
  dsimp only [trip_k0_t1.sl.HW_arg14_7, trip_k0_t1.sl.HW_arg14_6, trip_k0_t1.sl.HW_arg14_5, trip_k0_t1.sl.HW_arg14_4, List.cons_append, List.nil_append]
  repeat first | rw [rd_hit] | rw [rd_miss _ _ _ _ _ _ (by decide)]
  refine (congrArg (fun x => shapeCast S80x1024 x shapeCasts_S1x80x1024_S80x1024) (show _ = shapeCast S1x80x1024 (acst (maximumf acc.2.1 acc.2.2.2.2.2.1) (maximumf (maximumf acc.2.1 acc.2.2.2.2.2.1) (cmx (scr (shapeCast S256x256 (arg3.view.readAt (Elt F) (Rect.unit (s := S1x16x256x256) (k0_off1 k) S1x1x256x256.size (k0_off1_inb k)).toLoadRect X3) shapeCasts_S1x1x256x256_S256x256) (arg13.view.readAt (Elt F) (Rect.unit (s := S256x4096) ![0, 1024] S256x1024.size inb_S256x4096_S256x1024_0_1024).toLoadRect X13)))) (shapeCast S256x1024 (trip_k0_t1.sl.v744 arg3 arg13 arg15 X3 X13 k) shapeCasts_S1x1x256x1024_S256x1024) (shapeCast S80x256 (arg4.view.readAt (Elt F) (Rect.unit (s := S1x16x320x256) (k0_off8 k) S1x1x80x256.size (k0_off8_inb k)).toLoadRect X4) shapeCasts_S1x1x80x256_S80x256) (shapeCast S80x1024 (trip_k0_t1.sl.v753 arg3 arg4 arg13 arg14 arg15 X3 X4 X13 k acc f14 f15) shapeCasts_S1x80x1024_S80x1024)) shapeCasts_S80x1024_S1x80x1024 from rfl)).trans ?_
  rw [tripv744, tripv753]
  exact (shapeCast_shapeCast _ _ _).trans (congrArg₂ (fun x y => acst (maximumf acc.2.1 acc.2.2.2.2.2.1) (maximumf (maximumf acc.2.1 acc.2.2.2.2.2.1) (cmx (scr (shapeCast S256x256 (arg3.view.readAt (Elt F) (Rect.unit (s := S1x16x256x256) (k0_off1 k) S1x1x256x256.size (k0_off1_inb k)).toLoadRect X3) shapeCasts_S1x1x256x256_S256x256) (arg13.view.readAt (Elt F) (Rect.unit (s := S256x4096) ![0, 1024] S256x1024.size inb_S256x4096_S256x1024_0_1024).toLoadRect X13)))) x (shapeCast S80x256 (arg4.view.readAt (Elt F) (Rect.unit (s := S1x16x320x256) (k0_off8 k) S1x1x80x256.size (k0_off8_inb k)).toLoadRect X4) shapeCasts_S1x1x80x256_S80x256) y) (shapeCast_shapeCast _ _ _) (shapeCast_shapeCast _ _ _))
set_option maxHeartbeats 4000000 in
/-- The score buffer after the trip, slot 0. -/
theorem tripS_2 (𝒱 : Variants) (c : Dev nD) (bd : Option 𝒱.V) (i : grid0.Coords) (arg2 : Memref sig .tc .vmem S1x256x512 .f32) (harg2 : arg2.IsWhole) (arg3 : Memref sig .tc .vmem S1x16x256x256 .bf16) (harg3 : arg3.IsWhole) (arg4 : Memref sig .tc .vmem S1x16x320x256 .bf16) (harg4 : arg4.IsWhole) (arg5 : Memref sig .tc .vmem S1x256x256 .bf16) (harg5 : arg5.IsWhole) (arg6 : Memref sig .tc .vmem S1x320x256 .bf16) (harg6 : arg6.IsWhole) (arg7 : Memref sig .tc .vmem S1x32 .f32) (harg7 : arg7.IsWhole) (arg8 : Memref sig .tc .vmem S1x32 .f32) (harg8 : arg8.IsWhole) (arg9 : Memref sig .tc .vmem S1x32 .f32) (harg9 : arg9.IsWhole) (arg10 : Memref sig .tc .vmem S1x32 .f32) (harg10 : arg10.IsWhole) (arg11 : Memref sig .tc .vmem S64x1 .f32) (harg11 : arg11.IsWhole) (arg12 : Memref sig .tc .vmem S512x256 .bf16) (harg12 : arg12.IsWhole) (arg13 : Memref sig .tc .vmem S256x4096 .bf16) (harg13 : arg13.IsWhole) (arg14 : Memref sig .tc .vmem S4x80x1024 .f32) (harg14 : arg14.IsWhole) (arg15 : Memref sig .tc .vmem S2x4x256x1024 .f32) (harg15 : arg15.IsWhole) (v102 v103 v104 v105 v114 v123 v132 : FVec F S1x1024 .f32) (X3 : BufTy.Contents (Elt F) arg3.view.ty) (X4 : BufTy.Contents (Elt F) arg4.view.ty) (X13 : BufTy.Contents (Elt F) arg13.view.ty) (k : Fin k0_t1_loop.trips) (acc : FVec F S1x1024 .f32 × FVec F S1x1024 .f32 × FVec F S1x1024 .f32 × FVec F S1x1024 .f32 × FVec F S1x1024 .f32 × FVec F S1x1024 .f32 × FVec F S1x1024 .f32 × FVec F S1x1024 .f32) (f14 : BufTy.Contents (Elt F) arg14.view.ty) (f15 : BufTy.Contents (Elt F) arg15.view.ty) (f : BufTy.Contents (Elt F) arg15.view.ty) (L : List (View.Piece (Elt F) S2x4x256x1024 .f32)) :
  (shapeCast S256x1024 (arg15.view.readAt (Elt F) (Rect.unit (s := S2x4x256x1024) ![0, 2, 0, 0] S1x1x256x1024.size inb_S2x4x256x1024_S1x1x256x1024_0_2_0_0).toLoadRect (arg15.view.writes (Elt F) f ((tripL_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 v102 v103 v104 v105 v114 v123 v132 X3 X4 X13 k acc f14 f15).2 ++ L))) shapeCasts_S1x1x256x1024_S256x1024) = scr (shapeCast S256x256 (arg3.view.readAt (Elt F) (Rect.unit (s := S1x16x256x256) (k0_off6 k) S1x1x256x256.size (k0_off6_inb k)).toLoadRect X3) shapeCasts_S1x1x256x256_S256x256) (arg13.view.readAt (Elt F) (Rect.unit (s := S256x4096) ![0, 2048] S256x1024.size inb_S256x4096_S256x1024_0_2048).toLoadRect X13) := by
  unfold tripL_k0_t1 trip_k0_t1
  dsimp only [trip_k0_t1.sl.HW_arg15_8, trip_k0_t1.sl.HW_arg15_7, trip_k0_t1.sl.HW_arg15_6, trip_k0_t1.sl.HW_arg15_5, List.cons_append, List.nil_append]
  repeat first | rw [rd_hit] | rw [rd_miss _ _ _ _ _ _ (by decide)]
  exact shapeCast_shapeCast _ _ _

/-- The second chunk's scores, loaded back. -/
theorem tripv776 (arg3 : Memref sig .tc .vmem S1x16x256x256 .bf16) (arg13 : Memref sig .tc .vmem S256x4096 .bf16) (arg15 : Memref sig .tc .vmem S2x4x256x1024 .f32) (X3 : BufTy.Contents (Elt F) arg3.view.ty) (X13 : BufTy.Contents (Elt F) arg13.view.ty) (k : Fin k0_t1_loop.trips) :
  trip_k0_t1.sl.v776 arg3 arg13 arg15 X3 X13 k = shapeCast S1x1x256x1024 (scr (shapeCast S256x256 (arg3.view.readAt (Elt F) (Rect.unit (s := S1x16x256x256) (k0_off1 k) S1x1x256x256.size (k0_off1_inb k)).toLoadRect X3) shapeCasts_S1x1x256x256_S256x256) (arg13.view.readAt (Elt F) (Rect.unit (s := S256x4096) ![0, 2048] S256x1024.size inb_S256x4096_S256x1024_0_2048).toLoadRect X13)) shapeCasts_S256x1024_S1x1x256x1024 := by
  unfold trip_k0_t1.sl.v776 View.readCov
  dsimp only [trip_k0_t1.sl.HW_arg15_8, trip_k0_t1.sl.HW_arg15_7, trip_k0_t1.sl.HW_arg15_6, trip_k0_t1.sl.HW_arg15_5]
  repeat first | rw [rd_hit] | rw [rd_miss _ _ _ _ _ _ (by decide)]
  rfl

/-- The accumulator after the first chunk, loaded back. -/
theorem tripv785 (arg3 : Memref sig .tc .vmem S1x16x256x256 .bf16) (arg13 : Memref sig .tc .vmem S256x4096 .bf16) (arg4 : Memref sig .tc .vmem S1x16x320x256 .bf16) (arg14 : Memref sig .tc .vmem S4x80x1024 .f32) (arg15 : Memref sig .tc .vmem S2x4x256x1024 .f32) (X3 : BufTy.Contents (Elt F) arg3.view.ty) (X13 : BufTy.Contents (Elt F) arg13.view.ty) (X4 : BufTy.Contents (Elt F) arg4.view.ty) (k : Fin k0_t1_loop.trips) (acc : FVec F S1x1024 .f32 × FVec F S1x1024 .f32 × FVec F S1x1024 .f32 × FVec F S1x1024 .f32 × FVec F S1x1024 .f32 × FVec F S1x1024 .f32 × FVec F S1x1024 .f32 × FVec F S1x1024 .f32) (f14 : BufTy.Contents (Elt F) arg14.view.ty) (f15 : BufTy.Contents (Elt F) arg15.view.ty) :
  trip_k0_t1.sl.v785 arg3 arg4 arg13 arg14 arg15 X3 X4 X13 k acc f14 f15 = shapeCast S1x80x1024 (acst acc.2.2.1 (maximumf acc.2.2.1 acc.2.2.2.2.2.2.1) (shapeCast S256x1024 (arg15.view.readAt (Elt F) (Rect.unit (s := S2x4x256x1024) ![0, 2, 0, 0] S1x1x256x1024.size inb_S2x4x256x1024_S1x1x256x1024_0_2_0_0).toLoadRect f15) shapeCasts_S1x1x256x1024_S256x1024) (shapeCast S80x256 (arg4.view.readAt (Elt F) (Rect.unit (s := S1x16x320x256) (k0_off4 k) S1x1x80x256.size (k0_off4_inb k)).toLoadRect X4) shapeCasts_S1x1x80x256_S80x256) (shapeCast S80x1024 (arg14.view.readAt (Elt F) (Rect.unit (s := S4x80x1024) ![2, 0, 0] S1x80x1024.size inb_S4x80x1024_S1x80x1024_2_0_0).toLoadRect f14) shapeCasts_S1x80x1024_S80x1024)) shapeCasts_S80x1024_S1x80x1024 := by
  unfold trip_k0_t1.sl.v785 View.readCov
  dsimp only [trip_k0_t1.sl.HW_arg14_7, trip_k0_t1.sl.HW_arg14_6, trip_k0_t1.sl.HW_arg14_5, trip_k0_t1.sl.HW_arg14_4]
  repeat first | rw [rd_hit] | rw [rd_miss _ _ _ _ _ _ (by decide)]
  rfl

set_option maxHeartbeats 4000000 in
/-- The accumulator after the trip. -/
theorem tripA_2 (𝒱 : Variants) (c : Dev nD) (bd : Option 𝒱.V) (i : grid0.Coords) (arg2 : Memref sig .tc .vmem S1x256x512 .f32) (harg2 : arg2.IsWhole) (arg3 : Memref sig .tc .vmem S1x16x256x256 .bf16) (harg3 : arg3.IsWhole) (arg4 : Memref sig .tc .vmem S1x16x320x256 .bf16) (harg4 : arg4.IsWhole) (arg5 : Memref sig .tc .vmem S1x256x256 .bf16) (harg5 : arg5.IsWhole) (arg6 : Memref sig .tc .vmem S1x320x256 .bf16) (harg6 : arg6.IsWhole) (arg7 : Memref sig .tc .vmem S1x32 .f32) (harg7 : arg7.IsWhole) (arg8 : Memref sig .tc .vmem S1x32 .f32) (harg8 : arg8.IsWhole) (arg9 : Memref sig .tc .vmem S1x32 .f32) (harg9 : arg9.IsWhole) (arg10 : Memref sig .tc .vmem S1x32 .f32) (harg10 : arg10.IsWhole) (arg11 : Memref sig .tc .vmem S64x1 .f32) (harg11 : arg11.IsWhole) (arg12 : Memref sig .tc .vmem S512x256 .bf16) (harg12 : arg12.IsWhole) (arg13 : Memref sig .tc .vmem S256x4096 .bf16) (harg13 : arg13.IsWhole) (arg14 : Memref sig .tc .vmem S4x80x1024 .f32) (harg14 : arg14.IsWhole) (arg15 : Memref sig .tc .vmem S2x4x256x1024 .f32) (harg15 : arg15.IsWhole) (v102 v103 v104 v105 v114 v123 v132 : FVec F S1x1024 .f32) (X3 : BufTy.Contents (Elt F) arg3.view.ty) (X4 : BufTy.Contents (Elt F) arg4.view.ty) (X13 : BufTy.Contents (Elt F) arg13.view.ty) (k : Fin k0_t1_loop.trips) (acc : FVec F S1x1024 .f32 × FVec F S1x1024 .f32 × FVec F S1x1024 .f32 × FVec F S1x1024 .f32 × FVec F S1x1024 .f32 × FVec F S1x1024 .f32 × FVec F S1x1024 .f32 × FVec F S1x1024 .f32) (f14 : BufTy.Contents (Elt F) arg14.view.ty) (f15 : BufTy.Contents (Elt F) arg15.view.ty) (f : BufTy.Contents (Elt F) arg14.view.ty) (L : List (View.Piece (Elt F) S4x80x1024 .f32)) :
  (shapeCast S80x1024 (arg14.view.readAt (Elt F) (Rect.unit (s := S4x80x1024) ![2, 0, 0] S1x80x1024.size inb_S4x80x1024_S1x80x1024_2_0_0).toLoadRect (arg14.view.writes (Elt F) f ((tripL_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 v102 v103 v104 v105 v114 v123 v132 X3 X4 X13 k acc f14 f15).1 ++ L))) shapeCasts_S1x80x1024_S80x1024) = acst (maximumf acc.2.2.1 acc.2.2.2.2.2.2.1) (maximumf (maximumf acc.2.2.1 acc.2.2.2.2.2.2.1) (cmx (scr (shapeCast S256x256 (arg3.view.readAt (Elt F) (Rect.unit (s := S1x16x256x256) (k0_off1 k) S1x1x256x256.size (k0_off1_inb k)).toLoadRect X3) shapeCasts_S1x1x256x256_S256x256) (arg13.view.readAt (Elt F) (Rect.unit (s := S256x4096) ![0, 2048] S256x1024.size inb_S256x4096_S256x1024_0_2048).toLoadRect X13)))) (scr (shapeCast S256x256 (arg3.view.readAt (Elt F) (Rect.unit (s := S1x16x256x256) (k0_off1 k) S1x1x256x256.size (k0_off1_inb k)).toLoadRect X3) shapeCasts_S1x1x256x256_S256x256) (arg13.view.readAt (Elt F) (Rect.unit (s := S256x4096) ![0, 2048] S256x1024.size inb_S256x4096_S256x1024_0_2048).toLoadRect X13)) (shapeCast S80x256 (arg4.view.readAt (Elt F) (Rect.unit (s := S1x16x320x256) (k0_off9 k) S1x1x80x256.size (k0_off9_inb k)).toLoadRect X4) shapeCasts_S1x1x80x256_S80x256) (acst acc.2.2.1 (maximumf acc.2.2.1 acc.2.2.2.2.2.2.1) (shapeCast S256x1024 (arg15.view.readAt (Elt F) (Rect.unit (s := S2x4x256x1024) ![0, 2, 0, 0] S1x1x256x1024.size inb_S2x4x256x1024_S1x1x256x1024_0_2_0_0).toLoadRect f15) shapeCasts_S1x1x256x1024_S256x1024) (shapeCast S80x256 (arg4.view.readAt (Elt F) (Rect.unit (s := S1x16x320x256) (k0_off4 k) S1x1x80x256.size (k0_off4_inb k)).toLoadRect X4) shapeCasts_S1x1x80x256_S80x256) (shapeCast S80x1024 (arg14.view.readAt (Elt F) (Rect.unit (s := S4x80x1024) ![2, 0, 0] S1x80x1024.size inb_S4x80x1024_S1x80x1024_2_0_0).toLoadRect f14) shapeCasts_S1x80x1024_S80x1024)) := by
  unfold tripL_k0_t1 trip_k0_t1
  dsimp only [trip_k0_t1.sl.HW_arg14_7, trip_k0_t1.sl.HW_arg14_6, trip_k0_t1.sl.HW_arg14_5, trip_k0_t1.sl.HW_arg14_4, List.cons_append, List.nil_append]
  repeat first | rw [rd_hit] | rw [rd_miss _ _ _ _ _ _ (by decide)]
  refine (congrArg (fun x => shapeCast S80x1024 x shapeCasts_S1x80x1024_S80x1024) (show _ = shapeCast S1x80x1024 (acst (maximumf acc.2.2.1 acc.2.2.2.2.2.2.1) (maximumf (maximumf acc.2.2.1 acc.2.2.2.2.2.2.1) (cmx (scr (shapeCast S256x256 (arg3.view.readAt (Elt F) (Rect.unit (s := S1x16x256x256) (k0_off1 k) S1x1x256x256.size (k0_off1_inb k)).toLoadRect X3) shapeCasts_S1x1x256x256_S256x256) (arg13.view.readAt (Elt F) (Rect.unit (s := S256x4096) ![0, 2048] S256x1024.size inb_S256x4096_S256x1024_0_2048).toLoadRect X13)))) (shapeCast S256x1024 (trip_k0_t1.sl.v776 arg3 arg13 arg15 X3 X13 k) shapeCasts_S1x1x256x1024_S256x1024) (shapeCast S80x256 (arg4.view.readAt (Elt F) (Rect.unit (s := S1x16x320x256) (k0_off9 k) S1x1x80x256.size (k0_off9_inb k)).toLoadRect X4) shapeCasts_S1x1x80x256_S80x256) (shapeCast S80x1024 (trip_k0_t1.sl.v785 arg3 arg4 arg13 arg14 arg15 X3 X4 X13 k acc f14 f15) shapeCasts_S1x80x1024_S80x1024)) shapeCasts_S80x1024_S1x80x1024 from rfl)).trans ?_
  rw [tripv776, tripv785]
  exact (shapeCast_shapeCast _ _ _).trans (congrArg₂ (fun x y => acst (maximumf acc.2.2.1 acc.2.2.2.2.2.2.1) (maximumf (maximumf acc.2.2.1 acc.2.2.2.2.2.2.1) (cmx (scr (shapeCast S256x256 (arg3.view.readAt (Elt F) (Rect.unit (s := S1x16x256x256) (k0_off1 k) S1x1x256x256.size (k0_off1_inb k)).toLoadRect X3) shapeCasts_S1x1x256x256_S256x256) (arg13.view.readAt (Elt F) (Rect.unit (s := S256x4096) ![0, 2048] S256x1024.size inb_S256x4096_S256x1024_0_2048).toLoadRect X13)))) x (shapeCast S80x256 (arg4.view.readAt (Elt F) (Rect.unit (s := S1x16x320x256) (k0_off9 k) S1x1x80x256.size (k0_off9_inb k)).toLoadRect X4) shapeCasts_S1x1x80x256_S80x256) y) (shapeCast_shapeCast _ _ _) (shapeCast_shapeCast _ _ _))
set_option maxHeartbeats 4000000 in
/-- The score buffer after the trip, slot 0. -/
theorem tripS_3 (𝒱 : Variants) (c : Dev nD) (bd : Option 𝒱.V) (i : grid0.Coords) (arg2 : Memref sig .tc .vmem S1x256x512 .f32) (harg2 : arg2.IsWhole) (arg3 : Memref sig .tc .vmem S1x16x256x256 .bf16) (harg3 : arg3.IsWhole) (arg4 : Memref sig .tc .vmem S1x16x320x256 .bf16) (harg4 : arg4.IsWhole) (arg5 : Memref sig .tc .vmem S1x256x256 .bf16) (harg5 : arg5.IsWhole) (arg6 : Memref sig .tc .vmem S1x320x256 .bf16) (harg6 : arg6.IsWhole) (arg7 : Memref sig .tc .vmem S1x32 .f32) (harg7 : arg7.IsWhole) (arg8 : Memref sig .tc .vmem S1x32 .f32) (harg8 : arg8.IsWhole) (arg9 : Memref sig .tc .vmem S1x32 .f32) (harg9 : arg9.IsWhole) (arg10 : Memref sig .tc .vmem S1x32 .f32) (harg10 : arg10.IsWhole) (arg11 : Memref sig .tc .vmem S64x1 .f32) (harg11 : arg11.IsWhole) (arg12 : Memref sig .tc .vmem S512x256 .bf16) (harg12 : arg12.IsWhole) (arg13 : Memref sig .tc .vmem S256x4096 .bf16) (harg13 : arg13.IsWhole) (arg14 : Memref sig .tc .vmem S4x80x1024 .f32) (harg14 : arg14.IsWhole) (arg15 : Memref sig .tc .vmem S2x4x256x1024 .f32) (harg15 : arg15.IsWhole) (v102 v103 v104 v105 v114 v123 v132 : FVec F S1x1024 .f32) (X3 : BufTy.Contents (Elt F) arg3.view.ty) (X4 : BufTy.Contents (Elt F) arg4.view.ty) (X13 : BufTy.Contents (Elt F) arg13.view.ty) (k : Fin k0_t1_loop.trips) (acc : FVec F S1x1024 .f32 × FVec F S1x1024 .f32 × FVec F S1x1024 .f32 × FVec F S1x1024 .f32 × FVec F S1x1024 .f32 × FVec F S1x1024 .f32 × FVec F S1x1024 .f32 × FVec F S1x1024 .f32) (f14 : BufTy.Contents (Elt F) arg14.view.ty) (f15 : BufTy.Contents (Elt F) arg15.view.ty) (f : BufTy.Contents (Elt F) arg15.view.ty) (L : List (View.Piece (Elt F) S2x4x256x1024 .f32)) :
  (shapeCast S256x1024 (arg15.view.readAt (Elt F) (Rect.unit (s := S2x4x256x1024) ![0, 3, 0, 0] S1x1x256x1024.size inb_S2x4x256x1024_S1x1x256x1024_0_3_0_0).toLoadRect (arg15.view.writes (Elt F) f ((tripL_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 v102 v103 v104 v105 v114 v123 v132 X3 X4 X13 k acc f14 f15).2 ++ L))) shapeCasts_S1x1x256x1024_S256x1024) = scr (shapeCast S256x256 (arg3.view.readAt (Elt F) (Rect.unit (s := S1x16x256x256) (k0_off6 k) S1x1x256x256.size (k0_off6_inb k)).toLoadRect X3) shapeCasts_S1x1x256x256_S256x256) (arg13.view.readAt (Elt F) (Rect.unit (s := S256x4096) ![0, 3072] S256x1024.size inb_S256x4096_S256x1024_0_3072).toLoadRect X13) := by
  unfold tripL_k0_t1 trip_k0_t1
  dsimp only [trip_k0_t1.sl.HW_arg15_8, trip_k0_t1.sl.HW_arg15_7, trip_k0_t1.sl.HW_arg15_6, trip_k0_t1.sl.HW_arg15_5, List.cons_append, List.nil_append]
  repeat first | rw [rd_hit] | rw [rd_miss _ _ _ _ _ _ (by decide)]
  exact shapeCast_shapeCast _ _ _

/-- The second chunk's scores, loaded back. -/
theorem tripv808 (arg3 : Memref sig .tc .vmem S1x16x256x256 .bf16) (arg13 : Memref sig .tc .vmem S256x4096 .bf16) (arg15 : Memref sig .tc .vmem S2x4x256x1024 .f32) (X3 : BufTy.Contents (Elt F) arg3.view.ty) (X13 : BufTy.Contents (Elt F) arg13.view.ty) (k : Fin k0_t1_loop.trips) :
  trip_k0_t1.sl.v808 arg3 arg13 arg15 X3 X13 k = shapeCast S1x1x256x1024 (scr (shapeCast S256x256 (arg3.view.readAt (Elt F) (Rect.unit (s := S1x16x256x256) (k0_off1 k) S1x1x256x256.size (k0_off1_inb k)).toLoadRect X3) shapeCasts_S1x1x256x256_S256x256) (arg13.view.readAt (Elt F) (Rect.unit (s := S256x4096) ![0, 3072] S256x1024.size inb_S256x4096_S256x1024_0_3072).toLoadRect X13)) shapeCasts_S256x1024_S1x1x256x1024 := by
  unfold trip_k0_t1.sl.v808 View.readCov
  dsimp only [trip_k0_t1.sl.HW_arg15_8, trip_k0_t1.sl.HW_arg15_7, trip_k0_t1.sl.HW_arg15_6, trip_k0_t1.sl.HW_arg15_5]
  repeat first | rw [rd_hit] | rw [rd_miss _ _ _ _ _ _ (by decide)]
  rfl

/-- The accumulator after the first chunk, loaded back. -/
theorem tripv817 (arg3 : Memref sig .tc .vmem S1x16x256x256 .bf16) (arg13 : Memref sig .tc .vmem S256x4096 .bf16) (arg4 : Memref sig .tc .vmem S1x16x320x256 .bf16) (arg14 : Memref sig .tc .vmem S4x80x1024 .f32) (arg15 : Memref sig .tc .vmem S2x4x256x1024 .f32) (X3 : BufTy.Contents (Elt F) arg3.view.ty) (X13 : BufTy.Contents (Elt F) arg13.view.ty) (X4 : BufTy.Contents (Elt F) arg4.view.ty) (k : Fin k0_t1_loop.trips) (acc : FVec F S1x1024 .f32 × FVec F S1x1024 .f32 × FVec F S1x1024 .f32 × FVec F S1x1024 .f32 × FVec F S1x1024 .f32 × FVec F S1x1024 .f32 × FVec F S1x1024 .f32 × FVec F S1x1024 .f32) (f14 : BufTy.Contents (Elt F) arg14.view.ty) (f15 : BufTy.Contents (Elt F) arg15.view.ty) :
  trip_k0_t1.sl.v817 arg3 arg4 arg13 arg14 arg15 X3 X4 X13 k acc f14 f15 = shapeCast S1x80x1024 (acst acc.2.2.2.1 (maximumf acc.2.2.2.1 acc.2.2.2.2.2.2.2) (shapeCast S256x1024 (arg15.view.readAt (Elt F) (Rect.unit (s := S2x4x256x1024) ![0, 3, 0, 0] S1x1x256x1024.size inb_S2x4x256x1024_S1x1x256x1024_0_3_0_0).toLoadRect f15) shapeCasts_S1x1x256x1024_S256x1024) (shapeCast S80x256 (arg4.view.readAt (Elt F) (Rect.unit (s := S1x16x320x256) (k0_off5 k) S1x1x80x256.size (k0_off5_inb k)).toLoadRect X4) shapeCasts_S1x1x80x256_S80x256) (shapeCast S80x1024 (arg14.view.readAt (Elt F) (Rect.unit (s := S4x80x1024) ![3, 0, 0] S1x80x1024.size inb_S4x80x1024_S1x80x1024_3_0_0).toLoadRect f14) shapeCasts_S1x80x1024_S80x1024)) shapeCasts_S80x1024_S1x80x1024 := by
  unfold trip_k0_t1.sl.v817 View.readCov
  dsimp only [trip_k0_t1.sl.HW_arg14_7, trip_k0_t1.sl.HW_arg14_6, trip_k0_t1.sl.HW_arg14_5, trip_k0_t1.sl.HW_arg14_4]
  repeat first | rw [rd_hit] | rw [rd_miss _ _ _ _ _ _ (by decide)]
  rfl

set_option maxHeartbeats 4000000 in
/-- The accumulator after the trip. -/
theorem tripA_3 (𝒱 : Variants) (c : Dev nD) (bd : Option 𝒱.V) (i : grid0.Coords) (arg2 : Memref sig .tc .vmem S1x256x512 .f32) (harg2 : arg2.IsWhole) (arg3 : Memref sig .tc .vmem S1x16x256x256 .bf16) (harg3 : arg3.IsWhole) (arg4 : Memref sig .tc .vmem S1x16x320x256 .bf16) (harg4 : arg4.IsWhole) (arg5 : Memref sig .tc .vmem S1x256x256 .bf16) (harg5 : arg5.IsWhole) (arg6 : Memref sig .tc .vmem S1x320x256 .bf16) (harg6 : arg6.IsWhole) (arg7 : Memref sig .tc .vmem S1x32 .f32) (harg7 : arg7.IsWhole) (arg8 : Memref sig .tc .vmem S1x32 .f32) (harg8 : arg8.IsWhole) (arg9 : Memref sig .tc .vmem S1x32 .f32) (harg9 : arg9.IsWhole) (arg10 : Memref sig .tc .vmem S1x32 .f32) (harg10 : arg10.IsWhole) (arg11 : Memref sig .tc .vmem S64x1 .f32) (harg11 : arg11.IsWhole) (arg12 : Memref sig .tc .vmem S512x256 .bf16) (harg12 : arg12.IsWhole) (arg13 : Memref sig .tc .vmem S256x4096 .bf16) (harg13 : arg13.IsWhole) (arg14 : Memref sig .tc .vmem S4x80x1024 .f32) (harg14 : arg14.IsWhole) (arg15 : Memref sig .tc .vmem S2x4x256x1024 .f32) (harg15 : arg15.IsWhole) (v102 v103 v104 v105 v114 v123 v132 : FVec F S1x1024 .f32) (X3 : BufTy.Contents (Elt F) arg3.view.ty) (X4 : BufTy.Contents (Elt F) arg4.view.ty) (X13 : BufTy.Contents (Elt F) arg13.view.ty) (k : Fin k0_t1_loop.trips) (acc : FVec F S1x1024 .f32 × FVec F S1x1024 .f32 × FVec F S1x1024 .f32 × FVec F S1x1024 .f32 × FVec F S1x1024 .f32 × FVec F S1x1024 .f32 × FVec F S1x1024 .f32 × FVec F S1x1024 .f32) (f14 : BufTy.Contents (Elt F) arg14.view.ty) (f15 : BufTy.Contents (Elt F) arg15.view.ty) (f : BufTy.Contents (Elt F) arg14.view.ty) (L : List (View.Piece (Elt F) S4x80x1024 .f32)) :
  (shapeCast S80x1024 (arg14.view.readAt (Elt F) (Rect.unit (s := S4x80x1024) ![3, 0, 0] S1x80x1024.size inb_S4x80x1024_S1x80x1024_3_0_0).toLoadRect (arg14.view.writes (Elt F) f ((tripL_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 v102 v103 v104 v105 v114 v123 v132 X3 X4 X13 k acc f14 f15).1 ++ L))) shapeCasts_S1x80x1024_S80x1024) = acst (maximumf acc.2.2.2.1 acc.2.2.2.2.2.2.2) (maximumf (maximumf acc.2.2.2.1 acc.2.2.2.2.2.2.2) (cmx (scr (shapeCast S256x256 (arg3.view.readAt (Elt F) (Rect.unit (s := S1x16x256x256) (k0_off1 k) S1x1x256x256.size (k0_off1_inb k)).toLoadRect X3) shapeCasts_S1x1x256x256_S256x256) (arg13.view.readAt (Elt F) (Rect.unit (s := S256x4096) ![0, 3072] S256x1024.size inb_S256x4096_S256x1024_0_3072).toLoadRect X13)))) (scr (shapeCast S256x256 (arg3.view.readAt (Elt F) (Rect.unit (s := S1x16x256x256) (k0_off1 k) S1x1x256x256.size (k0_off1_inb k)).toLoadRect X3) shapeCasts_S1x1x256x256_S256x256) (arg13.view.readAt (Elt F) (Rect.unit (s := S256x4096) ![0, 3072] S256x1024.size inb_S256x4096_S256x1024_0_3072).toLoadRect X13)) (shapeCast S80x256 (arg4.view.readAt (Elt F) (Rect.unit (s := S1x16x320x256) (k0_off10 k) S1x1x80x256.size (k0_off10_inb k)).toLoadRect X4) shapeCasts_S1x1x80x256_S80x256) (acst acc.2.2.2.1 (maximumf acc.2.2.2.1 acc.2.2.2.2.2.2.2) (shapeCast S256x1024 (arg15.view.readAt (Elt F) (Rect.unit (s := S2x4x256x1024) ![0, 3, 0, 0] S1x1x256x1024.size inb_S2x4x256x1024_S1x1x256x1024_0_3_0_0).toLoadRect f15) shapeCasts_S1x1x256x1024_S256x1024) (shapeCast S80x256 (arg4.view.readAt (Elt F) (Rect.unit (s := S1x16x320x256) (k0_off5 k) S1x1x80x256.size (k0_off5_inb k)).toLoadRect X4) shapeCasts_S1x1x80x256_S80x256) (shapeCast S80x1024 (arg14.view.readAt (Elt F) (Rect.unit (s := S4x80x1024) ![3, 0, 0] S1x80x1024.size inb_S4x80x1024_S1x80x1024_3_0_0).toLoadRect f14) shapeCasts_S1x80x1024_S80x1024)) := by
  unfold tripL_k0_t1 trip_k0_t1
  dsimp only [trip_k0_t1.sl.HW_arg14_7, trip_k0_t1.sl.HW_arg14_6, trip_k0_t1.sl.HW_arg14_5, trip_k0_t1.sl.HW_arg14_4, List.cons_append, List.nil_append]
  repeat first | rw [rd_hit] | rw [rd_miss _ _ _ _ _ _ (by decide)]
  refine (congrArg (fun x => shapeCast S80x1024 x shapeCasts_S1x80x1024_S80x1024) (show _ = shapeCast S1x80x1024 (acst (maximumf acc.2.2.2.1 acc.2.2.2.2.2.2.2) (maximumf (maximumf acc.2.2.2.1 acc.2.2.2.2.2.2.2) (cmx (scr (shapeCast S256x256 (arg3.view.readAt (Elt F) (Rect.unit (s := S1x16x256x256) (k0_off1 k) S1x1x256x256.size (k0_off1_inb k)).toLoadRect X3) shapeCasts_S1x1x256x256_S256x256) (arg13.view.readAt (Elt F) (Rect.unit (s := S256x4096) ![0, 3072] S256x1024.size inb_S256x4096_S256x1024_0_3072).toLoadRect X13)))) (shapeCast S256x1024 (trip_k0_t1.sl.v808 arg3 arg13 arg15 X3 X13 k) shapeCasts_S1x1x256x1024_S256x1024) (shapeCast S80x256 (arg4.view.readAt (Elt F) (Rect.unit (s := S1x16x320x256) (k0_off10 k) S1x1x80x256.size (k0_off10_inb k)).toLoadRect X4) shapeCasts_S1x1x80x256_S80x256) (shapeCast S80x1024 (trip_k0_t1.sl.v817 arg3 arg4 arg13 arg14 arg15 X3 X4 X13 k acc f14 f15) shapeCasts_S1x80x1024_S80x1024)) shapeCasts_S80x1024_S1x80x1024 from rfl)).trans ?_
  rw [tripv808, tripv817]
  exact (shapeCast_shapeCast _ _ _).trans (congrArg₂ (fun x y => acst (maximumf acc.2.2.2.1 acc.2.2.2.2.2.2.2) (maximumf (maximumf acc.2.2.2.1 acc.2.2.2.2.2.2.2) (cmx (scr (shapeCast S256x256 (arg3.view.readAt (Elt F) (Rect.unit (s := S1x16x256x256) (k0_off1 k) S1x1x256x256.size (k0_off1_inb k)).toLoadRect X3) shapeCasts_S1x1x256x256_S256x256) (arg13.view.readAt (Elt F) (Rect.unit (s := S256x4096) ![0, 3072] S256x1024.size inb_S256x4096_S256x1024_0_3072).toLoadRect X13)))) x (shapeCast S80x256 (arg4.view.readAt (Elt F) (Rect.unit (s := S1x16x320x256) (k0_off10 k) S1x1x80x256.size (k0_off10_inb k)).toLoadRect X4) shapeCasts_S1x1x80x256_S80x256) y) (shapeCast_shapeCast _ _ _) (shapeCast_shapeCast _ _ _))

end Cert.KernelIdeal.Hand

end
-- ==== Proof.Loop.lean ====
/- The counted loop as a whole: after n trips the running maxima, the accumulators and the scores of the next chunk are
   those of the chunk by chunk recursion after 2n chunks, head by head. -/
module

public import proofs.«01_k».proof.Proof.Trip

@[expose] public section

set_option maxRecDepth 16384

noncomputable section

namespace Cert.KernelIdeal.Hand

open Cert.KernelIdeal.Gen
open Idealize.ShloMosaic Idealize.ShloMosaic.TcCoe Idealize.ShloMosaic.Tactic

variable {F : FTy → Type} [FloatOps F] [Named F]

set_option maxHeartbeats 4000000 in
theorem loop_inv (𝒱 : Variants) (c : Dev nD) (bd : Option 𝒱.V) (i : grid0.Coords) (arg2 : Memref sig .tc .vmem S1x256x512 .f32) (harg2 : arg2.IsWhole) (arg3 : Memref sig .tc .vmem S1x16x256x256 .bf16) (harg3 : arg3.IsWhole) (arg4 : Memref sig .tc .vmem S1x16x320x256 .bf16) (harg4 : arg4.IsWhole) (arg5 : Memref sig .tc .vmem S1x256x256 .bf16) (harg5 : arg5.IsWhole) (arg6 : Memref sig .tc .vmem S1x320x256 .bf16) (harg6 : arg6.IsWhole) (arg7 : Memref sig .tc .vmem S1x32 .f32) (harg7 : arg7.IsWhole) (arg8 : Memref sig .tc .vmem S1x32 .f32) (harg8 : arg8.IsWhole) (arg9 : Memref sig .tc .vmem S1x32 .f32) (harg9 : arg9.IsWhole) (arg10 : Memref sig .tc .vmem S1x32 .f32) (harg10 : arg10.IsWhole) (arg11 : Memref sig .tc .vmem S64x1 .f32) (harg11 : arg11.IsWhole) (arg12 : Memref sig .tc .vmem S512x256 .bf16) (harg12 : arg12.IsWhole) (arg13 : Memref sig .tc .vmem S256x4096 .bf16) (harg13 : arg13.IsWhole) (arg14 : Memref sig .tc .vmem S4x80x1024 .f32) (harg14 : arg14.IsWhole) (arg15 : Memref sig .tc .vmem S2x4x256x1024 .f32) (harg15 : arg15.IsWhole) (v102 v103 v104 v105 v114 v123 v132 : FVec F S1x1024 .f32) (X3 : BufTy.Contents (Elt F) arg3.view.ty) (X4 : BufTy.Contents (Elt F) arg4.view.ty) (X13 : BufTy.Contents (Elt F) arg13.view.ty) (G14 : BufTy.Contents (Elt F) arg14.view.ty) (G15 : BufTy.Contents (Elt F) arg15.view.ty) (init : FVec F S1x1024 .f32 × FVec F S1x1024 .f32 × FVec F S1x1024 .f32 × FVec F S1x1024 .f32 × FVec F S1x1024 .f32 × FVec F S1x1024 .f32 × FVec F S1x1024 .f32 × FVec F S1x1024 .f32) (kb : ℕ → FVec F S256x256 .bf16) (vb0 vb1 vb2 vb3 : ℕ → FVec F S80x256 .bf16) (qb0 qb1 qb2 qb3 : Vec F S256x1024 .bf16)
    (hK1 : ∀ k : Fin k0_t1_loop.trips, (shapeCast S256x256 (arg3.view.readAt (Elt F) (Rect.unit (s := S1x16x256x256) (k0_off1 k) S1x1x256x256.size (k0_off1_inb k)).toLoadRect X3) shapeCasts_S1x1x256x256_S256x256) = kb (2 * k.val + 1))
    (hK6 : ∀ k : Fin k0_t1_loop.trips, (shapeCast S256x256 (arg3.view.readAt (Elt F) (Rect.unit (s := S1x16x256x256) (k0_off6 k) S1x1x256x256.size (k0_off6_inb k)).toLoadRect X3) shapeCasts_S1x1x256x256_S256x256) = kb (2 * k.val + 1 + 1))
    (hV0 : ∀ k : Fin k0_t1_loop.trips, (shapeCast S80x256 (arg4.view.readAt (Elt F) (Rect.unit (s := S1x16x320x256) (k0_off2 k) S1x1x80x256.size (k0_off2_inb k)).toLoadRect X4) shapeCasts_S1x1x80x256_S80x256) = vb0 (2 * k.val))
    (hW0 : ∀ k : Fin k0_t1_loop.trips, (shapeCast S80x256 (arg4.view.readAt (Elt F) (Rect.unit (s := S1x16x320x256) (k0_off7 k) S1x1x80x256.size (k0_off7_inb k)).toLoadRect X4) shapeCasts_S1x1x80x256_S80x256) = vb0 (2 * k.val + 1))
    (hQ0 : (arg13.view.readAt (Elt F) (Rect.unit (s := S256x4096) ![0, 0] S256x1024.size inb_S256x4096_S256x1024_0_0).toLoadRect X13) = qb0)
    (hA0 : (shapeCast S80x1024 (arg14.view.readAt (Elt F) (Rect.unit (s := S4x80x1024) ![0, 0, 0] S1x80x1024.size inb_S4x80x1024_S1x80x1024_0_0_0).toLoadRect G14) shapeCasts_S1x80x1024_S80x1024) = (mo kb vb0 qb0 0).2)
    (hS0 : (shapeCast S256x1024 (arg15.view.readAt (Elt F) (Rect.unit (s := S2x4x256x1024) ![0, 0, 0, 0] S1x1x256x1024.size inb_S2x4x256x1024_S1x1x256x1024_0_0_0_0).toLoadRect G15) shapeCasts_S1x1x256x1024_S256x1024) = scr (kb 0) qb0)
    (hV1 : ∀ k : Fin k0_t1_loop.trips, (shapeCast S80x256 (arg4.view.readAt (Elt F) (Rect.unit (s := S1x16x320x256) (k0_off3 k) S1x1x80x256.size (k0_off3_inb k)).toLoadRect X4) shapeCasts_S1x1x80x256_S80x256) = vb1 (2 * k.val))
    (hW1 : ∀ k : Fin k0_t1_loop.trips, (shapeCast S80x256 (arg4.view.readAt (Elt F) (Rect.unit (s := S1x16x320x256) (k0_off8 k) S1x1x80x256.size (k0_off8_inb k)).toLoadRect X4) shapeCasts_S1x1x80x256_S80x256) = vb1 (2 * k.val + 1))
    (hQ1 : (arg13.view.readAt (Elt F) (Rect.unit (s := S256x4096) ![0, 1024] S256x1024.size inb_S256x4096_S256x1024_0_1024).toLoadRect X13) = qb1)
    (hA1 : (shapeCast S80x1024 (arg14.view.readAt (Elt F) (Rect.unit (s := S4x80x1024) ![1, 0, 0] S1x80x1024.size inb_S4x80x1024_S1x80x1024_1_0_0).toLoadRect G14) shapeCasts_S1x80x1024_S80x1024) = (mo kb vb1 qb1 0).2)
    (hS1 : (shapeCast S256x1024 (arg15.view.readAt (Elt F) (Rect.unit (s := S2x4x256x1024) ![0, 1, 0, 0] S1x1x256x1024.size inb_S2x4x256x1024_S1x1x256x1024_0_1_0_0).toLoadRect G15) shapeCasts_S1x1x256x1024_S256x1024) = scr (kb 0) qb1)
    (hV2 : ∀ k : Fin k0_t1_loop.trips, (shapeCast S80x256 (arg4.view.readAt (Elt F) (Rect.unit (s := S1x16x320x256) (k0_off4 k) S1x1x80x256.size (k0_off4_inb k)).toLoadRect X4) shapeCasts_S1x1x80x256_S80x256) = vb2 (2 * k.val))
    (hW2 : ∀ k : Fin k0_t1_loop.trips, (shapeCast S80x256 (arg4.view.readAt (Elt F) (Rect.unit (s := S1x16x320x256) (k0_off9 k) S1x1x80x256.size (k0_off9_inb k)).toLoadRect X4) shapeCasts_S1x1x80x256_S80x256) = vb2 (2 * k.val + 1))
    (hQ2 : (arg13.view.readAt (Elt F) (Rect.unit (s := S256x4096) ![0, 2048] S256x1024.size inb_S256x4096_S256x1024_0_2048).toLoadRect X13) = qb2)
    (hA2 : (shapeCast S80x1024 (arg14.view.readAt (Elt F) (Rect.unit (s := S4x80x1024) ![2, 0, 0] S1x80x1024.size inb_S4x80x1024_S1x80x1024_2_0_0).toLoadRect G14) shapeCasts_S1x80x1024_S80x1024) = (mo kb vb2 qb2 0).2)
    (hS2 : (shapeCast S256x1024 (arg15.view.readAt (Elt F) (Rect.unit (s := S2x4x256x1024) ![0, 2, 0, 0] S1x1x256x1024.size inb_S2x4x256x1024_S1x1x256x1024_0_2_0_0).toLoadRect G15) shapeCasts_S1x1x256x1024_S256x1024) = scr (kb 0) qb2)
    (hV3 : ∀ k : Fin k0_t1_loop.trips, (shapeCast S80x256 (arg4.view.readAt (Elt F) (Rect.unit (s := S1x16x320x256) (k0_off5 k) S1x1x80x256.size (k0_off5_inb k)).toLoadRect X4) shapeCasts_S1x1x80x256_S80x256) = vb3 (2 * k.val))
    (hW3 : ∀ k : Fin k0_t1_loop.trips, (shapeCast S80x256 (arg4.view.readAt (Elt F) (Rect.unit (s := S1x16x320x256) (k0_off10 k) S1x1x80x256.size (k0_off10_inb k)).toLoadRect X4) shapeCasts_S1x1x80x256_S80x256) = vb3 (2 * k.val + 1))
    (hQ3 : (arg13.view.readAt (Elt F) (Rect.unit (s := S256x4096) ![0, 3072] S256x1024.size inb_S256x4096_S256x1024_0_3072).toLoadRect X13) = qb3)
    (hA3 : (shapeCast S80x1024 (arg14.view.readAt (Elt F) (Rect.unit (s := S4x80x1024) ![3, 0, 0] S1x80x1024.size inb_S4x80x1024_S1x80x1024_3_0_0).toLoadRect G14) shapeCasts_S1x80x1024_S80x1024) = (mo kb vb3 qb3 0).2)
    (hS3 : (shapeCast S256x1024 (arg15.view.readAt (Elt F) (Rect.unit (s := S2x4x256x1024) ![0, 3, 0, 0] S1x1x256x1024.size inb_S2x4x256x1024_S1x1x256x1024_0_3_0_0).toLoadRect G15) shapeCasts_S1x1x256x1024_S256x1024) = scr (kb 0) qb3)
    (hinit : init = ((mo kb vb0 qb0 (0)).1, (mo kb vb1 qb1 (0)).1, (mo kb vb2 qb2 (0)).1, (mo kb vb3 qb3 (0)).1, cmx (scr (kb (0)) qb0), cmx (scr (kb (0)) qb1), cmx (scr (kb (0)) qb2), cmx (scr (kb (0)) qb3)))
    (n : ℕ) (hn : n ≤ k0_t1_loop.trips) :
    (st_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 v102 v103 v104 v105 v114 v123 v132 X3 X4 X13 G14 G15 init n).1 = ((mo kb vb0 qb0 (2 * n)).1, (mo kb vb1 qb1 (2 * n)).1, (mo kb vb2 qb2 (2 * n)).1, (mo kb vb3 qb3 (2 * n)).1, cmx (scr (kb (2 * n)) qb0), cmx (scr (kb (2 * n)) qb1), cmx (scr (kb (2 * n)) qb2), cmx (scr (kb (2 * n)) qb3))
      ∧ (shapeCast S80x1024 (arg14.view.readAt (Elt F) (Rect.unit (s := S4x80x1024) ![0, 0, 0] S1x80x1024.size inb_S4x80x1024_S1x80x1024_0_0_0).toLoadRect (arg14.view.writes (Elt F) G14 (st_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 v102 v103 v104 v105 v114 v123 v132 X3 X4 X13 G14 G15 init n).2.1)) shapeCasts_S1x80x1024_S80x1024) = (mo kb vb0 qb0 (2 * n)).2
      ∧ (shapeCast S80x1024 (arg14.view.readAt (Elt F) (Rect.unit (s := S4x80x1024) ![1, 0, 0] S1x80x1024.size inb_S4x80x1024_S1x80x1024_1_0_0).toLoadRect (arg14.view.writes (Elt F) G14 (st_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 v102 v103 v104 v105 v114 v123 v132 X3 X4 X13 G14 G15 init n).2.1)) shapeCasts_S1x80x1024_S80x1024) = (mo kb vb1 qb1 (2 * n)).2
      ∧ (shapeCast S80x1024 (arg14.view.readAt (Elt F) (Rect.unit (s := S4x80x1024) ![2, 0, 0] S1x80x1024.size inb_S4x80x1024_S1x80x1024_2_0_0).toLoadRect (arg14.view.writes (Elt F) G14 (st_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 v102 v103 v104 v105 v114 v123 v132 X3 X4 X13 G14 G15 init n).2.1)) shapeCasts_S1x80x1024_S80x1024) = (mo kb vb2 qb2 (2 * n)).2
      ∧ (shapeCast S80x1024 (arg14.view.readAt (Elt F) (Rect.unit (s := S4x80x1024) ![3, 0, 0] S1x80x1024.size inb_S4x80x1024_S1x80x1024_3_0_0).toLoadRect (arg14.view.writes (Elt F) G14 (st_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 v102 v103 v104 v105 v114 v123 v132 X3 X4 X13 G14 G15 init n).2.1)) shapeCasts_S1x80x1024_S80x1024) = (mo kb vb3 qb3 (2 * n)).2
      ∧ (∀ f : BufTy.Contents (Elt F) arg15.view.ty, (shapeCast S256x1024 (arg15.view.readAt (Elt F) (Rect.unit (s := S2x4x256x1024) ![0, 0, 0, 0] S1x1x256x1024.size inb_S2x4x256x1024_S1x1x256x1024_0_0_0_0).toLoadRect f) shapeCasts_S1x1x256x1024_S256x1024) = scr (kb 0) qb0 → (shapeCast S256x1024 (arg15.view.readAt (Elt F) (Rect.unit (s := S2x4x256x1024) ![0, 0, 0, 0] S1x1x256x1024.size inb_S2x4x256x1024_S1x1x256x1024_0_0_0_0).toLoadRect (arg15.view.writes (Elt F) f (st_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 v102 v103 v104 v105 v114 v123 v132 X3 X4 X13 G14 G15 init n).2.2)) shapeCasts_S1x1x256x1024_S256x1024) = scr (kb (2 * n)) qb0)
      ∧ (∀ f : BufTy.Contents (Elt F) arg15.view.ty, (shapeCast S256x1024 (arg15.view.readAt (Elt F) (Rect.unit (s := S2x4x256x1024) ![0, 1, 0, 0] S1x1x256x1024.size inb_S2x4x256x1024_S1x1x256x1024_0_1_0_0).toLoadRect f) shapeCasts_S1x1x256x1024_S256x1024) = scr (kb 0) qb1 → (shapeCast S256x1024 (arg15.view.readAt (Elt F) (Rect.unit (s := S2x4x256x1024) ![0, 1, 0, 0] S1x1x256x1024.size inb_S2x4x256x1024_S1x1x256x1024_0_1_0_0).toLoadRect (arg15.view.writes (Elt F) f (st_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 v102 v103 v104 v105 v114 v123 v132 X3 X4 X13 G14 G15 init n).2.2)) shapeCasts_S1x1x256x1024_S256x1024) = scr (kb (2 * n)) qb1)
      ∧ (∀ f : BufTy.Contents (Elt F) arg15.view.ty, (shapeCast S256x1024 (arg15.view.readAt (Elt F) (Rect.unit (s := S2x4x256x1024) ![0, 2, 0, 0] S1x1x256x1024.size inb_S2x4x256x1024_S1x1x256x1024_0_2_0_0).toLoadRect f) shapeCasts_S1x1x256x1024_S256x1024) = scr (kb 0) qb2 → (shapeCast S256x1024 (arg15.view.readAt (Elt F) (Rect.unit (s := S2x4x256x1024) ![0, 2, 0, 0] S1x1x256x1024.size inb_S2x4x256x1024_S1x1x256x1024_0_2_0_0).toLoadRect (arg15.view.writes (Elt F) f (st_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 v102 v103 v104 v105 v114 v123 v132 X3 X4 X13 G14 G15 init n).2.2)) shapeCasts_S1x1x256x1024_S256x1024) = scr (kb (2 * n)) qb2)
      ∧ (∀ f : BufTy.Contents (Elt F) arg15.view.ty, (shapeCast S256x1024 (arg15.view.readAt (Elt F) (Rect.unit (s := S2x4x256x1024) ![0, 3, 0, 0] S1x1x256x1024.size inb_S2x4x256x1024_S1x1x256x1024_0_3_0_0).toLoadRect f) shapeCasts_S1x1x256x1024_S256x1024) = scr (kb 0) qb3 → (shapeCast S256x1024 (arg15.view.readAt (Elt F) (Rect.unit (s := S2x4x256x1024) ![0, 3, 0, 0] S1x1x256x1024.size inb_S2x4x256x1024_S1x1x256x1024_0_3_0_0).toLoadRect (arg15.view.writes (Elt F) f (st_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 v102 v103 v104 v105 v114 v123 v132 X3 X4 X13 G14 G15 init n).2.2)) shapeCasts_S1x1x256x1024_S256x1024) = scr (kb (2 * n)) qb3) := by
  induction n with
  | zero => exact ⟨hinit, hA0, hA1, hA2, hA3, fun f h => h, fun f h => h, fun f h => h, fun f h => h⟩
  | succ n ih =>
    obtain ⟨i1, a0, a1, a2, a3, s0, s1, s2, s3⟩ := ih (Nat.le_of_succ_le hn)
    have hs : st_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 v102 v103 v104 v105 v114 v123 v132 X3 X4 X13 G14 G15 init (n + 1) = _ := st_k0_t1_succ (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 v102 v103 v104 v105 v114 v123 v132 X3 X4 X13 G14 G15 init ⟨n, hn⟩
    generalize st_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 v102 v103 v104 v105 v114 v123 v132 X3 X4 X13 G14 G15 init (n + 1) = S' at hs ⊢
    subst hs
    have e0 := s0 G15 hS0
    have e1 := s1 G15 hS1
    have e2 := s2 G15 hS2
    have e3 := s3 G15 hS3
    dsimp only at i1 a0 a1 a2 a3 e0 e1 e2 e3 ⊢
    generalize st_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 v102 v103 v104 v105 v114 v123 v132 X3 X4 X13 G14 G15 init n = S at i1 a0 a1 a2 a3 s0 s1 s2 s3 e0 e1 e2 e3 ⊢
    obtain ⟨S1, L14, L15⟩ := S
    dsimp only at i1 a0 a1 a2 a3 e0 e1 e2 e3 ⊢
    subst i1
    rw [show 2 * (n + 1) = 2 * n + 1 + 1 from rfl]
    refine ⟨?_, ?_, ?_, ?_, ?_, ?_, ?_, ?_, ?_⟩
    · rw [tripR_eq, hK1 ⟨n, hn⟩, hK6 ⟨n, hn⟩, hQ0, hQ1, hQ2, hQ3]
      simp only [mo_succ]
    · rw [tripA_0, hK1 ⟨n, hn⟩, hQ0, hV0 ⟨n, hn⟩, hW0 ⟨n, hn⟩, a0, e0]
      simp only [mo_succ]
    · rw [tripA_1, hK1 ⟨n, hn⟩, hQ1, hV1 ⟨n, hn⟩, hW1 ⟨n, hn⟩, a1, e1]
      simp only [mo_succ]
    · rw [tripA_2, hK1 ⟨n, hn⟩, hQ2, hV2 ⟨n, hn⟩, hW2 ⟨n, hn⟩, a2, e2]
      simp only [mo_succ]
    · rw [tripA_3, hK1 ⟨n, hn⟩, hQ3, hV3 ⟨n, hn⟩, hW3 ⟨n, hn⟩, a3, e3]
      simp only [mo_succ]
    · intro f _
      rw [tripS_0, hK6 ⟨n, hn⟩, hQ0]
    · intro f _
      rw [tripS_1, hK6 ⟨n, hn⟩, hQ1]
    · intro f _
      rw [tripS_2, hK6 ⟨n, hn⟩, hQ2]
    · intro f _
      rw [tripS_3, hK6 ⟨n, hn⟩, hQ3]

end Cert.KernelIdeal.Hand

end
-- ==== Proof.Blocks.lean ====
/- The blocks the body works on: the keys and values of a chunk, and the two masked query maps of a head side by side. -/
module

public import proofs.«01_k».proof.Proof.Loop
public import proofs.«01_k».proof.Proof.RunKernelIdeal
public import Idealize.ShloMosaic.Lib.Pointwise

@[expose] public section

set_option maxRecDepth 16384

noncomputable section

namespace Cert.KernelIdeal.Hand

open Cert.KernelIdeal.Gen
open Idealize.ShloMosaic Idealize.ShloMosaic.TcCoe Idealize.ShloMosaic.Tactic

variable {F : FTy → Type} [FloatOps F] [Named F]

theorem inbK (n : ℕ) (h : n < 16) : ∀ a, (![0, n, 0, 0] : Fin S1x16x256x256.rank → ℕ) a + S1x1x256x256.size a ≤ S1x16x256x256.size a := by
  intro a
  match a with
  | 0 => show 0 + 1 ≤ 1; omega
  | 1 => show n + 1 ≤ 16; omega
  | 2 => show 0 + 256 ≤ 256; omega
  | 3 => show 0 + 256 ≤ 256; omega

theorem inbV (n r : ℕ) (h : n < 16) (hr : r + 80 ≤ 320) :
    ∀ a, (![0, n, r, 0] : Fin S1x16x320x256.rank → ℕ) a + S1x1x80x256.size a ≤ S1x16x320x256.size a := by
  intro a
  match a with
  | 0 => show 0 + 1 ≤ 1; omega
  | 1 => show n + 1 ≤ 16; omega
  | 2 => show r + 80 ≤ 320; omega
  | 3 => show 0 + 256 ≤ 256; omega

theorem inbW (r : ℕ) (hr : r + 80 ≤ 320) :
    ∀ a, (![0, r, 0] : Fin S1x320x256.rank → ℕ) a + S1x80x256.size a ≤ S1x320x256.size a := by
  intro a
  match a with
  | 0 => show 0 + 1 ≤ 1; omega
  | 1 => show r + 80 ≤ 320; omega
  | 2 => show 0 + 256 ≤ 256; omega

/-- The keys of chunk `n`: sixteen chunks of the sequence, then the context's. -/
def kbm (x3 : Vec F S1x16x256x256 .bf16) (x5 : Vec F S1x256x256 .bf16) (n : ℕ) : FVec F S256x256 .bf16 :=
  if h : n < 16 then shapeCast S256x256 (VecWindow.window x3 ![0, n, 0, 0] S1x1x256x256.size (inbK n h)) shapeCasts_S1x1x256x256_S256x256
  else shapeCast S256x256 x5 shapeCasts_S1x256x256_S256x256

/-- The values of chunk `n`, the eighty rows from row `r`. -/
def vbm (x4 : Vec F S1x16x320x256 .bf16) (x6 : Vec F S1x320x256 .bf16) (r : ℕ) (hr : r + 80 ≤ 320) (n : ℕ) : FVec F S80x256 .bf16 :=
  if h : n < 16 then shapeCast S80x256 (VecWindow.window x4 ![0, n, r, 0] S1x1x80x256.size (inbV n r h hr)) shapeCasts_S1x1x80x256_S80x256
  else shapeCast S80x256 (VecWindow.window x6 ![0, r, 0] S1x80x256.size (inbW r hr)) shapeCasts_S1x80x256_S80x256

/-- The block of thirty-two rows an index lies in. -/
def rowh : IVec S256x512 32 := k0_pay53 (iota .tc S256x512 32 [0] iota_S256x512_d0_w32) 32#32 k0_pay51 k0_pay52 1#32 0#32

/-- The scaled queries, rows outside the block `j` of thirty-two set to zero. -/
def qmask (x2 : Vec F S1x256x512 .f32) (j : BitVec 32) : FVec F S256x512 .bf16 :=
  select (cmpi .eq rowh (broadcast S256x512 j)) (k0_pay50 x2) (k0_pay54 (F := F))

/-- Two of these side by side. -/
def qbm (x2 : Vec F S1x256x512 .f32) (j j' : BitVec 32) : Vec F S256x1024 .bf16 := fun y =>
  if h : (y 1).val < 512 then qmask x2 j (ix2 (y 0) ⟨(y 1).val, h⟩ : S256x512.Idx)
  else qmask x2 j' (ix2 (y 0) ⟨(y 1).val - 512, by have := (y 1).isLt; change (y 1).val < 1024 at this; omega⟩ : S256x512.Idx)

theorem qbm_lo (x2 : Vec F S1x256x512 .f32) (j j' : BitVec 32) (y : S256x1024.Idx) (h : (y 1).val < 512) :
    qbm x2 j j' y = qmask x2 j (ix2 (y 0) ⟨(y 1).val, h⟩ : S256x512.Idx) := by
  unfold qbm
  rw [dif_pos h]

theorem qbm_hi (x2 : Vec F S1x256x512 .f32) (j j' : BitVec 32) (y : S256x1024.Idx) (h : ¬ (y 1).val < 512) (h' : (y 1).val - 512 < 512) :
    qbm x2 j j' y = qmask x2 j' (ix2 (y 0) ⟨(y 1).val - 512, h'⟩ : S256x512.Idx) := by
  unfold qbm
  rw [dif_neg h]

section Read

variable {σ : RefSig} {κ' : Kind} {sp : Space} {s : Shape} {e : EltTy} {Val : EltTy → Type} (v : View σ κ' sp s e)
  (f : v.ty.Contents Val)

/-- An element of a load the newest store covers. -/
theorem rd_at {off size off' size' : Fin s.rank → ℕ} (inb : ∀ a, off a + size a ≤ s.size a) (inb' : ∀ a, off' a + size' a ≤ s.size a)
    (w : (Rect.unit off' size' inb').shape.Idx → Val e) (L : List (View.Piece Val s e))
    (y : (Rect.unit off size inb).shape.Idx) (x : (Rect.unit off' size' inb').shape.Idx) (h : ∀ a, off a + (y a).val = off' a + (x a).val) :
    v.readAt Val (Rect.unit off size inb).toLoadRect (v.writes Val f (⟨Rect.unit off' size' inb', w⟩ :: L)) y = w x := by
  refine View.read_writes_cons_unit_of_mem v f inb' w L _ x rfl fun a => ?_
  have h1 := h a
  show off a + 1 * (y a).val = off' a + (x a).val
  omega

/-- An element of a load the newest store misses. -/
theorem rd_at_miss {off size off' size' : Fin s.rank → ℕ} (inb : ∀ a, off a + size a ≤ s.size a) (inb' : ∀ a, off' a + size' a ≤ s.size a)
    (w : (Rect.unit off' size' inb').shape.Idx → Val e) (L : List (View.Piece Val s e))
    (y : (Rect.unit off size inb).shape.Idx) (a : Fin s.rank) (h : off a + (y a).val < off' a ∨ off' a + size' a ≤ off a + (y a).val) :
    v.readAt Val (Rect.unit off size inb).toLoadRect (v.writes Val f (⟨Rect.unit off' size' inb', w⟩ :: L)) y
      = v.readAt Val (Rect.unit off size inb).toLoadRect (v.writes Val f L) y := by
  refine View.read_writes_cons_unit_of_not_mem v f inb' w L _ rfl a ?_
  show off a + 1 * (y a).val < off' a ∨ off' a + size' a ≤ off a + 1 * (y a).val
  omega

end Read

theorem rd2 (arg2 : Memref sig .tc .vmem S1x256x512 .f32) (harg2 : arg2.IsWhole) (x2 : Vec F S1x256x512 .f32) :
    arg2.view.readAt (Elt F) (Rect.unit (s := S1x256x512) ![0, 0, 0] S1x256x512.size inb_S1x256x512_S1x256x512_0_0_0).toLoadRect (harg2.unread x2) = x2 := by
  rw [View.readAt_full, harg2.read_unread]

theorem qpiece0 (c : Dev nD) (arg2 : Memref sig .tc .vmem S1x256x512 .f32) (harg2 : arg2.IsWhole) (x2 : Vec F S1x256x512 .f32) :
    k0_pay55 (pointRun.sl.r_1 (F := F) c arg2 harg2 x2) pointRun.sl.v24 (32#32) k0_pay51 k0_pay52 1#32 0#32 = qmask x2 0#32 := by
  have h : pointRun.sl.r_1 (F := F) c arg2 harg2 x2 = k0_pay50 x2 := by
    unfold pointRun.sl.r_1
    rw [rd2]
  skip
  rw [h]
  exact shapeCast_self _ _

theorem qpiece1 (c : Dev nD) (arg2 : Memref sig .tc .vmem S1x256x512 .f32) (harg2 : arg2.IsWhole) (x2 : Vec F S1x256x512 .f32) :
    k0_pay56 (pointRun.sl.r_1 (F := F) c arg2 harg2 x2) pointRun.sl.v24 (32#32) k0_pay51 k0_pay52 1#32 0#32 = qmask x2 1#32 := by
  have h : pointRun.sl.r_1 (F := F) c arg2 harg2 x2 = k0_pay50 x2 := by
    unfold pointRun.sl.r_1
    rw [rd2]
  skip
  rw [h]
  exact shapeCast_self _ _

theorem qpiece2 (c : Dev nD) (arg2 : Memref sig .tc .vmem S1x256x512 .f32) (harg2 : arg2.IsWhole) (x2 : Vec F S1x256x512 .f32) :
    k0_pay57 (pointRun.sl.r_1 (F := F) c arg2 harg2 x2) pointRun.sl.v24 (32#32) k0_pay51 k0_pay52 1#32 0#32 = qmask x2 2#32 := by
  have h : pointRun.sl.r_1 (F := F) c arg2 harg2 x2 = k0_pay50 x2 := by
    unfold pointRun.sl.r_1
    rw [rd2]
  skip
  rw [h]
  exact shapeCast_self _ _

theorem qpiece3 (c : Dev nD) (arg2 : Memref sig .tc .vmem S1x256x512 .f32) (harg2 : arg2.IsWhole) (x2 : Vec F S1x256x512 .f32) :
    k0_pay58 (pointRun.sl.r_1 (F := F) c arg2 harg2 x2) pointRun.sl.v24 (32#32) k0_pay51 k0_pay52 1#32 0#32 = qmask x2 3#32 := by
  have h : pointRun.sl.r_1 (F := F) c arg2 harg2 x2 = k0_pay50 x2 := by
    unfold pointRun.sl.r_1
    rw [rd2]
  skip
  rw [h]
  exact shapeCast_self _ _

theorem qpiece4 (c : Dev nD) (arg2 : Memref sig .tc .vmem S1x256x512 .f32) (harg2 : arg2.IsWhole) (x2 : Vec F S1x256x512 .f32) :
    k0_pay60 (pointRun.sl.r_3 (F := F) c arg2 harg2 x2) = qmask x2 4#32 := by
  have h : pointRun.sl.r_1 (F := F) c arg2 harg2 x2 = k0_pay50 x2 := by
    unfold pointRun.sl.r_1
    rw [rd2]
  unfold pointRun.sl.r_3
  rw [h]
  exact shapeCast_self _ _

theorem qpiece5 (c : Dev nD) (arg2 : Memref sig .tc .vmem S1x256x512 .f32) (harg2 : arg2.IsWhole) (x2 : Vec F S1x256x512 .f32) :
    k0_pay61 (pointRun.sl.r_1 (F := F) c arg2 harg2 x2) pointRun.sl.r_2 k0_pay54 = qmask x2 5#32 := by
  have h : pointRun.sl.r_1 (F := F) c arg2 harg2 x2 = k0_pay50 x2 := by
    unfold pointRun.sl.r_1
    rw [rd2]
  skip
  rw [h]
  exact shapeCast_self _ _

theorem qpiece6 (c : Dev nD) (arg2 : Memref sig .tc .vmem S1x256x512 .f32) (harg2 : arg2.IsWhole) (x2 : Vec F S1x256x512 .f32) :
    k0_pay62 (pointRun.sl.r_1 (F := F) c arg2 harg2 x2) pointRun.sl.r_2 k0_pay54 = qmask x2 6#32 := by
  have h : pointRun.sl.r_1 (F := F) c arg2 harg2 x2 = k0_pay50 x2 := by
    unfold pointRun.sl.r_1
    rw [rd2]
  skip
  rw [h]
  exact shapeCast_self _ _

theorem qpiece7 (c : Dev nD) (arg2 : Memref sig .tc .vmem S1x256x512 .f32) (harg2 : arg2.IsWhole) (x2 : Vec F S1x256x512 .f32) :
    k0_pay63 (pointRun.sl.r_1 (F := F) c arg2 harg2 x2) pointRun.sl.r_2 k0_pay54 = qmask x2 7#32 := by
  have h : pointRun.sl.r_1 (F := F) c arg2 harg2 x2 = k0_pay50 x2 := by
    unfold pointRun.sl.r_1
    rw [rd2]
  skip
  rw [h]
  exact shapeCast_self _ _

set_option maxHeartbeats 4000000 in
/-- The query maps of head 0, read back. -/
theorem qread0 (c : Dev nD) (arg2 : Memref sig .tc .vmem S1x256x512 .f32) (harg2 : arg2.IsWhole) (arg13 : Memref sig .tc .vmem S256x4096 .bf16) (x2 : Vec F S1x256x512 .f32) (f : BufTy.Contents (Elt F) arg13.view.ty) :
    arg13.view.readAt (Elt F) (Rect.unit (s := S256x4096) ![0, 0] S256x1024.size inb_S256x4096_S256x1024_0_0).toLoadRect (arg13.view.writes (Elt F) f (pointRun.sl.H13_8 (F := F) c arg2 harg2 x2)) = qbm x2 0#32 1#32 := by
  unfold pointRun.sl.H13_8
  rw [rd_miss _ _ _ _ _ _ ⟨1, by decide⟩]
  rw [rd_miss _ _ _ _ _ _ ⟨1, by decide⟩]
  rw [rd_miss _ _ _ _ _ _ ⟨1, by decide⟩]
  rw [rd_miss _ _ _ _ _ _ ⟨1, by decide⟩]
  rw [rd_miss _ _ _ _ _ _ ⟨1, by decide⟩]
  rw [rd_miss _ _ _ _ _ _ ⟨1, by decide⟩]
  funext y
  by_cases hy : (y 1).val < 512
  · rw [rd_at_miss _ _ _ _ _ _ y 1 (Or.inl (show 0 + (y 1).val < 512 by omega))]
    refine (rd_at _ _ _ _ _ _ y (ix2 (y 0) ⟨(y 1).val, hy⟩ : S256x512.Idx) fun a => ?_).trans ?_
    · match a with
      | 0 => rfl
      | 1 => rfl
    · rw [qpiece0]
      exact (qbm_lo _ _ _ y hy).symm
  · have h1 : (y 1).val < 1024 := (y 1).isLt
    refine (rd_at _ _ _ _ _ _ y (ix2 (y 0) ⟨(y 1).val - 512, by omega⟩ : S256x512.Idx) fun a => ?_).trans ?_
    · match a with
      | 0 => rfl
      | 1 => show 0 + (y 1).val = 512 + ((y 1).val - 512); omega
    · rw [qpiece1]
      exact (qbm_hi _ _ _ y hy _).symm

set_option maxHeartbeats 4000000 in
/-- The query maps of head 1, read back. -/
theorem qread1 (c : Dev nD) (arg2 : Memref sig .tc .vmem S1x256x512 .f32) (harg2 : arg2.IsWhole) (arg13 : Memref sig .tc .vmem S256x4096 .bf16) (x2 : Vec F S1x256x512 .f32) (f : BufTy.Contents (Elt F) arg13.view.ty) :
    arg13.view.readAt (Elt F) (Rect.unit (s := S256x4096) ![0, 1024] S256x1024.size inb_S256x4096_S256x1024_0_1024).toLoadRect (arg13.view.writes (Elt F) f (pointRun.sl.H13_8 (F := F) c arg2 harg2 x2)) = qbm x2 2#32 3#32 := by
  unfold pointRun.sl.H13_8
  rw [rd_miss _ _ _ _ _ _ ⟨1, by decide⟩]
  rw [rd_miss _ _ _ _ _ _ ⟨1, by decide⟩]
  rw [rd_miss _ _ _ _ _ _ ⟨1, by decide⟩]
  rw [rd_miss _ _ _ _ _ _ ⟨1, by decide⟩]
  funext y
  by_cases hy : (y 1).val < 512
  · rw [rd_at_miss _ _ _ _ _ _ y 1 (Or.inl (show 1024 + (y 1).val < 1536 by omega))]
    refine (rd_at _ _ _ _ _ _ y (ix2 (y 0) ⟨(y 1).val, hy⟩ : S256x512.Idx) fun a => ?_).trans ?_
    · match a with
      | 0 => rfl
      | 1 => rfl
    · rw [qpiece2]
      exact (qbm_lo _ _ _ y hy).symm
  · have h1 : (y 1).val < 1024 := (y 1).isLt
    refine (rd_at _ _ _ _ _ _ y (ix2 (y 0) ⟨(y 1).val - 512, by omega⟩ : S256x512.Idx) fun a => ?_).trans ?_
    · match a with
      | 0 => rfl
      | 1 => show 1024 + (y 1).val = 1536 + ((y 1).val - 512); omega
    · rw [qpiece3]
      exact (qbm_hi _ _ _ y hy _).symm

set_option maxHeartbeats 4000000 in
/-- The query maps of head 2, read back. -/
theorem qread2 (c : Dev nD) (arg2 : Memref sig .tc .vmem S1x256x512 .f32) (harg2 : arg2.IsWhole) (arg13 : Memref sig .tc .vmem S256x4096 .bf16) (x2 : Vec F S1x256x512 .f32) (f : BufTy.Contents (Elt F) arg13.view.ty) :
    arg13.view.readAt (Elt F) (Rect.unit (s := S256x4096) ![0, 2048] S256x1024.size inb_S256x4096_S256x1024_0_2048).toLoadRect (arg13.view.writes (Elt F) f (pointRun.sl.H13_8 (F := F) c arg2 harg2 x2)) = qbm x2 4#32 5#32 := by
  unfold pointRun.sl.H13_8
  rw [rd_miss _ _ _ _ _ _ ⟨1, by decide⟩]
  rw [rd_miss _ _ _ _ _ _ ⟨1, by decide⟩]
  funext y
  by_cases hy : (y 1).val < 512
  · rw [rd_at_miss _ _ _ _ _ _ y 1 (Or.inl (show 2048 + (y 1).val < 2560 by omega))]
    refine (rd_at _ _ _ _ _ _ y (ix2 (y 0) ⟨(y 1).val, hy⟩ : S256x512.Idx) fun a => ?_).trans ?_
    · match a with
      | 0 => rfl
      | 1 => rfl
    · rw [qpiece4]
      exact (qbm_lo _ _ _ y hy).symm
  · have h1 : (y 1).val < 1024 := (y 1).isLt
    refine (rd_at _ _ _ _ _ _ y (ix2 (y 0) ⟨(y 1).val - 512, by omega⟩ : S256x512.Idx) fun a => ?_).trans ?_
    · match a with
      | 0 => rfl
      | 1 => show 2048 + (y 1).val = 2560 + ((y 1).val - 512); omega
    · rw [qpiece5]
      exact (qbm_hi _ _ _ y hy _).symm

set_option maxHeartbeats 4000000 in
/-- The query maps of head 3, read back. -/
theorem qread3 (c : Dev nD) (arg2 : Memref sig .tc .vmem S1x256x512 .f32) (harg2 : arg2.IsWhole) (arg13 : Memref sig .tc .vmem S256x4096 .bf16) (x2 : Vec F S1x256x512 .f32) (f : BufTy.Contents (Elt F) arg13.view.ty) :
    arg13.view.readAt (Elt F) (Rect.unit (s := S256x4096) ![0, 3072] S256x1024.size inb_S256x4096_S256x1024_0_3072).toLoadRect (arg13.view.writes (Elt F) f (pointRun.sl.H13_8 (F := F) c arg2 harg2 x2)) = qbm x2 6#32 7#32 := by
  unfold pointRun.sl.H13_8
  funext y
  by_cases hy : (y 1).val < 512
  · rw [rd_at_miss _ _ _ _ _ _ y 1 (Or.inl (show 3072 + (y 1).val < 3584 by omega))]
    refine (rd_at _ _ _ _ _ _ y (ix2 (y 0) ⟨(y 1).val, hy⟩ : S256x512.Idx) fun a => ?_).trans ?_
    · match a with
      | 0 => rfl
      | 1 => rfl
    · rw [qpiece6]
      exact (qbm_lo _ _ _ y hy).symm
  · have h1 : (y 1).val < 1024 := (y 1).isLt
    refine (rd_at _ _ _ _ _ _ y (ix2 (y 0) ⟨(y 1).val - 512, by omega⟩ : S256x512.Idx) fun a => ?_).trans ?_
    · match a with
      | 0 => rfl
      | 1 => show 3072 + (y 1).val = 3584 + ((y 1).val - 512); omega
    · rw [qpiece7]
      exact (qbm_hi _ _ _ y hy _).symm

end Cert.KernelIdeal.Hand

end
-- ==== Proof.Start.lean ====
/- The body before and at the counted loop: what it reads of its blocks, and what the loop leaves. -/
module

public import proofs.«01_k».proof.Proof.Blocks

@[expose] public section

set_option maxRecDepth 16384

noncomputable section

namespace Cert.KernelIdeal.Hand

open Cert.KernelIdeal.Gen
open Idealize.ShloMosaic Idealize.ShloMosaic.TcCoe Idealize.ShloMosaic.Tactic

variable {F : FTy → Type} [FloatOps F] [Named F]

variable (c : Dev nD) (i : grid0.Coords) (arg2 : Memref sig .tc .vmem S1x256x512 .f32) (harg2 : arg2.IsWhole) (arg3 : Memref sig .tc .vmem S1x16x256x256 .bf16) (harg3 : arg3.IsWhole) (arg4 : Memref sig .tc .vmem S1x16x320x256 .bf16) (harg4 : arg4.IsWhole) (arg5 : Memref sig .tc .vmem S1x256x256 .bf16) (harg5 : arg5.IsWhole) (arg6 : Memref sig .tc .vmem S1x320x256 .bf16) (harg6 : arg6.IsWhole) (arg7 : Memref sig .tc .vmem S1x32 .f32) (harg7 : arg7.IsWhole) (arg8 : Memref sig .tc .vmem S1x32 .f32) (harg8 : arg8.IsWhole) (arg9 : Memref sig .tc .vmem S1x32 .f32) (harg9 : arg9.IsWhole) (arg10 : Memref sig .tc .vmem S1x32 .f32) (harg10 : arg10.IsWhole) (arg11 : Memref sig .tc .vmem S64x1 .f32) (harg11 : arg11.IsWhole) (arg12 : Memref sig .tc .vmem S512x256 .bf16) (harg12 : arg12.IsWhole) (arg13 : Memref sig .tc .vmem S256x4096 .bf16) (harg13 : arg13.IsWhole) (arg14 : Memref sig .tc .vmem S4x80x1024 .f32) (harg14 : arg14.IsWhole) (arg15 : Memref sig .tc .vmem S2x4x256x1024 .f32) (harg15 : arg15.IsWhole) (x2 : Vec F S1x256x512 .f32) (x3 : Vec F S1x16x256x256 .bf16) (x4 : Vec F S1x16x320x256 .bf16) (x5 : Vec F S1x256x256 .bf16) (x6 : Vec F S1x320x256 .bf16) (x7 x8 x9 x10 : Vec F S1x32 .f32) (x11 : Vec F S64x1 .f32) (y15 : Vec F S2x4x256x1024 .f32)

theorem kread (n : ℕ) (h : n < 16) (off : Fin 4 → ℕ) (inb : ∀ a, off a + S1x1x256x256.size a ≤ S1x16x256x256.size a) (ho : off = ![0, n, 0, 0]) :
    shapeCast S256x256 (arg3.view.readAt (Elt F) (Rect.unit (s := S1x16x256x256) off S1x1x256x256.size inb).toLoadRect (harg3.unread x3)) shapeCasts_S1x1x256x256_S256x256 = kbm x3 x5 n := by
  rw [View.readAt_unit arg3.view (harg3.unread x3) inb ho (inbK n h), harg3.read_unread]
  unfold kbm
  rw [dif_pos h]

theorem vread (n r : ℕ) (h : n < 16) (hr : r + 80 ≤ 320) (off : Fin 4 → ℕ) (inb : ∀ a, off a + S1x1x80x256.size a ≤ S1x16x320x256.size a) (ho : off = ![0, n, r, 0]) :
    shapeCast S80x256 (arg4.view.readAt (Elt F) (Rect.unit (s := S1x16x320x256) off S1x1x80x256.size inb).toLoadRect (harg4.unread x4)) shapeCasts_S1x1x80x256_S80x256 = vbm x4 x6 r hr n := by
  rw [View.readAt_unit arg4.view (harg4.unread x4) inb ho (inbV n r h hr), harg4.read_unread]
  unfold vbm
  rw [dif_pos h]

theorem kread16 :
    shapeCast S256x256 (arg5.view.readAt (Elt F) (Rect.unit (s := S1x256x256) ![0, 0, 0] S1x256x256.size inb_S1x256x256_S1x256x256_0_0_0).toLoadRect (harg5.unread x5)) shapeCasts_S1x256x256_S256x256 = kbm x3 x5 16 := by
  rw [View.readAt_full, harg5.read_unread]
  unfold kbm
  rw [dif_neg (by decide)]

theorem vread16 (r : ℕ) (hr : r + 80 ≤ 320) (off : Fin 3 → ℕ) (inb : ∀ a, off a + S1x80x256.size a ≤ S1x320x256.size a) (ho : off = ![0, r, 0]) :
    shapeCast S80x256 (arg6.view.readAt (Elt F) (Rect.unit (s := S1x320x256) off S1x80x256.size inb).toLoadRect (harg6.unread x6)) shapeCasts_S1x80x256_S80x256 = vbm x4 x6 r hr 16 := by
  rw [View.readAt_unit arg6.view (harg6.unread x6) inb ho (inbW r hr), harg6.read_unread]
  unfold vbm
  rw [dif_neg (by decide)]

theorem v108_eq : (pointRun.sl.v108 (F := F) c arg2 harg2 arg13 x2) = (qbm x2 0#32 1#32) := by
  unfold pointRun.sl.v108 View.readCov
  exact qread0 c arg2 harg2 arg13 x2 _

theorem v146_eq : (pointRun.sl.v146 (F := F) c arg2 harg2 arg13 x2) = (qbm x2 0#32 1#32) := by
  unfold pointRun.sl.v146 View.readCov
  exact qread0 c arg2 harg2 arg13 x2 _

theorem v117_eq : (pointRun.sl.v117 (F := F) c arg2 harg2 arg13 x2) = (qbm x2 2#32 3#32) := by
  unfold pointRun.sl.v117 View.readCov
  exact qread1 c arg2 harg2 arg13 x2 _

theorem v175_eq : (pointRun.sl.v175 (F := F) c arg2 harg2 arg13 x2) = (qbm x2 2#32 3#32) := by
  unfold pointRun.sl.v175 View.readCov
  exact qread1 c arg2 harg2 arg13 x2 _

theorem v126_eq : (pointRun.sl.v126 (F := F) c arg2 harg2 arg13 x2) = (qbm x2 4#32 5#32) := by
  unfold pointRun.sl.v126 View.readCov
  exact qread2 c arg2 harg2 arg13 x2 _

theorem v204_eq : (pointRun.sl.v204 (F := F) c arg2 harg2 arg13 x2) = (qbm x2 4#32 5#32) := by
  unfold pointRun.sl.v204 View.readCov
  exact qread2 c arg2 harg2 arg13 x2 _

theorem v135_eq : (pointRun.sl.v135 (F := F) c arg2 harg2 arg13 x2) = (qbm x2 6#32 7#32) := by
  unfold pointRun.sl.v135 View.readCov
  exact qread3 c arg2 harg2 arg13 x2 _

theorem v233_eq : (pointRun.sl.v233 (F := F) c arg2 harg2 arg13 x2) = (qbm x2 6#32 7#32) := by
  unfold pointRun.sl.v233 View.readCov
  exact qread3 c arg2 harg2 arg13 x2 _

set_option maxHeartbeats 4000000 in
theorem sbase0 (f : BufTy.Contents (Elt F) arg15.view.ty) : (shapeCast S256x1024 (arg15.view.readAt (Elt F) (Rect.unit (s := S2x4x256x1024) ![0, 0, 0, 0] S1x1x256x1024.size inb_S2x4x256x1024_S1x1x256x1024_0_0_0_0).toLoadRect (arg15.view.writes (Elt F) f [⟨Rect.unit (s := S2x4x256x1024) ![0, 3, 0, 0] S1x1x256x1024.size inb_S2x4x256x1024_S1x1x256x1024_0_3_0_0, k0_pay80 (View.readAt (Elt F) arg3.view (Rect.unit (s := S1x16x256x256) ![0, 0, 0, 0] S1x1x256x256.size inb_S1x16x256x256_S1x1x256x256_0_0_0_0).toLoadRect (harg3.unread x3)) (pointRun.sl.v135 c arg2 harg2 arg13 x2)⟩, ⟨Rect.unit (s := S2x4x256x1024) ![0, 2, 0, 0] S1x1x256x1024.size inb_S2x4x256x1024_S1x1x256x1024_0_2_0_0, k0_pay77 (View.readAt (Elt F) arg3.view (Rect.unit (s := S1x16x256x256) ![0, 0, 0, 0] S1x1x256x256.size inb_S1x16x256x256_S1x1x256x256_0_0_0_0).toLoadRect (harg3.unread x3)) (pointRun.sl.v126 c arg2 harg2 arg13 x2)⟩, ⟨Rect.unit (s := S2x4x256x1024) ![0, 1, 0, 0] S1x1x256x1024.size inb_S2x4x256x1024_S1x1x256x1024_0_1_0_0, k0_pay74 (View.readAt (Elt F) arg3.view (Rect.unit (s := S1x16x256x256) ![0, 0, 0, 0] S1x1x256x256.size inb_S1x16x256x256_S1x1x256x256_0_0_0_0).toLoadRect (harg3.unread x3)) (pointRun.sl.v117 c arg2 harg2 arg13 x2)⟩, ⟨Rect.unit (s := S2x4x256x1024) ![0, 0, 0, 0] S1x1x256x1024.size inb_S2x4x256x1024_S1x1x256x1024_0_0_0_0, k0_pay71 (pointRun.sl.r_4 c arg3 harg3 x3) (pointRun.sl.v108 c arg2 harg2 arg13 x2)⟩])) shapeCasts_S1x1x256x1024_S256x1024) = scr (kbm x3 x5 0) (qbm x2 0#32 1#32) := by
  rw [rd_miss _ _ _ _ _ _ (by decide)]
  rw [rd_miss _ _ _ _ _ _ (by decide)]
  rw [rd_miss _ _ _ _ _ _ (by decide)]
  rw [rd_hit]
  refine (shapeCast_shapeCast (scr (shapeCast S256x256 (arg3.view.readAt (Elt F) (Rect.unit (s := S1x16x256x256) ![0, 0, 0, 0] S1x1x256x256.size inb_S1x16x256x256_S1x1x256x256_0_0_0_0).toLoadRect (harg3.unread x3)) shapeCasts_S1x1x256x256_S256x256) (pointRun.sl.v108 (F := F) c arg2 harg2 arg13 x2)) _ _).trans ?_
  rw [v108_eq, kread arg3 harg3 x3 x5 0 (by decide) _ _ rfl]

set_option maxHeartbeats 4000000 in
theorem abase0 (f : BufTy.Contents (Elt F) arg14.view.ty) : (shapeCast S80x1024 (arg14.view.readAt (Elt F) (Rect.unit (s := S4x80x1024) ![0, 0, 0] S1x80x1024.size inb_S4x80x1024_S1x80x1024_0_0_0).toLoadRect (arg14.view.writes (Elt F) f (pointRun.sl.H14_1 (F := F)))) shapeCasts_S1x80x1024_S80x1024) = (mo (kbm x3 x5) (vbm x4 x6 0 (by decide)) (qbm x2 0#32 1#32) 0).2 := by
  unfold pointRun.sl.H14_1
  have e : (arg14.view.readAt (Elt F) (Rect.unit (s := S4x80x1024) ![0, 0, 0] S1x80x1024.size inb_S4x80x1024_S1x80x1024_0_0_0).toLoadRect (arg14.view.writes (Elt F) f [⟨Rect.unit (s := S4x80x1024) ![0, 0, 0] S4x80x1024.size inb_S4x80x1024_S4x80x1024_0_0_0, k0_pay64⟩])) = fun _ => Scalar.ofBits .f32 0x00000000#32 := by
    funext y
    refine (rd_at _ _ _ _ _ _ y (ix3 ⟨0 + (y 0).val, by have := (y 0).isLt; change (y 0).val < 1 at this; omega⟩ ⟨(y 1).val, (y 1).isLt⟩ ⟨(y 2).val, (y 2).isLt⟩ : S4x80x1024.Idx) fun a => ?_).trans ?_
    · match a with
      | 0 => show 0 + (y 0).val = 0 + (0 + (y 0).val); omega
      | 1 => rfl
      | 2 => rfl
    · rfl
  rw [e]
  rfl

set_option maxHeartbeats 4000000 in
theorem sbase1 (f : BufTy.Contents (Elt F) arg15.view.ty) : (shapeCast S256x1024 (arg15.view.readAt (Elt F) (Rect.unit (s := S2x4x256x1024) ![0, 1, 0, 0] S1x1x256x1024.size inb_S2x4x256x1024_S1x1x256x1024_0_1_0_0).toLoadRect (arg15.view.writes (Elt F) f [⟨Rect.unit (s := S2x4x256x1024) ![0, 3, 0, 0] S1x1x256x1024.size inb_S2x4x256x1024_S1x1x256x1024_0_3_0_0, k0_pay80 (View.readAt (Elt F) arg3.view (Rect.unit (s := S1x16x256x256) ![0, 0, 0, 0] S1x1x256x256.size inb_S1x16x256x256_S1x1x256x256_0_0_0_0).toLoadRect (harg3.unread x3)) (pointRun.sl.v135 c arg2 harg2 arg13 x2)⟩, ⟨Rect.unit (s := S2x4x256x1024) ![0, 2, 0, 0] S1x1x256x1024.size inb_S2x4x256x1024_S1x1x256x1024_0_2_0_0, k0_pay77 (View.readAt (Elt F) arg3.view (Rect.unit (s := S1x16x256x256) ![0, 0, 0, 0] S1x1x256x256.size inb_S1x16x256x256_S1x1x256x256_0_0_0_0).toLoadRect (harg3.unread x3)) (pointRun.sl.v126 c arg2 harg2 arg13 x2)⟩, ⟨Rect.unit (s := S2x4x256x1024) ![0, 1, 0, 0] S1x1x256x1024.size inb_S2x4x256x1024_S1x1x256x1024_0_1_0_0, k0_pay74 (View.readAt (Elt F) arg3.view (Rect.unit (s := S1x16x256x256) ![0, 0, 0, 0] S1x1x256x256.size inb_S1x16x256x256_S1x1x256x256_0_0_0_0).toLoadRect (harg3.unread x3)) (pointRun.sl.v117 c arg2 harg2 arg13 x2)⟩, ⟨Rect.unit (s := S2x4x256x1024) ![0, 0, 0, 0] S1x1x256x1024.size inb_S2x4x256x1024_S1x1x256x1024_0_0_0_0, k0_pay71 (pointRun.sl.r_4 c arg3 harg3 x3) (pointRun.sl.v108 c arg2 harg2 arg13 x2)⟩])) shapeCasts_S1x1x256x1024_S256x1024) = scr (kbm x3 x5 0) (qbm x2 2#32 3#32) := by
  rw [rd_miss _ _ _ _ _ _ (by decide)]
  rw [rd_miss _ _ _ _ _ _ (by decide)]
  rw [rd_hit]
  refine (shapeCast_shapeCast (scr (shapeCast S256x256 (arg3.view.readAt (Elt F) (Rect.unit (s := S1x16x256x256) ![0, 0, 0, 0] S1x1x256x256.size inb_S1x16x256x256_S1x1x256x256_0_0_0_0).toLoadRect (harg3.unread x3)) shapeCasts_S1x1x256x256_S256x256) (pointRun.sl.v117 (F := F) c arg2 harg2 arg13 x2)) _ _).trans ?_
  rw [v117_eq, kread arg3 harg3 x3 x5 0 (by decide) _ _ rfl]

set_option maxHeartbeats 4000000 in
theorem abase1 (f : BufTy.Contents (Elt F) arg14.view.ty) : (shapeCast S80x1024 (arg14.view.readAt (Elt F) (Rect.unit (s := S4x80x1024) ![1, 0, 0] S1x80x1024.size inb_S4x80x1024_S1x80x1024_1_0_0).toLoadRect (arg14.view.writes (Elt F) f (pointRun.sl.H14_1 (F := F)))) shapeCasts_S1x80x1024_S80x1024) = (mo (kbm x3 x5) (vbm x4 x6 80 (by decide)) (qbm x2 2#32 3#32) 0).2 := by
  unfold pointRun.sl.H14_1
  have e : (arg14.view.readAt (Elt F) (Rect.unit (s := S4x80x1024) ![1, 0, 0] S1x80x1024.size inb_S4x80x1024_S1x80x1024_1_0_0).toLoadRect (arg14.view.writes (Elt F) f [⟨Rect.unit (s := S4x80x1024) ![0, 0, 0] S4x80x1024.size inb_S4x80x1024_S4x80x1024_0_0_0, k0_pay64⟩])) = fun _ => Scalar.ofBits .f32 0x00000000#32 := by
    funext y
    refine (rd_at _ _ _ _ _ _ y (ix3 ⟨1 + (y 0).val, by have := (y 0).isLt; change (y 0).val < 1 at this; omega⟩ ⟨(y 1).val, (y 1).isLt⟩ ⟨(y 2).val, (y 2).isLt⟩ : S4x80x1024.Idx) fun a => ?_).trans ?_
    · match a with
      | 0 => show 1 + (y 0).val = 0 + (1 + (y 0).val); omega
      | 1 => rfl
      | 2 => rfl
    · rfl
  rw [e]
  rfl

set_option maxHeartbeats 4000000 in
theorem sbase2 (f : BufTy.Contents (Elt F) arg15.view.ty) : (shapeCast S256x1024 (arg15.view.readAt (Elt F) (Rect.unit (s := S2x4x256x1024) ![0, 2, 0, 0] S1x1x256x1024.size inb_S2x4x256x1024_S1x1x256x1024_0_2_0_0).toLoadRect (arg15.view.writes (Elt F) f [⟨Rect.unit (s := S2x4x256x1024) ![0, 3, 0, 0] S1x1x256x1024.size inb_S2x4x256x1024_S1x1x256x1024_0_3_0_0, k0_pay80 (View.readAt (Elt F) arg3.view (Rect.unit (s := S1x16x256x256) ![0, 0, 0, 0] S1x1x256x256.size inb_S1x16x256x256_S1x1x256x256_0_0_0_0).toLoadRect (harg3.unread x3)) (pointRun.sl.v135 c arg2 harg2 arg13 x2)⟩, ⟨Rect.unit (s := S2x4x256x1024) ![0, 2, 0, 0] S1x1x256x1024.size inb_S2x4x256x1024_S1x1x256x1024_0_2_0_0, k0_pay77 (View.readAt (Elt F) arg3.view (Rect.unit (s := S1x16x256x256) ![0, 0, 0, 0] S1x1x256x256.size inb_S1x16x256x256_S1x1x256x256_0_0_0_0).toLoadRect (harg3.unread x3)) (pointRun.sl.v126 c arg2 harg2 arg13 x2)⟩, ⟨Rect.unit (s := S2x4x256x1024) ![0, 1, 0, 0] S1x1x256x1024.size inb_S2x4x256x1024_S1x1x256x1024_0_1_0_0, k0_pay74 (View.readAt (Elt F) arg3.view (Rect.unit (s := S1x16x256x256) ![0, 0, 0, 0] S1x1x256x256.size inb_S1x16x256x256_S1x1x256x256_0_0_0_0).toLoadRect (harg3.unread x3)) (pointRun.sl.v117 c arg2 harg2 arg13 x2)⟩, ⟨Rect.unit (s := S2x4x256x1024) ![0, 0, 0, 0] S1x1x256x1024.size inb_S2x4x256x1024_S1x1x256x1024_0_0_0_0, k0_pay71 (pointRun.sl.r_4 c arg3 harg3 x3) (pointRun.sl.v108 c arg2 harg2 arg13 x2)⟩])) shapeCasts_S1x1x256x1024_S256x1024) = scr (kbm x3 x5 0) (qbm x2 4#32 5#32) := by
  rw [rd_miss _ _ _ _ _ _ (by decide)]
  rw [rd_hit]
  refine (shapeCast_shapeCast (scr (shapeCast S256x256 (arg3.view.readAt (Elt F) (Rect.unit (s := S1x16x256x256) ![0, 0, 0, 0] S1x1x256x256.size inb_S1x16x256x256_S1x1x256x256_0_0_0_0).toLoadRect (harg3.unread x3)) shapeCasts_S1x1x256x256_S256x256) (pointRun.sl.v126 (F := F) c arg2 harg2 arg13 x2)) _ _).trans ?_
  rw [v126_eq, kread arg3 harg3 x3 x5 0 (by decide) _ _ rfl]

set_option maxHeartbeats 4000000 in
theorem abase2 (f : BufTy.Contents (Elt F) arg14.view.ty) : (shapeCast S80x1024 (arg14.view.readAt (Elt F) (Rect.unit (s := S4x80x1024) ![2, 0, 0] S1x80x1024.size inb_S4x80x1024_S1x80x1024_2_0_0).toLoadRect (arg14.view.writes (Elt F) f (pointRun.sl.H14_1 (F := F)))) shapeCasts_S1x80x1024_S80x1024) = (mo (kbm x3 x5) (vbm x4 x6 160 (by decide)) (qbm x2 4#32 5#32) 0).2 := by
  unfold pointRun.sl.H14_1
  have e : (arg14.view.readAt (Elt F) (Rect.unit (s := S4x80x1024) ![2, 0, 0] S1x80x1024.size inb_S4x80x1024_S1x80x1024_2_0_0).toLoadRect (arg14.view.writes (Elt F) f [⟨Rect.unit (s := S4x80x1024) ![0, 0, 0] S4x80x1024.size inb_S4x80x1024_S4x80x1024_0_0_0, k0_pay64⟩])) = fun _ => Scalar.ofBits .f32 0x00000000#32 := by
    funext y
    refine (rd_at _ _ _ _ _ _ y (ix3 ⟨2 + (y 0).val, by have := (y 0).isLt; change (y 0).val < 1 at this; omega⟩ ⟨(y 1).val, (y 1).isLt⟩ ⟨(y 2).val, (y 2).isLt⟩ : S4x80x1024.Idx) fun a => ?_).trans ?_
    · match a with
      | 0 => show 2 + (y 0).val = 0 + (2 + (y 0).val); omega
      | 1 => rfl
      | 2 => rfl
    · rfl
  rw [e]
  rfl

set_option maxHeartbeats 4000000 in
theorem sbase3 (f : BufTy.Contents (Elt F) arg15.view.ty) : (shapeCast S256x1024 (arg15.view.readAt (Elt F) (Rect.unit (s := S2x4x256x1024) ![0, 3, 0, 0] S1x1x256x1024.size inb_S2x4x256x1024_S1x1x256x1024_0_3_0_0).toLoadRect (arg15.view.writes (Elt F) f [⟨Rect.unit (s := S2x4x256x1024) ![0, 3, 0, 0] S1x1x256x1024.size inb_S2x4x256x1024_S1x1x256x1024_0_3_0_0, k0_pay80 (View.readAt (Elt F) arg3.view (Rect.unit (s := S1x16x256x256) ![0, 0, 0, 0] S1x1x256x256.size inb_S1x16x256x256_S1x1x256x256_0_0_0_0).toLoadRect (harg3.unread x3)) (pointRun.sl.v135 c arg2 harg2 arg13 x2)⟩, ⟨Rect.unit (s := S2x4x256x1024) ![0, 2, 0, 0] S1x1x256x1024.size inb_S2x4x256x1024_S1x1x256x1024_0_2_0_0, k0_pay77 (View.readAt (Elt F) arg3.view (Rect.unit (s := S1x16x256x256) ![0, 0, 0, 0] S1x1x256x256.size inb_S1x16x256x256_S1x1x256x256_0_0_0_0).toLoadRect (harg3.unread x3)) (pointRun.sl.v126 c arg2 harg2 arg13 x2)⟩, ⟨Rect.unit (s := S2x4x256x1024) ![0, 1, 0, 0] S1x1x256x1024.size inb_S2x4x256x1024_S1x1x256x1024_0_1_0_0, k0_pay74 (View.readAt (Elt F) arg3.view (Rect.unit (s := S1x16x256x256) ![0, 0, 0, 0] S1x1x256x256.size inb_S1x16x256x256_S1x1x256x256_0_0_0_0).toLoadRect (harg3.unread x3)) (pointRun.sl.v117 c arg2 harg2 arg13 x2)⟩, ⟨Rect.unit (s := S2x4x256x1024) ![0, 0, 0, 0] S1x1x256x1024.size inb_S2x4x256x1024_S1x1x256x1024_0_0_0_0, k0_pay71 (pointRun.sl.r_4 c arg3 harg3 x3) (pointRun.sl.v108 c arg2 harg2 arg13 x2)⟩])) shapeCasts_S1x1x256x1024_S256x1024) = scr (kbm x3 x5 0) (qbm x2 6#32 7#32) := by
  rw [rd_hit]
  refine (shapeCast_shapeCast (scr (shapeCast S256x256 (arg3.view.readAt (Elt F) (Rect.unit (s := S1x16x256x256) ![0, 0, 0, 0] S1x1x256x256.size inb_S1x16x256x256_S1x1x256x256_0_0_0_0).toLoadRect (harg3.unread x3)) shapeCasts_S1x1x256x256_S256x256) (pointRun.sl.v135 (F := F) c arg2 harg2 arg13 x2)) _ _).trans ?_
  rw [v135_eq, kread arg3 harg3 x3 x5 0 (by decide) _ _ rfl]

set_option maxHeartbeats 4000000 in
theorem abase3 (f : BufTy.Contents (Elt F) arg14.view.ty) : (shapeCast S80x1024 (arg14.view.readAt (Elt F) (Rect.unit (s := S4x80x1024) ![3, 0, 0] S1x80x1024.size inb_S4x80x1024_S1x80x1024_3_0_0).toLoadRect (arg14.view.writes (Elt F) f (pointRun.sl.H14_1 (F := F)))) shapeCasts_S1x80x1024_S80x1024) = (mo (kbm x3 x5) (vbm x4 x6 240 (by decide)) (qbm x2 6#32 7#32) 0).2 := by
  unfold pointRun.sl.H14_1
  have e : (arg14.view.readAt (Elt F) (Rect.unit (s := S4x80x1024) ![3, 0, 0] S1x80x1024.size inb_S4x80x1024_S1x80x1024_3_0_0).toLoadRect (arg14.view.writes (Elt F) f [⟨Rect.unit (s := S4x80x1024) ![0, 0, 0] S4x80x1024.size inb_S4x80x1024_S4x80x1024_0_0_0, k0_pay64⟩])) = fun _ => Scalar.ofBits .f32 0x00000000#32 := by
    funext y
    refine (rd_at _ _ _ _ _ _ y (ix3 ⟨3 + (y 0).val, by have := (y 0).isLt; change (y 0).val < 1 at this; omega⟩ ⟨(y 1).val, (y 1).isLt⟩ ⟨(y 2).val, (y 2).isLt⟩ : S4x80x1024.Idx) fun a => ?_).trans ?_
    · match a with
      | 0 => show 3 + (y 0).val = 0 + (3 + (y 0).val); omega
      | 1 => rfl
      | 2 => rfl
    · rfl
  rw [e]
  rfl

theorem r_5_eq : (pointRun.sl.r_5 (F := F) c arg2 harg2 arg3 harg3 arg13 x2 x3) = cmx (scr (kbm x3 x5 0) (qbm x2 0#32 1#32)) := by
  unfold pointRun.sl.r_5 pointRun.sl.r_4
  refine (show _ = cmx (scr (shapeCast S256x256 (arg3.view.readAt (Elt F) (Rect.unit (s := S1x16x256x256) ![0, 0, 0, 0] S1x1x256x256.size inb_S1x16x256x256_S1x1x256x256_0_0_0_0).toLoadRect (harg3.unread x3)) shapeCasts_S1x1x256x256_S256x256) (pointRun.sl.v108 (F := F) c arg2 harg2 arg13 x2)) from rfl).trans ?_
  rw [v108_eq, kread arg3 harg3 x3 x5 0 (by decide) _ _ rfl]

theorem r_6_eq : (pointRun.sl.r_6 (F := F) c arg2 harg2 arg3 harg3 arg13 x2 x3) = cmx (scr (kbm x3 x5 0) (qbm x2 2#32 3#32)) := by
  unfold pointRun.sl.r_6
  refine (show _ = cmx (scr (shapeCast S256x256 (arg3.view.readAt (Elt F) (Rect.unit (s := S1x16x256x256) ![0, 0, 0, 0] S1x1x256x256.size inb_S1x16x256x256_S1x1x256x256_0_0_0_0).toLoadRect (harg3.unread x3)) shapeCasts_S1x1x256x256_S256x256) (pointRun.sl.v117 (F := F) c arg2 harg2 arg13 x2)) from rfl).trans ?_
  rw [v117_eq, kread arg3 harg3 x3 x5 0 (by decide) _ _ rfl]

theorem r_7_eq : (pointRun.sl.r_7 (F := F) c arg2 harg2 arg3 harg3 arg13 x2 x3) = cmx (scr (kbm x3 x5 0) (qbm x2 4#32 5#32)) := by
  unfold pointRun.sl.r_7
  refine (show _ = cmx (scr (shapeCast S256x256 (arg3.view.readAt (Elt F) (Rect.unit (s := S1x16x256x256) ![0, 0, 0, 0] S1x1x256x256.size inb_S1x16x256x256_S1x1x256x256_0_0_0_0).toLoadRect (harg3.unread x3)) shapeCasts_S1x1x256x256_S256x256) (pointRun.sl.v126 (F := F) c arg2 harg2 arg13 x2)) from rfl).trans ?_
  rw [v126_eq, kread arg3 harg3 x3 x5 0 (by decide) _ _ rfl]

theorem c3_eq : k0_pay81 (View.readAt (Elt F) arg3.view (Rect.unit (s := S1x16x256x256) ![0, 0, 0, 0] S1x1x256x256.size inb_S1x16x256x256_S1x1x256x256_0_0_0_0).toLoadRect (harg3.unread x3)) (pointRun.sl.v135 c arg2 harg2 arg13 x2) = cmx (scr (kbm x3 x5 0) (qbm x2 6#32 7#32)) := by
  refine (show _ = cmx (scr (shapeCast S256x256 (arg3.view.readAt (Elt F) (Rect.unit (s := S1x16x256x256) ![0, 0, 0, 0] S1x1x256x256.size inb_S1x16x256x256_S1x1x256x256_0_0_0_0).toLoadRect (harg3.unread x3)) shapeCasts_S1x1x256x256_S256x256) (pointRun.sl.v135 (F := F) c arg2 harg2 arg13 x2)) from rfl).trans ?_
  rw [v135_eq, kread arg3 harg3 x3 x5 0 (by decide) _ _ rfl]

set_option maxHeartbeats 4000000 in
theorem init_eq : (k0_pay65, k0_pay66, k0_pay67, k0_pay68, pointRun.sl.r_5 c arg2 harg2 arg3 harg3 arg13 x2 x3, pointRun.sl.r_6 c arg2 harg2 arg3 harg3 arg13 x2 x3, pointRun.sl.r_7 c arg2 harg2 arg3 harg3 arg13 x2 x3, k0_pay81 (View.readAt (Elt F) arg3.view (Rect.unit (s := S1x16x256x256) ![0, 0, 0, 0] S1x1x256x256.size inb_S1x16x256x256_S1x1x256x256_0_0_0_0).toLoadRect (harg3.unread x3)) (pointRun.sl.v135 c arg2 harg2 arg13 x2)) = ((mo (kbm x3 x5) (vbm x4 x6 0 (by decide)) (qbm x2 0#32 1#32) 0).1, (mo (kbm x3 x5) (vbm x4 x6 80 (by decide)) (qbm x2 2#32 3#32) 0).1, (mo (kbm x3 x5) (vbm x4 x6 160 (by decide)) (qbm x2 4#32 5#32) 0).1, (mo (kbm x3 x5) (vbm x4 x6 240 (by decide)) (qbm x2 6#32 7#32) 0).1, cmx (scr (kbm x3 x5 0) (qbm x2 0#32 1#32)), cmx (scr (kbm x3 x5 0) (qbm x2 2#32 3#32)), cmx (scr (kbm x3 x5 0) (qbm x2 4#32 5#32)), cmx (scr (kbm x3 x5 0) (qbm x2 6#32 7#32))) := by
  rw [r_5_eq (x5 := x5), r_6_eq (x5 := x5), r_7_eq (x5 := x5), c3_eq (x5 := x5)]
  rfl

set_option maxHeartbeats 4000000 in
theorem st_final :
    (st_k0_t1 Variants.none c none i arg2 harg2 arg3 harg3 arg4 harg4 arg5 harg5 arg6 harg6 arg7 harg7 arg8 harg8 arg9 harg9 arg10 harg10 arg11 harg11 arg12 harg12 arg13 harg13 arg14 harg14 arg15 harg15 k0_pay65 k0_pay66 k0_pay67 k0_pay68 (pointRun.sl.r_5 c arg2 harg2 arg3 harg3 arg13 x2 x3) (pointRun.sl.r_6 c arg2 harg2 arg3 harg3 arg13 x2 x3) (pointRun.sl.r_7 c arg2 harg2 arg3 harg3 arg13 x2 x3) (harg3.unread x3) (harg4.unread x4) (arg13.view.writes (Elt F) arg13.view.junk (pointRun.sl.H13_8 c arg2 harg2 x2)) (arg14.view.writes (Elt F) arg14.view.junk pointRun.sl.H14_1) (arg15.view.writes (Elt F) (harg15.unread y15) [⟨Rect.unit (s := S2x4x256x1024) ![0, 3, 0, 0] S1x1x256x1024.size inb_S2x4x256x1024_S1x1x256x1024_0_3_0_0, k0_pay80 (View.readAt (Elt F) arg3.view (Rect.unit (s := S1x16x256x256) ![0, 0, 0, 0] S1x1x256x256.size inb_S1x16x256x256_S1x1x256x256_0_0_0_0).toLoadRect (harg3.unread x3)) (pointRun.sl.v135 c arg2 harg2 arg13 x2)⟩, ⟨Rect.unit (s := S2x4x256x1024) ![0, 2, 0, 0] S1x1x256x1024.size inb_S2x4x256x1024_S1x1x256x1024_0_2_0_0, k0_pay77 (View.readAt (Elt F) arg3.view (Rect.unit (s := S1x16x256x256) ![0, 0, 0, 0] S1x1x256x256.size inb_S1x16x256x256_S1x1x256x256_0_0_0_0).toLoadRect (harg3.unread x3)) (pointRun.sl.v126 c arg2 harg2 arg13 x2)⟩, ⟨Rect.unit (s := S2x4x256x1024) ![0, 1, 0, 0] S1x1x256x1024.size inb_S2x4x256x1024_S1x1x256x1024_0_1_0_0, k0_pay74 (View.readAt (Elt F) arg3.view (Rect.unit (s := S1x16x256x256) ![0, 0, 0, 0] S1x1x256x256.size inb_S1x16x256x256_S1x1x256x256_0_0_0_0).toLoadRect (harg3.unread x3)) (pointRun.sl.v117 c arg2 harg2 arg13 x2)⟩, ⟨Rect.unit (s := S2x4x256x1024) ![0, 0, 0, 0] S1x1x256x1024.size inb_S2x4x256x1024_S1x1x256x1024_0_0_0_0, k0_pay71 (pointRun.sl.r_4 c arg3 harg3 x3) (pointRun.sl.v108 c arg2 harg2 arg13 x2)⟩]) (k0_pay65, k0_pay66, k0_pay67, k0_pay68, pointRun.sl.r_5 c arg2 harg2 arg3 harg3 arg13 x2 x3, pointRun.sl.r_6 c arg2 harg2 arg3 harg3 arg13 x2 x3, pointRun.sl.r_7 c arg2 harg2 arg3 harg3 arg13 x2 x3, k0_pay81 (View.readAt (Elt F) arg3.view (Rect.unit (s := S1x16x256x256) ![0, 0, 0, 0] S1x1x256x256.size inb_S1x16x256x256_S1x1x256x256_0_0_0_0).toLoadRect (harg3.unread x3)) (pointRun.sl.v135 c arg2 harg2 arg13 x2)) (Scf.trips k0_t1_loop.lb k0_t1_loop.ub k0_t1_loop.st)).1 = ((mo (kbm x3 x5) (vbm x4 x6 0 (by decide)) (qbm x2 0#32 1#32) 14).1, (mo (kbm x3 x5) (vbm x4 x6 80 (by decide)) (qbm x2 2#32 3#32) 14).1, (mo (kbm x3 x5) (vbm x4 x6 160 (by decide)) (qbm x2 4#32 5#32) 14).1, (mo (kbm x3 x5) (vbm x4 x6 240 (by decide)) (qbm x2 6#32 7#32) 14).1, cmx (scr (kbm x3 x5 14) (qbm x2 0#32 1#32)), cmx (scr (kbm x3 x5 14) (qbm x2 2#32 3#32)), cmx (scr (kbm x3 x5 14) (qbm x2 4#32 5#32)), cmx (scr (kbm x3 x5 14) (qbm x2 6#32 7#32)))
      ∧ (shapeCast S80x1024 (arg14.view.readAt (Elt F) (Rect.unit (s := S4x80x1024) ![0, 0, 0] S1x80x1024.size inb_S4x80x1024_S1x80x1024_0_0_0).toLoadRect (arg14.view.writes (Elt F) (arg14.view.writes (Elt F) arg14.view.junk pointRun.sl.H14_1) (st_k0_t1 Variants.none c none i arg2 harg2 arg3 harg3 arg4 harg4 arg5 harg5 arg6 harg6 arg7 harg7 arg8 harg8 arg9 harg9 arg10 harg10 arg11 harg11 arg12 harg12 arg13 harg13 arg14 harg14 arg15 harg15 k0_pay65 k0_pay66 k0_pay67 k0_pay68 (pointRun.sl.r_5 c arg2 harg2 arg3 harg3 arg13 x2 x3) (pointRun.sl.r_6 c arg2 harg2 arg3 harg3 arg13 x2 x3) (pointRun.sl.r_7 c arg2 harg2 arg3 harg3 arg13 x2 x3) (harg3.unread x3) (harg4.unread x4) (arg13.view.writes (Elt F) arg13.view.junk (pointRun.sl.H13_8 c arg2 harg2 x2)) (arg14.view.writes (Elt F) arg14.view.junk pointRun.sl.H14_1) (arg15.view.writes (Elt F) (harg15.unread y15) [⟨Rect.unit (s := S2x4x256x1024) ![0, 3, 0, 0] S1x1x256x1024.size inb_S2x4x256x1024_S1x1x256x1024_0_3_0_0, k0_pay80 (View.readAt (Elt F) arg3.view (Rect.unit (s := S1x16x256x256) ![0, 0, 0, 0] S1x1x256x256.size inb_S1x16x256x256_S1x1x256x256_0_0_0_0).toLoadRect (harg3.unread x3)) (pointRun.sl.v135 c arg2 harg2 arg13 x2)⟩, ⟨Rect.unit (s := S2x4x256x1024) ![0, 2, 0, 0] S1x1x256x1024.size inb_S2x4x256x1024_S1x1x256x1024_0_2_0_0, k0_pay77 (View.readAt (Elt F) arg3.view (Rect.unit (s := S1x16x256x256) ![0, 0, 0, 0] S1x1x256x256.size inb_S1x16x256x256_S1x1x256x256_0_0_0_0).toLoadRect (harg3.unread x3)) (pointRun.sl.v126 c arg2 harg2 arg13 x2)⟩, ⟨Rect.unit (s := S2x4x256x1024) ![0, 1, 0, 0] S1x1x256x1024.size inb_S2x4x256x1024_S1x1x256x1024_0_1_0_0, k0_pay74 (View.readAt (Elt F) arg3.view (Rect.unit (s := S1x16x256x256) ![0, 0, 0, 0] S1x1x256x256.size inb_S1x16x256x256_S1x1x256x256_0_0_0_0).toLoadRect (harg3.unread x3)) (pointRun.sl.v117 c arg2 harg2 arg13 x2)⟩, ⟨Rect.unit (s := S2x4x256x1024) ![0, 0, 0, 0] S1x1x256x1024.size inb_S2x4x256x1024_S1x1x256x1024_0_0_0_0, k0_pay71 (pointRun.sl.r_4 c arg3 harg3 x3) (pointRun.sl.v108 c arg2 harg2 arg13 x2)⟩]) (k0_pay65, k0_pay66, k0_pay67, k0_pay68, pointRun.sl.r_5 c arg2 harg2 arg3 harg3 arg13 x2 x3, pointRun.sl.r_6 c arg2 harg2 arg3 harg3 arg13 x2 x3, pointRun.sl.r_7 c arg2 harg2 arg3 harg3 arg13 x2 x3, k0_pay81 (View.readAt (Elt F) arg3.view (Rect.unit (s := S1x16x256x256) ![0, 0, 0, 0] S1x1x256x256.size inb_S1x16x256x256_S1x1x256x256_0_0_0_0).toLoadRect (harg3.unread x3)) (pointRun.sl.v135 c arg2 harg2 arg13 x2)) (Scf.trips k0_t1_loop.lb k0_t1_loop.ub k0_t1_loop.st)).2.1)) shapeCasts_S1x80x1024_S80x1024) = (mo (kbm x3 x5) (vbm x4 x6 0 (by decide)) (qbm x2 0#32 1#32) 14).2
      ∧ (shapeCast S80x1024 (arg14.view.readAt (Elt F) (Rect.unit (s := S4x80x1024) ![1, 0, 0] S1x80x1024.size inb_S4x80x1024_S1x80x1024_1_0_0).toLoadRect (arg14.view.writes (Elt F) (arg14.view.writes (Elt F) arg14.view.junk pointRun.sl.H14_1) (st_k0_t1 Variants.none c none i arg2 harg2 arg3 harg3 arg4 harg4 arg5 harg5 arg6 harg6 arg7 harg7 arg8 harg8 arg9 harg9 arg10 harg10 arg11 harg11 arg12 harg12 arg13 harg13 arg14 harg14 arg15 harg15 k0_pay65 k0_pay66 k0_pay67 k0_pay68 (pointRun.sl.r_5 c arg2 harg2 arg3 harg3 arg13 x2 x3) (pointRun.sl.r_6 c arg2 harg2 arg3 harg3 arg13 x2 x3) (pointRun.sl.r_7 c arg2 harg2 arg3 harg3 arg13 x2 x3) (harg3.unread x3) (harg4.unread x4) (arg13.view.writes (Elt F) arg13.view.junk (pointRun.sl.H13_8 c arg2 harg2 x2)) (arg14.view.writes (Elt F) arg14.view.junk pointRun.sl.H14_1) (arg15.view.writes (Elt F) (harg15.unread y15) [⟨Rect.unit (s := S2x4x256x1024) ![0, 3, 0, 0] S1x1x256x1024.size inb_S2x4x256x1024_S1x1x256x1024_0_3_0_0, k0_pay80 (View.readAt (Elt F) arg3.view (Rect.unit (s := S1x16x256x256) ![0, 0, 0, 0] S1x1x256x256.size inb_S1x16x256x256_S1x1x256x256_0_0_0_0).toLoadRect (harg3.unread x3)) (pointRun.sl.v135 c arg2 harg2 arg13 x2)⟩, ⟨Rect.unit (s := S2x4x256x1024) ![0, 2, 0, 0] S1x1x256x1024.size inb_S2x4x256x1024_S1x1x256x1024_0_2_0_0, k0_pay77 (View.readAt (Elt F) arg3.view (Rect.unit (s := S1x16x256x256) ![0, 0, 0, 0] S1x1x256x256.size inb_S1x16x256x256_S1x1x256x256_0_0_0_0).toLoadRect (harg3.unread x3)) (pointRun.sl.v126 c arg2 harg2 arg13 x2)⟩, ⟨Rect.unit (s := S2x4x256x1024) ![0, 1, 0, 0] S1x1x256x1024.size inb_S2x4x256x1024_S1x1x256x1024_0_1_0_0, k0_pay74 (View.readAt (Elt F) arg3.view (Rect.unit (s := S1x16x256x256) ![0, 0, 0, 0] S1x1x256x256.size inb_S1x16x256x256_S1x1x256x256_0_0_0_0).toLoadRect (harg3.unread x3)) (pointRun.sl.v117 c arg2 harg2 arg13 x2)⟩, ⟨Rect.unit (s := S2x4x256x1024) ![0, 0, 0, 0] S1x1x256x1024.size inb_S2x4x256x1024_S1x1x256x1024_0_0_0_0, k0_pay71 (pointRun.sl.r_4 c arg3 harg3 x3) (pointRun.sl.v108 c arg2 harg2 arg13 x2)⟩]) (k0_pay65, k0_pay66, k0_pay67, k0_pay68, pointRun.sl.r_5 c arg2 harg2 arg3 harg3 arg13 x2 x3, pointRun.sl.r_6 c arg2 harg2 arg3 harg3 arg13 x2 x3, pointRun.sl.r_7 c arg2 harg2 arg3 harg3 arg13 x2 x3, k0_pay81 (View.readAt (Elt F) arg3.view (Rect.unit (s := S1x16x256x256) ![0, 0, 0, 0] S1x1x256x256.size inb_S1x16x256x256_S1x1x256x256_0_0_0_0).toLoadRect (harg3.unread x3)) (pointRun.sl.v135 c arg2 harg2 arg13 x2)) (Scf.trips k0_t1_loop.lb k0_t1_loop.ub k0_t1_loop.st)).2.1)) shapeCasts_S1x80x1024_S80x1024) = (mo (kbm x3 x5) (vbm x4 x6 80 (by decide)) (qbm x2 2#32 3#32) 14).2
      ∧ (shapeCast S80x1024 (arg14.view.readAt (Elt F) (Rect.unit (s := S4x80x1024) ![2, 0, 0] S1x80x1024.size inb_S4x80x1024_S1x80x1024_2_0_0).toLoadRect (arg14.view.writes (Elt F) (arg14.view.writes (Elt F) arg14.view.junk pointRun.sl.H14_1) (st_k0_t1 Variants.none c none i arg2 harg2 arg3 harg3 arg4 harg4 arg5 harg5 arg6 harg6 arg7 harg7 arg8 harg8 arg9 harg9 arg10 harg10 arg11 harg11 arg12 harg12 arg13 harg13 arg14 harg14 arg15 harg15 k0_pay65 k0_pay66 k0_pay67 k0_pay68 (pointRun.sl.r_5 c arg2 harg2 arg3 harg3 arg13 x2 x3) (pointRun.sl.r_6 c arg2 harg2 arg3 harg3 arg13 x2 x3) (pointRun.sl.r_7 c arg2 harg2 arg3 harg3 arg13 x2 x3) (harg3.unread x3) (harg4.unread x4) (arg13.view.writes (Elt F) arg13.view.junk (pointRun.sl.H13_8 c arg2 harg2 x2)) (arg14.view.writes (Elt F) arg14.view.junk pointRun.sl.H14_1) (arg15.view.writes (Elt F) (harg15.unread y15) [⟨Rect.unit (s := S2x4x256x1024) ![0, 3, 0, 0] S1x1x256x1024.size inb_S2x4x256x1024_S1x1x256x1024_0_3_0_0, k0_pay80 (View.readAt (Elt F) arg3.view (Rect.unit (s := S1x16x256x256) ![0, 0, 0, 0] S1x1x256x256.size inb_S1x16x256x256_S1x1x256x256_0_0_0_0).toLoadRect (harg3.unread x3)) (pointRun.sl.v135 c arg2 harg2 arg13 x2)⟩, ⟨Rect.unit (s := S2x4x256x1024) ![0, 2, 0, 0] S1x1x256x1024.size inb_S2x4x256x1024_S1x1x256x1024_0_2_0_0, k0_pay77 (View.readAt (Elt F) arg3.view (Rect.unit (s := S1x16x256x256) ![0, 0, 0, 0] S1x1x256x256.size inb_S1x16x256x256_S1x1x256x256_0_0_0_0).toLoadRect (harg3.unread x3)) (pointRun.sl.v126 c arg2 harg2 arg13 x2)⟩, ⟨Rect.unit (s := S2x4x256x1024) ![0, 1, 0, 0] S1x1x256x1024.size inb_S2x4x256x1024_S1x1x256x1024_0_1_0_0, k0_pay74 (View.readAt (Elt F) arg3.view (Rect.unit (s := S1x16x256x256) ![0, 0, 0, 0] S1x1x256x256.size inb_S1x16x256x256_S1x1x256x256_0_0_0_0).toLoadRect (harg3.unread x3)) (pointRun.sl.v117 c arg2 harg2 arg13 x2)⟩, ⟨Rect.unit (s := S2x4x256x1024) ![0, 0, 0, 0] S1x1x256x1024.size inb_S2x4x256x1024_S1x1x256x1024_0_0_0_0, k0_pay71 (pointRun.sl.r_4 c arg3 harg3 x3) (pointRun.sl.v108 c arg2 harg2 arg13 x2)⟩]) (k0_pay65, k0_pay66, k0_pay67, k0_pay68, pointRun.sl.r_5 c arg2 harg2 arg3 harg3 arg13 x2 x3, pointRun.sl.r_6 c arg2 harg2 arg3 harg3 arg13 x2 x3, pointRun.sl.r_7 c arg2 harg2 arg3 harg3 arg13 x2 x3, k0_pay81 (View.readAt (Elt F) arg3.view (Rect.unit (s := S1x16x256x256) ![0, 0, 0, 0] S1x1x256x256.size inb_S1x16x256x256_S1x1x256x256_0_0_0_0).toLoadRect (harg3.unread x3)) (pointRun.sl.v135 c arg2 harg2 arg13 x2)) (Scf.trips k0_t1_loop.lb k0_t1_loop.ub k0_t1_loop.st)).2.1)) shapeCasts_S1x80x1024_S80x1024) = (mo (kbm x3 x5) (vbm x4 x6 160 (by decide)) (qbm x2 4#32 5#32) 14).2
      ∧ (shapeCast S80x1024 (arg14.view.readAt (Elt F) (Rect.unit (s := S4x80x1024) ![3, 0, 0] S1x80x1024.size inb_S4x80x1024_S1x80x1024_3_0_0).toLoadRect (arg14.view.writes (Elt F) (arg14.view.writes (Elt F) arg14.view.junk pointRun.sl.H14_1) (st_k0_t1 Variants.none c none i arg2 harg2 arg3 harg3 arg4 harg4 arg5 harg5 arg6 harg6 arg7 harg7 arg8 harg8 arg9 harg9 arg10 harg10 arg11 harg11 arg12 harg12 arg13 harg13 arg14 harg14 arg15 harg15 k0_pay65 k0_pay66 k0_pay67 k0_pay68 (pointRun.sl.r_5 c arg2 harg2 arg3 harg3 arg13 x2 x3) (pointRun.sl.r_6 c arg2 harg2 arg3 harg3 arg13 x2 x3) (pointRun.sl.r_7 c arg2 harg2 arg3 harg3 arg13 x2 x3) (harg3.unread x3) (harg4.unread x4) (arg13.view.writes (Elt F) arg13.view.junk (pointRun.sl.H13_8 c arg2 harg2 x2)) (arg14.view.writes (Elt F) arg14.view.junk pointRun.sl.H14_1) (arg15.view.writes (Elt F) (harg15.unread y15) [⟨Rect.unit (s := S2x4x256x1024) ![0, 3, 0, 0] S1x1x256x1024.size inb_S2x4x256x1024_S1x1x256x1024_0_3_0_0, k0_pay80 (View.readAt (Elt F) arg3.view (Rect.unit (s := S1x16x256x256) ![0, 0, 0, 0] S1x1x256x256.size inb_S1x16x256x256_S1x1x256x256_0_0_0_0).toLoadRect (harg3.unread x3)) (pointRun.sl.v135 c arg2 harg2 arg13 x2)⟩, ⟨Rect.unit (s := S2x4x256x1024) ![0, 2, 0, 0] S1x1x256x1024.size inb_S2x4x256x1024_S1x1x256x1024_0_2_0_0, k0_pay77 (View.readAt (Elt F) arg3.view (Rect.unit (s := S1x16x256x256) ![0, 0, 0, 0] S1x1x256x256.size inb_S1x16x256x256_S1x1x256x256_0_0_0_0).toLoadRect (harg3.unread x3)) (pointRun.sl.v126 c arg2 harg2 arg13 x2)⟩, ⟨Rect.unit (s := S2x4x256x1024) ![0, 1, 0, 0] S1x1x256x1024.size inb_S2x4x256x1024_S1x1x256x1024_0_1_0_0, k0_pay74 (View.readAt (Elt F) arg3.view (Rect.unit (s := S1x16x256x256) ![0, 0, 0, 0] S1x1x256x256.size inb_S1x16x256x256_S1x1x256x256_0_0_0_0).toLoadRect (harg3.unread x3)) (pointRun.sl.v117 c arg2 harg2 arg13 x2)⟩, ⟨Rect.unit (s := S2x4x256x1024) ![0, 0, 0, 0] S1x1x256x1024.size inb_S2x4x256x1024_S1x1x256x1024_0_0_0_0, k0_pay71 (pointRun.sl.r_4 c arg3 harg3 x3) (pointRun.sl.v108 c arg2 harg2 arg13 x2)⟩]) (k0_pay65, k0_pay66, k0_pay67, k0_pay68, pointRun.sl.r_5 c arg2 harg2 arg3 harg3 arg13 x2 x3, pointRun.sl.r_6 c arg2 harg2 arg3 harg3 arg13 x2 x3, pointRun.sl.r_7 c arg2 harg2 arg3 harg3 arg13 x2 x3, k0_pay81 (View.readAt (Elt F) arg3.view (Rect.unit (s := S1x16x256x256) ![0, 0, 0, 0] S1x1x256x256.size inb_S1x16x256x256_S1x1x256x256_0_0_0_0).toLoadRect (harg3.unread x3)) (pointRun.sl.v135 c arg2 harg2 arg13 x2)) (Scf.trips k0_t1_loop.lb k0_t1_loop.ub k0_t1_loop.st)).2.1)) shapeCasts_S1x80x1024_S80x1024) = (mo (kbm x3 x5) (vbm x4 x6 240 (by decide)) (qbm x2 6#32 7#32) 14).2
      ∧ (∀ f : BufTy.Contents (Elt F) arg15.view.ty, (shapeCast S256x1024 (arg15.view.readAt (Elt F) (Rect.unit (s := S2x4x256x1024) ![0, 0, 0, 0] S1x1x256x1024.size inb_S2x4x256x1024_S1x1x256x1024_0_0_0_0).toLoadRect f) shapeCasts_S1x1x256x1024_S256x1024) = scr (kbm x3 x5 0) (qbm x2 0#32 1#32) → (shapeCast S256x1024 (arg15.view.readAt (Elt F) (Rect.unit (s := S2x4x256x1024) ![0, 0, 0, 0] S1x1x256x1024.size inb_S2x4x256x1024_S1x1x256x1024_0_0_0_0).toLoadRect (arg15.view.writes (Elt F) f (st_k0_t1 Variants.none c none i arg2 harg2 arg3 harg3 arg4 harg4 arg5 harg5 arg6 harg6 arg7 harg7 arg8 harg8 arg9 harg9 arg10 harg10 arg11 harg11 arg12 harg12 arg13 harg13 arg14 harg14 arg15 harg15 k0_pay65 k0_pay66 k0_pay67 k0_pay68 (pointRun.sl.r_5 c arg2 harg2 arg3 harg3 arg13 x2 x3) (pointRun.sl.r_6 c arg2 harg2 arg3 harg3 arg13 x2 x3) (pointRun.sl.r_7 c arg2 harg2 arg3 harg3 arg13 x2 x3) (harg3.unread x3) (harg4.unread x4) (arg13.view.writes (Elt F) arg13.view.junk (pointRun.sl.H13_8 c arg2 harg2 x2)) (arg14.view.writes (Elt F) arg14.view.junk pointRun.sl.H14_1) (arg15.view.writes (Elt F) (harg15.unread y15) [⟨Rect.unit (s := S2x4x256x1024) ![0, 3, 0, 0] S1x1x256x1024.size inb_S2x4x256x1024_S1x1x256x1024_0_3_0_0, k0_pay80 (View.readAt (Elt F) arg3.view (Rect.unit (s := S1x16x256x256) ![0, 0, 0, 0] S1x1x256x256.size inb_S1x16x256x256_S1x1x256x256_0_0_0_0).toLoadRect (harg3.unread x3)) (pointRun.sl.v135 c arg2 harg2 arg13 x2)⟩, ⟨Rect.unit (s := S2x4x256x1024) ![0, 2, 0, 0] S1x1x256x1024.size inb_S2x4x256x1024_S1x1x256x1024_0_2_0_0, k0_pay77 (View.readAt (Elt F) arg3.view (Rect.unit (s := S1x16x256x256) ![0, 0, 0, 0] S1x1x256x256.size inb_S1x16x256x256_S1x1x256x256_0_0_0_0).toLoadRect (harg3.unread x3)) (pointRun.sl.v126 c arg2 harg2 arg13 x2)⟩, ⟨Rect.unit (s := S2x4x256x1024) ![0, 1, 0, 0] S1x1x256x1024.size inb_S2x4x256x1024_S1x1x256x1024_0_1_0_0, k0_pay74 (View.readAt (Elt F) arg3.view (Rect.unit (s := S1x16x256x256) ![0, 0, 0, 0] S1x1x256x256.size inb_S1x16x256x256_S1x1x256x256_0_0_0_0).toLoadRect (harg3.unread x3)) (pointRun.sl.v117 c arg2 harg2 arg13 x2)⟩, ⟨Rect.unit (s := S2x4x256x1024) ![0, 0, 0, 0] S1x1x256x1024.size inb_S2x4x256x1024_S1x1x256x1024_0_0_0_0, k0_pay71 (pointRun.sl.r_4 c arg3 harg3 x3) (pointRun.sl.v108 c arg2 harg2 arg13 x2)⟩]) (k0_pay65, k0_pay66, k0_pay67, k0_pay68, pointRun.sl.r_5 c arg2 harg2 arg3 harg3 arg13 x2 x3, pointRun.sl.r_6 c arg2 harg2 arg3 harg3 arg13 x2 x3, pointRun.sl.r_7 c arg2 harg2 arg3 harg3 arg13 x2 x3, k0_pay81 (View.readAt (Elt F) arg3.view (Rect.unit (s := S1x16x256x256) ![0, 0, 0, 0] S1x1x256x256.size inb_S1x16x256x256_S1x1x256x256_0_0_0_0).toLoadRect (harg3.unread x3)) (pointRun.sl.v135 c arg2 harg2 arg13 x2)) (Scf.trips k0_t1_loop.lb k0_t1_loop.ub k0_t1_loop.st)).2.2)) shapeCasts_S1x1x256x1024_S256x1024) = scr (kbm x3 x5 14) (qbm x2 0#32 1#32))
      ∧ (∀ f : BufTy.Contents (Elt F) arg15.view.ty, (shapeCast S256x1024 (arg15.view.readAt (Elt F) (Rect.unit (s := S2x4x256x1024) ![0, 1, 0, 0] S1x1x256x1024.size inb_S2x4x256x1024_S1x1x256x1024_0_1_0_0).toLoadRect f) shapeCasts_S1x1x256x1024_S256x1024) = scr (kbm x3 x5 0) (qbm x2 2#32 3#32) → (shapeCast S256x1024 (arg15.view.readAt (Elt F) (Rect.unit (s := S2x4x256x1024) ![0, 1, 0, 0] S1x1x256x1024.size inb_S2x4x256x1024_S1x1x256x1024_0_1_0_0).toLoadRect (arg15.view.writes (Elt F) f (st_k0_t1 Variants.none c none i arg2 harg2 arg3 harg3 arg4 harg4 arg5 harg5 arg6 harg6 arg7 harg7 arg8 harg8 arg9 harg9 arg10 harg10 arg11 harg11 arg12 harg12 arg13 harg13 arg14 harg14 arg15 harg15 k0_pay65 k0_pay66 k0_pay67 k0_pay68 (pointRun.sl.r_5 c arg2 harg2 arg3 harg3 arg13 x2 x3) (pointRun.sl.r_6 c arg2 harg2 arg3 harg3 arg13 x2 x3) (pointRun.sl.r_7 c arg2 harg2 arg3 harg3 arg13 x2 x3) (harg3.unread x3) (harg4.unread x4) (arg13.view.writes (Elt F) arg13.view.junk (pointRun.sl.H13_8 c arg2 harg2 x2)) (arg14.view.writes (Elt F) arg14.view.junk pointRun.sl.H14_1) (arg15.view.writes (Elt F) (harg15.unread y15) [⟨Rect.unit (s := S2x4x256x1024) ![0, 3, 0, 0] S1x1x256x1024.size inb_S2x4x256x1024_S1x1x256x1024_0_3_0_0, k0_pay80 (View.readAt (Elt F) arg3.view (Rect.unit (s := S1x16x256x256) ![0, 0, 0, 0] S1x1x256x256.size inb_S1x16x256x256_S1x1x256x256_0_0_0_0).toLoadRect (harg3.unread x3)) (pointRun.sl.v135 c arg2 harg2 arg13 x2)⟩, ⟨Rect.unit (s := S2x4x256x1024) ![0, 2, 0, 0] S1x1x256x1024.size inb_S2x4x256x1024_S1x1x256x1024_0_2_0_0, k0_pay77 (View.readAt (Elt F) arg3.view (Rect.unit (s := S1x16x256x256) ![0, 0, 0, 0] S1x1x256x256.size inb_S1x16x256x256_S1x1x256x256_0_0_0_0).toLoadRect (harg3.unread x3)) (pointRun.sl.v126 c arg2 harg2 arg13 x2)⟩, ⟨Rect.unit (s := S2x4x256x1024) ![0, 1, 0, 0] S1x1x256x1024.size inb_S2x4x256x1024_S1x1x256x1024_0_1_0_0, k0_pay74 (View.readAt (Elt F) arg3.view (Rect.unit (s := S1x16x256x256) ![0, 0, 0, 0] S1x1x256x256.size inb_S1x16x256x256_S1x1x256x256_0_0_0_0).toLoadRect (harg3.unread x3)) (pointRun.sl.v117 c arg2 harg2 arg13 x2)⟩, ⟨Rect.unit (s := S2x4x256x1024) ![0, 0, 0, 0] S1x1x256x1024.size inb_S2x4x256x1024_S1x1x256x1024_0_0_0_0, k0_pay71 (pointRun.sl.r_4 c arg3 harg3 x3) (pointRun.sl.v108 c arg2 harg2 arg13 x2)⟩]) (k0_pay65, k0_pay66, k0_pay67, k0_pay68, pointRun.sl.r_5 c arg2 harg2 arg3 harg3 arg13 x2 x3, pointRun.sl.r_6 c arg2 harg2 arg3 harg3 arg13 x2 x3, pointRun.sl.r_7 c arg2 harg2 arg3 harg3 arg13 x2 x3, k0_pay81 (View.readAt (Elt F) arg3.view (Rect.unit (s := S1x16x256x256) ![0, 0, 0, 0] S1x1x256x256.size inb_S1x16x256x256_S1x1x256x256_0_0_0_0).toLoadRect (harg3.unread x3)) (pointRun.sl.v135 c arg2 harg2 arg13 x2)) (Scf.trips k0_t1_loop.lb k0_t1_loop.ub k0_t1_loop.st)).2.2)) shapeCasts_S1x1x256x1024_S256x1024) = scr (kbm x3 x5 14) (qbm x2 2#32 3#32))
      ∧ (∀ f : BufTy.Contents (Elt F) arg15.view.ty, (shapeCast S256x1024 (arg15.view.readAt (Elt F) (Rect.unit (s := S2x4x256x1024) ![0, 2, 0, 0] S1x1x256x1024.size inb_S2x4x256x1024_S1x1x256x1024_0_2_0_0).toLoadRect f) shapeCasts_S1x1x256x1024_S256x1024) = scr (kbm x3 x5 0) (qbm x2 4#32 5#32) → (shapeCast S256x1024 (arg15.view.readAt (Elt F) (Rect.unit (s := S2x4x256x1024) ![0, 2, 0, 0] S1x1x256x1024.size inb_S2x4x256x1024_S1x1x256x1024_0_2_0_0).toLoadRect (arg15.view.writes (Elt F) f (st_k0_t1 Variants.none c none i arg2 harg2 arg3 harg3 arg4 harg4 arg5 harg5 arg6 harg6 arg7 harg7 arg8 harg8 arg9 harg9 arg10 harg10 arg11 harg11 arg12 harg12 arg13 harg13 arg14 harg14 arg15 harg15 k0_pay65 k0_pay66 k0_pay67 k0_pay68 (pointRun.sl.r_5 c arg2 harg2 arg3 harg3 arg13 x2 x3) (pointRun.sl.r_6 c arg2 harg2 arg3 harg3 arg13 x2 x3) (pointRun.sl.r_7 c arg2 harg2 arg3 harg3 arg13 x2 x3) (harg3.unread x3) (harg4.unread x4) (arg13.view.writes (Elt F) arg13.view.junk (pointRun.sl.H13_8 c arg2 harg2 x2)) (arg14.view.writes (Elt F) arg14.view.junk pointRun.sl.H14_1) (arg15.view.writes (Elt F) (harg15.unread y15) [⟨Rect.unit (s := S2x4x256x1024) ![0, 3, 0, 0] S1x1x256x1024.size inb_S2x4x256x1024_S1x1x256x1024_0_3_0_0, k0_pay80 (View.readAt (Elt F) arg3.view (Rect.unit (s := S1x16x256x256) ![0, 0, 0, 0] S1x1x256x256.size inb_S1x16x256x256_S1x1x256x256_0_0_0_0).toLoadRect (harg3.unread x3)) (pointRun.sl.v135 c arg2 harg2 arg13 x2)⟩, ⟨Rect.unit (s := S2x4x256x1024) ![0, 2, 0, 0] S1x1x256x1024.size inb_S2x4x256x1024_S1x1x256x1024_0_2_0_0, k0_pay77 (View.readAt (Elt F) arg3.view (Rect.unit (s := S1x16x256x256) ![0, 0, 0, 0] S1x1x256x256.size inb_S1x16x256x256_S1x1x256x256_0_0_0_0).toLoadRect (harg3.unread x3)) (pointRun.sl.v126 c arg2 harg2 arg13 x2)⟩, ⟨Rect.unit (s := S2x4x256x1024) ![0, 1, 0, 0] S1x1x256x1024.size inb_S2x4x256x1024_S1x1x256x1024_0_1_0_0, k0_pay74 (View.readAt (Elt F) arg3.view (Rect.unit (s := S1x16x256x256) ![0, 0, 0, 0] S1x1x256x256.size inb_S1x16x256x256_S1x1x256x256_0_0_0_0).toLoadRect (harg3.unread x3)) (pointRun.sl.v117 c arg2 harg2 arg13 x2)⟩, ⟨Rect.unit (s := S2x4x256x1024) ![0, 0, 0, 0] S1x1x256x1024.size inb_S2x4x256x1024_S1x1x256x1024_0_0_0_0, k0_pay71 (pointRun.sl.r_4 c arg3 harg3 x3) (pointRun.sl.v108 c arg2 harg2 arg13 x2)⟩]) (k0_pay65, k0_pay66, k0_pay67, k0_pay68, pointRun.sl.r_5 c arg2 harg2 arg3 harg3 arg13 x2 x3, pointRun.sl.r_6 c arg2 harg2 arg3 harg3 arg13 x2 x3, pointRun.sl.r_7 c arg2 harg2 arg3 harg3 arg13 x2 x3, k0_pay81 (View.readAt (Elt F) arg3.view (Rect.unit (s := S1x16x256x256) ![0, 0, 0, 0] S1x1x256x256.size inb_S1x16x256x256_S1x1x256x256_0_0_0_0).toLoadRect (harg3.unread x3)) (pointRun.sl.v135 c arg2 harg2 arg13 x2)) (Scf.trips k0_t1_loop.lb k0_t1_loop.ub k0_t1_loop.st)).2.2)) shapeCasts_S1x1x256x1024_S256x1024) = scr (kbm x3 x5 14) (qbm x2 4#32 5#32))
      ∧ (∀ f : BufTy.Contents (Elt F) arg15.view.ty, (shapeCast S256x1024 (arg15.view.readAt (Elt F) (Rect.unit (s := S2x4x256x1024) ![0, 3, 0, 0] S1x1x256x1024.size inb_S2x4x256x1024_S1x1x256x1024_0_3_0_0).toLoadRect f) shapeCasts_S1x1x256x1024_S256x1024) = scr (kbm x3 x5 0) (qbm x2 6#32 7#32) → (shapeCast S256x1024 (arg15.view.readAt (Elt F) (Rect.unit (s := S2x4x256x1024) ![0, 3, 0, 0] S1x1x256x1024.size inb_S2x4x256x1024_S1x1x256x1024_0_3_0_0).toLoadRect (arg15.view.writes (Elt F) f (st_k0_t1 Variants.none c none i arg2 harg2 arg3 harg3 arg4 harg4 arg5 harg5 arg6 harg6 arg7 harg7 arg8 harg8 arg9 harg9 arg10 harg10 arg11 harg11 arg12 harg12 arg13 harg13 arg14 harg14 arg15 harg15 k0_pay65 k0_pay66 k0_pay67 k0_pay68 (pointRun.sl.r_5 c arg2 harg2 arg3 harg3 arg13 x2 x3) (pointRun.sl.r_6 c arg2 harg2 arg3 harg3 arg13 x2 x3) (pointRun.sl.r_7 c arg2 harg2 arg3 harg3 arg13 x2 x3) (harg3.unread x3) (harg4.unread x4) (arg13.view.writes (Elt F) arg13.view.junk (pointRun.sl.H13_8 c arg2 harg2 x2)) (arg14.view.writes (Elt F) arg14.view.junk pointRun.sl.H14_1) (arg15.view.writes (Elt F) (harg15.unread y15) [⟨Rect.unit (s := S2x4x256x1024) ![0, 3, 0, 0] S1x1x256x1024.size inb_S2x4x256x1024_S1x1x256x1024_0_3_0_0, k0_pay80 (View.readAt (Elt F) arg3.view (Rect.unit (s := S1x16x256x256) ![0, 0, 0, 0] S1x1x256x256.size inb_S1x16x256x256_S1x1x256x256_0_0_0_0).toLoadRect (harg3.unread x3)) (pointRun.sl.v135 c arg2 harg2 arg13 x2)⟩, ⟨Rect.unit (s := S2x4x256x1024) ![0, 2, 0, 0] S1x1x256x1024.size inb_S2x4x256x1024_S1x1x256x1024_0_2_0_0, k0_pay77 (View.readAt (Elt F) arg3.view (Rect.unit (s := S1x16x256x256) ![0, 0, 0, 0] S1x1x256x256.size inb_S1x16x256x256_S1x1x256x256_0_0_0_0).toLoadRect (harg3.unread x3)) (pointRun.sl.v126 c arg2 harg2 arg13 x2)⟩, ⟨Rect.unit (s := S2x4x256x1024) ![0, 1, 0, 0] S1x1x256x1024.size inb_S2x4x256x1024_S1x1x256x1024_0_1_0_0, k0_pay74 (View.readAt (Elt F) arg3.view (Rect.unit (s := S1x16x256x256) ![0, 0, 0, 0] S1x1x256x256.size inb_S1x16x256x256_S1x1x256x256_0_0_0_0).toLoadRect (harg3.unread x3)) (pointRun.sl.v117 c arg2 harg2 arg13 x2)⟩, ⟨Rect.unit (s := S2x4x256x1024) ![0, 0, 0, 0] S1x1x256x1024.size inb_S2x4x256x1024_S1x1x256x1024_0_0_0_0, k0_pay71 (pointRun.sl.r_4 c arg3 harg3 x3) (pointRun.sl.v108 c arg2 harg2 arg13 x2)⟩]) (k0_pay65, k0_pay66, k0_pay67, k0_pay68, pointRun.sl.r_5 c arg2 harg2 arg3 harg3 arg13 x2 x3, pointRun.sl.r_6 c arg2 harg2 arg3 harg3 arg13 x2 x3, pointRun.sl.r_7 c arg2 harg2 arg3 harg3 arg13 x2 x3, k0_pay81 (View.readAt (Elt F) arg3.view (Rect.unit (s := S1x16x256x256) ![0, 0, 0, 0] S1x1x256x256.size inb_S1x16x256x256_S1x1x256x256_0_0_0_0).toLoadRect (harg3.unread x3)) (pointRun.sl.v135 c arg2 harg2 arg13 x2)) (Scf.trips k0_t1_loop.lb k0_t1_loop.ub k0_t1_loop.st)).2.2)) shapeCasts_S1x1x256x1024_S256x1024) = scr (kbm x3 x5 14) (qbm x2 6#32 7#32)) := by
  have h := loop_inv Variants.none c none i arg2 harg2 arg3 harg3 arg4 harg4 arg5 harg5 arg6 harg6 arg7 harg7 arg8 harg8 arg9 harg9 arg10 harg10 arg11 harg11 arg12 harg12 arg13 harg13 arg14 harg14 arg15 harg15 k0_pay65 k0_pay66 k0_pay67 k0_pay68 (pointRun.sl.r_5 c arg2 harg2 arg3 harg3 arg13 x2 x3) (pointRun.sl.r_6 c arg2 harg2 arg3 harg3 arg13 x2 x3) (pointRun.sl.r_7 c arg2 harg2 arg3 harg3 arg13 x2 x3) (harg3.unread x3) (harg4.unread x4) (arg13.view.writes (Elt F) arg13.view.junk (pointRun.sl.H13_8 c arg2 harg2 x2)) (arg14.view.writes (Elt F) arg14.view.junk pointRun.sl.H14_1) (arg15.view.writes (Elt F) (harg15.unread y15) [⟨Rect.unit (s := S2x4x256x1024) ![0, 3, 0, 0] S1x1x256x1024.size inb_S2x4x256x1024_S1x1x256x1024_0_3_0_0, k0_pay80 (View.readAt (Elt F) arg3.view (Rect.unit (s := S1x16x256x256) ![0, 0, 0, 0] S1x1x256x256.size inb_S1x16x256x256_S1x1x256x256_0_0_0_0).toLoadRect (harg3.unread x3)) (pointRun.sl.v135 c arg2 harg2 arg13 x2)⟩, ⟨Rect.unit (s := S2x4x256x1024) ![0, 2, 0, 0] S1x1x256x1024.size inb_S2x4x256x1024_S1x1x256x1024_0_2_0_0, k0_pay77 (View.readAt (Elt F) arg3.view (Rect.unit (s := S1x16x256x256) ![0, 0, 0, 0] S1x1x256x256.size inb_S1x16x256x256_S1x1x256x256_0_0_0_0).toLoadRect (harg3.unread x3)) (pointRun.sl.v126 c arg2 harg2 arg13 x2)⟩, ⟨Rect.unit (s := S2x4x256x1024) ![0, 1, 0, 0] S1x1x256x1024.size inb_S2x4x256x1024_S1x1x256x1024_0_1_0_0, k0_pay74 (View.readAt (Elt F) arg3.view (Rect.unit (s := S1x16x256x256) ![0, 0, 0, 0] S1x1x256x256.size inb_S1x16x256x256_S1x1x256x256_0_0_0_0).toLoadRect (harg3.unread x3)) (pointRun.sl.v117 c arg2 harg2 arg13 x2)⟩, ⟨Rect.unit (s := S2x4x256x1024) ![0, 0, 0, 0] S1x1x256x1024.size inb_S2x4x256x1024_S1x1x256x1024_0_0_0_0, k0_pay71 (pointRun.sl.r_4 c arg3 harg3 x3) (pointRun.sl.v108 c arg2 harg2 arg13 x2)⟩]) (k0_pay65, k0_pay66, k0_pay67, k0_pay68, pointRun.sl.r_5 c arg2 harg2 arg3 harg3 arg13 x2 x3, pointRun.sl.r_6 c arg2 harg2 arg3 harg3 arg13 x2 x3, pointRun.sl.r_7 c arg2 harg2 arg3 harg3 arg13 x2 x3, k0_pay81 (View.readAt (Elt F) arg3.view (Rect.unit (s := S1x16x256x256) ![0, 0, 0, 0] S1x1x256x256.size inb_S1x16x256x256_S1x1x256x256_0_0_0_0).toLoadRect (harg3.unread x3)) (pointRun.sl.v135 c arg2 harg2 arg13 x2)) (kbm x3 x5) (vbm x4 x6 0 (by decide)) (vbm x4 x6 80 (by decide)) (vbm x4 x6 160 (by decide)) (vbm x4 x6 240 (by decide)) (qbm x2 0#32 1#32) (qbm x2 2#32 3#32) (qbm x2 4#32 5#32) (qbm x2 6#32 7#32)
    (fun k => kread arg3 harg3 x3 x5 _ (by have := k.isLt; have h7 : k0_t1_loop.trips = 7 := (by decide); omega) _ _ (k0_off1_eq k))
    (fun k => kread arg3 harg3 x3 x5 _ (by have := k.isLt; have h7 : k0_t1_loop.trips = 7 := (by decide); omega) _ _ (k0_off6_eq k))
    (fun k => vread arg4 harg4 x4 x6 _ _ (by have := k.isLt; have h7 : k0_t1_loop.trips = 7 := (by decide); omega) (by decide) _ _ (k0_off2_eq k))
    (fun k => vread arg4 harg4 x4 x6 _ _ (by have := k.isLt; have h7 : k0_t1_loop.trips = 7 := (by decide); omega) (by decide) _ _ (k0_off7_eq k))
    (qread0 c arg2 harg2 arg13 x2 _)
    (abase0 ..)
    (sbase0 ..)
    (fun k => vread arg4 harg4 x4 x6 _ _ (by have := k.isLt; have h7 : k0_t1_loop.trips = 7 := (by decide); omega) (by decide) _ _ (k0_off3_eq k))
    (fun k => vread arg4 harg4 x4 x6 _ _ (by have := k.isLt; have h7 : k0_t1_loop.trips = 7 := (by decide); omega) (by decide) _ _ (k0_off8_eq k))
    (qread1 c arg2 harg2 arg13 x2 _)
    (abase1 ..)
    (sbase1 ..)
    (fun k => vread arg4 harg4 x4 x6 _ _ (by have := k.isLt; have h7 : k0_t1_loop.trips = 7 := (by decide); omega) (by decide) _ _ (k0_off4_eq k))
    (fun k => vread arg4 harg4 x4 x6 _ _ (by have := k.isLt; have h7 : k0_t1_loop.trips = 7 := (by decide); omega) (by decide) _ _ (k0_off9_eq k))
    (qread2 c arg2 harg2 arg13 x2 _)
    (abase2 ..)
    (sbase2 ..)
    (fun k => vread arg4 harg4 x4 x6 _ _ (by have := k.isLt; have h7 : k0_t1_loop.trips = 7 := (by decide); omega) (by decide) _ _ (k0_off5_eq k))
    (fun k => vread arg4 harg4 x4 x6 _ _ (by have := k.isLt; have h7 : k0_t1_loop.trips = 7 := (by decide); omega) (by decide) _ _ (k0_off10_eq k))
    (qread3 c arg2 harg2 arg13 x2 _)
    (abase3 ..)
    (sbase3 ..)
    (init_eq ..) (Scf.trips k0_t1_loop.lb k0_t1_loop.ub k0_t1_loop.st) (le_refl _)
  rw [show 2 * (Scf.trips k0_t1_loop.lb k0_t1_loop.ub k0_t1_loop.st) = 14 from by decide] at h
  exact h

end Cert.KernelIdeal.Hand

end
-- ==== Proof.Post.lean ====
/- The body after the counted loop: the last three chunks, head by head, and the block it stores. -/
module

public import proofs.«01_k».proof.Proof.Start

@[expose] public section

set_option maxRecDepth 16384

noncomputable section

namespace Cert.KernelIdeal.Hand

open Cert.KernelIdeal.Gen
open Idealize.ShloMosaic Idealize.ShloMosaic.TcCoe Idealize.ShloMosaic.Tactic

variable {F : FTy → Type} [FloatOps F] [Named F]

/-- The sixty-four rows of weighted values. -/
def numm (A : FVec F S80x1024 .f32) : Vec F S1x64x1024 .f32 := fun y =>
  A (ix2 ⟨(y 1).val, by have := (y 1).isLt; change (y 1).val < 64 at this; omega⟩ ⟨(y 2).val, (y 2).isLt⟩ : S80x1024.Idx)

/-- The row of the weights' sums. -/
def denm (A : FVec F S80x1024 .f32) : Vec F S1x1x1024 .f32 := fun y =>
  A (ix2 ⟨64, by decide⟩ ⟨(y 2).val, (y 2).isLt⟩ : S80x1024.Idx)

theorem shapeCast_addUnit_at (A : FVec F S80x1024 .f32) (a : Fin 80) (b : Fin 1024) :
    shapeCast S1x80x1024 A shapeCasts_S80x1024_S1x80x1024 (ix3 0 a b : S1x80x1024.Idx) = A (ix2 a b : S80x1024.Idx) := by
  pointwise []

/-- One head's rows of the result. -/
def hdm (x2 : Vec F S1x256x512 .f32) (x3 : Vec F S1x16x256x256 .bf16) (x4 : Vec F S1x16x320x256 .bf16) (x5 : Vec F S1x256x256 .bf16)
    (x6 : Vec F S1x320x256 .bf16) (x7 x8 x9 x10 : Vec F S1x32 .f32) (x11 : Vec F S64x1 .f32) (r : ℕ) (hr : r + 80 ≤ 320) (j j' : BitVec 32) :
    FVec F S64x512 .f32 :=
  k0_pay156 (k0_pay49 x7 x8 x9 x10) (numm (mo (kbm x3 x5) (vbm x4 x6 r hr) (qbm x2 j j') 17).2)
    (denm (mo (kbm x3 x5) (vbm x4 x6 r hr) (qbm x2 j j') 17).2) x11

/-- The block the body stores. -/
def outm (x2 : Vec F S1x256x512 .f32) (x3 : Vec F S1x16x256x256 .bf16) (x4 : Vec F S1x16x320x256 .bf16) (x5 : Vec F S1x256x256 .bf16)
    (x6 : Vec F S1x320x256 .bf16) (x7 x8 x9 x10 : Vec F S1x32 .f32) (x11 : Vec F S64x1 .f32) : FVec F S512x256 .bf16 :=
  truncf .bf16 (transpose S512x256 [1, 0] (concatenate S256x512 0
    [⟨S64x512, hdm x2 x3 x4 x5 x6 x7 x8 x9 x10 x11 0 (by decide) 0#32 1#32⟩,
     ⟨S64x512, hdm x2 x3 x4 x5 x6 x7 x8 x9 x10 x11 80 (by decide) 2#32 3#32⟩,
     ⟨S64x512, hdm x2 x3 x4 x5 x6 x7 x8 x9 x10 x11 160 (by decide) 4#32 5#32⟩,
     ⟨S64x512, hdm x2 x3 x4 x5 x6 x7 x8 x9 x10 x11 240 (by decide) 6#32 7#32⟩]
    concatenates_S64x512_S64x512_S64x512_S64x512_S256x512_d0) transposes_S256x512_p1_0_S512x256) bitsLt_bf16_f32

theorem mo_fst (kb : ℕ → FVec F S256x256 .bf16) (vb : ℕ → FVec F S80x256 .bf16) (qb : Vec F S256x1024 .bf16) (n n' : ℕ) (h : n' = n + 1) :
    (mo kb vb qb n').1 = maximumf (mo kb vb qb n).1 (cmx (scr (kb n) qb)) := by subst h; rfl

theorem mo_snd (kb : ℕ → FVec F S256x256 .bf16) (vb : ℕ → FVec F S80x256 .bf16) (qb : Vec F S256x1024 .bf16) (n n' : ℕ) (h : n' = n + 1) :
    (mo kb vb qb n').2 = acst (mo kb vb qb n).1 (maximumf (mo kb vb qb n).1 (cmx (scr (kb n) qb))) (scr (kb n) qb) (vb n) (mo kb vb qb n).2 := by subst h; rfl

attribute [local irreducible] mo

variable (c : Dev nD) (i : grid0.Coords) (arg2 : Memref sig .tc .vmem S1x256x512 .f32) (harg2 : arg2.IsWhole) (arg3 : Memref sig .tc .vmem S1x16x256x256 .bf16) (harg3 : arg3.IsWhole) (arg4 : Memref sig .tc .vmem S1x16x320x256 .bf16) (harg4 : arg4.IsWhole) (arg5 : Memref sig .tc .vmem S1x256x256 .bf16) (harg5 : arg5.IsWhole) (arg6 : Memref sig .tc .vmem S1x320x256 .bf16) (harg6 : arg6.IsWhole) (arg7 : Memref sig .tc .vmem S1x32 .f32) (harg7 : arg7.IsWhole) (arg8 : Memref sig .tc .vmem S1x32 .f32) (harg8 : arg8.IsWhole) (arg9 : Memref sig .tc .vmem S1x32 .f32) (harg9 : arg9.IsWhole) (arg10 : Memref sig .tc .vmem S1x32 .f32) (harg10 : arg10.IsWhole) (arg11 : Memref sig .tc .vmem S64x1 .f32) (harg11 : arg11.IsWhole) (arg12 : Memref sig .tc .vmem S512x256 .bf16) (harg12 : arg12.IsWhole) (arg13 : Memref sig .tc .vmem S256x4096 .bf16) (harg13 : arg13.IsWhole) (arg14 : Memref sig .tc .vmem S4x80x1024 .f32) (harg14 : arg14.IsWhole) (arg15 : Memref sig .tc .vmem S2x4x256x1024 .f32) (harg15 : arg15.IsWhole) (x2 : Vec F S1x256x512 .f32) (x3 : Vec F S1x16x256x256 .bf16) (x4 : Vec F S1x16x320x256 .bf16) (x5 : Vec F S1x256x256 .bf16) (x6 : Vec F S1x320x256 .bf16) (x7 x8 x9 x10 : Vec F S1x32 .f32) (x11 : Vec F S64x1 .f32) (y15 : Vec F S2x4x256x1024 .f32)

variable (y13 : Vec F S256x4096 .bf16) (y14 : Vec F S4x80x1024 .f32)

include c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 y15

set_option maxHeartbeats 4000000 in
theorem vs14_0 : (shapeCast S256x1024 (pointRun.sl.v156 (F := F) c i arg2 harg2 arg3 harg3 arg4 harg4 arg5 harg5 arg6 harg6 arg7 harg7 arg8 harg8 arg9 harg9 arg10 harg10 arg11 harg11 arg12 harg12 arg13 harg13 arg14 harg14 arg15 harg15 x2 x3 x4 y15) shapeCasts_S1x1x256x1024_S256x1024) = scr (kbm x3 x5 14) (qbm x2 0#32 1#32) := by
  unfold pointRun.sl.v156 View.readCov
  unfold pointRun.sl.H15_1
  rw [rd_miss _ _ _ _ _ _ (by decide)]
  rw [wr_append]
  exact (st_final c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 y15).2.2.2.2.2.1 _ (sbase0 ..)

set_option maxHeartbeats 4000000 in
theorem va14_0 : (shapeCast S80x1024 (pointRun.sl.v164 (F := F) c i arg2 harg2 arg3 harg3 arg4 harg4 arg5 harg5 arg6 harg6 arg7 harg7 arg8 harg8 arg9 harg9 arg10 harg10 arg11 harg11 arg12 harg12 arg13 harg13 arg14 harg14 arg15 harg15 x2 x3 x4 y15) shapeCasts_S1x80x1024_S80x1024) = (mo (kbm x3 x5) (vbm x4 x6 0 (by decide)) (qbm x2 0#32 1#32) 14).2 := by
  unfold pointRun.sl.v164 View.readCov
  rw [wr_append]
  exact (st_final c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 y15).2.1

set_option maxHeartbeats 4000000 in
theorem piece14_0 : k0_pay89 (pointRun.sl.r_16 c i arg2 harg2 arg3 harg3 arg4 harg4 arg5 harg5 arg6 harg6 arg7 harg7 arg8 harg8 arg9 harg9 arg10 harg10 arg11 harg11 arg12 harg12 arg13 harg13 arg14 harg14 arg15 harg15 x2 x3 x4 y15) (pointRun.sl.r_17 c i arg2 harg2 arg3 harg3 arg4 harg4 arg5 harg5 arg6 harg6 arg7 harg7 arg8 harg8 arg9 harg9 arg10 harg10 arg11 harg11 arg12 harg12 arg13 harg13 arg14 harg14 arg15 harg15 x2 x3 x4 y15) (View.readAt (Elt F) arg4.view (Rect.unit (s := S1x16x320x256) ![0, 14, 0, 0] S1x1x80x256.size inb_S1x16x320x256_S1x1x80x256_0_14_0_0).toLoadRect (harg4.unread x4)) (pointRun.sl.v164 c i arg2 harg2 arg3 harg3 arg4 harg4 arg5 harg5 arg6 harg6 arg7 harg7 arg8 harg8 arg9 harg9 arg10 harg10 arg11 harg11 arg12 harg12 arg13 harg13 arg14 harg14 arg15 harg15 x2 x3 x4 y15) = shapeCast S1x80x1024 (mo (kbm x3 x5) (vbm x4 x6 0 (by decide)) (qbm x2 0#32 1#32) 15).2 shapeCasts_S80x1024_S1x80x1024 := by
  refine (show _ = shapeCast S1x80x1024 (acst ((st_k0_t1 Variants.none c none i arg2 harg2 arg3 harg3 arg4 harg4 arg5 harg5 arg6 harg6 arg7 harg7 arg8 harg8 arg9 harg9 arg10 harg10 arg11 harg11 arg12 harg12 arg13 harg13 arg14 harg14 arg15 harg15 k0_pay65 k0_pay66 k0_pay67 k0_pay68 (pointRun.sl.r_5 c arg2 harg2 arg3 harg3 arg13 x2 x3) (pointRun.sl.r_6 c arg2 harg2 arg3 harg3 arg13 x2 x3) (pointRun.sl.r_7 c arg2 harg2 arg3 harg3 arg13 x2 x3) (harg3.unread x3) (harg4.unread x4) (arg13.view.writes (Elt F) arg13.view.junk (pointRun.sl.H13_8 c arg2 harg2 x2)) (arg14.view.writes (Elt F) arg14.view.junk pointRun.sl.H14_1) (arg15.view.writes (Elt F) (harg15.unread y15) [⟨Rect.unit (s := S2x4x256x1024) ![0, 3, 0, 0] S1x1x256x1024.size inb_S2x4x256x1024_S1x1x256x1024_0_3_0_0, k0_pay80 (View.readAt (Elt F) arg3.view (Rect.unit (s := S1x16x256x256) ![0, 0, 0, 0] S1x1x256x256.size inb_S1x16x256x256_S1x1x256x256_0_0_0_0).toLoadRect (harg3.unread x3)) (pointRun.sl.v135 c arg2 harg2 arg13 x2)⟩, ⟨Rect.unit (s := S2x4x256x1024) ![0, 2, 0, 0] S1x1x256x1024.size inb_S2x4x256x1024_S1x1x256x1024_0_2_0_0, k0_pay77 (View.readAt (Elt F) arg3.view (Rect.unit (s := S1x16x256x256) ![0, 0, 0, 0] S1x1x256x256.size inb_S1x16x256x256_S1x1x256x256_0_0_0_0).toLoadRect (harg3.unread x3)) (pointRun.sl.v126 c arg2 harg2 arg13 x2)⟩, ⟨Rect.unit (s := S2x4x256x1024) ![0, 1, 0, 0] S1x1x256x1024.size inb_S2x4x256x1024_S1x1x256x1024_0_1_0_0, k0_pay74 (View.readAt (Elt F) arg3.view (Rect.unit (s := S1x16x256x256) ![0, 0, 0, 0] S1x1x256x256.size inb_S1x16x256x256_S1x1x256x256_0_0_0_0).toLoadRect (harg3.unread x3)) (pointRun.sl.v117 c arg2 harg2 arg13 x2)⟩, ⟨Rect.unit (s := S2x4x256x1024) ![0, 0, 0, 0] S1x1x256x1024.size inb_S2x4x256x1024_S1x1x256x1024_0_0_0_0, k0_pay71 (pointRun.sl.r_4 c arg3 harg3 x3) (pointRun.sl.v108 c arg2 harg2 arg13 x2)⟩]) (k0_pay65, k0_pay66, k0_pay67, k0_pay68, pointRun.sl.r_5 c arg2 harg2 arg3 harg3 arg13 x2 x3, pointRun.sl.r_6 c arg2 harg2 arg3 harg3 arg13 x2 x3, pointRun.sl.r_7 c arg2 harg2 arg3 harg3 arg13 x2 x3, k0_pay81 (View.readAt (Elt F) arg3.view (Rect.unit (s := S1x16x256x256) ![0, 0, 0, 0] S1x1x256x256.size inb_S1x16x256x256_S1x1x256x256_0_0_0_0).toLoadRect (harg3.unread x3)) (pointRun.sl.v135 c arg2 harg2 arg13 x2)) (Scf.trips k0_t1_loop.lb k0_t1_loop.ub k0_t1_loop.st)).1.1) (maximumf ((st_k0_t1 Variants.none c none i arg2 harg2 arg3 harg3 arg4 harg4 arg5 harg5 arg6 harg6 arg7 harg7 arg8 harg8 arg9 harg9 arg10 harg10 arg11 harg11 arg12 harg12 arg13 harg13 arg14 harg14 arg15 harg15 k0_pay65 k0_pay66 k0_pay67 k0_pay68 (pointRun.sl.r_5 c arg2 harg2 arg3 harg3 arg13 x2 x3) (pointRun.sl.r_6 c arg2 harg2 arg3 harg3 arg13 x2 x3) (pointRun.sl.r_7 c arg2 harg2 arg3 harg3 arg13 x2 x3) (harg3.unread x3) (harg4.unread x4) (arg13.view.writes (Elt F) arg13.view.junk (pointRun.sl.H13_8 c arg2 harg2 x2)) (arg14.view.writes (Elt F) arg14.view.junk pointRun.sl.H14_1) (arg15.view.writes (Elt F) (harg15.unread y15) [⟨Rect.unit (s := S2x4x256x1024) ![0, 3, 0, 0] S1x1x256x1024.size inb_S2x4x256x1024_S1x1x256x1024_0_3_0_0, k0_pay80 (View.readAt (Elt F) arg3.view (Rect.unit (s := S1x16x256x256) ![0, 0, 0, 0] S1x1x256x256.size inb_S1x16x256x256_S1x1x256x256_0_0_0_0).toLoadRect (harg3.unread x3)) (pointRun.sl.v135 c arg2 harg2 arg13 x2)⟩, ⟨Rect.unit (s := S2x4x256x1024) ![0, 2, 0, 0] S1x1x256x1024.size inb_S2x4x256x1024_S1x1x256x1024_0_2_0_0, k0_pay77 (View.readAt (Elt F) arg3.view (Rect.unit (s := S1x16x256x256) ![0, 0, 0, 0] S1x1x256x256.size inb_S1x16x256x256_S1x1x256x256_0_0_0_0).toLoadRect (harg3.unread x3)) (pointRun.sl.v126 c arg2 harg2 arg13 x2)⟩, ⟨Rect.unit (s := S2x4x256x1024) ![0, 1, 0, 0] S1x1x256x1024.size inb_S2x4x256x1024_S1x1x256x1024_0_1_0_0, k0_pay74 (View.readAt (Elt F) arg3.view (Rect.unit (s := S1x16x256x256) ![0, 0, 0, 0] S1x1x256x256.size inb_S1x16x256x256_S1x1x256x256_0_0_0_0).toLoadRect (harg3.unread x3)) (pointRun.sl.v117 c arg2 harg2 arg13 x2)⟩, ⟨Rect.unit (s := S2x4x256x1024) ![0, 0, 0, 0] S1x1x256x1024.size inb_S2x4x256x1024_S1x1x256x1024_0_0_0_0, k0_pay71 (pointRun.sl.r_4 c arg3 harg3 x3) (pointRun.sl.v108 c arg2 harg2 arg13 x2)⟩]) (k0_pay65, k0_pay66, k0_pay67, k0_pay68, pointRun.sl.r_5 c arg2 harg2 arg3 harg3 arg13 x2 x3, pointRun.sl.r_6 c arg2 harg2 arg3 harg3 arg13 x2 x3, pointRun.sl.r_7 c arg2 harg2 arg3 harg3 arg13 x2 x3, k0_pay81 (View.readAt (Elt F) arg3.view (Rect.unit (s := S1x16x256x256) ![0, 0, 0, 0] S1x1x256x256.size inb_S1x16x256x256_S1x1x256x256_0_0_0_0).toLoadRect (harg3.unread x3)) (pointRun.sl.v135 c arg2 harg2 arg13 x2)) (Scf.trips k0_t1_loop.lb k0_t1_loop.ub k0_t1_loop.st)).1.1) ((st_k0_t1 Variants.none c none i arg2 harg2 arg3 harg3 arg4 harg4 arg5 harg5 arg6 harg6 arg7 harg7 arg8 harg8 arg9 harg9 arg10 harg10 arg11 harg11 arg12 harg12 arg13 harg13 arg14 harg14 arg15 harg15 k0_pay65 k0_pay66 k0_pay67 k0_pay68 (pointRun.sl.r_5 c arg2 harg2 arg3 harg3 arg13 x2 x3) (pointRun.sl.r_6 c arg2 harg2 arg3 harg3 arg13 x2 x3) (pointRun.sl.r_7 c arg2 harg2 arg3 harg3 arg13 x2 x3) (harg3.unread x3) (harg4.unread x4) (arg13.view.writes (Elt F) arg13.view.junk (pointRun.sl.H13_8 c arg2 harg2 x2)) (arg14.view.writes (Elt F) arg14.view.junk pointRun.sl.H14_1) (arg15.view.writes (Elt F) (harg15.unread y15) [⟨Rect.unit (s := S2x4x256x1024) ![0, 3, 0, 0] S1x1x256x1024.size inb_S2x4x256x1024_S1x1x256x1024_0_3_0_0, k0_pay80 (View.readAt (Elt F) arg3.view (Rect.unit (s := S1x16x256x256) ![0, 0, 0, 0] S1x1x256x256.size inb_S1x16x256x256_S1x1x256x256_0_0_0_0).toLoadRect (harg3.unread x3)) (pointRun.sl.v135 c arg2 harg2 arg13 x2)⟩, ⟨Rect.unit (s := S2x4x256x1024) ![0, 2, 0, 0] S1x1x256x1024.size inb_S2x4x256x1024_S1x1x256x1024_0_2_0_0, k0_pay77 (View.readAt (Elt F) arg3.view (Rect.unit (s := S1x16x256x256) ![0, 0, 0, 0] S1x1x256x256.size inb_S1x16x256x256_S1x1x256x256_0_0_0_0).toLoadRect (harg3.unread x3)) (pointRun.sl.v126 c arg2 harg2 arg13 x2)⟩, ⟨Rect.unit (s := S2x4x256x1024) ![0, 1, 0, 0] S1x1x256x1024.size inb_S2x4x256x1024_S1x1x256x1024_0_1_0_0, k0_pay74 (View.readAt (Elt F) arg3.view (Rect.unit (s := S1x16x256x256) ![0, 0, 0, 0] S1x1x256x256.size inb_S1x16x256x256_S1x1x256x256_0_0_0_0).toLoadRect (harg3.unread x3)) (pointRun.sl.v117 c arg2 harg2 arg13 x2)⟩, ⟨Rect.unit (s := S2x4x256x1024) ![0, 0, 0, 0] S1x1x256x1024.size inb_S2x4x256x1024_S1x1x256x1024_0_0_0_0, k0_pay71 (pointRun.sl.r_4 c arg3 harg3 x3) (pointRun.sl.v108 c arg2 harg2 arg13 x2)⟩]) (k0_pay65, k0_pay66, k0_pay67, k0_pay68, pointRun.sl.r_5 c arg2 harg2 arg3 harg3 arg13 x2 x3, pointRun.sl.r_6 c arg2 harg2 arg3 harg3 arg13 x2 x3, pointRun.sl.r_7 c arg2 harg2 arg3 harg3 arg13 x2 x3, k0_pay81 (View.readAt (Elt F) arg3.view (Rect.unit (s := S1x16x256x256) ![0, 0, 0, 0] S1x1x256x256.size inb_S1x16x256x256_S1x1x256x256_0_0_0_0).toLoadRect (harg3.unread x3)) (pointRun.sl.v135 c arg2 harg2 arg13 x2)) (Scf.trips k0_t1_loop.lb k0_t1_loop.ub k0_t1_loop.st)).1.2.2.2.2.1)) (shapeCast S256x1024 (pointRun.sl.v156 (F := F) c i arg2 harg2 arg3 harg3 arg4 harg4 arg5 harg5 arg6 harg6 arg7 harg7 arg8 harg8 arg9 harg9 arg10 harg10 arg11 harg11 arg12 harg12 arg13 harg13 arg14 harg14 arg15 harg15 x2 x3 x4 y15) shapeCasts_S1x1x256x1024_S256x1024) (shapeCast S80x256 (arg4.view.readAt (Elt F) (Rect.unit (s := S1x16x320x256) ![0, 14, 0, 0] S1x1x80x256.size inb_S1x16x320x256_S1x1x80x256_0_14_0_0).toLoadRect (harg4.unread x4)) shapeCasts_S1x1x80x256_S80x256) (shapeCast S80x1024 (pointRun.sl.v164 (F := F) c i arg2 harg2 arg3 harg3 arg4 harg4 arg5 harg5 arg6 harg6 arg7 harg7 arg8 harg8 arg9 harg9 arg10 harg10 arg11 harg11 arg12 harg12 arg13 harg13 arg14 harg14 arg15 harg15 x2 x3 x4 y15) shapeCasts_S1x80x1024_S80x1024)) shapeCasts_S80x1024_S1x80x1024 from rfl).trans ?_
  rw [vs14_0 c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 y15, va14_0 c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 y15, vread arg4 harg4 x4 x6 14 0 (by decide) (by decide) _ _ rfl, (st_final c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 y15).1]
  rw [mo_snd _ _ _ 14 15 rfl]

set_option maxHeartbeats 4000000 in
theorem vs14_1 : (shapeCast S256x1024 (pointRun.sl.v185 (F := F) c i arg2 harg2 arg3 harg3 arg4 harg4 arg5 harg5 arg6 harg6 arg7 harg7 arg8 harg8 arg9 harg9 arg10 harg10 arg11 harg11 arg12 harg12 arg13 harg13 arg14 harg14 arg15 harg15 x2 x3 x4 y15) shapeCasts_S1x1x256x1024_S256x1024) = scr (kbm x3 x5 14) (qbm x2 2#32 3#32) := by
  unfold pointRun.sl.v185 View.readCov
  unfold pointRun.sl.H15_2
  rw [rd_miss _ _ _ _ _ _ (by decide)]
  unfold pointRun.sl.H15_1
  rw [rd_miss _ _ _ _ _ _ (by decide)]
  rw [wr_append]
  exact (st_final c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 y15).2.2.2.2.2.2.1 _ (sbase1 ..)

set_option maxHeartbeats 4000000 in
theorem va14_1 : (shapeCast S80x1024 (pointRun.sl.v193 (F := F) c i arg2 harg2 arg3 harg3 arg4 harg4 arg5 harg5 arg6 harg6 arg7 harg7 arg8 harg8 arg9 harg9 arg10 harg10 arg11 harg11 arg12 harg12 arg13 harg13 arg14 harg14 arg15 harg15 x2 x3 x4 y15) shapeCasts_S1x80x1024_S80x1024) = (mo (kbm x3 x5) (vbm x4 x6 80 (by decide)) (qbm x2 2#32 3#32) 14).2 := by
  unfold pointRun.sl.v193 View.readCov
  unfold pointRun.sl.H14_1_1
  rw [rd_miss _ _ _ _ _ _ (by decide)]
  rw [wr_append]
  exact (st_final c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 y15).2.2.1

set_option maxHeartbeats 4000000 in
theorem piece14_1 : k0_pay96 (pointRun.sl.r_20 c i arg2 harg2 arg3 harg3 arg4 harg4 arg5 harg5 arg6 harg6 arg7 harg7 arg8 harg8 arg9 harg9 arg10 harg10 arg11 harg11 arg12 harg12 arg13 harg13 arg14 harg14 arg15 harg15 x2 x3 x4 y15) (pointRun.sl.r_21 c i arg2 harg2 arg3 harg3 arg4 harg4 arg5 harg5 arg6 harg6 arg7 harg7 arg8 harg8 arg9 harg9 arg10 harg10 arg11 harg11 arg12 harg12 arg13 harg13 arg14 harg14 arg15 harg15 x2 x3 x4 y15) (View.readAt (Elt F) arg4.view (Rect.unit (s := S1x16x320x256) ![0, 14, 80, 0] S1x1x80x256.size inb_S1x16x320x256_S1x1x80x256_0_14_80_0).toLoadRect (harg4.unread x4)) (pointRun.sl.v193 c i arg2 harg2 arg3 harg3 arg4 harg4 arg5 harg5 arg6 harg6 arg7 harg7 arg8 harg8 arg9 harg9 arg10 harg10 arg11 harg11 arg12 harg12 arg13 harg13 arg14 harg14 arg15 harg15 x2 x3 x4 y15) = shapeCast S1x80x1024 (mo (kbm x3 x5) (vbm x4 x6 80 (by decide)) (qbm x2 2#32 3#32) 15).2 shapeCasts_S80x1024_S1x80x1024 := by
  refine (show _ = shapeCast S1x80x1024 (acst ((st_k0_t1 Variants.none c none i arg2 harg2 arg3 harg3 arg4 harg4 arg5 harg5 arg6 harg6 arg7 harg7 arg8 harg8 arg9 harg9 arg10 harg10 arg11 harg11 arg12 harg12 arg13 harg13 arg14 harg14 arg15 harg15 k0_pay65 k0_pay66 k0_pay67 k0_pay68 (pointRun.sl.r_5 c arg2 harg2 arg3 harg3 arg13 x2 x3) (pointRun.sl.r_6 c arg2 harg2 arg3 harg3 arg13 x2 x3) (pointRun.sl.r_7 c arg2 harg2 arg3 harg3 arg13 x2 x3) (harg3.unread x3) (harg4.unread x4) (arg13.view.writes (Elt F) arg13.view.junk (pointRun.sl.H13_8 c arg2 harg2 x2)) (arg14.view.writes (Elt F) arg14.view.junk pointRun.sl.H14_1) (arg15.view.writes (Elt F) (harg15.unread y15) [⟨Rect.unit (s := S2x4x256x1024) ![0, 3, 0, 0] S1x1x256x1024.size inb_S2x4x256x1024_S1x1x256x1024_0_3_0_0, k0_pay80 (View.readAt (Elt F) arg3.view (Rect.unit (s := S1x16x256x256) ![0, 0, 0, 0] S1x1x256x256.size inb_S1x16x256x256_S1x1x256x256_0_0_0_0).toLoadRect (harg3.unread x3)) (pointRun.sl.v135 c arg2 harg2 arg13 x2)⟩, ⟨Rect.unit (s := S2x4x256x1024) ![0, 2, 0, 0] S1x1x256x1024.size inb_S2x4x256x1024_S1x1x256x1024_0_2_0_0, k0_pay77 (View.readAt (Elt F) arg3.view (Rect.unit (s := S1x16x256x256) ![0, 0, 0, 0] S1x1x256x256.size inb_S1x16x256x256_S1x1x256x256_0_0_0_0).toLoadRect (harg3.unread x3)) (pointRun.sl.v126 c arg2 harg2 arg13 x2)⟩, ⟨Rect.unit (s := S2x4x256x1024) ![0, 1, 0, 0] S1x1x256x1024.size inb_S2x4x256x1024_S1x1x256x1024_0_1_0_0, k0_pay74 (View.readAt (Elt F) arg3.view (Rect.unit (s := S1x16x256x256) ![0, 0, 0, 0] S1x1x256x256.size inb_S1x16x256x256_S1x1x256x256_0_0_0_0).toLoadRect (harg3.unread x3)) (pointRun.sl.v117 c arg2 harg2 arg13 x2)⟩, ⟨Rect.unit (s := S2x4x256x1024) ![0, 0, 0, 0] S1x1x256x1024.size inb_S2x4x256x1024_S1x1x256x1024_0_0_0_0, k0_pay71 (pointRun.sl.r_4 c arg3 harg3 x3) (pointRun.sl.v108 c arg2 harg2 arg13 x2)⟩]) (k0_pay65, k0_pay66, k0_pay67, k0_pay68, pointRun.sl.r_5 c arg2 harg2 arg3 harg3 arg13 x2 x3, pointRun.sl.r_6 c arg2 harg2 arg3 harg3 arg13 x2 x3, pointRun.sl.r_7 c arg2 harg2 arg3 harg3 arg13 x2 x3, k0_pay81 (View.readAt (Elt F) arg3.view (Rect.unit (s := S1x16x256x256) ![0, 0, 0, 0] S1x1x256x256.size inb_S1x16x256x256_S1x1x256x256_0_0_0_0).toLoadRect (harg3.unread x3)) (pointRun.sl.v135 c arg2 harg2 arg13 x2)) (Scf.trips k0_t1_loop.lb k0_t1_loop.ub k0_t1_loop.st)).1.2.1) (maximumf ((st_k0_t1 Variants.none c none i arg2 harg2 arg3 harg3 arg4 harg4 arg5 harg5 arg6 harg6 arg7 harg7 arg8 harg8 arg9 harg9 arg10 harg10 arg11 harg11 arg12 harg12 arg13 harg13 arg14 harg14 arg15 harg15 k0_pay65 k0_pay66 k0_pay67 k0_pay68 (pointRun.sl.r_5 c arg2 harg2 arg3 harg3 arg13 x2 x3) (pointRun.sl.r_6 c arg2 harg2 arg3 harg3 arg13 x2 x3) (pointRun.sl.r_7 c arg2 harg2 arg3 harg3 arg13 x2 x3) (harg3.unread x3) (harg4.unread x4) (arg13.view.writes (Elt F) arg13.view.junk (pointRun.sl.H13_8 c arg2 harg2 x2)) (arg14.view.writes (Elt F) arg14.view.junk pointRun.sl.H14_1) (arg15.view.writes (Elt F) (harg15.unread y15) [⟨Rect.unit (s := S2x4x256x1024) ![0, 3, 0, 0] S1x1x256x1024.size inb_S2x4x256x1024_S1x1x256x1024_0_3_0_0, k0_pay80 (View.readAt (Elt F) arg3.view (Rect.unit (s := S1x16x256x256) ![0, 0, 0, 0] S1x1x256x256.size inb_S1x16x256x256_S1x1x256x256_0_0_0_0).toLoadRect (harg3.unread x3)) (pointRun.sl.v135 c arg2 harg2 arg13 x2)⟩, ⟨Rect.unit (s := S2x4x256x1024) ![0, 2, 0, 0] S1x1x256x1024.size inb_S2x4x256x1024_S1x1x256x1024_0_2_0_0, k0_pay77 (View.readAt (Elt F) arg3.view (Rect.unit (s := S1x16x256x256) ![0, 0, 0, 0] S1x1x256x256.size inb_S1x16x256x256_S1x1x256x256_0_0_0_0).toLoadRect (harg3.unread x3)) (pointRun.sl.v126 c arg2 harg2 arg13 x2)⟩, ⟨Rect.unit (s := S2x4x256x1024) ![0, 1, 0, 0] S1x1x256x1024.size inb_S2x4x256x1024_S1x1x256x1024_0_1_0_0, k0_pay74 (View.readAt (Elt F) arg3.view (Rect.unit (s := S1x16x256x256) ![0, 0, 0, 0] S1x1x256x256.size inb_S1x16x256x256_S1x1x256x256_0_0_0_0).toLoadRect (harg3.unread x3)) (pointRun.sl.v117 c arg2 harg2 arg13 x2)⟩, ⟨Rect.unit (s := S2x4x256x1024) ![0, 0, 0, 0] S1x1x256x1024.size inb_S2x4x256x1024_S1x1x256x1024_0_0_0_0, k0_pay71 (pointRun.sl.r_4 c arg3 harg3 x3) (pointRun.sl.v108 c arg2 harg2 arg13 x2)⟩]) (k0_pay65, k0_pay66, k0_pay67, k0_pay68, pointRun.sl.r_5 c arg2 harg2 arg3 harg3 arg13 x2 x3, pointRun.sl.r_6 c arg2 harg2 arg3 harg3 arg13 x2 x3, pointRun.sl.r_7 c arg2 harg2 arg3 harg3 arg13 x2 x3, k0_pay81 (View.readAt (Elt F) arg3.view (Rect.unit (s := S1x16x256x256) ![0, 0, 0, 0] S1x1x256x256.size inb_S1x16x256x256_S1x1x256x256_0_0_0_0).toLoadRect (harg3.unread x3)) (pointRun.sl.v135 c arg2 harg2 arg13 x2)) (Scf.trips k0_t1_loop.lb k0_t1_loop.ub k0_t1_loop.st)).1.2.1) ((st_k0_t1 Variants.none c none i arg2 harg2 arg3 harg3 arg4 harg4 arg5 harg5 arg6 harg6 arg7 harg7 arg8 harg8 arg9 harg9 arg10 harg10 arg11 harg11 arg12 harg12 arg13 harg13 arg14 harg14 arg15 harg15 k0_pay65 k0_pay66 k0_pay67 k0_pay68 (pointRun.sl.r_5 c arg2 harg2 arg3 harg3 arg13 x2 x3) (pointRun.sl.r_6 c arg2 harg2 arg3 harg3 arg13 x2 x3) (pointRun.sl.r_7 c arg2 harg2 arg3 harg3 arg13 x2 x3) (harg3.unread x3) (harg4.unread x4) (arg13.view.writes (Elt F) arg13.view.junk (pointRun.sl.H13_8 c arg2 harg2 x2)) (arg14.view.writes (Elt F) arg14.view.junk pointRun.sl.H14_1) (arg15.view.writes (Elt F) (harg15.unread y15) [⟨Rect.unit (s := S2x4x256x1024) ![0, 3, 0, 0] S1x1x256x1024.size inb_S2x4x256x1024_S1x1x256x1024_0_3_0_0, k0_pay80 (View.readAt (Elt F) arg3.view (Rect.unit (s := S1x16x256x256) ![0, 0, 0, 0] S1x1x256x256.size inb_S1x16x256x256_S1x1x256x256_0_0_0_0).toLoadRect (harg3.unread x3)) (pointRun.sl.v135 c arg2 harg2 arg13 x2)⟩, ⟨Rect.unit (s := S2x4x256x1024) ![0, 2, 0, 0] S1x1x256x1024.size inb_S2x4x256x1024_S1x1x256x1024_0_2_0_0, k0_pay77 (View.readAt (Elt F) arg3.view (Rect.unit (s := S1x16x256x256) ![0, 0, 0, 0] S1x1x256x256.size inb_S1x16x256x256_S1x1x256x256_0_0_0_0).toLoadRect (harg3.unread x3)) (pointRun.sl.v126 c arg2 harg2 arg13 x2)⟩, ⟨Rect.unit (s := S2x4x256x1024) ![0, 1, 0, 0] S1x1x256x1024.size inb_S2x4x256x1024_S1x1x256x1024_0_1_0_0, k0_pay74 (View.readAt (Elt F) arg3.view (Rect.unit (s := S1x16x256x256) ![0, 0, 0, 0] S1x1x256x256.size inb_S1x16x256x256_S1x1x256x256_0_0_0_0).toLoadRect (harg3.unread x3)) (pointRun.sl.v117 c arg2 harg2 arg13 x2)⟩, ⟨Rect.unit (s := S2x4x256x1024) ![0, 0, 0, 0] S1x1x256x1024.size inb_S2x4x256x1024_S1x1x256x1024_0_0_0_0, k0_pay71 (pointRun.sl.r_4 c arg3 harg3 x3) (pointRun.sl.v108 c arg2 harg2 arg13 x2)⟩]) (k0_pay65, k0_pay66, k0_pay67, k0_pay68, pointRun.sl.r_5 c arg2 harg2 arg3 harg3 arg13 x2 x3, pointRun.sl.r_6 c arg2 harg2 arg3 harg3 arg13 x2 x3, pointRun.sl.r_7 c arg2 harg2 arg3 harg3 arg13 x2 x3, k0_pay81 (View.readAt (Elt F) arg3.view (Rect.unit (s := S1x16x256x256) ![0, 0, 0, 0] S1x1x256x256.size inb_S1x16x256x256_S1x1x256x256_0_0_0_0).toLoadRect (harg3.unread x3)) (pointRun.sl.v135 c arg2 harg2 arg13 x2)) (Scf.trips k0_t1_loop.lb k0_t1_loop.ub k0_t1_loop.st)).1.2.2.2.2.2.1)) (shapeCast S256x1024 (pointRun.sl.v185 (F := F) c i arg2 harg2 arg3 harg3 arg4 harg4 arg5 harg5 arg6 harg6 arg7 harg7 arg8 harg8 arg9 harg9 arg10 harg10 arg11 harg11 arg12 harg12 arg13 harg13 arg14 harg14 arg15 harg15 x2 x3 x4 y15) shapeCasts_S1x1x256x1024_S256x1024) (shapeCast S80x256 (arg4.view.readAt (Elt F) (Rect.unit (s := S1x16x320x256) ![0, 14, 80, 0] S1x1x80x256.size inb_S1x16x320x256_S1x1x80x256_0_14_80_0).toLoadRect (harg4.unread x4)) shapeCasts_S1x1x80x256_S80x256) (shapeCast S80x1024 (pointRun.sl.v193 (F := F) c i arg2 harg2 arg3 harg3 arg4 harg4 arg5 harg5 arg6 harg6 arg7 harg7 arg8 harg8 arg9 harg9 arg10 harg10 arg11 harg11 arg12 harg12 arg13 harg13 arg14 harg14 arg15 harg15 x2 x3 x4 y15) shapeCasts_S1x80x1024_S80x1024)) shapeCasts_S80x1024_S1x80x1024 from rfl).trans ?_
  rw [vs14_1 c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 y15, va14_1 c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 y15, vread arg4 harg4 x4 x6 14 80 (by decide) (by decide) _ _ rfl, (st_final c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 y15).1]
  rw [mo_snd _ _ _ 14 15 rfl]

set_option maxHeartbeats 4000000 in
theorem vs14_2 : (shapeCast S256x1024 (pointRun.sl.v214 (F := F) c i arg2 harg2 arg3 harg3 arg4 harg4 arg5 harg5 arg6 harg6 arg7 harg7 arg8 harg8 arg9 harg9 arg10 harg10 arg11 harg11 arg12 harg12 arg13 harg13 arg14 harg14 arg15 harg15 x2 x3 x4 y15) shapeCasts_S1x1x256x1024_S256x1024) = scr (kbm x3 x5 14) (qbm x2 4#32 5#32) := by
  unfold pointRun.sl.v214 View.readCov
  unfold pointRun.sl.H15_3
  rw [rd_miss _ _ _ _ _ _ (by decide)]
  unfold pointRun.sl.H15_2
  rw [rd_miss _ _ _ _ _ _ (by decide)]
  unfold pointRun.sl.H15_1
  rw [rd_miss _ _ _ _ _ _ (by decide)]
  rw [wr_append]
  exact (st_final c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 y15).2.2.2.2.2.2.2.1 _ (sbase2 ..)

set_option maxHeartbeats 4000000 in
theorem va14_2 : (shapeCast S80x1024 (pointRun.sl.v222 (F := F) c i arg2 harg2 arg3 harg3 arg4 harg4 arg5 harg5 arg6 harg6 arg7 harg7 arg8 harg8 arg9 harg9 arg10 harg10 arg11 harg11 arg12 harg12 arg13 harg13 arg14 harg14 arg15 harg15 x2 x3 x4 y15) shapeCasts_S1x80x1024_S80x1024) = (mo (kbm x3 x5) (vbm x4 x6 160 (by decide)) (qbm x2 4#32 5#32) 14).2 := by
  unfold pointRun.sl.v222 View.readCov
  unfold pointRun.sl.H14_2
  rw [rd_miss _ _ _ _ _ _ (by decide)]
  unfold pointRun.sl.H14_1_1
  rw [rd_miss _ _ _ _ _ _ (by decide)]
  rw [wr_append]
  exact (st_final c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 y15).2.2.2.1

set_option maxHeartbeats 4000000 in
theorem piece14_2 : k0_pay103 (pointRun.sl.r_24 c i arg2 harg2 arg3 harg3 arg4 harg4 arg5 harg5 arg6 harg6 arg7 harg7 arg8 harg8 arg9 harg9 arg10 harg10 arg11 harg11 arg12 harg12 arg13 harg13 arg14 harg14 arg15 harg15 x2 x3 x4 y15) (pointRun.sl.r_25 c i arg2 harg2 arg3 harg3 arg4 harg4 arg5 harg5 arg6 harg6 arg7 harg7 arg8 harg8 arg9 harg9 arg10 harg10 arg11 harg11 arg12 harg12 arg13 harg13 arg14 harg14 arg15 harg15 x2 x3 x4 y15) (View.readAt (Elt F) arg4.view (Rect.unit (s := S1x16x320x256) ![0, 14, 160, 0] S1x1x80x256.size inb_S1x16x320x256_S1x1x80x256_0_14_160_0).toLoadRect (harg4.unread x4)) (pointRun.sl.v222 c i arg2 harg2 arg3 harg3 arg4 harg4 arg5 harg5 arg6 harg6 arg7 harg7 arg8 harg8 arg9 harg9 arg10 harg10 arg11 harg11 arg12 harg12 arg13 harg13 arg14 harg14 arg15 harg15 x2 x3 x4 y15) = shapeCast S1x80x1024 (mo (kbm x3 x5) (vbm x4 x6 160 (by decide)) (qbm x2 4#32 5#32) 15).2 shapeCasts_S80x1024_S1x80x1024 := by
  refine (show _ = shapeCast S1x80x1024 (acst ((st_k0_t1 Variants.none c none i arg2 harg2 arg3 harg3 arg4 harg4 arg5 harg5 arg6 harg6 arg7 harg7 arg8 harg8 arg9 harg9 arg10 harg10 arg11 harg11 arg12 harg12 arg13 harg13 arg14 harg14 arg15 harg15 k0_pay65 k0_pay66 k0_pay67 k0_pay68 (pointRun.sl.r_5 c arg2 harg2 arg3 harg3 arg13 x2 x3) (pointRun.sl.r_6 c arg2 harg2 arg3 harg3 arg13 x2 x3) (pointRun.sl.r_7 c arg2 harg2 arg3 harg3 arg13 x2 x3) (harg3.unread x3) (harg4.unread x4) (arg13.view.writes (Elt F) arg13.view.junk (pointRun.sl.H13_8 c arg2 harg2 x2)) (arg14.view.writes (Elt F) arg14.view.junk pointRun.sl.H14_1) (arg15.view.writes (Elt F) (harg15.unread y15) [⟨Rect.unit (s := S2x4x256x1024) ![0, 3, 0, 0] S1x1x256x1024.size inb_S2x4x256x1024_S1x1x256x1024_0_3_0_0, k0_pay80 (View.readAt (Elt F) arg3.view (Rect.unit (s := S1x16x256x256) ![0, 0, 0, 0] S1x1x256x256.size inb_S1x16x256x256_S1x1x256x256_0_0_0_0).toLoadRect (harg3.unread x3)) (pointRun.sl.v135 c arg2 harg2 arg13 x2)⟩, ⟨Rect.unit (s := S2x4x256x1024) ![0, 2, 0, 0] S1x1x256x1024.size inb_S2x4x256x1024_S1x1x256x1024_0_2_0_0, k0_pay77 (View.readAt (Elt F) arg3.view (Rect.unit (s := S1x16x256x256) ![0, 0, 0, 0] S1x1x256x256.size inb_S1x16x256x256_S1x1x256x256_0_0_0_0).toLoadRect (harg3.unread x3)) (pointRun.sl.v126 c arg2 harg2 arg13 x2)⟩, ⟨Rect.unit (s := S2x4x256x1024) ![0, 1, 0, 0] S1x1x256x1024.size inb_S2x4x256x1024_S1x1x256x1024_0_1_0_0, k0_pay74 (View.readAt (Elt F) arg3.view (Rect.unit (s := S1x16x256x256) ![0, 0, 0, 0] S1x1x256x256.size inb_S1x16x256x256_S1x1x256x256_0_0_0_0).toLoadRect (harg3.unread x3)) (pointRun.sl.v117 c arg2 harg2 arg13 x2)⟩, ⟨Rect.unit (s := S2x4x256x1024) ![0, 0, 0, 0] S1x1x256x1024.size inb_S2x4x256x1024_S1x1x256x1024_0_0_0_0, k0_pay71 (pointRun.sl.r_4 c arg3 harg3 x3) (pointRun.sl.v108 c arg2 harg2 arg13 x2)⟩]) (k0_pay65, k0_pay66, k0_pay67, k0_pay68, pointRun.sl.r_5 c arg2 harg2 arg3 harg3 arg13 x2 x3, pointRun.sl.r_6 c arg2 harg2 arg3 harg3 arg13 x2 x3, pointRun.sl.r_7 c arg2 harg2 arg3 harg3 arg13 x2 x3, k0_pay81 (View.readAt (Elt F) arg3.view (Rect.unit (s := S1x16x256x256) ![0, 0, 0, 0] S1x1x256x256.size inb_S1x16x256x256_S1x1x256x256_0_0_0_0).toLoadRect (harg3.unread x3)) (pointRun.sl.v135 c arg2 harg2 arg13 x2)) (Scf.trips k0_t1_loop.lb k0_t1_loop.ub k0_t1_loop.st)).1.2.2.1) (maximumf ((st_k0_t1 Variants.none c none i arg2 harg2 arg3 harg3 arg4 harg4 arg5 harg5 arg6 harg6 arg7 harg7 arg8 harg8 arg9 harg9 arg10 harg10 arg11 harg11 arg12 harg12 arg13 harg13 arg14 harg14 arg15 harg15 k0_pay65 k0_pay66 k0_pay67 k0_pay68 (pointRun.sl.r_5 c arg2 harg2 arg3 harg3 arg13 x2 x3) (pointRun.sl.r_6 c arg2 harg2 arg3 harg3 arg13 x2 x3) (pointRun.sl.r_7 c arg2 harg2 arg3 harg3 arg13 x2 x3) (harg3.unread x3) (harg4.unread x4) (arg13.view.writes (Elt F) arg13.view.junk (pointRun.sl.H13_8 c arg2 harg2 x2)) (arg14.view.writes (Elt F) arg14.view.junk pointRun.sl.H14_1) (arg15.view.writes (Elt F) (harg15.unread y15) [⟨Rect.unit (s := S2x4x256x1024) ![0, 3, 0, 0] S1x1x256x1024.size inb_S2x4x256x1024_S1x1x256x1024_0_3_0_0, k0_pay80 (View.readAt (Elt F) arg3.view (Rect.unit (s := S1x16x256x256) ![0, 0, 0, 0] S1x1x256x256.size inb_S1x16x256x256_S1x1x256x256_0_0_0_0).toLoadRect (harg3.unread x3)) (pointRun.sl.v135 c arg2 harg2 arg13 x2)⟩, ⟨Rect.unit (s := S2x4x256x1024) ![0, 2, 0, 0] S1x1x256x1024.size inb_S2x4x256x1024_S1x1x256x1024_0_2_0_0, k0_pay77 (View.readAt (Elt F) arg3.view (Rect.unit (s := S1x16x256x256) ![0, 0, 0, 0] S1x1x256x256.size inb_S1x16x256x256_S1x1x256x256_0_0_0_0).toLoadRect (harg3.unread x3)) (pointRun.sl.v126 c arg2 harg2 arg13 x2)⟩, ⟨Rect.unit (s := S2x4x256x1024) ![0, 1, 0, 0] S1x1x256x1024.size inb_S2x4x256x1024_S1x1x256x1024_0_1_0_0, k0_pay74 (View.readAt (Elt F) arg3.view (Rect.unit (s := S1x16x256x256) ![0, 0, 0, 0] S1x1x256x256.size inb_S1x16x256x256_S1x1x256x256_0_0_0_0).toLoadRect (harg3.unread x3)) (pointRun.sl.v117 c arg2 harg2 arg13 x2)⟩, ⟨Rect.unit (s := S2x4x256x1024) ![0, 0, 0, 0] S1x1x256x1024.size inb_S2x4x256x1024_S1x1x256x1024_0_0_0_0, k0_pay71 (pointRun.sl.r_4 c arg3 harg3 x3) (pointRun.sl.v108 c arg2 harg2 arg13 x2)⟩]) (k0_pay65, k0_pay66, k0_pay67, k0_pay68, pointRun.sl.r_5 c arg2 harg2 arg3 harg3 arg13 x2 x3, pointRun.sl.r_6 c arg2 harg2 arg3 harg3 arg13 x2 x3, pointRun.sl.r_7 c arg2 harg2 arg3 harg3 arg13 x2 x3, k0_pay81 (View.readAt (Elt F) arg3.view (Rect.unit (s := S1x16x256x256) ![0, 0, 0, 0] S1x1x256x256.size inb_S1x16x256x256_S1x1x256x256_0_0_0_0).toLoadRect (harg3.unread x3)) (pointRun.sl.v135 c arg2 harg2 arg13 x2)) (Scf.trips k0_t1_loop.lb k0_t1_loop.ub k0_t1_loop.st)).1.2.2.1) ((st_k0_t1 Variants.none c none i arg2 harg2 arg3 harg3 arg4 harg4 arg5 harg5 arg6 harg6 arg7 harg7 arg8 harg8 arg9 harg9 arg10 harg10 arg11 harg11 arg12 harg12 arg13 harg13 arg14 harg14 arg15 harg15 k0_pay65 k0_pay66 k0_pay67 k0_pay68 (pointRun.sl.r_5 c arg2 harg2 arg3 harg3 arg13 x2 x3) (pointRun.sl.r_6 c arg2 harg2 arg3 harg3 arg13 x2 x3) (pointRun.sl.r_7 c arg2 harg2 arg3 harg3 arg13 x2 x3) (harg3.unread x3) (harg4.unread x4) (arg13.view.writes (Elt F) arg13.view.junk (pointRun.sl.H13_8 c arg2 harg2 x2)) (arg14.view.writes (Elt F) arg14.view.junk pointRun.sl.H14_1) (arg15.view.writes (Elt F) (harg15.unread y15) [⟨Rect.unit (s := S2x4x256x1024) ![0, 3, 0, 0] S1x1x256x1024.size inb_S2x4x256x1024_S1x1x256x1024_0_3_0_0, k0_pay80 (View.readAt (Elt F) arg3.view (Rect.unit (s := S1x16x256x256) ![0, 0, 0, 0] S1x1x256x256.size inb_S1x16x256x256_S1x1x256x256_0_0_0_0).toLoadRect (harg3.unread x3)) (pointRun.sl.v135 c arg2 harg2 arg13 x2)⟩, ⟨Rect.unit (s := S2x4x256x1024) ![0, 2, 0, 0] S1x1x256x1024.size inb_S2x4x256x1024_S1x1x256x1024_0_2_0_0, k0_pay77 (View.readAt (Elt F) arg3.view (Rect.unit (s := S1x16x256x256) ![0, 0, 0, 0] S1x1x256x256.size inb_S1x16x256x256_S1x1x256x256_0_0_0_0).toLoadRect (harg3.unread x3)) (pointRun.sl.v126 c arg2 harg2 arg13 x2)⟩, ⟨Rect.unit (s := S2x4x256x1024) ![0, 1, 0, 0] S1x1x256x1024.size inb_S2x4x256x1024_S1x1x256x1024_0_1_0_0, k0_pay74 (View.readAt (Elt F) arg3.view (Rect.unit (s := S1x16x256x256) ![0, 0, 0, 0] S1x1x256x256.size inb_S1x16x256x256_S1x1x256x256_0_0_0_0).toLoadRect (harg3.unread x3)) (pointRun.sl.v117 c arg2 harg2 arg13 x2)⟩, ⟨Rect.unit (s := S2x4x256x1024) ![0, 0, 0, 0] S1x1x256x1024.size inb_S2x4x256x1024_S1x1x256x1024_0_0_0_0, k0_pay71 (pointRun.sl.r_4 c arg3 harg3 x3) (pointRun.sl.v108 c arg2 harg2 arg13 x2)⟩]) (k0_pay65, k0_pay66, k0_pay67, k0_pay68, pointRun.sl.r_5 c arg2 harg2 arg3 harg3 arg13 x2 x3, pointRun.sl.r_6 c arg2 harg2 arg3 harg3 arg13 x2 x3, pointRun.sl.r_7 c arg2 harg2 arg3 harg3 arg13 x2 x3, k0_pay81 (View.readAt (Elt F) arg3.view (Rect.unit (s := S1x16x256x256) ![0, 0, 0, 0] S1x1x256x256.size inb_S1x16x256x256_S1x1x256x256_0_0_0_0).toLoadRect (harg3.unread x3)) (pointRun.sl.v135 c arg2 harg2 arg13 x2)) (Scf.trips k0_t1_loop.lb k0_t1_loop.ub k0_t1_loop.st)).1.2.2.2.2.2.2.1)) (shapeCast S256x1024 (pointRun.sl.v214 (F := F) c i arg2 harg2 arg3 harg3 arg4 harg4 arg5 harg5 arg6 harg6 arg7 harg7 arg8 harg8 arg9 harg9 arg10 harg10 arg11 harg11 arg12 harg12 arg13 harg13 arg14 harg14 arg15 harg15 x2 x3 x4 y15) shapeCasts_S1x1x256x1024_S256x1024) (shapeCast S80x256 (arg4.view.readAt (Elt F) (Rect.unit (s := S1x16x320x256) ![0, 14, 160, 0] S1x1x80x256.size inb_S1x16x320x256_S1x1x80x256_0_14_160_0).toLoadRect (harg4.unread x4)) shapeCasts_S1x1x80x256_S80x256) (shapeCast S80x1024 (pointRun.sl.v222 (F := F) c i arg2 harg2 arg3 harg3 arg4 harg4 arg5 harg5 arg6 harg6 arg7 harg7 arg8 harg8 arg9 harg9 arg10 harg10 arg11 harg11 arg12 harg12 arg13 harg13 arg14 harg14 arg15 harg15 x2 x3 x4 y15) shapeCasts_S1x80x1024_S80x1024)) shapeCasts_S80x1024_S1x80x1024 from rfl).trans ?_
  rw [vs14_2 c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 y15, va14_2 c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 y15, vread arg4 harg4 x4 x6 14 160 (by decide) (by decide) _ _ rfl, (st_final c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 y15).1]
  rw [mo_snd _ _ _ 14 15 rfl]

set_option maxHeartbeats 4000000 in
theorem vs14_3 : (shapeCast S256x1024 (pointRun.sl.v243 (F := F) c i arg2 harg2 arg3 harg3 arg4 harg4 arg5 harg5 arg6 harg6 arg7 harg7 arg8 harg8 arg9 harg9 arg10 harg10 arg11 harg11 arg12 harg12 arg13 harg13 arg14 harg14 arg15 harg15 x2 x3 x4 y15) shapeCasts_S1x1x256x1024_S256x1024) = scr (kbm x3 x5 14) (qbm x2 6#32 7#32) := by
  unfold pointRun.sl.v243 View.readCov
  unfold pointRun.sl.H15_4
  rw [rd_miss _ _ _ _ _ _ (by decide)]
  unfold pointRun.sl.H15_3
  rw [rd_miss _ _ _ _ _ _ (by decide)]
  unfold pointRun.sl.H15_2
  rw [rd_miss _ _ _ _ _ _ (by decide)]
  unfold pointRun.sl.H15_1
  rw [rd_miss _ _ _ _ _ _ (by decide)]
  rw [wr_append]
  exact (st_final c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 y15).2.2.2.2.2.2.2.2 _ (sbase3 ..)

set_option maxHeartbeats 4000000 in
theorem va14_3 : (shapeCast S80x1024 (pointRun.sl.v251 (F := F) c i arg2 harg2 arg3 harg3 arg4 harg4 arg5 harg5 arg6 harg6 arg7 harg7 arg8 harg8 arg9 harg9 arg10 harg10 arg11 harg11 arg12 harg12 arg13 harg13 arg14 harg14 arg15 harg15 x2 x3 x4 y15) shapeCasts_S1x80x1024_S80x1024) = (mo (kbm x3 x5) (vbm x4 x6 240 (by decide)) (qbm x2 6#32 7#32) 14).2 := by
  unfold pointRun.sl.v251 View.readCov
  unfold pointRun.sl.H14_3
  rw [rd_miss _ _ _ _ _ _ (by decide)]
  unfold pointRun.sl.H14_2
  rw [rd_miss _ _ _ _ _ _ (by decide)]
  unfold pointRun.sl.H14_1_1
  rw [rd_miss _ _ _ _ _ _ (by decide)]
  rw [wr_append]
  exact (st_final c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 y15).2.2.2.2.1

set_option maxHeartbeats 4000000 in
theorem piece14_3 : k0_pay110 (pointRun.sl.r_28 c i arg2 harg2 arg3 harg3 arg4 harg4 arg5 harg5 arg6 harg6 arg7 harg7 arg8 harg8 arg9 harg9 arg10 harg10 arg11 harg11 arg12 harg12 arg13 harg13 arg14 harg14 arg15 harg15 x2 x3 x4 y15) (pointRun.sl.r_29 c i arg2 harg2 arg3 harg3 arg4 harg4 arg5 harg5 arg6 harg6 arg7 harg7 arg8 harg8 arg9 harg9 arg10 harg10 arg11 harg11 arg12 harg12 arg13 harg13 arg14 harg14 arg15 harg15 x2 x3 x4 y15) (pointRun.sl.r_30 arg4 harg4 x4) (pointRun.sl.v251 c i arg2 harg2 arg3 harg3 arg4 harg4 arg5 harg5 arg6 harg6 arg7 harg7 arg8 harg8 arg9 harg9 arg10 harg10 arg11 harg11 arg12 harg12 arg13 harg13 arg14 harg14 arg15 harg15 x2 x3 x4 y15) = shapeCast S1x80x1024 (mo (kbm x3 x5) (vbm x4 x6 240 (by decide)) (qbm x2 6#32 7#32) 15).2 shapeCasts_S80x1024_S1x80x1024 := by
  refine (show _ = shapeCast S1x80x1024 (acst ((st_k0_t1 Variants.none c none i arg2 harg2 arg3 harg3 arg4 harg4 arg5 harg5 arg6 harg6 arg7 harg7 arg8 harg8 arg9 harg9 arg10 harg10 arg11 harg11 arg12 harg12 arg13 harg13 arg14 harg14 arg15 harg15 k0_pay65 k0_pay66 k0_pay67 k0_pay68 (pointRun.sl.r_5 c arg2 harg2 arg3 harg3 arg13 x2 x3) (pointRun.sl.r_6 c arg2 harg2 arg3 harg3 arg13 x2 x3) (pointRun.sl.r_7 c arg2 harg2 arg3 harg3 arg13 x2 x3) (harg3.unread x3) (harg4.unread x4) (arg13.view.writes (Elt F) arg13.view.junk (pointRun.sl.H13_8 c arg2 harg2 x2)) (arg14.view.writes (Elt F) arg14.view.junk pointRun.sl.H14_1) (arg15.view.writes (Elt F) (harg15.unread y15) [⟨Rect.unit (s := S2x4x256x1024) ![0, 3, 0, 0] S1x1x256x1024.size inb_S2x4x256x1024_S1x1x256x1024_0_3_0_0, k0_pay80 (View.readAt (Elt F) arg3.view (Rect.unit (s := S1x16x256x256) ![0, 0, 0, 0] S1x1x256x256.size inb_S1x16x256x256_S1x1x256x256_0_0_0_0).toLoadRect (harg3.unread x3)) (pointRun.sl.v135 c arg2 harg2 arg13 x2)⟩, ⟨Rect.unit (s := S2x4x256x1024) ![0, 2, 0, 0] S1x1x256x1024.size inb_S2x4x256x1024_S1x1x256x1024_0_2_0_0, k0_pay77 (View.readAt (Elt F) arg3.view (Rect.unit (s := S1x16x256x256) ![0, 0, 0, 0] S1x1x256x256.size inb_S1x16x256x256_S1x1x256x256_0_0_0_0).toLoadRect (harg3.unread x3)) (pointRun.sl.v126 c arg2 harg2 arg13 x2)⟩, ⟨Rect.unit (s := S2x4x256x1024) ![0, 1, 0, 0] S1x1x256x1024.size inb_S2x4x256x1024_S1x1x256x1024_0_1_0_0, k0_pay74 (View.readAt (Elt F) arg3.view (Rect.unit (s := S1x16x256x256) ![0, 0, 0, 0] S1x1x256x256.size inb_S1x16x256x256_S1x1x256x256_0_0_0_0).toLoadRect (harg3.unread x3)) (pointRun.sl.v117 c arg2 harg2 arg13 x2)⟩, ⟨Rect.unit (s := S2x4x256x1024) ![0, 0, 0, 0] S1x1x256x1024.size inb_S2x4x256x1024_S1x1x256x1024_0_0_0_0, k0_pay71 (pointRun.sl.r_4 c arg3 harg3 x3) (pointRun.sl.v108 c arg2 harg2 arg13 x2)⟩]) (k0_pay65, k0_pay66, k0_pay67, k0_pay68, pointRun.sl.r_5 c arg2 harg2 arg3 harg3 arg13 x2 x3, pointRun.sl.r_6 c arg2 harg2 arg3 harg3 arg13 x2 x3, pointRun.sl.r_7 c arg2 harg2 arg3 harg3 arg13 x2 x3, k0_pay81 (View.readAt (Elt F) arg3.view (Rect.unit (s := S1x16x256x256) ![0, 0, 0, 0] S1x1x256x256.size inb_S1x16x256x256_S1x1x256x256_0_0_0_0).toLoadRect (harg3.unread x3)) (pointRun.sl.v135 c arg2 harg2 arg13 x2)) (Scf.trips k0_t1_loop.lb k0_t1_loop.ub k0_t1_loop.st)).1.2.2.2.1) (maximumf ((st_k0_t1 Variants.none c none i arg2 harg2 arg3 harg3 arg4 harg4 arg5 harg5 arg6 harg6 arg7 harg7 arg8 harg8 arg9 harg9 arg10 harg10 arg11 harg11 arg12 harg12 arg13 harg13 arg14 harg14 arg15 harg15 k0_pay65 k0_pay66 k0_pay67 k0_pay68 (pointRun.sl.r_5 c arg2 harg2 arg3 harg3 arg13 x2 x3) (pointRun.sl.r_6 c arg2 harg2 arg3 harg3 arg13 x2 x3) (pointRun.sl.r_7 c arg2 harg2 arg3 harg3 arg13 x2 x3) (harg3.unread x3) (harg4.unread x4) (arg13.view.writes (Elt F) arg13.view.junk (pointRun.sl.H13_8 c arg2 harg2 x2)) (arg14.view.writes (Elt F) arg14.view.junk pointRun.sl.H14_1) (arg15.view.writes (Elt F) (harg15.unread y15) [⟨Rect.unit (s := S2x4x256x1024) ![0, 3, 0, 0] S1x1x256x1024.size inb_S2x4x256x1024_S1x1x256x1024_0_3_0_0, k0_pay80 (View.readAt (Elt F) arg3.view (Rect.unit (s := S1x16x256x256) ![0, 0, 0, 0] S1x1x256x256.size inb_S1x16x256x256_S1x1x256x256_0_0_0_0).toLoadRect (harg3.unread x3)) (pointRun.sl.v135 c arg2 harg2 arg13 x2)⟩, ⟨Rect.unit (s := S2x4x256x1024) ![0, 2, 0, 0] S1x1x256x1024.size inb_S2x4x256x1024_S1x1x256x1024_0_2_0_0, k0_pay77 (View.readAt (Elt F) arg3.view (Rect.unit (s := S1x16x256x256) ![0, 0, 0, 0] S1x1x256x256.size inb_S1x16x256x256_S1x1x256x256_0_0_0_0).toLoadRect (harg3.unread x3)) (pointRun.sl.v126 c arg2 harg2 arg13 x2)⟩, ⟨Rect.unit (s := S2x4x256x1024) ![0, 1, 0, 0] S1x1x256x1024.size inb_S2x4x256x1024_S1x1x256x1024_0_1_0_0, k0_pay74 (View.readAt (Elt F) arg3.view (Rect.unit (s := S1x16x256x256) ![0, 0, 0, 0] S1x1x256x256.size inb_S1x16x256x256_S1x1x256x256_0_0_0_0).toLoadRect (harg3.unread x3)) (pointRun.sl.v117 c arg2 harg2 arg13 x2)⟩, ⟨Rect.unit (s := S2x4x256x1024) ![0, 0, 0, 0] S1x1x256x1024.size inb_S2x4x256x1024_S1x1x256x1024_0_0_0_0, k0_pay71 (pointRun.sl.r_4 c arg3 harg3 x3) (pointRun.sl.v108 c arg2 harg2 arg13 x2)⟩]) (k0_pay65, k0_pay66, k0_pay67, k0_pay68, pointRun.sl.r_5 c arg2 harg2 arg3 harg3 arg13 x2 x3, pointRun.sl.r_6 c arg2 harg2 arg3 harg3 arg13 x2 x3, pointRun.sl.r_7 c arg2 harg2 arg3 harg3 arg13 x2 x3, k0_pay81 (View.readAt (Elt F) arg3.view (Rect.unit (s := S1x16x256x256) ![0, 0, 0, 0] S1x1x256x256.size inb_S1x16x256x256_S1x1x256x256_0_0_0_0).toLoadRect (harg3.unread x3)) (pointRun.sl.v135 c arg2 harg2 arg13 x2)) (Scf.trips k0_t1_loop.lb k0_t1_loop.ub k0_t1_loop.st)).1.2.2.2.1) ((st_k0_t1 Variants.none c none i arg2 harg2 arg3 harg3 arg4 harg4 arg5 harg5 arg6 harg6 arg7 harg7 arg8 harg8 arg9 harg9 arg10 harg10 arg11 harg11 arg12 harg12 arg13 harg13 arg14 harg14 arg15 harg15 k0_pay65 k0_pay66 k0_pay67 k0_pay68 (pointRun.sl.r_5 c arg2 harg2 arg3 harg3 arg13 x2 x3) (pointRun.sl.r_6 c arg2 harg2 arg3 harg3 arg13 x2 x3) (pointRun.sl.r_7 c arg2 harg2 arg3 harg3 arg13 x2 x3) (harg3.unread x3) (harg4.unread x4) (arg13.view.writes (Elt F) arg13.view.junk (pointRun.sl.H13_8 c arg2 harg2 x2)) (arg14.view.writes (Elt F) arg14.view.junk pointRun.sl.H14_1) (arg15.view.writes (Elt F) (harg15.unread y15) [⟨Rect.unit (s := S2x4x256x1024) ![0, 3, 0, 0] S1x1x256x1024.size inb_S2x4x256x1024_S1x1x256x1024_0_3_0_0, k0_pay80 (View.readAt (Elt F) arg3.view (Rect.unit (s := S1x16x256x256) ![0, 0, 0, 0] S1x1x256x256.size inb_S1x16x256x256_S1x1x256x256_0_0_0_0).toLoadRect (harg3.unread x3)) (pointRun.sl.v135 c arg2 harg2 arg13 x2)⟩, ⟨Rect.unit (s := S2x4x256x1024) ![0, 2, 0, 0] S1x1x256x1024.size inb_S2x4x256x1024_S1x1x256x1024_0_2_0_0, k0_pay77 (View.readAt (Elt F) arg3.view (Rect.unit (s := S1x16x256x256) ![0, 0, 0, 0] S1x1x256x256.size inb_S1x16x256x256_S1x1x256x256_0_0_0_0).toLoadRect (harg3.unread x3)) (pointRun.sl.v126 c arg2 harg2 arg13 x2)⟩, ⟨Rect.unit (s := S2x4x256x1024) ![0, 1, 0, 0] S1x1x256x1024.size inb_S2x4x256x1024_S1x1x256x1024_0_1_0_0, k0_pay74 (View.readAt (Elt F) arg3.view (Rect.unit (s := S1x16x256x256) ![0, 0, 0, 0] S1x1x256x256.size inb_S1x16x256x256_S1x1x256x256_0_0_0_0).toLoadRect (harg3.unread x3)) (pointRun.sl.v117 c arg2 harg2 arg13 x2)⟩, ⟨Rect.unit (s := S2x4x256x1024) ![0, 0, 0, 0] S1x1x256x1024.size inb_S2x4x256x1024_S1x1x256x1024_0_0_0_0, k0_pay71 (pointRun.sl.r_4 c arg3 harg3 x3) (pointRun.sl.v108 c arg2 harg2 arg13 x2)⟩]) (k0_pay65, k0_pay66, k0_pay67, k0_pay68, pointRun.sl.r_5 c arg2 harg2 arg3 harg3 arg13 x2 x3, pointRun.sl.r_6 c arg2 harg2 arg3 harg3 arg13 x2 x3, pointRun.sl.r_7 c arg2 harg2 arg3 harg3 arg13 x2 x3, k0_pay81 (View.readAt (Elt F) arg3.view (Rect.unit (s := S1x16x256x256) ![0, 0, 0, 0] S1x1x256x256.size inb_S1x16x256x256_S1x1x256x256_0_0_0_0).toLoadRect (harg3.unread x3)) (pointRun.sl.v135 c arg2 harg2 arg13 x2)) (Scf.trips k0_t1_loop.lb k0_t1_loop.ub k0_t1_loop.st)).1.2.2.2.2.2.2.2)) (shapeCast S256x1024 (pointRun.sl.v243 (F := F) c i arg2 harg2 arg3 harg3 arg4 harg4 arg5 harg5 arg6 harg6 arg7 harg7 arg8 harg8 arg9 harg9 arg10 harg10 arg11 harg11 arg12 harg12 arg13 harg13 arg14 harg14 arg15 harg15 x2 x3 x4 y15) shapeCasts_S1x1x256x1024_S256x1024) (shapeCast S80x256 (arg4.view.readAt (Elt F) (Rect.unit (s := S1x16x320x256) ![0, 14, 240, 0] S1x1x80x256.size inb_S1x16x320x256_S1x1x80x256_0_14_240_0).toLoadRect (harg4.unread x4)) shapeCasts_S1x1x80x256_S80x256) (shapeCast S80x1024 (pointRun.sl.v251 (F := F) c i arg2 harg2 arg3 harg3 arg4 harg4 arg5 harg5 arg6 harg6 arg7 harg7 arg8 harg8 arg9 harg9 arg10 harg10 arg11 harg11 arg12 harg12 arg13 harg13 arg14 harg14 arg15 harg15 x2 x3 x4 y15) shapeCasts_S1x80x1024_S80x1024)) shapeCasts_S80x1024_S1x80x1024 from rfl).trans ?_
  rw [vs14_3 c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 y15, va14_3 c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 y15, vread arg4 harg4 x4 x6 14 240 (by decide) (by decide) _ _ rfl, (st_final c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 y15).1]
  rw [mo_snd _ _ _ 14 15 rfl]

set_option maxHeartbeats 4000000 in
theorem vs15_0 : (shapeCast S256x1024 (pointRun.sl.v272 (F := F) c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 y15) shapeCasts_S1x1x256x1024_S256x1024) = scr (kbm x3 x5 15) (qbm x2 0#32 1#32) := by
  unfold pointRun.sl.v272 View.readCov
  unfold pointRun.sl.H15_5
  rw [rd_miss _ _ _ _ _ _ (by decide)]
  unfold pointRun.sl.H15_4
  rw [rd_miss _ _ _ _ _ _ (by decide)]
  unfold pointRun.sl.H15_3
  rw [rd_miss _ _ _ _ _ _ (by decide)]
  unfold pointRun.sl.H15_2
  rw [rd_miss _ _ _ _ _ _ (by decide)]
  unfold pointRun.sl.H15_1
  rw [rd_hit]
  refine (shapeCast_shapeCast (scr (shapeCast S256x256 (arg3.view.readAt (Elt F) (Rect.unit (s := S1x16x256x256) ![0, 15, 0, 0] S1x1x256x256.size inb_S1x16x256x256_S1x1x256x256_0_15_0_0).toLoadRect (harg3.unread x3)) shapeCasts_S1x1x256x256_S256x256) (pointRun.sl.v146 (F := F) c arg2 harg2 arg13 x2)) _ _).trans ?_
  rw [v146_eq, kread arg3 harg3 x3 x5 15 (by decide) _ _ rfl]

theorem r_14_eq : (pointRun.sl.r_14 (F := F) c arg2 harg2 arg3 harg3 arg13 x2 x3) = cmx (scr (kbm x3 x5 15) (qbm x2 0#32 1#32)) := by
  unfold pointRun.sl.r_14
  refine (show _ = cmx (scr (shapeCast S256x256 (arg3.view.readAt (Elt F) (Rect.unit (s := S1x16x256x256) ![0, 15, 0, 0] S1x1x256x256.size inb_S1x16x256x256_S1x1x256x256_0_15_0_0).toLoadRect (harg3.unread x3)) shapeCasts_S1x1x256x256_S256x256) (pointRun.sl.v146 (F := F) c arg2 harg2 arg13 x2)) from rfl).trans ?_
  rw [v146_eq, kread arg3 harg3 x3 x5 15 (by decide) _ _ rfl]

set_option maxHeartbeats 4000000 in
theorem r_15_eq : (pointRun.sl.r_15 (F := F) c i arg2 harg2 arg3 harg3 arg4 harg4 arg5 harg5 arg6 harg6 arg7 harg7 arg8 harg8 arg9 harg9 arg10 harg10 arg11 harg11 arg12 harg12 arg13 harg13 arg14 harg14 arg15 harg15 x2 x3 x4 y15) = (mo (kbm x3 x5) (vbm x4 x6 0 (by decide)) (qbm x2 0#32 1#32) 15).1 := by
  unfold pointRun.sl.r_15
  refine (show _ = maximumf ((st_k0_t1 Variants.none c none i arg2 harg2 arg3 harg3 arg4 harg4 arg5 harg5 arg6 harg6 arg7 harg7 arg8 harg8 arg9 harg9 arg10 harg10 arg11 harg11 arg12 harg12 arg13 harg13 arg14 harg14 arg15 harg15 k0_pay65 k0_pay66 k0_pay67 k0_pay68 (pointRun.sl.r_5 c arg2 harg2 arg3 harg3 arg13 x2 x3) (pointRun.sl.r_6 c arg2 harg2 arg3 harg3 arg13 x2 x3) (pointRun.sl.r_7 c arg2 harg2 arg3 harg3 arg13 x2 x3) (harg3.unread x3) (harg4.unread x4) (arg13.view.writes (Elt F) arg13.view.junk (pointRun.sl.H13_8 c arg2 harg2 x2)) (arg14.view.writes (Elt F) arg14.view.junk pointRun.sl.H14_1) (arg15.view.writes (Elt F) (harg15.unread y15) [⟨Rect.unit (s := S2x4x256x1024) ![0, 3, 0, 0] S1x1x256x1024.size inb_S2x4x256x1024_S1x1x256x1024_0_3_0_0, k0_pay80 (View.readAt (Elt F) arg3.view (Rect.unit (s := S1x16x256x256) ![0, 0, 0, 0] S1x1x256x256.size inb_S1x16x256x256_S1x1x256x256_0_0_0_0).toLoadRect (harg3.unread x3)) (pointRun.sl.v135 c arg2 harg2 arg13 x2)⟩, ⟨Rect.unit (s := S2x4x256x1024) ![0, 2, 0, 0] S1x1x256x1024.size inb_S2x4x256x1024_S1x1x256x1024_0_2_0_0, k0_pay77 (View.readAt (Elt F) arg3.view (Rect.unit (s := S1x16x256x256) ![0, 0, 0, 0] S1x1x256x256.size inb_S1x16x256x256_S1x1x256x256_0_0_0_0).toLoadRect (harg3.unread x3)) (pointRun.sl.v126 c arg2 harg2 arg13 x2)⟩, ⟨Rect.unit (s := S2x4x256x1024) ![0, 1, 0, 0] S1x1x256x1024.size inb_S2x4x256x1024_S1x1x256x1024_0_1_0_0, k0_pay74 (View.readAt (Elt F) arg3.view (Rect.unit (s := S1x16x256x256) ![0, 0, 0, 0] S1x1x256x256.size inb_S1x16x256x256_S1x1x256x256_0_0_0_0).toLoadRect (harg3.unread x3)) (pointRun.sl.v117 c arg2 harg2 arg13 x2)⟩, ⟨Rect.unit (s := S2x4x256x1024) ![0, 0, 0, 0] S1x1x256x1024.size inb_S2x4x256x1024_S1x1x256x1024_0_0_0_0, k0_pay71 (pointRun.sl.r_4 c arg3 harg3 x3) (pointRun.sl.v108 c arg2 harg2 arg13 x2)⟩]) (k0_pay65, k0_pay66, k0_pay67, k0_pay68, pointRun.sl.r_5 c arg2 harg2 arg3 harg3 arg13 x2 x3, pointRun.sl.r_6 c arg2 harg2 arg3 harg3 arg13 x2 x3, pointRun.sl.r_7 c arg2 harg2 arg3 harg3 arg13 x2 x3, k0_pay81 (View.readAt (Elt F) arg3.view (Rect.unit (s := S1x16x256x256) ![0, 0, 0, 0] S1x1x256x256.size inb_S1x16x256x256_S1x1x256x256_0_0_0_0).toLoadRect (harg3.unread x3)) (pointRun.sl.v135 c arg2 harg2 arg13 x2)) (Scf.trips k0_t1_loop.lb k0_t1_loop.ub k0_t1_loop.st)).1.1) ((st_k0_t1 Variants.none c none i arg2 harg2 arg3 harg3 arg4 harg4 arg5 harg5 arg6 harg6 arg7 harg7 arg8 harg8 arg9 harg9 arg10 harg10 arg11 harg11 arg12 harg12 arg13 harg13 arg14 harg14 arg15 harg15 k0_pay65 k0_pay66 k0_pay67 k0_pay68 (pointRun.sl.r_5 c arg2 harg2 arg3 harg3 arg13 x2 x3) (pointRun.sl.r_6 c arg2 harg2 arg3 harg3 arg13 x2 x3) (pointRun.sl.r_7 c arg2 harg2 arg3 harg3 arg13 x2 x3) (harg3.unread x3) (harg4.unread x4) (arg13.view.writes (Elt F) arg13.view.junk (pointRun.sl.H13_8 c arg2 harg2 x2)) (arg14.view.writes (Elt F) arg14.view.junk pointRun.sl.H14_1) (arg15.view.writes (Elt F) (harg15.unread y15) [⟨Rect.unit (s := S2x4x256x1024) ![0, 3, 0, 0] S1x1x256x1024.size inb_S2x4x256x1024_S1x1x256x1024_0_3_0_0, k0_pay80 (View.readAt (Elt F) arg3.view (Rect.unit (s := S1x16x256x256) ![0, 0, 0, 0] S1x1x256x256.size inb_S1x16x256x256_S1x1x256x256_0_0_0_0).toLoadRect (harg3.unread x3)) (pointRun.sl.v135 c arg2 harg2 arg13 x2)⟩, ⟨Rect.unit (s := S2x4x256x1024) ![0, 2, 0, 0] S1x1x256x1024.size inb_S2x4x256x1024_S1x1x256x1024_0_2_0_0, k0_pay77 (View.readAt (Elt F) arg3.view (Rect.unit (s := S1x16x256x256) ![0, 0, 0, 0] S1x1x256x256.size inb_S1x16x256x256_S1x1x256x256_0_0_0_0).toLoadRect (harg3.unread x3)) (pointRun.sl.v126 c arg2 harg2 arg13 x2)⟩, ⟨Rect.unit (s := S2x4x256x1024) ![0, 1, 0, 0] S1x1x256x1024.size inb_S2x4x256x1024_S1x1x256x1024_0_1_0_0, k0_pay74 (View.readAt (Elt F) arg3.view (Rect.unit (s := S1x16x256x256) ![0, 0, 0, 0] S1x1x256x256.size inb_S1x16x256x256_S1x1x256x256_0_0_0_0).toLoadRect (harg3.unread x3)) (pointRun.sl.v117 c arg2 harg2 arg13 x2)⟩, ⟨Rect.unit (s := S2x4x256x1024) ![0, 0, 0, 0] S1x1x256x1024.size inb_S2x4x256x1024_S1x1x256x1024_0_0_0_0, k0_pay71 (pointRun.sl.r_4 c arg3 harg3 x3) (pointRun.sl.v108 c arg2 harg2 arg13 x2)⟩]) (k0_pay65, k0_pay66, k0_pay67, k0_pay68, pointRun.sl.r_5 c arg2 harg2 arg3 harg3 arg13 x2 x3, pointRun.sl.r_6 c arg2 harg2 arg3 harg3 arg13 x2 x3, pointRun.sl.r_7 c arg2 harg2 arg3 harg3 arg13 x2 x3, k0_pay81 (View.readAt (Elt F) arg3.view (Rect.unit (s := S1x16x256x256) ![0, 0, 0, 0] S1x1x256x256.size inb_S1x16x256x256_S1x1x256x256_0_0_0_0).toLoadRect (harg3.unread x3)) (pointRun.sl.v135 c arg2 harg2 arg13 x2)) (Scf.trips k0_t1_loop.lb k0_t1_loop.ub k0_t1_loop.st)).1.2.2.2.2.1) from rfl).trans ?_
  rw [(st_final c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 y15).1]
  rw [mo_fst _ _ _ 14 15 rfl]

set_option maxHeartbeats 4000000 in
theorem va15_0 : (shapeCast S80x1024 (pointRun.sl.v280 (F := F) c i arg2 harg2 arg3 harg3 arg4 harg4 arg5 harg5 arg6 harg6 arg7 harg7 arg8 harg8 arg9 harg9 arg10 harg10 arg11 harg11 arg12 harg12 arg13 harg13 arg14 harg14 arg15 harg15 x2 x3 x4 y15) shapeCasts_S1x80x1024_S80x1024) = (mo (kbm x3 x5) (vbm x4 x6 0 (by decide)) (qbm x2 0#32 1#32) 15).2 := by
  unfold pointRun.sl.v280 View.readCov
  unfold pointRun.sl.H14_4
  rw [rd_miss _ _ _ _ _ _ (by decide)]
  unfold pointRun.sl.H14_3
  rw [rd_miss _ _ _ _ _ _ (by decide)]
  unfold pointRun.sl.H14_2
  rw [rd_miss _ _ _ _ _ _ (by decide)]
  unfold pointRun.sl.H14_1_1
  rw [rd_hit, piece14_0 c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 y15]
  exact shapeCast_shapeCast _ _ _

set_option maxHeartbeats 4000000 in
theorem piece15_0 : k0_pay118 (pointRun.sl.r_33 c i arg2 harg2 arg3 harg3 arg4 harg4 arg5 harg5 arg6 harg6 arg7 harg7 arg8 harg8 arg9 harg9 arg10 harg10 arg11 harg11 arg12 harg12 arg13 harg13 arg14 harg14 arg15 harg15 x2 x3 x4 y15) (pointRun.sl.r_34 c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 y15) (pointRun.sl.r_35 arg4 harg4 x4) (pointRun.sl.v280 c i arg2 harg2 arg3 harg3 arg4 harg4 arg5 harg5 arg6 harg6 arg7 harg7 arg8 harg8 arg9 harg9 arg10 harg10 arg11 harg11 arg12 harg12 arg13 harg13 arg14 harg14 arg15 harg15 x2 x3 x4 y15) = shapeCast S1x80x1024 (mo (kbm x3 x5) (vbm x4 x6 0 (by decide)) (qbm x2 0#32 1#32) 16).2 shapeCasts_S80x1024_S1x80x1024 := by
  refine (show _ = shapeCast S1x80x1024 (acst ((pointRun.sl.r_15 (F := F) c i arg2 harg2 arg3 harg3 arg4 harg4 arg5 harg5 arg6 harg6 arg7 harg7 arg8 harg8 arg9 harg9 arg10 harg10 arg11 harg11 arg12 harg12 arg13 harg13 arg14 harg14 arg15 harg15 x2 x3 x4 y15)) (maximumf ((pointRun.sl.r_15 (F := F) c i arg2 harg2 arg3 harg3 arg4 harg4 arg5 harg5 arg6 harg6 arg7 harg7 arg8 harg8 arg9 harg9 arg10 harg10 arg11 harg11 arg12 harg12 arg13 harg13 arg14 harg14 arg15 harg15 x2 x3 x4 y15)) ((pointRun.sl.r_14 (F := F) c arg2 harg2 arg3 harg3 arg13 x2 x3))) (shapeCast S256x1024 (pointRun.sl.v272 (F := F) c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 y15) shapeCasts_S1x1x256x1024_S256x1024) (shapeCast S80x256 (arg4.view.readAt (Elt F) (Rect.unit (s := S1x16x320x256) ![0, 15, 0, 0] S1x1x80x256.size inb_S1x16x320x256_S1x1x80x256_0_15_0_0).toLoadRect (harg4.unread x4)) shapeCasts_S1x1x80x256_S80x256) (shapeCast S80x1024 (pointRun.sl.v280 (F := F) c i arg2 harg2 arg3 harg3 arg4 harg4 arg5 harg5 arg6 harg6 arg7 harg7 arg8 harg8 arg9 harg9 arg10 harg10 arg11 harg11 arg12 harg12 arg13 harg13 arg14 harg14 arg15 harg15 x2 x3 x4 y15) shapeCasts_S1x80x1024_S80x1024)) shapeCasts_S80x1024_S1x80x1024 from rfl).trans ?_
  rw [vs15_0 c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 y15, va15_0 c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 y15, vread arg4 harg4 x4 x6 15 0 (by decide) (by decide) _ _ rfl, r_15_eq c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 y15, r_14_eq c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 y15]
  rw [mo_snd _ _ _ 15 16 rfl]

set_option maxHeartbeats 4000000 in
theorem vs15_1 : (shapeCast S256x1024 (pointRun.sl.v301 (F := F) c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 y15) shapeCasts_S1x1x256x1024_S256x1024) = scr (kbm x3 x5 15) (qbm x2 2#32 3#32) := by
  unfold pointRun.sl.v301 View.readCov
  unfold pointRun.sl.H15_6
  rw [rd_miss _ _ _ _ _ _ (by decide)]
  unfold pointRun.sl.H15_5
  rw [rd_miss _ _ _ _ _ _ (by decide)]
  unfold pointRun.sl.H15_4
  rw [rd_miss _ _ _ _ _ _ (by decide)]
  unfold pointRun.sl.H15_3
  rw [rd_miss _ _ _ _ _ _ (by decide)]
  unfold pointRun.sl.H15_2
  rw [rd_hit]
  refine (shapeCast_shapeCast (scr (shapeCast S256x256 (arg3.view.readAt (Elt F) (Rect.unit (s := S1x16x256x256) ![0, 15, 0, 0] S1x1x256x256.size inb_S1x16x256x256_S1x1x256x256_0_15_0_0).toLoadRect (harg3.unread x3)) shapeCasts_S1x1x256x256_S256x256) (pointRun.sl.v175 (F := F) c arg2 harg2 arg13 x2)) _ _).trans ?_
  rw [v175_eq, kread arg3 harg3 x3 x5 15 (by decide) _ _ rfl]

theorem r_18_eq : (pointRun.sl.r_18 (F := F) c arg2 harg2 arg3 harg3 arg13 x2 x3) = cmx (scr (kbm x3 x5 15) (qbm x2 2#32 3#32)) := by
  unfold pointRun.sl.r_18
  refine (show _ = cmx (scr (shapeCast S256x256 (arg3.view.readAt (Elt F) (Rect.unit (s := S1x16x256x256) ![0, 15, 0, 0] S1x1x256x256.size inb_S1x16x256x256_S1x1x256x256_0_15_0_0).toLoadRect (harg3.unread x3)) shapeCasts_S1x1x256x256_S256x256) (pointRun.sl.v175 (F := F) c arg2 harg2 arg13 x2)) from rfl).trans ?_
  rw [v175_eq, kread arg3 harg3 x3 x5 15 (by decide) _ _ rfl]

set_option maxHeartbeats 4000000 in
theorem r_19_eq : (pointRun.sl.r_19 (F := F) c i arg2 harg2 arg3 harg3 arg4 harg4 arg5 harg5 arg6 harg6 arg7 harg7 arg8 harg8 arg9 harg9 arg10 harg10 arg11 harg11 arg12 harg12 arg13 harg13 arg14 harg14 arg15 harg15 x2 x3 x4 y15) = (mo (kbm x3 x5) (vbm x4 x6 80 (by decide)) (qbm x2 2#32 3#32) 15).1 := by
  unfold pointRun.sl.r_19
  refine (show _ = maximumf ((st_k0_t1 Variants.none c none i arg2 harg2 arg3 harg3 arg4 harg4 arg5 harg5 arg6 harg6 arg7 harg7 arg8 harg8 arg9 harg9 arg10 harg10 arg11 harg11 arg12 harg12 arg13 harg13 arg14 harg14 arg15 harg15 k0_pay65 k0_pay66 k0_pay67 k0_pay68 (pointRun.sl.r_5 c arg2 harg2 arg3 harg3 arg13 x2 x3) (pointRun.sl.r_6 c arg2 harg2 arg3 harg3 arg13 x2 x3) (pointRun.sl.r_7 c arg2 harg2 arg3 harg3 arg13 x2 x3) (harg3.unread x3) (harg4.unread x4) (arg13.view.writes (Elt F) arg13.view.junk (pointRun.sl.H13_8 c arg2 harg2 x2)) (arg14.view.writes (Elt F) arg14.view.junk pointRun.sl.H14_1) (arg15.view.writes (Elt F) (harg15.unread y15) [⟨Rect.unit (s := S2x4x256x1024) ![0, 3, 0, 0] S1x1x256x1024.size inb_S2x4x256x1024_S1x1x256x1024_0_3_0_0, k0_pay80 (View.readAt (Elt F) arg3.view (Rect.unit (s := S1x16x256x256) ![0, 0, 0, 0] S1x1x256x256.size inb_S1x16x256x256_S1x1x256x256_0_0_0_0).toLoadRect (harg3.unread x3)) (pointRun.sl.v135 c arg2 harg2 arg13 x2)⟩, ⟨Rect.unit (s := S2x4x256x1024) ![0, 2, 0, 0] S1x1x256x1024.size inb_S2x4x256x1024_S1x1x256x1024_0_2_0_0, k0_pay77 (View.readAt (Elt F) arg3.view (Rect.unit (s := S1x16x256x256) ![0, 0, 0, 0] S1x1x256x256.size inb_S1x16x256x256_S1x1x256x256_0_0_0_0).toLoadRect (harg3.unread x3)) (pointRun.sl.v126 c arg2 harg2 arg13 x2)⟩, ⟨Rect.unit (s := S2x4x256x1024) ![0, 1, 0, 0] S1x1x256x1024.size inb_S2x4x256x1024_S1x1x256x1024_0_1_0_0, k0_pay74 (View.readAt (Elt F) arg3.view (Rect.unit (s := S1x16x256x256) ![0, 0, 0, 0] S1x1x256x256.size inb_S1x16x256x256_S1x1x256x256_0_0_0_0).toLoadRect (harg3.unread x3)) (pointRun.sl.v117 c arg2 harg2 arg13 x2)⟩, ⟨Rect.unit (s := S2x4x256x1024) ![0, 0, 0, 0] S1x1x256x1024.size inb_S2x4x256x1024_S1x1x256x1024_0_0_0_0, k0_pay71 (pointRun.sl.r_4 c arg3 harg3 x3) (pointRun.sl.v108 c arg2 harg2 arg13 x2)⟩]) (k0_pay65, k0_pay66, k0_pay67, k0_pay68, pointRun.sl.r_5 c arg2 harg2 arg3 harg3 arg13 x2 x3, pointRun.sl.r_6 c arg2 harg2 arg3 harg3 arg13 x2 x3, pointRun.sl.r_7 c arg2 harg2 arg3 harg3 arg13 x2 x3, k0_pay81 (View.readAt (Elt F) arg3.view (Rect.unit (s := S1x16x256x256) ![0, 0, 0, 0] S1x1x256x256.size inb_S1x16x256x256_S1x1x256x256_0_0_0_0).toLoadRect (harg3.unread x3)) (pointRun.sl.v135 c arg2 harg2 arg13 x2)) (Scf.trips k0_t1_loop.lb k0_t1_loop.ub k0_t1_loop.st)).1.2.1) ((st_k0_t1 Variants.none c none i arg2 harg2 arg3 harg3 arg4 harg4 arg5 harg5 arg6 harg6 arg7 harg7 arg8 harg8 arg9 harg9 arg10 harg10 arg11 harg11 arg12 harg12 arg13 harg13 arg14 harg14 arg15 harg15 k0_pay65 k0_pay66 k0_pay67 k0_pay68 (pointRun.sl.r_5 c arg2 harg2 arg3 harg3 arg13 x2 x3) (pointRun.sl.r_6 c arg2 harg2 arg3 harg3 arg13 x2 x3) (pointRun.sl.r_7 c arg2 harg2 arg3 harg3 arg13 x2 x3) (harg3.unread x3) (harg4.unread x4) (arg13.view.writes (Elt F) arg13.view.junk (pointRun.sl.H13_8 c arg2 harg2 x2)) (arg14.view.writes (Elt F) arg14.view.junk pointRun.sl.H14_1) (arg15.view.writes (Elt F) (harg15.unread y15) [⟨Rect.unit (s := S2x4x256x1024) ![0, 3, 0, 0] S1x1x256x1024.size inb_S2x4x256x1024_S1x1x256x1024_0_3_0_0, k0_pay80 (View.readAt (Elt F) arg3.view (Rect.unit (s := S1x16x256x256) ![0, 0, 0, 0] S1x1x256x256.size inb_S1x16x256x256_S1x1x256x256_0_0_0_0).toLoadRect (harg3.unread x3)) (pointRun.sl.v135 c arg2 harg2 arg13 x2)⟩, ⟨Rect.unit (s := S2x4x256x1024) ![0, 2, 0, 0] S1x1x256x1024.size inb_S2x4x256x1024_S1x1x256x1024_0_2_0_0, k0_pay77 (View.readAt (Elt F) arg3.view (Rect.unit (s := S1x16x256x256) ![0, 0, 0, 0] S1x1x256x256.size inb_S1x16x256x256_S1x1x256x256_0_0_0_0).toLoadRect (harg3.unread x3)) (pointRun.sl.v126 c arg2 harg2 arg13 x2)⟩, ⟨Rect.unit (s := S2x4x256x1024) ![0, 1, 0, 0] S1x1x256x1024.size inb_S2x4x256x1024_S1x1x256x1024_0_1_0_0, k0_pay74 (View.readAt (Elt F) arg3.view (Rect.unit (s := S1x16x256x256) ![0, 0, 0, 0] S1x1x256x256.size inb_S1x16x256x256_S1x1x256x256_0_0_0_0).toLoadRect (harg3.unread x3)) (pointRun.sl.v117 c arg2 harg2 arg13 x2)⟩, ⟨Rect.unit (s := S2x4x256x1024) ![0, 0, 0, 0] S1x1x256x1024.size inb_S2x4x256x1024_S1x1x256x1024_0_0_0_0, k0_pay71 (pointRun.sl.r_4 c arg3 harg3 x3) (pointRun.sl.v108 c arg2 harg2 arg13 x2)⟩]) (k0_pay65, k0_pay66, k0_pay67, k0_pay68, pointRun.sl.r_5 c arg2 harg2 arg3 harg3 arg13 x2 x3, pointRun.sl.r_6 c arg2 harg2 arg3 harg3 arg13 x2 x3, pointRun.sl.r_7 c arg2 harg2 arg3 harg3 arg13 x2 x3, k0_pay81 (View.readAt (Elt F) arg3.view (Rect.unit (s := S1x16x256x256) ![0, 0, 0, 0] S1x1x256x256.size inb_S1x16x256x256_S1x1x256x256_0_0_0_0).toLoadRect (harg3.unread x3)) (pointRun.sl.v135 c arg2 harg2 arg13 x2)) (Scf.trips k0_t1_loop.lb k0_t1_loop.ub k0_t1_loop.st)).1.2.2.2.2.2.1) from rfl).trans ?_
  rw [(st_final c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 y15).1]
  rw [mo_fst _ _ _ 14 15 rfl]

set_option maxHeartbeats 4000000 in
theorem va15_1 : (shapeCast S80x1024 (pointRun.sl.v309 (F := F) c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 y15) shapeCasts_S1x80x1024_S80x1024) = (mo (kbm x3 x5) (vbm x4 x6 80 (by decide)) (qbm x2 2#32 3#32) 15).2 := by
  unfold pointRun.sl.v309 View.readCov
  unfold pointRun.sl.H14_5
  rw [rd_miss _ _ _ _ _ _ (by decide)]
  unfold pointRun.sl.H14_4
  rw [rd_miss _ _ _ _ _ _ (by decide)]
  unfold pointRun.sl.H14_3
  rw [rd_miss _ _ _ _ _ _ (by decide)]
  unfold pointRun.sl.H14_2
  rw [rd_hit, piece14_1 c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 y15]
  exact shapeCast_shapeCast _ _ _

set_option maxHeartbeats 4000000 in
theorem piece15_1 : k0_pay127 (pointRun.sl.r_38 c i arg2 harg2 arg3 harg3 arg4 harg4 arg5 harg5 arg6 harg6 arg7 harg7 arg8 harg8 arg9 harg9 arg10 harg10 arg11 harg11 arg12 harg12 arg13 harg13 arg14 harg14 arg15 harg15 x2 x3 x4 y15) (pointRun.sl.r_39 c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 y15) (pointRun.sl.r_40 arg4 harg4 x4) (pointRun.sl.r_41 c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 y15) = shapeCast S1x80x1024 (mo (kbm x3 x5) (vbm x4 x6 80 (by decide)) (qbm x2 2#32 3#32) 16).2 shapeCasts_S80x1024_S1x80x1024 := by
  refine (show _ = shapeCast S1x80x1024 (acst ((pointRun.sl.r_19 (F := F) c i arg2 harg2 arg3 harg3 arg4 harg4 arg5 harg5 arg6 harg6 arg7 harg7 arg8 harg8 arg9 harg9 arg10 harg10 arg11 harg11 arg12 harg12 arg13 harg13 arg14 harg14 arg15 harg15 x2 x3 x4 y15)) (maximumf ((pointRun.sl.r_19 (F := F) c i arg2 harg2 arg3 harg3 arg4 harg4 arg5 harg5 arg6 harg6 arg7 harg7 arg8 harg8 arg9 harg9 arg10 harg10 arg11 harg11 arg12 harg12 arg13 harg13 arg14 harg14 arg15 harg15 x2 x3 x4 y15)) ((pointRun.sl.r_18 (F := F) c arg2 harg2 arg3 harg3 arg13 x2 x3))) (shapeCast S256x1024 (pointRun.sl.v301 (F := F) c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 y15) shapeCasts_S1x1x256x1024_S256x1024) (shapeCast S80x256 (arg4.view.readAt (Elt F) (Rect.unit (s := S1x16x320x256) ![0, 15, 80, 0] S1x1x80x256.size inb_S1x16x320x256_S1x1x80x256_0_15_80_0).toLoadRect (harg4.unread x4)) shapeCasts_S1x1x80x256_S80x256) (shapeCast S80x1024 (pointRun.sl.v309 (F := F) c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 y15) shapeCasts_S1x80x1024_S80x1024)) shapeCasts_S80x1024_S1x80x1024 from rfl).trans ?_
  rw [vs15_1 c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 y15, va15_1 c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 y15, vread arg4 harg4 x4 x6 15 80 (by decide) (by decide) _ _ rfl, r_19_eq c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 y15, r_18_eq c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 y15]
  rw [mo_snd _ _ _ 15 16 rfl]

set_option maxHeartbeats 4000000 in
theorem vs15_2 : (shapeCast S256x1024 (pointRun.sl.v330 (F := F) c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 y15) shapeCasts_S1x1x256x1024_S256x1024) = scr (kbm x3 x5 15) (qbm x2 4#32 5#32) := by
  unfold pointRun.sl.v330 View.readCov
  unfold pointRun.sl.H15_7
  rw [rd_miss _ _ _ _ _ _ (by decide)]
  unfold pointRun.sl.H15_6
  rw [rd_miss _ _ _ _ _ _ (by decide)]
  unfold pointRun.sl.H15_5
  rw [rd_miss _ _ _ _ _ _ (by decide)]
  unfold pointRun.sl.H15_4
  rw [rd_miss _ _ _ _ _ _ (by decide)]
  unfold pointRun.sl.H15_3
  rw [rd_hit]
  refine (shapeCast_shapeCast (scr (shapeCast S256x256 (arg3.view.readAt (Elt F) (Rect.unit (s := S1x16x256x256) ![0, 15, 0, 0] S1x1x256x256.size inb_S1x16x256x256_S1x1x256x256_0_15_0_0).toLoadRect (harg3.unread x3)) shapeCasts_S1x1x256x256_S256x256) (pointRun.sl.v204 (F := F) c arg2 harg2 arg13 x2)) _ _).trans ?_
  rw [v204_eq, kread arg3 harg3 x3 x5 15 (by decide) _ _ rfl]

theorem r_22_eq : (pointRun.sl.r_22 (F := F) c arg2 harg2 arg3 harg3 arg13 x2 x3) = cmx (scr (kbm x3 x5 15) (qbm x2 4#32 5#32)) := by
  unfold pointRun.sl.r_22
  refine (show _ = cmx (scr (shapeCast S256x256 (arg3.view.readAt (Elt F) (Rect.unit (s := S1x16x256x256) ![0, 15, 0, 0] S1x1x256x256.size inb_S1x16x256x256_S1x1x256x256_0_15_0_0).toLoadRect (harg3.unread x3)) shapeCasts_S1x1x256x256_S256x256) (pointRun.sl.v204 (F := F) c arg2 harg2 arg13 x2)) from rfl).trans ?_
  rw [v204_eq, kread arg3 harg3 x3 x5 15 (by decide) _ _ rfl]

set_option maxHeartbeats 4000000 in
theorem r_23_eq : (pointRun.sl.r_23 (F := F) c i arg2 harg2 arg3 harg3 arg4 harg4 arg5 harg5 arg6 harg6 arg7 harg7 arg8 harg8 arg9 harg9 arg10 harg10 arg11 harg11 arg12 harg12 arg13 harg13 arg14 harg14 arg15 harg15 x2 x3 x4 y15) = (mo (kbm x3 x5) (vbm x4 x6 160 (by decide)) (qbm x2 4#32 5#32) 15).1 := by
  unfold pointRun.sl.r_23
  refine (show _ = maximumf ((st_k0_t1 Variants.none c none i arg2 harg2 arg3 harg3 arg4 harg4 arg5 harg5 arg6 harg6 arg7 harg7 arg8 harg8 arg9 harg9 arg10 harg10 arg11 harg11 arg12 harg12 arg13 harg13 arg14 harg14 arg15 harg15 k0_pay65 k0_pay66 k0_pay67 k0_pay68 (pointRun.sl.r_5 c arg2 harg2 arg3 harg3 arg13 x2 x3) (pointRun.sl.r_6 c arg2 harg2 arg3 harg3 arg13 x2 x3) (pointRun.sl.r_7 c arg2 harg2 arg3 harg3 arg13 x2 x3) (harg3.unread x3) (harg4.unread x4) (arg13.view.writes (Elt F) arg13.view.junk (pointRun.sl.H13_8 c arg2 harg2 x2)) (arg14.view.writes (Elt F) arg14.view.junk pointRun.sl.H14_1) (arg15.view.writes (Elt F) (harg15.unread y15) [⟨Rect.unit (s := S2x4x256x1024) ![0, 3, 0, 0] S1x1x256x1024.size inb_S2x4x256x1024_S1x1x256x1024_0_3_0_0, k0_pay80 (View.readAt (Elt F) arg3.view (Rect.unit (s := S1x16x256x256) ![0, 0, 0, 0] S1x1x256x256.size inb_S1x16x256x256_S1x1x256x256_0_0_0_0).toLoadRect (harg3.unread x3)) (pointRun.sl.v135 c arg2 harg2 arg13 x2)⟩, ⟨Rect.unit (s := S2x4x256x1024) ![0, 2, 0, 0] S1x1x256x1024.size inb_S2x4x256x1024_S1x1x256x1024_0_2_0_0, k0_pay77 (View.readAt (Elt F) arg3.view (Rect.unit (s := S1x16x256x256) ![0, 0, 0, 0] S1x1x256x256.size inb_S1x16x256x256_S1x1x256x256_0_0_0_0).toLoadRect (harg3.unread x3)) (pointRun.sl.v126 c arg2 harg2 arg13 x2)⟩, ⟨Rect.unit (s := S2x4x256x1024) ![0, 1, 0, 0] S1x1x256x1024.size inb_S2x4x256x1024_S1x1x256x1024_0_1_0_0, k0_pay74 (View.readAt (Elt F) arg3.view (Rect.unit (s := S1x16x256x256) ![0, 0, 0, 0] S1x1x256x256.size inb_S1x16x256x256_S1x1x256x256_0_0_0_0).toLoadRect (harg3.unread x3)) (pointRun.sl.v117 c arg2 harg2 arg13 x2)⟩, ⟨Rect.unit (s := S2x4x256x1024) ![0, 0, 0, 0] S1x1x256x1024.size inb_S2x4x256x1024_S1x1x256x1024_0_0_0_0, k0_pay71 (pointRun.sl.r_4 c arg3 harg3 x3) (pointRun.sl.v108 c arg2 harg2 arg13 x2)⟩]) (k0_pay65, k0_pay66, k0_pay67, k0_pay68, pointRun.sl.r_5 c arg2 harg2 arg3 harg3 arg13 x2 x3, pointRun.sl.r_6 c arg2 harg2 arg3 harg3 arg13 x2 x3, pointRun.sl.r_7 c arg2 harg2 arg3 harg3 arg13 x2 x3, k0_pay81 (View.readAt (Elt F) arg3.view (Rect.unit (s := S1x16x256x256) ![0, 0, 0, 0] S1x1x256x256.size inb_S1x16x256x256_S1x1x256x256_0_0_0_0).toLoadRect (harg3.unread x3)) (pointRun.sl.v135 c arg2 harg2 arg13 x2)) (Scf.trips k0_t1_loop.lb k0_t1_loop.ub k0_t1_loop.st)).1.2.2.1) ((st_k0_t1 Variants.none c none i arg2 harg2 arg3 harg3 arg4 harg4 arg5 harg5 arg6 harg6 arg7 harg7 arg8 harg8 arg9 harg9 arg10 harg10 arg11 harg11 arg12 harg12 arg13 harg13 arg14 harg14 arg15 harg15 k0_pay65 k0_pay66 k0_pay67 k0_pay68 (pointRun.sl.r_5 c arg2 harg2 arg3 harg3 arg13 x2 x3) (pointRun.sl.r_6 c arg2 harg2 arg3 harg3 arg13 x2 x3) (pointRun.sl.r_7 c arg2 harg2 arg3 harg3 arg13 x2 x3) (harg3.unread x3) (harg4.unread x4) (arg13.view.writes (Elt F) arg13.view.junk (pointRun.sl.H13_8 c arg2 harg2 x2)) (arg14.view.writes (Elt F) arg14.view.junk pointRun.sl.H14_1) (arg15.view.writes (Elt F) (harg15.unread y15) [⟨Rect.unit (s := S2x4x256x1024) ![0, 3, 0, 0] S1x1x256x1024.size inb_S2x4x256x1024_S1x1x256x1024_0_3_0_0, k0_pay80 (View.readAt (Elt F) arg3.view (Rect.unit (s := S1x16x256x256) ![0, 0, 0, 0] S1x1x256x256.size inb_S1x16x256x256_S1x1x256x256_0_0_0_0).toLoadRect (harg3.unread x3)) (pointRun.sl.v135 c arg2 harg2 arg13 x2)⟩, ⟨Rect.unit (s := S2x4x256x1024) ![0, 2, 0, 0] S1x1x256x1024.size inb_S2x4x256x1024_S1x1x256x1024_0_2_0_0, k0_pay77 (View.readAt (Elt F) arg3.view (Rect.unit (s := S1x16x256x256) ![0, 0, 0, 0] S1x1x256x256.size inb_S1x16x256x256_S1x1x256x256_0_0_0_0).toLoadRect (harg3.unread x3)) (pointRun.sl.v126 c arg2 harg2 arg13 x2)⟩, ⟨Rect.unit (s := S2x4x256x1024) ![0, 1, 0, 0] S1x1x256x1024.size inb_S2x4x256x1024_S1x1x256x1024_0_1_0_0, k0_pay74 (View.readAt (Elt F) arg3.view (Rect.unit (s := S1x16x256x256) ![0, 0, 0, 0] S1x1x256x256.size inb_S1x16x256x256_S1x1x256x256_0_0_0_0).toLoadRect (harg3.unread x3)) (pointRun.sl.v117 c arg2 harg2 arg13 x2)⟩, ⟨Rect.unit (s := S2x4x256x1024) ![0, 0, 0, 0] S1x1x256x1024.size inb_S2x4x256x1024_S1x1x256x1024_0_0_0_0, k0_pay71 (pointRun.sl.r_4 c arg3 harg3 x3) (pointRun.sl.v108 c arg2 harg2 arg13 x2)⟩]) (k0_pay65, k0_pay66, k0_pay67, k0_pay68, pointRun.sl.r_5 c arg2 harg2 arg3 harg3 arg13 x2 x3, pointRun.sl.r_6 c arg2 harg2 arg3 harg3 arg13 x2 x3, pointRun.sl.r_7 c arg2 harg2 arg3 harg3 arg13 x2 x3, k0_pay81 (View.readAt (Elt F) arg3.view (Rect.unit (s := S1x16x256x256) ![0, 0, 0, 0] S1x1x256x256.size inb_S1x16x256x256_S1x1x256x256_0_0_0_0).toLoadRect (harg3.unread x3)) (pointRun.sl.v135 c arg2 harg2 arg13 x2)) (Scf.trips k0_t1_loop.lb k0_t1_loop.ub k0_t1_loop.st)).1.2.2.2.2.2.2.1) from rfl).trans ?_
  rw [(st_final c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 y15).1]
  rw [mo_fst _ _ _ 14 15 rfl]

set_option maxHeartbeats 4000000 in
theorem va15_2 : (shapeCast S80x1024 (pointRun.sl.v338 (F := F) c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 y15) shapeCasts_S1x80x1024_S80x1024) = (mo (kbm x3 x5) (vbm x4 x6 160 (by decide)) (qbm x2 4#32 5#32) 15).2 := by
  unfold pointRun.sl.v338 View.readCov
  unfold pointRun.sl.H14_6
  rw [rd_miss _ _ _ _ _ _ (by decide)]
  unfold pointRun.sl.H14_5
  rw [rd_miss _ _ _ _ _ _ (by decide)]
  unfold pointRun.sl.H14_4
  rw [rd_miss _ _ _ _ _ _ (by decide)]
  unfold pointRun.sl.H14_3
  rw [rd_hit, piece14_2 c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 y15]
  exact shapeCast_shapeCast _ _ _

set_option maxHeartbeats 4000000 in
theorem piece15_2 : k0_pay135 (pointRun.sl.r_44 c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 y15) (pointRun.sl.r_45 arg4 harg4 x4) (pointRun.sl.r_46 c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 y15) pointRun.sl.cst_263 = shapeCast S1x80x1024 (mo (kbm x3 x5) (vbm x4 x6 160 (by decide)) (qbm x2 4#32 5#32) 16).2 shapeCasts_S80x1024_S1x80x1024 := by
  refine (show _ = shapeCast S1x80x1024 (acst ((pointRun.sl.r_23 (F := F) c i arg2 harg2 arg3 harg3 arg4 harg4 arg5 harg5 arg6 harg6 arg7 harg7 arg8 harg8 arg9 harg9 arg10 harg10 arg11 harg11 arg12 harg12 arg13 harg13 arg14 harg14 arg15 harg15 x2 x3 x4 y15)) (maximumf ((pointRun.sl.r_23 (F := F) c i arg2 harg2 arg3 harg3 arg4 harg4 arg5 harg5 arg6 harg6 arg7 harg7 arg8 harg8 arg9 harg9 arg10 harg10 arg11 harg11 arg12 harg12 arg13 harg13 arg14 harg14 arg15 harg15 x2 x3 x4 y15)) ((pointRun.sl.r_22 (F := F) c arg2 harg2 arg3 harg3 arg13 x2 x3))) (shapeCast S256x1024 (pointRun.sl.v330 (F := F) c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 y15) shapeCasts_S1x1x256x1024_S256x1024) (shapeCast S80x256 (arg4.view.readAt (Elt F) (Rect.unit (s := S1x16x320x256) ![0, 15, 160, 0] S1x1x80x256.size inb_S1x16x320x256_S1x1x80x256_0_15_160_0).toLoadRect (harg4.unread x4)) shapeCasts_S1x1x80x256_S80x256) (shapeCast S80x1024 (pointRun.sl.v338 (F := F) c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 y15) shapeCasts_S1x80x1024_S80x1024)) shapeCasts_S80x1024_S1x80x1024 from rfl).trans ?_
  rw [vs15_2 c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 y15, va15_2 c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 y15, vread arg4 harg4 x4 x6 15 160 (by decide) (by decide) _ _ rfl, r_23_eq c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 y15, r_22_eq c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 y15]
  rw [mo_snd _ _ _ 15 16 rfl]

set_option maxHeartbeats 4000000 in
theorem vs15_3 : (shapeCast S256x1024 (pointRun.sl.v359 (F := F) c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 y15) shapeCasts_S1x1x256x1024_S256x1024) = scr (kbm x3 x5 15) (qbm x2 6#32 7#32) := by
  unfold pointRun.sl.v359 View.readCov
  unfold pointRun.sl.H15_8
  rw [rd_miss _ _ _ _ _ _ (by decide)]
  unfold pointRun.sl.H15_7
  rw [rd_miss _ _ _ _ _ _ (by decide)]
  unfold pointRun.sl.H15_6
  rw [rd_miss _ _ _ _ _ _ (by decide)]
  unfold pointRun.sl.H15_5
  rw [rd_miss _ _ _ _ _ _ (by decide)]
  unfold pointRun.sl.H15_4
  rw [rd_hit]
  refine (shapeCast_shapeCast (scr (shapeCast S256x256 (arg3.view.readAt (Elt F) (Rect.unit (s := S1x16x256x256) ![0, 15, 0, 0] S1x1x256x256.size inb_S1x16x256x256_S1x1x256x256_0_15_0_0).toLoadRect (harg3.unread x3)) shapeCasts_S1x1x256x256_S256x256) (pointRun.sl.v233 (F := F) c arg2 harg2 arg13 x2)) _ _).trans ?_
  rw [v233_eq, kread arg3 harg3 x3 x5 15 (by decide) _ _ rfl]

theorem r_26_eq : (pointRun.sl.r_26 (F := F) c arg2 harg2 arg3 harg3 arg13 x2 x3) = cmx (scr (kbm x3 x5 15) (qbm x2 6#32 7#32)) := by
  unfold pointRun.sl.r_26
  refine (show _ = cmx (scr (shapeCast S256x256 (arg3.view.readAt (Elt F) (Rect.unit (s := S1x16x256x256) ![0, 15, 0, 0] S1x1x256x256.size inb_S1x16x256x256_S1x1x256x256_0_15_0_0).toLoadRect (harg3.unread x3)) shapeCasts_S1x1x256x256_S256x256) (pointRun.sl.v233 (F := F) c arg2 harg2 arg13 x2)) from rfl).trans ?_
  rw [v233_eq, kread arg3 harg3 x3 x5 15 (by decide) _ _ rfl]

set_option maxHeartbeats 4000000 in
theorem r_27_eq : (pointRun.sl.r_27 (F := F) c i arg2 harg2 arg3 harg3 arg4 harg4 arg5 harg5 arg6 harg6 arg7 harg7 arg8 harg8 arg9 harg9 arg10 harg10 arg11 harg11 arg12 harg12 arg13 harg13 arg14 harg14 arg15 harg15 x2 x3 x4 y15) = (mo (kbm x3 x5) (vbm x4 x6 240 (by decide)) (qbm x2 6#32 7#32) 15).1 := by
  unfold pointRun.sl.r_27
  refine (show _ = maximumf ((st_k0_t1 Variants.none c none i arg2 harg2 arg3 harg3 arg4 harg4 arg5 harg5 arg6 harg6 arg7 harg7 arg8 harg8 arg9 harg9 arg10 harg10 arg11 harg11 arg12 harg12 arg13 harg13 arg14 harg14 arg15 harg15 k0_pay65 k0_pay66 k0_pay67 k0_pay68 (pointRun.sl.r_5 c arg2 harg2 arg3 harg3 arg13 x2 x3) (pointRun.sl.r_6 c arg2 harg2 arg3 harg3 arg13 x2 x3) (pointRun.sl.r_7 c arg2 harg2 arg3 harg3 arg13 x2 x3) (harg3.unread x3) (harg4.unread x4) (arg13.view.writes (Elt F) arg13.view.junk (pointRun.sl.H13_8 c arg2 harg2 x2)) (arg14.view.writes (Elt F) arg14.view.junk pointRun.sl.H14_1) (arg15.view.writes (Elt F) (harg15.unread y15) [⟨Rect.unit (s := S2x4x256x1024) ![0, 3, 0, 0] S1x1x256x1024.size inb_S2x4x256x1024_S1x1x256x1024_0_3_0_0, k0_pay80 (View.readAt (Elt F) arg3.view (Rect.unit (s := S1x16x256x256) ![0, 0, 0, 0] S1x1x256x256.size inb_S1x16x256x256_S1x1x256x256_0_0_0_0).toLoadRect (harg3.unread x3)) (pointRun.sl.v135 c arg2 harg2 arg13 x2)⟩, ⟨Rect.unit (s := S2x4x256x1024) ![0, 2, 0, 0] S1x1x256x1024.size inb_S2x4x256x1024_S1x1x256x1024_0_2_0_0, k0_pay77 (View.readAt (Elt F) arg3.view (Rect.unit (s := S1x16x256x256) ![0, 0, 0, 0] S1x1x256x256.size inb_S1x16x256x256_S1x1x256x256_0_0_0_0).toLoadRect (harg3.unread x3)) (pointRun.sl.v126 c arg2 harg2 arg13 x2)⟩, ⟨Rect.unit (s := S2x4x256x1024) ![0, 1, 0, 0] S1x1x256x1024.size inb_S2x4x256x1024_S1x1x256x1024_0_1_0_0, k0_pay74 (View.readAt (Elt F) arg3.view (Rect.unit (s := S1x16x256x256) ![0, 0, 0, 0] S1x1x256x256.size inb_S1x16x256x256_S1x1x256x256_0_0_0_0).toLoadRect (harg3.unread x3)) (pointRun.sl.v117 c arg2 harg2 arg13 x2)⟩, ⟨Rect.unit (s := S2x4x256x1024) ![0, 0, 0, 0] S1x1x256x1024.size inb_S2x4x256x1024_S1x1x256x1024_0_0_0_0, k0_pay71 (pointRun.sl.r_4 c arg3 harg3 x3) (pointRun.sl.v108 c arg2 harg2 arg13 x2)⟩]) (k0_pay65, k0_pay66, k0_pay67, k0_pay68, pointRun.sl.r_5 c arg2 harg2 arg3 harg3 arg13 x2 x3, pointRun.sl.r_6 c arg2 harg2 arg3 harg3 arg13 x2 x3, pointRun.sl.r_7 c arg2 harg2 arg3 harg3 arg13 x2 x3, k0_pay81 (View.readAt (Elt F) arg3.view (Rect.unit (s := S1x16x256x256) ![0, 0, 0, 0] S1x1x256x256.size inb_S1x16x256x256_S1x1x256x256_0_0_0_0).toLoadRect (harg3.unread x3)) (pointRun.sl.v135 c arg2 harg2 arg13 x2)) (Scf.trips k0_t1_loop.lb k0_t1_loop.ub k0_t1_loop.st)).1.2.2.2.1) ((st_k0_t1 Variants.none c none i arg2 harg2 arg3 harg3 arg4 harg4 arg5 harg5 arg6 harg6 arg7 harg7 arg8 harg8 arg9 harg9 arg10 harg10 arg11 harg11 arg12 harg12 arg13 harg13 arg14 harg14 arg15 harg15 k0_pay65 k0_pay66 k0_pay67 k0_pay68 (pointRun.sl.r_5 c arg2 harg2 arg3 harg3 arg13 x2 x3) (pointRun.sl.r_6 c arg2 harg2 arg3 harg3 arg13 x2 x3) (pointRun.sl.r_7 c arg2 harg2 arg3 harg3 arg13 x2 x3) (harg3.unread x3) (harg4.unread x4) (arg13.view.writes (Elt F) arg13.view.junk (pointRun.sl.H13_8 c arg2 harg2 x2)) (arg14.view.writes (Elt F) arg14.view.junk pointRun.sl.H14_1) (arg15.view.writes (Elt F) (harg15.unread y15) [⟨Rect.unit (s := S2x4x256x1024) ![0, 3, 0, 0] S1x1x256x1024.size inb_S2x4x256x1024_S1x1x256x1024_0_3_0_0, k0_pay80 (View.readAt (Elt F) arg3.view (Rect.unit (s := S1x16x256x256) ![0, 0, 0, 0] S1x1x256x256.size inb_S1x16x256x256_S1x1x256x256_0_0_0_0).toLoadRect (harg3.unread x3)) (pointRun.sl.v135 c arg2 harg2 arg13 x2)⟩, ⟨Rect.unit (s := S2x4x256x1024) ![0, 2, 0, 0] S1x1x256x1024.size inb_S2x4x256x1024_S1x1x256x1024_0_2_0_0, k0_pay77 (View.readAt (Elt F) arg3.view (Rect.unit (s := S1x16x256x256) ![0, 0, 0, 0] S1x1x256x256.size inb_S1x16x256x256_S1x1x256x256_0_0_0_0).toLoadRect (harg3.unread x3)) (pointRun.sl.v126 c arg2 harg2 arg13 x2)⟩, ⟨Rect.unit (s := S2x4x256x1024) ![0, 1, 0, 0] S1x1x256x1024.size inb_S2x4x256x1024_S1x1x256x1024_0_1_0_0, k0_pay74 (View.readAt (Elt F) arg3.view (Rect.unit (s := S1x16x256x256) ![0, 0, 0, 0] S1x1x256x256.size inb_S1x16x256x256_S1x1x256x256_0_0_0_0).toLoadRect (harg3.unread x3)) (pointRun.sl.v117 c arg2 harg2 arg13 x2)⟩, ⟨Rect.unit (s := S2x4x256x1024) ![0, 0, 0, 0] S1x1x256x1024.size inb_S2x4x256x1024_S1x1x256x1024_0_0_0_0, k0_pay71 (pointRun.sl.r_4 c arg3 harg3 x3) (pointRun.sl.v108 c arg2 harg2 arg13 x2)⟩]) (k0_pay65, k0_pay66, k0_pay67, k0_pay68, pointRun.sl.r_5 c arg2 harg2 arg3 harg3 arg13 x2 x3, pointRun.sl.r_6 c arg2 harg2 arg3 harg3 arg13 x2 x3, pointRun.sl.r_7 c arg2 harg2 arg3 harg3 arg13 x2 x3, k0_pay81 (View.readAt (Elt F) arg3.view (Rect.unit (s := S1x16x256x256) ![0, 0, 0, 0] S1x1x256x256.size inb_S1x16x256x256_S1x1x256x256_0_0_0_0).toLoadRect (harg3.unread x3)) (pointRun.sl.v135 c arg2 harg2 arg13 x2)) (Scf.trips k0_t1_loop.lb k0_t1_loop.ub k0_t1_loop.st)).1.2.2.2.2.2.2.2) from rfl).trans ?_
  rw [(st_final c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 y15).1]
  rw [mo_fst _ _ _ 14 15 rfl]

set_option maxHeartbeats 4000000 in
theorem va15_3 : (shapeCast S80x1024 (pointRun.sl.v367 (F := F) c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 y15) shapeCasts_S1x80x1024_S80x1024) = (mo (kbm x3 x5) (vbm x4 x6 240 (by decide)) (qbm x2 6#32 7#32) 15).2 := by
  unfold pointRun.sl.v367 View.readCov
  unfold pointRun.sl.H14_7
  rw [rd_miss _ _ _ _ _ _ (by decide)]
  unfold pointRun.sl.H14_6
  rw [rd_miss _ _ _ _ _ _ (by decide)]
  unfold pointRun.sl.H14_5
  rw [rd_miss _ _ _ _ _ _ (by decide)]
  unfold pointRun.sl.H14_4
  rw [rd_hit, piece14_3 c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 y15]
  exact shapeCast_shapeCast _ _ _

set_option maxHeartbeats 4000000 in
theorem piece15_3 : k0_pay141 (pointRun.sl.r_49 c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 y15) = shapeCast S1x80x1024 (mo (kbm x3 x5) (vbm x4 x6 240 (by decide)) (qbm x2 6#32 7#32) 16).2 shapeCasts_S80x1024_S1x80x1024 := by
  refine (show _ = shapeCast S1x80x1024 (acst ((pointRun.sl.r_27 (F := F) c i arg2 harg2 arg3 harg3 arg4 harg4 arg5 harg5 arg6 harg6 arg7 harg7 arg8 harg8 arg9 harg9 arg10 harg10 arg11 harg11 arg12 harg12 arg13 harg13 arg14 harg14 arg15 harg15 x2 x3 x4 y15)) (maximumf ((pointRun.sl.r_27 (F := F) c i arg2 harg2 arg3 harg3 arg4 harg4 arg5 harg5 arg6 harg6 arg7 harg7 arg8 harg8 arg9 harg9 arg10 harg10 arg11 harg11 arg12 harg12 arg13 harg13 arg14 harg14 arg15 harg15 x2 x3 x4 y15)) ((pointRun.sl.r_26 (F := F) c arg2 harg2 arg3 harg3 arg13 x2 x3))) (shapeCast S256x1024 (pointRun.sl.v359 (F := F) c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 y15) shapeCasts_S1x1x256x1024_S256x1024) (shapeCast S80x256 (arg4.view.readAt (Elt F) (Rect.unit (s := S1x16x320x256) ![0, 15, 240, 0] S1x1x80x256.size inb_S1x16x320x256_S1x1x80x256_0_15_240_0).toLoadRect (harg4.unread x4)) shapeCasts_S1x1x80x256_S80x256) (shapeCast S80x1024 (pointRun.sl.v367 (F := F) c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 y15) shapeCasts_S1x80x1024_S80x1024)) shapeCasts_S80x1024_S1x80x1024 from rfl).trans ?_
  rw [vs15_3 c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 y15, va15_3 c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 y15, vread arg4 harg4 x4 x6 15 240 (by decide) (by decide) _ _ rfl, r_27_eq c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 y15, r_26_eq c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 y15]
  rw [mo_snd _ _ _ 15 16 rfl]

set_option maxHeartbeats 4000000 in
theorem vs16_0 : (shapeCast S256x1024 (pointRun.sl.v379 (F := F) c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 y15) shapeCasts_S1x1x256x1024_S256x1024) = scr (kbm x3 x5 16) (qbm x2 0#32 1#32) := by
  unfold pointRun.sl.v379 View.readCov
  unfold pointRun.sl.H15_8
  rw [rd_miss _ _ _ _ _ _ (by decide)]
  unfold pointRun.sl.H15_7
  rw [rd_miss _ _ _ _ _ _ (by decide)]
  unfold pointRun.sl.H15_6
  rw [rd_miss _ _ _ _ _ _ (by decide)]
  unfold pointRun.sl.H15_5
  rw [rd_hit]
  refine (shapeCast_shapeCast (scr (shapeCast S256x256 (arg5.view.readAt (Elt F) (Rect.unit (s := S1x256x256) ![0, 0, 0] S1x256x256.size inb_S1x256x256_S1x256x256_0_0_0).toLoadRect (harg5.unread x5)) shapeCasts_S1x256x256_S256x256) (pointRun.sl.v146 (F := F) c arg2 harg2 arg13 x2)) _ _).trans ?_
  rw [v146_eq, kread16]

theorem r_31_eq : (pointRun.sl.r_31 (F := F) c arg2 harg2 arg5 harg5 arg13 x2 x5) = cmx (scr (kbm x3 x5 16) (qbm x2 0#32 1#32)) := by
  unfold pointRun.sl.r_31
  refine (show _ = cmx (scr (shapeCast S256x256 (arg5.view.readAt (Elt F) (Rect.unit (s := S1x256x256) ![0, 0, 0] S1x256x256.size inb_S1x256x256_S1x256x256_0_0_0).toLoadRect (harg5.unread x5)) shapeCasts_S1x256x256_S256x256) (pointRun.sl.v146 (F := F) c arg2 harg2 arg13 x2)) from rfl).trans ?_
  rw [v146_eq, kread16]

set_option maxHeartbeats 4000000 in
theorem r_32_eq : (pointRun.sl.r_32 (F := F) c i arg2 harg2 arg3 harg3 arg4 harg4 arg5 harg5 arg6 harg6 arg7 harg7 arg8 harg8 arg9 harg9 arg10 harg10 arg11 harg11 arg12 harg12 arg13 harg13 arg14 harg14 arg15 harg15 x2 x3 x4 y15) = (mo (kbm x3 x5) (vbm x4 x6 0 (by decide)) (qbm x2 0#32 1#32) 16).1 := by
  unfold pointRun.sl.r_32
  refine (show _ = maximumf ((pointRun.sl.r_15 (F := F) c i arg2 harg2 arg3 harg3 arg4 harg4 arg5 harg5 arg6 harg6 arg7 harg7 arg8 harg8 arg9 harg9 arg10 harg10 arg11 harg11 arg12 harg12 arg13 harg13 arg14 harg14 arg15 harg15 x2 x3 x4 y15)) ((pointRun.sl.r_14 (F := F) c arg2 harg2 arg3 harg3 arg13 x2 x3)) from rfl).trans ?_
  rw [r_15_eq c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 y15, r_14_eq c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 y15]
  rw [mo_fst _ _ _ 15 16 rfl]

set_option maxHeartbeats 4000000 in
theorem va16_0 : (shapeCast S80x1024 (pointRun.sl.v387 (F := F) c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 y15) shapeCasts_S1x80x1024_S80x1024) = (mo (kbm x3 x5) (vbm x4 x6 0 (by decide)) (qbm x2 0#32 1#32) 16).2 := by
  unfold pointRun.sl.v387 View.readCov
  unfold pointRun.sl.H14_8
  rw [rd_miss _ _ _ _ _ _ (by decide)]
  unfold pointRun.sl.H14_7
  rw [rd_miss _ _ _ _ _ _ (by decide)]
  unfold pointRun.sl.H14_6
  rw [rd_miss _ _ _ _ _ _ (by decide)]
  unfold pointRun.sl.H14_5
  rw [rd_hit, piece15_0 c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 y15]
  exact shapeCast_shapeCast _ _ _

set_option maxHeartbeats 4000000 in
theorem piece16_0 : k0_pay142 (pointRun.sl.r_31 c arg2 harg2 arg5 harg5 arg13 x2 x5) (pointRun.sl.r_32 c i arg2 harg2 arg3 harg3 arg4 harg4 arg5 harg5 arg6 harg6 arg7 harg7 arg8 harg8 arg9 harg9 arg10 harg10 arg11 harg11 arg12 harg12 arg13 harg13 arg14 harg14 arg15 harg15 x2 x3 x4 y15) (pointRun.sl.v379 c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 y15) (View.readAt (Elt F) arg6.view (Rect.unit (s := S1x320x256) ![0, 0, 0] S1x80x256.size inb_S1x320x256_S1x80x256_0_0_0).toLoadRect (harg6.unread x6)) (pointRun.sl.v387 c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 y15) = shapeCast S1x80x1024 (mo (kbm x3 x5) (vbm x4 x6 0 (by decide)) (qbm x2 0#32 1#32) 17).2 shapeCasts_S80x1024_S1x80x1024 := by
  refine (show _ = shapeCast S1x80x1024 (acst ((pointRun.sl.r_32 (F := F) c i arg2 harg2 arg3 harg3 arg4 harg4 arg5 harg5 arg6 harg6 arg7 harg7 arg8 harg8 arg9 harg9 arg10 harg10 arg11 harg11 arg12 harg12 arg13 harg13 arg14 harg14 arg15 harg15 x2 x3 x4 y15)) (maximumf ((pointRun.sl.r_32 (F := F) c i arg2 harg2 arg3 harg3 arg4 harg4 arg5 harg5 arg6 harg6 arg7 harg7 arg8 harg8 arg9 harg9 arg10 harg10 arg11 harg11 arg12 harg12 arg13 harg13 arg14 harg14 arg15 harg15 x2 x3 x4 y15)) ((pointRun.sl.r_31 (F := F) c arg2 harg2 arg5 harg5 arg13 x2 x5))) (shapeCast S256x1024 (pointRun.sl.v379 (F := F) c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 y15) shapeCasts_S1x1x256x1024_S256x1024) (shapeCast S80x256 (arg6.view.readAt (Elt F) (Rect.unit (s := S1x320x256) ![0, 0, 0] S1x80x256.size inb_S1x320x256_S1x80x256_0_0_0).toLoadRect (harg6.unread x6)) shapeCasts_S1x80x256_S80x256) (shapeCast S80x1024 (pointRun.sl.v387 (F := F) c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 y15) shapeCasts_S1x80x1024_S80x1024)) shapeCasts_S80x1024_S1x80x1024 from rfl).trans ?_
  rw [vs16_0 c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 y15, va16_0 c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 y15, vread16 arg6 harg6 x4 x6 0 (by decide) _ _ rfl, r_32_eq c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 y15, r_31_eq c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 y15]
  rw [mo_snd _ _ _ 16 17 rfl]

set_option maxHeartbeats 4000000 in
theorem vs16_1 : (shapeCast S256x1024 (pointRun.sl.v399 (F := F) c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 y15) shapeCasts_S1x1x256x1024_S256x1024) = scr (kbm x3 x5 16) (qbm x2 2#32 3#32) := by
  unfold pointRun.sl.v399 View.readCov
  unfold pointRun.sl.H15_8
  rw [rd_miss _ _ _ _ _ _ (by decide)]
  unfold pointRun.sl.H15_7
  rw [rd_miss _ _ _ _ _ _ (by decide)]
  unfold pointRun.sl.H15_6
  rw [rd_hit]
  refine (shapeCast_shapeCast (scr (shapeCast S256x256 (arg5.view.readAt (Elt F) (Rect.unit (s := S1x256x256) ![0, 0, 0] S1x256x256.size inb_S1x256x256_S1x256x256_0_0_0).toLoadRect (harg5.unread x5)) shapeCasts_S1x256x256_S256x256) (pointRun.sl.v175 (F := F) c arg2 harg2 arg13 x2)) _ _).trans ?_
  rw [v175_eq, kread16]

theorem r_36_eq : (pointRun.sl.r_36 (F := F) c arg2 harg2 arg5 harg5 arg13 x2 x5) = cmx (scr (kbm x3 x5 16) (qbm x2 2#32 3#32)) := by
  unfold pointRun.sl.r_36
  refine (show _ = cmx (scr (shapeCast S256x256 (arg5.view.readAt (Elt F) (Rect.unit (s := S1x256x256) ![0, 0, 0] S1x256x256.size inb_S1x256x256_S1x256x256_0_0_0).toLoadRect (harg5.unread x5)) shapeCasts_S1x256x256_S256x256) (pointRun.sl.v175 (F := F) c arg2 harg2 arg13 x2)) from rfl).trans ?_
  rw [v175_eq, kread16]

set_option maxHeartbeats 4000000 in
theorem r_37_eq : (pointRun.sl.r_37 (F := F) c i arg2 harg2 arg3 harg3 arg4 harg4 arg5 harg5 arg6 harg6 arg7 harg7 arg8 harg8 arg9 harg9 arg10 harg10 arg11 harg11 arg12 harg12 arg13 harg13 arg14 harg14 arg15 harg15 x2 x3 x4 y15) = (mo (kbm x3 x5) (vbm x4 x6 80 (by decide)) (qbm x2 2#32 3#32) 16).1 := by
  unfold pointRun.sl.r_37
  refine (show _ = maximumf ((pointRun.sl.r_19 (F := F) c i arg2 harg2 arg3 harg3 arg4 harg4 arg5 harg5 arg6 harg6 arg7 harg7 arg8 harg8 arg9 harg9 arg10 harg10 arg11 harg11 arg12 harg12 arg13 harg13 arg14 harg14 arg15 harg15 x2 x3 x4 y15)) ((pointRun.sl.r_18 (F := F) c arg2 harg2 arg3 harg3 arg13 x2 x3)) from rfl).trans ?_
  rw [r_19_eq c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 y15, r_18_eq c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 y15]
  rw [mo_fst _ _ _ 15 16 rfl]

set_option maxHeartbeats 4000000 in
theorem va16_1 : (shapeCast S80x1024 (pointRun.sl.v407 (F := F) c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 y15) shapeCasts_S1x80x1024_S80x1024) = (mo (kbm x3 x5) (vbm x4 x6 80 (by decide)) (qbm x2 2#32 3#32) 16).2 := by
  unfold pointRun.sl.v407 View.readCov
  unfold pointRun.sl.H14_9
  rw [rd_miss _ _ _ _ _ _ (by decide)]
  unfold pointRun.sl.H14_8
  rw [rd_miss _ _ _ _ _ _ (by decide)]
  unfold pointRun.sl.H14_7
  rw [rd_miss _ _ _ _ _ _ (by decide)]
  unfold pointRun.sl.H14_6
  rw [rd_hit, piece15_1 c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 y15]
  exact shapeCast_shapeCast _ _ _

set_option maxHeartbeats 4000000 in
theorem piece16_1 : k0_pay147 (pointRun.sl.r_50 c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 y15) (pointRun.sl.r_51 c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 y15) (pointRun.sl.r_52 c arg6 harg6 x6) (pointRun.sl.v407 c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 y15) = shapeCast S1x80x1024 (mo (kbm x3 x5) (vbm x4 x6 80 (by decide)) (qbm x2 2#32 3#32) 17).2 shapeCasts_S80x1024_S1x80x1024 := by
  refine (show _ = shapeCast S1x80x1024 (acst ((pointRun.sl.r_37 (F := F) c i arg2 harg2 arg3 harg3 arg4 harg4 arg5 harg5 arg6 harg6 arg7 harg7 arg8 harg8 arg9 harg9 arg10 harg10 arg11 harg11 arg12 harg12 arg13 harg13 arg14 harg14 arg15 harg15 x2 x3 x4 y15)) (maximumf ((pointRun.sl.r_37 (F := F) c i arg2 harg2 arg3 harg3 arg4 harg4 arg5 harg5 arg6 harg6 arg7 harg7 arg8 harg8 arg9 harg9 arg10 harg10 arg11 harg11 arg12 harg12 arg13 harg13 arg14 harg14 arg15 harg15 x2 x3 x4 y15)) ((pointRun.sl.r_36 (F := F) c arg2 harg2 arg5 harg5 arg13 x2 x5))) (shapeCast S256x1024 (pointRun.sl.v399 (F := F) c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 y15) shapeCasts_S1x1x256x1024_S256x1024) (shapeCast S80x256 (arg6.view.readAt (Elt F) (Rect.unit (s := S1x320x256) ![0, 80, 0] S1x80x256.size inb_S1x320x256_S1x80x256_0_80_0).toLoadRect (harg6.unread x6)) shapeCasts_S1x80x256_S80x256) (shapeCast S80x1024 (pointRun.sl.v407 (F := F) c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 y15) shapeCasts_S1x80x1024_S80x1024)) shapeCasts_S80x1024_S1x80x1024 from rfl).trans ?_
  rw [vs16_1 c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 y15, va16_1 c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 y15, vread16 arg6 harg6 x4 x6 80 (by decide) _ _ rfl, r_37_eq c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 y15, r_36_eq c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 y15]
  rw [mo_snd _ _ _ 16 17 rfl]

set_option maxHeartbeats 4000000 in
theorem vs16_2 : (shapeCast S256x1024 (pointRun.sl.v419 (F := F) c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 y15) shapeCasts_S1x1x256x1024_S256x1024) = scr (kbm x3 x5 16) (qbm x2 4#32 5#32) := by
  unfold pointRun.sl.v419 View.readCov
  unfold pointRun.sl.H15_8
  rw [rd_miss _ _ _ _ _ _ (by decide)]
  unfold pointRun.sl.H15_7
  rw [rd_hit]
  refine (shapeCast_shapeCast (scr (shapeCast S256x256 (arg5.view.readAt (Elt F) (Rect.unit (s := S1x256x256) ![0, 0, 0] S1x256x256.size inb_S1x256x256_S1x256x256_0_0_0).toLoadRect (harg5.unread x5)) shapeCasts_S1x256x256_S256x256) (pointRun.sl.v204 (F := F) c arg2 harg2 arg13 x2)) _ _).trans ?_
  rw [v204_eq, kread16]

theorem r_42_eq : (pointRun.sl.r_42 (F := F) c arg2 harg2 arg5 harg5 arg13 x2 x5) = cmx (scr (kbm x3 x5 16) (qbm x2 4#32 5#32)) := by
  unfold pointRun.sl.r_42
  refine (show _ = cmx (scr (shapeCast S256x256 (arg5.view.readAt (Elt F) (Rect.unit (s := S1x256x256) ![0, 0, 0] S1x256x256.size inb_S1x256x256_S1x256x256_0_0_0).toLoadRect (harg5.unread x5)) shapeCasts_S1x256x256_S256x256) (pointRun.sl.v204 (F := F) c arg2 harg2 arg13 x2)) from rfl).trans ?_
  rw [v204_eq, kread16]

set_option maxHeartbeats 4000000 in
theorem r_43_eq : (pointRun.sl.r_43 (F := F) c i arg2 harg2 arg3 harg3 arg4 harg4 arg5 harg5 arg6 harg6 arg7 harg7 arg8 harg8 arg9 harg9 arg10 harg10 arg11 harg11 arg12 harg12 arg13 harg13 arg14 harg14 arg15 harg15 x2 x3 x4 y15) = (mo (kbm x3 x5) (vbm x4 x6 160 (by decide)) (qbm x2 4#32 5#32) 16).1 := by
  unfold pointRun.sl.r_43
  refine (show _ = maximumf ((pointRun.sl.r_23 (F := F) c i arg2 harg2 arg3 harg3 arg4 harg4 arg5 harg5 arg6 harg6 arg7 harg7 arg8 harg8 arg9 harg9 arg10 harg10 arg11 harg11 arg12 harg12 arg13 harg13 arg14 harg14 arg15 harg15 x2 x3 x4 y15)) ((pointRun.sl.r_22 (F := F) c arg2 harg2 arg3 harg3 arg13 x2 x3)) from rfl).trans ?_
  rw [r_23_eq c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 y15, r_22_eq c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 y15]
  rw [mo_fst _ _ _ 15 16 rfl]

set_option maxHeartbeats 4000000 in
theorem va16_2 : (shapeCast S80x1024 (pointRun.sl.v427 (F := F) c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 y15) shapeCasts_S1x80x1024_S80x1024) = (mo (kbm x3 x5) (vbm x4 x6 160 (by decide)) (qbm x2 4#32 5#32) 16).2 := by
  unfold pointRun.sl.v427 View.readCov
  unfold pointRun.sl.H14_10
  rw [rd_miss _ _ _ _ _ _ (by decide)]
  unfold pointRun.sl.H14_9
  rw [rd_miss _ _ _ _ _ _ (by decide)]
  unfold pointRun.sl.H14_8
  rw [rd_miss _ _ _ _ _ _ (by decide)]
  unfold pointRun.sl.H14_7
  rw [rd_hit, piece15_2 c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 y15]
  exact shapeCast_shapeCast _ _ _

set_option maxHeartbeats 4000000 in
theorem piece16_2 : k0_pay148 (pointRun.sl.r_42 c arg2 harg2 arg5 harg5 arg13 x2 x5) (pointRun.sl.r_43 c i arg2 harg2 arg3 harg3 arg4 harg4 arg5 harg5 arg6 harg6 arg7 harg7 arg8 harg8 arg9 harg9 arg10 harg10 arg11 harg11 arg12 harg12 arg13 harg13 arg14 harg14 arg15 harg15 x2 x3 x4 y15) (pointRun.sl.v419 c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 y15) (View.readAt (Elt F) arg6.view (Rect.unit (s := S1x320x256) ![0, 160, 0] S1x80x256.size inb_S1x320x256_S1x80x256_0_160_0).toLoadRect (harg6.unread x6)) (pointRun.sl.v427 c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 y15) = shapeCast S1x80x1024 (mo (kbm x3 x5) (vbm x4 x6 160 (by decide)) (qbm x2 4#32 5#32) 17).2 shapeCasts_S80x1024_S1x80x1024 := by
  refine (show _ = shapeCast S1x80x1024 (acst ((pointRun.sl.r_43 (F := F) c i arg2 harg2 arg3 harg3 arg4 harg4 arg5 harg5 arg6 harg6 arg7 harg7 arg8 harg8 arg9 harg9 arg10 harg10 arg11 harg11 arg12 harg12 arg13 harg13 arg14 harg14 arg15 harg15 x2 x3 x4 y15)) (maximumf ((pointRun.sl.r_43 (F := F) c i arg2 harg2 arg3 harg3 arg4 harg4 arg5 harg5 arg6 harg6 arg7 harg7 arg8 harg8 arg9 harg9 arg10 harg10 arg11 harg11 arg12 harg12 arg13 harg13 arg14 harg14 arg15 harg15 x2 x3 x4 y15)) ((pointRun.sl.r_42 (F := F) c arg2 harg2 arg5 harg5 arg13 x2 x5))) (shapeCast S256x1024 (pointRun.sl.v419 (F := F) c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 y15) shapeCasts_S1x1x256x1024_S256x1024) (shapeCast S80x256 (arg6.view.readAt (Elt F) (Rect.unit (s := S1x320x256) ![0, 160, 0] S1x80x256.size inb_S1x320x256_S1x80x256_0_160_0).toLoadRect (harg6.unread x6)) shapeCasts_S1x80x256_S80x256) (shapeCast S80x1024 (pointRun.sl.v427 (F := F) c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 y15) shapeCasts_S1x80x1024_S80x1024)) shapeCasts_S80x1024_S1x80x1024 from rfl).trans ?_
  rw [vs16_2 c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 y15, va16_2 c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 y15, vread16 arg6 harg6 x4 x6 160 (by decide) _ _ rfl, r_43_eq c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 y15, r_42_eq c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 y15]
  rw [mo_snd _ _ _ 16 17 rfl]

set_option maxHeartbeats 4000000 in
theorem vs16_3 : (shapeCast S256x1024 (pointRun.sl.v439 (F := F) c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 y15) shapeCasts_S1x1x256x1024_S256x1024) = scr (kbm x3 x5 16) (qbm x2 6#32 7#32) := by
  unfold pointRun.sl.v439 View.readCov
  unfold pointRun.sl.H15_8
  rw [rd_hit]
  refine (shapeCast_shapeCast (scr (shapeCast S256x256 (arg5.view.readAt (Elt F) (Rect.unit (s := S1x256x256) ![0, 0, 0] S1x256x256.size inb_S1x256x256_S1x256x256_0_0_0).toLoadRect (harg5.unread x5)) shapeCasts_S1x256x256_S256x256) (pointRun.sl.v233 (F := F) c arg2 harg2 arg13 x2)) _ _).trans ?_
  rw [v233_eq, kread16]

theorem r_47_eq : (pointRun.sl.r_47 (F := F) c arg2 harg2 arg5 harg5 arg13 x2 x5) = cmx (scr (kbm x3 x5 16) (qbm x2 6#32 7#32)) := by
  unfold pointRun.sl.r_47
  refine (show _ = cmx (scr (shapeCast S256x256 (arg5.view.readAt (Elt F) (Rect.unit (s := S1x256x256) ![0, 0, 0] S1x256x256.size inb_S1x256x256_S1x256x256_0_0_0).toLoadRect (harg5.unread x5)) shapeCasts_S1x256x256_S256x256) (pointRun.sl.v233 (F := F) c arg2 harg2 arg13 x2)) from rfl).trans ?_
  rw [v233_eq, kread16]

set_option maxHeartbeats 4000000 in
theorem r_48_eq : (pointRun.sl.r_48 (F := F) c i arg2 harg2 arg3 harg3 arg4 harg4 arg5 harg5 arg6 harg6 arg7 harg7 arg8 harg8 arg9 harg9 arg10 harg10 arg11 harg11 arg12 harg12 arg13 harg13 arg14 harg14 arg15 harg15 x2 x3 x4 y15) = (mo (kbm x3 x5) (vbm x4 x6 240 (by decide)) (qbm x2 6#32 7#32) 16).1 := by
  unfold pointRun.sl.r_48
  refine (show _ = maximumf ((pointRun.sl.r_27 (F := F) c i arg2 harg2 arg3 harg3 arg4 harg4 arg5 harg5 arg6 harg6 arg7 harg7 arg8 harg8 arg9 harg9 arg10 harg10 arg11 harg11 arg12 harg12 arg13 harg13 arg14 harg14 arg15 harg15 x2 x3 x4 y15)) ((pointRun.sl.r_26 (F := F) c arg2 harg2 arg3 harg3 arg13 x2 x3)) from rfl).trans ?_
  rw [r_27_eq c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 y15, r_26_eq c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 y15]
  rw [mo_fst _ _ _ 15 16 rfl]

set_option maxHeartbeats 4000000 in
theorem va16_3 : (shapeCast S80x1024 (pointRun.sl.v447 (F := F) c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 y15) shapeCasts_S1x80x1024_S80x1024) = (mo (kbm x3 x5) (vbm x4 x6 240 (by decide)) (qbm x2 6#32 7#32) 16).2 := by
  unfold pointRun.sl.v447 View.readCov
  unfold pointRun.sl.H14_11
  rw [rd_miss _ _ _ _ _ _ (by decide)]
  unfold pointRun.sl.H14_10
  rw [rd_miss _ _ _ _ _ _ (by decide)]
  unfold pointRun.sl.H14_9
  rw [rd_miss _ _ _ _ _ _ (by decide)]
  unfold pointRun.sl.H14_8
  rw [rd_hit, piece15_3 c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 y15]
  exact shapeCast_shapeCast _ _ _

set_option maxHeartbeats 4000000 in
theorem piece16_3 : k0_pay152 (pointRun.sl.r_53 c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 y15) (pointRun.sl.r_54 c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 y15) (pointRun.sl.r_55 c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 y15) (View.readAt (Elt F) arg6.view (Rect.unit (s := S1x320x256) ![0, 240, 0] S1x80x256.size inb_S1x320x256_S1x80x256_0_240_0).toLoadRect (harg6.unread x6)) (pointRun.sl.v447 c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 y15) = shapeCast S1x80x1024 (mo (kbm x3 x5) (vbm x4 x6 240 (by decide)) (qbm x2 6#32 7#32) 17).2 shapeCasts_S80x1024_S1x80x1024 := by
  refine (show _ = shapeCast S1x80x1024 (acst ((pointRun.sl.r_48 (F := F) c i arg2 harg2 arg3 harg3 arg4 harg4 arg5 harg5 arg6 harg6 arg7 harg7 arg8 harg8 arg9 harg9 arg10 harg10 arg11 harg11 arg12 harg12 arg13 harg13 arg14 harg14 arg15 harg15 x2 x3 x4 y15)) (maximumf ((pointRun.sl.r_48 (F := F) c i arg2 harg2 arg3 harg3 arg4 harg4 arg5 harg5 arg6 harg6 arg7 harg7 arg8 harg8 arg9 harg9 arg10 harg10 arg11 harg11 arg12 harg12 arg13 harg13 arg14 harg14 arg15 harg15 x2 x3 x4 y15)) ((pointRun.sl.r_47 (F := F) c arg2 harg2 arg5 harg5 arg13 x2 x5))) (shapeCast S256x1024 (pointRun.sl.v439 (F := F) c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 y15) shapeCasts_S1x1x256x1024_S256x1024) (shapeCast S80x256 (arg6.view.readAt (Elt F) (Rect.unit (s := S1x320x256) ![0, 240, 0] S1x80x256.size inb_S1x320x256_S1x80x256_0_240_0).toLoadRect (harg6.unread x6)) shapeCasts_S1x80x256_S80x256) (shapeCast S80x1024 (pointRun.sl.v447 (F := F) c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 y15) shapeCasts_S1x80x1024_S80x1024)) shapeCasts_S80x1024_S1x80x1024 from rfl).trans ?_
  rw [vs16_3 c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 y15, va16_3 c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 y15, vread16 arg6 harg6 x4 x6 240 (by decide) _ _ rfl, r_48_eq c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 y15, r_47_eq c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 y15]
  rw [mo_snd _ _ _ 16 17 rfl]

set_option maxHeartbeats 4000000 in
theorem v456_eq : (pointRun.sl.v456 (F := F) c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 y15) = numm (mo (kbm x3 x5) (vbm x4 x6 0 (by decide)) (qbm x2 0#32 1#32) 17).2 := by
  unfold pointRun.sl.v456 View.readCov
  unfold pointRun.sl.H14_12
  rw [rd_miss _ _ _ _ _ _ (by decide)]
  unfold pointRun.sl.H14_11
  rw [rd_miss _ _ _ _ _ _ (by decide)]
  unfold pointRun.sl.H14_10
  rw [rd_miss _ _ _ _ _ _ (by decide)]
  unfold pointRun.sl.H14_9
  rw [piece16_0 c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 y15]
  funext y
  have b0 : (y 0).val < 1 := (y 0).isLt
  have b1 : (y 1).val < 64 := (y 1).isLt
  refine (rd_at _ _ _ _ _ _ y (ix3 0 ⟨(y 1).val, by omega⟩ ⟨(y 2).val, (y 2).isLt⟩ : S1x80x1024.Idx) fun a => ?_).trans ?_
  · match a with
    | 0 => show 0 + (y 0).val = 0 + 0; omega
    | 1 => show 0 + (y 1).val = 0 + (y 1).val; omega
    | 2 => rfl
  · exact shapeCast_addUnit_at (mo (kbm x3 x5) (vbm x4 x6 0 (by decide)) (qbm x2 0#32 1#32) 17).2 ⟨(y 1).val, by omega⟩ ⟨(y 2).val, (y 2).isLt⟩

set_option maxHeartbeats 4000000 in
theorem v458_eq : (pointRun.sl.v458 (F := F) c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 y15) = denm (mo (kbm x3 x5) (vbm x4 x6 0 (by decide)) (qbm x2 0#32 1#32) 17).2 := by
  unfold pointRun.sl.v458 View.readCov
  unfold pointRun.sl.H14_12
  rw [rd_miss _ _ _ _ _ _ (by decide)]
  unfold pointRun.sl.H14_11
  rw [rd_miss _ _ _ _ _ _ (by decide)]
  unfold pointRun.sl.H14_10
  rw [rd_miss _ _ _ _ _ _ (by decide)]
  unfold pointRun.sl.H14_9
  rw [piece16_0 c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 y15]
  funext y
  have b0 : (y 0).val < 1 := (y 0).isLt
  have b1 : (y 1).val < 1 := (y 1).isLt
  refine (rd_at _ _ _ _ _ _ y (ix3 0 ⟨64, by omega⟩ ⟨(y 2).val, (y 2).isLt⟩ : S1x80x1024.Idx) fun a => ?_).trans ?_
  · match a with
    | 0 => show 0 + (y 0).val = 0 + 0; omega
    | 1 => show 64 + (y 1).val = 0 + 64; omega
    | 2 => rfl
  · exact shapeCast_addUnit_at (mo (kbm x3 x5) (vbm x4 x6 0 (by decide)) (qbm x2 0#32 1#32) 17).2 ⟨64, by omega⟩ ⟨(y 2).val, (y 2).isLt⟩

set_option maxHeartbeats 4000000 in
theorem v483_eq : (pointRun.sl.v483 (F := F) c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 y15) = numm (mo (kbm x3 x5) (vbm x4 x6 80 (by decide)) (qbm x2 2#32 3#32) 17).2 := by
  unfold pointRun.sl.v483 View.readCov
  unfold pointRun.sl.H14_12
  rw [rd_miss _ _ _ _ _ _ (by decide)]
  unfold pointRun.sl.H14_11
  rw [rd_miss _ _ _ _ _ _ (by decide)]
  unfold pointRun.sl.H14_10
  rw [piece16_1 c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 y15]
  funext y
  have b0 : (y 0).val < 1 := (y 0).isLt
  have b1 : (y 1).val < 64 := (y 1).isLt
  refine (rd_at _ _ _ _ _ _ y (ix3 0 ⟨(y 1).val, by omega⟩ ⟨(y 2).val, (y 2).isLt⟩ : S1x80x1024.Idx) fun a => ?_).trans ?_
  · match a with
    | 0 => show 1 + (y 0).val = 1 + 0; omega
    | 1 => show 0 + (y 1).val = 0 + (y 1).val; omega
    | 2 => rfl
  · exact shapeCast_addUnit_at (mo (kbm x3 x5) (vbm x4 x6 80 (by decide)) (qbm x2 2#32 3#32) 17).2 ⟨(y 1).val, by omega⟩ ⟨(y 2).val, (y 2).isLt⟩

set_option maxHeartbeats 4000000 in
theorem v485_eq : (pointRun.sl.v485 (F := F) c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 y15) = denm (mo (kbm x3 x5) (vbm x4 x6 80 (by decide)) (qbm x2 2#32 3#32) 17).2 := by
  unfold pointRun.sl.v485 View.readCov
  unfold pointRun.sl.H14_12
  rw [rd_miss _ _ _ _ _ _ (by decide)]
  unfold pointRun.sl.H14_11
  rw [rd_miss _ _ _ _ _ _ (by decide)]
  unfold pointRun.sl.H14_10
  rw [piece16_1 c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 y15]
  funext y
  have b0 : (y 0).val < 1 := (y 0).isLt
  have b1 : (y 1).val < 1 := (y 1).isLt
  refine (rd_at _ _ _ _ _ _ y (ix3 0 ⟨64, by omega⟩ ⟨(y 2).val, (y 2).isLt⟩ : S1x80x1024.Idx) fun a => ?_).trans ?_
  · match a with
    | 0 => show 1 + (y 0).val = 1 + 0; omega
    | 1 => show 64 + (y 1).val = 0 + 64; omega
    | 2 => rfl
  · exact shapeCast_addUnit_at (mo (kbm x3 x5) (vbm x4 x6 80 (by decide)) (qbm x2 2#32 3#32) 17).2 ⟨64, by omega⟩ ⟨(y 2).val, (y 2).isLt⟩

set_option maxHeartbeats 4000000 in
theorem v510_eq : (pointRun.sl.v510 (F := F) c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 y15) = numm (mo (kbm x3 x5) (vbm x4 x6 160 (by decide)) (qbm x2 4#32 5#32) 17).2 := by
  unfold pointRun.sl.v510 View.readCov
  unfold pointRun.sl.H14_12
  rw [rd_miss _ _ _ _ _ _ (by decide)]
  unfold pointRun.sl.H14_11
  rw [piece16_2 c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 y15]
  funext y
  have b0 : (y 0).val < 1 := (y 0).isLt
  have b1 : (y 1).val < 64 := (y 1).isLt
  refine (rd_at _ _ _ _ _ _ y (ix3 0 ⟨(y 1).val, by omega⟩ ⟨(y 2).val, (y 2).isLt⟩ : S1x80x1024.Idx) fun a => ?_).trans ?_
  · match a with
    | 0 => show 2 + (y 0).val = 2 + 0; omega
    | 1 => show 0 + (y 1).val = 0 + (y 1).val; omega
    | 2 => rfl
  · exact shapeCast_addUnit_at (mo (kbm x3 x5) (vbm x4 x6 160 (by decide)) (qbm x2 4#32 5#32) 17).2 ⟨(y 1).val, by omega⟩ ⟨(y 2).val, (y 2).isLt⟩

set_option maxHeartbeats 4000000 in
theorem v512_eq : (pointRun.sl.v512 (F := F) c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 y15) = denm (mo (kbm x3 x5) (vbm x4 x6 160 (by decide)) (qbm x2 4#32 5#32) 17).2 := by
  unfold pointRun.sl.v512 View.readCov
  unfold pointRun.sl.H14_12
  rw [rd_miss _ _ _ _ _ _ (by decide)]
  unfold pointRun.sl.H14_11
  rw [piece16_2 c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 y15]
  funext y
  have b0 : (y 0).val < 1 := (y 0).isLt
  have b1 : (y 1).val < 1 := (y 1).isLt
  refine (rd_at _ _ _ _ _ _ y (ix3 0 ⟨64, by omega⟩ ⟨(y 2).val, (y 2).isLt⟩ : S1x80x1024.Idx) fun a => ?_).trans ?_
  · match a with
    | 0 => show 2 + (y 0).val = 2 + 0; omega
    | 1 => show 64 + (y 1).val = 0 + 64; omega
    | 2 => rfl
  · exact shapeCast_addUnit_at (mo (kbm x3 x5) (vbm x4 x6 160 (by decide)) (qbm x2 4#32 5#32) 17).2 ⟨64, by omega⟩ ⟨(y 2).val, (y 2).isLt⟩

set_option maxHeartbeats 4000000 in
theorem v537_eq : (pointRun.sl.v537 (F := F) c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 y15) = numm (mo (kbm x3 x5) (vbm x4 x6 240 (by decide)) (qbm x2 6#32 7#32) 17).2 := by
  unfold pointRun.sl.v537 View.readCov
  unfold pointRun.sl.H14_12
  rw [piece16_3 c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 y15]
  funext y
  have b0 : (y 0).val < 1 := (y 0).isLt
  have b1 : (y 1).val < 64 := (y 1).isLt
  refine (rd_at _ _ _ _ _ _ y (ix3 0 ⟨(y 1).val, by omega⟩ ⟨(y 2).val, (y 2).isLt⟩ : S1x80x1024.Idx) fun a => ?_).trans ?_
  · match a with
    | 0 => show 3 + (y 0).val = 3 + 0; omega
    | 1 => show 0 + (y 1).val = 0 + (y 1).val; omega
    | 2 => rfl
  · exact shapeCast_addUnit_at (mo (kbm x3 x5) (vbm x4 x6 240 (by decide)) (qbm x2 6#32 7#32) 17).2 ⟨(y 1).val, by omega⟩ ⟨(y 2).val, (y 2).isLt⟩

set_option maxHeartbeats 4000000 in
theorem v539_eq : (pointRun.sl.v539 (F := F) c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 y15) = denm (mo (kbm x3 x5) (vbm x4 x6 240 (by decide)) (qbm x2 6#32 7#32) 17).2 := by
  unfold pointRun.sl.v539 View.readCov
  unfold pointRun.sl.H14_12
  rw [piece16_3 c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 y15]
  funext y
  have b0 : (y 0).val < 1 := (y 0).isLt
  have b1 : (y 1).val < 1 := (y 1).isLt
  refine (rd_at _ _ _ _ _ _ y (ix3 0 ⟨64, by omega⟩ ⟨(y 2).val, (y 2).isLt⟩ : S1x80x1024.Idx) fun a => ?_).trans ?_
  · match a with
    | 0 => show 3 + (y 0).val = 3 + 0; omega
    | 1 => show 64 + (y 1).val = 0 + 64; omega
    | 2 => rfl
  · exact shapeCast_addUnit_at (mo (kbm x3 x5) (vbm x4 x6 240 (by decide)) (qbm x2 6#32 7#32) 17).2 ⟨64, by omega⟩ ⟨(y 2).val, (y 2).isLt⟩

set_option maxHeartbeats 4000000 in
include y13 y14 in
/-- The block the body stores, for any contents of its scratch buffers. -/
theorem pointRun_fst : (pointRun (F := F) c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 x7 x8 x9 x10 x11 y13 y14 y15).1 = outm x2 x3 x4 x5 x6 x7 x8 x9 x10 x11 := by
  unfold pointRun
  have hr : (pointRun.sl.r (F := F) c arg7 harg7 arg8 harg8 arg9 harg9 arg10 harg10 x7 x8 x9 x10) = k0_pay49 x7 x8 x9 x10 := by
    unfold pointRun.sl.r
    rw [View.readAt_full, harg7.read_unread, View.readAt_full, harg8.read_unread, View.readAt_full, harg9.read_unread, View.readAt_full, harg10.read_unread]
  have h11 : (arg11.view.readAt (Elt F) (Rect.unit (s := S64x1) ![0, 0] S64x1.size inb_S64x1_S64x1_0_0).toLoadRect (harg11.unread x11)) = x11 := by
    rw [View.readAt_full, harg11.read_unread]
  have h0 : (pointRun.sl.r_58 (F := F) c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 x7 x8 x9 x10 x11 y15) = hdm x2 x3 x4 x5 x6 x7 x8 x9 x10 x11 0 (by decide) 0#32 1#32 := by
    unfold pointRun.sl.r_58 pointRun.sl.r_56 pointRun.sl.r_57
    refine (show _ = k0_pay156 (pointRun.sl.r (F := F) c arg7 harg7 arg8 harg8 arg9 harg9 arg10 harg10 x7 x8 x9 x10) (pointRun.sl.v456 (F := F) c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 y15) (pointRun.sl.v458 (F := F) c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 y15) (arg11.view.readAt (Elt F) (Rect.unit (s := S64x1) ![0, 0] S64x1.size inb_S64x1_S64x1_0_0).toLoadRect (harg11.unread x11)) from rfl).trans ?_
    rw [hr, h11, v456_eq c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 y15, v458_eq c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 y15]
    rfl
  have h1 : (pointRun.sl.r_59 (F := F) c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 x7 x8 x9 x10 x11 y15) = hdm x2 x3 x4 x5 x6 x7 x8 x9 x10 x11 80 (by decide) 2#32 3#32 := by
    unfold pointRun.sl.r_59
    rw [hr, h11, v483_eq c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 y15, v485_eq c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 y15]
    rfl
  have h2 : (pointRun.sl.r_62 (F := F) c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 x7 x8 x9 x10 x11 y15) = hdm x2 x3 x4 x5 x6 x7 x8 x9 x10 x11 160 (by decide) 4#32 5#32 := by
    unfold pointRun.sl.r_62 pointRun.sl.r_60 pointRun.sl.r_61
    refine (show _ = k0_pay156 (pointRun.sl.r (F := F) c arg7 harg7 arg8 harg8 arg9 harg9 arg10 harg10 x7 x8 x9 x10) (pointRun.sl.v510 (F := F) c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 y15) (pointRun.sl.v512 (F := F) c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 y15) (arg11.view.readAt (Elt F) (Rect.unit (s := S64x1) ![0, 0] S64x1.size inb_S64x1_S64x1_0_0).toLoadRect (harg11.unread x11)) from rfl).trans ?_
    rw [hr, h11, v510_eq c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 y15, v512_eq c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 y15]
    rfl
  have h3 : mulf (pointRun.sl.r_63 (F := F) c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 x7 x8 x9 x10 x11 y15) (broadcast S64x512 (pointRun.sl.cst_395 (F := F))) = hdm x2 x3 x4 x5 x6 x7 x8 x9 x10 x11 240 (by decide) 6#32 7#32 := by
    unfold pointRun.sl.r_63
    refine (show _ = k0_pay156 (pointRun.sl.r (F := F) c arg7 harg7 arg8 harg8 arg9 harg9 arg10 harg10 x7 x8 x9 x10) (pointRun.sl.v537 (F := F) c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 y15) (pointRun.sl.v539 (F := F) c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 y15) (arg11.view.readAt (Elt F) (Rect.unit (s := S64x1) ![0, 0] S64x1.size inb_S64x1_S64x1_0_0).toLoadRect (harg11.unread x11)) from rfl).trans ?_
    rw [hr, h11, v537_eq c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 y15, v539_eq c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 y15]
    rfl
  show k0_pay1 (pointRun.sl.r_58 (F := F) c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 x7 x8 x9 x10 x11 y15) (pointRun.sl.r_59 (F := F) c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 x7 x8 x9 x10 x11 y15) (pointRun.sl.r_62 (F := F) c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 x7 x8 x9 x10 x11 y15) (pointRun.sl.r_63 (F := F) c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 x7 x8 x9 x10 x11 y15) (pointRun.sl.cst_395 (F := F)) = _
  unfold k0_pay1 outm
  rw [← h0, ← h1, ← h2, ← h3]

end Cert.KernelIdeal.Hand

end
-- ==== Proof.FrameKernelIdeal.lean ====
/- The launch of the attention kernel: every grid point's body meets the pipeline's obligation, so the whole program runs, and leaves in the output window of each point the block `outm` of the point's input blocks. -/
module

public import proofs.«01_k».proof.Proof.RunKernelIdeal
public import Idealize.ShloMosaic.Lib.Pipeline.ValueKit
public import proofs.«01_k».proof.Proof.Post

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The invariant between grid points: the three scratch buffers owned at some contents, and the generator register. -/
theorem PhiA0_eq (c : Dev nD) :
    (Pipeline.ΦA spec0 c : sProp 𝕄)
      = iprop(iprop((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d)) ∗ (∃ r, prngReg c r)) := by
  unfold Pipeline.ΦA; rw [scopedRest0_eq]; simp only [owns_whole]; try rfl

/-- The block the kernel leaves at a point. -/
def oblk (c : Dev nD) (t : Fin cfg0.N) : Vec F S512x256 .bf16 := outm (iblk m c 0 t) (iblk m c 1 t) (iblk m c 2 t) (iblk m c 3 t) (iblk m c 4 t) (iblk m c 5 t) (iblk m c 6 t) (iblk m c 7 t) (iblk m c 8 t) (iblk m c 9 t)

/-- The pipeline's proof data: the arrays as the region finds them; inputs stay, each at its block. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => oblk m c t
    | ⟨_ + 11, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = oblk m c t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d

def bodyPre (c : Dev nD) (t : Fin cfg0.N) : sProp 𝕄 :=
  iprop((dats m 0 c).Φ t.castSucc ∗ (dats m 0 c).owesAt () t.castSucc ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare ((dats m 0 c).before 5 t d)) ∗ (∃ d, owns (c : Thread nD τ) (st0_6 t) fullShare ((dats m 0 c).before 6 t d)) ∗ (∃ d, owns (c : Thread nD τ) (st0_7 t) fullShare ((dats m 0 c).before 7 t d)) ∗ (∃ d, owns (c : Thread nD τ) (st0_8 t) fullShare ((dats m 0 c).before 8 t d)) ∗ (∃ d, owns (c : Thread nD τ) (st0_9 t) fullShare ((dats m 0 c).before 9 t d)) ∗ (∃ d, owns (c : Thread nD τ) (st0_10 t) fullShare ((dats m 0 c).before 10 t d)))
def bodyPost (c : Dev nD) (t : Fin cfg0.N) : sProp 𝕄 :=
  iprop((dats m 0 c).Φ t.succ ∗ (dats m 0 c).owesAt () t.succ ∗ owns (c : Thread nD τ) (st0_0 t) fullShare ((dats m 0 c).after 0 t) ∗ owns (c : Thread nD τ) (st0_1 t) fullShare ((dats m 0 c).after 1 t) ∗ owns (c : Thread nD τ) (st0_2 t) fullShare ((dats m 0 c).after 2 t) ∗ owns (c : Thread nD τ) (st0_3 t) fullShare ((dats m 0 c).after 3 t) ∗ owns (c : Thread nD τ) (st0_4 t) fullShare ((dats m 0 c).after 4 t) ∗ owns (c : Thread nD τ) (st0_5 t) fullShare ((dats m 0 c).after 5 t) ∗ owns (c : Thread nD τ) (st0_6 t) fullShare ((dats m 0 c).after 6 t) ∗ owns (c : Thread nD τ) (st0_7 t) fullShare ((dats m 0 c).after 7 t) ∗ owns (c : Thread nD τ) (st0_8 t) fullShare ((dats m 0 c).after 8 t) ∗ owns (c : Thread nD τ) (st0_9 t) fullShare ((dats m 0 c).after 9 t) ∗ owns (c : Thread nD τ) (st0_10 t) fullShare ((dats m 0 c).after 10 t))

set_option maxHeartbeats 1000000 in
/-- The body at any point, from the invariant and the staged blocks to the same with the output stored. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9]
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl, PhiA0_eq,
    after0_0, after0_1, after0_2, after0_3, after0_4, after0_5, after0_6, after0_7, after0_8, after0_9, after0_10]
  iintro ⟨⟨⟨⟨%d13, HA⟩, ⟨%d14, HB⟩, ⟨%d15, HC⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  rw [show oblk m c t = (pointRun (F := F) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (Memref.whole cc0_scratch0) (Memref.isWhole_whole _) (Memref.whole cc0_scratch1) (Memref.isWhole_whole _) (Memref.whole cc0_scratch2) (Memref.isWhole_whole _) (iblk m c 0 t) (iblk m c 1 t) (iblk m c 2 t) (iblk m c 3 t) (iblk m c 4 t) (iblk m c 5 t) (iblk m c 6 t) (iblk m c 7 t) (iblk m c 8 t) (iblk m c 9 t) d13 d14 d15).1 from (pointRun_fst ..).symm]
  iapply ((pointRun (F := F) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (Memref.whole cc0_scratch0) (Memref.isWhole_whole _) (Memref.whole cc0_scratch1) (Memref.isWhole_whole _) (Memref.whole cc0_scratch2) (Memref.isWhole_whole _) (iblk m c 0 t) (iblk m c 1 t) (iblk m c 2 t) (iblk m c 3 t) (iblk m c 4 t) (iblk m c 5 t) (iblk m c 6 t) (iblk m c 7 t) (iblk m c 8 t) (iblk m c 9 t) d13 d14 d15).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [HA]; · iexact HA
  isplitl [HB]; · iexact HB
  isplitl [HC]; · iexact HC
  iintro ⟨H0, H1, H2, H3, H4, H5, H6, H7, H8, H9, H10, HA, HB, HC⟩
  isplitl [HA HB HC Hg]
  · isplitl [HA HB HC]
    · isplitl [HA]; · iexact HA
      isplitl [HB]; · iexact HB
      iexact HC
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The launch: the program runs to the pipeline's post, every counter at zero at the end. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The arguments end as they began. -/
theorem args_kept {r : PUnit × MemSt nD τ sig (Elt F)} (h : (Pipeline.FramePost cfgs (dats m) 0 (V m)) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c)⟩

/-- The frame: the program runs, its arguments end unchanged, every counter at zero. -/
theorem frame_quiescent : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) ∧ r.2.sem = fun _ => 0) :=
  (θ_run defs _ _).mono (fun _ h => ⟨fun c => args_kept m h.1 c, h.2⟩) (run_main_quiescent m ρ)

end Cert.KernelIdeal.Hand

end
-- ==== Proof.Soft.lean ====
/- The running softmax of one head, read at an index over the extended reals: scores, weights and the weighted sums as real numbers. -/
module

public import proofs.«01_k».proof.Proof.Model
public import Idealize.ShloMosaic.Lib.Pointwise
public import Idealize.ShloMosaic.Lib.Pipeline.ValueKit

@[expose] public section

set_option maxRecDepth 16384

noncomputable section

namespace Cert.KernelIdeal.Hand

open Cert.KernelIdeal.Gen
open Idealize.ShloMosaic Idealize.ShloMosaic.TcCoe Idealize.ShloMosaic.Tactic

/-- A finite sum of reals, read as an extended real. -/
theorem sum_coe {ι : Type} (s : Finset ι) (f : ι → ℝ) : (∑ x ∈ s, (f x : EReal)) = ((∑ x ∈ s, f x : ℝ) : EReal) := by
  classical
  induction s using Finset.induction_on with
  | empty => simp
  | insert a s h ih => rw [Finset.sum_insert h, Finset.sum_insert h, ih, EReal.coe_add]

/-- The greater of two reals. -/
theorem coe_max' (a b : ℝ) : ((max a b : ℝ) : EReal) = max (a : EReal) (b : EReal) := EReal.coe_strictMono.monotone.map_max

theorem lit_neginf : Ideal.ofBits .f32 0xFF800000#32 = (⊥ : EReal) := by simp [Ideal.ofBits, Ideal.ieee]

/-- The greatest of finitely many reals, at least one, is a real. -/
theorem fold_max_real {n : ℕ} (f : Fin (n + 1) → ℝ) :
    ∃ M : ℝ, Finset.fold max (⊥ : EReal) (fun x => (f x : EReal)) Finset.univ = (M : EReal) := by
  classical
  have h : ∀ s : Finset (Fin (n + 1)), s.Nonempty → ∃ M : ℝ, Finset.fold max (⊥ : EReal) (fun x => (f x : EReal)) s = (M : EReal) := by
    intro s hs
    induction hs using Finset.Nonempty.cons_induction with
    | singleton a => exact ⟨f a, by rw [Finset.fold_singleton]; exact max_eq_left bot_le⟩
    | cons a s ha hs ih =>
      obtain ⟨M, hM⟩ := ih
      refine ⟨max (f a) M, ?_⟩
      rw [Finset.fold_cons, hM, coe_max']
  exact h _ Finset.univ_nonempty

/-- The real scores of a chunk. -/
theorem scr_val (kb : FVec Ideal S256x256 .bf16) (qb : Vec Ideal S256x1024 .bf16) (K : Fin 256 → Fin 256 → ℝ) (Q : Fin 256 → ℝ) (w : Fin 1024)
    (hk : ∀ j x, kb (ix2 j x : S256x256.Idx) = (K j x : EReal)) (hq : ∀ x, qb (ix2 x w : S256x1024.Idx) = (Q x : EReal)) (j : Fin 256) :
    scr kb qb (ix2 j w : S256x1024.Idx) = ((∑ x, K j x * Q x : ℝ) : EReal) := by
  pointwise [scr]
  simp only [hk, hq, ← EReal.coe_mul]
  exact sum_coe _ _

theorem cmx_val (s : FVec Ideal S256x1024 .f32) (S : Fin 256 → ℝ) (w : Fin 1024) (hs : ∀ j, s (ix2 j w : S256x1024.Idx) = (S j : EReal)) :
    ∃ M : ℝ, cmx s (ix2 0 w : S1x1024.Idx) = (M : EReal) := by
  pointwise [cmx]
  simp only [hs, lit_neginf]
  exact fold_max_real S

theorem exp2_sub (a b : ℝ) : FloatOps.exp2 (F := Ideal) (φ := .f32) ((a : EReal) - (b : EReal) : EReal) = (((2 : ℝ) ^ (a - b) : ℝ) : EReal) := by
  rw [← EReal.coe_sub]; rfl

theorem exp2_sub' (a b : ℝ) : FloatOps.exp2 (F := Ideal) (φ := .bf16) ((a : EReal) - (b : EReal) : EReal) = (((2 : ℝ) ^ (a - b) : ℝ) : EReal) := by
  rw [← EReal.coe_sub]; rfl

theorem acst_val (m m' : FVec Ideal S1x1024 .f32) (s : FVec Ideal S256x1024 .f32) (vb : FVec Ideal S80x256 .bf16) (a : FVec Ideal S80x1024 .f32)
    (r : Fin 80) (w : Fin 1024) (M M' A : ℝ) (S V : Fin 256 → ℝ) (hm : m (ix2 0 w : S1x1024.Idx) = (M : EReal)) (hm' : m' (ix2 0 w : S1x1024.Idx) = (M' : EReal))
    (hs : ∀ j, s (ix2 j w : S256x1024.Idx) = (S j : EReal)) (hv : ∀ j, vb (ix2 r j : S80x256.Idx) = (V j : EReal)) (ha : a (ix2 r w : S80x1024.Idx) = (A : EReal)) :
    acst m m' s vb a (ix2 r w : S80x1024.Idx) = (((2 : ℝ) ^ (M - M') * A + ∑ j, V j * (2 : ℝ) ^ (S j - M') : ℝ) : EReal) := by
  pointwise [acst, wts]
  simp only [hs, hm, hm', hv, ha]
  rw [EReal.coe_add, EReal.coe_mul, ← sum_coe]
  refine congrArg₂ (· + ·) (congrArg₂ (· * ·) (exp2_sub _ _) rfl) (Finset.sum_congr rfl fun j _ => ?_)
  rw [EReal.coe_mul]
  exact congrArg₂ (· * ·) rfl (exp2_sub' _ _)

theorem lit_neg : ∃ M : ℝ, Ideal.ofBits .f32 0xF149F2CA#32 = (M : EReal) := by
  simp [Ideal.ofBits, Ideal.ieee, -EReal.coe_mul]
  exact ⟨_, (EReal.coe_neg _).symm⟩

theorem lit_zero : Ideal.ofBits .f32 0x00000000#32 = (0 : EReal) := by simp [Ideal.ofBits, Ideal.ieee]

theorem pow_shift (x a b : ℝ) : (2 : ℝ) ^ (a - b) * (2 : ℝ) ^ (x - a) = (2 : ℝ) ^ (x - b) := by
  rw [← Real.rpow_add (by norm_num)]; congr 1; ring

/-- The state of the running softmax after `n` chunks, in one row and one column: some real maximum, and the weights' sum relative to it. -/
theorem mo_val (kb : ℕ → FVec Ideal S256x256 .bf16) (vb : ℕ → FVec Ideal S80x256 .bf16) (qb : Vec Ideal S256x1024 .bf16)
    (K : ℕ → Fin 256 → Fin 256 → ℝ) (Q : Fin 256 → ℝ) (w : Fin 1024)
    (hk : ∀ n j x, kb n (ix2 j x : S256x256.Idx) = (K n j x : EReal)) (hq : ∀ x, qb (ix2 x w : S256x1024.Idx) = (Q x : EReal)) (n : ℕ) :
    ∃ M : ℝ, (mo kb vb qb n).1 (ix2 0 w : S1x1024.Idx) = (M : EReal) ∧
      ∀ (r : Fin 80) (V : ℕ → Fin 256 → ℝ), (∀ n j, vb n (ix2 r j : S80x256.Idx) = (V n j : EReal)) →
        (mo kb vb qb n).2 (ix2 r w : S80x1024.Idx)
          = ((∑ c ∈ Finset.range n, ∑ j, V c j * (2 : ℝ) ^ ((∑ x, K c j x * Q x) - M) : ℝ) : EReal) := by
  induction n with
  | zero =>
    obtain ⟨M, hM⟩ := lit_neg
    refine ⟨M, hM, fun r V _ => ?_⟩
    rw [Finset.sum_range_zero]
    exact lit_zero
  | succ n ih =>
    obtain ⟨M, hM, hA⟩ := ih
    have hs := scr_val (kb n) qb (K n) Q w (hk n) hq
    obtain ⟨C, hC⟩ := cmx_val (scr (kb n) qb) _ w hs
    have hM' : maximumf (mo kb vb qb n).1 (cmx (scr (kb n) qb)) (ix2 0 w : S1x1024.Idx) = ((max M C : ℝ) : EReal) := by
      rw [coe_max', ← hM, ← hC]; rfl
    refine ⟨max M C, by rw [mo_succ]; exact hM', fun r V hV => ?_⟩
    rw [mo_succ]
    refine (acst_val _ _ _ _ _ r w M (max M C) _ _ (V n) hM hM' hs (hV n) (hA r V hV)).trans ?_
    rw [Finset.sum_range_succ]
    refine congrArg (fun x : ℝ => (x : EReal)) (congrArg₂ (· + ·) ?_ rfl)
    rw [Finset.mul_sum]
    refine Finset.sum_congr rfl fun c _ => ?_
    rw [Finset.mul_sum]
    refine Finset.sum_congr rfl fun j _ => ?_
    exact (mul_left_comm _ _ _).trans (congrArg (V c j * ·) (pow_shift _ M (max M C)))

/-- Where row 64 holds ones, the accumulator's row over row 64 is the softmax average. -/
theorem ratio_val (kb : ℕ → FVec Ideal S256x256 .bf16) (vb : ℕ → FVec Ideal S80x256 .bf16) (qb : Vec Ideal S256x1024 .bf16)
    (K : ℕ → Fin 256 → Fin 256 → ℝ) (Q : Fin 256 → ℝ) (w : Fin 1024)
    (hk : ∀ n j x, kb n (ix2 j x : S256x256.Idx) = (K n j x : EReal)) (hq : ∀ x, qb (ix2 x w : S256x1024.Idx) = (Q x : EReal))
    (h1 : ∀ n j, vb n (ix2 ⟨64, by decide⟩ j : S80x256.Idx) = ((1 : ℝ) : EReal))
    (r : Fin 80) (V : ℕ → Fin 256 → ℝ) (hV : ∀ n j, vb n (ix2 r j : S80x256.Idx) = (V n j : EReal)) (n : ℕ) :
    Ideal.div ((mo kb vb qb (n + 1)).2 (ix2 r w : S80x1024.Idx)) ((mo kb vb qb (n + 1)).2 (ix2 ⟨64, by decide⟩ w : S80x1024.Idx))
      = (((∑ c ∈ Finset.range (n + 1), ∑ j, V c j * (2 : ℝ) ^ (∑ x, K c j x * Q x))
          / (∑ c ∈ Finset.range (n + 1), ∑ j, (2 : ℝ) ^ (∑ x, K c j x * Q x)) : ℝ) : EReal) := by
  obtain ⟨M, -, hA⟩ := mo_val kb vb qb K Q w hk hq (n + 1)
  rw [hA r V hV, hA ⟨64, by decide⟩ (fun _ _ => 1) h1]
  have pull : ∀ U : ℕ → Fin 256 → ℝ, (∑ c ∈ Finset.range (n + 1), ∑ j, U c j * (2 : ℝ) ^ ((∑ x, K c j x * Q x) - M))
      = (2 : ℝ) ^ (-M) * ∑ c ∈ Finset.range (n + 1), ∑ j, U c j * (2 : ℝ) ^ (∑ x, K c j x * Q x) := by
    intro U
    rw [Finset.mul_sum]
    refine Finset.sum_congr rfl fun c _ => ?_
    rw [Finset.mul_sum]
    refine Finset.sum_congr rfl fun j _ => ?_
    rw [sub_eq_add_neg, Real.rpow_add (by norm_num)]; ring
  have p2 : (0 : ℝ) < (2 : ℝ) ^ (-M) := Real.rpow_pos_of_pos (by norm_num) _
  have pos : (0 : ℝ) < ∑ c ∈ Finset.range (n + 1), ∑ j, (2 : ℝ) ^ (∑ x, K c j x * Q x) := by
    refine Finset.sum_pos (fun c _ => Finset.sum_pos (fun j _ => Real.rpow_pos_of_pos (by norm_num) _) Finset.univ_nonempty) ⟨0, by simp⟩
  rw [pull, pull]
  simp only [one_mul]
  rw [Ideal.div_coe (by positivity), ← EReal.coe_mul]
  congr 1
  field_simp

end Cert.KernelIdeal.Hand

end
-- ==== Proof.Spec.lean ====
/- Differential attention over the reals: the two softmax maps of a head, their difference, and the normalized result. -/
module

public import proofs.«01_k».proof.Proof.Soft

@[expose] public section

set_option maxRecDepth 16384

noncomputable section

namespace Cert.Spec

open Idealize.ShloMosaic Idealize.ShloMosaic.TcCoe Idealize.ShloMosaic.Tactic

/-- The arrays as reals. -/
structure Data where
  q : Fin 8 → Fin 4096 → Fin 256 → ℝ
  k : Fin 8 → Fin 4096 → Fin 256 → ℝ
  v : Fin 8 → Fin 4096 → Fin 256 → ℝ
  cx : Fin 2048 → Fin 768 → ℝ
  l1 : Fin 32 → ℝ
  l2 : Fin 32 → ℝ
  l3 : Fin 32 → ℝ
  l4 : Fin 32 → ℝ

variable (D : Data)

/-- A key: of the sequence first, of the context after. -/
def key (b : Fin 8) (j : Fin 4352) (x : Fin 256) : ℝ :=
  if h : j.val < 4096 then D.k b ⟨j.val, h⟩ x else D.cx ⟨b.val * 256 + (j.val - 4096), by omega⟩ ⟨256 + x.val, by omega⟩

/-- A value, in the same order. -/
def val (b : Fin 8) (j : Fin 4352) (x : Fin 256) : ℝ :=
  if h : j.val < 4096 then D.v b ⟨j.val, h⟩ x else D.cx ⟨b.val * 256 + (j.val - 4096), by omega⟩ ⟨512 + x.val, by omega⟩

/-- The logit of map `mm` of head `h`. -/
def lg (b : Fin 8) (h : Fin 4) (mm : Fin 2) (s : Fin 4096) (j : Fin 4352) : ℝ :=
  (∑ e : Fin 32, D.q b s ⟨h.val * 64 + mm.val * 32 + e.val, by omega⟩ * key D b j ⟨h.val * 64 + mm.val * 32 + e.val, by omega⟩) / Real.sqrt 32

/-- The softmax average of the values under one map. -/
def soft (b : Fin 8) (h : Fin 4) (mm : Fin 2) (s : Fin 4096) (d : Fin 64) : ℝ :=
  (∑ j : Fin 4352, val D b j ⟨h.val * 64 + d.val, by omega⟩ * Real.exp (lg D b h mm s j)) / ∑ j : Fin 4352, Real.exp (lg D b h mm s j)

/-- The weight of the second map. -/
def lam : ℝ := Real.exp (∑ e, D.l1 e * D.l2 e) - Real.exp (∑ e, D.l3 e * D.l4 e) + (Ideal.ofBits .f32 0x3E4CCCCD#32).toReal

/-- The head's output before normalization. -/
def out (b : Fin 8) (h : Fin 4) (s : Fin 4096) (d : Fin 64) : ℝ := soft D b h 0 s d - lam D * soft D b h 1 s d

/-- The head's output normalized, times its gain and the constant. -/
def res (b : Fin 8) (h : Fin 4) (s : Fin 4096) (d : Fin 64) (g : EReal) : EReal :=
  (out D b h s d : EReal) * Ideal.rsqrt (Ideal.div (∑ x : Fin 64, (out D b h s x : EReal) * (out D b h s x : EReal)) (Ideal.ofBits .f32 0x42800000#32)
    + Ideal.ofBits .f32 0x358637BD#32) * g * Ideal.ofBits .f32 0x3F4CCCCD#32

theorem lit_lam : Ideal.ofBits .f32 0x3E4CCCCD#32 = (((Ideal.ofBits .f32 0x3E4CCCCD#32).toReal : ℝ) : EReal) := by
  have h : ∃ x : ℝ, Ideal.ofBits .f32 0x3E4CCCCD#32 = (x : EReal) := by
    simp [Ideal.ofBits, Ideal.ieee, -EReal.coe_mul]
  obtain ⟨x, hx⟩ := h
  rw [hx]; rfl

theorem exp_pos (b : Fin 8) (h : Fin 4) (mm : Fin 2) (s : Fin 4096) : 0 < ∑ j : Fin 4352, Real.exp (lg D b h mm s j) :=
  Finset.sum_pos (fun _ _ => Real.exp_pos _) ⟨⟨0, by omega⟩, Finset.mem_univ _⟩

/-- A sum over seventeen chunks of 256 keys is the sum over all keys. -/
theorem sum_chunks (f : Fin 4352 → ℝ) (g : ℕ → Fin 256 → ℝ) (hg : ∀ (c : Fin 17) (j : Fin 256), g c.val j = f ⟨c.val * 256 + j.val, by omega⟩) :
    ∑ c ∈ Finset.range 17, ∑ j, g c j = ∑ j, f j := by
  rw [Finset.sum_range (fun c => ∑ j, g c j), ← Fintype.sum_prod_type']
  refine Fintype.sum_equiv (finProdFinEquiv (m := 17) (n := 256)) _ _ fun p => ?_
  rw [hg]
  exact congrArg f (Fin.ext (by simp [finProdFinEquiv]; omega))

/-- A power of two of a scaled sum is an exponential. -/
theorem two_pow (t : ℝ) : (2 : ℝ) ^ (t * ((Real.sqrt 32)⁻¹ * (Real.log 2)⁻¹)) = Real.exp (t / Real.sqrt 32) := by
  rw [Real.rpow_def_of_pos (by norm_num)]
  congr 1
  have : Real.log 2 ≠ 0 := (Real.log_pos (by norm_num)).ne'
  field_simp

/-- A sum against queries that vanish outside one block of thirty-two rows. -/
theorem sum_masked (K q : Fin 256 → ℝ) (n : Fin 8) (a : ℝ) :
    ∑ x : Fin 256, K x * (if x.val / 32 = n.val then q x * a else 0)
      = (∑ e : Fin 32, q ⟨n.val * 32 + e.val, by omega⟩ * K ⟨n.val * 32 + e.val, by omega⟩) * a := by
  have h1 : ∑ x : Fin 256, K x * (if x.val / 32 = n.val then q x * a else 0)
      = ∑ p : Fin 8 × Fin 32, K ⟨p.1.val * 32 + p.2.val, by omega⟩ * (if p.1 = n then q ⟨p.1.val * 32 + p.2.val, by omega⟩ * a else 0) := by
    refine (Fintype.sum_equiv (finProdFinEquiv (m := 8) (n := 32)) _ _ fun p => ?_).symm
    have hp : finProdFinEquiv p = (⟨p.1.val * 32 + p.2.val, by omega⟩ : Fin 256) := Fin.ext (by simp [finProdFinEquiv]; omega)
    rw [hp]
    have hd : (p.1.val * 32 + p.2.val) / 32 = p.1.val := by omega
    simp only [hd, Fin.ext_iff]
  rw [h1, Fintype.sum_prod_type, Finset.sum_eq_single n]
  · rw [Finset.sum_mul]
    refine Finset.sum_congr rfl fun e _ => ?_
    simp only [if_true]; ring
  · intro b _ hb
    simp [hb]
  · intro h; exact absurd (Finset.mem_univ n) h

end Cert.Spec

end
-- ==== Proof.BlockVal.lean ====
/- The blocks the body works on, read at an index over the extended reals. -/
module

public import proofs.«01_k».proof.Proof.Post
public import proofs.«01_k».proof.Proof.Spec

@[expose] public section

set_option maxRecDepth 16384

noncomputable section

namespace Cert.KernelIdeal.Hand

open Cert.KernelIdeal.Gen
open Idealize.ShloMosaic Idealize.ShloMosaic.TcCoe Idealize.ShloMosaic.Tactic

open Cert.Spec

theorem rowh_dec : ∀ x : Fin 256, Scalar.select
      (IntOp.andi
        (IntOp.cmpi CmpIPredicate.ne
          (IntOp.subi (BitVec.setWidth 32 (IntOp.cmpi CmpIPredicate.sgt (BitVec.ofNat 32 ↑x) 0#32))
            (BitVec.setWidth 32 (IntOp.cmpi CmpIPredicate.slt (BitVec.ofNat 32 ↑x) 0#32)))
          (Scalar.subi 1#32 0#32))
        (IntOp.cmpi CmpIPredicate.ne (IntOp.remsi ArithUnit.vector (BitVec.ofNat 32 ↑x) 32#32) 0#32))
      (IntOp.subi (IntOp.divsi ArithUnit.vector (BitVec.ofNat 32 ↑x) 32#32) 1#32)
      (IntOp.divsi ArithUnit.vector (BitVec.ofNat 32 ↑x) 32#32) =
    BitVec.ofNat 32 (↑x / 32) := by decide +kernel

theorem rowh_at (x : Fin 256) (w : Fin 512) : rowh (ix2 x w : S256x512.Idx) = BitVec.ofNat 32 (x.val / 32) := by
  pointwise [rowh, k0_pay53, k0_pay51, k0_pay52]
  exact rowh_dec x

theorem qscale_val : Named.named (F := Ideal) (φ := .f32) κ "qscale" 0x3E8293EE#32 = (((Real.sqrt 32)⁻¹ * (Real.log 2)⁻¹ : ℝ) : EReal) := rfl

theorem qmask_at (x2 : Vec Ideal S1x256x512 .f32) (j : ℕ) (hj : j < 8) (x : Fin 256) (w : Fin 512) :
    qmask x2 (BitVec.ofNat 32 j) (ix2 x w : S256x512.Idx) = if x.val / 32 = j then x2 (ix3 0 x w : S1x256x512.Idx) * (((Real.sqrt 32)⁻¹ * (Real.log 2)⁻¹ : ℝ) : EReal) else 0 := by
  have e : qmask x2 (BitVec.ofNat 32 j) (ix2 x w : S256x512.Idx) = Scalar.select (IntOp.cmpi CmpIPredicate.eq (rowh (ix2 x w : S256x512.Idx)) (BitVec.ofNat 32 j))
      (x2 (ix3 0 x w : S1x256x512.Idx) * Named.named (F := Ideal) (φ := .f32) κ "qscale" 0x3E8293EE#32) 0 := by
    generalize BitVec.ofNat 32 j = J
    pointwise [qmask, k0_pay50, k0_pay54]
  rw [e, rowh_at, qscale_val]
  have hc : ∀ (a : Fin 8) (b : Fin 8), (IntOp.cmpi CmpIPredicate.eq (BitVec.ofNat 32 a.val) (BitVec.ofNat 32 b.val) = 1#1) = (a.val = b.val) := by decide +kernel
  have := hc ⟨x.val / 32, by omega⟩ ⟨j, hj⟩
  show (if _ = 1#1 then _ else _) = _
  simp only [this]

theorem window4_at {α : Type} (x : S1x16x256x256.Idx → α) (n : ℕ) (h : n < 16) (j y : Fin 256) :
    VecWindow.window x ![0, n, 0, 0] S1x1x256x256.size (inbK n h) (ix4 0 0 j y : S1x1x256x256.Idx) = x (ix4 0 ⟨n, h⟩ j y : S1x16x256x256.Idx) := by
  unfold VecWindow.window
  refine congrArg x (funext fun a => Fin.ext ?_)
  match a with
  | 0 => rfl
  | 1 => show n + 1 * 0 = n; omega
  | 2 => show 0 + 1 * j.val = j.val; omega
  | 3 => show 0 + 1 * y.val = y.val; omega

theorem windowV_at {α : Type} (x : S1x16x320x256.Idx → α) (n r : ℕ) (h : n < 16) (hr : r + 80 ≤ 320) (d : Fin 80) (y : Fin 256) :
    VecWindow.window x ![0, n, r, 0] S1x1x80x256.size (inbV n r h hr) (ix4 0 0 d y : S1x1x80x256.Idx) = x (ix4 0 ⟨n, h⟩ ⟨r + d.val, by omega⟩ y : S1x16x320x256.Idx) := by
  unfold VecWindow.window
  refine congrArg x (funext fun a => Fin.ext ?_)
  match a with
  | 0 => rfl
  | 1 => show n + 1 * 0 = n; omega
  | 2 => show r + 1 * d.val = r + d.val; omega
  | 3 => show 0 + 1 * y.val = y.val; omega

theorem windowW_at {α : Type} (x : S1x320x256.Idx → α) (r : ℕ) (hr : r + 80 ≤ 320) (d : Fin 80) (y : Fin 256) :
    VecWindow.window x ![0, r, 0] S1x80x256.size (inbW r hr) (ix3 0 d y : S1x80x256.Idx) = x (ix3 0 ⟨r + d.val, by omega⟩ y : S1x320x256.Idx) := by
  unfold VecWindow.window
  refine congrArg x (funext fun a => Fin.ext ?_)
  match a with
  | 0 => rfl
  | 1 => show r + 1 * d.val = r + d.val; omega
  | 2 => show 0 + 1 * y.val = y.val; omega

theorem cast4_at {α : Type} (W : S1x1x256x256.Idx → α) (j x : Fin 256) :
    shapeCast S256x256 W shapeCasts_S1x1x256x256_S256x256 (ix2 j x : S256x256.Idx) = W (ix4 0 0 j x : S1x1x256x256.Idx) := by pointwise []

theorem castV_at {α : Type} (W : S1x1x80x256.Idx → α) (d : Fin 80) (x : Fin 256) :
    shapeCast S80x256 W shapeCasts_S1x1x80x256_S80x256 (ix2 d x : S80x256.Idx) = W (ix4 0 0 d x : S1x1x80x256.Idx) := by pointwise []

theorem castW_at {α : Type} (W : S1x80x256.Idx → α) (d : Fin 80) (x : Fin 256) :
    shapeCast S80x256 W shapeCasts_S1x80x256_S80x256 (ix2 d x : S80x256.Idx) = W (ix3 0 d x : S1x80x256.Idx) := by pointwise []

theorem kbm_lo (x3 : Vec Ideal S1x16x256x256 .bf16) (x5 : Vec Ideal S1x256x256 .bf16) (n : ℕ) (h : n < 16) (j x : Fin 256) :
    kbm x3 x5 n (ix2 j x : S256x256.Idx) = x3 (ix4 0 ⟨n, h⟩ j x : S1x16x256x256.Idx) := by
  unfold kbm
  rw [dif_pos h]
  exact (cast4_at _ j x).trans (window4_at x3 n h j x)

theorem kbm_hi (x3 : Vec Ideal S1x16x256x256 .bf16) (x5 : Vec Ideal S1x256x256 .bf16) (n : ℕ) (h : ¬ n < 16) (j x : Fin 256) :
    kbm x3 x5 n (ix2 j x : S256x256.Idx) = x5 (ix3 0 j x : S1x256x256.Idx) := by
  unfold kbm
  rw [dif_neg h]
  pointwise []

theorem vbm_lo (x4 : Vec Ideal S1x16x320x256 .bf16) (x6 : Vec Ideal S1x320x256 .bf16) (r : ℕ) (hr : r + 80 ≤ 320) (n : ℕ) (h : n < 16) (d : Fin 80) (j : Fin 256) :
    vbm x4 x6 r hr n (ix2 d j : S80x256.Idx) = x4 (ix4 0 ⟨n, h⟩ ⟨r + d.val, by omega⟩ j : S1x16x320x256.Idx) := by
  unfold vbm
  rw [dif_pos h]
  exact (castV_at _ d j).trans (windowV_at x4 n r h hr d j)

theorem vbm_hi (x4 : Vec Ideal S1x16x320x256 .bf16) (x6 : Vec Ideal S1x320x256 .bf16) (r : ℕ) (hr : r + 80 ≤ 320) (n : ℕ) (h : ¬ n < 16) (d : Fin 80) (j : Fin 256) :
    vbm x4 x6 r hr n (ix2 d j : S80x256.Idx) = x6 (ix3 0 ⟨r + d.val, by omega⟩ j : S1x320x256.Idx) := by
  unfold vbm
  rw [dif_neg h]
  exact (castW_at _ d j).trans (windowW_at x6 r hr d j)

end Cert.KernelIdeal.Hand

end
-- ==== Proof.HeadVal.lean ====
/- The block a grid point stores, over the extended reals, is the normalized differential attention of its queries. -/
module

public import proofs.«01_k».proof.Proof.BlockVal

@[expose] public section

set_option maxRecDepth 16384

noncomputable section

namespace Cert.KernelIdeal.Hand

open Cert.KernelIdeal.Gen
open Idealize.ShloMosaic Idealize.ShloMosaic.TcCoe Idealize.ShloMosaic.Tactic

open Cert.Spec

/-- The ten blocks of a grid point hold the reals `D`, for the batch `b` and the block `n` of queries. -/
structure BHolds (D : Data) (b n : Fin 8) (x2 : Vec Ideal S1x256x512 .f32) (x3 : Vec Ideal S1x16x256x256 .bf16) (x4 : Vec Ideal S1x16x320x256 .bf16)
    (x5 : Vec Ideal S1x256x256 .bf16) (x6 : Vec Ideal S1x320x256 .bf16) (x7 x8 x9 x10 : Vec Ideal S1x32 .f32) : Prop where
  h2 : ∀ (x : Fin 256) (w : Fin 512), x2 (ix3 0 x w : S1x256x512.Idx) = (D.q b ⟨n.val * 512 + w.val, by omega⟩ x : EReal)
  h3 : ∀ (c : Fin 16) (j x : Fin 256), x3 (ix4 0 c j x : S1x16x256x256.Idx) = (D.k b ⟨c.val * 256 + j.val, by omega⟩ x : EReal)
  h4 : ∀ (c : Fin 16) (h : Fin 4) (d : Fin 64) (j : Fin 256), x4 (ix4 0 c ⟨h.val * 80 + d.val, by omega⟩ j : S1x16x320x256.Idx)
    = (D.v b ⟨c.val * 256 + j.val, by omega⟩ ⟨h.val * 64 + d.val, by omega⟩ : EReal)
  h4' : ∀ (c : Fin 16) (h : Fin 4) (j : Fin 256), x4 (ix4 0 c ⟨h.val * 80 + 64, by omega⟩ j : S1x16x320x256.Idx) = ((1 : ℝ) : EReal)
  h5 : ∀ (j x : Fin 256), x5 (ix3 0 j x : S1x256x256.Idx) = (D.cx ⟨b.val * 256 + j.val, by omega⟩ ⟨256 + x.val, by omega⟩ : EReal)
  h6 : ∀ (h : Fin 4) (d : Fin 64) (j : Fin 256), x6 (ix3 0 ⟨h.val * 80 + d.val, by omega⟩ j : S1x320x256.Idx)
    = (D.cx ⟨b.val * 256 + j.val, by omega⟩ ⟨512 + (h.val * 64 + d.val), by omega⟩ : EReal)
  h6' : ∀ (h : Fin 4) (j : Fin 256), x6 (ix3 0 ⟨h.val * 80 + 64, by omega⟩ j : S1x320x256.Idx) = ((1 : ℝ) : EReal)
  h7 : ∀ e, x7 (ix2 0 e : S1x32.Idx) = (D.l1 e : EReal)
  h8 : ∀ e, x8 (ix2 0 e : S1x32.Idx) = (D.l2 e : EReal)
  h9 : ∀ e, x9 (ix2 0 e : S1x32.Idx) = (D.l3 e : EReal)
  h10 : ∀ e, x10 (ix2 0 e : S1x32.Idx) = (D.l4 e : EReal)

variable {D : Data} {b n : Fin 8} {x2 : Vec Ideal S1x256x512 .f32} {x3 : Vec Ideal S1x16x256x256 .bf16} {x4 : Vec Ideal S1x16x320x256 .bf16}
    {x5 : Vec Ideal S1x256x256 .bf16} {x6 : Vec Ideal S1x320x256 .bf16} {x7 x8 x9 x10 : Vec Ideal S1x32 .f32}

theorem lam_val (H : BHolds D b n x2 x3 x4 x5 x6 x7 x8 x9 x10) : k0_pay49 x7 x8 x9 x10 (ix2 0 0 : S1x1.Idx) = (lam D : EReal) := by
  pointwise [k0_pay49]
  simp only [H.h7, H.h8, H.h9, H.h10, ← EReal.coe_mul]
  rw [sum_coe, sum_coe, lit_lam, Ideal.exp_coe, Ideal.exp_coe, ← EReal.coe_sub, ← EReal.coe_add]
  rfl

/-- The key of chunk `c` (past the last chunk, the last). -/
def keyc (D : Data) (b : Fin 8) (c : ℕ) (j x : Fin 256) : ℝ := key D b ⟨min c 16 * 256 + j.val, by omega⟩ x

/-- The value of chunk `c`. -/
def valc (D : Data) (b : Fin 8) (x : Fin 256) (c : ℕ) (j : Fin 256) : ℝ := val D b ⟨min c 16 * 256 + j.val, by omega⟩ x

theorem kbm_val (H : BHolds D b n x2 x3 x4 x5 x6 x7 x8 x9 x10) (c : ℕ) (j x : Fin 256) :
    kbm x3 x5 c (ix2 j x : S256x256.Idx) = (keyc D b c j x : EReal) := by
  unfold keyc key
  by_cases hc : c < 16
  · rw [kbm_lo x3 x5 c hc, H.h3, dif_pos (by show min c 16 * 256 + j.val < 4096; omega)]
    have e : (⟨c * 256 + j.val, by omega⟩ : Fin 4096) = ⟨min c 16 * 256 + j.val, by omega⟩ := Fin.ext (by show c * 256 + j.val = min c 16 * 256 + j.val; omega)
    exact congrArg (fun z => (D.k b z x : EReal)) e
  · rw [kbm_hi x3 x5 c hc, H.h5, dif_neg (by show ¬ min c 16 * 256 + j.val < 4096; omega)]
    have e : (⟨b.val * 256 + j.val, by omega⟩ : Fin 2048) = ⟨b.val * 256 + (min c 16 * 256 + j.val - 4096), by omega⟩ :=
      Fin.ext (by show b.val * 256 + j.val = b.val * 256 + (min c 16 * 256 + j.val - 4096); omega)
    exact congrArg (fun z => (D.cx z ⟨256 + x.val, by omega⟩ : EReal)) e

theorem vbm_val (H : BHolds D b n x2 x3 x4 x5 x6 x7 x8 x9 x10) (h : Fin 4) (hr : h.val * 80 + 80 ≤ 320) (d : Fin 64) (c : ℕ) (j : Fin 256) :
    vbm x4 x6 (h.val * 80) hr c (ix2 ⟨d.val, by omega⟩ j : S80x256.Idx) = (valc D b ⟨h.val * 64 + d.val, by omega⟩ c j : EReal) := by
  unfold valc val
  by_cases hc : c < 16
  · rw [vbm_lo x4 x6 _ hr c hc, H.h4 ⟨c, hc⟩ h d j, dif_pos (by show min c 16 * 256 + j.val < 4096; omega)]
    have e : (⟨c * 256 + j.val, by omega⟩ : Fin 4096) = ⟨min c 16 * 256 + j.val, by omega⟩ := Fin.ext (by show c * 256 + j.val = min c 16 * 256 + j.val; omega)
    exact congrArg (fun z => (D.v b z ⟨h.val * 64 + d.val, by omega⟩ : EReal)) e
  · rw [vbm_hi x4 x6 _ hr c hc, H.h6 h d j, dif_neg (by show ¬ min c 16 * 256 + j.val < 4096; omega)]
    have e : (⟨b.val * 256 + j.val, by omega⟩ : Fin 2048) = ⟨b.val * 256 + (min c 16 * 256 + j.val - 4096), by omega⟩ :=
      Fin.ext (by show b.val * 256 + j.val = b.val * 256 + (min c 16 * 256 + j.val - 4096); omega)
    exact congrArg (fun z => (D.cx z ⟨512 + (h.val * 64 + d.val), by omega⟩ : EReal)) e

theorem vbm_one (H : BHolds D b n x2 x3 x4 x5 x6 x7 x8 x9 x10) (h : Fin 4) (hr : h.val * 80 + 80 ≤ 320) (c : ℕ) (j : Fin 256) :
    vbm x4 x6 (h.val * 80) hr c (ix2 ⟨64, by decide⟩ j : S80x256.Idx) = ((1 : ℝ) : EReal) := by
  by_cases hc : c < 16
  · rw [vbm_lo x4 x6 _ hr c hc]; exact H.h4' ⟨c, hc⟩ h j
  · rw [vbm_hi x4 x6 _ hr c hc]; exact H.h6' h j

/-- The scaled query of column `w` in the rows of the block `j`, zero elsewhere. -/
def qv (D : Data) (b n : Fin 8) (j : ℕ) (w : Fin 512) (x : Fin 256) : ℝ :=
  if x.val / 32 = j then D.q b ⟨n.val * 512 + w.val, by omega⟩ x * ((Real.sqrt 32)⁻¹ * (Real.log 2)⁻¹) else 0

theorem qmask_val (H : BHolds D b n x2 x3 x4 x5 x6 x7 x8 x9 x10) (j : ℕ) (hj : j < 8) (x : Fin 256) (w : Fin 512) :
    qmask x2 (BitVec.ofNat 32 j) (ix2 x w : S256x512.Idx) = (qv D b n j w x : EReal) := by
  rw [qmask_at x2 j hj, H.h2, ← EReal.coe_mul]
  unfold qv
  by_cases hx : x.val / 32 = j
  · rw [if_pos hx, if_pos hx]
  · rw [if_neg hx, if_neg hx]; rfl

/-- A quotient of running sums is the softmax average of one map. -/
theorem ratio_soft (H : BHolds D b n x2 x3 x4 x5 x6 x7 x8 x9 x10) (h : Fin 4) (hr : h.val * 80 + 80 ≤ 320) (qb : Vec Ideal S256x1024 .bf16) (mm : Fin 2) (w : Fin 1024) (i : Fin 512)
    (hq : ∀ x, qb (ix2 x w : S256x1024.Idx) = (qv D b n (h.val * 2 + mm.val) i x : EReal)) (d : Fin 64) :
    Ideal.div ((mo (kbm x3 x5) (vbm x4 x6 (h.val * 80) hr) qb 17).2 (ix2 ⟨d.val, by omega⟩ w : S80x1024.Idx))
        ((mo (kbm x3 x5) (vbm x4 x6 (h.val * 80) hr) qb 17).2 (ix2 ⟨64, by decide⟩ w : S80x1024.Idx))
      = (soft D b h mm ⟨n.val * 512 + i.val, by omega⟩ d : EReal) := by
  have e := ratio_val (kbm x3 x5) (vbm x4 x6 (h.val * 80) hr) qb (keyc D b) (qv D b n (h.val * 2 + mm.val) i) w
    (kbm_val H) hq (vbm_one H h hr) ⟨d.val, by omega⟩ (valc D b ⟨h.val * 64 + d.val, by omega⟩) (vbm_val H h hr d) 16
  refine e.trans (congrArg (fun x : ℝ => (x : EReal)) ?_)
  have hp : ∀ (c : Fin 17) (j : Fin 256), (2 : ℝ) ^ (∑ x, keyc D b c.val j x * qv D b n (h.val * 2 + mm.val) i x)
      = Real.exp (lg D b h mm ⟨n.val * 512 + i.val, by omega⟩ ⟨c.val * 256 + j.val, by omega⟩) := by
    intro c j
    have hm : min c.val 16 = c.val := by omega
    have hk : ∀ x, keyc D b c.val j x = key D b ⟨c.val * 256 + j.val, by omega⟩ x := by
      intro x
      unfold keyc
      exact congrArg (fun z => key D b z x) (Fin.ext (by show min c.val 16 * 256 + j.val = c.val * 256 + j.val; rw [hm]))
    have hs := sum_masked (key D b ⟨c.val * 256 + j.val, by omega⟩) (D.q b ⟨n.val * 512 + i.val, by omega⟩) ⟨h.val * 2 + mm.val, by omega⟩ ((Real.sqrt 32)⁻¹ * (Real.log 2)⁻¹)
    have ht : (∑ x, keyc D b c.val j x * qv D b n (h.val * 2 + mm.val) i x)
        = (∑ e : Fin 32, D.q b ⟨n.val * 512 + i.val, by omega⟩ ⟨(h.val * 2 + mm.val) * 32 + e.val, by omega⟩
            * key D b ⟨c.val * 256 + j.val, by omega⟩ ⟨(h.val * 2 + mm.val) * 32 + e.val, by omega⟩) * ((Real.sqrt 32)⁻¹ * (Real.log 2)⁻¹) := by
      rw [← hs]
      refine Finset.sum_congr rfl fun x _ => ?_
      rw [hk]
      rfl
    rw [ht, two_pow]
    unfold lg
    refine congrArg Real.exp (congrArg (· / Real.sqrt 32) (Finset.sum_congr rfl fun e _ => ?_))
    have he : (⟨(h.val * 2 + mm.val) * 32 + e.val, by omega⟩ : Fin 256) = ⟨h.val * 64 + mm.val * 32 + e.val, by omega⟩ :=
      Fin.ext (by show (h.val * 2 + mm.val) * 32 + e.val = h.val * 64 + mm.val * 32 + e.val; omega)
    rw [he]
  unfold soft
  refine congrArg₂ (· / ·) ?_ ?_
  · refine sum_chunks (fun j => val D b j ⟨h.val * 64 + d.val, by omega⟩ * Real.exp (lg D b h mm ⟨n.val * 512 + i.val, by omega⟩ j)) _ fun c j => ?_
    rw [hp c j]
    have hm : min c.val 16 = c.val := by omega
    unfold valc
    exact congrArg (fun z => val D b z ⟨h.val * 64 + d.val, by omega⟩ * _) (Fin.ext (by show min c.val 16 * 256 + j.val = c.val * 256 + j.val; rw [hm]))
  · exact sum_chunks (fun j => Real.exp (lg D b h mm ⟨n.val * 512 + i.val, by omega⟩ j)) _ hp

theorem pay156_at (lm : FVec Ideal S1x1 .f32) (A : FVec Ideal S80x1024 .f32) (x11 : Vec Ideal S64x1 .f32) (i : Fin 512) (O : Fin 64 → EReal)
    (hO : ∀ d : Fin 64, Ideal.div (A (ix2 ⟨d.val, by omega⟩ ⟨i.val, by omega⟩ : S80x1024.Idx)) (A (ix2 ⟨64, by decide⟩ ⟨i.val, by omega⟩ : S80x1024.Idx))
      - lm (ix2 0 0 : S1x1.Idx) * Ideal.div (A (ix2 ⟨d.val, by omega⟩ ⟨512 + i.val, by omega⟩ : S80x1024.Idx)) (A (ix2 ⟨64, by decide⟩ ⟨512 + i.val, by omega⟩ : S80x1024.Idx)) = O d)
    (d : Fin 64) :
    k0_pay156 lm (numm A) (denm A) x11 (ix2 d i : S64x512.Idx)
      = O d * Ideal.rsqrt (Ideal.div (∑ x : Fin 64, O x * O x) (Ideal.ofBits .f32 0x42800000#32) + Ideal.ofBits .f32 0x358637BD#32)
        * x11 (ix2 d 0 : S64x1.Idx) * Ideal.ofBits .f32 0x3F4CCCCD#32 := by
  pointwise [k0_pay156, numm, denm]
  simp only [← hO]
  rfl

/-- A head's rows at an index. -/
theorem hdm_val (H : BHolds D b n x2 x3 x4 x5 x6 x7 x8 x9 x10) (x11 : Vec Ideal S64x1 .f32) (h : Fin 4) (r : ℕ) (hr : r + 80 ≤ 320) (er : r = h.val * 80)
    (j j' : BitVec 32) (ej : j = BitVec.ofNat 32 (h.val * 2)) (ej' : j' = BitVec.ofNat 32 (h.val * 2 + 1)) (d : Fin 64) (i : Fin 512) :
    hdm x2 x3 x4 x5 x6 x7 x8 x9 x10 x11 r hr j j' (ix2 d i : S64x512.Idx)
      = res D b h ⟨n.val * 512 + i.val, by omega⟩ d (x11 (ix2 d 0 : S64x1.Idx)) := by
  subst er ej ej'
  unfold hdm res
  refine pay156_at _ _ x11 i (fun d => (out D b h ⟨n.val * 512 + i.val, by omega⟩ d : EReal)) (fun d => ?_) d
  have q0 : ∀ x, qbm x2 (BitVec.ofNat 32 (h.val * 2)) (BitVec.ofNat 32 (h.val * 2 + 1)) (ix2 x ⟨i.val, by omega⟩ : S256x1024.Idx) = (qv D b n (h.val * 2 + (0 : Fin 2).val) i x : EReal) := fun x =>
    (qbm_lo x2 _ _ _ i.isLt).trans (qmask_val H (h.val * 2) (by omega) x i)
  have q1 : ∀ x, qbm x2 (BitVec.ofNat 32 (h.val * 2)) (BitVec.ofNat 32 (h.val * 2 + 1)) (ix2 x ⟨512 + i.val, by omega⟩ : S256x1024.Idx) = (qv D b n (h.val * 2 + (1 : Fin 2).val) i x : EReal) := fun x => by
    have hi : (⟨512 + i.val - 512, by omega⟩ : Fin 512) = i := Fin.ext (by show 512 + i.val - 512 = i.val; omega)
    refine (qbm_hi x2 _ _ _ (by show ¬ 512 + i.val < 512; omega) (by show 512 + i.val - 512 < 512; omega)).trans ?_
    exact (congrArg (fun z => qmask x2 (BitVec.ofNat 32 (h.val * 2 + 1)) (ix2 x z : S256x512.Idx)) hi).trans (qmask_val H (h.val * 2 + 1) (by omega) x i)
  rw [ratio_soft H h hr _ 0 _ i q0 d, ratio_soft H h hr _ 1 _ i q1 d, lam_val H, ← EReal.coe_mul, ← EReal.coe_sub]
  rfl

/-- The stored block at an index. -/
theorem outm_val (H : BHolds D b n x2 x3 x4 x5 x6 x7 x8 x9 x10) (x11 : Vec Ideal S64x1 .f32) (i : Fin 512) (y : Fin 256) :
    outm x2 x3 x4 x5 x6 x7 x8 x9 x10 x11 (ix2 i y : S512x256.Idx)
      = res D b ⟨y.val / 64, by omega⟩ ⟨n.val * 512 + i.val, by omega⟩ ⟨y.val % 64, by omega⟩ (x11 (ix2 ⟨y.val % 64, by omega⟩ 0 : S64x1.Idx)) := by
  have fin : ∀ (h : Fin 4) (d : Fin 64), y.val = h.val * 64 + d.val → res D b h ⟨n.val * 512 + i.val, by omega⟩ d (x11 (ix2 d 0 : S64x1.Idx))
      = res D b ⟨y.val / 64, by omega⟩ ⟨n.val * 512 + i.val, by omega⟩ ⟨y.val % 64, by omega⟩ (x11 (ix2 ⟨y.val % 64, by omega⟩ 0 : S64x1.Idx)) := by
    intro h d e
    have eh : h = ⟨y.val / 64, by omega⟩ := Fin.ext (by show h.val = y.val / 64; omega)
    have ed : d = ⟨y.val % 64, by omega⟩ := Fin.ext (by show d.val = y.val % 64; omega)
    rw [← eh, ← ed]
  pointwise [outm]
  split
  · exact (hdm_val H x11 0 0 _ (by decide) _ _ (by decide) (by decide) _ _).trans (fin 0 _ (by show y.val = 0 * 64 + y.val; omega))
  · split
    · exact (hdm_val H x11 1 80 _ (by decide) _ _ (by decide) (by decide) _ _).trans (fin 1 _ (by show y.val = 1 * 64 + (y.val - 64); omega))
    · split
      · exact (hdm_val H x11 2 160 _ (by decide) _ _ (by decide) (by decide) _ _).trans (fin 2 _ (by show y.val = 2 * 64 + (y.val - 64 - 64); omega))
      · exact (hdm_val H x11 3 240 _ (by decide) _ _ (by decide) (by decide) _ _).trans (fin 3 _ (by show y.val = 3 * 64 + (y.val - 64 - 64 - 64); omega))

end Cert.KernelIdeal.Hand

end
-- ==== Proof.HostVal.lean ====
/- The arrays the grid reads, at an index. -/
module

public import proofs.«01_k».proof.Proof.FrameKernelIdeal
public import Idealize.ShloMosaic.Lib.Pipeline.ValueKit
public import Idealize.ShloMosaic.Lib.Pointwise
public import Idealize.ShloMosaic.Lib.Routing.OpsSet

@[expose] public section

set_option maxRecDepth 16384

noncomputable section

namespace Cert.KernelIdeal.Hand

open Cert.KernelIdeal.Gen
open Idealize.ShloMosaic Idealize.ShloMosaic.TcCoe Idealize.ShloMosaic.Tactic

theorem lit_one_bf16 : Ideal.ofBits .bf16 16256#16 = ((1 : ℝ) : EReal) := by
  simp [Ideal.ofBits, Ideal.ieee, -EReal.coe_mul]; norm_num

theorem scat_seq (b : Fin 8) (s : Fin 4096) (h : Fin 4) (l : Fin 16) (hl : l.val = 0) :
    Host.scatter scatter_S8x4096x4x16_S1_S8x4096x4_012_3_3_0 (fun _ b => b)
        (broadcastInDim S8x4096x4x16 ![] bcast_S_S8x4096x4x16 (constant (F := Ideal) S_ FTy.bf16 0#16))
        (broadcastInDim S1 ![] bcast_S_S1 (constantI S_ 32 0#32))
        (broadcastInDim S8x4096x4 ![] bcast_S_S8x4096x4 (constant (F := Ideal) S_ FTy.bf16 16256#16))
        (ix4 b s h l : S8x4096x4x16.Idx) = ((1 : ℝ) : EReal) := by
  refine Idealize.ShloMosaic.Routing.scatter_set_hit _ _ _ _ _ _ (fun k _ => lit_one_bf16) (ix3 b s h : S8x4096x4.Idx) ?_
  generalize hi : broadcastInDim S1 ![] bcast_S_S1 (constantI S_ 32 0#32) = idx
  have hi' : ∀ x, (idx x).toInt = 0 := fun x => by subst hi; rfl
  have hs : ∀ a, scatter_S8x4096x4x16_S1_S8x4096x4_012_3_3_0.start (ix3 b s h : S8x4096x4.Idx) idx a = 0 := by
    intro a
    unfold ScatterDims.start
    split
    · exact hi' _
    · rfl
  have hw : ∀ a, scatter_S8x4096x4x16_S1_S8x4096x4_012_3_3_0.window (ix3 b s h : S8x4096x4.Idx) a = ((ix4 b s h l : S8x4096x4x16.Idx) a).val := by
    intro a
    match a with
    | 0 => rfl
    | 1 => rfl
    | 2 => rfl
    | 3 => exact hl.symm
  unfold ScatterDims.resultIdx?
  rw [dif_pos (fun a => by rw [hs, hw, zero_add]; exact ⟨Int.natCast_nonneg _, Int.ofNat_lt.2 ((ix4 b s h l : S8x4096x4x16.Idx) a).isLt⟩)]
  refine congrArg some (funext fun a => Fin.ext ?_)
  show (_ + _ : ℤ).toNat = _
  rw [hs, hw]
  omega

theorem scat_ctx (b : Fin 8) (s : Fin 256) (h : Fin 4) (l : Fin 16) (hl : l.val = 0) :
    Host.scatter scatter_S8x256x4x16_S1_S8x256x4_012_3_3_0 (fun _ b => b)
        (broadcastInDim S8x256x4x16 ![] bcast_S_S8x256x4x16 (constant (F := Ideal) S_ FTy.bf16 0#16))
        (broadcastInDim S1 ![] bcast_S_S1 (constantI S_ 32 0#32))
        (broadcastInDim S8x256x4 ![] bcast_S_S8x256x4 (constant (F := Ideal) S_ FTy.bf16 16256#16))
        (ix4 b s h l : S8x256x4x16.Idx) = ((1 : ℝ) : EReal) := by
  refine Idealize.ShloMosaic.Routing.scatter_set_hit _ _ _ _ _ _ (fun k _ => lit_one_bf16) (ix3 b s h : S8x256x4.Idx) ?_
  generalize hi : broadcastInDim S1 ![] bcast_S_S1 (constantI S_ 32 0#32) = idx
  have hi' : ∀ x, (idx x).toInt = 0 := fun x => by subst hi; rfl
  have hs : ∀ a, scatter_S8x256x4x16_S1_S8x256x4_012_3_3_0.start (ix3 b s h : S8x256x4.Idx) idx a = 0 := by
    intro a
    unfold ScatterDims.start
    split
    · exact hi' _
    · rfl
  have hw : ∀ a, scatter_S8x256x4x16_S1_S8x256x4_012_3_3_0.window (ix3 b s h : S8x256x4.Idx) a = ((ix4 b s h l : S8x256x4x16.Idx) a).val := by
    intro a
    match a with
    | 0 => rfl
    | 1 => rfl
    | 2 => rfl
    | 3 => exact hl.symm
  unfold ScatterDims.resultIdx?
  rw [dif_pos (fun a => by rw [hs, hw, zero_add]; exact ⟨Int.natCast_nonneg _, Int.ofNat_lt.2 ((ix4 b s h l : S8x256x4x16.Idx) a).isLt⟩)]
  refine congrArg some (funext fun a => Fin.ext ?_)
  show (_ + _ : ℤ).toNat = _
  rw [hs, hw]
  omega

variable (m : (ℓ : Loc nD τ sig) → Buf (Elt Ideal) ℓ)

theorem v0_at (c : Dev nD) (b : Fin 8) (x : Fin 256) (s : Fin 4096) :
    V m c main_v0 (ix3 b x s : S8x256x4096.Idx) = m ((c : Thread nD τ).loc main_arg0) (ix3 b s x : S8x4096x256.Idx) := by
  entry_read; pointwise []

theorem v2_at (c : Dev nD) (b : Fin 8) (n : Fin 16) (j x : Fin 256) :
    V m c main_v2 (ix4 b n j x : S8x16x256x256.Idx) = m ((c : Thread nD τ).loc main_arg1) (ix3 b ⟨n.val * 256 + j.val, by omega⟩ x : S8x4096x256.Idx) := by
  entry_read; pointwise []

theorem v13_at (c : Dev nD) (b : Fin 8) (n : Fin 16) (h : Fin 4) (d : Fin 64) (j : Fin 256) :
    V m c main_v13 (ix4 b n ⟨h.val * 80 + d.val, by omega⟩ j : S8x16x320x256.Idx) = m ((c : Thread nD τ).loc main_arg2) (ix3 b ⟨n.val * 256 + j.val, by omega⟩ ⟨h.val * 64 + d.val, by omega⟩ : S8x4096x256.Idx) := by
  entry_read; pointwise []
  rw [dif_pos (by omega)]
  refine congrArg (fun z => m ((c : Thread nD τ).loc main_arg2) (ix3 b ⟨n.val * 256 + j.val, by omega⟩ z : S8x4096x256.Idx)) (Fin.ext ?_)
  show (h.val * 80 + d.val) / 80 * 64 + (h.val * 80 + d.val) % 80 = h.val * 64 + d.val
  omega

theorem v13_one (c : Dev nD) (b : Fin 8) (n : Fin 16) (h : Fin 4) (j : Fin 256) :
    V m c main_v13 (ix4 b n ⟨h.val * 80 + 64, by omega⟩ j : S8x16x320x256.Idx) = ((1 : ℝ) : EReal) := by
  entry_read; pointwise []
  rw [dif_neg (by omega)]
  exact scat_seq _ _ _ _ (by show (h.val * 80 + 64) % 80 - 64 = 0; omega)

theorem v18_at (c : Dev nD) (b : Fin 8) (j : Fin 256) (x : Fin 768) :
    V m c main_v18 (ix3 b j x : S8x256x768.Idx) = m ((c : Thread nD τ).loc main_arg3) (ix2 ⟨b.val * 256 + j.val, by omega⟩ x : S2048x768.Idx) := by
  entry_read; pointwise []

theorem v27_at (c : Dev nD) (b : Fin 8) (h : Fin 4) (d : Fin 64) (j : Fin 256) :
    V m c main_v27 (ix3 b ⟨h.val * 80 + d.val, by omega⟩ j : S8x320x256.Idx) = m ((c : Thread nD τ).loc main_arg3) (ix2 ⟨b.val * 256 + j.val, by omega⟩ ⟨512 + (h.val * 64 + d.val), by omega⟩ : S2048x768.Idx) := by
  entry_read; pointwise []
  rw [dif_pos (by omega)]
  refine congrArg (fun z => m ((c : Thread nD τ).loc main_arg3) (ix2 ⟨b.val * 256 + j.val, by omega⟩ z : S2048x768.Idx)) (Fin.ext ?_)
  show 512 + ((h.val * 80 + d.val) / 80 * 64 + (h.val * 80 + d.val) % 80) = 512 + (h.val * 64 + d.val)
  omega

theorem v27_one (c : Dev nD) (b : Fin 8) (h : Fin 4) (j : Fin 256) :
    V m c main_v27 (ix3 b ⟨h.val * 80 + 64, by omega⟩ j : S8x320x256.Idx) = ((1 : ℝ) : EReal) := by
  entry_read; pointwise []
  rw [dif_neg (by omega)]
  exact scat_ctx _ _ _ _ (by show (h.val * 80 + 64) % 80 - 64 = 0; omega)

theorem v14_at (c : Dev nD) (e : Fin 32) : V m c main_v14 (ix2 0 e : S1x32.Idx) = m ((c : Thread nD τ).loc main_arg4) (ix1 e : S32.Idx) := by
  entry_read; pointwise []
theorem v15_at (c : Dev nD) (e : Fin 32) : V m c main_v15 (ix2 0 e : S1x32.Idx) = m ((c : Thread nD τ).loc main_arg5) (ix1 e : S32.Idx) := by
  entry_read; pointwise []
theorem v16_at (c : Dev nD) (e : Fin 32) : V m c main_v16 (ix2 0 e : S1x32.Idx) = m ((c : Thread nD τ).loc main_arg6) (ix1 e : S32.Idx) := by
  entry_read; pointwise []
theorem v17_at (c : Dev nD) (e : Fin 32) : V m c main_v17 (ix2 0 e : S1x32.Idx) = m ((c : Thread nD τ).loc main_arg7) (ix1 e : S32.Idx) := by
  entry_read; pointwise []
theorem v28_at (c : Dev nD) (e : Fin 64) : V m c main_v28 (ix2 e 0 : S64x1.Idx) = m ((c : Thread nD τ).loc main_arg8) (ix1 e : S64.Idx) := by
  entry_read; pointwise []

end Cert.KernelIdeal.Hand

end
-- ==== Proof.RefVal.lean ====
/- The reference's result, cut into the logits, the softmax, the weights, the weighted values and the normalization, each read at an index. -/
module

public import proofs.«01_k».proof.Proof.Gen.ReferenceIdeal.Run
public import proofs.«01_k».proof.Proof.Spec
public import Idealize.ShloMosaic.Lib.Pointwise

@[expose] public section

set_option maxRecDepth 16384

noncomputable section

namespace Cert.ReferenceIdeal.Hand

open Cert.ReferenceIdeal.Gen
open Idealize.ShloMosaic Idealize.ShloMosaic.TcCoe Idealize.ShloMosaic.Tactic

variable {F : FTy → Type} [FloatOps F]

/-- The logits. -/
def logitm (A0 A1 : FVec F S8x4096x256 .f32) (A3 : FVec F S2048x768 .bf16) : FVec F S8x4x2x4096x4352 .f32 :=
  (Host.divf (concatenate S8x4x2x4096x4352 4 [⟨S8x4x2x4096x4096, (Host.dotGeneral dot_S8x4096x4x2x32_S8x4096x4x2x32_S8x4x2x4096x4096_4_4_1_1_023_023 none (shapeCast _ A0 shapeCasts_S8x4096x256_S8x4096x4x2x32) (shapeCast _ A1 shapeCasts_S8x4096x256_S8x4096x4x2x32))⟩, ⟨S8x4x2x4096x256, (Host.dotGeneral dot_S8x4096x4x2x32_S8x256x4x2x32_S8x4x2x4096x256_4_4_1_1_023_023 none (shapeCast _ A0 shapeCasts_S8x4096x256_S8x4096x4x2x32) (shapeCast _ (extractStridedSlice S8x256x256 ![0, 0, 256] (shapeCast _ (extf .f32 A3 bitsLt_bf16_f32) shapeCasts_S2048x768_S8x256x768) slices_S8x256x768_S8x256x256_0_0_256) shapeCasts_S8x256x256_S8x256x4x2x32))⟩] concatenates_S8x4x2x4096x4096_S8x4x2x4096x256_S8x4x2x4096x4352_d4) (broadcastInDim S8x4x2x4096x4352 ![] bcast_S_S8x4x2x4096x4352 (Host.sqrt (constant S_ .f32 0x42000000#32))))

/-- The logits' exponentials relative to the row's maximum. -/
def expm (LG : FVec F S8x4x2x4096x4352 .f32) : FVec F S8x4x2x4096x4352 .f32 :=
  (Host.exp (subf LG (broadcastInDim S8x4x2x4096x4352 ![0, 1, 2, 3, 4] bcast_S8x4x2x4096x1_S8x4x2x4096x4352_0_1_2_3_4 (broadcastInDim S8x4x2x4096x1 ![0, 1, 2, 3] bcast_S8x4x2x4096_S8x4x2x4096x1_0_1_2_3 (maximumf (broadcastInDim S8x4x2x4096 ![] bcast_S_S8x4x2x4096 (constant S_ .f32 0xFF800000#32)) (Host.reduce FloatOps.maximumf LG (constant S_ .f32 0xFF800000#32) reducesTo_S8x4x2x4096x4352_S8x4x2x4096_d4 h_S_))))))

/-- The exponentials over their row's sum. -/
def probm (EX : FVec F S8x4x2x4096x4352 .f32) : FVec F S8x4x2x4096x4352 .f32 :=
  (Host.divf EX (broadcastInDim S8x4x2x4096x4352 ![0, 1, 2, 3, 4] bcast_S8x4x2x4096x1_S8x4x2x4096x4352_0_1_2_3_4 (broadcastInDim S8x4x2x4096x1 ![0, 1, 2, 3] bcast_S8x4x2x4096_S8x4x2x4096x1_0_1_2_3 (Host.reduceAdd EX (constant S_ .f32 0x00000000#32) reducesTo_S8x4x2x4096x4352_S8x4x2x4096_d4 h_S_))))

/-- The weight of the second map. -/
def lamm (A4 A5 A6 A7 : FVec F S32 .f32) : FVec F S_ .f32 :=
  (addf (subf (Host.exp (Host.reduceAdd (mulf A4 A5) (constant S_ .f32 0x00000000#32) reducesTo_S32_S_d0 h_S_)) (Host.exp (Host.reduceAdd (mulf A6 A7) (constant S_ .f32 0x00000000#32) reducesTo_S32_S_d0 h_S_))) (constant S_ .f32 0x3E4CCCCD#32))

/-- The difference of the two maps. -/
def wgtm (LA : FVec F S_ .f32) (PR : FVec F S8x4x2x4096x4352 .f32) : FVec F S8x4x4096x4352 .f32 :=
  (subf (shapeCast _ (extractStridedSlice S8x4x1x4096x4352 ![0, 0, 0, 0, 0] PR slices_S8x4x2x4096x4352_S8x4x1x4096x4352_0_0_0_0_0) shapeCasts_S8x4x1x4096x4352_S8x4x4096x4352) (mulf (broadcastInDim S8x4x4096x4352 ![] bcast_S_S8x4x4096x4352 LA) (shapeCast _ (extractStridedSlice S8x4x1x4096x4352 ![0, 0, 1, 0, 0] PR slices_S8x4x2x4096x4352_S8x4x1x4096x4352_0_0_1_0_0) shapeCasts_S8x4x1x4096x4352_S8x4x4096x4352)))

/-- The values weighted. -/
def avm (A2 : FVec F S8x4096x256 .f32) (A3 : FVec F S2048x768 .bf16) (WG : FVec F S8x4x4096x4352 .f32) : FVec F S8x4096x4x64 .f32 :=
  (addf (transpose S8x4096x4x64 [0, 3, 1, 2] (Host.dotGeneral dot_S8x4096x4x64_S8x4x4096x4096_S8x4x64x4096_1_3_3_2_02_01 none (shapeCast _ A2 shapeCasts_S8x4096x256_S8x4096x4x64) (extractStridedSlice S8x4x4096x4096 ![0, 0, 0, 0] WG slices_S8x4x4096x4352_S8x4x4096x4096_0_0_0_0)) transposes_S8x4x64x4096_S8x4096x4x64_0_3_1_2) (transpose S8x4096x4x64 [0, 3, 1, 2] (Host.dotGeneral dot_S8x256x4x64_S8x4x4096x256_S8x4x64x4096_1_3_3_2_02_01 none (shapeCast _ (extractStridedSlice S8x256x256 ![0, 0, 512] (shapeCast _ (extf .f32 A3 bitsLt_bf16_f32) shapeCasts_S2048x768_S8x256x768) slices_S8x256x768_S8x256x256_0_0_512) shapeCasts_S8x256x256_S8x256x4x64) (extractStridedSlice S8x4x4096x256 ![0, 0, 0, 4096] WG slices_S8x4x4096x4352_S8x4x4096x256_0_0_0_4096)) transposes_S8x4x64x4096_S8x4096x4x64_0_3_1_2))

/-- The normalized result. -/
def normm (OO : FVec F S8x4096x4x64 .f32) (A8 : FVec F S64 .f32) : FVec F S32768x256 .bf16 :=
  truncf .bf16 (shapeCast _ (mulf (mulf (mulf OO (broadcastInDim S8x4096x4x64 ![0, 1, 2, 3] bcast_S8x4096x4x1_S8x4096x4x64_0_1_2_3 (Host.rsqrt (addf (Host.divf (broadcastInDim S8x4096x4x1 ![0, 1, 2] bcast_S8x4096x4_S8x4096x4x1_0_1_2 (Host.reduceAdd (mulf OO OO) (constant S_ .f32 0x00000000#32) reducesTo_S8x4096x4x64_S8x4096x4_d3 h_S_)) (broadcastInDim S8x4096x4x1 ![] bcast_S_S8x4096x4x1 (constant S_ .f32 0x42800000#32))) (broadcastInDim S8x4096x4x1 ![] bcast_S_S8x4096x4x1 (constant S_ .f32 0x358637BD#32)))))) (broadcastInDim S8x4096x4x64 ![0, 1, 2, 3] bcast_S1x1x1x64_S8x4096x4x64_0_1_2_3 (broadcastInDim S1x1x1x64 ![3] bcast_S64_S1x1x1x64_3 A8))) (broadcastInDim S8x4096x4x64 ![] bcast_S_S8x4096x4x64 (constant S_ .f32 0x3F4CCCCD#32))) shapeCasts_S8x4096x4x64_S32768x256) bitsLt_bf16_f32

/-- The whole. -/
def refm (A0 A1 A2 : FVec F S8x4096x256 .f32) (A3 : FVec F S2048x768 .bf16) (A4 A5 A6 A7 : FVec F S32 .f32) (A8 : FVec F S64 .f32) : FVec F S32768x256 .bf16 :=
  normm (avm A2 A3 (wgtm (lamm A4 A5 A6 A7) (probm (expm (logitm A0 A1 A3))))) A8

theorem res_eq (m : (ℓ : Loc nD τ sig) → Buf (Elt F) ℓ) (c : Dev nD) : Value.res_main_v64 m c
    = refm (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  unfold Value.res_main_v64 refm normm avm wgtm lamm probm expm logitm
  rfl

open Cert.Spec

theorem sum_coe {ι : Type} (s : Finset ι) (f : ι → ℝ) : (∑ x ∈ s, (f x : EReal)) = ((∑ x ∈ s, f x : ℝ) : EReal) := KernelIdeal.Hand.sum_coe s f

/-- The arguments hold the reals `D`. -/
structure Holds (D : Data) (A0 A1 A2 : FVec Ideal S8x4096x256 .f32) (A3 : FVec Ideal S2048x768 .bf16) (A4 A5 A6 A7 : FVec Ideal S32 .f32) : Prop where
  h0 : ∀ b s x, A0 (ix3 b s x : S8x4096x256.Idx) = (D.q b s x : EReal)
  h1 : ∀ b s x, A1 (ix3 b s x : S8x4096x256.Idx) = (D.k b s x : EReal)
  h2 : ∀ b s x, A2 (ix3 b s x : S8x4096x256.Idx) = (D.v b s x : EReal)
  h3 : ∀ (i : Fin 2048) (y : Fin 768), 256 ≤ y.val → A3 (ix2 i y : S2048x768.Idx) = (D.cx i y : EReal)
  h4 : ∀ e, A4 (ix1 e : S32.Idx) = (D.l1 e : EReal)
  h5 : ∀ e, A5 (ix1 e : S32.Idx) = (D.l2 e : EReal)
  h6 : ∀ e, A6 (ix1 e : S32.Idx) = (D.l3 e : EReal)
  h7 : ∀ e, A7 (ix1 e : S32.Idx) = (D.l4 e : EReal)

theorem lit32 : Ideal.sqrt (Ideal.ofBits .f32 0x42000000#32) = ((Real.sqrt 32 : ℝ) : EReal) := by
  have h : Ideal.ofBits .f32 0x42000000#32 = ((32 : ℝ) : EReal) := by
    simp [Ideal.ofBits, Ideal.ieee, -EReal.coe_mul]; norm_num
  rw [h, Ideal.sqrt_coe, if_neg (by norm_num)]

variable {D : Data} {A0 A1 A2 : FVec Ideal S8x4096x256 .f32} {A3 : FVec Ideal S2048x768 .bf16} {A4 A5 A6 A7 : FVec Ideal S32 .f32}

theorem logitm_val (H : Holds D A0 A1 A2 A3 A4 A5 A6 A7) (b : Fin 8) (h : Fin 4) (mm : Fin 2) (s : Fin 4096) (j : Fin 4352) :
    logitm A0 A1 A3 (ix5 b h mm s j : S8x4x2x4096x4352.Idx) = (lg D b h mm s j : EReal) := by
  pointwise [logitm]
  rw [lit32, Ideal.div_coe (by positivity)]
  unfold lg
  rw [div_eq_mul_one_div (∑ e : Fin 32, _) (Real.sqrt 32)]
  refine Eq.trans (congrArg₂ (· * ·) ?_ rfl) (EReal.coe_mul _ _).symm
  rw [← sum_coe]
  by_cases hj : j.val < 4096
  · rw [dif_pos hj]
    refine Finset.sum_congr rfl fun e _ => ?_
    unfold key
    rw [dif_pos hj, H.h0, H.h1, EReal.coe_mul]
  · rw [dif_neg hj]
    refine Finset.sum_congr rfl fun e _ => ?_
    unfold key
    rw [dif_neg hj, H.h0, H.h3 _ _ (Nat.le_add_right _ _), EReal.coe_mul]

/-- The greatest of finitely many reals, at least one, is a real. -/
theorem fold_max_fin {n : ℕ} (hn : 0 < n) (f : Fin n → EReal) (hf : ∀ i, ∃ r : ℝ, f i = (r : EReal)) :
    ∃ M : ℝ, Finset.fold max (⊥ : EReal) f Finset.univ = (M : EReal) := by
  obtain ⟨n, rfl⟩ : ∃ k, n = k + 1 := ⟨n - 1, by omega⟩
  choose g hg using hf
  obtain rfl : f = fun i => (g i : EReal) := funext hg
  exact KernelIdeal.Hand.fold_max_real g

theorem lit_neginf : Ideal.ofBits .f32 0xFF800000#32 = (⊥ : EReal) := KernelIdeal.Hand.lit_neginf

theorem red_real (LG : FVec Ideal S8x4x2x4096x4352 .f32) (hl : ∀ i, ∃ r : ℝ, LG i = (r : EReal)) (i : S8x4x2x4096.Idx) :
    ∃ M : ℝ, Host.reduce FloatOps.maximumf LG (constant S_ .f32 0xFF800000#32) reducesTo_S8x4x2x4096x4352_S8x4x2x4096_d4 h_S_ i = (M : EReal) := by
  have hr : S8x4x2x4096x4352.Reduces [4] S8x4x2x4096 := by decide
  rw [Host.reduce_eq_fold_single FloatOps.maximumf LG (constant S_ .f32 0xFF800000#32) reducesTo_S8x4x2x4096x4352_S8x4x2x4096_d4 hr h_S_ i]
  have hb : (constant (F := Ideal) S_ .f32 0xFF800000#32) (Shape.Idx.first h_S_) = (⊥ : EReal) := lit_neginf
  rw [hb]
  exact fold_max_fin (by decide) _ fun k => hl _

/-- The exponentials with any array `G` as the row's maxima. -/
def expg {F : FTy → Type} [FloatOps F] (LG : FVec F S8x4x2x4096x4352 .f32) (G : FVec F S8x4x2x4096 .f32) : FVec F S8x4x2x4096x4352 .f32 :=
  Host.exp (subf LG (broadcastInDim S8x4x2x4096x4352 ![0, 1, 2, 3, 4] bcast_S8x4x2x4096x1_S8x4x2x4096x4352_0_1_2_3_4 (broadcastInDim S8x4x2x4096x1 ![0, 1, 2, 3] bcast_S8x4x2x4096_S8x4x2x4096x1_0_1_2_3 (maximumf (broadcastInDim S8x4x2x4096 ![] bcast_S_S8x4x2x4096 (constant S_ .f32 0xFF800000#32)) G))))

theorem expg_val (LG : FVec Ideal S8x4x2x4096x4352 .f32) (G : FVec Ideal S8x4x2x4096 .f32) (b : Fin 8) (h : Fin 4) (mm : Fin 2) (s : Fin 4096) (j : Fin 4352) :
    expg LG G (ix5 b h mm s j : S8x4x2x4096x4352.Idx)
      = Ideal.exp (LG (ix5 b h mm s j : S8x4x2x4096x4352.Idx) - max (Ideal.ofBits .f32 0xFF800000#32) (G (ix4 b h mm s : S8x4x2x4096.Idx))) := by
  pointwise [expg]

theorem expm_val (LG : FVec Ideal S8x4x2x4096x4352 .f32) (l : Fin 8 → Fin 4 → Fin 2 → Fin 4096 → Fin 4352 → ℝ)
    (hl : ∀ b h mm s j, LG (ix5 b h mm s j : S8x4x2x4096x4352.Idx) = (l b h mm s j : EReal)) (b : Fin 8) (h : Fin 4) (mm : Fin 2) (s : Fin 4096) :
    ∃ M : ℝ, ∀ j, expm LG (ix5 b h mm s j : S8x4x2x4096x4352.Idx) = ((Real.exp (l b h mm s j - M) : ℝ) : EReal) := by
  obtain ⟨M, hM⟩ := red_real LG (fun i => by idx_vars i; exact ⟨_, hl _ _ _ _ _⟩) (ix4 b h mm s : S8x4x2x4096.Idx)
  refine ⟨M, fun j => ?_⟩
  refine (expg_val LG _ b h mm s j).trans ?_
  rw [hM, lit_neginf, hl, max_eq_right bot_le, ← EReal.coe_sub]
  rfl

theorem probm_at (E : FVec Ideal S8x4x2x4096x4352 .f32) (b : Fin 8) (h : Fin 4) (mm : Fin 2) (s : Fin 4096) (j : Fin 4352) :
    probm E (ix5 b h mm s j : S8x4x2x4096x4352.Idx) = Ideal.div (E (ix5 b h mm s j : S8x4x2x4096x4352.Idx)) (∑ x, E (ix5 b h mm s x : S8x4x2x4096x4352.Idx)) := by
  pointwise [probm]

theorem probm_val (LG : FVec Ideal S8x4x2x4096x4352 .f32) (l : Fin 8 → Fin 4 → Fin 2 → Fin 4096 → Fin 4352 → ℝ)
    (hl : ∀ b h mm s j, LG (ix5 b h mm s j : S8x4x2x4096x4352.Idx) = (l b h mm s j : EReal)) (b : Fin 8) (h : Fin 4) (mm : Fin 2) (s : Fin 4096) (j : Fin 4352) :
    probm (expm LG) (ix5 b h mm s j : S8x4x2x4096x4352.Idx) = ((Real.exp (l b h mm s j) / ∑ x, Real.exp (l b h mm s x) : ℝ) : EReal) := by
  obtain ⟨M, hM⟩ := expm_val LG l hl b h mm s
  rw [probm_at]
  simp only [hM]
  rw [sum_coe]
  have hs : ∀ x, Real.exp (l b h mm s x - M) = Real.exp (-M) * Real.exp (l b h mm s x) := fun x => by rw [← Real.exp_add]; congr 1; ring
  have pos : 0 < ∑ x : Fin 4352, Real.exp (l b h mm s x) := Finset.sum_pos (fun _ _ => Real.exp_pos _) ⟨⟨0, by omega⟩, Finset.mem_univ _⟩
  have pM := Real.exp_pos (-M)
  simp only [hs]
  rw [← Finset.mul_sum, Ideal.div_coe (by positivity), ← EReal.coe_mul]
  congr 1
  field_simp

theorem lamm_val (H : Holds D A0 A1 A2 A3 A4 A5 A6 A7) : lamm A4 A5 A6 A7 (ix0 : S_.Idx) = (lam D : EReal) := by
  pointwise [lamm]
  simp only [H.h4, H.h5, H.h6, H.h7, ← EReal.coe_mul]
  rw [sum_coe, sum_coe, lit_lam, Ideal.exp_coe, Ideal.exp_coe, ← EReal.coe_sub, ← EReal.coe_add]
  rfl

theorem wgtm_at (LA : FVec Ideal S_ .f32) (PR : FVec Ideal S8x4x2x4096x4352 .f32) (b : Fin 8) (h : Fin 4) (s : Fin 4096) (j : Fin 4352) :
    wgtm LA PR (ix4 b h s j : S8x4x4096x4352.Idx) = PR (ix5 b h 0 s j : S8x4x2x4096x4352.Idx) - LA (ix0 : S_.Idx) * PR (ix5 b h 1 s j : S8x4x2x4096x4352.Idx) := by
  pointwise [wgtm]

theorem avm_at (A2 : FVec Ideal S8x4096x256 .f32) (A3 : FVec Ideal S2048x768 .bf16) (WG : FVec Ideal S8x4x4096x4352 .f32) (b : Fin 8) (h : Fin 4) (s : Fin 4096) (d : Fin 64) :
    avm A2 A3 WG (ix4 b s h d : S8x4096x4x64.Idx)
      = ∑ x : Fin 4096, A2 (ix3 b x ⟨h.val * 64 + d.val, by omega⟩ : S8x4096x256.Idx) * WG (ix4 b h s ⟨x.val, by omega⟩ : S8x4x4096x4352.Idx)
        + ∑ x : Fin 256, A3 (ix2 ⟨b.val * 256 + x.val, by omega⟩ ⟨512 + (h.val * 64 + d.val), by omega⟩ : S2048x768.Idx) * WG (ix4 b h s ⟨4096 + x.val, by omega⟩ : S8x4x4096x4352.Idx) := by
  pointwise [avm]

theorem sum_split' (m n : ℕ) (f : Fin (m + n) → ℝ) : ∑ j, f j = (∑ x : Fin m, f ⟨x.val, by omega⟩) + ∑ x : Fin n, f ⟨m + x.val, by omega⟩ :=
  Fin.sum_univ_add f

/-- A sum over all keys, sequence then context. -/
theorem sum_split (f : Fin 4352 → ℝ) : ∑ j, f j = (∑ x : Fin 4096, f ⟨x.val, by omega⟩) + ∑ x : Fin 256, f ⟨4096 + x.val, by omega⟩ :=
  sum_split' 4096 256 f

theorem av_val (H : Holds D A0 A1 A2 A3 A4 A5 A6 A7) (b : Fin 8) (h : Fin 4) (s : Fin 4096) (d : Fin 64) :
    avm A2 A3 (wgtm (lamm A4 A5 A6 A7) (probm (expm (logitm A0 A1 A3)))) (ix4 b s h d : S8x4096x4x64.Idx) = (out D b h s d : EReal) := by
  have hp := probm_val (logitm A0 A1 A3) (lg D) (logitm_val H)
  have hw : ∀ j, wgtm (lamm A4 A5 A6 A7) (probm (expm (logitm A0 A1 A3))) (ix4 b h s j : S8x4x4096x4352.Idx)
      = ((Real.exp (lg D b h 0 s j) / (∑ x, Real.exp (lg D b h 0 s x)) - lam D * (Real.exp (lg D b h 1 s j) / ∑ x, Real.exp (lg D b h 1 s x)) : ℝ) : EReal) := by
    intro j
    rw [wgtm_at, hp, hp, lamm_val H, ← EReal.coe_mul, ← EReal.coe_sub]
  rw [avm_at]
  simp only [hw, H.h2]
  have h3 : ∀ x : Fin 256, A3 (ix2 ⟨b.val * 256 + x.val, by omega⟩ ⟨512 + (h.val * 64 + d.val), by omega⟩ : S2048x768.Idx)
      = (D.cx ⟨b.val * 256 + x.val, by omega⟩ ⟨512 + (h.val * 64 + d.val), by omega⟩ : EReal) := fun x => H.h3 _ _ (by show 256 ≤ 512 + _; omega)
  simp only [h3, ← EReal.coe_mul]
  rw [sum_coe, sum_coe, ← EReal.coe_add]
  refine congrArg (fun x : ℝ => (x : EReal)) ?_
  have hv : ∀ w : Fin 4352 → ℝ, (∑ x : Fin 4096, D.v b x ⟨h.val * 64 + d.val, by omega⟩ * w ⟨x.val, by omega⟩)
      + (∑ x : Fin 256, D.cx ⟨b.val * 256 + x.val, by omega⟩ ⟨512 + (h.val * 64 + d.val), by omega⟩ * w ⟨4096 + x.val, by omega⟩)
      = ∑ j, val D b j ⟨h.val * 64 + d.val, by omega⟩ * w j := by
    intro w
    rw [sum_split]
    refine congrArg₂ (· + ·) (Finset.sum_congr rfl fun x _ => ?_) (Finset.sum_congr rfl fun x _ => ?_)
    · unfold val; rw [dif_pos x.isLt]
    · unfold val; rw [dif_neg (by show ¬ 4096 + x.val < 4096; omega)]
      exact congrArg (fun z => D.cx z ⟨512 + (h.val * 64 + d.val), by omega⟩ * w ⟨4096 + x.val, by omega⟩) (Fin.ext (by show b.val * 256 + x.val = b.val * 256 + (4096 + x.val - 4096); omega))
  refine (hv fun j => Real.exp (lg D b h 0 s j) / (∑ x, Real.exp (lg D b h 0 s x)) - lam D * (Real.exp (lg D b h 1 s j) / ∑ x, Real.exp (lg D b h 1 s x))).trans ?_
  unfold out soft
  rw [Finset.sum_div, Finset.sum_div, Finset.mul_sum, ← Finset.sum_sub_distrib]
  refine Finset.sum_congr rfl fun j _ => ?_
  ring

theorem normm_at (OO : FVec Ideal S8x4096x4x64 .f32) (A8 : FVec Ideal S64 .f32) (i : Fin 32768) (y : Fin 256) :
    normm OO A8 (ix2 i y : S32768x256.Idx)
      = OO (ix4 ⟨i.val / 4096, by omega⟩ ⟨i.val % 4096, by omega⟩ ⟨y.val / 64, by omega⟩ ⟨y.val % 64, by omega⟩ : S8x4096x4x64.Idx)
        * Ideal.rsqrt (Ideal.div (∑ x : Fin 64, OO (ix4 ⟨i.val / 4096, by omega⟩ ⟨i.val % 4096, by omega⟩ ⟨y.val / 64, by omega⟩ x : S8x4096x4x64.Idx)
            * OO (ix4 ⟨i.val / 4096, by omega⟩ ⟨i.val % 4096, by omega⟩ ⟨y.val / 64, by omega⟩ x : S8x4096x4x64.Idx)) (Ideal.ofBits .f32 0x42800000#32)
          + Ideal.ofBits .f32 0x358637BD#32) * A8 (ix1 ⟨y.val % 64, by omega⟩ : S64.Idx) * Ideal.ofBits .f32 0x3F4CCCCD#32 := by
  pointwise [normm]

/-- The reference's result at an index. -/
theorem refm_val (H : Holds D A0 A1 A2 A3 A4 A5 A6 A7) (A8 : FVec Ideal S64 .f32) (i : Fin 32768) (y : Fin 256) :
    refm A0 A1 A2 A3 A4 A5 A6 A7 A8 (ix2 i y : S32768x256.Idx)
      = res D ⟨i.val / 4096, by omega⟩ ⟨y.val / 64, by omega⟩ ⟨i.val % 4096, by omega⟩ ⟨y.val % 64, by omega⟩ (A8 (ix1 ⟨y.val % 64, by omega⟩ : S64.Idx)) := by
  unfold refm
  rw [normm_at]
  simp only [av_val H]
  rfl

end Cert.ReferenceIdeal.Hand

end
-- ==== Proof.KVal.lean ====
/- The result array of the kernel, over the extended reals. -/
module

public import proofs.«01_k».proof.Proof.HeadVal
public import proofs.«01_k».proof.Proof.HostVal
public import proofs.«01_k».proof.Proof.RefVal

@[expose] public section

set_option maxRecDepth 16384

noncomputable section

namespace Cert.KernelIdeal.Hand

open Cert.KernelIdeal.Gen
open Idealize.ShloMosaic Idealize.ShloMosaic.TcCoe Idealize.ShloMosaic.Tactic

open Cert.Spec

variable (m : (ℓ : Loc nD τ sig) → Buf (Elt Ideal) ℓ)

theorem idx : ∀ t : Fin cfg0.N, win0_0.index t = ![t.val / 8, 0, t.val % 8] ∧ win0_1.index t = ![t.val / 8, 0, 0, 0] ∧ win0_2.index t = ![t.val / 8, 0, 0, 0]
    ∧ win0_3.index t = ![t.val / 8, 0, 1] ∧ win0_4.index t = ![t.val / 8, 0, 0] ∧ win0_5.index t = ![0, 0] ∧ win0_6.index t = ![0, 0]
    ∧ win0_7.index t = ![0, 0] ∧ win0_8.index t = ![0, 0] ∧ win0_9.index t = ![0, 0] ∧ win0_10.index t = ![t.val, 0] :=
  (by decide +kernel : ∀ t : Fin grid0.N, _)

theorem hN (t : Fin cfg0.N) : t.val < 64 := t.isLt

theorem rb0 (G : FVec Ideal S8x256x4096 .f32) (t : Fin cfg0.N) (x : Fin 256) (w : Fin 512) : ((cfg0.win 0).blk t).view.read (Elt Ideal) G (ix3 0 x w : S1x256x512.Idx) = G (ix3 ⟨t.val / 8, by have := hN t; omega⟩ x ⟨t.val % 8 * 512 + w.val, by omega⟩ : S8x256x4096.Idx) := by
  blk_ext [idx t]
theorem blk0 (c : Dev nD) (t : Fin cfg0.N) (x : Fin 256) (w : Fin 512) : iblk m c 0 t (ix3 0 x w : S1x256x512.Idx)
    = V m c main_v0 (ix3 ⟨t.val / 8, by have := hN t; omega⟩ x ⟨t.val % 8 * 512 + w.val, by omega⟩ : S8x256x4096.Idx) := by
  unfold iblk; exact rb0 (V m c main_v0) t x w
theorem rb1 (G : FVec Ideal S8x16x256x256 .bf16) (t : Fin cfg0.N) (n : Fin 16) (j x : Fin 256) : ((cfg0.win 1).blk t).view.read (Elt Ideal) G (ix4 0 n j x : S1x16x256x256.Idx) = G (ix4 ⟨t.val / 8, by have := hN t; omega⟩ n j x : S8x16x256x256.Idx) := by
  blk_ext [idx t]
theorem blk1 (c : Dev nD) (t : Fin cfg0.N) (n : Fin 16) (j x : Fin 256) : iblk m c 1 t (ix4 0 n j x : S1x16x256x256.Idx)
    = V m c main_v2 (ix4 ⟨t.val / 8, by have := hN t; omega⟩ n j x : S8x16x256x256.Idx) := by
  unfold iblk; exact rb1 (V m c main_v2) t n j x
theorem rb2 (G : FVec Ideal S8x16x320x256 .bf16) (t : Fin cfg0.N) (n : Fin 16) (r : Fin 320) (j : Fin 256) : ((cfg0.win 2).blk t).view.read (Elt Ideal) G (ix4 0 n r j : S1x16x320x256.Idx) = G (ix4 ⟨t.val / 8, by have := hN t; omega⟩ n r j : S8x16x320x256.Idx) := by
  blk_ext [idx t]
theorem blk2 (c : Dev nD) (t : Fin cfg0.N) (n : Fin 16) (r : Fin 320) (j : Fin 256) : iblk m c 2 t (ix4 0 n r j : S1x16x320x256.Idx)
    = V m c main_v13 (ix4 ⟨t.val / 8, by have := hN t; omega⟩ n r j : S8x16x320x256.Idx) := by
  unfold iblk; exact rb2 (V m c main_v13) t n r j
theorem rb3 (G : FVec Ideal S8x256x768 .bf16) (t : Fin cfg0.N) (j x : Fin 256) : ((cfg0.win 3).blk t).view.read (Elt Ideal) G (ix3 0 j x : S1x256x256.Idx) = G (ix3 ⟨t.val / 8, by have := hN t; omega⟩ j ⟨256 + x.val, by omega⟩ : S8x256x768.Idx) := by
  blk_ext [idx t]
theorem blk3 (c : Dev nD) (t : Fin cfg0.N) (j x : Fin 256) : iblk m c 3 t (ix3 0 j x : S1x256x256.Idx)
    = V m c main_v18 (ix3 ⟨t.val / 8, by have := hN t; omega⟩ j ⟨256 + x.val, by omega⟩ : S8x256x768.Idx) := by
  unfold iblk; exact rb3 (V m c main_v18) t j x
theorem rb4 (G : FVec Ideal S8x320x256 .bf16) (t : Fin cfg0.N) (r : Fin 320) (j : Fin 256) : ((cfg0.win 4).blk t).view.read (Elt Ideal) G (ix3 0 r j : S1x320x256.Idx) = G (ix3 ⟨t.val / 8, by have := hN t; omega⟩ r j : S8x320x256.Idx) := by
  blk_ext [idx t]
theorem blk4 (c : Dev nD) (t : Fin cfg0.N) (r : Fin 320) (j : Fin 256) : iblk m c 4 t (ix3 0 r j : S1x320x256.Idx)
    = V m c main_v27 (ix3 ⟨t.val / 8, by have := hN t; omega⟩ r j : S8x320x256.Idx) := by
  unfold iblk; exact rb4 (V m c main_v27) t r j
theorem rb5 (G : FVec Ideal S1x32 .f32) (t : Fin cfg0.N) (e : Fin 32) : ((cfg0.win 5).blk t).view.read (Elt Ideal) G (ix2 0 e : S1x32.Idx) = G (ix2 0 e : S1x32.Idx) := by
  blk_ext [idx t]
theorem blk5 (c : Dev nD) (t : Fin cfg0.N) (e : Fin 32) : iblk m c 5 t (ix2 0 e : S1x32.Idx)
    = V m c main_v14 (ix2 0 e : S1x32.Idx) := by
  unfold iblk; exact rb5 (V m c main_v14) t e
theorem rb6 (G : FVec Ideal S1x32 .f32) (t : Fin cfg0.N) (e : Fin 32) : ((cfg0.win 6).blk t).view.read (Elt Ideal) G (ix2 0 e : S1x32.Idx) = G (ix2 0 e : S1x32.Idx) := by
  blk_ext [idx t]
theorem blk6 (c : Dev nD) (t : Fin cfg0.N) (e : Fin 32) : iblk m c 6 t (ix2 0 e : S1x32.Idx)
    = V m c main_v15 (ix2 0 e : S1x32.Idx) := by
  unfold iblk; exact rb6 (V m c main_v15) t e
theorem rb7 (G : FVec Ideal S1x32 .f32) (t : Fin cfg0.N) (e : Fin 32) : ((cfg0.win 7).blk t).view.read (Elt Ideal) G (ix2 0 e : S1x32.Idx) = G (ix2 0 e : S1x32.Idx) := by
  blk_ext [idx t]
theorem blk7 (c : Dev nD) (t : Fin cfg0.N) (e : Fin 32) : iblk m c 7 t (ix2 0 e : S1x32.Idx)
    = V m c main_v16 (ix2 0 e : S1x32.Idx) := by
  unfold iblk; exact rb7 (V m c main_v16) t e
theorem rb8 (G : FVec Ideal S1x32 .f32) (t : Fin cfg0.N) (e : Fin 32) : ((cfg0.win 8).blk t).view.read (Elt Ideal) G (ix2 0 e : S1x32.Idx) = G (ix2 0 e : S1x32.Idx) := by
  blk_ext [idx t]
theorem blk8 (c : Dev nD) (t : Fin cfg0.N) (e : Fin 32) : iblk m c 8 t (ix2 0 e : S1x32.Idx)
    = V m c main_v17 (ix2 0 e : S1x32.Idx) := by
  unfold iblk; exact rb8 (V m c main_v17) t e
theorem rb9 (G : FVec Ideal S64x1 .f32) (t : Fin cfg0.N) (e : Fin 64) : ((cfg0.win 9).blk t).view.read (Elt Ideal) G (ix2 e 0 : S64x1.Idx) = G (ix2 e 0 : S64x1.Idx) := by
  blk_ext [idx t]
theorem blk9 (c : Dev nD) (t : Fin cfg0.N) (e : Fin 64) : iblk m c 9 t (ix2 e 0 : S64x1.Idx)
    = V m c main_v28 (ix2 e 0 : S64x1.Idx) := by
  unfold iblk; exact rb9 (V m c main_v28) t e

variable {D : Data} (c : Dev nD)
  (H : Cert.ReferenceIdeal.Hand.Holds D (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6)) (m ((c : Thread nD τ).loc main_arg7)))

include H in
/-- The blocks of a grid point hold the arguments' reals. -/
theorem bholds (t : Fin cfg0.N) : BHolds D ⟨t.val / 8, by have := hN t; omega⟩ ⟨t.val % 8, by omega⟩ (iblk m c 0 t) (iblk m c 1 t) (iblk m c 2 t) (iblk m c 3 t) (iblk m c 4 t)
    (iblk m c 5 t) (iblk m c 6 t) (iblk m c 7 t) (iblk m c 8 t) where
  h2 x w := (blk0 m c t x w).trans ((v0_at m c _ _ _).trans (H.h0 _ _ _))
  h3 n j x := (blk1 m c t n j x).trans ((v2_at m c _ _ _ _).trans (H.h1 _ _ _))
  h4 n h d j := (blk2 m c t n _ j).trans ((v13_at m c _ _ _ _ _).trans (H.h2 _ _ _))
  h4' n h j := (blk2 m c t n _ j).trans (v13_one m c _ _ _ _)
  h5 j x := (blk3 m c t j x).trans ((v18_at m c _ _ _).trans (H.h3 _ _ (Nat.le_add_right _ _)))
  h6 h d j := (blk4 m c t _ j).trans ((v27_at m c _ _ _ _).trans (H.h3 _ _ (by show 256 ≤ 512 + _; omega)))
  h6' h j := (blk4 m c t _ j).trans (v27_one m c _ _ _)
  h7 e := (blk5 m c t e).trans ((v14_at m c e).trans (H.h4 e))
  h8 e := (blk6 m c t e).trans ((v15_at m c e).trans (H.h5 e))
  h9 e := (blk7 m c t e).trans ((v16_at m c e).trans (H.h6 e))
  h10 e := (blk8 m c t e).trans ((v17_at m c e).trans (H.h7 e))

/-- The result of the differential attention, as an array. -/
def resArr (D : Data) (A8 : FVec Ideal S64 .f32) : FVec Ideal S32768x256 .bf16 := fun i =>
  res D ⟨(i 0).val / 4096, by have h : (i 0).val < 32768 := (i 0).isLt; omega⟩ ⟨(i 1).val / 64, by have h : (i 1).val < 256 := (i 1).isLt; omega⟩
    ⟨(i 0).val % 4096, by omega⟩ ⟨(i 1).val % 64, by omega⟩ (A8 (ix1 ⟨(i 1).val % 64, by omega⟩ : S64.Idx))

theorem emb_at (t : Fin cfg0.N) (y0 : Fin 512) (y1 : Fin 256) : ((cfg0.win 10).blk t).view.emb (ix2 y0 y1 : S512x256.Idx)
    = (ix2 ⟨t.val * 512 + y0.val, by have := hN t; omega⟩ y1 : S32768x256.Idx) := by
  blk_ext [idx t]

include H in
/-- The stored block at an index is the result at the index's place in the array. -/
theorem point (t : Fin cfg0.N) (y : S512x256.Idx) : oblk m c t y = resArr D (m ((c : Thread nD τ).loc main_arg8)) (((cfg0.win 10).blk t).view.emb y) := by
  have ht := hN t
  idx_vars y
  rw [emb_at t y0 y1]
  have e8 : ∀ d : Fin 64, iblk m c 9 t (ix2 d 0 : S64x1.Idx) = m ((c : Thread nD τ).loc main_arg8) (ix1 d : S64.Idx) := fun d => (blk9 m c t d).trans (v28_at m c d)
  refine (outm_val (bholds m c H t) (iblk m c 9 t) y0 y1).trans ?_
  rw [e8]
  have e1 : (⟨t.val / 8, by omega⟩ : Fin 8) = ⟨(t.val * 512 + y0.val) / 4096, by omega⟩ := Fin.ext (by show t.val / 8 = (t.val * 512 + y0.val) / 4096; omega)
  have e2 : (⟨t.val % 8 * 512 + y0.val, by omega⟩ : Fin 4096) = ⟨(t.val * 512 + y0.val) % 4096, by omega⟩ :=
    Fin.ext (by show t.val % 8 * 512 + y0.val = (t.val * 512 + y0.val) % 4096; omega)
  exact congrArg₂ (fun b s => res D b ⟨y1.val / 64, by omega⟩ s ⟨y1.val % 64, by omega⟩ (m ((c : Thread nD τ).loc main_arg8) (ix1 ⟨y1.val % 64, by omega⟩ : S64.Idx))) e1 e2

include H in
theorem final : (dats m 0 c).arrAt 10 (cfgs 0).N = resArr D (m ((c : Thread nD τ).loc main_arg8)) := by
  refine (dats m 0 c).arrAt_eq_of_covers 10 _ (by decide +kernel) fun t _ y => ?_
  blk_simp
  rw [after0_10]
  exact point m c H t y

end Cert.KernelIdeal.Hand

end
-- ==== Proof.PreVal.lean ====
/- The precondition: the arrays the attention reads hold reals. -/
module

public import proofs.«01_k».proof.Proof.RefVal
public import proofs.«01_k».proof.Proof.Gen.Pre_finite
public import Idealize.ShloMosaic.Lib.ReduceAll
public import Idealize.ShloMosaic.Lib.Pointwise

@[expose] public section

set_option maxRecDepth 16384

noncomputable section

namespace Cert.Pre_finite.Hand

open Cert.Pre_finite.Gen
open Idealize.ShloMosaic Idealize.ShloMosaic.TcCoe Idealize.ShloMosaic.Tactic

theorem lit_inf : Ideal.ofBits .f32 0x7F800000#32 = (⊤ : EReal) := by
  simp [Ideal.ofBits, Ideal.ieee]

/-- A value whose absolute value lies below the infinity is a real. -/
theorem real_of_lt (x : EReal) (h : max x (-x) < ⊤) : x = ((x.toReal : ℝ) : EReal) := by
  refine (EReal.coe_toReal (fun e => ?_) (fun e => ?_)).symm
  · rw [e] at h; simp at h
  · rw [e] at h; simp at h

/-- The test of the elements. -/
def chk {s : Shape} (x : FVec Ideal s .f32) (h : S_.BroadcastsInDim s (![] : Fin 0 → Fin s.rank)) : IVec s 1 :=
  cmpf .olt (Host.absf x) (broadcastInDim s ![] h (constant S_ .f32 0x7F800000#32))

theorem chk_real {s : Shape} (x : FVec Ideal s .f32) (h : S_.BroadcastsInDim s (![] : Fin 0 → Fin s.rank)) (i : s.Idx) (e : chk x h i = 1#1) :
    x i = (((x i : EReal).toReal : ℝ) : EReal) := by
  have e' : BitVec.ofBool (decide (max (x i : EReal) (-(x i : EReal)) < Ideal.ofBits .f32 0x7F800000#32)) = 1#1 := e
  rw [lit_inf] at e'
  refine real_of_lt _ ?_
  by_contra hn
  rw [decide_eq_false hn] at e'
  exact absurd e' (by decide)

theorem and_one : ∀ a b : BitVec 1, IntOp.andi a b = 1#1 → a = 1#1 ∧ b = 1#1 := by decide

theorem andi_at (a b : IVec S_ 1) (i : S_.Idx) (e : andi a b i = 1#1) : a i = 1#1 ∧ b i = 1#1 := and_one _ _ e

instance : Subsingleton S_.Idx := ⟨fun a b => funext fun x => x.elim0⟩

theorem all_real {s : Shape} {axes : List (Fin s.rank)} (x : FVec Ideal s .f32) (h : S_.BroadcastsInDim s (![] : Fin 0 → Fin s.rank)) (hr : s.ReducesTo axes S_) (j : S_.Idx)
    (e : Host.reduce IntOp.andi (chk x h) (constantI S_ 1 1#1) hr h_S_ j = 1#1) (i : s.Idx) : x i = (((x i : EReal).toReal : ℝ) : EReal) :=
  chk_real x h i (Host.reduce_andi_all _ _ hr h_S_ j e i)

variable (A0 A1 A2 : FVec Ideal S8x4096x256 .f32) (A3 : FVec Ideal S2048x768 .bf16) (A4 A5 A6 A7 : FVec Ideal S32 .f32) (A8 : FVec Ideal S64 .f32)

/-- The columns of the context's projections the attention reads. -/
def cols : FVec Ideal S2048x512 .f32 := extractStridedSlice S2048x512 ![0, 256] (extf .f32 A3 bitsLt_bf16_f32) slices_S2048x768_S2048x512_0_256

theorem cols_at (i : Fin 2048) (y : Fin 512) : cols A3 (ix2 i y : S2048x512.Idx) = A3 (ix2 i ⟨256 + y.val, by omega⟩ : S2048x768.Idx) := by
  pointwise [cols]

theorem fn_eq : Cert.Pre_finite.fn (F := Ideal) A0 A1 A2 A3 A4 A5 A6 A7 A8 =
    andi (andi (andi (andi (andi (andi (andi (andi (constantI S_ 1 1#1)
      (Host.reduce IntOp.andi (chk A0 bcast_S_S8x4096x256) (constantI S_ 1 1#1) reducesTo_S8x4096x256_S_d0_1_2 h_S_))
      (Host.reduce IntOp.andi (chk A1 bcast_S_S8x4096x256) (constantI S_ 1 1#1) reducesTo_S8x4096x256_S_d0_1_2 h_S_))
      (Host.reduce IntOp.andi (chk A2 bcast_S_S8x4096x256) (constantI S_ 1 1#1) reducesTo_S8x4096x256_S_d0_1_2 h_S_))
      (Host.reduce IntOp.andi (chk (cols A3) bcast_S_S2048x512) (constantI S_ 1 1#1) reducesTo_S2048x512_S_d0_1 h_S_))
      (Host.reduce IntOp.andi (chk A4 bcast_S_S32) (constantI S_ 1 1#1) reducesTo_S32_S_d0 h_S_))
      (Host.reduce IntOp.andi (chk A5 bcast_S_S32) (constantI S_ 1 1#1) reducesTo_S32_S_d0 h_S_))
      (Host.reduce IntOp.andi (chk A6 bcast_S_S32) (constantI S_ 1 1#1) reducesTo_S32_S_d0 h_S_))
      (Host.reduce IntOp.andi (chk A7 bcast_S_S32) (constantI S_ 1 1#1) reducesTo_S32_S_d0 h_S_) := rfl

/-- Under the precondition the arrays hold reals. -/
theorem holds (h : Cert.Pre_finite.fn (F := Ideal) A0 A1 A2 A3 A4 A5 A6 A7 A8 = fun _ => 1#1) :
    ∃ D : Cert.Spec.Data, Cert.ReferenceIdeal.Hand.Holds D A0 A1 A2 A3 A4 A5 A6 A7 := by
  rw [fn_eq] at h
  replace h := congrFun h (ix0 : S_.Idx)
  obtain ⟨h, h7⟩ := andi_at _ _ _ h
  obtain ⟨h, h6⟩ := andi_at _ _ _ h
  obtain ⟨h, h5⟩ := andi_at _ _ _ h
  obtain ⟨h, h4⟩ := andi_at _ _ _ h
  obtain ⟨h, h3⟩ := andi_at _ _ _ h
  obtain ⟨h, h2⟩ := andi_at _ _ _ h
  obtain ⟨h, h1⟩ := andi_at _ _ _ h
  obtain ⟨h, h0⟩ := andi_at _ _ _ h
  refine ⟨⟨fun b s x => (A0 (ix3 b s x : S8x4096x256.Idx) : EReal).toReal, fun b s x => (A1 (ix3 b s x : S8x4096x256.Idx) : EReal).toReal,
    fun b s x => (A2 (ix3 b s x : S8x4096x256.Idx) : EReal).toReal, fun i y => (A3 (ix2 i y : S2048x768.Idx) : EReal).toReal,
    fun e => (A4 (ix1 e : S32.Idx) : EReal).toReal, fun e => (A5 (ix1 e : S32.Idx) : EReal).toReal,
    fun e => (A6 (ix1 e : S32.Idx) : EReal).toReal, fun e => (A7 (ix1 e : S32.Idx) : EReal).toReal⟩, ?_⟩
  constructor
  · exact fun b s x => all_real A0 _ _ _ h0 _
  · exact fun b s x => all_real A1 _ _ _ h1 _
  · exact fun b s x => all_real A2 _ _ _ h2 _
  · intro i y hy
    have e := all_real (cols A3) _ _ _ h3 (ix2 i ⟨y.val - 256, by omega⟩ : S2048x512.Idx)
    rw [cols_at] at e
    have hz : (⟨256 + (y.val - 256), by omega⟩ : Fin 768) = y := Fin.ext (by show 256 + (y.val - 256) = y.val; omega)
    exact hz ▸ e
  · exact fun e => all_real A4 _ _ _ h4 _
  · exact fun e => all_real A5 _ _ _ h5 _
  · exact fun e => all_real A6 _ _ _ h6 _
  · exact fun e => all_real A7 _ _ _ h7 _

end Cert.Pre_finite.Hand

end
-- ==== Proof.Claims.lean ====
/- The claims about the reference, the named constant, and the two results being one array. -/
module

public import proofs.«01_k».proof.Defs
public import proofs.«01_k».proof.Proof.KVal
public import proofs.«01_k».proof.Proof.PreVal
public import Idealize.ShloMosaic.Lib.Quiescent

@[expose] public section

set_option maxRecDepth 16384

noncomputable section

namespace Cert.Proof.Attention

open Idealize.ShloMosaic Idealize.ShloMosaic.TcCoe Idealize.SL.Sem

/-- The reference runs, its arguments end unchanged, every counter at zero. -/
theorem frame_reference : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

/-- The same under the precondition. -/
theorem frame_reference_finite : Cert.quiescent_ReferenceIdeal_pre_finite := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

/-- The named constant has its value. -/
theorem preserves : Cert.preserves_Kernel_KernelIdeal :=
  IdealRules.named_const.statement Cert.KernelIdeal.κ "qscale" .f32 0x3E8293EE#32 (((Real.sqrt 32)⁻¹ * (Real.log 2)⁻¹ : ℝ) : EReal) rfl

section

open Cert.KernelIdeal

/-- The kernel's result array is the reference's result of the arguments. -/
theorem result (m : (ℓ : Loc nD τ sig) → Buf (Elt Ideal) ℓ) (hp : Cert.Pre_KernelIdeal_finite m) (c : Dev nD) :
    (Hand.dats m 0 c).arrAt 10 (Cert.KernelIdeal.cfgs 0).N = Cert.ReferenceIdeal.Hand.refm (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) := by
  obtain ⟨D, H⟩ := Cert.Pre_finite.Hand.holds _ _ _ _ _ _ _ _ _ (hp c)
  refine (Hand.final m c H).trans (funext fun i => ?_)
  idx_vars i
  exact (Cert.ReferenceIdeal.Hand.refm_val H _ _ _).symm

end

/-- From arguments that agree the two programs end with equal results. -/
theorem algebraic : Cert.algebraic_KernelIdeal_ReferenceIdeal_pre_finite := by
  intro m ρ m' ρ' hp hagree
  refine ⟨fun c => Cert.ReferenceIdeal.Hand.refm (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)),
    (θ_run Cert.KernelIdeal.defs _ _).mono (fun _ h c => ⟨((h.1 c).1 10).trans (result m hp c), Cert.KernelIdeal.Hand.args_kept m h.1 c⟩)
      (Cert.KernelIdeal.Hand.run_main_quiescent (F := Ideal) m ρ), ?_⟩
  refine (θ_run Cert.ReferenceIdeal.defs _ _).mono (fun _ h c => ⟨(h c).1.trans ((Cert.ReferenceIdeal.Hand.res_eq m' c).trans ?_), (h c).2⟩)
    (Cert.ReferenceIdeal.Value.run (F := Ideal) m' ρ')
  obtain ⟨e0, e1, e2, e3, e4, e5, e6, e7, e8⟩ := hagree c
  rw [e0, e1, e2, e3, e4, e5, e6, e7, e8]

end Cert.Proof.Attention

end
-- ==== Proof.InPay.lean ====
/- The values the body of the input projection stores, at an index. -/
module

public import proofs.«01_k».proof.Proof.Gen.Kernel2Ideal.Skeleton
public import Idealize.ShloMosaic.Lib.Pipeline.ValueKit
public import Idealize.ShloMosaic.Lib.Pointwise

@[expose] public section

set_option maxRecDepth 16384

noncomputable section

namespace Cert.Kernel2Ideal.In

open Cert.Kernel2Ideal Cert.Kernel2Ideal.Gen
open Idealize.ShloMosaic Idealize.ShloMosaic.TcCoe
open Idealize.ShloMosaic.Tactic

/-- The product of row `a` of the normalized input with column `j` of the weights; zero past the last column. -/
def D (H : Vec Ideal S512x1024 .bf16) (W : Vec Ideal S1024x6400 .bf16) (a : Fin 512) (j : ℕ) : EReal :=
  if h : j < 6400 then ∑ k : Fin 1024, H (ix2 a k) * W (ix2 k ⟨j, h⟩) else 0

theorem D_mk (H : Vec Ideal S512x1024 .bf16) (W : Vec Ideal S1024x6400 .bf16) (a : Fin 512) (j : ℕ) (h : j < 6400) :
    (∑ k : Fin 1024, H (ix2 a k) * W (ix2 k ⟨j, h⟩)) = D H W a j := by
  unfold D; rw [dif_pos h]

/-- A column turned with its partner, `q` columns away, by the tables' cosine and signed sine. -/
def rot (q : ℕ) (Y : ℕ → EReal) (cv sv : EReal) (c : ℕ) : EReal :=
  Y c * cv + (if c % (2 * q) < q then Y (c + q) else Y (c - q)) * sv

theorem lane32 (c : ℕ) (hc : c < 128) (A B : EReal) :
    Scalar.select (IntOp.cmpi .slt (Scalar.select (IntOp.andi (IntOp.xori
        (IntOp.cmpi .slt (IntOp.remsi .vector (BitVec.ofNat 32 c) 32#32) 0#32) (Scalar.cmpi .slt 32#32 0#32))
        (IntOp.cmpi .ne (IntOp.remsi .vector (BitVec.ofNat 32 c) 32#32) 0#32))
        (IntOp.addi (IntOp.remsi .vector (BitVec.ofNat 32 c) 32#32) 32#32)
        (IntOp.remsi .vector (BitVec.ofNat 32 c) 32#32)) 16#32) A B = if c % 32 < 16 then A else B := by
  have key : ∀ i : Fin 128, IntOp.cmpi .slt (Scalar.select (IntOp.andi (IntOp.xori
        (IntOp.cmpi .slt (IntOp.remsi .vector (BitVec.ofNat 32 i.val) 32#32) 0#32) (Scalar.cmpi .slt 32#32 0#32))
        (IntOp.cmpi .ne (IntOp.remsi .vector (BitVec.ofNat 32 i.val) 32#32) 0#32))
        (IntOp.addi (IntOp.remsi .vector (BitVec.ofNat 32 i.val) 32#32) 32#32)
        (IntOp.remsi .vector (BitVec.ofNat 32 i.val) 32#32)) 16#32 = if i.val % 32 < 16 then 1#1 else 0#1 := by
    decide +kernel
  rw [key ⟨c, hc⟩]
  show Scalar.select (if c % 32 < 16 then 1#1 else 0#1) A B = _
  split_ifs <;> rfl

theorem wid32 : Scalar.select (Scalar.cmpi .eq 32#32 0#32) 1#32 32#32 = 32#32 := by decide

theorem lane16 (c : ℕ) (hc : c < 128) (A B : EReal) :
    Scalar.select (IntOp.cmpi .slt (Scalar.select (IntOp.andi (IntOp.xori
        (IntOp.cmpi .slt (IntOp.remsi .vector (BitVec.ofNat 32 c) 16#32) 0#32) (Scalar.cmpi .slt 16#32 0#32))
        (IntOp.cmpi .ne (IntOp.remsi .vector (BitVec.ofNat 32 c) 16#32) 0#32))
        (IntOp.addi (IntOp.remsi .vector (BitVec.ofNat 32 c) 16#32) 16#32)
        (IntOp.remsi .vector (BitVec.ofNat 32 c) 16#32)) 8#32) A B = if c % 16 < 8 then A else B := by
  have key : ∀ i : Fin 128, IntOp.cmpi .slt (Scalar.select (IntOp.andi (IntOp.xori
        (IntOp.cmpi .slt (IntOp.remsi .vector (BitVec.ofNat 32 i.val) 16#32) 0#32) (Scalar.cmpi .slt 16#32 0#32))
        (IntOp.cmpi .ne (IntOp.remsi .vector (BitVec.ofNat 32 i.val) 16#32) 0#32))
        (IntOp.addi (IntOp.remsi .vector (BitVec.ofNat 32 i.val) 16#32) 16#32)
        (IntOp.remsi .vector (BitVec.ofNat 32 i.val) 16#32)) 8#32 = if i.val % 16 < 8 then 1#1 else 0#1 := by
    decide +kernel
  rw [key ⟨c, hc⟩]
  show Scalar.select (if c % 16 < 8 then 1#1 else 0#1) A B = _
  split_ifs <;> rfl

theorem wid16 : Scalar.select (Scalar.cmpi .eq 16#32 0#32) 1#32 16#32 = 16#32 := by decide

theorem r25 (y : FVec Ideal S512x256 .f32) (cv sv : Vec Ideal S512x128 .f32) (a : Fin 512) (Y : ℕ → EReal)
    (hy : ∀ c : Fin 256, y (ix2 a c) = Y c) (c : Fin 128) :
    k0_pay25 y (k0_pay23 cv) sv (ix2 a c) = rot 16 Y (cv (ix2 a c)) (sv (ix2 a c)) c := by
  pointwise [k0_pay25, k0_pay24, k0_pay23]
  simp only [wid32, hy]
  unfold rot
  rw [lane32 _ (by omega)]
  simp only [Nat.reduceMul]
  by_cases hl : c.val % 32 < 16
  · have e1 : (c.val + 128 - 112) % 128 = c.val + 16 := by omega
    simp only [if_pos hl, e1]
  · have e1 : (c.val + 128 - 16) % 128 = c.val - 16 := by omega
    simp only [if_neg hl, e1]

theorem r31 (y : FVec Ideal S512x256 .f32) (cv sv : Vec Ideal S512x128 .f32) (z : FVec Ideal S512x128 .f32) (a : Fin 512) (Y : ℕ → EReal)
    (hy : ∀ c : Fin 256, y (ix2 a c) = Y c) (hz : ∀ c : Fin 128, z (ix2 a c) = rot 16 Y (cv (ix2 a c)) (sv (ix2 a c)) c) (c : Fin 256) :
    k0_pay31 (k0_pay30 (k0_pay23 cv) (k0_pay24 sv) z (k0_pay26 y) 32#32 k0_pay27 k0_pay28) (ix2 a c)
      = rot 16 Y (cv (ix2 a ⟨c.val % 128, by omega⟩)) (sv (ix2 a ⟨c.val % 128, by omega⟩)) c * (Named.named κ "scale64" 1043900987#32 : Ideal FTy.f32) := by
  pointwise [k0_pay31, k0_pay30, k0_pay23, k0_pay24, k0_pay26, k0_pay27, k0_pay28]
  simp only [wid32, hy, hz]
  unfold rot
  simp only [Nat.reduceMul]
  by_cases h128 : c.val < 128
  · have e0 : c.val % 128 = c.val := by omega
    simp only [dif_pos h128, e0]
  · have e0 : c.val % 128 = c.val - 128 := by omega
    have e2 : 128 + (c.val - 128) = c.val := by omega
    have e3 : (c.val - 128) % 32 = c.val % 32 := by omega
    simp only [dif_neg h128, e0]
    rw [lane32 _ (by omega), e3]
    by_cases hl : c.val % 32 < 16
    · have e1 : 128 + (c.val - 128 + 128 - 112) % 128 = c.val + 16 := by omega
      simp only [if_pos hl, e1, e2]
    · have e1 : 128 + (c.val - 128 + 128 - 16) % 128 = c.val - 16 := by omega
      simp only [if_neg hl, e1, e2]

theorem r32 (y : FVec Ideal S512x128 .f32) (cv sv : Vec Ideal S512x128 .f32) (a : Fin 512) (Y : ℕ → EReal)
    (hy : ∀ c : Fin 128, y (ix2 a c) = Y c) (c : Fin 128) :
    k0_pay32 (k0_pay29 y cv sv) (ix2 a c) = rot 16 Y (cv (ix2 a c)) (sv (ix2 a c)) c := by
  pointwise [k0_pay32, k0_pay29]
  simp only [wid32, hy]
  unfold rot
  rw [lane32 _ (by omega)]
  simp only [Nat.reduceMul]
  by_cases hl : c.val % 32 < 16
  · have e1 : (c.val + 128 - 112) % 128 = c.val + 16 := by omega
    simp only [if_pos hl, e1]
  · have e1 : (c.val + 128 - 16) % 128 = c.val - 16 := by omega
    simp only [if_neg hl, e1]

theorem r53 (y : FVec Ideal S512x256 .f32) (cv sv : Vec Ideal S512x128 .f32) (a : Fin 512) (Y : ℕ → EReal)
    (hy : ∀ c : Fin 256, y (ix2 a c) = Y c) (c : Fin 256) :
    k0_pay53 (k0_pay46 (k0_pay42 cv) (k0_pay43 sv) (k0_pay44 y) 16#32 k0_pay45) (k0_pay48 y (k0_pay42 cv)) (k0_pay49 y (k0_pay43 sv)) (ix2 a c)
      = rot 8 Y (cv (ix2 a ⟨c.val % 128, by omega⟩)) (sv (ix2 a ⟨c.val % 128, by omega⟩)) c := by
  pointwise [k0_pay53, k0_pay50, k0_pay46, k0_pay42, k0_pay43, k0_pay44, k0_pay45, k0_pay48, k0_pay49, k0_pay47]
  simp only [wid16, hy]
  unfold rot
  simp only [Nat.reduceMul]
  by_cases h128 : c.val < 128
  · have e0 : c.val % 128 = c.val := by omega
    simp only [dif_pos h128, e0]
    rw [lane16 _ (by omega)]
    by_cases hl : c.val % 16 < 8
    · have e1 : (c.val + 128 - 120) % 128 = c.val + 8 := by omega
      simp only [if_pos hl, e1]
    · have e1 : (c.val + 128 - 8) % 128 = c.val - 8 := by omega
      simp only [if_neg hl, e1]
  · have e0 : c.val % 128 = c.val - 128 := by omega
    have e2 : 128 + (c.val - 128) = c.val := by omega
    have e3 : (c.val - 128) % 16 = c.val % 16 := by omega
    simp only [dif_neg h128, e0]
    rw [lane16 _ (by omega), e3]
    by_cases hl : c.val % 16 < 8
    · have e1 : 128 + (c.val - 128 + 128 - 120) % 128 = c.val + 8 := by omega
      simp only [if_pos hl, e1, e2]
    · have e1 : 128 + (c.val - 128 + 128 - 8) % 128 = c.val - 8 := by omega
      simp only [if_neg hl, e1, e2]

theorem r52 (H : FVec Ideal S512x1024 .bf16) (w : Vec Ideal S1024x768 .bf16) (cv sv : Vec Ideal S512x128 .f32) (a : Fin 512) (Y : ℕ → EReal)
    (hy : ∀ c : Fin 256, k0_pay35 H w (ix2 a c) = Y c) (c : Fin 256) :
    k0_pay52 (k0_pay41 (k0_pay35 H w) (k0_pay37 cv) (k0_pay38 sv) (k0_pay39 H w) k0_pay40 120#32) (ix2 a c)
      = rot 8 Y (cv (ix2 a ⟨c.val % 128, by omega⟩)) (sv (ix2 a ⟨c.val % 128, by omega⟩)) c * (Named.named κ "scale32" 1048744942#32 : Ideal FTy.f32) := by
  pointwise [k0_pay52, k0_pay51, k0_pay41, k0_pay37, k0_pay38, k0_pay39, k0_pay40]
  simp only [wid16, hy]
  unfold rot
  simp only [Nat.reduceMul]
  by_cases h128 : c.val < 128
  · have e0 : c.val % 128 = c.val := by omega
    simp only [dif_pos h128, e0]
    rw [lane16 _ (by omega)]
    by_cases hl : c.val % 16 < 8
    · have e1 : (c.val + 128 - 120) % 128 = c.val + 8 := by omega
      simp only [if_pos hl, e1]
    · have e1 : (c.val + 128 - 8) % 128 = c.val - 8 := by omega
      simp only [if_neg hl, e1]
  · have e0 : c.val % 128 = c.val - 128 := by omega
    have e2 : 128 + (c.val - 128) = c.val := by omega
    have e3 : (c.val - 128) % 16 = c.val % 16 := by omega
    simp only [dif_neg h128, e0]
    rw [lane16 _ (by omega), e3]
    by_cases hl : c.val % 16 < 8
    · have e1 : 128 + (c.val - 128 + 128 - 120) % 128 = c.val + 8 := by omega
      simp only [if_pos hl, e1, e2]
    · have e1 : 128 + (c.val - 128 + 128 - 8) % 128 = c.val - 8 := by omega
      simp only [if_neg hl, e1, e2]

end Cert.Kernel2Ideal.In

end
-- ==== Proof.InBlk.lean ====
/- What the body of the input projection leaves in each block, at an index. -/
module

public import proofs.«01_k».proof.Proof.Gen.Kernel2Ideal.Frame
public import proofs.«01_k».proof.Proof.InPay
public import Idealize.ShloMosaic.Lib.Pipeline.ValueKit
public import Idealize.ShloMosaic.Lib.Pointwise

@[expose] public section

set_option maxRecDepth 16384

noncomputable section

namespace Cert.Kernel2Ideal.In

open Cert.Kernel2Ideal Cert.Kernel2Ideal.Gen
open Idealize.ShloMosaic Idealize.ShloMosaic.TcCoe
open Idealize.ShloMosaic.Tactic
variable (m : (ℓ : Loc nD τ sig) → Buf (Elt Ideal) ℓ)

theorem p34 (H : FVec Ideal S512x1024 .bf16) (W : Vec Ideal S1024x6400 .bf16) (a : Fin 512) (c : Fin 768) :
    k0_pay34 H (View.ld W (Rect.unit ![0, 5632] ![1024, 768] inb_S1024x6400_S1024x768_0_5632)) (ix2 a c) = D H W a (5632 + c) := by
  pointwise [k0_pay34]
  exact D_mk H W a _ _

theorem p35 (H : FVec Ideal S512x1024 .bf16) (W : Vec Ideal S1024x6400 .bf16) (a : Fin 512) (c : Fin 256) :
    k0_pay35 H (View.ld W (Rect.unit ![0, 5632] ![1024, 768] inb_S1024x6400_S1024x768_0_5632)) (ix2 a c) = D H W a (5632 + c) := by
  pointwise [k0_pay35, k0_pay34]
  exact D_mk H W a _ _

theorem p36 (H : FVec Ideal S512x1024 .bf16) (W : Vec Ideal S1024x6400 .bf16) (a : Fin 512) (c : Fin 256) :
    k0_pay36 H (View.ld W (Rect.unit ![0, 5632] ![1024, 768] inb_S1024x6400_S1024x768_0_5632)) (ix2 a c) = D H W a (5632 + (256 + c)) := by
  pointwise [k0_pay36, k0_pay34]
  exact D_mk H W a _ _

theorem p21 (H : FVec Ideal S512x1024 .bf16) (W : Vec Ideal S1024x6400 .bf16) (a : Fin 512) (c : Fin 256) :
    k0_pay21 H (View.ld W (Rect.unit ![0, 5120] ![1024, 512] inb_S1024x6400_S1024x512_0_5120)) (ix2 a c) = D H W a (5120 + c) := by
  pointwise [k0_pay21, k0_pay20]
  exact D_mk H W a _ _

theorem p22 (H : FVec Ideal S512x1024 .bf16) (W : Vec Ideal S1024x6400 .bf16) (a : Fin 512) (c : Fin 128) :
    k0_pay22 H (View.ld W (Rect.unit ![0, 5120] ![1024, 512] inb_S1024x6400_S1024x512_0_5120)) (ix2 a c) = D H W a (5120 + (256 + c)) := by
  pointwise [k0_pay22, k0_pay20]
  exact D_mk H W a _ _

theorem p33 (H : FVec Ideal S512x1024 .bf16) (W : Vec Ideal S1024x6400 .bf16) (a : Fin 512) (c : Fin 128) :
    k0_pay33 (k0_pay20 H (View.ld W (Rect.unit ![0, 5120] ![1024, 512] inb_S1024x6400_S1024x512_0_5120))) (ix2 a c) = D H W a (5120 + (384 + c)) := by
  pointwise [k0_pay33, k0_pay20]
  exact D_mk H W a _ _

theorem p54 (H : FVec Ideal S512x1024 .bf16) (W : Vec Ideal S1024x6400 .bf16) (a : Fin 512) (c : Fin 256) :
    k0_pay54 (k0_pay34 H (View.ld W (Rect.unit ![0, 5632] ![1024, 768] inb_S1024x6400_S1024x768_0_5632))) (ix2 a c) = D H W a (5632 + (512 + c)) := by
  pointwise [k0_pay54, k0_pay34]
  exact D_mk H W a _ _

/-- The normalized, modulated rows of a block. -/
def Hb (c : Dev nD) (t : Fin cfg0.N) : FVec Ideal S512x1024 .bf16 :=
  k0_pay4 (F := Ideal) (iblk m c 0 t) (iblk m c 1 t) (iblk m c 2 t) (iblk m c 3 t)

/-- The block's weights. -/
def Wb (c : Dev nD) (t : Fin cfg0.N) : Vec Ideal S1024x6400 .bf16 := iblk m c 4 t

theorem g3584 (H : FVec Ideal S512x1024 .bf16) (W : Vec Ideal S1024x6400 .bf16) (a : Fin 512) (c : Fin 512) :
    k0_pay14 H (View.ld W (Rect.unit ![0, 3584] ![1024, 512] inb_S1024x6400_S1024x512_0_3584)) (ix2 a c) = Ideal.logistic (D H W a (3584 + c)) := by
  pointwise [k0_pay14]
  first
    | rw [D_mk]
    | exact D_mk H W a _ _
    | exact congrArg (· * (Named.named κ "scale64" 1043900987#32 : Ideal FTy.f32)) (D_mk H W a _ _)
    | exact congrArg Ideal.logistic (D_mk H W a _ _)

theorem g3072 (H : FVec Ideal S512x1024 .bf16) (W : Vec Ideal S1024x6400 .bf16) (a : Fin 512) (c : Fin 512) :
    k0_pay13 (k0_pay12 H (View.ld W (Rect.unit ![0, 3072] ![1024, 512] inb_S1024x6400_S1024x512_0_3072))) (ix2 a c) = Ideal.logistic (D H W a (3072 + c)) := by
  pointwise [k0_pay13, k0_pay12]
  first
    | rw [D_mk]
    | exact D_mk H W a _ _
    | exact congrArg (· * (Named.named κ "scale64" 1043900987#32 : Ideal FTy.f32)) (D_mk H W a _ _)
    | exact congrArg Ideal.logistic (D_mk H W a _ _)

theorem g2560 (H : FVec Ideal S512x1024 .bf16) (W : Vec Ideal S1024x6400 .bf16) (a : Fin 512) (c : Fin 512) :
    k0_pay11 H (View.ld W (Rect.unit ![0, 2560] ![1024, 512] inb_S1024x6400_S1024x512_0_2560)) (ix2 a c) = Ideal.logistic (D H W a (2560 + c)) := by
  pointwise [k0_pay11]
  first
    | rw [D_mk]
    | exact D_mk H W a _ _
    | exact congrArg (· * (Named.named κ "scale64" 1043900987#32 : Ideal FTy.f32)) (D_mk H W a _ _)
    | exact congrArg Ideal.logistic (D_mk H W a _ _)

theorem g2048 (H : FVec Ideal S512x1024 .bf16) (W : Vec Ideal S1024x6400 .bf16) (a : Fin 512) (c : Fin 512) :
    k0_pay10 H (View.ld W (Rect.unit ![0, 2048] ![1024, 512] inb_S1024x6400_S1024x512_0_2048)) (ix2 a c) = Ideal.logistic (D H W a (2048 + c)) := by
  pointwise [k0_pay10]
  first
    | rw [D_mk]
    | exact D_mk H W a _ _
    | exact congrArg (· * (Named.named κ "scale64" 1043900987#32 : Ideal FTy.f32)) (D_mk H W a _ _)
    | exact congrArg Ideal.logistic (D_mk H W a _ _)

theorem g1536 (H : FVec Ideal S512x1024 .bf16) (W : Vec Ideal S1024x6400 .bf16) (a : Fin 512) (c : Fin 512) :
    k0_pay9 H (View.ld W (Rect.unit ![0, 1536] ![1024, 512] inb_S1024x6400_S1024x512_0_1536)) (ix2 a c) = Ideal.logistic (D H W a (1536 + c)) := by
  pointwise [k0_pay9]
  first
    | rw [D_mk]
    | exact D_mk H W a _ _
    | exact congrArg (· * (Named.named κ "scale64" 1043900987#32 : Ideal FTy.f32)) (D_mk H W a _ _)
    | exact congrArg Ideal.logistic (D_mk H W a _ _)

theorem g1024 (H : FVec Ideal S512x1024 .bf16) (W : Vec Ideal S1024x6400 .bf16) (a : Fin 512) (c : Fin 512) :
    k0_pay8 H (View.ld W (Rect.unit ![0, 1024] ![1024, 512] inb_S1024x6400_S1024x512_0_1024)) (ix2 a c) = Ideal.logistic (D H W a (1024 + c)) := by
  pointwise [k0_pay8]
  first
    | rw [D_mk]
    | exact D_mk H W a _ _
    | exact congrArg (· * (Named.named κ "scale64" 1043900987#32 : Ideal FTy.f32)) (D_mk H W a _ _)
    | exact congrArg Ideal.logistic (D_mk H W a _ _)

theorem g512 (x : Vec Ideal S512x1024 .f32) (g : Vec Ideal S1x1024 .f32) (s b : Vec Ideal S1x1x1024 .f32) (W : Vec Ideal S1024x6400 .bf16) (a : Fin 512) (c : Fin 512) :
    k0_pay7 (k0_pay6 x g s b (View.ld W (Rect.unit ![0, 512] ![1024, 512] inb_S1024x6400_S1024x512_0_512))) (ix2 a c) = Ideal.logistic (D (k0_pay4 x g s b) W a (512 + c)) := by
  pointwise [k0_pay7, k0_pay6]
  exact congrArg Ideal.logistic (D_mk (k0_pay4 x g s b) W a _ _)

theorem g0 (x : Vec Ideal S512x1024 .f32) (g : Vec Ideal S1x1024 .f32) (s b : Vec Ideal S1x1x1024 .f32) (W : Vec Ideal S1024x6400 .bf16) (a : Fin 512) (c : Fin 512) :
    k0_pay5 x g s b (View.ld W (Rect.unit ![0, 0] ![1024, 512] inb_S1024x6400_S1024x512_0_0)) (ix2 a c) = Ideal.logistic (D (k0_pay4 x g s b) W a (0 + c)) := by
  pointwise [k0_pay5]
  exact congrArg Ideal.logistic (D_mk (k0_pay4 x g s b) W a _ _)

theorem p15 (H : FVec Ideal S512x1024 .bf16) (W : Vec Ideal S1024x6400 .bf16) (a : Fin 512) (c : Fin 256) :
    k0_pay15 H (View.ld W (Rect.unit ![0, 4096] ![1024, 256] inb_S1024x6400_S1024x256_0_4096)) (ix2 a c) = D H W a (4096 + c) := by
  pointwise [k0_pay15]
  first
    | rw [D_mk]
    | exact D_mk H W a _ _
    | exact congrArg (· * (Named.named κ "scale64" 1043900987#32 : Ideal FTy.f32)) (D_mk H W a _ _)
    | exact congrArg Ideal.logistic (D_mk H W a _ _)

theorem p19 (H : FVec Ideal S512x1024 .bf16) (W : Vec Ideal S1024x6400 .bf16) (a : Fin 512) (c : Fin 512) :
    k0_pay19 H (View.ld W (Rect.unit ![0, 4352] ![1024, 768] inb_S1024x6400_S1024x768_0_4352)) (ix2 a c) = D H W a (4352 + (256 + c)) := by
  pointwise [k0_pay19, k0_pay16]
  first
    | rw [D_mk]
    | exact D_mk H W a _ _
    | exact congrArg (· * (Named.named κ "scale64" 1043900987#32 : Ideal FTy.f32)) (D_mk H W a _ _)
    | exact congrArg Ideal.logistic (D_mk H W a _ _)

theorem p18 (H : FVec Ideal S512x1024 .bf16) (W : Vec Ideal S1024x6400 .bf16) (a : Fin 512) (c : Fin 256) :
    k0_pay18 H (View.ld W (Rect.unit ![0, 4352] ![1024, 768] inb_S1024x6400_S1024x768_0_4352)) (ix2 a c) = D H W a (4352 + c) * (Named.named κ "scale64" 1043900987#32 : Ideal FTy.f32) := by
  pointwise [k0_pay18, k0_pay17, k0_pay16]
  first
    | rw [D_mk]
    | exact D_mk H W a _ _
    | exact congrArg (· * (Named.named κ "scale64" 1043900987#32 : Ideal FTy.f32)) (D_mk H W a _ _)
    | exact congrArg Ideal.logistic (D_mk H W a _ _)

theorem o9 (c : Dev nD) (t : Fin cfg0.N) (a : Fin 512) (j : Fin 4096) :
    (outsAt0 m c t).1 (ix2 a j) = Ideal.logistic (D (Hb m c t) (Wb m c t) a j) := by
  unfold Gen.outsAt0
  frame_out
  canon_tiles x h using (by refine View.cover_of_tiledBy _ (![512, 512] : Fin 2 → ℕ) ?_ _; sl_kernel_rfl)
  · have hj : j.val = 3584 + (x 1).val := h1
    have hx : x = ix2 a ⟨j.val - 3584, by omega⟩ := by
      funext b
      match b with
      | 0 => exact Fin.ext h0.symm
      | 1 => exact Fin.ext (show (x 1).val = j.val - 3584 by omega)
    rw [hx]
    refine (g3584 (Hb m c t) (Wb m c t) a ⟨j.val - 3584, by omega⟩).trans (congrArg Ideal.logistic (congrArg (D (Hb m c t) (Wb m c t) a) ?_))
    show 3584 + (j.val - 3584) = _
    omega
  · have hj : j.val = 3072 + (x 1).val := h1
    have hx : x = ix2 a ⟨j.val - 3072, by omega⟩ := by
      funext b
      match b with
      | 0 => exact Fin.ext h0.symm
      | 1 => exact Fin.ext (show (x 1).val = j.val - 3072 by omega)
    rw [hx]
    refine (g3072 (Hb m c t) (Wb m c t) a ⟨j.val - 3072, by omega⟩).trans (congrArg Ideal.logistic (congrArg (D (Hb m c t) (Wb m c t) a) ?_))
    show 3072 + (j.val - 3072) = _
    omega
  · have hj : j.val = 2560 + (x 1).val := h1
    have hx : x = ix2 a ⟨j.val - 2560, by omega⟩ := by
      funext b
      match b with
      | 0 => exact Fin.ext h0.symm
      | 1 => exact Fin.ext (show (x 1).val = j.val - 2560 by omega)
    rw [hx]
    refine (g2560 (Hb m c t) (Wb m c t) a ⟨j.val - 2560, by omega⟩).trans (congrArg Ideal.logistic (congrArg (D (Hb m c t) (Wb m c t) a) ?_))
    show 2560 + (j.val - 2560) = _
    omega
  · have hj : j.val = 2048 + (x 1).val := h1
    have hx : x = ix2 a ⟨j.val - 2048, by omega⟩ := by
      funext b
      match b with
      | 0 => exact Fin.ext h0.symm
      | 1 => exact Fin.ext (show (x 1).val = j.val - 2048 by omega)
    rw [hx]
    refine (g2048 (Hb m c t) (Wb m c t) a ⟨j.val - 2048, by omega⟩).trans (congrArg Ideal.logistic (congrArg (D (Hb m c t) (Wb m c t) a) ?_))
    show 2048 + (j.val - 2048) = _
    omega
  · have hj : j.val = 1536 + (x 1).val := h1
    have hx : x = ix2 a ⟨j.val - 1536, by omega⟩ := by
      funext b
      match b with
      | 0 => exact Fin.ext h0.symm
      | 1 => exact Fin.ext (show (x 1).val = j.val - 1536 by omega)
    rw [hx]
    refine (g1536 (Hb m c t) (Wb m c t) a ⟨j.val - 1536, by omega⟩).trans (congrArg Ideal.logistic (congrArg (D (Hb m c t) (Wb m c t) a) ?_))
    show 1536 + (j.val - 1536) = _
    omega
  · have hj : j.val = 1024 + (x 1).val := h1
    have hx : x = ix2 a ⟨j.val - 1024, by omega⟩ := by
      funext b
      match b with
      | 0 => exact Fin.ext h0.symm
      | 1 => exact Fin.ext (show (x 1).val = j.val - 1024 by omega)
    rw [hx]
    refine (g1024 (Hb m c t) (Wb m c t) a ⟨j.val - 1024, by omega⟩).trans (congrArg Ideal.logistic (congrArg (D (Hb m c t) (Wb m c t) a) ?_))
    show 1024 + (j.val - 1024) = _
    omega
  · have hj : j.val = 512 + (x 1).val := h1
    have hx : x = ix2 a ⟨j.val - 512, by omega⟩ := by
      funext b
      match b with
      | 0 => exact Fin.ext h0.symm
      | 1 => exact Fin.ext (show (x 1).val = j.val - 512 by omega)
    rw [hx]
    refine (g512 _ _ _ _ (Wb m c t) a ⟨j.val - 512, by omega⟩).trans (congrArg Ideal.logistic (congrArg (D (Hb m c t) (Wb m c t) a) ?_))
    show 512 + (j.val - 512) = _
    omega
  · have hj : j.val = 0 + (x 1).val := h1.trans (Nat.zero_add _).symm
    have hx : x = ix2 a ⟨j.val - 0, by omega⟩ := by
      funext b
      match b with
      | 0 => exact Fin.ext h0.symm
      | 1 => exact Fin.ext (show (x 1).val = j.val - 0 by omega)
    rw [hx]
    refine (g0 _ _ _ _ (Wb m c t) a ⟨j.val - 0, by omega⟩).trans (congrArg Ideal.logistic (congrArg (D (Hb m c t) (Wb m c t) a) ?_))
    show 0 + (j.val - 0) = _
    omega

theorem o10 (c : Dev nD) (t : Fin cfg0.N) (a : Fin 512) (j : Fin 256) :
    (outsAt0 m c t).2.1 (ix2 a j) = D (Hb m c t) (Wb m c t) a (4096 + j) := by
  unfold Gen.outsAt0
  frame_out
  exact p15 (Hb m c t) (Wb m c t) a j

theorem o11 (c : Dev nD) (t : Fin cfg0.N) (a : Fin 512) (j : Fin 768) :
    (outsAt0 m c t).2.2.1 (ix2 a j) = if j.val < 256 then D (Hb m c t) (Wb m c t) a (4352 + j) * (Named.named κ "scale64" 1043900987#32 : Ideal FTy.f32)
      else D (Hb m c t) (Wb m c t) a (4352 + j) := by
  unfold Gen.outsAt0
  frame_out
  canon_tiles x h using (by refine View.cover_of_tiledBy _ (![512, 256] : Fin 2 → ℕ) ?_ _; sl_kernel_rfl)
  · have hj : j.val = 256 + (x 1).val := h1
    have hx : x = ix2 a ⟨j.val - 256, by omega⟩ := by
      funext b
      match b with
      | 0 => exact Fin.ext h0.symm
      | 1 => exact Fin.ext (show (x 1).val = j.val - 256 by omega)
    rw [if_neg (by omega), hx]
    refine (p19 (Hb m c t) (Wb m c t) a ⟨j.val - 256, by omega⟩).trans (congrArg (D (Hb m c t) (Wb m c t) a) ?_)
    show _ + (256 + (j.val - 256)) = _
    omega
  · have hj : j.val = (x 1).val := h1
    have hx : x = ix2 a ⟨j.val - 0, by omega⟩ := by
      funext b
      match b with
      | 0 => exact Fin.ext h0.symm
      | 1 => exact Fin.ext (show (x 1).val = j.val - 0 by omega)
    rw [if_pos (by omega), hx]
    exact p18 (Hb m c t) (Wb m c t) a ⟨j.val, by omega⟩

theorem o12 (c : Dev nD) (t : Fin cfg0.N) (a : Fin 512) (j : Fin 512) :
    (outsAt0 m c t).2.2.2.1 (ix2 a j) =
      if j.val < 256 then rot 16 (fun n => D (Hb m c t) (Wb m c t) a (5120 + n)) (iblk m c 5 t (ix2 a ⟨j.val % 128, by omega⟩))
          (iblk m c 6 t (ix2 a ⟨j.val % 128, by omega⟩)) j * (Named.named κ "scale64" 1043900987#32 : Ideal FTy.f32)
      else if j.val < 384 then rot 16 (fun n => D (Hb m c t) (Wb m c t) a (5120 + (256 + n))) (iblk m c 5 t (ix2 a ⟨(j.val - 256) % 128, by omega⟩))
          (iblk m c 6 t (ix2 a ⟨(j.val - 256) % 128, by omega⟩)) (j.val - 256)
      else D (Hb m c t) (Wb m c t) a (5120 + j) := by
  unfold Gen.outsAt0
  frame_out
  canon_tiles x h using (by refine View.cover_of_tiledBy _ (![512, 128] : Fin 2 → ℕ) ?_ _; sl_kernel_rfl)
  · have hj : j.val = 384 + (x 1).val := h1
    have hx : x = ix2 a ⟨j.val - 384, by omega⟩ := by
      funext b
      match b with
      | 0 => exact Fin.ext h0.symm
      | 1 => exact Fin.ext (show (x 1).val = j.val - 384 by omega)
    rw [if_neg (by omega), if_neg (by omega), hx]
    refine (p33 (Hb m c t) (Wb m c t) a ⟨j.val - 384, by omega⟩).trans (congrArg _ ?_)
    show _ + (384 + (j.val - 384)) = _
    omega
  · have hj : j.val = 256 + (x 1).val := h1
    have hx : x = ix2 a ⟨j.val - 256, by omega⟩ := by
      funext b
      match b with
      | 0 => exact Fin.ext h0.symm
      | 1 => exact Fin.ext (show (x 1).val = j.val - 256 by omega)
    rw [if_neg (by omega), if_pos (by omega), hx]
    have e : (j.val - 256) % 128 = j.val - 256 := by omega
    simp only [e]
    exact r32 _ _ _ a (fun n => D (Hb m c t) (Wb m c t) a (5120 + (256 + n))) (fun q => p22 (Hb m c t) (Wb m c t) a q) ⟨j.val - 256, by omega⟩
  · have hj : j.val = (x 1).val := h1
    have hx : x = ix2 a ⟨j.val, by omega⟩ := by
      funext b
      match b with
      | 0 => exact Fin.ext h0.symm
      | 1 => exact Fin.ext hj.symm
    rw [if_pos (by omega), hx]
    exact r31 _ _ _ _ a (fun n => D (Hb m c t) (Wb m c t) a (5120 + n)) (fun q => p21 (Hb m c t) (Wb m c t) a q)
      (fun q => r25 _ _ _ a (fun n => D (Hb m c t) (Wb m c t) a (5120 + n)) (fun q => p21 (Hb m c t) (Wb m c t) a q) q) ⟨j.val, by omega⟩

theorem o13 (c : Dev nD) (t : Fin cfg0.N) (a : Fin 512) (j : Fin 768) :
    (outsAt0 m c t).2.2.2.2.1 (ix2 a j) =
      if j.val < 256 then rot 8 (fun n => D (Hb m c t) (Wb m c t) a (5632 + n)) (iblk m c 7 t (ix2 a ⟨j.val % 128, by omega⟩))
          (iblk m c 8 t (ix2 a ⟨j.val % 128, by omega⟩)) j * (Named.named κ "scale32" 1048744942#32 : Ideal FTy.f32)
      else if j.val < 512 then rot 8 (fun n => D (Hb m c t) (Wb m c t) a (5632 + (256 + n))) (iblk m c 7 t (ix2 a ⟨(j.val - 256) % 128, by omega⟩))
          (iblk m c 8 t (ix2 a ⟨(j.val - 256) % 128, by omega⟩)) (j.val - 256)
      else D (Hb m c t) (Wb m c t) a (5632 + j) := by
  unfold Gen.outsAt0
  frame_out
  canon_tiles x h using (by refine View.cover_of_tiledBy _ (![512, 256] : Fin 2 → ℕ) ?_ _; sl_kernel_rfl)
  · have hj : j.val = 512 + (x 1).val := h1
    have hx : x = ix2 a ⟨j.val - 512, by omega⟩ := by
      funext b
      match b with
      | 0 => exact Fin.ext h0.symm
      | 1 => exact Fin.ext (show (x 1).val = j.val - 512 by omega)
    rw [if_neg (by omega), if_neg (by omega), hx]
    refine (p54 (Hb m c t) (Wb m c t) a ⟨j.val - 512, by omega⟩).trans (congrArg _ ?_)
    show _ + (512 + (j.val - 512)) = _
    omega
  · have hj : j.val = 256 + (x 1).val := h1
    have hx : x = ix2 a ⟨j.val - 256, by omega⟩ := by
      funext b
      match b with
      | 0 => exact Fin.ext h0.symm
      | 1 => exact Fin.ext (show (x 1).val = j.val - 256 by omega)
    rw [if_neg (by omega), if_pos (by omega), hx]
    exact r53 _ _ _ a (fun n => D (Hb m c t) (Wb m c t) a (5632 + (256 + n))) (fun q => p36 (Hb m c t) (Wb m c t) a q) ⟨j.val - 256, by omega⟩
  · have hj : j.val = (x 1).val := h1
    have hx : x = ix2 a ⟨j.val, by omega⟩ := by
      funext b
      match b with
      | 0 => exact Fin.ext h0.symm
      | 1 => exact Fin.ext hj.symm
    rw [if_pos (by omega), hx]
    exact r52 _ _ _ _ a (fun n => D (Hb m c t) (Wb m c t) a (5632 + n)) (fun q => p35 (Hb m c t) (Wb m c t) a q) ⟨j.val, by omega⟩

end Cert.Kernel2Ideal.In

end
-- ==== Proof.InSpec.lean ====
/- The angles of the rotary embedding, at a position and a pair. -/
module

public import Idealize.ShloMosaic.Lib.Pointwise
public import Idealize.ShloMosaic.Lib.ValueIdxCore

@[expose] public section

set_option maxRecDepth 16384

noncomputable section

namespace Cert.InSpec.In

open Idealize.ShloMosaic Idealize.ShloMosaic.TcCoe

/-- The remainder of a position by sixty-four, as the host computes it. -/
def modB (b : BitVec 32) : BitVec 32 :=
  Scalar.select
    (IntOp.andi
      (IntOp.cmpi CmpIPredicate.ne
        (IntOp.cmpi CmpIPredicate.slt (IntOp.remsi ArithUnit.host b (Scalar.select (IntOp.cmpi CmpIPredicate.eq 64#32 0#32) (1#32) 64#32)) 0#32)
        (IntOp.cmpi CmpIPredicate.slt (Scalar.select (IntOp.cmpi CmpIPredicate.eq 64#32 0#32) (1#32) 64#32) 0#32))
      (IntOp.cmpi CmpIPredicate.ne (IntOp.remsi ArithUnit.host b (Scalar.select (IntOp.cmpi CmpIPredicate.eq 64#32 0#32) (1#32) 64#32)) 0#32))
    (IntOp.addi (IntOp.remsi ArithUnit.host b (Scalar.select (IntOp.cmpi CmpIPredicate.eq 64#32 0#32) (1#32) 64#32))
      (Scalar.select (IntOp.cmpi CmpIPredicate.eq 64#32 0#32) (1#32) 64#32))
    (IntOp.remsi ArithUnit.host b (Scalar.select (IntOp.cmpi CmpIPredicate.eq 64#32 0#32) (1#32) 64#32))

/-- The quotient of a position by sixty-four, as the host computes it. -/
def divB (b : BitVec 32) : BitVec 32 :=
  Scalar.select
    (IntOp.andi
      (IntOp.cmpi CmpIPredicate.ne
        (if b = 0 then (0 : BitVec 32) else if b.msb = true then -1 else 1)
        (if (64#32) = 0 then (0 : BitVec 32) else if BitVec.msb (64#32) = true then -1 else 1))
      (IntOp.cmpi CmpIPredicate.ne (IntOp.remsi ArithUnit.host b 64#32) 0#32))
    (IntOp.subi (IntOp.divsi ArithUnit.host b 64#32) 1#32)
    (IntOp.divsi ArithUnit.host b 64#32)

/-- The angle of coordinate `p` at pair `i` of `n` (the word `w` is `n` as a number). -/
noncomputable def ang (w : BitVec 32) (p : BitVec 32) (i : ℕ) : EReal :=
  FloatOps.sitofp (F := Ideal) FTy.f32 p * Ideal.pow (Ideal.ofBits FTy.f32 1176256512#32)
    (Ideal.div (-FloatOps.sitofp (F := Ideal) FTy.f32 (BitVec.ofNat 32 i)) (Ideal.ofBits FTy.f32 w))

/-- The angle of position `l` at lane `j` of a width-sixty-four head. -/
noncomputable def tb16 (l j : ℕ) : EReal :=
  if j % 64 < 32 then ang 1098907648#32 (divB (BitVec.ofNat 32 l)) (j % 16) else ang 1098907648#32 (modB (BitVec.ofNat 32 l)) (j % 16)

/-- The angle of position `l` at lane `j` of a width-thirty-two head. -/
noncomputable def tb8 (l j : ℕ) : EReal :=
  if j % 32 < 16 then ang 1090519040#32 (divB (BitVec.ofNat 32 l)) (j % 8) else ang 1090519040#32 (modB (BitVec.ofNat 32 l)) (j % 8)

open scoped BigOperators

/-- The modulated and normalized row `r` of example `n`. -/
noncomputable def hs (X : Fin 32768 → Fin 1024 → EReal) (g : Fin 1024 → EReal) (s b : Fin 8 → Fin 1024 → EReal) (n : Fin 8) (r : Fin 32768) (k : Fin 1024) : EReal :=
  X r k * Ideal.rsqrt (Ideal.div (∑ j, X r j * X r j) (Ideal.ofBits .f32 1149239296#32) + Ideal.ofBits .f32 897988541#32) * g k * (1 + s n k) + b n k

/-- Column `c` of the projection of row `r` (zero past the last column). -/
noncomputable def pj (X : Fin 32768 → Fin 1024 → EReal) (g : Fin 1024 → EReal) (s b : Fin 8 → Fin 1024 → EReal) (W : Fin 1024 → Fin 6400 → EReal) (n : Fin 8) (r : Fin 32768) (c : ℕ) : EReal :=
  if h : c < 6400 then ∑ k, hs X g s b n r k * W k ⟨c, h⟩ else 0

/-- The divisor of the queries of width sixty-four. -/
noncomputable def s64 : EReal := Ideal.sqrt (Ideal.ofBits .f32 1115684864#32) * Ideal.log (Ideal.ofBits .f32 1073741824#32)

/-- The divisor of the queries of width thirty-two. -/
noncomputable def s32 : EReal := Ideal.sqrt (Ideal.ofBits .f32 1107296256#32) * Ideal.log (Ideal.ofBits .f32 1073741824#32)

/-- A rotation of the pairs `q` apart. -/
noncomputable def rotS (q : ℕ) (th Y : ℕ → EReal) (c : ℕ) : EReal :=
  if c % (2 * q) < q then Y c * Ideal.cos (th c) - Y (c + q) * Ideal.sin (th c) else Y c * Ideal.cos (th c) + Y (c - q) * Ideal.sin (th c)

/-- The gate's value at a column of a projected row `p`. -/
noncomputable def gateS (p : ℕ → EReal) (c : ℕ) : EReal := Ideal.logistic (p (2304 + c))

/-- The neighbourhood branch's value at a column of a projected row. -/
noncomputable def naS (p : ℕ → EReal) (c : ℕ) : EReal := if c < 256 then Ideal.div (p (256 + c)) s64 else p (256 + c)

/-- The window branch's value at a column of a projected row at position `l`. -/
noncomputable def swS (p : ℕ → EReal) (l c : ℕ) : EReal :=
  if c < 256 then Ideal.div (rotS 16 (tb16 l) (fun n => p (1024 + n)) c) s64
  else if c < 384 then rotS 16 (tb16 l) (fun n => p (1280 + n)) (c - 256) else p (1024 + c)

/-- The differential branch's value at a column of a projected row at position `l`. -/
noncomputable def dfS (p : ℕ → EReal) (l c : ℕ) : EReal :=
  if c < 256 then Ideal.div (rotS 8 (tb8 l) (fun n => p (1536 + n)) c) s32
  else if c < 512 then rotS 8 (tb8 l) (fun n => p (1792 + n)) (c - 256) else p (1536 + c)

theorem rope16 (Y : ℕ → EReal) (l c : ℕ) :
    (if c % 64 < 32 then
      if c % 64 < 16 then
        Y (c / 64 * 64 + c % 64) * Ideal.cos (ang 1098907648#32 (divB (BitVec.ofNat 32 l)) (c % 64)) -
          Y (c / 64 * 64 + (16 + c % 64)) * Ideal.sin (ang 1098907648#32 (divB (BitVec.ofNat 32 l)) (c % 64))
      else
        Y (c / 64 * 64 + (16 + (c % 64 - 16))) * Ideal.cos (ang 1098907648#32 (divB (BitVec.ofNat 32 l)) (c % 64 - 16)) +
          Y (c / 64 * 64 + (c % 64 - 16)) * Ideal.sin (ang 1098907648#32 (divB (BitVec.ofNat 32 l)) (c % 64 - 16))
    else
      if c % 64 - 32 < 16 then
        Y (c / 64 * 64 + (32 + (c % 64 - 32))) * Ideal.cos (ang 1098907648#32 (modB (BitVec.ofNat 32 l)) (c % 64 - 32)) -
          Y (c / 64 * 64 + (32 + (16 + (c % 64 - 32)))) * Ideal.sin (ang 1098907648#32 (modB (BitVec.ofNat 32 l)) (c % 64 - 32))
      else
        Y (c / 64 * 64 + (32 + (16 + (c % 64 - 32 - 16)))) * Ideal.cos (ang 1098907648#32 (modB (BitVec.ofNat 32 l)) (c % 64 - 32 - 16)) +
          Y (c / 64 * 64 + (32 + (c % 64 - 32 - 16))) * Ideal.sin (ang 1098907648#32 (modB (BitVec.ofNat 32 l)) (c % 64 - 32 - 16)))
      = rotS 16 (tb16 l) Y c := by
  unfold rotS tb16
  by_cases h : c % 64 < 32
  · rw [if_pos h]
    simp only [if_pos h]
    by_cases h2 : c % 64 < 16
    · rw [if_pos h2, if_pos (by omega), show c / 64 * 64 + c % 64 = c by omega, show c / 64 * 64 + (16 + c % 64) = c + 16 by omega, show c % 64 = c % 16 by omega]
    · rw [if_neg h2, if_neg (by omega), show c / 64 * 64 + (16 + (c % 64 - 16)) = c by omega, show c / 64 * 64 + (c % 64 - 16) = c - 16 by omega, show c % 64 - 16 = c % 16 by omega]
  · rw [if_neg h]
    simp only [if_neg h]
    by_cases h2 : c % 64 - 32 < 16
    · rw [if_pos h2, if_pos (by omega), show c / 64 * 64 + (32 + (c % 64 - 32)) = c by omega, show c / 64 * 64 + (32 + (16 + (c % 64 - 32))) = c + 16 by omega, show c % 64 - 32 = c % 16 by omega]
    · rw [if_neg h2, if_neg (by omega), show c / 64 * 64 + (32 + (16 + (c % 64 - 32 - 16))) = c by omega, show c / 64 * 64 + (32 + (c % 64 - 32 - 16)) = c - 16 by omega, show c % 64 - 32 - 16 = c % 16 by omega]

theorem rope8 (Y : ℕ → EReal) (l c : ℕ) :
    (if c % 32 < 16 then
      if c % 32 < 8 then
        Y (c / 32 * 32 + c % 32) * Ideal.cos (ang 1090519040#32 (divB (BitVec.ofNat 32 l)) (c % 32)) -
          Y (c / 32 * 32 + (8 + c % 32)) * Ideal.sin (ang 1090519040#32 (divB (BitVec.ofNat 32 l)) (c % 32))
      else
        Y (c / 32 * 32 + (8 + (c % 32 - 8))) * Ideal.cos (ang 1090519040#32 (divB (BitVec.ofNat 32 l)) (c % 32 - 8)) +
          Y (c / 32 * 32 + (c % 32 - 8)) * Ideal.sin (ang 1090519040#32 (divB (BitVec.ofNat 32 l)) (c % 32 - 8))
    else
      if c % 32 - 16 < 8 then
        Y (c / 32 * 32 + (16 + (c % 32 - 16))) * Ideal.cos (ang 1090519040#32 (modB (BitVec.ofNat 32 l)) (c % 32 - 16)) -
          Y (c / 32 * 32 + (16 + (8 + (c % 32 - 16)))) * Ideal.sin (ang 1090519040#32 (modB (BitVec.ofNat 32 l)) (c % 32 - 16))
      else
        Y (c / 32 * 32 + (16 + (8 + (c % 32 - 16 - 8)))) * Ideal.cos (ang 1090519040#32 (modB (BitVec.ofNat 32 l)) (c % 32 - 16 - 8)) +
          Y (c / 32 * 32 + (16 + (c % 32 - 16 - 8))) * Ideal.sin (ang 1090519040#32 (modB (BitVec.ofNat 32 l)) (c % 32 - 16 - 8)))
      = rotS 8 (tb8 l) Y c := by
  unfold rotS tb8
  by_cases h : c % 32 < 16
  · rw [if_pos h]
    simp only [if_pos h]
    by_cases h2 : c % 32 < 8
    · rw [if_pos h2, if_pos (by omega), show c / 32 * 32 + c % 32 = c by omega, show c / 32 * 32 + (8 + c % 32) = c + 8 by omega, show c % 32 = c % 8 by omega]
    · rw [if_neg h2, if_neg (by omega), show c / 32 * 32 + (8 + (c % 32 - 8)) = c by omega, show c / 32 * 32 + (c % 32 - 8) = c - 8 by omega, show c % 32 - 8 = c % 8 by omega]
  · rw [if_neg h]
    simp only [if_neg h]
    by_cases h2 : c % 32 - 16 < 8
    · rw [if_pos h2, if_pos (by omega), show c / 32 * 32 + (16 + (c % 32 - 16)) = c by omega, show c / 32 * 32 + (16 + (8 + (c % 32 - 16))) = c + 8 by omega, show c % 32 - 16 = c % 8 by omega]
    · rw [if_neg h2, if_neg (by omega), show c / 32 * 32 + (16 + (8 + (c % 32 - 16 - 8))) = c by omega, show c / 32 * 32 + (16 + (c % 32 - 16 - 8)) = c - 8 by omega, show c % 32 - 16 - 8 = c % 8 by omega]

end Cert.InSpec.In

end
-- ==== Proof.InHost.lean ====
/- The arrays the grid of the input projection reads, at an index. -/
module

public import proofs.«01_k».proof.Proof.Gen.Kernel2Ideal.Frame
public import proofs.«01_k».proof.Proof.InSpec
public import Idealize.ShloMosaic.Lib.Pipeline.ValueKit
public import Idealize.ShloMosaic.Lib.Pointwise
public import Idealize.ShloMosaic.Lib.ValueIdxCore

@[expose] public section

set_option maxRecDepth 16384

noncomputable section

namespace Cert.Kernel2Ideal.In

open Cert.Kernel2Ideal Cert.Kernel2Ideal.Gen
open Idealize.ShloMosaic Idealize.ShloMosaic.TcCoe
open Idealize.ShloMosaic.Tactic
open Cert.InSpec.In
variable (m : (ℓ : Loc nD τ sig) → Buf (Elt Ideal) ℓ)

theorem cat_at {α : Type} (x : S1024x4096.Idx → α) (y : S1024x2304.Idx → α) (k : Fin 1024) (j : Fin 6400) :
    concatenate S1024x6400 1 [⟨S1024x4096, x⟩, ⟨S1024x2304, y⟩] concatenates_S1024x4096_S1024x2304_S1024x6400_d1 (ix2 k j : S1024x6400.Idx)
      = if h : j.val < 4096 then x (ix2 k ⟨j.val, h⟩ : S1024x4096.Idx) else y (ix2 k ⟨j.val - 4096, by omega⟩ : S1024x2304.Idx) := by
  pointwise []

theorem w_at (c : Dev nD) (k : Fin 1024) (j : Fin 6400) :
    V m c main_v7 (ix2 k j : S1024x6400.Idx) = m ((c : Thread nD τ).loc main_arg4)
      (ix2 k (if h : j.val < 4096 then ⟨2304 + j.val, by omega⟩ else ⟨j.val - 4096, by omega⟩) : S1024x6400.Idx) := by
  unfold V
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append]
  after_results_simp
  refine (cat_at _ _ k j).trans ?_
  by_cases h : j.val < 4096
  · rw [dif_pos h, dif_pos h]
    after_results_simp
    pointwise []
  · rw [dif_neg h, dif_neg h]
    after_results_simp
    pointwise []

theorem g_at (c : Dev nD) (k : Fin 1024) :
    V m c main_v77 (ix2 0 k : S1x1024.Idx) = m ((c : Thread nD τ).loc main_arg1) (ix1 k : S1024.Idx) := by
  unfold V
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append]
  after_results_simp
  pointwise []

theorem gath16 {α : Type} (x : S4096x16.Idx → α) (idx : IVec S128x1 32) (l : Fin 4096) (c : Fin 128) :
    Host.gather gather_S4096x16_S128x1_S4096x128_0_1_n_n_1_1_40961 x idx (ix2 l c : S4096x128.Idx)
      = x (ix2 l ⟨min (idx (ix2 c 0 : S128x1.Idx)).toInt.toNat 15, by omega⟩ : S4096x16.Idx) := by
  unfold Host.gather
  congr 1
  funext a
  refine Fin.ext ?_
  have h01 : a = 0 ∨ a = 1 := by
    match a with
    | ⟨0, _⟩ => exact Or.inl rfl
    | ⟨1, _⟩ => exact Or.inr rfl
  show gather_S4096x16_S128x1_S4096x128_0_1_n_n_1_1_40961.start _ idx a + gather_S4096x16_S128x1_S4096x128_0_1_n_n_1_1_40961.batchCoord _ a + gather_S4096x16_S128x1_S4096x128_0_1_n_n_1_1_40961.offCoord _ a = _
  rw [GatherDims.batchCoord_eq_zero _ _ _ List.not_mem_nil]
  rcases h01 with rfl | rfl
  · unfold GatherDims.start GatherDims.offCoord
    rw [dif_neg (by decide), dif_pos (by decide)]
    refine (Nat.zero_add _).trans ?_
    have h : gather_S4096x16_S128x1_S4096x128_0_1_n_n_1_1_40961.offsetDims[List.idxOf 0 gather_S4096x16_S128x1_S4096x128_0_1_n_n_1_1_40961.sKept]'(by decide) = 0 := by decide
    exact (congrArg (fun z => ((ix2 l c : S4096x128.Idx) z).val) h).trans rfl
  · unfold GatherDims.start GatherDims.offCoord
    rw [dif_pos (by decide), dif_neg (by decide)]
    have hsi : gather_S4096x16_S128x1_S4096x128_0_1_n_n_1_1_40961.siIdx (ix2 l c : S4096x128.Idx) ⟨List.idxOf (1 : Fin 2) gather_S4096x16_S128x1_S4096x128_0_1_n_n_1_1_40961.startIndexMap,
      List.idxOf_lt_length_iff.2 (List.mem_singleton.mpr rfl)⟩ = (ix2 c 0 : S128x1.Idx) := by
      funext b; refine Fin.ext ?_
      match b with
      | ⟨0, _⟩ => rfl
      | ⟨1, _⟩ => rfl
    refine (congrArg (fun z => min (idx z).toInt.toNat 15) hsi).trans ?_
    rfl

theorem gath8 {α : Type} (x : S4096x8.Idx → α) (idx : IVec S128x1 32) (l : Fin 4096) (c : Fin 128) :
    Host.gather gather_S4096x8_S128x1_S4096x128_0_1_n_n_1_1_40961 x idx (ix2 l c : S4096x128.Idx)
      = x (ix2 l ⟨min (idx (ix2 c 0 : S128x1.Idx)).toInt.toNat 7, by omega⟩ : S4096x8.Idx) := by
  unfold Host.gather
  congr 1
  funext a
  refine Fin.ext ?_
  have h01 : a = 0 ∨ a = 1 := by
    match a with
    | ⟨0, _⟩ => exact Or.inl rfl
    | ⟨1, _⟩ => exact Or.inr rfl
  show gather_S4096x8_S128x1_S4096x128_0_1_n_n_1_1_40961.start _ idx a + gather_S4096x8_S128x1_S4096x128_0_1_n_n_1_1_40961.batchCoord _ a + gather_S4096x8_S128x1_S4096x128_0_1_n_n_1_1_40961.offCoord _ a = _
  rw [GatherDims.batchCoord_eq_zero _ _ _ List.not_mem_nil]
  rcases h01 with rfl | rfl
  · unfold GatherDims.start GatherDims.offCoord
    rw [dif_neg (by decide), dif_pos (by decide)]
    refine (Nat.zero_add _).trans ?_
    have h : gather_S4096x8_S128x1_S4096x128_0_1_n_n_1_1_40961.offsetDims[List.idxOf 0 gather_S4096x8_S128x1_S4096x128_0_1_n_n_1_1_40961.sKept]'(by decide) = 0 := by decide
    exact (congrArg (fun z => ((ix2 l c : S4096x128.Idx) z).val) h).trans rfl
  · unfold GatherDims.start GatherDims.offCoord
    rw [dif_pos (by decide), dif_neg (by decide)]
    have hsi : gather_S4096x8_S128x1_S4096x128_0_1_n_n_1_1_40961.siIdx (ix2 l c : S4096x128.Idx) ⟨List.idxOf (1 : Fin 2) gather_S4096x8_S128x1_S4096x128_0_1_n_n_1_1_40961.startIndexMap,
      List.idxOf_lt_length_iff.2 (List.mem_singleton.mpr rfl)⟩ = (ix2 c 0 : S128x1.Idx) := by
      funext b; refine Fin.ext ?_
      match b with
      | ⟨0, _⟩ => rfl
      | ⟨1, _⟩ => rfl
    refine (congrArg (fun z => min (idx z).toInt.toNat 7) hsi).trans ?_
    rfl

theorem ix_lane16 : ∀ j : Fin 128, min (lit0 (S128.rowMajor (ix1 j : S128.Idx))).toInt.toNat 15 = j.val % 16 := by
  decide +kernel

theorem half16 : ∀ j : Fin 128, lit1 (S128.rowMajor (ix1 j : S128.Idx)) = if j.val % 64 < 32 then 0#1 else 1#1 := by
  decide +kernel

theorem sign16 : ∀ j : Fin 128, lit2 (S128.rowMajor (ix1 j : S128.Idx)) = if j.val % 32 < 16 then 0#1 else 1#1 := by
  decide +kernel

theorem ix_lane8 : ∀ j : Fin 128, min (lit3 (S128.rowMajor (ix1 j : S128.Idx))).toInt.toNat 7 = j.val % 8 := by
  decide +kernel

theorem half8 : ∀ j : Fin 128, lit4 (S128.rowMajor (ix1 j : S128.Idx)) = if j.val % 32 < 16 then 0#1 else 1#1 := by
  decide +kernel

theorem sign8 : ∀ j : Fin 128, lit5 (S128.rowMajor (ix1 j : S128.Idx)) = if j.val % 16 < 8 then 0#1 else 1#1 := by
  decide +kernel

theorem raw16 (l : Fin 4096) (j : Fin 128) :
    (Scalar.select (lit1 (S128.rowMajor (ix1 j : S128.Idx))) (ang 1098907648#32 (modB (BitVec.ofNat 32 l.val)) (min (lit0 (S128.rowMajor (ix1 j : S128.Idx))).toInt.toNat 15)) (ang 1098907648#32 (divB (BitVec.ofNat 32 l.val)) (min (lit0 (S128.rowMajor (ix1 j : S128.Idx))).toInt.toNat 15))) = tb16 l.val j.val := by
  rw [ix_lane16, half16]
  unfold tb16
  by_cases h : j.val % 64 < 32
  · rw [if_pos h, if_pos h]; rfl
  · rw [if_neg h, if_neg h]; rfl

theorem cos16 (c : Dev nD) (l : Fin 4096) (j : Fin 128) :
    V m c main_v40 (ix2 l j : S4096x128.Idx) = Ideal.cos (tb16 l.val j.val) := by
  rw [← raw16]
  unfold V
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append]
  after_results_simp
  simp only [StableHlo.TRef.ofBuf, StableHlo.TRef.toBuf, cast_eq]
  pointwise [gath16]
  rfl

theorem sin16 (c : Dev nD) (l : Fin 4096) (j : Fin 128) :
    V m c main_v44 (ix2 l j : S4096x128.Idx) = if j.val % 32 < 16 then - Ideal.sin (tb16 l.val j.val) else Ideal.sin (tb16 l.val j.val) := by
  have e : Scalar.select (lit2 (S128.rowMajor (ix1 j : S128.Idx))) (Ideal.sin (tb16 l.val j.val)) (- Ideal.sin (tb16 l.val j.val)) = if j.val % 32 < 16 then - Ideal.sin (tb16 l.val j.val) else Ideal.sin (tb16 l.val j.val) := by
    rw [sign16]
    by_cases h : j.val % 32 < 16
    · rw [if_pos h, if_pos h]; rfl
    · rw [if_neg h, if_neg h]; rfl
  rw [← e, ← raw16]
  unfold V
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append]
  after_results_simp
  simp only [StableHlo.TRef.ofBuf, StableHlo.TRef.toBuf, cast_eq]
  pointwise [gath16]
  rfl

theorem raw8 (l : Fin 4096) (j : Fin 128) :
    (Scalar.select (lit4 (S128.rowMajor (ix1 j : S128.Idx))) (ang 1090519040#32 (modB (BitVec.ofNat 32 l.val)) (min (lit3 (S128.rowMajor (ix1 j : S128.Idx))).toInt.toNat 7)) (ang 1090519040#32 (divB (BitVec.ofNat 32 l.val)) (min (lit3 (S128.rowMajor (ix1 j : S128.Idx))).toInt.toNat 7))) = tb8 l.val j.val := by
  rw [ix_lane8, half8]
  unfold tb8
  by_cases h : j.val % 32 < 16
  · rw [if_pos h, if_pos h]; rfl
  · rw [if_neg h, if_neg h]; rfl

theorem cos8 (c : Dev nD) (l : Fin 4096) (j : Fin 128) :
    V m c main_v72 (ix2 l j : S4096x128.Idx) = Ideal.cos (tb8 l.val j.val) := by
  rw [← raw8]
  unfold V
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append]
  after_results_simp
  simp only [StableHlo.TRef.ofBuf, StableHlo.TRef.toBuf, cast_eq]
  pointwise [gath8]
  rfl

theorem sin8 (c : Dev nD) (l : Fin 4096) (j : Fin 128) :
    V m c main_v76 (ix2 l j : S4096x128.Idx) = if j.val % 16 < 8 then - Ideal.sin (tb8 l.val j.val) else Ideal.sin (tb8 l.val j.val) := by
  have e : Scalar.select (lit5 (S128.rowMajor (ix1 j : S128.Idx))) (Ideal.sin (tb8 l.val j.val)) (- Ideal.sin (tb8 l.val j.val)) = if j.val % 16 < 8 then - Ideal.sin (tb8 l.val j.val) else Ideal.sin (tb8 l.val j.val) := by
    rw [sign8]
    by_cases h : j.val % 16 < 8
    · rw [if_pos h, if_pos h]; rfl
    · rw [if_neg h, if_neg h]; rfl
  rw [← e, ← raw8]
  unfold V
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append]
  after_results_simp
  simp only [StableHlo.TRef.ofBuf, StableHlo.TRef.toBuf, cast_eq]
  pointwise [gath8]
  rfl

end Cert.Kernel2Ideal.In

end
-- ==== Proof.InRow.lean ====
/- A projected row, from the blocks the grid reads. -/
module

public import proofs.«01_k».proof.Proof.InBlk
public import proofs.«01_k».proof.Proof.InHost
public import proofs.«01_k».proof.Proof.InSpec

@[expose] public section

set_option maxRecDepth 16384

noncomputable section

namespace Cert.Kernel2Ideal.In

open Cert.Kernel2Ideal Cert.Kernel2Ideal.Gen
open Idealize.ShloMosaic Idealize.ShloMosaic.TcCoe
open Idealize.ShloMosaic.Tactic
open Cert.InSpec.In
open scoped BigOperators
variable (m : (ℓ : Loc nD τ sig) → Buf (Elt Ideal) ℓ)

theorem idx : ∀ t : Fin cfg0.N, win0_0.index t = ![t.val, 0] ∧ win0_1.index t = ![0, 0] ∧ win0_2.index t = ![t.val / 8, 0, 0]
    ∧ win0_3.index t = ![t.val / 8, 0, 0] ∧ win0_4.index t = ![0, 0] ∧ win0_5.index t = ![t.val % 8, 0] ∧ win0_6.index t = ![t.val % 8, 0]
    ∧ win0_7.index t = ![t.val % 8, 0] ∧ win0_8.index t = ![t.val % 8, 0] ∧ win0_9.index t = ![t.val, 0] ∧ win0_10.index t = ![t.val, 0]
    ∧ win0_11.index t = ![t.val, 0] ∧ win0_12.index t = ![t.val, 0] ∧ win0_13.index t = ![t.val, 0] :=
  (by decide +kernel : ∀ t : Fin grid0.N, _)

theorem hN (t : Fin cfg0.N) : t.val < 64 := t.isLt

theorem rb0 (G : FVec Ideal S32768x1024 .f32) (t : Fin cfg0.N) (a : Fin 512) (k : Fin 1024) : ((cfg0.win 0).blk t).view.read (Elt Ideal) G (ix2 a k : S512x1024.Idx) = G (ix2 ⟨t.val * 512 + a.val, by have := hN t; omega⟩ k : S32768x1024.Idx) := by
  blk_ext [idx t]
theorem blk0 (c : Dev nD) (t : Fin cfg0.N) (a : Fin 512) (k : Fin 1024) : iblk m c 0 t (ix2 a k : S512x1024.Idx) = V m c main_arg0 (ix2 ⟨t.val * 512 + a.val, by have := hN t; omega⟩ k : S32768x1024.Idx) := by
  unfold iblk; exact rb0 (V m c main_arg0) t a k

theorem rb1 (G : FVec Ideal S1x1024 .f32) (t : Fin cfg0.N) (k : Fin 1024) : ((cfg0.win 1).blk t).view.read (Elt Ideal) G (ix2 0 k : S1x1024.Idx) = G (ix2 0 k : S1x1024.Idx) := by
  blk_ext [idx t]
theorem blk1 (c : Dev nD) (t : Fin cfg0.N) (k : Fin 1024) : iblk m c 1 t (ix2 0 k : S1x1024.Idx) = V m c main_v77 (ix2 0 k : S1x1024.Idx) := by
  unfold iblk; exact rb1 (V m c main_v77) t k

theorem rb2 (G : FVec Ideal S8x1x1024 .f32) (t : Fin cfg0.N) (k : Fin 1024) : ((cfg0.win 2).blk t).view.read (Elt Ideal) G (ix3 0 0 k : S1x1x1024.Idx) = G (ix3 ⟨t.val / 8, by have := hN t; omega⟩ 0 k : S8x1x1024.Idx) := by
  blk_ext [idx t]
theorem blk2 (c : Dev nD) (t : Fin cfg0.N) (k : Fin 1024) : iblk m c 2 t (ix3 0 0 k : S1x1x1024.Idx) = V m c main_arg2 (ix3 ⟨t.val / 8, by have := hN t; omega⟩ 0 k : S8x1x1024.Idx) := by
  unfold iblk; exact rb2 (V m c main_arg2) t k

theorem rb3 (G : FVec Ideal S8x1x1024 .f32) (t : Fin cfg0.N) (k : Fin 1024) : ((cfg0.win 3).blk t).view.read (Elt Ideal) G (ix3 0 0 k : S1x1x1024.Idx) = G (ix3 ⟨t.val / 8, by have := hN t; omega⟩ 0 k : S8x1x1024.Idx) := by
  blk_ext [idx t]
theorem blk3 (c : Dev nD) (t : Fin cfg0.N) (k : Fin 1024) : iblk m c 3 t (ix3 0 0 k : S1x1x1024.Idx) = V m c main_arg3 (ix3 ⟨t.val / 8, by have := hN t; omega⟩ 0 k : S8x1x1024.Idx) := by
  unfold iblk; exact rb3 (V m c main_arg3) t k

theorem rb4 (G : FVec Ideal S1024x6400 .bf16) (t : Fin cfg0.N) (k : Fin 1024) (j : Fin 6400) : ((cfg0.win 4).blk t).view.read (Elt Ideal) G (ix2 k j : S1024x6400.Idx) = G (ix2 k j : S1024x6400.Idx) := by
  blk_ext [idx t]
theorem blk4 (c : Dev nD) (t : Fin cfg0.N) (k : Fin 1024) (j : Fin 6400) : iblk m c 4 t (ix2 k j : S1024x6400.Idx) = V m c main_v7 (ix2 k j : S1024x6400.Idx) := by
  unfold iblk; exact rb4 (V m c main_v7) t k j

theorem rb5 (G : FVec Ideal S4096x128 .f32) (t : Fin cfg0.N) (a : Fin 512) (k : Fin 128) : ((cfg0.win 5).blk t).view.read (Elt Ideal) G (ix2 a k : S512x128.Idx) = G (ix2 ⟨t.val % 8 * 512 + a.val, by omega⟩ k : S4096x128.Idx) := by
  blk_ext [idx t]
theorem blk5 (c : Dev nD) (t : Fin cfg0.N) (a : Fin 512) (k : Fin 128) : iblk m c 5 t (ix2 a k : S512x128.Idx) = V m c main_v40 (ix2 ⟨t.val % 8 * 512 + a.val, by omega⟩ k : S4096x128.Idx) := by
  unfold iblk; exact rb5 (V m c main_v40) t a k

theorem rb6 (G : FVec Ideal S4096x128 .f32) (t : Fin cfg0.N) (a : Fin 512) (k : Fin 128) : ((cfg0.win 6).blk t).view.read (Elt Ideal) G (ix2 a k : S512x128.Idx) = G (ix2 ⟨t.val % 8 * 512 + a.val, by omega⟩ k : S4096x128.Idx) := by
  blk_ext [idx t]
theorem blk6 (c : Dev nD) (t : Fin cfg0.N) (a : Fin 512) (k : Fin 128) : iblk m c 6 t (ix2 a k : S512x128.Idx) = V m c main_v44 (ix2 ⟨t.val % 8 * 512 + a.val, by omega⟩ k : S4096x128.Idx) := by
  unfold iblk; exact rb6 (V m c main_v44) t a k

theorem rb7 (G : FVec Ideal S4096x128 .f32) (t : Fin cfg0.N) (a : Fin 512) (k : Fin 128) : ((cfg0.win 7).blk t).view.read (Elt Ideal) G (ix2 a k : S512x128.Idx) = G (ix2 ⟨t.val % 8 * 512 + a.val, by omega⟩ k : S4096x128.Idx) := by
  blk_ext [idx t]
theorem blk7 (c : Dev nD) (t : Fin cfg0.N) (a : Fin 512) (k : Fin 128) : iblk m c 7 t (ix2 a k : S512x128.Idx) = V m c main_v72 (ix2 ⟨t.val % 8 * 512 + a.val, by omega⟩ k : S4096x128.Idx) := by
  unfold iblk; exact rb7 (V m c main_v72) t a k

theorem rb8 (G : FVec Ideal S4096x128 .f32) (t : Fin cfg0.N) (a : Fin 512) (k : Fin 128) : ((cfg0.win 8).blk t).view.read (Elt Ideal) G (ix2 a k : S512x128.Idx) = G (ix2 ⟨t.val % 8 * 512 + a.val, by omega⟩ k : S4096x128.Idx) := by
  blk_ext [idx t]
theorem blk8 (c : Dev nD) (t : Fin cfg0.N) (a : Fin 512) (k : Fin 128) : iblk m c 8 t (ix2 a k : S512x128.Idx) = V m c main_v76 (ix2 ⟨t.val % 8 * 512 + a.val, by omega⟩ k : S4096x128.Idx) := by
  unfold iblk; exact rb8 (V m c main_v76) t a k

theorem pay4_at (x : Vec Ideal S512x1024 .f32) (g : Vec Ideal S1x1024 .f32) (s b : Vec Ideal S1x1x1024 .f32) (a : Fin 512) (c : Fin 1024) :
    k0_pay4 x g s b (ix2 a c : S512x1024.Idx) = x (ix2 a c) * Ideal.rsqrt (Ideal.div (∑ j : Fin 1024, x (ix2 a j) * x (ix2 a j)) (Ideal.ofBits .f32 1149239296#32) + Ideal.ofBits .f32 897988541#32)
      * g (ix2 0 c) * (1 + s (ix3 0 0 c)) + b (ix3 0 0 c) := by
  pointwise [k0_pay4]

/-- The projection the kernel's arguments give, row `r`. -/
def kp (c : Dev nD) (r : Fin 32768) (j : ℕ) : EReal :=
  pj (fun r k => m ((c.tc : Thread nD τ).loc main_arg0) (ix2 r k : S32768x1024.Idx)) (fun k => m ((c.tc : Thread nD τ).loc main_arg1) (ix1 k : S1024.Idx))
    (fun n k => m ((c.tc : Thread nD τ).loc main_arg2) (ix3 n 0 k : S8x1x1024.Idx)) (fun n k => m ((c.tc : Thread nD τ).loc main_arg3) (ix3 n 0 k : S8x1x1024.Idx))
    (fun k j => m ((c.tc : Thread nD τ).loc main_arg4) (ix2 k j : S1024x6400.Idx)) ⟨r.val / 4096, by omega⟩ r j

theorem Hb_at (c : Dev nD) (t : Fin cfg0.N) (a : Fin 512) (k : Fin 1024) :
    Hb m c t (ix2 a k : S512x1024.Idx) = hs (fun r k => m ((c.tc : Thread nD τ).loc main_arg0) (ix2 r k : S32768x1024.Idx)) (fun k => m ((c.tc : Thread nD τ).loc main_arg1) (ix1 k : S1024.Idx))
    (fun n k => m ((c.tc : Thread nD τ).loc main_arg2) (ix3 n 0 k : S8x1x1024.Idx)) (fun n k => m ((c.tc : Thread nD τ).loc main_arg3) (ix3 n 0 k : S8x1x1024.Idx))
      ⟨t.val / 8, by have := hN t; omega⟩ ⟨t.val * 512 + a.val, by have := hN t; omega⟩ k := by
  unfold Hb hs
  refine (pay4_at _ _ _ _ a k).trans ?_
  have e0 : ∀ j : Fin 1024, iblk m c 0 t (ix2 a j : S512x1024.Idx) = m ((c.tc : Thread nD τ).loc main_arg0) (ix2 ⟨t.val * 512 + a.val, by have := hN t; omega⟩ j : S32768x1024.Idx) := fun j => (blk0 m c t a j).trans (congrFun (V_main_arg0 m c) _)
  exact congrArg₂ (· + ·) (congrArg₂ (· * ·) (congrArg₂ (· * ·) (congrArg₂ (· * ·) (e0 k)
    (congrArg (fun z => Ideal.rsqrt (Ideal.div z (Ideal.ofBits .f32 1149239296#32) + Ideal.ofBits .f32 897988541#32))
      (Finset.sum_congr rfl fun j _ => congrArg₂ (· * ·) (e0 j) (e0 j)))) ((blk1 m c t k).trans (g_at m c k))) (congrArg (1 + ·) ((blk2 m c t k).trans (congrFun (V_main_arg2 m c) _)))) ((blk3 m c t k).trans (congrFun (V_main_arg3 m c) _))

theorem D_row (c : Dev nD) (t : Fin cfg0.N) (a : Fin 512) (j : ℕ) (hj : j < 6400) (r : Fin 32768) (hr : r.val = t.val * 512 + a.val) :
    D (Hb m c t) (Wb m c t) a j = kp m c r (if j < 4096 then 2304 + j else j - 4096) := by
  obtain ⟨r, hlt⟩ := r
  obtain rfl : r = t.val * 512 + a.val := hr
  unfold D kp pj
  have hb : (if j < 4096 then 2304 + j else j - 4096) < 6400 := by split_ifs <;> omega
  rw [dif_pos hj, dif_pos hb]
  refine Finset.sum_congr rfl fun k _ => ?_
  have hn : (⟨(t.val * 512 + a.val) / 4096, by have := hN t; omega⟩ : Fin 8) = ⟨t.val / 8, by have := hN t; omega⟩ := Fin.ext (by show (t.val * 512 + a.val) / 4096 = t.val / 8; omega)
  refine congrArg₂ (· * ·) ((Hb_at m c t a k).trans ?_) ?_
  · rw [hn]
  · refine ((blk4 m c t k ⟨j, hj⟩).trans (w_at m c k ⟨j, hj⟩)).trans ?_
    by_cases h : j < 4096
    · rw [dif_pos h]
      exact congrArg (fun z => m ((c.tc : Thread nD τ).loc main_arg4) (ix2 k z : S1024x6400.Idx)) (Fin.ext (if_pos h).symm)
    · rw [dif_neg h]
      exact congrArg (fun z => m ((c.tc : Thread nD τ).loc main_arg4) (ix2 k z : S1024x6400.Idx)) (Fin.ext (if_neg h).symm)

theorem c64_row (c : Dev nD) (t : Fin cfg0.N) (a : Fin 512) (k : Fin 128) (l : ℕ) (hl : l = t.val % 8 * 512 + a.val) :
    iblk m c 5 t (ix2 a k : S512x128.Idx) = Ideal.cos (tb16 l k.val) := by
  subst hl
  exact (blk5 m c t a k).trans (cos16 m c _ k)

theorem s64_row (c : Dev nD) (t : Fin cfg0.N) (a : Fin 512) (k : Fin 128) (l : ℕ) (hl : l = t.val % 8 * 512 + a.val) :
    iblk m c 6 t (ix2 a k : S512x128.Idx) = if k.val % 32 < 16 then - Ideal.sin (tb16 l k.val) else Ideal.sin (tb16 l k.val) := by
  subst hl
  exact (blk6 m c t a k).trans (sin16 m c _ k)

theorem c32_row (c : Dev nD) (t : Fin cfg0.N) (a : Fin 512) (k : Fin 128) (l : ℕ) (hl : l = t.val % 8 * 512 + a.val) :
    iblk m c 7 t (ix2 a k : S512x128.Idx) = Ideal.cos (tb8 l k.val) := by
  subst hl
  exact (blk7 m c t a k).trans (cos8 m c _ k)

theorem s32_row (c : Dev nD) (t : Fin cfg0.N) (a : Fin 512) (k : Fin 128) (l : ℕ) (hl : l = t.val % 8 * 512 + a.val) :
    iblk m c 8 t (ix2 a k : S512x128.Idx) = if k.val % 16 < 8 then - Ideal.sin (tb8 l k.val) else Ideal.sin (tb8 l k.val) := by
  subst hl
  exact (blk8 m c t a k).trans (sin8 m c _ k)

end Cert.Kernel2Ideal.In

end
-- ==== Proof.InVal.lean ====
/- The final result arrays of the input projection. -/
module

public import proofs.«01_k».proof.Proof.InRow

@[expose] public section

set_option maxRecDepth 16384

noncomputable section

namespace Cert.Kernel2Ideal.In

open Cert.Kernel2Ideal Cert.Kernel2Ideal.Gen
open Idealize.ShloMosaic Idealize.ShloMosaic.TcCoe
open Idealize.ShloMosaic.Tactic
open Cert.InSpec.In
variable (m : (ℓ : Loc nD τ sig) → Buf (Elt Ideal) ℓ)

theorem tb16_mod (l c : ℕ) : tb16 l (c % 128) = tb16 l c := by
  unfold tb16
  rw [show c % 128 % 64 = c % 64 by omega, show c % 128 % 16 = c % 16 by omega]

theorem rot16 (Y : ℕ → EReal) (l c : ℕ) (cv sv : EReal) (hc : cv = Ideal.cos (tb16 l (c % 128)))
    (hs : sv = if c % 128 % 32 < 16 then - Ideal.sin (tb16 l (c % 128)) else Ideal.sin (tb16 l (c % 128))) :
    rot 16 Y cv sv c = rotS 16 (tb16 l) Y c := by
  rw [hc, hs, tb16_mod, show c % 128 % 32 = c % (2 * 16) by omega]
  unfold rot rotS
  by_cases h : c % (2 * 16) < 16
  · rw [if_pos h, if_pos h, if_pos h, sub_eq_add_neg, mul_neg]
  · rw [if_neg h, if_neg h, if_neg h]

theorem scale64_eq (y : EReal) : y * (Named.named κ "scale64" 1043900987#32 : Ideal FTy.f32) = Ideal.div y s64 := by
  have h : Ideal.ofBits .f32 1115684864#32 = ((64 : ℝ) : EReal) := by
    simp [Ideal.ofBits, Ideal.ieee, -EReal.coe_mul]; norm_num
  have h2 : Ideal.ofBits .f32 1073741824#32 = ((2 : ℝ) : EReal) := by
    simp [Ideal.ofBits, Ideal.ieee, -EReal.coe_mul]; norm_num
  have hl : Real.log 2 ≠ 0 := (Real.log_pos (by norm_num)).ne'
  unfold s64
  rw [h, h2, Ideal.sqrt_coe, if_neg (by norm_num), Ideal.log_coe, if_neg (by norm_num), ← EReal.coe_mul, Ideal.div_coe (mul_ne_zero (by positivity) hl)]
  refine congrArg (y * ·) ?_
  show (((Real.sqrt 64)⁻¹ * (Real.log 2)⁻¹ : ℝ) : EReal) = _
  rw [one_div, mul_inv]

theorem tb8_mod (l c : ℕ) : tb8 l (c % 128) = tb8 l c := by
  unfold tb8
  rw [show c % 128 % 32 = c % 32 by omega, show c % 128 % 8 = c % 8 by omega]

theorem rot8 (Y : ℕ → EReal) (l c : ℕ) (cv sv : EReal) (hc : cv = Ideal.cos (tb8 l (c % 128)))
    (hs : sv = if c % 128 % 16 < 8 then - Ideal.sin (tb8 l (c % 128)) else Ideal.sin (tb8 l (c % 128))) :
    rot 8 Y cv sv c = rotS 8 (tb8 l) Y c := by
  rw [hc, hs, tb8_mod, show c % 128 % 16 = c % (2 * 8) by omega]
  unfold rot rotS
  by_cases h : c % (2 * 8) < 8
  · rw [if_pos h, if_pos h, if_pos h, sub_eq_add_neg, mul_neg]
  · rw [if_neg h, if_neg h, if_neg h]

theorem scale32_eq (y : EReal) : y * (Named.named κ "scale32" 1048744942#32 : Ideal FTy.f32) = Ideal.div y s32 := by
  have h : Ideal.ofBits .f32 1107296256#32 = ((32 : ℝ) : EReal) := by
    simp [Ideal.ofBits, Ideal.ieee, -EReal.coe_mul]; norm_num
  have h2 : Ideal.ofBits .f32 1073741824#32 = ((2 : ℝ) : EReal) := by
    simp [Ideal.ofBits, Ideal.ieee, -EReal.coe_mul]; norm_num
  have hl : Real.log 2 ≠ 0 := (Real.log_pos (by norm_num)).ne'
  unfold s32
  rw [h, h2, Ideal.sqrt_coe, if_neg (by norm_num), Ideal.log_coe, if_neg (by norm_num), ← EReal.coe_mul, Ideal.div_coe (mul_ne_zero (by positivity) hl)]
  refine congrArg (y * ·) ?_
  show (((Real.sqrt 32)⁻¹ * (Real.log 2)⁻¹ : ℝ) : EReal) = _
  rw [one_div, mul_inv]

theorem rot_congr (q : ℕ) (Y Y' : ℕ → EReal) (cv sv : EReal) (c : ℕ) (h0 : Y c = Y' c) (h1 : Y (c + q) = Y' (c + q)) (h2 : Y (c - q) = Y' (c - q)) :
    rot q Y cv sv c = rot q Y' cv sv c := by
  unfold rot
  rw [h0, h1, h2]

/-- The projection of row `r`, the row a number (zero past the last row). -/
def kpn (c : Dev nD) (r : ℕ) : ℕ → EReal := if h : r < 32768 then kp m c ⟨r, h⟩ else fun _ => 0

theorem kpn_eq (c : Dev nD) (r : Fin 32768) : kpn m c r.val = kp m c r := dif_pos r.isLt

theorem key9 (c : Dev nD) (t : Fin cfg0.N) (a : Fin 512) (j : Fin 4096) (r : Fin 32768) (hr : r.val = t.val * 512 + a.val) (cc : ℕ) (hc : cc = j.val) :
    (outsAt0 m c t).1 (ix2 a j) = gateS (kp m c r) cc := by
  subst hc
  rw [o9, D_row m c t a _ (by omega) r hr, if_pos j.isLt]
  rfl

theorem key10 (c : Dev nD) (t : Fin cfg0.N) (a : Fin 512) (j : Fin 256) (r : Fin 32768) (hr : r.val = t.val * 512 + a.val) (cc : ℕ) (hc : cc = j.val) :
    (outsAt0 m c t).2.1 (ix2 a j) = kp m c r cc := by
  subst hc
  rw [o10, D_row m c t a _ (by omega) r hr, if_neg (by omega)]
  exact congrArg _ (by omega)

theorem key11 (c : Dev nD) (t : Fin cfg0.N) (a : Fin 512) (j : Fin 768) (r : Fin 32768) (hr : r.val = t.val * 512 + a.val) (cc : ℕ) (hc : cc = j.val) :
    (outsAt0 m c t).2.2.1 (ix2 a j) = naS (kp m c r) cc := by
  subst hc
  rw [o11, D_row m c t a _ (by omega) r hr, if_neg (show ¬ 4352 + j.val < 4096 by omega), show 4352 + j.val - 4096 = 256 + j.val by omega, scale64_eq]
  rfl

theorem key12 (c : Dev nD) (t : Fin cfg0.N) (a : Fin 512) (j : Fin 512) (r : Fin 32768) (hr : r.val = t.val * 512 + a.val) (cc : ℕ) (hc : cc = j.val) :
    (outsAt0 m c t).2.2.2.1 (ix2 a j) = swS (kp m c r) (r.val % 4096) cc := by
  subst hc
  have hl : r.val % 4096 = t.val % 8 * 512 + a.val := by omega
  have hD : ∀ n, n < 768 → D (Hb m c t) (Wb m c t) a (5120 + n) = kp m c r (1024 + n) := fun n hn => by
    rw [D_row m c t a _ (by omega) r hr, if_neg (by omega)]
    exact congrArg _ (by omega)
  rw [o12]
  unfold swS
  by_cases h1 : j.val < 256
  · rw [if_pos h1, if_pos h1, scale64_eq]
    refine congrArg (fun z => Ideal.div z s64) ?_
    refine (rot_congr 16 _ (fun n => kp m c r (1024 + n)) _ _ _ (hD _ (by omega)) (hD _ (by omega)) (hD _ (by omega))).trans ?_
    exact rot16 _ _ _ _ _ (c64_row m c t a _ _ hl) (s64_row m c t a _ _ hl)
  · rw [if_neg h1, if_neg h1]
    by_cases h2 : j.val < 384
    · rw [if_pos h2, if_pos h2]
      have hk : ∀ n, n < 500 → D (Hb m c t) (Wb m c t) a (5120 + (256 + n)) = kp m c r (1280 + n) := fun n hn =>
        (hD (256 + n) (by omega)).trans (congrArg _ (by omega))
      refine (rot_congr 16 _ (fun n => kp m c r (1280 + n)) _ _ _ (hk _ (by omega)) (hk _ (by omega)) (hk _ (by omega))).trans ?_
      exact rot16 _ _ _ _ _ (c64_row m c t a _ _ hl) (s64_row m c t a _ _ hl)
    · rw [if_neg h2, if_neg h2]
      exact hD _ (by omega)

theorem key13 (c : Dev nD) (t : Fin cfg0.N) (a : Fin 512) (j : Fin 768) (r : Fin 32768) (hr : r.val = t.val * 512 + a.val) (cc : ℕ) (hc : cc = j.val) :
    (outsAt0 m c t).2.2.2.2.1 (ix2 a j) = dfS (kp m c r) (r.val % 4096) cc := by
  subst hc
  have hl : r.val % 4096 = t.val % 8 * 512 + a.val := by omega
  have hD : ∀ n, n < 768 → D (Hb m c t) (Wb m c t) a (5632 + n) = kp m c r (1536 + n) := fun n hn => by
    rw [D_row m c t a _ (by omega) r hr, if_neg (by omega)]
    exact congrArg _ (by omega)
  rw [o13]
  unfold dfS
  by_cases h1 : j.val < 256
  · rw [if_pos h1, if_pos h1, scale32_eq]
    refine congrArg (fun z => Ideal.div z s32) ?_
    refine (rot_congr 8 _ (fun n => kp m c r (1536 + n)) _ _ _ (hD _ (by omega)) (hD _ (by omega)) (hD _ (by omega))).trans ?_
    exact rot8 _ _ _ _ _ (c32_row m c t a _ _ hl) (s32_row m c t a _ _ hl)
  · rw [if_neg h1, if_neg h1]
    by_cases h2 : j.val < 512
    · rw [if_pos h2, if_pos h2]
      have hk : ∀ n, n < 500 → D (Hb m c t) (Wb m c t) a (5632 + (256 + n)) = kp m c r (1792 + n) := fun n hn =>
        (hD (256 + n) (by omega)).trans (congrArg _ (by omega))
      refine (rot_congr 8 _ (fun n => kp m c r (1792 + n)) _ _ _ (hk _ (by omega)) (hk _ (by omega)) (hk _ (by omega))).trans ?_
      exact rot8 _ _ _ _ _ (c32_row m c t a _ _ hl) (s32_row m c t a _ _ hl)
    · rw [if_neg h2, if_neg h2]
      exact hD _ (by omega)

theorem final_9 (c : Dev nD) : (dats m 0 c).arrAt 9 (cfgs 0).N = fun i : S32768x4096.Idx => gateS (kpn m c (i 0).val) (i 1).val := by
  refine (dats m 0 c).arrAt_eq_of_covers 9 _ (by decide +kernel) fun t hf y => ?_
  blk_simp
  rw [after0_9]
  idx_vars y
  have e := (idx t).2.2.2.2.2.2.2.2.2.1
  have e0 : win0_9.index t 0 = t.val := congrFun e 0
  have e1 : win0_9.index t 1 = 0 := congrFun e 1
  have hlt : t.val * 512 + y0.val < 32768 := by have := hN t; omega
  refine (key9 m c t y0 y1 ⟨t.val * 512 + y0.val, hlt⟩ rfl _ rfl).trans ?_
  rw [← kpn_eq m c ⟨t.val * 512 + y0.val, hlt⟩, e0, e1, Nat.zero_mul, Nat.zero_add]

theorem final_10 (c : Dev nD) : (dats m 0 c).arrAt 10 (cfgs 0).N = fun i : S32768x256.Idx => kpn m c (i 0).val (i 1).val := by
  refine (dats m 0 c).arrAt_eq_of_covers 10 _ (by decide +kernel) fun t hf y => ?_
  blk_simp
  rw [after0_10]
  idx_vars y
  have e := (idx t).2.2.2.2.2.2.2.2.2.2.1
  have e0 : win0_10.index t 0 = t.val := congrFun e 0
  have e1 : win0_10.index t 1 = 0 := congrFun e 1
  have hlt : t.val * 512 + y0.val < 32768 := by have := hN t; omega
  refine (key10 m c t y0 y1 ⟨t.val * 512 + y0.val, hlt⟩ rfl _ rfl).trans ?_
  rw [← kpn_eq m c ⟨t.val * 512 + y0.val, hlt⟩, e0, e1, Nat.zero_mul, Nat.zero_add]

theorem final_11 (c : Dev nD) : (dats m 0 c).arrAt 11 (cfgs 0).N = fun i : S32768x768.Idx => naS (kpn m c (i 0).val) (i 1).val := by
  refine (dats m 0 c).arrAt_eq_of_covers 11 _ (by decide +kernel) fun t hf y => ?_
  blk_simp
  rw [after0_11]
  idx_vars y
  have e := (idx t).2.2.2.2.2.2.2.2.2.2.2.1
  have e0 : win0_11.index t 0 = t.val := congrFun e 0
  have e1 : win0_11.index t 1 = 0 := congrFun e 1
  have hlt : t.val * 512 + y0.val < 32768 := by have := hN t; omega
  refine (key11 m c t y0 y1 ⟨t.val * 512 + y0.val, hlt⟩ rfl _ rfl).trans ?_
  rw [← kpn_eq m c ⟨t.val * 512 + y0.val, hlt⟩, e0, e1, Nat.zero_mul, Nat.zero_add]

theorem final_12 (c : Dev nD) : (dats m 0 c).arrAt 12 (cfgs 0).N = fun i : S32768x512.Idx => swS (kpn m c (i 0).val) ((i 0).val % 4096) (i 1).val := by
  refine (dats m 0 c).arrAt_eq_of_covers 12 _ (by decide +kernel) fun t hf y => ?_
  blk_simp
  rw [after0_12]
  idx_vars y
  have e := (idx t).2.2.2.2.2.2.2.2.2.2.2.2.1
  have e0 : win0_12.index t 0 = t.val := congrFun e 0
  have e1 : win0_12.index t 1 = 0 := congrFun e 1
  have hlt : t.val * 512 + y0.val < 32768 := by have := hN t; omega
  refine (key12 m c t y0 y1 ⟨t.val * 512 + y0.val, hlt⟩ rfl _ rfl).trans ?_
  rw [← kpn_eq m c ⟨t.val * 512 + y0.val, hlt⟩, e0, e1, Nat.zero_mul, Nat.zero_add]

theorem final_13 (c : Dev nD) : (dats m 0 c).arrAt 13 (cfgs 0).N = fun i : S32768x768.Idx => dfS (kpn m c (i 0).val) ((i 0).val % 4096) (i 1).val := by
  refine (dats m 0 c).arrAt_eq_of_covers 13 _ (by decide +kernel) fun t hf y => ?_
  blk_simp
  rw [after0_13]
  idx_vars y
  have e := (idx t).2.2.2.2.2.2.2.2.2.2.2.2.2
  have e0 : win0_13.index t 0 = t.val := congrFun e 0
  have e1 : win0_13.index t 1 = 0 := congrFun e 1
  have hlt : t.val * 512 + y0.val < 32768 := by have := hN t; omega
  refine (key13 m c t y0 y1 ⟨t.val * 512 + y0.val, hlt⟩ rfl _ rfl).trans ?_
  rw [← kpn_eq m c ⟨t.val * 512 + y0.val, hlt⟩, e0, e1, Nat.zero_mul, Nat.zero_add]

end Cert.Kernel2Ideal.In

end
-- ==== Proof.InRef.lean ====
/- The reference projection at an index. -/
module

public import proofs.«01_k».proof.Proof.Gen.Reference2Ideal.Run
public import proofs.«01_k».proof.Proof.InSpec
public import Idealize.ShloMosaic.Lib.Pipeline.ValueKit
public import Idealize.ShloMosaic.Lib.Pointwise
public import Idealize.ShloMosaic.Lib.ValueIdxCore

@[expose] public section

set_option maxRecDepth 16384

noncomputable section

namespace Cert.Reference2Ideal.In

open Cert.Reference2Ideal Cert.Reference2Ideal.Gen
open Idealize.ShloMosaic Idealize.ShloMosaic.TcCoe
open Idealize.ShloMosaic.Tactic
open Cert.InSpec.In Cert.Reference2Ideal.Value
variable (V0 : Valuation τ sig (Elt Ideal))

/-- The projection the reference's arguments give, row `r` of example `n`. -/
def pr (n : Fin 8) (r : Fin 32768) (c : ℕ) : EReal :=
  pj (fun r k => V0 (Proc.devRef .tc main_arg0) (ix2 r k : S32768x1024.Idx)) (fun k => V0 (Proc.devRef .tc main_arg1) (ix1 k : S1024.Idx))
    (fun n k => V0 (Proc.devRef .tc main_arg2) (ix3 n 0 k : S8x1x1024.Idx)) (fun n k => V0 (Proc.devRef .tc main_arg3) (ix3 n 0 k : S8x1x1024.Idx))
    (fun k j => V0 (Proc.devRef .tc main_arg4) (ix2 k j : S1024x6400.Idx)) n r c

theorem v20_at (n : Fin 8) (l : Fin 4096) (c : Fin 6400) :
    res_main_v20 V0 (ix3 n l c : S8x4096x6400.Idx) = pr V0 n ⟨n.val * 4096 + l.val, by omega⟩ c.val := by
  pointwise [res_main_v20, res_main_v0]
  unfold pr pj
  rw [dif_pos c.isLt]
  rfl

theorem v63_at (l : Fin 4096) (i : Fin 16) :
    res_main_v63 V0 (ix4 0 l 0 i : S1x4096x1x16.Idx) = ang 1098907648#32 (divB (BitVec.ofNat 32 l.val)) i.val := by
  pointwise [res_main_v63, res_main_v45, res_main_v55, res_main_call0_v0, res_main_call0_v2]
  rfl

theorem v84_at (l : Fin 4096) (i : Fin 16) :
    res_main_v84 V0 (ix4 0 l 0 i : S1x4096x1x16.Idx) = ang 1098907648#32 (modB (BitVec.ofNat 32 l.val)) i.val := by
  pointwise [res_main_v84, res_main_v45, res_main_v55, res_main_call1_v0, res_main_call1_v2, res_main_call1_v4]
  rfl

theorem v121_at (l : Fin 4096) (i : Fin 16) :
    res_main_v121 V0 (ix4 0 l 0 i : S1x4096x1x16.Idx) = ang 1098907648#32 (divB (BitVec.ofNat 32 l.val)) i.val := by
  pointwise [res_main_v121, res_main_v103, res_main_v113, res_main_call2_v0, res_main_call2_v2]
  rfl

theorem v142_at (l : Fin 4096) (i : Fin 16) :
    res_main_v142 V0 (ix4 0 l 0 i : S1x4096x1x16.Idx) = ang 1098907648#32 (modB (BitVec.ofNat 32 l.val)) i.val := by
  pointwise [res_main_v142, res_main_v103, res_main_v113, res_main_call3_v0, res_main_call3_v2, res_main_call3_v4]
  rfl

theorem v179_at (l : Fin 4096) (i : Fin 8) :
    res_main_v179 V0 (ix4 0 l 0 i : S1x4096x1x8.Idx) = ang 1090519040#32 (divB (BitVec.ofNat 32 l.val)) i.val := by
  pointwise [res_main_v179, res_main_v161, res_main_v171, res_main_call4_v0, res_main_call4_v2]
  rfl

theorem v200_at (l : Fin 4096) (i : Fin 8) :
    res_main_v200 V0 (ix4 0 l 0 i : S1x4096x1x8.Idx) = ang 1090519040#32 (modB (BitVec.ofNat 32 l.val)) i.val := by
  pointwise [res_main_v200, res_main_v161, res_main_v171, res_main_call5_v0, res_main_call5_v2, res_main_call5_v4]
  rfl

theorem v237_at (l : Fin 4096) (i : Fin 8) :
    res_main_v237 V0 (ix4 0 l 0 i : S1x4096x1x8.Idx) = ang 1090519040#32 (divB (BitVec.ofNat 32 l.val)) i.val := by
  pointwise [res_main_v237, res_main_v219, res_main_v229, res_main_call6_v0, res_main_call6_v2]
  rfl

theorem v258_at (l : Fin 4096) (i : Fin 8) :
    res_main_v258 V0 (ix4 0 l 0 i : S1x4096x1x8.Idx) = ang 1090519040#32 (modB (BitVec.ofNat 32 l.val)) i.val := by
  pointwise [res_main_v258, res_main_v219, res_main_v229, res_main_call7_v0, res_main_call7_v2, res_main_call7_v4]
  rfl

theorem v20_row (r : Fin 32768) (c : Fin 6400) :
    res_main_v20 V0 (ix3 ⟨r.val / 4096, by omega⟩ ⟨r.val % 4096, by omega⟩ c : S8x4096x6400.Idx) = pr V0 ⟨r.val / 4096, by omega⟩ r c.val := by
  rw [v20_at]
  exact congrArg (fun z => pr V0 ⟨r.val / 4096, by omega⟩ z c.val) (Fin.ext (by show r.val / 4096 * 4096 + r.val % 4096 = r.val; omega))

/-- Result 0 of the reference. -/
def out9 : FVec Ideal S32768x4096 .bf16 := truncf .bf16 (shapeCast _ (Host.divf (broadcastInDim S8x4096x4096 ![] bcast_S_S8x4096x4096 (constant S_ .f32 0x3F800000#32)) (addf (broadcastInDim S8x4096x4096 ![] bcast_S_S8x4096x4096 (constant S_ .f32 0x3F800000#32)) (Host.exp (Host.negf (extractStridedSlice S8x4096x4096 ![0, 0, 2304] (res_main_v20 V0) slices_S8x4096x6400_S8x4096x4096_0_0_2304))))) shapeCasts_S8x4096x4096_S32768x4096) bitsLt_bf16_f32

theorem out9_at (r : Fin 32768) (c : Fin 4096) : out9 V0 (ix2 r c) = gateS (pr V0 ⟨r.val / 4096, by omega⟩ r) c.val := by
  pointwise [out9, res_main_v40]
  simp only [v20_row, dite_eq_ite]
  rfl

/-- Result 1 of the reference. -/
def out10 : FVec Ideal S32768x256 .f32 := shapeCast _ (extractStridedSlice S8x4096x256 ![0, 0, 0] (res_main_v20 V0) slices_S8x4096x6400_S8x4096x256_0_0_0) shapeCasts_S8x4096x256_S32768x256

theorem out10_at (r : Fin 32768) (c : Fin 256) : out10 V0 (ix2 r c) = pr V0 ⟨r.val / 4096, by omega⟩ r c.val := by
  pointwise [out10, res_main_v40]
  simp only [v20_row, dite_eq_ite]

/-- Result 2 of the reference. -/
def out11 : FVec Ideal S32768x768 .bf16 := truncf .bf16 (shapeCast _ ((concatenate S8x4096x768 2 [⟨S8x4096x256, ((Host.divf (extractStridedSlice S8x4096x256 ![0, 0, 256] (res_main_v20 V0) slices_S8x4096x6400_S8x4096x256_0_0_256) (broadcastInDim S8x4096x256 ![] bcast_S_S8x4096x256 (res_main_v40 V0))) : (⟨S8x4096x256, .f32⟩ : BufTy).Contents (Elt Ideal))⟩, ⟨S8x4096x256, ((extractStridedSlice S8x4096x256 ![0, 0, 512] (res_main_v20 V0) slices_S8x4096x6400_S8x4096x256_0_0_512) : (⟨S8x4096x256, .f32⟩ : BufTy).Contents (Elt Ideal))⟩, ⟨S8x4096x256, ((extractStridedSlice S8x4096x256 ![0, 0, 768] (res_main_v20 V0) slices_S8x4096x6400_S8x4096x256_0_0_768) : (⟨S8x4096x256, .f32⟩ : BufTy).Contents (Elt Ideal))⟩] concatenates_S8x4096x256_S8x4096x256_S8x4096x256_S8x4096x768_d2 : (⟨S8x4096x768, .f32⟩ : BufTy).Contents (Elt Ideal))) shapeCasts_S8x4096x768_S32768x768) bitsLt_bf16_f32

theorem out11_at (r : Fin 32768) (c : Fin 768) : out11 V0 (ix2 r c) = naS (pr V0 ⟨r.val / 4096, by omega⟩ r) c.val := by
  pointwise [out11, res_main_v40]
  simp only [v20_row, dite_eq_ite]
  unfold naS
  by_cases h : c.val < 256
  · rw [if_pos h, if_pos h]
    rfl
  · rw [if_neg h, if_neg h]
    by_cases h2 : c.val - 256 < 256
    · rw [if_pos h2]
      exact congrArg _ (by omega)
    · rw [if_neg h2]
      exact congrArg _ (by omega)

end Cert.Reference2Ideal.In

end
-- ==== Proof.InRefSw.lean ====
/- The reference projection at an index. -/
module

public import proofs.«01_k».proof.Proof.InRef
public import proofs.«01_k».proof.Proof.InSpec
public import Idealize.ShloMosaic.Lib.Pipeline.ValueKit
public import Idealize.ShloMosaic.Lib.Pointwise
public import Idealize.ShloMosaic.Lib.ValueIdxCore

@[expose] public section

set_option maxRecDepth 16384

noncomputable section

namespace Cert.Reference2Ideal.In

open Cert.Reference2Ideal Cert.Reference2Ideal.Gen
open Idealize.ShloMosaic Idealize.ShloMosaic.TcCoe
open Idealize.ShloMosaic.Tactic
open Cert.InSpec.In Cert.Reference2Ideal.Value
variable (V0 : Valuation τ sig (Elt Ideal))

/-- Result 3 of the reference. -/
def out12 : FVec Ideal S32768x512 .bf16 := truncf .bf16 (shapeCast _ ((concatenate S8x4096x512 2 [⟨S8x4096x256, ((Host.divf (shapeCast _ (concatenate S8x4096x4x64 3 [⟨S8x4096x4x32, (concatenate S8x4096x4x32 3 [⟨S8x4096x4x16, (subf (mulf (res_main_v66 V0) (broadcastInDim S8x4096x4x16 ![0, 1, 2, 3] bcast_S1x4096x1x16_S8x4096x4x16_0_1_2_3 (res_main_v64 V0))) (mulf (res_main_v67 V0) (broadcastInDim S8x4096x4x16 ![0, 1, 2, 3] bcast_S1x4096x1x16_S8x4096x4x16_0_1_2_3 (res_main_v65 V0))))⟩, ⟨S8x4096x4x16, (addf (mulf (res_main_v67 V0) (broadcastInDim S8x4096x4x16 ![0, 1, 2, 3] bcast_S1x4096x1x16_S8x4096x4x16_0_1_2_3 (res_main_v64 V0))) (mulf (res_main_v66 V0) (broadcastInDim S8x4096x4x16 ![0, 1, 2, 3] bcast_S1x4096x1x16_S8x4096x4x16_0_1_2_3 (res_main_v65 V0))))⟩] concatenates_S8x4096x4x16_S8x4096x4x16_S8x4096x4x32_d3)⟩, ⟨S8x4096x4x32, (concatenate S8x4096x4x32 3 [⟨S8x4096x4x16, (subf (mulf (res_main_v87 V0) (broadcastInDim S8x4096x4x16 ![0, 1, 2, 3] bcast_S1x4096x1x16_S8x4096x4x16_0_1_2_3 (res_main_v85 V0))) (mulf (res_main_v88 V0) (broadcastInDim S8x4096x4x16 ![0, 1, 2, 3] bcast_S1x4096x1x16_S8x4096x4x16_0_1_2_3 (res_main_v86 V0))))⟩, ⟨S8x4096x4x16, (addf (mulf (res_main_v88 V0) (broadcastInDim S8x4096x4x16 ![0, 1, 2, 3] bcast_S1x4096x1x16_S8x4096x4x16_0_1_2_3 (res_main_v85 V0))) (mulf (res_main_v87 V0) (broadcastInDim S8x4096x4x16 ![0, 1, 2, 3] bcast_S1x4096x1x16_S8x4096x4x16_0_1_2_3 (res_main_v86 V0))))⟩] concatenates_S8x4096x4x16_S8x4096x4x16_S8x4096x4x32_d3)⟩] concatenates_S8x4096x4x32_S8x4096x4x32_S8x4096x4x64_d3) shapeCasts_S8x4096x4x64_S8x4096x256) (broadcastInDim S8x4096x256 ![] bcast_S_S8x4096x256 (res_main_v40 V0))) : (⟨S8x4096x256, .f32⟩ : BufTy).Contents (Elt Ideal))⟩, ⟨S8x4096x128, ((shapeCast _ (concatenate S8x4096x2x64 3 [⟨S8x4096x2x32, (concatenate S8x4096x2x32 3 [⟨S8x4096x2x16, (subf (mulf (res_main_v124 V0) (broadcastInDim S8x4096x2x16 ![0, 1, 2, 3] bcast_S1x4096x1x16_S8x4096x2x16_0_1_2_3 (res_main_v122 V0))) (mulf (res_main_v125 V0) (broadcastInDim S8x4096x2x16 ![0, 1, 2, 3] bcast_S1x4096x1x16_S8x4096x2x16_0_1_2_3 (res_main_v123 V0))))⟩, ⟨S8x4096x2x16, (addf (mulf (res_main_v125 V0) (broadcastInDim S8x4096x2x16 ![0, 1, 2, 3] bcast_S1x4096x1x16_S8x4096x2x16_0_1_2_3 (res_main_v122 V0))) (mulf (res_main_v124 V0) (broadcastInDim S8x4096x2x16 ![0, 1, 2, 3] bcast_S1x4096x1x16_S8x4096x2x16_0_1_2_3 (res_main_v123 V0))))⟩] concatenates_S8x4096x2x16_S8x4096x2x16_S8x4096x2x32_d3)⟩, ⟨S8x4096x2x32, (concatenate S8x4096x2x32 3 [⟨S8x4096x2x16, (subf (mulf (res_main_v145 V0) (broadcastInDim S8x4096x2x16 ![0, 1, 2, 3] bcast_S1x4096x1x16_S8x4096x2x16_0_1_2_3 (res_main_v143 V0))) (mulf (res_main_v146 V0) (broadcastInDim S8x4096x2x16 ![0, 1, 2, 3] bcast_S1x4096x1x16_S8x4096x2x16_0_1_2_3 (res_main_v144 V0))))⟩, ⟨S8x4096x2x16, (addf (mulf (res_main_v146 V0) (broadcastInDim S8x4096x2x16 ![0, 1, 2, 3] bcast_S1x4096x1x16_S8x4096x2x16_0_1_2_3 (res_main_v143 V0))) (mulf (res_main_v145 V0) (broadcastInDim S8x4096x2x16 ![0, 1, 2, 3] bcast_S1x4096x1x16_S8x4096x2x16_0_1_2_3 (res_main_v144 V0))))⟩] concatenates_S8x4096x2x16_S8x4096x2x16_S8x4096x2x32_d3)⟩] concatenates_S8x4096x2x32_S8x4096x2x32_S8x4096x2x64_d3) shapeCasts_S8x4096x2x64_S8x4096x128) : (⟨S8x4096x128, .f32⟩ : BufTy).Contents (Elt Ideal))⟩, ⟨S8x4096x128, ((extractStridedSlice S8x4096x128 ![0, 0, 1408] (res_main_v20 V0) slices_S8x4096x6400_S8x4096x128_0_0_1408) : (⟨S8x4096x128, .f32⟩ : BufTy).Contents (Elt Ideal))⟩] concatenates_S8x4096x256_S8x4096x128_S8x4096x128_S8x4096x512_d2 : (⟨S8x4096x512, .f32⟩ : BufTy).Contents (Elt Ideal))) shapeCasts_S8x4096x512_S32768x512) bitsLt_bf16_f32

theorem out12_at (r : Fin 32768) (c : Fin 512) : out12 V0 (ix2 r c) = swS (pr V0 ⟨r.val / 4096, by omega⟩ r) (r.val % 4096) c.val := by
  pointwise [out12, res_main_v40, res_main_v44, res_main_v56, res_main_v57, res_main_v64, res_main_v65, res_main_v66, res_main_v67, res_main_v85, res_main_v86, res_main_v87, res_main_v88, res_main_v102, res_main_v114, res_main_v115, res_main_v122, res_main_v123, res_main_v124, res_main_v125, res_main_v143, res_main_v144, res_main_v145, res_main_v146, v63_at, v84_at, v121_at, v142_at]
  simp only [v20_row, dite_eq_ite]
  unfold swS
  by_cases h : c.val < 256
  · rw [if_pos h, if_pos h]
    exact congrArg (fun z => Ideal.div z s64) (rope16 (fun n => pr V0 ⟨r.val / 4096, by omega⟩ r (1024 + n)) (r.val % 4096) c.val)
  · rw [if_neg h, if_neg h]
    by_cases h2 : c.val - 256 < 128
    · rw [if_pos h2, if_pos (show c.val < 384 by omega)]
      exact rope16 (fun n => pr V0 ⟨r.val / 4096, by omega⟩ r (1280 + n)) (r.val % 4096) (c.val - 256)
    · rw [if_neg h2, if_neg (show ¬ c.val < 384 by omega)]
      exact congrArg _ (by omega)

end Cert.Reference2Ideal.In

end
-- ==== Proof.InRefDf.lean ====
/- The reference projection at an index. -/
module

public import proofs.«01_k».proof.Proof.InRef
public import proofs.«01_k».proof.Proof.InSpec
public import Idealize.ShloMosaic.Lib.Pipeline.ValueKit
public import Idealize.ShloMosaic.Lib.Pointwise
public import Idealize.ShloMosaic.Lib.ValueIdxCore

@[expose] public section

set_option maxRecDepth 16384

noncomputable section

namespace Cert.Reference2Ideal.In

open Cert.Reference2Ideal Cert.Reference2Ideal.Gen
open Idealize.ShloMosaic Idealize.ShloMosaic.TcCoe
open Idealize.ShloMosaic.Tactic
open Cert.InSpec.In Cert.Reference2Ideal.Value
variable (V0 : Valuation τ sig (Elt Ideal))

/-- Result 4 of the reference. -/
def out13 : FVec Ideal S32768x768 .bf16 := truncf .bf16 (shapeCast _ ((concatenate S8x4096x768 2 [⟨S8x4096x256, ((Host.divf (shapeCast _ (concatenate S8x4096x8x32 3 [⟨S8x4096x8x16, (concatenate S8x4096x8x16 3 [⟨S8x4096x8x8, (subf (mulf (res_main_v182 V0) (broadcastInDim S8x4096x8x8 ![0, 1, 2, 3] bcast_S1x4096x1x8_S8x4096x8x8_0_1_2_3 (res_main_v180 V0))) (mulf (res_main_v183 V0) (broadcastInDim S8x4096x8x8 ![0, 1, 2, 3] bcast_S1x4096x1x8_S8x4096x8x8_0_1_2_3 (res_main_v181 V0))))⟩, ⟨S8x4096x8x8, (addf (mulf (res_main_v183 V0) (broadcastInDim S8x4096x8x8 ![0, 1, 2, 3] bcast_S1x4096x1x8_S8x4096x8x8_0_1_2_3 (res_main_v180 V0))) (mulf (res_main_v182 V0) (broadcastInDim S8x4096x8x8 ![0, 1, 2, 3] bcast_S1x4096x1x8_S8x4096x8x8_0_1_2_3 (res_main_v181 V0))))⟩] concatenates_S8x4096x8x8_S8x4096x8x8_S8x4096x8x16_d3)⟩, ⟨S8x4096x8x16, (concatenate S8x4096x8x16 3 [⟨S8x4096x8x8, (subf (mulf (res_main_v203 V0) (broadcastInDim S8x4096x8x8 ![0, 1, 2, 3] bcast_S1x4096x1x8_S8x4096x8x8_0_1_2_3 (res_main_v201 V0))) (mulf (res_main_v204 V0) (broadcastInDim S8x4096x8x8 ![0, 1, 2, 3] bcast_S1x4096x1x8_S8x4096x8x8_0_1_2_3 (res_main_v202 V0))))⟩, ⟨S8x4096x8x8, (addf (mulf (res_main_v204 V0) (broadcastInDim S8x4096x8x8 ![0, 1, 2, 3] bcast_S1x4096x1x8_S8x4096x8x8_0_1_2_3 (res_main_v201 V0))) (mulf (res_main_v203 V0) (broadcastInDim S8x4096x8x8 ![0, 1, 2, 3] bcast_S1x4096x1x8_S8x4096x8x8_0_1_2_3 (res_main_v202 V0))))⟩] concatenates_S8x4096x8x8_S8x4096x8x8_S8x4096x8x16_d3)⟩] concatenates_S8x4096x8x16_S8x4096x8x16_S8x4096x8x32_d3) shapeCasts_S8x4096x8x32_S8x4096x256) (broadcastInDim S8x4096x256 ![] bcast_S_S8x4096x256 (mulf (Host.sqrt (constant S_ .f32 0x42000000#32)) (Host.log (constant S_ .f32 0x40000000#32))))) : (⟨S8x4096x256, .f32⟩ : BufTy).Contents (Elt Ideal))⟩, ⟨S8x4096x256, ((shapeCast _ (concatenate S8x4096x8x32 3 [⟨S8x4096x8x16, (concatenate S8x4096x8x16 3 [⟨S8x4096x8x8, (subf (mulf (res_main_v240 V0) (broadcastInDim S8x4096x8x8 ![0, 1, 2, 3] bcast_S1x4096x1x8_S8x4096x8x8_0_1_2_3 (res_main_v238 V0))) (mulf (res_main_v241 V0) (broadcastInDim S8x4096x8x8 ![0, 1, 2, 3] bcast_S1x4096x1x8_S8x4096x8x8_0_1_2_3 (res_main_v239 V0))))⟩, ⟨S8x4096x8x8, (addf (mulf (res_main_v241 V0) (broadcastInDim S8x4096x8x8 ![0, 1, 2, 3] bcast_S1x4096x1x8_S8x4096x8x8_0_1_2_3 (res_main_v238 V0))) (mulf (res_main_v240 V0) (broadcastInDim S8x4096x8x8 ![0, 1, 2, 3] bcast_S1x4096x1x8_S8x4096x8x8_0_1_2_3 (res_main_v239 V0))))⟩] concatenates_S8x4096x8x8_S8x4096x8x8_S8x4096x8x16_d3)⟩, ⟨S8x4096x8x16, (concatenate S8x4096x8x16 3 [⟨S8x4096x8x8, (subf (mulf (res_main_v261 V0) (broadcastInDim S8x4096x8x8 ![0, 1, 2, 3] bcast_S1x4096x1x8_S8x4096x8x8_0_1_2_3 (res_main_v259 V0))) (mulf (res_main_v262 V0) (broadcastInDim S8x4096x8x8 ![0, 1, 2, 3] bcast_S1x4096x1x8_S8x4096x8x8_0_1_2_3 (res_main_v260 V0))))⟩, ⟨S8x4096x8x8, (addf (mulf (res_main_v262 V0) (broadcastInDim S8x4096x8x8 ![0, 1, 2, 3] bcast_S1x4096x1x8_S8x4096x8x8_0_1_2_3 (res_main_v259 V0))) (mulf (res_main_v261 V0) (broadcastInDim S8x4096x8x8 ![0, 1, 2, 3] bcast_S1x4096x1x8_S8x4096x8x8_0_1_2_3 (res_main_v260 V0))))⟩] concatenates_S8x4096x8x8_S8x4096x8x8_S8x4096x8x16_d3)⟩] concatenates_S8x4096x8x16_S8x4096x8x16_S8x4096x8x32_d3) shapeCasts_S8x4096x8x32_S8x4096x256) : (⟨S8x4096x256, .f32⟩ : BufTy).Contents (Elt Ideal))⟩, ⟨S8x4096x256, ((extractStridedSlice S8x4096x256 ![0, 0, 2048] (res_main_v20 V0) slices_S8x4096x6400_S8x4096x256_0_0_2048) : (⟨S8x4096x256, .f32⟩ : BufTy).Contents (Elt Ideal))⟩] concatenates_S8x4096x256_S8x4096x256_S8x4096x256_S8x4096x768_d2 : (⟨S8x4096x768, .f32⟩ : BufTy).Contents (Elt Ideal))) shapeCasts_S8x4096x768_S32768x768) bitsLt_bf16_f32

theorem out13_at (r : Fin 32768) (c : Fin 768) : out13 V0 (ix2 r c) = dfS (pr V0 ⟨r.val / 4096, by omega⟩ r) (r.val % 4096) c.val := by
  pointwise [out13, res_main_v40, res_main_v160, res_main_v172, res_main_v173, res_main_v180, res_main_v181, res_main_v182, res_main_v183, res_main_v201, res_main_v202, res_main_v203, res_main_v204, res_main_v218, res_main_v230, res_main_v231, res_main_v238, res_main_v239, res_main_v240, res_main_v241, res_main_v259, res_main_v260, res_main_v261, res_main_v262, v179_at, v200_at, v237_at, v258_at]
  simp only [v20_row, dite_eq_ite]
  unfold dfS
  by_cases h : c.val < 256
  · rw [if_pos h, if_pos h]
    exact congrArg (fun z => Ideal.div z s32) (rope8 (fun n => pr V0 ⟨r.val / 4096, by omega⟩ r (1536 + n)) (r.val % 4096) c.val)
  · rw [if_neg h, if_neg h]
    by_cases h2 : c.val - 256 < 256
    · rw [if_pos h2, if_pos (show c.val < 512 by omega)]
      exact rope8 (fun n => pr V0 ⟨r.val / 4096, by omega⟩ r (1792 + n)) (r.val % 4096) (c.val - 256)
    · rw [if_neg h2, if_neg (show ¬ c.val < 512 by omega)]
      exact congrArg _ (by omega)

end Cert.Reference2Ideal.In

end
-- ==== Proof.InClaims.lean ====
/- The claims about the input projection: the reference's run, the named constants, and the two programs' results being equal. -/
module

public import proofs.«01_k».proof.Defs
public import proofs.«01_k».proof.Proof.InVal
public import proofs.«01_k».proof.Proof.InRefSw
public import proofs.«01_k».proof.Proof.InRefDf
public import Idealize.ShloMosaic.Lib.Quiescent

@[expose] public section

set_option maxRecDepth 16384

noncomputable section

namespace Cert.Proof.Projection

open Idealize.ShloMosaic Idealize.ShloMosaic.TcCoe Idealize.SL.Sem
open Idealize.ShloMosaic.Tactic
open Idealize.ShloMosaic.StableHlo

/-- The reference runs, its arguments end unchanged, every counter at zero. -/
theorem frame_reference : Cert.quiescent_Reference2Ideal := fun m ρ _ =>
  (θ_run Cert.Reference2Ideal.defs _ _).mono (fun r h => ⟨fun c => (h c).2.2.2.2.2, Idealize.ShloMosaic.sem_eq_zero_of_no_sems (by decide) r.2⟩)
    (Cert.Reference2Ideal.Value.run (F := Ideal) m ρ)

/-- The named constants have their values. -/
theorem preserves : Cert.preserves_Kernel2_Kernel2Ideal :=
  ⟨IdealRules.named_const.statement Cert.Kernel2Ideal.κ "scale64" .f32 0x3E38AA3B#32 (((Real.sqrt 64)⁻¹ * (Real.log 2)⁻¹ : ℝ) : EReal) rfl,
    IdealRules.named_const.statement Cert.Kernel2Ideal.κ "scale32" .f32 0x3E8293EE#32 (((Real.sqrt 32)⁻¹ * (Real.log 2)⁻¹ : ℝ) : EReal) rfl⟩

section

variable (m : (ℓ : Loc Cert.Kernel2Ideal.nD Cert.Kernel2Ideal.τ Cert.Kernel2Ideal.sig) → Buf (Elt Ideal) ℓ)
  (m' : (ℓ : Loc Cert.Reference2Ideal.nD Cert.Reference2Ideal.τ Cert.Reference2Ideal.sig) → Buf (Elt Ideal) ℓ)

/-- The two memories agree on the arguments. -/
def Agree (c : Dev Cert.Kernel2Ideal.nD) : Prop :=
  m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
  ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
  ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
  ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
  ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)

theorem row (c : Dev Cert.Kernel2Ideal.nD) (h : Agree m m' c) (r : Fin 32768) :
    Cert.Reference2Ideal.In.pr (launchContents m' c) ⟨r.val / 4096, by omega⟩ r = Cert.Kernel2Ideal.In.kpn m c r.val := by
  obtain ⟨e0, e1, e2, e3, e4⟩ := h
  rw [Cert.Kernel2Ideal.In.kpn_eq]
  funext j
  show Cert.InSpec.In.pj (fun r k => m' ((c.tc : Thread Cert.Reference2Ideal.nD Cert.Reference2Ideal.τ).loc Cert.Reference2Ideal.main_arg0) (ix2 r k : Cert.Reference2Ideal.S32768x1024.Idx)) (fun k => m' ((c.tc : Thread Cert.Reference2Ideal.nD Cert.Reference2Ideal.τ).loc Cert.Reference2Ideal.main_arg1) (ix1 k : Cert.Reference2Ideal.S1024.Idx))
    (fun n k => m' ((c.tc : Thread Cert.Reference2Ideal.nD Cert.Reference2Ideal.τ).loc Cert.Reference2Ideal.main_arg2) (ix3 n 0 k : Cert.Reference2Ideal.S8x1x1024.Idx)) (fun n k => m' ((c.tc : Thread Cert.Reference2Ideal.nD Cert.Reference2Ideal.τ).loc Cert.Reference2Ideal.main_arg3) (ix3 n 0 k : Cert.Reference2Ideal.S8x1x1024.Idx))
    (fun k j => m' ((c.tc : Thread Cert.Reference2Ideal.nD Cert.Reference2Ideal.τ).loc Cert.Reference2Ideal.main_arg4) (ix2 k j : Cert.Reference2Ideal.S1024x6400.Idx)) _ r j = _
  rw [e0, e1, e2, e3, e4]
  rfl

theorem eq9 (c : Dev Cert.Kernel2Ideal.nD) (h : Agree m m' c) : Cert.Reference2Ideal.In.out9 (launchContents m' c) = (Cert.Kernel2Ideal.Gen.dats m 0 c).arrAt 9 (Cert.Kernel2Ideal.cfgs 0).N := by
  rw [Cert.Kernel2Ideal.In.final_9]
  funext i
  idx_vars i
  refine (Cert.Reference2Ideal.In.out9_at (launchContents m' c) i0 i1).trans ?_
  rw [row m m' c h i0]

theorem eq10 (c : Dev Cert.Kernel2Ideal.nD) (h : Agree m m' c) : Cert.Reference2Ideal.In.out10 (launchContents m' c) = (Cert.Kernel2Ideal.Gen.dats m 0 c).arrAt 10 (Cert.Kernel2Ideal.cfgs 0).N := by
  rw [Cert.Kernel2Ideal.In.final_10]
  funext i
  idx_vars i
  refine (Cert.Reference2Ideal.In.out10_at (launchContents m' c) i0 i1).trans ?_
  rw [row m m' c h i0]

theorem eq11 (c : Dev Cert.Kernel2Ideal.nD) (h : Agree m m' c) : Cert.Reference2Ideal.In.out11 (launchContents m' c) = (Cert.Kernel2Ideal.Gen.dats m 0 c).arrAt 11 (Cert.Kernel2Ideal.cfgs 0).N := by
  rw [Cert.Kernel2Ideal.In.final_11]
  funext i
  idx_vars i
  refine (Cert.Reference2Ideal.In.out11_at (launchContents m' c) i0 i1).trans ?_
  rw [row m m' c h i0]

theorem eq12 (c : Dev Cert.Kernel2Ideal.nD) (h : Agree m m' c) : Cert.Reference2Ideal.In.out12 (launchContents m' c) = (Cert.Kernel2Ideal.Gen.dats m 0 c).arrAt 12 (Cert.Kernel2Ideal.cfgs 0).N := by
  rw [Cert.Kernel2Ideal.In.final_12]
  funext i
  idx_vars i
  refine (Cert.Reference2Ideal.In.out12_at (launchContents m' c) i0 i1).trans ?_
  rw [row m m' c h i0]

theorem eq13 (c : Dev Cert.Kernel2Ideal.nD) (h : Agree m m' c) : Cert.Reference2Ideal.In.out13 (launchContents m' c) = (Cert.Kernel2Ideal.Gen.dats m 0 c).arrAt 13 (Cert.Kernel2Ideal.cfgs 0).N := by
  rw [Cert.Kernel2Ideal.In.final_13]
  funext i
  idx_vars i
  refine (Cert.Reference2Ideal.In.out13_at (launchContents m' c) i0 i1).trans ?_
  rw [row m m' c h i0]

end

/-- From arguments that agree the two programs end with equal results. -/
theorem algebraic : Cert.algebraic_Kernel2Ideal_Reference2Ideal := by
  intro m ρ m' ρ' _ hagree
  refine ⟨fun c => (Cert.Kernel2Ideal.Gen.dats m 0 c).arrAt 9 (Cert.Kernel2Ideal.cfgs 0).N, fun c => (Cert.Kernel2Ideal.Gen.dats m 0 c).arrAt 10 (Cert.Kernel2Ideal.cfgs 0).N, fun c => (Cert.Kernel2Ideal.Gen.dats m 0 c).arrAt 11 (Cert.Kernel2Ideal.cfgs 0).N, fun c => (Cert.Kernel2Ideal.Gen.dats m 0 c).arrAt 12 (Cert.Kernel2Ideal.cfgs 0).N, fun c => (Cert.Kernel2Ideal.Gen.dats m 0 c).arrAt 13 (Cert.Kernel2Ideal.cfgs 0).N,
    (θ_run Cert.Kernel2Ideal.defs _ _).mono (fun _ h c => ⟨(h.2 c).1 9, (h.2 c).1 10, (h.2 c).1 11, (h.2 c).1 12, (h.2 c).1 13, h.1 c⟩)
      (θ_run_and (Cert.Kernel2Ideal.Gen.unchanged (F := Ideal) m ρ) (Cert.Kernel2Ideal.Gen.run_main (F := Ideal) m ρ)), ?_⟩
  refine (θ_run Cert.Reference2Ideal.defs _ _).mono (fun _ h c => ?_) (Cert.Reference2Ideal.Value.run (F := Ideal) m' ρ')
  have ha : Agree m m' c := hagree c
  obtain ⟨h0, h1, h2, h3, h4, h5⟩ := h c
  exact ⟨h0.trans (eq9 m m' c ha), h1.trans (eq10 m m' c ha), h2.trans (eq11 m m' c ha), h3.trans (eq12 m m' c ha), h4.trans (eq13 m m' c ha), h5⟩

end Cert.Proof.Projection

end
-- ==== Proof.MgSpec.lean ====
/- The merge of one row, as arithmetic: the state-space branch's gelu and gate, the four gated branch products, the
   output product, the residual, the second norm and the router's scores. -/
module

public import Idealize.ShloMosaic.Lib.Pointwise

@[expose] public section

noncomputable section

namespace Cert.Mg

open Idealize.ShloMosaic
open scoped BigOperators

/-- What the merge of one row takes: the row's own numbers and the weights. -/
@[ext] structure Row where
  u : Fin 256 → EReal
  d : Fin 256 → EReal
  yf : Fin 256 → EReal
  yr : Fin 256 → EReal
  gw : Fin 256 → Fin 256 → EReal
  gb : Fin 256 → EReal
  yb : Fin 256 → EReal
  yc : Fin 256 → EReal
  yd : Fin 256 → EReal
  g : Fin 4096 → EReal
  wb : Fin 4 → Fin 256 → Fin 1024 → EReal
  wo : Fin 1024 → Fin 1024 → EReal
  x : Fin 1024 → EReal
  g1 : Fin 1024 → EReal
  n2 : Fin 1024 → EReal
  sc : Fin 1024 → EReal
  sh : Fin 1024 → EReal
  rw' : Fin 1024 → Fin 64 → EReal

/-- The gelu with a hyperbolic tangent. -/
def gelu (y : EReal) : EReal :=
  y * (Ideal.ofBits .f32 1056964608#32 * (1 + Ideal.tanh (Ideal.ofBits .f32 1061962282#32 * (y + Ideal.ofBits .f32 1027024659#32 * (y * (y * y))))))

/-- The state-space branch before its gelu. -/
def Row.y (R : Row) (j : Fin 256) : EReal := R.u j * R.d j + R.yf j + R.yr j

/-- The state-space branch's result. -/
def Row.ya (R : Row) (j : Fin 256) : EReal :=
  gelu (R.y j) * Ideal.logistic ((∑ k : Fin 256, gelu (R.y k) * R.gw k j) + R.gb j)

/-- The sum of the four gated branch products, the first branch given. -/
def Row.accOf (R : Row) (ya : Fin 256 → EReal) (j : Fin 1024) : EReal :=
  R.g ⟨j.val, by omega⟩ * (∑ k : Fin 256, ya k * R.wb 0 k j) + R.g ⟨1024 + j.val, by omega⟩ * (∑ k : Fin 256, R.yb k * R.wb 1 k j)
    + R.g ⟨2048 + j.val, by omega⟩ * (∑ k : Fin 256, R.yc k * R.wb 2 k j) + R.g ⟨3072 + j.val, by omega⟩ * (∑ k : Fin 256, R.yd k * R.wb 3 k j)

/-- The sum of the four gated branch products. -/
def Row.acc (R : Row) (j : Fin 1024) : EReal := R.accOf R.ya j

/-- The row with the mixer's output added. -/
def Row.x1 (R : Row) (j : Fin 1024) : EReal := R.x j + R.g1 j * (∑ k : Fin 1024, R.acc k * R.wo k j)

/-- The norm and modulation of a row. -/
def Row.nrm (R : Row) (x : Fin 1024 → EReal) (j : Fin 1024) : EReal :=
  x j * Ideal.rsqrt (Ideal.div (∑ k : Fin 1024, x k * x k) (Ideal.ofBits .f32 1149239296#32) + Ideal.ofBits .f32 897988541#32)
    * R.n2 j * (1 + R.sc j) + R.sh j

/-- The normalized, modulated row. -/
def Row.h2 (R : Row) (j : Fin 1024) : EReal := R.nrm R.x1 j

/-- The router's score of an expert. -/
def Row.lg (R : Row) (e : Fin 64) : EReal := ∑ k : Fin 1024, R.rw' k e * R.h2 k

end Cert.Mg

end
-- ==== Proof.MgPay.lean ====
/- The values the body of the merge stores, at an index. -/
module

public import proofs.«01_k».proof.Proof.Gen.Kernel3Ideal.Skeleton
public import proofs.«01_k».proof.Proof.MgSpec
public import Idealize.ShloMosaic.Lib.Pipeline.ValueKit
public import Idealize.ShloMosaic.Lib.Pointwise

@[expose] public section

set_option maxRecDepth 16384

noncomputable section

namespace Cert.Kernel3Ideal.In

open Cert.Kernel3Ideal Cert.Kernel3Ideal.Gen
open Idealize.ShloMosaic Idealize.ShloMosaic.TcCoe
open Idealize.ShloMosaic.Tactic
open scoped BigOperators
open Cert.Mg

section
variable (v0 : Vec Ideal S512x256 .f32) (v1 : Vec Ideal S1x256 .f32) (v5 v8 : Vec Ideal S1x1x512x256 .f32) (v25 : Vec Ideal S256x256 .bf16) (v28 : Vec Ideal S1x256 .f32)
  (yb yc yd : Vec Ideal S512x256 .bf16) (G : Vec Ideal S512x4096 .bf16) (WB : Vec Ideal S4x256x1024 .bf16)
  (WO : Vec Ideal S1024x1024 .bf16) (x : Vec Ideal S512x1024 .f32) (g1 : Vec Ideal S1x1x1024 .f32)
  (n2 : Vec Ideal S1x1024 .f32) (sc sh : Vec Ideal S1x1x1024 .f32) (rwt : Vec Ideal S64x1024 .f32)

/-- The numbers of row `a` of a block. -/
def bRow (a : Fin 512) : Row where
  u j := v0 (ix2 a j : S512x256.Idx)
  d j := v1 (ix2 0 j : S1x256.Idx)
  yf j := v5 (ix4 0 0 a j : S1x1x512x256.Idx)
  yr j := v8 (ix4 0 0 a j : S1x1x512x256.Idx)
  gw k j := v25 (ix2 k j : S256x256.Idx)
  gb j := v28 (ix2 0 j : S1x256.Idx)
  yb j := yb (ix2 a j : S512x256.Idx)
  yc j := yc (ix2 a j : S512x256.Idx)
  yd j := yd (ix2 a j : S512x256.Idx)
  g j := G (ix2 a j : S512x4096.Idx)
  wb n k j := WB (ix3 n k j : S4x256x1024.Idx)
  wo k j := WO (ix2 k j : S1024x1024.Idx)
  x j := x (ix2 a j : S512x1024.Idx)
  g1 j := g1 (ix3 0 0 j : S1x1x1024.Idx)
  n2 j := n2 (ix2 0 j : S1x1024.Idx)
  sc j := sc (ix3 0 0 j : S1x1x1024.Idx)
  sh j := sh (ix3 0 0 j : S1x1x1024.Idx)
  rw' k e := rwt (ix2 e k : S64x1024.Idx)

theorem pay3_at (a : Fin 512) (j : Fin 256) :
    k0_pay3 v0 v1 v5 v8 v25 v28 (ix2 a j : S512x256.Idx) = (bRow v0 v1 v5 v8 v25 v28 yb yc yd G WB WO x g1 n2 sc sh rwt a).ya j := by
  unfold Row.ya Row.y gelu bRow
  pointwise [k0_pay3]

theorem pay4_at (w : FVec Ideal S512x256 .bf16) (a : Fin 512) (j : Fin 1024) :
    k0_pay4 w yb yc yd (View.ld G (Rect.unit ![0, 0] ![512, 1024] inb_S512x4096_S512x1024_0_0)) (View.ld WB (Rect.unit ![0, 0, 0] ![1, 256, 1024] inb_S4x256x1024_S1x256x1024_0_0_0)) (View.ld G (Rect.unit ![0, 1024] ![512, 1024] inb_S512x4096_S512x1024_0_1024)) (View.ld WB (Rect.unit ![1, 0, 0] ![1, 256, 1024] inb_S4x256x1024_S1x256x1024_1_0_0)) (View.ld G (Rect.unit ![0, 2048] ![512, 1024] inb_S512x4096_S512x1024_0_2048)) (View.ld WB (Rect.unit ![2, 0, 0] ![1, 256, 1024] inb_S4x256x1024_S1x256x1024_2_0_0)) (View.ld G (Rect.unit ![0, 3072] ![512, 1024] inb_S512x4096_S512x1024_0_3072)) (View.ld WB (Rect.unit ![3, 0, 0] ![1, 256, 1024] inb_S4x256x1024_S1x256x1024_3_0_0)) (ix2 a j : S512x1024.Idx)
      = (bRow v0 v1 v5 v8 v25 v28 yb yc yd G WB WO x g1 n2 sc sh rwt a).accOf (fun k => w (ix2 a k : S512x256.Idx)) j := by
  unfold Row.accOf bRow
  pointwise [k0_pay4]

theorem pay5_at (w : FVec Ideal S512x1024 .bf16) (a : Fin 512) (j : Fin 1024) :
    k0_pay5 w WO x g1 (ix2 a j : S512x1024.Idx) = x (ix2 a j : S512x1024.Idx) + g1 (ix3 0 0 j : S1x1x1024.Idx) * (∑ k : Fin 1024, w (ix2 a k : S512x1024.Idx) * WO (ix2 k j : S1024x1024.Idx)) := by
  pointwise [k0_pay5]

theorem pay6_at (w : FVec Ideal S512x1024 .bf16) (a : Fin 512) (j : Fin 1024) :
    k0_pay6 w WO x g1 n2 sc sh (ix2 a j : S512x1024.Idx) = (bRow v0 v1 v5 v8 v25 v28 yb yc yd G WB WO x g1 n2 sc sh rwt a).nrm (fun k => k0_pay5 w WO x g1 (ix2 a k : S512x1024.Idx)) j := by
  unfold Row.nrm bRow
  pointwise [k0_pay6]

theorem pay7_at (w : FVec Ideal S512x1024 .bf16) (a : Fin 512) (j : Fin 1024) :
    k0_pay7 w WO x g1 n2 sc sh (ix2 a j : S512x1024.Idx) = k0_pay6 w WO x g1 n2 sc sh (ix2 a j : S512x1024.Idx) := by
  pointwise [k0_pay7]

theorem pay2_at (w : FVec Ideal S512x1024 .f32) (a : Fin 512) (e : Fin 64) :
    k0_pay2 w rwt (ix2 e a : S64x512.Idx) = ∑ k : Fin 1024, rwt (ix2 e k : S64x1024.Idx) * w (ix2 a k : S512x1024.Idx) := by
  pointwise [k0_pay2]

/-- The block's gated sum. -/
def accB : FVec Ideal S512x1024 .bf16 := k0_pay4 (k0_pay3 v0 v1 v5 v8 v25 v28) yb yc yd (View.ld G (Rect.unit ![0, 0] ![512, 1024] inb_S512x4096_S512x1024_0_0)) (View.ld WB (Rect.unit ![0, 0, 0] ![1, 256, 1024] inb_S4x256x1024_S1x256x1024_0_0_0)) (View.ld G (Rect.unit ![0, 1024] ![512, 1024] inb_S512x4096_S512x1024_0_1024)) (View.ld WB (Rect.unit ![1, 0, 0] ![1, 256, 1024] inb_S4x256x1024_S1x256x1024_1_0_0)) (View.ld G (Rect.unit ![0, 2048] ![512, 1024] inb_S512x4096_S512x1024_0_2048)) (View.ld WB (Rect.unit ![2, 0, 0] ![1, 256, 1024] inb_S4x256x1024_S1x256x1024_2_0_0)) (View.ld G (Rect.unit ![0, 3072] ![512, 1024] inb_S512x4096_S512x1024_0_3072)) (View.ld WB (Rect.unit ![3, 0, 0] ![1, 256, 1024] inb_S4x256x1024_S1x256x1024_3_0_0))

theorem accB_at (a : Fin 512) (j : Fin 1024) : accB v0 v1 v5 v8 v25 v28 yb yc yd G WB (ix2 a j : S512x1024.Idx) = (bRow v0 v1 v5 v8 v25 v28 yb yc yd G WB WO x g1 n2 sc sh rwt a).acc j := by
  unfold accB Row.acc
  refine (pay4_at v0 v1 v5 v8 v25 v28 yb yc yd G WB WO x g1 n2 sc sh rwt _ a j).trans ?_
  exact congrArg (fun f => (bRow v0 v1 v5 v8 v25 v28 yb yc yd G WB WO x g1 n2 sc sh rwt a).accOf f j) (funext fun k => pay3_at v0 v1 v5 v8 v25 v28 yb yc yd G WB WO x g1 n2 sc sh rwt a k)

theorem x1B_at (a : Fin 512) (j : Fin 1024) : k0_pay5 (accB v0 v1 v5 v8 v25 v28 yb yc yd G WB) WO x g1 (ix2 a j : S512x1024.Idx) = (bRow v0 v1 v5 v8 v25 v28 yb yc yd G WB WO x g1 n2 sc sh rwt a).x1 j := by
  refine (pay5_at WO x g1 _ a j).trans ?_
  unfold Row.x1
  exact congrArg (fun z => x (ix2 a j : S512x1024.Idx) + g1 (ix3 0 0 j : S1x1x1024.Idx) * z) (Finset.sum_congr rfl fun k _ => congrArg (· * WO (ix2 k j : S1024x1024.Idx)) (accB_at v0 v1 v5 v8 v25 v28 yb yc yd G WB WO x g1 n2 sc sh rwt a k))

theorem h2B_at (a : Fin 512) (j : Fin 1024) : k0_pay6 (accB v0 v1 v5 v8 v25 v28 yb yc yd G WB) WO x g1 n2 sc sh (ix2 a j : S512x1024.Idx) = (bRow v0 v1 v5 v8 v25 v28 yb yc yd G WB WO x g1 n2 sc sh rwt a).h2 j := by
  refine (pay6_at v0 v1 v5 v8 v25 v28 yb yc yd G WB WO x g1 n2 sc sh rwt _ a j).trans ?_
  unfold Row.h2
  exact congrArg (fun f => (bRow v0 v1 v5 v8 v25 v28 yb yc yd G WB WO x g1 n2 sc sh rwt a).nrm f j) (funext fun k => x1B_at v0 v1 v5 v8 v25 v28 yb yc yd G WB WO x g1 n2 sc sh rwt a k)

theorem h2B'_at (a : Fin 512) (j : Fin 1024) : k0_pay7 (accB v0 v1 v5 v8 v25 v28 yb yc yd G WB) WO x g1 n2 sc sh (ix2 a j : S512x1024.Idx) = (bRow v0 v1 v5 v8 v25 v28 yb yc yd G WB WO x g1 n2 sc sh rwt a).h2 j :=
  (pay7_at WO x g1 n2 sc sh _ a j).trans (h2B_at v0 v1 v5 v8 v25 v28 yb yc yd G WB WO x g1 n2 sc sh rwt a j)

theorem lgB_at (a : Fin 512) (e : Fin 64) : k0_pay2 (k0_pay6 (accB v0 v1 v5 v8 v25 v28 yb yc yd G WB) WO x g1 n2 sc sh) rwt (ix2 e a : S64x512.Idx) = (bRow v0 v1 v5 v8 v25 v28 yb yc yd G WB WO x g1 n2 sc sh rwt a).lg e := by
  refine (pay2_at rwt _ a e).trans ?_
  unfold Row.lg
  exact Finset.sum_congr rfl fun k _ => congrArg (rwt (ix2 e k : S64x1024.Idx) * ·) (h2B_at v0 v1 v5 v8 v25 v28 yb yc yd G WB WO x g1 n2 sc sh rwt a k)
end

end Cert.Kernel3Ideal.In

end
-- ==== Proof.MgRow.lean ====
/- The blocks the grid of the merge reads, and what its body leaves of them, at an index. -/
module

public import proofs.«01_k».proof.Proof.Gen.Kernel3Ideal.Frame
public import proofs.«01_k».proof.Proof.MgPay
public import Idealize.ShloMosaic.Lib.ValueIdxCore

@[expose] public section

set_option maxRecDepth 16384

noncomputable section

namespace Cert.Kernel3Ideal.In

open Cert.Kernel3Ideal Cert.Kernel3Ideal.Gen
open Idealize.ShloMosaic Idealize.ShloMosaic.TcCoe
open Idealize.ShloMosaic.Tactic
open Cert.Mg
variable (m : (ℓ : Loc nD τ sig) → Buf (Elt Ideal) ℓ)

theorem idx : ∀ t : Fin cfg0.N, win0_0.index t = ![t.val, 0] ∧ win0_1.index t = ![0, t.val / 8, t.val % 8, 0] ∧ win0_2.index t = ![1, t.val / 8, t.val % 8, 0]
    ∧ win0_3.index t = ![0, 0] ∧ win0_4.index t = ![0, 0] ∧ win0_5.index t = ![0, 0] ∧ win0_6.index t = ![t.val, 0] ∧ win0_7.index t = ![t.val, 0]
    ∧ win0_8.index t = ![t.val, 0] ∧ win0_9.index t = ![t.val, 0] ∧ win0_10.index t = ![0, 0, 0] ∧ win0_11.index t = ![0, 0] ∧ win0_12.index t = ![t.val, 0]
    ∧ win0_13.index t = ![t.val / 8, 0, 0] ∧ win0_14.index t = ![0, 0] ∧ win0_15.index t = ![t.val / 8, 0, 0] ∧ win0_16.index t = ![t.val / 8, 0, 0]
    ∧ win0_17.index t = ![0, 0] ∧ win0_18.index t = ![t.val, 0] ∧ win0_19.index t = ![t.val, 0] ∧ win0_20.index t = ![t.val, 0] ∧ win0_21.index t = ![0, t.val] :=
  (by decide +kernel : ∀ t : Fin grid0.N, _)

theorem hN (t : Fin cfg0.N) : t.val < 64 := t.isLt

theorem rb0 (G : FVec Ideal S32768x256 .f32) (t : Fin cfg0.N) (a : Fin 512) (k : Fin 256) : ((cfg0.win 0).blk t).view.read (Elt Ideal) G (ix2 a k : S512x256.Idx) = G (ix2 ⟨t.val * 512 + a.val, by have := hN t; omega⟩ k : S32768x256.Idx) := by
  blk_ext [idx t]
theorem blk0 (c : Dev nD) (t : Fin cfg0.N) (a : Fin 512) (k : Fin 256) : iblk m c 0 t (ix2 a k : S512x256.Idx) = V m c main_arg0 (ix2 ⟨t.val * 512 + a.val, by have := hN t; omega⟩ k : S32768x256.Idx) := by
  unfold iblk; exact rb0 (V m c main_arg0) t a k

theorem rb3 (G : FVec Ideal S1x256 .f32) (t : Fin cfg0.N) (l : Fin 1) (k : Fin 256) : ((cfg0.win 3).blk t).view.read (Elt Ideal) G (ix2 l k : S1x256.Idx) = G (ix2 l k : S1x256.Idx) := by
  blk_ext [idx t]
theorem blk3 (c : Dev nD) (t : Fin cfg0.N) (l : Fin 1) (k : Fin 256) : iblk m c 3 t (ix2 l k : S1x256.Idx) = V m c main_v0 (ix2 l k : S1x256.Idx) := by
  unfold iblk; exact rb3 (V m c main_v0) t l k

theorem rb4 (G : FVec Ideal S256x256 .bf16) (t : Fin cfg0.N) (l : Fin 256) (k : Fin 256) : ((cfg0.win 4).blk t).view.read (Elt Ideal) G (ix2 l k : S256x256.Idx) = G (ix2 l k : S256x256.Idx) := by
  blk_ext [idx t]
theorem blk4 (c : Dev nD) (t : Fin cfg0.N) (l : Fin 256) (k : Fin 256) : iblk m c 4 t (ix2 l k : S256x256.Idx) = V m c main_v1 (ix2 l k : S256x256.Idx) := by
  unfold iblk; exact rb4 (V m c main_v1) t l k

theorem rb5 (G : FVec Ideal S1x256 .f32) (t : Fin cfg0.N) (l : Fin 1) (k : Fin 256) : ((cfg0.win 5).blk t).view.read (Elt Ideal) G (ix2 l k : S1x256.Idx) = G (ix2 l k : S1x256.Idx) := by
  blk_ext [idx t]
theorem blk5 (c : Dev nD) (t : Fin cfg0.N) (l : Fin 1) (k : Fin 256) : iblk m c 5 t (ix2 l k : S1x256.Idx) = V m c main_v2 (ix2 l k : S1x256.Idx) := by
  unfold iblk; exact rb5 (V m c main_v2) t l k

theorem rb6 (G : FVec Ideal S32768x256 .bf16) (t : Fin cfg0.N) (a : Fin 512) (k : Fin 256) : ((cfg0.win 6).blk t).view.read (Elt Ideal) G (ix2 a k : S512x256.Idx) = G (ix2 ⟨t.val * 512 + a.val, by have := hN t; omega⟩ k : S32768x256.Idx) := by
  blk_ext [idx t]
theorem blk6 (c : Dev nD) (t : Fin cfg0.N) (a : Fin 512) (k : Fin 256) : iblk m c 6 t (ix2 a k : S512x256.Idx) = V m c main_arg5 (ix2 ⟨t.val * 512 + a.val, by have := hN t; omega⟩ k : S32768x256.Idx) := by
  unfold iblk; exact rb6 (V m c main_arg5) t a k

theorem rb7 (G : FVec Ideal S32768x256 .bf16) (t : Fin cfg0.N) (a : Fin 512) (k : Fin 256) : ((cfg0.win 7).blk t).view.read (Elt Ideal) G (ix2 a k : S512x256.Idx) = G (ix2 ⟨t.val * 512 + a.val, by have := hN t; omega⟩ k : S32768x256.Idx) := by
  blk_ext [idx t]
theorem blk7 (c : Dev nD) (t : Fin cfg0.N) (a : Fin 512) (k : Fin 256) : iblk m c 7 t (ix2 a k : S512x256.Idx) = V m c main_arg6 (ix2 ⟨t.val * 512 + a.val, by have := hN t; omega⟩ k : S32768x256.Idx) := by
  unfold iblk; exact rb7 (V m c main_arg6) t a k

theorem rb8 (G : FVec Ideal S32768x256 .bf16) (t : Fin cfg0.N) (a : Fin 512) (k : Fin 256) : ((cfg0.win 8).blk t).view.read (Elt Ideal) G (ix2 a k : S512x256.Idx) = G (ix2 ⟨t.val * 512 + a.val, by have := hN t; omega⟩ k : S32768x256.Idx) := by
  blk_ext [idx t]
theorem blk8 (c : Dev nD) (t : Fin cfg0.N) (a : Fin 512) (k : Fin 256) : iblk m c 8 t (ix2 a k : S512x256.Idx) = V m c main_arg7 (ix2 ⟨t.val * 512 + a.val, by have := hN t; omega⟩ k : S32768x256.Idx) := by
  unfold iblk; exact rb8 (V m c main_arg7) t a k

theorem rb9 (G : FVec Ideal S32768x4096 .bf16) (t : Fin cfg0.N) (a : Fin 512) (k : Fin 4096) : ((cfg0.win 9).blk t).view.read (Elt Ideal) G (ix2 a k : S512x4096.Idx) = G (ix2 ⟨t.val * 512 + a.val, by have := hN t; omega⟩ k : S32768x4096.Idx) := by
  blk_ext [idx t]
theorem blk9 (c : Dev nD) (t : Fin cfg0.N) (a : Fin 512) (k : Fin 4096) : iblk m c 9 t (ix2 a k : S512x4096.Idx) = V m c main_arg8 (ix2 ⟨t.val * 512 + a.val, by have := hN t; omega⟩ k : S32768x4096.Idx) := by
  unfold iblk; exact rb9 (V m c main_arg8) t a k

theorem rb10 (G : FVec Ideal S4x256x1024 .bf16) (t : Fin cfg0.N) (n : Fin 4) (l : Fin 256) (k : Fin 1024) : ((cfg0.win 10).blk t).view.read (Elt Ideal) G (ix3 n l k : S4x256x1024.Idx) = G (ix3 n l k : S4x256x1024.Idx) := by
  blk_ext [idx t]
theorem blk10 (c : Dev nD) (t : Fin cfg0.N) (n : Fin 4) (l : Fin 256) (k : Fin 1024) : iblk m c 10 t (ix3 n l k : S4x256x1024.Idx) = V m c main_v3 (ix3 n l k : S4x256x1024.Idx) := by
  unfold iblk; exact rb10 (V m c main_v3) t n l k

theorem rb11 (G : FVec Ideal S1024x1024 .bf16) (t : Fin cfg0.N) (l : Fin 1024) (k : Fin 1024) : ((cfg0.win 11).blk t).view.read (Elt Ideal) G (ix2 l k : S1024x1024.Idx) = G (ix2 l k : S1024x1024.Idx) := by
  blk_ext [idx t]
theorem blk11 (c : Dev nD) (t : Fin cfg0.N) (l : Fin 1024) (k : Fin 1024) : iblk m c 11 t (ix2 l k : S1024x1024.Idx) = V m c main_v4 (ix2 l k : S1024x1024.Idx) := by
  unfold iblk; exact rb11 (V m c main_v4) t l k

theorem rb12 (G : FVec Ideal S32768x1024 .f32) (t : Fin cfg0.N) (a : Fin 512) (k : Fin 1024) : ((cfg0.win 12).blk t).view.read (Elt Ideal) G (ix2 a k : S512x1024.Idx) = G (ix2 ⟨t.val * 512 + a.val, by have := hN t; omega⟩ k : S32768x1024.Idx) := by
  blk_ext [idx t]
theorem blk12 (c : Dev nD) (t : Fin cfg0.N) (a : Fin 512) (k : Fin 1024) : iblk m c 12 t (ix2 a k : S512x1024.Idx) = V m c main_arg11 (ix2 ⟨t.val * 512 + a.val, by have := hN t; omega⟩ k : S32768x1024.Idx) := by
  unfold iblk; exact rb12 (V m c main_arg11) t a k

theorem rb13 (G : FVec Ideal S8x1x1024 .f32) (t : Fin cfg0.N) (k : Fin 1024) : ((cfg0.win 13).blk t).view.read (Elt Ideal) G (ix3 0 0 k : S1x1x1024.Idx) = G (ix3 ⟨t.val / 8, by have := hN t; omega⟩ 0 k : S8x1x1024.Idx) := by
  blk_ext [idx t]
theorem blk13 (c : Dev nD) (t : Fin cfg0.N) (k : Fin 1024) : iblk m c 13 t (ix3 0 0 k : S1x1x1024.Idx) = V m c main_arg12 (ix3 ⟨t.val / 8, by have := hN t; omega⟩ 0 k : S8x1x1024.Idx) := by
  unfold iblk; exact rb13 (V m c main_arg12) t k

theorem rb14 (G : FVec Ideal S1x1024 .f32) (t : Fin cfg0.N) (l : Fin 1) (k : Fin 1024) : ((cfg0.win 14).blk t).view.read (Elt Ideal) G (ix2 l k : S1x1024.Idx) = G (ix2 l k : S1x1024.Idx) := by
  blk_ext [idx t]
theorem blk14 (c : Dev nD) (t : Fin cfg0.N) (l : Fin 1) (k : Fin 1024) : iblk m c 14 t (ix2 l k : S1x1024.Idx) = V m c main_v5 (ix2 l k : S1x1024.Idx) := by
  unfold iblk; exact rb14 (V m c main_v5) t l k

theorem rb15 (G : FVec Ideal S8x1x1024 .f32) (t : Fin cfg0.N) (k : Fin 1024) : ((cfg0.win 15).blk t).view.read (Elt Ideal) G (ix3 0 0 k : S1x1x1024.Idx) = G (ix3 ⟨t.val / 8, by have := hN t; omega⟩ 0 k : S8x1x1024.Idx) := by
  blk_ext [idx t]
theorem blk15 (c : Dev nD) (t : Fin cfg0.N) (k : Fin 1024) : iblk m c 15 t (ix3 0 0 k : S1x1x1024.Idx) = V m c main_arg14 (ix3 ⟨t.val / 8, by have := hN t; omega⟩ 0 k : S8x1x1024.Idx) := by
  unfold iblk; exact rb15 (V m c main_arg14) t k

theorem rb16 (G : FVec Ideal S8x1x1024 .f32) (t : Fin cfg0.N) (k : Fin 1024) : ((cfg0.win 16).blk t).view.read (Elt Ideal) G (ix3 0 0 k : S1x1x1024.Idx) = G (ix3 ⟨t.val / 8, by have := hN t; omega⟩ 0 k : S8x1x1024.Idx) := by
  blk_ext [idx t]
theorem blk16 (c : Dev nD) (t : Fin cfg0.N) (k : Fin 1024) : iblk m c 16 t (ix3 0 0 k : S1x1x1024.Idx) = V m c main_arg15 (ix3 ⟨t.val / 8, by have := hN t; omega⟩ 0 k : S8x1x1024.Idx) := by
  unfold iblk; exact rb16 (V m c main_arg15) t k

theorem rb17 (G : FVec Ideal S64x1024 .f32) (t : Fin cfg0.N) (l : Fin 64) (k : Fin 1024) : ((cfg0.win 17).blk t).view.read (Elt Ideal) G (ix2 l k : S64x1024.Idx) = G (ix2 l k : S64x1024.Idx) := by
  blk_ext [idx t]
theorem blk17 (c : Dev nD) (t : Fin cfg0.N) (l : Fin 64) (k : Fin 1024) : iblk m c 17 t (ix2 l k : S64x1024.Idx) = V m c main_v6 (ix2 l k : S64x1024.Idx) := by
  unfold iblk; exact rb17 (V m c main_v6) t l k

theorem blk1 (c : Dev nD) (t : Fin cfg0.N) (a : Fin 512) (k : Fin 256) :
    X0_1 m c t (ix4 0 0 a k : S1x1x512x256.Idx) = V m c main_arg1 (ix4 0 ⟨t.val / 8, by have := hN t; omega⟩ ⟨t.val % 8 * 512 + a.val, by omega⟩ k : S2x8x4352x256.Idx) := by
  unfold X0_1 Pipeline.Window.fill
  rw [dif_pos (moved0_1 t _)]
  unfold iblk
  generalize (V m c (Pipeline.arrRef spec0 1) : FVec Ideal S2x8x4352x256 .f32) = G
  blk_ext [idx t]

theorem blk2 (c : Dev nD) (t : Fin cfg0.N) (a : Fin 512) (k : Fin 256) :
    X0_2 m c t (ix4 0 0 a k : S1x1x512x256.Idx) = V m c main_arg1 (ix4 1 ⟨t.val / 8, by have := hN t; omega⟩ ⟨t.val % 8 * 512 + a.val, by omega⟩ k : S2x8x4352x256.Idx) := by
  unfold X0_2 Pipeline.Window.fill
  rw [dif_pos (moved0_2 t _)]
  unfold iblk
  generalize (V m c (Pipeline.arrRef spec0 2) : FVec Ideal S2x8x4352x256 .f32) = G
  blk_ext [idx t]

theorem v0_at (c : Dev nD) (k : Fin 256) : V m c main_v0 (ix2 0 k : S1x256.Idx) = m ((c : Thread nD τ).loc main_arg2) (ix1 k : S256.Idx) := by
  unfold V
  simp only [hostOps0, List.flatten_cons, List.flatten_nil, List.append_nil, List.cons_append, List.nil_append]
  after_results_simp
  pointwise []

theorem v1_at (c : Dev nD) (l k : Fin 256) : V m c main_v1 (ix2 l k : S256x256.Idx) = m ((c : Thread nD τ).loc main_arg3) (ix2 l k : S256x256.Idx) := by
  unfold V
  simp only [hostOps0, List.flatten_cons, List.flatten_nil, List.append_nil, List.cons_append, List.nil_append]
  after_results_simp
  pointwise []

theorem v2_at (c : Dev nD) (k : Fin 256) : V m c main_v2 (ix2 0 k : S1x256.Idx) = m ((c : Thread nD τ).loc main_arg4) (ix1 k : S256.Idx) := by
  unfold V
  simp only [hostOps0, List.flatten_cons, List.flatten_nil, List.append_nil, List.cons_append, List.nil_append]
  after_results_simp
  pointwise []

theorem v3_at (c : Dev nD) (n : Fin 4) (l : Fin 256) (k : Fin 1024) : V m c main_v3 (ix3 n l k : S4x256x1024.Idx) = m ((c : Thread nD τ).loc main_arg9) (ix3 n l k : S4x256x1024.Idx) := by
  unfold V
  simp only [hostOps0, List.flatten_cons, List.flatten_nil, List.append_nil, List.cons_append, List.nil_append]
  after_results_simp
  pointwise []

theorem v4_at (c : Dev nD) (l k : Fin 1024) : V m c main_v4 (ix2 l k : S1024x1024.Idx) = m ((c : Thread nD τ).loc main_arg10) (ix2 l k : S1024x1024.Idx) := by
  unfold V
  simp only [hostOps0, List.flatten_cons, List.flatten_nil, List.append_nil, List.cons_append, List.nil_append]
  after_results_simp
  pointwise []

theorem v5_at (c : Dev nD) (k : Fin 1024) : V m c main_v5 (ix2 0 k : S1x1024.Idx) = m ((c : Thread nD τ).loc main_arg13) (ix1 k : S1024.Idx) := by
  unfold V
  simp only [hostOps0, List.flatten_cons, List.flatten_nil, List.append_nil, List.cons_append, List.nil_append]
  after_results_simp
  pointwise []

theorem v6_at (c : Dev nD) (e : Fin 64) (k : Fin 1024) : V m c main_v6 (ix2 e k : S64x1024.Idx) = m ((c : Thread nD τ).loc main_arg16) (ix2 k e : S1024x64.Idx) := by
  unfold V
  simp only [hostOps0, List.flatten_cons, List.flatten_nil, List.append_nil, List.cons_append, List.nil_append]
  after_results_simp
  pointwise []

/-- The numbers of row `r` in the kernel's arguments. -/
def kr (c : Dev nD) (r : Fin 32768) : Row where
  u j := m ((c.tc : Thread nD τ).loc main_arg0) (ix2 r j : S32768x256.Idx)
  d j := m ((c.tc : Thread nD τ).loc main_arg2) (ix1 j : S256.Idx)
  yf j := m ((c.tc : Thread nD τ).loc main_arg1) (ix4 0 ⟨r.val / 4096, by omega⟩ ⟨r.val % 4096, by omega⟩ j : S2x8x4352x256.Idx)
  yr j := m ((c.tc : Thread nD τ).loc main_arg1) (ix4 1 ⟨r.val / 4096, by omega⟩ ⟨r.val % 4096, by omega⟩ j : S2x8x4352x256.Idx)
  gw k j := m ((c.tc : Thread nD τ).loc main_arg3) (ix2 k j : S256x256.Idx)
  gb j := m ((c.tc : Thread nD τ).loc main_arg4) (ix1 j : S256.Idx)
  yb j := m ((c.tc : Thread nD τ).loc main_arg5) (ix2 r j : S32768x256.Idx)
  yc j := m ((c.tc : Thread nD τ).loc main_arg6) (ix2 r j : S32768x256.Idx)
  yd j := m ((c.tc : Thread nD τ).loc main_arg7) (ix2 r j : S32768x256.Idx)
  g j := m ((c.tc : Thread nD τ).loc main_arg8) (ix2 r j : S32768x4096.Idx)
  wb n k j := m ((c.tc : Thread nD τ).loc main_arg9) (ix3 n k j : S4x256x1024.Idx)
  wo k j := m ((c.tc : Thread nD τ).loc main_arg10) (ix2 k j : S1024x1024.Idx)
  x j := m ((c.tc : Thread nD τ).loc main_arg11) (ix2 r j : S32768x1024.Idx)
  g1 j := m ((c.tc : Thread nD τ).loc main_arg12) (ix3 ⟨r.val / 4096, by omega⟩ 0 j : S8x1x1024.Idx)
  n2 j := m ((c.tc : Thread nD τ).loc main_arg13) (ix1 j : S1024.Idx)
  sc j := m ((c.tc : Thread nD τ).loc main_arg14) (ix3 ⟨r.val / 4096, by omega⟩ 0 j : S8x1x1024.Idx)
  sh j := m ((c.tc : Thread nD τ).loc main_arg15) (ix3 ⟨r.val / 4096, by omega⟩ 0 j : S8x1x1024.Idx)
  rw' k e := m ((c.tc : Thread nD τ).loc main_arg16) (ix2 k e : S1024x64.Idx)

/-- The numbers of row `a` of block `t`. -/
def tr (c : Dev nD) (t : Fin cfg0.N) (a : Fin 512) : Row :=
  bRow (iblk m c 0 t) (iblk m c 3 t) (X0_1 m c t) (X0_2 m c t) (iblk m c 4 t) (iblk m c 5 t) (iblk m c 6 t) (iblk m c 7 t) (iblk m c 8 t) (iblk m c 9 t)
    (iblk m c 10 t) (iblk m c 11 t) (iblk m c 12 t) (iblk m c 13 t) (iblk m c 14 t) (iblk m c 15 t) (iblk m c 16 t) (iblk m c 17 t) a

set_option maxHeartbeats 2000000 in
theorem tr_eq (c : Dev nD) (t : Fin cfg0.N) (a : Fin 512) : tr m c t a = kr m c ⟨t.val * 512 + a.val, by have := hN t; omega⟩ := by
  have hn : (⟨t.val / 8, by have := hN t; omega⟩ : Fin 8) = ⟨(t.val * 512 + a.val) / 4096, by have := hN t; omega⟩ := Fin.ext (by show t.val / 8 = (t.val * 512 + a.val) / 4096; omega)
  have hl : (⟨t.val % 8 * 512 + a.val, by omega⟩ : Fin 4352) = ⟨(t.val * 512 + a.val) % 4096, by omega⟩ := Fin.ext (by show t.val % 8 * 512 + a.val = (t.val * 512 + a.val) % 4096; omega)
  refine Row.ext ?_ ?_ ?_ ?_ ?_ ?_ ?_ ?_ ?_ ?_ ?_ ?_ ?_ ?_ ?_ ?_ ?_ ?_
  · exact funext fun j => (blk0 m c t a j).trans (congrFun (V_main_arg0 m c) _)
  · exact funext fun j => (blk3 m c t 0 j).trans (v0_at m c j)
  · exact funext fun j => (blk1 m c t a j).trans ((congrFun (V_main_arg1 m c) _).trans (by rw [hn, hl]; rfl))
  · exact funext fun j => (blk2 m c t a j).trans ((congrFun (V_main_arg1 m c) _).trans (by rw [hn, hl]; rfl))
  · exact funext fun k => funext fun j => (blk4 m c t k j).trans (v1_at m c k j)
  · exact funext fun j => (blk5 m c t 0 j).trans (v2_at m c j)
  · exact funext fun j => (blk6 m c t a j).trans (congrFun (V_main_arg5 m c) _)
  · exact funext fun j => (blk7 m c t a j).trans (congrFun (V_main_arg6 m c) _)
  · exact funext fun j => (blk8 m c t a j).trans (congrFun (V_main_arg7 m c) _)
  · exact funext fun j => (blk9 m c t a j).trans (congrFun (V_main_arg8 m c) _)
  · exact funext fun n => funext fun k => funext fun j => (blk10 m c t n k j).trans (v3_at m c n k j)
  · exact funext fun k => funext fun j => (blk11 m c t k j).trans (v4_at m c k j)
  · exact funext fun j => (blk12 m c t a j).trans (congrFun (V_main_arg11 m c) _)
  · exact funext fun j => (blk13 m c t j).trans ((congrFun (V_main_arg12 m c) _).trans (by rw [hn]; rfl))
  · exact funext fun j => (blk14 m c t 0 j).trans (v5_at m c j)
  · exact funext fun j => (blk15 m c t j).trans ((congrFun (V_main_arg14 m c) _).trans (by rw [hn]; rfl))
  · exact funext fun j => (blk16 m c t j).trans ((congrFun (V_main_arg15 m c) _).trans (by rw [hn]; rfl))
  · exact funext fun k => funext fun e => (blk17 m c t e k).trans (v6_at m c e k)

end Cert.Kernel3Ideal.In

end
-- ==== Proof.MgVal.lean ====
/- The final result arrays of the merge. -/
module

public import proofs.«01_k».proof.Proof.MgRow

@[expose] public section

set_option maxRecDepth 16384

noncomputable section

namespace Cert.Kernel3Ideal.In

open Cert.Kernel3Ideal Cert.Kernel3Ideal.Gen
open Idealize.ShloMosaic Idealize.ShloMosaic.TcCoe
open Idealize.ShloMosaic.Tactic
open Cert.Mg
variable (m : (ℓ : Loc nD τ sig) → Buf (Elt Ideal) ℓ)

/-- The numbers of row `r`, the row a number (the first row past the last). -/
def krn (c : Dev nD) (r : ℕ) : Row := if h : r < 32768 then kr m c ⟨r, h⟩ else kr m c 0

theorem krn_eq (c : Dev nD) (r : Fin 32768) : krn m c r.val = kr m c r := dif_pos r.isLt

theorem o18 (c : Dev nD) (t : Fin cfg0.N) (a : Fin 512) (j : Fin 1024) : (outsAt0 m c t).1 (ix2 a j) = (tr m c t a).x1 j := by
  unfold Gen.outsAt0
  frame_out
  exact x1B_at (iblk m c 0 t) (iblk m c 3 t) (X0_1 m c t) (X0_2 m c t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) a j

theorem final_18 (c : Dev nD) : (dats m 0 c).arrAt 18 (cfgs 0).N = fun i : S32768x1024.Idx => (krn m c (i 0).val).x1 (i 1) := by
  refine (dats m 0 c).arrAt_eq_of_covers 18 _ (by decide +kernel) fun t hf y => ?_
  blk_simp
  rw [after0_18]
  idx_vars y
  have e := (idx t).2.2.2.2.2.2.2.2.2.2.2.2.2.2.2.2.2.2.1
  have e0 : win0_18.index t 0 = t.val := congrFun e 0
  have e1 : win0_18.index t 1 = 0 := congrFun e 1
  have hlt : t.val * 512 + y0.val < 32768 := by have := hN t; omega
  refine (o18 m c t y0 y1).trans ?_
  rw [tr_eq, ← krn_eq m c ⟨t.val * 512 + y0.val, hlt⟩, e0]
  refine congrArg _ (Fin.ext ?_)
  show y1.val = _
  simp [e1]

theorem o19 (c : Dev nD) (t : Fin cfg0.N) (a : Fin 512) (j : Fin 1024) : (outsAt0 m c t).2.1 (ix2 a j) = (tr m c t a).h2 j := by
  unfold Gen.outsAt0
  frame_out
  exact h2B'_at (iblk m c 0 t) (iblk m c 3 t) (X0_1 m c t) (X0_2 m c t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) a j

theorem final_19 (c : Dev nD) : (dats m 0 c).arrAt 19 (cfgs 0).N = fun i : S32768x1024.Idx => (krn m c (i 0).val).h2 (i 1) := by
  refine (dats m 0 c).arrAt_eq_of_covers 19 _ (by decide +kernel) fun t hf y => ?_
  blk_simp
  rw [after0_19]
  idx_vars y
  have e := (idx t).2.2.2.2.2.2.2.2.2.2.2.2.2.2.2.2.2.2.2.1
  have e0 : win0_19.index t 0 = t.val := congrFun e 0
  have e1 : win0_19.index t 1 = 0 := congrFun e 1
  have hlt : t.val * 512 + y0.val < 32768 := by have := hN t; omega
  refine (o19 m c t y0 y1).trans ?_
  rw [tr_eq, ← krn_eq m c ⟨t.val * 512 + y0.val, hlt⟩, e0]
  refine congrArg _ (Fin.ext ?_)
  show y1.val = _
  simp [e1]

theorem o21 (c : Dev nD) (t : Fin cfg0.N) (a : Fin 512) (j : Fin 64) : (outsAt0 m c t).2.2.2 (ix2 j a) = (tr m c t a).lg j := by
  unfold Gen.outsAt0
  frame_out
  exact lgB_at (iblk m c 0 t) (iblk m c 3 t) (X0_1 m c t) (X0_2 m c t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) a j

theorem final_21 (c : Dev nD) : (dats m 0 c).arrAt 21 (cfgs 0).N = fun i : S64x32768.Idx => (krn m c (i 1).val).lg (i 0) := by
  refine (dats m 0 c).arrAt_eq_of_covers 21 _ (by decide +kernel) fun t hf y => ?_
  blk_simp
  rw [after0_21]
  idx_vars y
  have e := (idx t).2.2.2.2.2.2.2.2.2.2.2.2.2.2.2.2.2.2.2.2.2
  have e0 : win0_21.index t 0 = 0 := congrFun e 0
  have e1 : win0_21.index t 1 = t.val := congrFun e 1
  have hlt : t.val * 512 + y1.val < 32768 := by have := hN t; omega
  refine (o21 m c t y1 y0).trans ?_
  rw [tr_eq, ← krn_eq m c ⟨t.val * 512 + y1.val, hlt⟩, e1]
  refine congrArg _ (Fin.ext ?_)
  show y0.val = _
  simp [e0]

end Cert.Kernel3Ideal.In

end
-- ==== Proof.MgRef.lean ====
/- The reference merge at an index. -/
module

public import proofs.«01_k».proof.Proof.Gen.Reference3Ideal.Run
public import proofs.«01_k».proof.Proof.MgSpec
public import Idealize.ShloMosaic.Lib.Pipeline.ValueKit
public import Idealize.ShloMosaic.Lib.Pointwise
public import Idealize.ShloMosaic.Lib.ValueIdxCore

@[expose] public section

set_option maxRecDepth 16384

noncomputable section

namespace Cert.Reference3Ideal.In

open Cert.Reference3Ideal Cert.Reference3Ideal.Gen
open Idealize.ShloMosaic Idealize.ShloMosaic.TcCoe
open Idealize.ShloMosaic.Tactic
open Cert.Mg Cert.Reference3Ideal.Value
variable (m : (ℓ : Loc nD τ sig) → Buf (Elt Ideal) ℓ) (c : Dev nD)

/-- The numbers of row `l` of example `n` in the reference's arguments. -/
def rr (n : Fin 8) (l : Fin 4096) : Row where
  u j := m ((c.tc : Thread nD τ).loc main_arg0) (ix2 ⟨n.val * 4096 + l.val, by omega⟩ j : S32768x256.Idx)
  d j := m ((c.tc : Thread nD τ).loc main_arg2) (ix1 j : S256.Idx)
  yf j := m ((c.tc : Thread nD τ).loc main_arg1) (ix4 0 n ⟨l.val, by omega⟩ j : S2x8x4352x256.Idx)
  yr j := m ((c.tc : Thread nD τ).loc main_arg1) (ix4 1 n ⟨l.val, by omega⟩ j : S2x8x4352x256.Idx)
  gw k j := m ((c.tc : Thread nD τ).loc main_arg3) (ix2 k j : S256x256.Idx)
  gb j := m ((c.tc : Thread nD τ).loc main_arg4) (ix1 j : S256.Idx)
  yb j := m ((c.tc : Thread nD τ).loc main_arg5) (ix2 ⟨n.val * 4096 + l.val, by omega⟩ j : S32768x256.Idx)
  yc j := m ((c.tc : Thread nD τ).loc main_arg6) (ix2 ⟨n.val * 4096 + l.val, by omega⟩ j : S32768x256.Idx)
  yd j := m ((c.tc : Thread nD τ).loc main_arg7) (ix2 ⟨n.val * 4096 + l.val, by omega⟩ j : S32768x256.Idx)
  g j := m ((c.tc : Thread nD τ).loc main_arg8) (ix2 ⟨n.val * 4096 + l.val, by omega⟩ j : S32768x4096.Idx)
  wb n k j := m ((c.tc : Thread nD τ).loc main_arg9) (ix3 n k j : S4x256x1024.Idx)
  wo k j := m ((c.tc : Thread nD τ).loc main_arg10) (ix2 k j : S1024x1024.Idx)
  x j := m ((c.tc : Thread nD τ).loc main_arg11) (ix2 ⟨n.val * 4096 + l.val, by omega⟩ j : S32768x1024.Idx)
  g1 j := m ((c.tc : Thread nD τ).loc main_arg12) (ix3 n 0 j : S8x1x1024.Idx)
  n2 j := m ((c.tc : Thread nD τ).loc main_arg13) (ix1 j : S1024.Idx)
  sc j := m ((c.tc : Thread nD τ).loc main_arg14) (ix3 n 0 j : S8x1x1024.Idx)
  sh j := m ((c.tc : Thread nD τ).loc main_arg15) (ix3 n 0 j : S8x1x1024.Idx)
  rw' k e := m ((c.tc : Thread nD τ).loc main_arg16) (ix2 k e : S1024x64.Idx)

/-- Argument 0. -/
abbrev a0 : FVec Ideal S32768x256 .f32 := m ((c.tc : Thread nD τ).loc main_arg0)
/-- Argument 1. -/
abbrev a1 : FVec Ideal S2x8x4352x256 .f32 := m ((c.tc : Thread nD τ).loc main_arg1)
/-- Argument 2. -/
abbrev a2 : FVec Ideal S256 .f32 := m ((c.tc : Thread nD τ).loc main_arg2)
/-- Argument 3. -/
abbrev a3 : FVec Ideal S256x256 .f32 := m ((c.tc : Thread nD τ).loc main_arg3)
/-- Argument 4. -/
abbrev a4 : FVec Ideal S256 .f32 := m ((c.tc : Thread nD τ).loc main_arg4)
/-- Argument 5. -/
abbrev a5 : FVec Ideal S32768x256 .bf16 := m ((c.tc : Thread nD τ).loc main_arg5)
/-- Argument 6. -/
abbrev a6 : FVec Ideal S32768x256 .bf16 := m ((c.tc : Thread nD τ).loc main_arg6)
/-- Argument 7. -/
abbrev a7 : FVec Ideal S32768x256 .bf16 := m ((c.tc : Thread nD τ).loc main_arg7)
/-- Argument 8. -/
abbrev a8 : FVec Ideal S32768x4096 .bf16 := m ((c.tc : Thread nD τ).loc main_arg8)
/-- Argument 9. -/
abbrev a9 : FVec Ideal S4x256x1024 .f32 := m ((c.tc : Thread nD τ).loc main_arg9)
/-- Argument 10. -/
abbrev a10 : FVec Ideal S1024x1024 .f32 := m ((c.tc : Thread nD τ).loc main_arg10)
/-- Argument 11. -/
abbrev a11 : FVec Ideal S32768x1024 .f32 := m ((c.tc : Thread nD τ).loc main_arg11)
/-- Argument 12. -/
abbrev a12 : FVec Ideal S8x1x1024 .f32 := m ((c.tc : Thread nD τ).loc main_arg12)
/-- Argument 13. -/
abbrev a13 : FVec Ideal S1024 .f32 := m ((c.tc : Thread nD τ).loc main_arg13)
/-- Argument 14. -/
abbrev a14 : FVec Ideal S8x1x1024 .f32 := m ((c.tc : Thread nD τ).loc main_arg14)
/-- Argument 15. -/
abbrev a15 : FVec Ideal S8x1x1024 .f32 := m ((c.tc : Thread nD τ).loc main_arg15)
/-- Argument 16. -/
abbrev a16 : FVec Ideal S1024x64 .f32 := m ((c.tc : Thread nD τ).loc main_arg16)

/-- The state-space branch before its gelu. -/
def yR : FVec Ideal S8x4096x256 .f32 := addf (addf (mulf (shapeCast _ (a0 m c) shapeCasts_S32768x256_S8x4096x256) (broadcastInDim S8x4096x256 ![0, 1, 2] bcast_S1x1x256_S8x4096x256_0_1_2 (broadcastInDim S1x1x256 ![2] bcast_S256_S1x1x256_2 (a2 m c)))) (shapeCast _ (extractStridedSlice S1x8x4096x256 ![0, 0, 0, 0] (a1 m c) slices_S2x8x4352x256_S1x8x4096x256_0_0_0_0) shapeCasts_S1x8x4096x256_S8x4096x256)) (shapeCast _ (extractStridedSlice S1x8x4096x256 ![1, 0, 0, 0] (a1 m c) slices_S2x8x4352x256_S1x8x4096x256_1_0_0_0) shapeCasts_S1x8x4096x256_S8x4096x256)

theorem yR_at (n : Fin 8) (l : Fin 4096) (j : Fin 256) : yR m c (ix3 n l j : S8x4096x256.Idx) = (rr m c n l).y j := by
  pointwise [yR]
  rfl

/-- Its gelu. -/
def aR : FVec Ideal S8x4096x256 .f32 := mulf (yR m c) (mulf (broadcastInDim S8x4096x256 ![] bcast_S_S8x4096x256 (constant S_ .f32 0x3F000000#32)) (addf (broadcastInDim S8x4096x256 ![] bcast_S_S8x4096x256 (constant S_ .f32 0x3F800000#32)) (Host.tanh (mulf (broadcastInDim S8x4096x256 ![] bcast_S_S8x4096x256 (constant S_ .f32 0x3F4C422A#32)) (addf (yR m c) (mulf (broadcastInDim S8x4096x256 ![] bcast_S_S8x4096x256 (constant S_ .f32 0x3D372713#32)) (mulf (mulf (yR m c) (yR m c)) (yR m c))))))))

theorem aR_at (n : Fin 8) (l : Fin 4096) (j : Fin 256) : aR m c (ix3 n l j : S8x4096x256.Idx) = gelu ((rr m c n l).y j) := by
  pointwise [aR, yR_at]
  unfold gelu
  rw [mul_comm ((rr m c n l).y j * (rr m c n l).y j)]

/-- The branch gated by itself, by rows. -/
def yaR : FVec Ideal S32768x256 .f32 := shapeCast _ (mulf (aR m c) (Host.divf (broadcastInDim S8x4096x256 ![] bcast_S_S8x4096x256 (constant S_ .f32 0x3F800000#32)) (addf (broadcastInDim S8x4096x256 ![] bcast_S_S8x4096x256 (constant S_ .f32 0x3F800000#32)) (Host.exp (Host.negf (addf (Host.dotGeneral dot_S8x4096x256_S256x256_S8x4096x256_2_0_01_1_n_n none (aR m c) (a3 m c)) (broadcastInDim S8x4096x256 ![0, 1, 2] bcast_S1x1x256_S8x4096x256_0_1_2 (broadcastInDim S1x1x256 ![2] bcast_S256_S1x1x256_2 (a4 m c))))))))) shapeCasts_S8x4096x256_S32768x256

theorem yaR_at (r : Fin 32768) (j : Fin 256) : yaR m c (ix2 r j : S32768x256.Idx) = (rr m c ⟨r.val / 4096, by omega⟩ ⟨r.val % 4096, by omega⟩).ya j := by
  pointwise [yaR, aR_at]
  rfl

theorem row_eq (r : Fin 32768) : (⟨(r.val / 4096) * 4096 + r.val % 4096, by omega⟩ : Fin 32768) = r := Fin.ext (by show r.val / 4096 * 4096 + r.val % 4096 = r.val; omega)

/-- The gated sum of the branches. -/
def accR : FVec Ideal S32768x1024 .f32 := addf (addf (addf (mulf (extractStridedSlice S32768x1024 ![0, 0] (extf .f32 (a8 m c) bitsLt_bf16_f32) slices_S32768x4096_S32768x1024_0_0) (Host.dotGeneral dot_S32768x256_S256x1024_S32768x1024_1_0_0_1_n_n none (yaR m c) (shapeCast _ (extractStridedSlice S1x256x1024 ![0, 0, 0] (a9 m c) slices_S4x256x1024_S1x256x1024_0_0_0) shapeCasts_S1x256x1024_S256x1024))) (mulf (extractStridedSlice S32768x1024 ![0, 1024] (extf .f32 (a8 m c) bitsLt_bf16_f32) slices_S32768x4096_S32768x1024_0_1024) (Host.dotGeneral dot_S32768x256_S256x1024_S32768x1024_1_0_0_1_n_n none (extf .f32 (a5 m c) bitsLt_bf16_f32) (shapeCast _ (extractStridedSlice S1x256x1024 ![1, 0, 0] (a9 m c) slices_S4x256x1024_S1x256x1024_1_0_0) shapeCasts_S1x256x1024_S256x1024)))) (mulf (extractStridedSlice S32768x1024 ![0, 2048] (extf .f32 (a8 m c) bitsLt_bf16_f32) slices_S32768x4096_S32768x1024_0_2048) (Host.dotGeneral dot_S32768x256_S256x1024_S32768x1024_1_0_0_1_n_n none (extf .f32 (a6 m c) bitsLt_bf16_f32) (shapeCast _ (extractStridedSlice S1x256x1024 ![2, 0, 0] (a9 m c) slices_S4x256x1024_S1x256x1024_2_0_0) shapeCasts_S1x256x1024_S256x1024)))) (mulf (extractStridedSlice S32768x1024 ![0, 3072] (extf .f32 (a8 m c) bitsLt_bf16_f32) slices_S32768x4096_S32768x1024_0_3072) (Host.dotGeneral dot_S32768x256_S256x1024_S32768x1024_1_0_0_1_n_n none (extf .f32 (a7 m c) bitsLt_bf16_f32) (shapeCast _ (extractStridedSlice S1x256x1024 ![3, 0, 0] (a9 m c) slices_S4x256x1024_S1x256x1024_3_0_0) shapeCasts_S1x256x1024_S256x1024)))

theorem accR_at (r : Fin 32768) (j : Fin 1024) : accR m c (ix2 r j : S32768x1024.Idx) = (rr m c ⟨r.val / 4096, by omega⟩ ⟨r.val % 4096, by omega⟩).acc j := by
  pointwise [accR, yaR_at]
  unfold Row.acc Row.accOf rr
  simp only [row_eq]

theorem row_div (n : Fin 8) (l : Fin 4096) : (⟨(n.val * 4096 + l.val) / 4096, by omega⟩ : Fin 8) = n := Fin.ext (by show (n.val * 4096 + l.val) / 4096 = n.val; omega)

theorem row_mod (n : Fin 8) (l : Fin 4096) : (⟨(n.val * 4096 + l.val) % 4096, by omega⟩ : Fin 4096) = l := Fin.ext (by show (n.val * 4096 + l.val) % 4096 = l.val; omega)

/-- The rows with the mixer added. -/
def xR : FVec Ideal S8x4096x1024 .f32 := addf (shapeCast _ (a11 m c) shapeCasts_S32768x1024_S8x4096x1024) (mulf (broadcastInDim S8x4096x1024 ![0, 1, 2] bcast_S8x1x1024_S8x4096x1024_0_1_2 (a12 m c)) (shapeCast _ (Host.dotGeneral dot_S32768x1024_S1024x1024_S32768x1024_1_0_0_1_n_n none (accR m c) (a10 m c)) shapeCasts_S32768x1024_S8x4096x1024))

theorem xR_at (n : Fin 8) (l : Fin 4096) (j : Fin 1024) : xR m c (ix3 n l j : S8x4096x1024.Idx) = (rr m c n l).x1 j := by
  pointwise [xR, accR_at]
  simp only [row_div, row_mod]
  rfl

/-- The normalized, modulated rows. -/
def hR : FVec Ideal S32768x1024 .f32 := shapeCast _ (addf (mulf (mulf (mulf (xR m c) (broadcastInDim S8x4096x1024 ![0, 1, 2] bcast_S8x4096x1_S8x4096x1024_0_1_2 (Host.rsqrt (addf (Host.divf (broadcastInDim S8x4096x1 ![0, 1] bcast_S8x4096_S8x4096x1_0_1 (Host.reduceAdd (mulf (xR m c) (xR m c)) (constant S_ .f32 0x00000000#32) reducesTo_S8x4096x1024_S8x4096_d2 h_S_)) (broadcastInDim S8x4096x1 ![] bcast_S_S8x4096x1 (constant S_ .f32 0x44800000#32))) (broadcastInDim S8x4096x1 ![] bcast_S_S8x4096x1 (constant S_ .f32 0x358637BD#32)))))) (broadcastInDim S8x4096x1024 ![0, 1, 2] bcast_S1x1x1024_S8x4096x1024_0_1_2 (broadcastInDim S1x1x1024 ![2] bcast_S1024_S1x1x1024_2 (a13 m c)))) (broadcastInDim S8x4096x1024 ![0, 1, 2] bcast_S8x1x1024_S8x4096x1024_0_1_2 (addf (broadcastInDim S8x1x1024 ![] bcast_S_S8x1x1024 (constant S_ .f32 0x3F800000#32)) (a14 m c)))) (broadcastInDim S8x4096x1024 ![0, 1, 2] bcast_S8x1x1024_S8x4096x1024_0_1_2 (a15 m c))) shapeCasts_S8x4096x1024_S32768x1024

theorem hR_at (r : Fin 32768) (j : Fin 1024) : hR m c (ix2 r j : S32768x1024.Idx) = (rr m c ⟨r.val / 4096, by omega⟩ ⟨r.val % 4096, by omega⟩).h2 j := by
  pointwise [hR, xR_at]
  rfl

theorem v88_eq : (res_main_v88 m c : FVec Ideal S32768x1024 .f32) = shapeCast _ (xR m c) shapeCasts_S8x4096x1024_S32768x1024 := rfl

theorem v88_at (r : Fin 32768) (j : Fin 1024) : res_main_v88 m c (ix2 r j : S32768x1024.Idx) = (rr m c ⟨r.val / 4096, by omega⟩ ⟨r.val % 4096, by omega⟩).x1 j := by
  rw [v88_eq]
  pointwise [xR_at]

theorem v89_eq : (res_main_v89 m c : FVec Ideal S32768x1024 .bf16) = truncf .bf16 (hR m c) bitsLt_bf16_f32 := rfl

theorem v89_at (r : Fin 32768) (j : Fin 1024) : res_main_v89 m c (ix2 r j : S32768x1024.Idx) = (rr m c ⟨r.val / 4096, by omega⟩ ⟨r.val % 4096, by omega⟩).h2 j := by
  rw [v89_eq]
  pointwise [hR_at]

theorem v91_eq : (res_main_v91 m c : FVec Ideal S64x32768 .f32) = transpose S64x32768 [1, 0] (Host.dotGeneral dot_S32768x1024_S1024x64_S32768x64_1_0_0_1_n_n none (hR m c) (a16 m c)) transposes_S32768x64_S64x32768_1_0 := rfl

theorem v91_at (e : Fin 64) (r : Fin 32768) : res_main_v91 m c (ix2 e r : S64x32768.Idx) = (rr m c ⟨r.val / 4096, by omega⟩ ⟨r.val % 4096, by omega⟩).lg e := by
  rw [v91_eq]
  pointwise [hR_at]
  exact Finset.sum_congr (M := EReal) rfl fun k _ => mul_comm (G := EReal) _ _

end Cert.Reference3Ideal.In

end
-- ==== Proof.MgClaims.lean ====
/- The claims about the merge: the reference's run, the packed words' statements, and the two programs' results being equal. -/
module

public import proofs.«01_k».proof.Defs
public import proofs.«01_k».proof.Proof.MgVal
public import proofs.«01_k».proof.Proof.MgRef
public import Idealize.ShloMosaic.Lib.Bf16Pair
public import Idealize.ShloMosaic.Lib.Quiescent

@[expose] public section

set_option maxRecDepth 16384

noncomputable section

namespace Cert.Proof.Merge

open Idealize.ShloMosaic Idealize.ShloMosaic.TcCoe Idealize.SL.Sem
open Idealize.ShloMosaic.Tactic
open Idealize.ShloMosaic.StableHlo

/-- The reference runs, its arguments end unchanged, every counter at zero. -/
theorem frame_reference : Cert.quiescent_Reference3Ideal := fun m ρ _ =>
  (θ_run Cert.Reference3Ideal.defs _ _).mono (fun r h => ⟨fun c => (h c).2.2.2, Idealize.ShloMosaic.sem_eq_zero_of_no_sems (by decide) r.2⟩)
    (Cert.Reference3Ideal.Value.run (F := Ideal) m ρ)

/-- A word of two halves read as rows, and the packing of two halves, are what the idealized kernel writes. -/
theorem preserves : Cert.preserves_Kernel3_Kernel3Ideal :=
  ⟨IdealRules.bf16_pair.statement Cert.Kernel3Ideal.S1024x512 Cert.Kernel3Ideal.S512x512, IdealRules.bf16_pack.statement Cert.Kernel3Ideal.S512x512⟩

section

variable (m : (ℓ : Loc Cert.Kernel3Ideal.nD Cert.Kernel3Ideal.τ Cert.Kernel3Ideal.sig) → Buf (Elt Ideal) ℓ)
  (m' : (ℓ : Loc Cert.Reference3Ideal.nD Cert.Reference3Ideal.τ Cert.Reference3Ideal.sig) → Buf (Elt Ideal) ℓ)

/-- The two memories agree on the arguments. -/
def Agree (c : Dev Cert.Kernel3Ideal.nD) : Prop :=
  m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
  ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
  ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
  ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
  ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
  ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
  ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
  ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
  ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
  ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
  ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
  ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)
  ∧ m' ((c.tc : Thread Cert.Reference3Ideal.nD Cert.Reference3Ideal.τ).loc Cert.Reference3Ideal.main_arg12) = m ((c.tc : Thread Cert.Kernel3Ideal.nD Cert.Kernel3Ideal.τ).loc Cert.Kernel3Ideal.main_arg12)
  ∧ m' ((c.tc : Thread Cert.Reference3Ideal.nD Cert.Reference3Ideal.τ).loc Cert.Reference3Ideal.main_arg13) = m ((c.tc : Thread Cert.Kernel3Ideal.nD Cert.Kernel3Ideal.τ).loc Cert.Kernel3Ideal.main_arg13)
  ∧ m' ((c.tc : Thread Cert.Reference3Ideal.nD Cert.Reference3Ideal.τ).loc Cert.Reference3Ideal.main_arg14) = m ((c.tc : Thread Cert.Kernel3Ideal.nD Cert.Kernel3Ideal.τ).loc Cert.Kernel3Ideal.main_arg14)
  ∧ m' ((c.tc : Thread Cert.Reference3Ideal.nD Cert.Reference3Ideal.τ).loc Cert.Reference3Ideal.main_arg15) = m ((c.tc : Thread Cert.Kernel3Ideal.nD Cert.Kernel3Ideal.τ).loc Cert.Kernel3Ideal.main_arg15)
  ∧ m' ((c.tc : Thread Cert.Reference3Ideal.nD Cert.Reference3Ideal.τ).loc Cert.Reference3Ideal.main_arg16) = m ((c.tc : Thread Cert.Kernel3Ideal.nD Cert.Kernel3Ideal.τ).loc Cert.Kernel3Ideal.main_arg16)

theorem row (c : Dev Cert.Kernel3Ideal.nD) (h : Agree m m' c) (r : Fin 32768) :
    Cert.Reference3Ideal.In.rr m' c ⟨r.val / 4096, by omega⟩ ⟨r.val % 4096, by omega⟩ = Cert.Kernel3Ideal.In.krn m c r.val := by
  obtain ⟨e0, e1, e2, e3, e4, e5, e6, e7, e8, e9, e10, e11, e12, e13, e14, e15, e16⟩ := h
  rw [Cert.Kernel3Ideal.In.krn_eq]
  unfold Cert.Reference3Ideal.In.rr Cert.Kernel3Ideal.In.kr
  simp only [Cert.Reference3Ideal.In.row_eq]
  rw [e0, e1, e2, e3, e4, e5, e6, e7, e8, e9, e10, e11, e12, e13, e14, e15, e16]

theorem eq18 (c : Dev Cert.Kernel3Ideal.nD) (h : Agree m m' c) : Cert.Reference3Ideal.Value.res_main_v88 m' c = (Cert.Kernel3Ideal.Gen.dats m 0 c).arrAt 18 (Cert.Kernel3Ideal.cfgs 0).N := by
  rw [Cert.Kernel3Ideal.In.final_18]
  refine funext fun (i : Cert.Reference3Ideal.S32768x1024.Idx) => ?_
  idx_vars i
  refine (Cert.Reference3Ideal.In.v88_at m' c i0 i1).trans ?_
  rw [row m m' c h i0]

theorem eq19 (c : Dev Cert.Kernel3Ideal.nD) (h : Agree m m' c) : Cert.Reference3Ideal.Value.res_main_v89 m' c = (Cert.Kernel3Ideal.Gen.dats m 0 c).arrAt 19 (Cert.Kernel3Ideal.cfgs 0).N := by
  rw [Cert.Kernel3Ideal.In.final_19]
  refine funext fun (i : Cert.Reference3Ideal.S32768x1024.Idx) => ?_
  idx_vars i
  refine (Cert.Reference3Ideal.In.v89_at m' c i0 i1).trans ?_
  rw [row m m' c h i0]

theorem eq21 (c : Dev Cert.Kernel3Ideal.nD) (h : Agree m m' c) : Cert.Reference3Ideal.Value.res_main_v91 m' c = (Cert.Kernel3Ideal.Gen.dats m 0 c).arrAt 21 (Cert.Kernel3Ideal.cfgs 0).N := by
  rw [Cert.Kernel3Ideal.In.final_21]
  refine funext fun (i : Cert.Reference3Ideal.S64x32768.Idx) => ?_
  idx_vars i
  refine (Cert.Reference3Ideal.In.v91_at m' c i0 i1).trans ?_
  rw [row m m' c h i1]

end

/-- From arguments that agree the two programs end with equal results. -/
theorem algebraic : Cert.algebraic_Kernel3Ideal_Reference3Ideal := by
  intro m ρ m' ρ' _ hagree
  refine ⟨fun c => (Cert.Kernel3Ideal.Gen.dats m 0 c).arrAt 18 (Cert.Kernel3Ideal.cfgs 0).N, fun c => (Cert.Kernel3Ideal.Gen.dats m 0 c).arrAt 19 (Cert.Kernel3Ideal.cfgs 0).N, fun c => (Cert.Kernel3Ideal.Gen.dats m 0 c).arrAt 21 (Cert.Kernel3Ideal.cfgs 0).N,
    (θ_run Cert.Kernel3Ideal.defs _ _).mono (fun _ h c => ⟨(h.2 c).1 18, (h.2 c).1 19, (h.2 c).1 21, h.1 c⟩)
      (θ_run_and (Cert.Kernel3Ideal.Gen.unchanged (F := Ideal) m ρ) (Cert.Kernel3Ideal.Gen.run_main (F := Ideal) m ρ)), ?_⟩
  refine (θ_run Cert.Reference3Ideal.defs _ _).mono (fun _ h c => ?_) (Cert.Reference3Ideal.Value.run (F := Ideal) m' ρ')
  have ha : Agree m m' c := hagree c
  obtain ⟨h0, h1, h2, h3⟩ := h c
  exact ⟨h0.trans (eq18 m m' c ha), h1.trans (eq19 m m' c ha), h2.trans (eq21 m m' c ha), h3⟩

end Cert.Proof.Merge

end
-- ==== Proof.CbSpec.lean ====
/- The last step of a layer for one row, as arithmetic: the expert every row shares, the weighted sum of the row's picked
   experts, the residual and the final norm. -/
module

public import Idealize.ShloMosaic.Lib.Pointwise

@[expose] public section

noncomputable section

namespace Cert.Cb

open Idealize.ShloMosaic
open scoped BigOperators

/-- A half of a word as the `bf16` number that its bits are: the low half at 0, the high half at 1. -/
def half (w : BitVec 32) (n : ℕ) : EReal := Ideal.ofBits .bf16 (w.extractLsb' (n * 16) 16)

/-- A word whose low half is zero is, as an `f32`, the number its high half is as a `bf16`. -/
theorem ieee_high (v : BitVec 32) (b : BitVec 16) (h : v.toNat = b.toNat * 65536) : Ideal.ieee 8 23 v = Ideal.ieee 8 7 b := by
  have hb := b.isLt
  have e1 : v.extractLsb' (8 + 23) 1 = b.extractLsb' (8 + 7) 1 := BitVec.eq_of_toNat_eq (by
    simp only [BitVec.extractLsb'_toNat, Nat.shiftRight_eq_div_pow, h]; omega)
  have e2 : (v.extractLsb' 23 8).toNat = (b.extractLsb' 7 8).toNat := by
    simp only [BitVec.extractLsb'_toNat, Nat.shiftRight_eq_div_pow, h]; omega
  have e3 : (v.extractLsb' 0 23).toNat = (b.extractLsb' 0 7).toNat * 65536 := by
    simp only [BitVec.extractLsb'_toNat, Nat.shiftRight_eq_div_pow, h]; omega
  unfold Ideal.ieee
  simp only [e1, e2, e3]
  generalize (b.extractLsb' 7 8).toNat = ex
  generalize (b.extractLsb' 0 7).toNat = fr
  generalize (if (b.extractLsb' (8 + 7) 1 == 1#1) = true then (-1 : ℝ) else 1) = s
  have hz : (fr * 65536 = 0) = (fr = 0) := by simp
  simp only [hz]
  split_ifs
  · rfl
  · rfl
  · rfl
  · refine congrArg Real.toEReal ?_
    have p : (2 : ℝ) ^ (1 - (2 ^ (8 - 1) - 1) - (7 : ℕ) : ℤ) = 65536 * (2 : ℝ) ^ (1 - (2 ^ (8 - 1) - 1) - (23 : ℕ) : ℤ) := by norm_num
    rw [p]
    push_cast
    ring
  · refine congrArg Real.toEReal ?_
    have p : (2 : ℝ) ^ ((ex : ℤ) - (2 ^ (8 - 1) - 1) - (7 : ℕ)) = 65536 * (2 : ℝ) ^ ((ex : ℤ) - (2 ^ (8 - 1) - 1) - (23 : ℕ)) := by
      rw [show (65536 : ℝ) = (2 : ℝ) ^ (16 : ℤ) by norm_num, ← zpow_add₀ (by norm_num : (2 : ℝ) ≠ 0)]
      exact congrArg _ (by push_cast; ring)
    rw [p]
    push_cast
    ring

/-- A word shifted up by a half is its low half. -/
theorem low_half (w : BitVec 32) : Ideal.ofBits .f32 (IntOp.shli .vector w 16#32) = half w 0 := by
  refine ieee_high _ _ ?_
  have hw := w.isLt
  have e : IntOp.shli .vector w 16#32 = w <<< 16 := rfl
  rw [e, BitVec.toNat_shiftLeft, BitVec.extractLsb'_toNat, Nat.shiftLeft_eq, Nat.shiftRight_eq_div_pow]
  omega

/-- A word without its low half is its high half. -/
theorem high_half (w : BitVec 32) : Ideal.ofBits .f32 (IntOp.andi w 4294901760#32) = half w 1 := by
  refine ieee_high _ _ ?_
  have hw := w.isLt
  have hm : ∀ i < 32, (4294901760#32 : BitVec 32).getLsbD i = decide (16 ≤ i) := by decide
  have e : IntOp.andi w 4294901760#32 = (w >>> 16) <<< 16 := by
    refine BitVec.eq_of_getLsbD_eq fun i hi => ?_
    show (w &&& 4294901760#32).getLsbD i = _
    rw [BitVec.getLsbD_and, hm i hi, BitVec.getLsbD_shiftLeft, BitVec.getLsbD_ushiftRight]
    by_cases h : 16 ≤ i
    · simp [h, hi, Nat.not_lt.mpr h, Nat.add_sub_cancel' h]
    · simp [h, Nat.lt_of_not_le h]
  rw [e, BitVec.toNat_shiftLeft, BitVec.toNat_ushiftRight, BitVec.extractLsb'_toNat, Nat.shiftLeft_eq, Nat.shiftRight_eq_div_pow]
  omega

/-- What the last step of one row takes: the row's own numbers and the weights. -/
@[ext] structure Row where
  w : Fin 8 → EReal
  p : Fin 6 → Fin 1024 → EReal
  h : Fin 1024 → EReal
  wg : Fin 1024 → Fin 256 → EReal
  wu : Fin 1024 → Fin 256 → EReal
  wd : Fin 256 → Fin 1024 → EReal
  x : Fin 1024 → EReal
  g2 : Fin 1024 → EReal
  fg : Fin 1024 → EReal

/-- The gate's product, before its activation. -/
def Row.ga (R : Row) (k : Fin 256) : EReal := ∑ i : Fin 1024, R.h i * R.wg i k

/-- The shared expert's hidden row. -/
def Row.hid (R : Row) (k : Fin 256) : EReal := R.ga k * Ideal.logistic (R.ga k) * ∑ i : Fin 1024, R.h i * R.wu i k

/-- The shared expert's result. -/
def Row.sh (R : Row) (j : Fin 1024) : EReal := ∑ k : Fin 256, R.hid k * R.wd k j

/-- The shared expert's result and the picked experts' rows under their weights. -/
def Row.mix (R : Row) (j : Fin 1024) : EReal :=
  R.sh j + R.w 0 * R.p 0 j + R.w 1 * R.p 1 j + R.w 2 * R.p 2 j + R.w 3 * R.p 3 j + R.w 4 * R.p 4 j + R.w 5 * R.p 5 j

/-- The row with the experts added. -/
def Row.x2 (R : Row) (j : Fin 1024) : EReal := R.x j + R.g2 j * R.mix j

/-- The layer's result. -/
def Row.out (R : Row) (j : Fin 1024) : EReal :=
  R.x2 j * Ideal.rsqrt (Ideal.div (∑ k : Fin 1024, R.x2 k * R.x2 k) (Ideal.ofBits .f32 1149239296#32) + Ideal.ofBits .f32 897988541#32)
    * R.fg j

end Cert.Cb

end
-- ==== Proof.CbPay.lean ====
/- The values the last step stores, at an index. -/
module

public import proofs.«01_k».proof.Proof.Gen.Kernel4Ideal.Skeleton
public import proofs.«01_k».proof.Proof.CbSpec
public import Idealize.ShloMosaic.Lib.Pipeline.ValueKit
public import Idealize.ShloMosaic.Lib.Pointwise

@[expose] public section

set_option maxRecDepth 16384

noncomputable section

namespace Cert.Kernel4Ideal.In

open Cert.Kernel4Ideal Cert.Kernel4Ideal.Gen
open Idealize.ShloMosaic Idealize.ShloMosaic.TcCoe
open Idealize.ShloMosaic.Tactic
open scoped BigOperators
open Cert.Cb

section
variable (x0 : Vec Ideal S512x8 .f32) (x1 : Vec Ideal S6x512x512 .i32) (x2 : Vec Ideal S512x1024 .bf16) (x3 : Vec Ideal S1024x512 .bf16) (x4 : Vec Ideal S256x1024 .bf16) (x5 : Vec Ideal S512x1024 .f32) (x6 : Vec Ideal S1x1x1024 .f32) (x7 : Vec Ideal S1x1024 .f32)

/-- The words of the picked rows numbered `k` of the block. -/
abbrev wk (k : ℕ) (h : ∀ a, (![k, 0, 0] : Fin 3 → ℕ) a + S1x512x512.size a ≤ S6x512x512.size a) : Vec Ideal S1x512x512 .i32 :=
  View.ld x1 (Rect.unit (s := S6x512x512) ![k, 0, 0] S1x512x512.size h)

/-- The words numbered 0. -/
abbrev w0 := wk x1 0 inb_S6x512x512_S1x512x512_0_0_0
/-- The words numbered 1. -/
abbrev w1 := wk x1 1 inb_S6x512x512_S1x512x512_1_0_0
/-- The words numbered 2. -/
abbrev w2 := wk x1 2 inb_S6x512x512_S1x512x512_2_0_0
/-- The words numbered 3. -/
abbrev w3 := wk x1 3 inb_S6x512x512_S1x512x512_3_0_0
/-- The words numbered 4. -/
abbrev w4 := wk x1 4 inb_S6x512x512_S1x512x512_4_0_0
/-- The words numbered 5. -/
abbrev w5 := wk x1 5 inb_S6x512x512_S1x512x512_5_0_0

/-- The first half of a picked row: the words' low halves. -/
def lo (k : Fin 6) (a : Fin 512) (j : Fin 512) : EReal := half (x1 (ix3 k a j : S6x512x512.Idx)) 0
/-- The second half of a picked row: the words' high halves. -/
def hi (k : Fin 6) (a : Fin 512) (j : Fin 512) : EReal := half (x1 (ix3 k a j : S6x512x512.Idx)) 1

/-- The numbers of row `a` of a block. -/
def bRow (a : Fin 512) : Row where
  w k := x0 (ix2 a k : S512x8.Idx)
  p k j := if h : j.val < 512 then lo x1 k a ⟨j.val, h⟩ else hi x1 k a ⟨j.val - 512, by omega⟩
  h k := x2 (ix2 a k : S512x1024.Idx)
  wg i k := x3 (ix2 i ⟨k.val, by omega⟩ : S1024x512.Idx)
  wu i k := x3 (ix2 i ⟨256 + k.val, by omega⟩ : S1024x512.Idx)
  wd k j := x4 (ix2 k j : S256x1024.Idx)
  x j := x5 (ix2 a j : S512x1024.Idx)
  g2 j := x6 (ix3 0 0 j : S1x1x1024.Idx)
  fg j := x7 (ix2 0 j : S1x1024.Idx)

theorem pay2_at (a : Fin 512) (j : Fin 1024) : k0_pay2 x2 x3 x4 (ix2 a j : S512x1024.Idx) = (bRow x0 x1 x2 x3 x4 x5 x6 x7 a).sh j := by
  unfold Row.sh Row.hid Row.ga bRow
  pointwise [k0_pay2]

theorem pay4_at (a : Fin 512) (j : Fin 512) :
    k0_pay4 x2 x3 x4 x0 (w0 x1) (ix2 a j : S512x512.Idx) = k0_pay2 x2 x3 x4 (ix2 a ⟨j.val, by omega⟩ : S512x1024.Idx) + x0 (ix2 a 0 : S512x8.Idx) * lo x1 0 a j := by
  unfold lo
  rw [← low_half]
  pointwise [k0_pay4, w0, wk, k0_pay3]

theorem pay5_at (a : Fin 512) (j : Fin 512) :
    k0_pay5 x2 x3 x4 x0 (w0 x1) (ix2 a j : S512x512.Idx) = k0_pay2 x2 x3 x4 (ix2 a ⟨512 + j.val, by omega⟩ : S512x1024.Idx) + x0 (ix2 a 0 : S512x8.Idx) * hi x1 0 a j := by
  unfold hi
  rw [← high_half]
  pointwise [k0_pay5, w0, wk, k0_pay3]

theorem pay11_at (v : FVec Ideal S512x512 .f32) (a : Fin 512) (j : Fin 512) :
    k0_pay11 x0 v (k0_pay7 (w1 x1)) (w2 x1) (w3 x1) (ix2 a j : S512x512.Idx)
      = v (ix2 a j : S512x512.Idx) + x0 (ix2 a 1 : S512x8.Idx) * lo x1 1 a j + x0 (ix2 a 2 : S512x8.Idx) * lo x1 2 a j + x0 (ix2 a 3 : S512x8.Idx) * lo x1 3 a j := by
  unfold lo
  simp only [← low_half]
  pointwise [k0_pay11, w1, w2, w3, wk, k0_pay7, k0_pay6, k0_pay9, k0_pay10]

theorem pay12_at (v : FVec Ideal S512x512 .f32) (a : Fin 512) (j : Fin 512) :
    k0_pay12 x0 v (k0_pay8 (w1 x1)) (w2 x1) (w3 x1) (ix2 a j : S512x512.Idx)
      = v (ix2 a j : S512x512.Idx) + x0 (ix2 a 1 : S512x8.Idx) * hi x1 1 a j + x0 (ix2 a 2 : S512x8.Idx) * hi x1 2 a j + x0 (ix2 a 3 : S512x8.Idx) * hi x1 3 a j := by
  unfold hi
  simp only [← high_half]
  pointwise [k0_pay12, w1, w2, w3, wk, k0_pay8, k0_pay6, k0_pay9, k0_pay10]

/-- The row with the experts added, from the sums of the first four picked rows. -/
def x2Of (v v' : FVec Ideal S512x512 .f32) (a : Fin 512) (j : Fin 1024) : EReal :=
  x5 (ix2 a j : S512x1024.Idx) + x6 (ix3 0 0 j : S1x1x1024.Idx) * (if h : j.val < 512 then
          v (ix2 a ⟨j.val, h⟩ : S512x512.Idx) + x0 (ix2 a 4 : S512x8.Idx) * lo x1 4 a ⟨j.val, h⟩ + x0 (ix2 a 5 : S512x8.Idx) * lo x1 5 a ⟨j.val, h⟩
        else v' (ix2 a ⟨j.val - 512, by omega⟩ : S512x512.Idx) + x0 (ix2 a 4 : S512x8.Idx) * hi x1 4 a ⟨j.val - 512, by omega⟩ + x0 (ix2 a 5 : S512x8.Idx) * hi x1 5 a ⟨j.val - 512, by omega⟩)

theorem pay15_at (v v' : FVec Ideal S512x512 .f32) (a : Fin 512) (j : Fin 1024) :
    k0_pay15 x0 v v' (k0_pay13 (w4 x1)) (k0_pay14 (w4 x1)) (w5 x1) x5 x6 (ix2 a j : S512x1024.Idx)
      = x2Of x0 x1 x5 x6 v v' a j * Ideal.rsqrt (Ideal.div (∑ k : Fin 1024, x2Of x0 x1 x5 x6 v v' a k * x2Of x0 x1 x5 x6 v v' a k) (Ideal.ofBits .f32 1149239296#32)
          + Ideal.ofBits .f32 897988541#32) := by
  unfold x2Of lo hi
  simp only [← low_half, ← high_half]
  pointwise [k0_pay15, w4, w5, wk, k0_pay14, k0_pay13]

/-- The sum of the first four picked rows and the shared expert, first half. -/
def sLo : FVec Ideal S512x512 .f32 := k0_pay11 x0 (k0_pay4 x2 x3 x4 x0 (w0 x1)) (k0_pay7 (w1 x1)) (w2 x1) (w3 x1)
/-- The same, second half. -/
def sHi : FVec Ideal S512x512 .f32 := k0_pay12 x0 (k0_pay5 x2 x3 x4 x0 (w0 x1)) (k0_pay8 (w1 x1)) (w2 x1) (w3 x1)

theorem x2Of_at (a : Fin 512) (j : Fin 1024) : x2Of x0 x1 x5 x6 (sLo x0 x1 x2 x3 x4) (sHi x0 x1 x2 x3 x4) a j = (bRow x0 x1 x2 x3 x4 x5 x6 x7 a).x2 j := by
  unfold x2Of Row.x2 Row.mix
  show _ = x5 (ix2 a j : S512x1024.Idx) + x6 (ix3 0 0 j : S1x1x1024.Idx) * _
  by_cases h : j.val < 512
  · rw [dif_pos h]
    unfold sLo
    rw [pay11_at, pay4_at, pay2_at x0 x1 x2 x3 x4 x5 x6 x7]
    simp only [bRow, dif_pos h]
  · rw [dif_neg h]
    unfold sHi
    rw [pay12_at, pay5_at, pay2_at x0 x1 x2 x3 x4 x5 x6 x7]
    have e : (⟨512 + (j.val - 512), by omega⟩ : Fin 1024) = j := Fin.ext (by show 512 + (j.val - 512) = j.val; omega)
    simp only [bRow, dif_neg h, e]

theorem pay1_at (v : FVec Ideal S512x1024 .f32) (a : Fin 512) (j : Fin 1024) :
    k0_pay1 v x7 (ix2 a j : S512x1024.Idx) = v (ix2 a j : S512x1024.Idx) * x7 (ix2 0 j : S1x1024.Idx) := by
  pointwise [k0_pay1]

/-- What the body stores. -/
def outB : FVec Ideal S512x1024 .f32 :=
  k0_pay1 (k0_pay15 x0 (sLo x0 x1 x2 x3 x4) (sHi x0 x1 x2 x3 x4) (k0_pay13 (w4 x1)) (k0_pay14 (w4 x1)) (w5 x1) x5 x6) x7

theorem outB_at (a : Fin 512) (j : Fin 1024) : outB x0 x1 x2 x3 x4 x5 x6 x7 (ix2 a j : S512x1024.Idx) = (bRow x0 x1 x2 x3 x4 x5 x6 x7 a).out j := by
  unfold outB
  rw [pay1_at, pay15_at]
  unfold Row.out
  simp only [x2Of_at x0 x1 x2 x3 x4 x5 x6 x7]
  rfl
end

end Cert.Kernel4Ideal.In

end
-- ==== Proof.CbRow.lean ====
/- The blocks the four passes of the last step read, at an index. -/
module

public import proofs.«01_k».proof.Proof.Gen.Kernel4Ideal.Frame
public import proofs.«01_k».proof.Proof.CbPay
public import Idealize.ShloMosaic.Lib.ValueIdxCore

@[expose] public section

set_option maxRecDepth 16384

noncomputable section

namespace Cert.Kernel4Ideal.In

open Cert.Kernel4Ideal Cert.Kernel4Ideal.Gen
open Idealize.ShloMosaic Idealize.ShloMosaic.TcCoe
open Idealize.ShloMosaic.Tactic
open Cert.Cb

section
variable (g0 : FVec Ideal S32768x8 .f32) (g1 : IVec S6x8192x512 32) (g2 : FVec Ideal S32768x1024 .bf16) (g3 : FVec Ideal S1024x512 .bf16) (g4 : FVec Ideal S256x1024 .bf16) (g5 : FVec Ideal S32768x1024 .f32) (g6 : FVec Ideal S8x1x1024 .f32) (g7 : FVec Ideal S1x1024 .f32)

/-- The numbers of row `r` in the arrays a pass reads, the row the `b`-th of the pass. -/
def gRow (r : Fin 32768) (b : Fin 8192) : Row where
  w k := g0 (ix2 r k : S32768x8.Idx)
  p k j := if h : j.val < 512 then half (g1 (ix3 k b ⟨j.val, h⟩ : S6x8192x512.Idx)) 0 else half (g1 (ix3 k b ⟨j.val - 512, by omega⟩ : S6x8192x512.Idx)) 1
  h k := g2 (ix2 r k : S32768x1024.Idx)
  wg i k := g3 (ix2 i ⟨k.val, by omega⟩ : S1024x512.Idx)
  wu i k := g3 (ix2 i ⟨256 + k.val, by omega⟩ : S1024x512.Idx)
  wd k j := g4 (ix2 k j : S256x1024.Idx)
  x j := g5 (ix2 r j : S32768x1024.Idx)
  g2 j := g6 (ix3 ⟨r.val / 4096, by omega⟩ 0 j : S8x1x1024.Idx)
  fg j := g7 (ix2 0 j : S1x1024.Idx)

/-- A block's row is an array's row, the blocks' entries the arrays'. -/
theorem bRow_eq (x0 : Vec Ideal S512x8 .f32) (x1 : Vec Ideal S6x512x512 .i32) (x2 : Vec Ideal S512x1024 .bf16) (x3 : Vec Ideal S1024x512 .bf16) (x4 : Vec Ideal S256x1024 .bf16) (x5 : Vec Ideal S512x1024 .f32) (x6 : Vec Ideal S1x1x1024 .f32) (x7 : Vec Ideal S1x1024 .f32)
    (t : ℕ) (ht : t < 16) (a : Fin 512) (r : Fin 32768)
    (h0 : ∀ k : Fin 8, x0 (ix2 a k : S512x8.Idx) = g0 (ix2 r k : S32768x8.Idx))
    (h1 : ∀ (k : Fin 6) (l : Fin 512), x1 (ix3 k a l : S6x512x512.Idx) = g1 (ix3 k ⟨t * 512 + a.val, by omega⟩ l : S6x8192x512.Idx))
    (h2 : ∀ k : Fin 1024, x2 (ix2 a k : S512x1024.Idx) = g2 (ix2 r k : S32768x1024.Idx))
    (h3 : ∀ (i : Fin 1024) (k : Fin 512), x3 (ix2 i k : S1024x512.Idx) = g3 (ix2 i k : S1024x512.Idx))
    (h4 : ∀ (i : Fin 256) (k : Fin 1024), x4 (ix2 i k : S256x1024.Idx) = g4 (ix2 i k : S256x1024.Idx))
    (h5 : ∀ k : Fin 1024, x5 (ix2 a k : S512x1024.Idx) = g5 (ix2 r k : S32768x1024.Idx))
    (h6 : ∀ k : Fin 1024, x6 (ix3 0 0 k : S1x1x1024.Idx) = g6 (ix3 ⟨r.val / 4096, by omega⟩ 0 k : S8x1x1024.Idx))
    (h7 : ∀ k : Fin 1024, x7 (ix2 0 k : S1x1024.Idx) = g7 (ix2 0 k : S1x1024.Idx)) :
    bRow x0 x1 x2 x3 x4 x5 x6 x7 a = gRow g0 g1 g2 g3 g4 g5 g6 g7 r ⟨t * 512 + a.val, by omega⟩ := by
  refine Row.ext (funext fun k => h0 k) (funext fun k => funext fun j => ?_) (funext fun k => h2 k) (funext fun i => funext fun k => h3 i _) (funext fun i => funext fun k => h3 i _)
    (funext fun i => funext fun k => h4 i k) (funext fun j => h5 j) (funext fun j => h6 j) (funext fun j => h7 j)
  show (if h : j.val < 512 then lo x1 k a ⟨j.val, h⟩ else hi x1 k a ⟨j.val - 512, by omega⟩) = if h : j.val < 512 then half _ 0 else half _ 1
  unfold lo hi
  split_ifs with h
  · exact congrArg (fun z => half z 0) (h1 _ _)
  · exact congrArg (fun z => half z 1) (h1 _ _)
end

section
variable (V : (c : Dev nD) → (b : Ref sig .tc) → Buf (Elt Ideal) ((c : Thread nD τ).loc b))

theorem idx0 : ∀ t : Fin cfg0.N, win0_0.index t = ![t.val, 0] ∧ win0_1.index t = ![0, t.val, 0] ∧ win0_2.index t = ![t.val, 0] ∧ win0_3.index t = ![0, 0] ∧ win0_4.index t = ![0, 0]
    ∧ win0_5.index t = ![t.val, 0] ∧ win0_6.index t = ![(t.val) / 8, 0, 0] ∧ win0_7.index t = ![0, 0] ∧ win0_8.index t = ![t.val, 0] :=
  (by decide +kernel : ∀ t : Fin grid0.N, _)

theorem hN0 (t : Fin cfg0.N) : t.val < 16 := t.isLt

/-- Row `a` of the blocks of step `t`. -/
abbrev bk0 (c : Dev nD) (t : Fin cfg0.N) (a : Fin 512) : Row :=
    bRow (iblk0 V c 0 t) (iblk0 V c 1 t) (iblk0 V c 2 t) (iblk0 V c 3 t) (iblk0 V c 4 t) (iblk0 V c 5 t) (iblk0 V c 6 t) (iblk0 V c 7 t) a

set_option maxHeartbeats 2000000 in
theorem rows0 (c : Dev nD) (t : Fin cfg0.N) (a : Fin 512) :
    bk0 V c t a
      = gRow (V c main_arg0) (V c main_v4) (V c main_arg2) (V c main_v1) (V c main_v2) (V c main_arg6) (V c main_arg7) (V c main_v3)
        ⟨(t.val) * 512 + a.val, by have := hN0 t; omega⟩ ⟨t.val * 512 + a.val, by have := hN0 t; omega⟩ := by
  have e6 : (⟨(t.val) / 8, by have := hN0 t; omega⟩ : Fin 8) = ⟨((t.val) * 512 + a.val) / 4096, by have := hN0 t; omega⟩ := Fin.ext (by show (t.val) / 8 = ((t.val) * 512 + a.val) / 4096; omega)
  refine bRow_eq (V c main_arg0) (V c main_v4) (V c main_arg2) (V c main_v1) (V c main_v2) (V c main_arg6) (V c main_arg7) (V c main_v3) _ _ _ _ _ _ _ _ t.val (hN0 t) a _
    (fun k => ?_) (fun k l => ?_) (fun k => ?_) (fun i k => ?_) (fun i k => ?_) (fun k => ?_) (fun k => ?_) (fun k => ?_)
  · unfold iblk0
    generalize (V c (Pipeline.arrRef spec0 0) : FVec Ideal S32768x8 .f32) = G
    blk_ext [idx0 t]
  · unfold iblk0
    generalize (V c (Pipeline.arrRef spec0 1) : IVec S6x8192x512 32) = G
    blk_ext [idx0 t]
  · unfold iblk0
    generalize (V c (Pipeline.arrRef spec0 2) : FVec Ideal S32768x1024 .bf16) = G
    blk_ext [idx0 t]
  · unfold iblk0
    generalize (V c (Pipeline.arrRef spec0 3) : FVec Ideal S1024x512 .bf16) = G
    blk_ext [idx0 t]
  · unfold iblk0
    generalize (V c (Pipeline.arrRef spec0 4) : FVec Ideal S256x1024 .bf16) = G
    blk_ext [idx0 t]
  · unfold iblk0
    generalize (V c (Pipeline.arrRef spec0 5) : FVec Ideal S32768x1024 .f32) = G
    blk_ext [idx0 t]
  · rw [← e6]
    unfold iblk0
    generalize (V c (Pipeline.arrRef spec0 6) : FVec Ideal S8x1x1024 .f32) = G
    blk_ext [idx0 t]
  · unfold iblk0
    generalize (V c (Pipeline.arrRef spec0 7) : FVec Ideal S1x1024 .f32) = G
    blk_ext [idx0 t]

theorem idx1 : ∀ t : Fin cfg1.N, win1_0.index t = ![16 + t.val, 0] ∧ win1_1.index t = ![0, t.val, 0] ∧ win1_2.index t = ![16 + t.val, 0] ∧ win1_3.index t = ![0, 0] ∧ win1_4.index t = ![0, 0]
    ∧ win1_5.index t = ![16 + t.val, 0] ∧ win1_6.index t = ![(16 + t.val) / 8, 0, 0] ∧ win1_7.index t = ![0, 0] ∧ win1_8.index t = ![16 + t.val, 0] :=
  (by decide +kernel : ∀ t : Fin grid1.N, _)

theorem hN1 (t : Fin cfg1.N) : t.val < 16 := t.isLt

/-- Row `a` of the blocks of step `t`. -/
abbrev bk1 (c : Dev nD) (t : Fin cfg1.N) (a : Fin 512) : Row :=
    bRow (iblk1 V c 0 t) (iblk1 V c 1 t) (iblk1 V c 2 t) (iblk1 V c 3 t) (iblk1 V c 4 t) (iblk1 V c 5 t) (iblk1 V c 6 t) (iblk1 V c 7 t) a

set_option maxHeartbeats 2000000 in
theorem rows1 (c : Dev nD) (t : Fin cfg1.N) (a : Fin 512) :
    bk1 V c t a
      = gRow (V c main_arg0) (V c main_v6) (V c main_arg2) (V c main_v1) (V c main_v2) (V c main_arg6) (V c main_arg7) (V c main_v3)
        ⟨(16 + t.val) * 512 + a.val, by have := hN1 t; omega⟩ ⟨t.val * 512 + a.val, by have := hN1 t; omega⟩ := by
  have e6 : (⟨(16 + t.val) / 8, by have := hN1 t; omega⟩ : Fin 8) = ⟨((16 + t.val) * 512 + a.val) / 4096, by have := hN1 t; omega⟩ := Fin.ext (by show (16 + t.val) / 8 = ((16 + t.val) * 512 + a.val) / 4096; omega)
  refine bRow_eq (V c main_arg0) (V c main_v6) (V c main_arg2) (V c main_v1) (V c main_v2) (V c main_arg6) (V c main_arg7) (V c main_v3) _ _ _ _ _ _ _ _ t.val (hN1 t) a _
    (fun k => ?_) (fun k l => ?_) (fun k => ?_) (fun i k => ?_) (fun i k => ?_) (fun k => ?_) (fun k => ?_) (fun k => ?_)
  · unfold iblk1
    generalize (V c (Pipeline.arrRef spec1 0) : FVec Ideal S32768x8 .f32) = G
    blk_ext [idx1 t]
  · unfold iblk1
    generalize (V c (Pipeline.arrRef spec1 1) : IVec S6x8192x512 32) = G
    blk_ext [idx1 t]
  · unfold iblk1
    generalize (V c (Pipeline.arrRef spec1 2) : FVec Ideal S32768x1024 .bf16) = G
    blk_ext [idx1 t]
  · unfold iblk1
    generalize (V c (Pipeline.arrRef spec1 3) : FVec Ideal S1024x512 .bf16) = G
    blk_ext [idx1 t]
  · unfold iblk1
    generalize (V c (Pipeline.arrRef spec1 4) : FVec Ideal S256x1024 .bf16) = G
    blk_ext [idx1 t]
  · unfold iblk1
    generalize (V c (Pipeline.arrRef spec1 5) : FVec Ideal S32768x1024 .f32) = G
    blk_ext [idx1 t]
  · rw [← e6]
    unfold iblk1
    generalize (V c (Pipeline.arrRef spec1 6) : FVec Ideal S8x1x1024 .f32) = G
    blk_ext [idx1 t]
  · unfold iblk1
    generalize (V c (Pipeline.arrRef spec1 7) : FVec Ideal S1x1024 .f32) = G
    blk_ext [idx1 t]

theorem idx2 : ∀ t : Fin cfg2.N, win2_0.index t = ![32 + t.val, 0] ∧ win2_1.index t = ![0, t.val, 0] ∧ win2_2.index t = ![32 + t.val, 0] ∧ win2_3.index t = ![0, 0] ∧ win2_4.index t = ![0, 0]
    ∧ win2_5.index t = ![32 + t.val, 0] ∧ win2_6.index t = ![(32 + t.val) / 8, 0, 0] ∧ win2_7.index t = ![0, 0] ∧ win2_8.index t = ![32 + t.val, 0] :=
  (by decide +kernel : ∀ t : Fin grid2.N, _)

theorem hN2 (t : Fin cfg2.N) : t.val < 16 := t.isLt

/-- Row `a` of the blocks of step `t`. -/
abbrev bk2 (c : Dev nD) (t : Fin cfg2.N) (a : Fin 512) : Row :=
    bRow (iblk2 V c 0 t) (iblk2 V c 1 t) (iblk2 V c 2 t) (iblk2 V c 3 t) (iblk2 V c 4 t) (iblk2 V c 5 t) (iblk2 V c 6 t) (iblk2 V c 7 t) a

set_option maxHeartbeats 2000000 in
theorem rows2 (c : Dev nD) (t : Fin cfg2.N) (a : Fin 512) :
    bk2 V c t a
      = gRow (V c main_arg0) (V c main_v8) (V c main_arg2) (V c main_v1) (V c main_v2) (V c main_arg6) (V c main_arg7) (V c main_v3)
        ⟨(32 + t.val) * 512 + a.val, by have := hN2 t; omega⟩ ⟨t.val * 512 + a.val, by have := hN2 t; omega⟩ := by
  have e6 : (⟨(32 + t.val) / 8, by have := hN2 t; omega⟩ : Fin 8) = ⟨((32 + t.val) * 512 + a.val) / 4096, by have := hN2 t; omega⟩ := Fin.ext (by show (32 + t.val) / 8 = ((32 + t.val) * 512 + a.val) / 4096; omega)
  refine bRow_eq (V c main_arg0) (V c main_v8) (V c main_arg2) (V c main_v1) (V c main_v2) (V c main_arg6) (V c main_arg7) (V c main_v3) _ _ _ _ _ _ _ _ t.val (hN2 t) a _
    (fun k => ?_) (fun k l => ?_) (fun k => ?_) (fun i k => ?_) (fun i k => ?_) (fun k => ?_) (fun k => ?_) (fun k => ?_)
  · unfold iblk2
    generalize (V c (Pipeline.arrRef spec2 0) : FVec Ideal S32768x8 .f32) = G
    blk_ext [idx2 t]
  · unfold iblk2
    generalize (V c (Pipeline.arrRef spec2 1) : IVec S6x8192x512 32) = G
    blk_ext [idx2 t]
  · unfold iblk2
    generalize (V c (Pipeline.arrRef spec2 2) : FVec Ideal S32768x1024 .bf16) = G
    blk_ext [idx2 t]
  · unfold iblk2
    generalize (V c (Pipeline.arrRef spec2 3) : FVec Ideal S1024x512 .bf16) = G
    blk_ext [idx2 t]
  · unfold iblk2
    generalize (V c (Pipeline.arrRef spec2 4) : FVec Ideal S256x1024 .bf16) = G
    blk_ext [idx2 t]
  · unfold iblk2
    generalize (V c (Pipeline.arrRef spec2 5) : FVec Ideal S32768x1024 .f32) = G
    blk_ext [idx2 t]
  · rw [← e6]
    unfold iblk2
    generalize (V c (Pipeline.arrRef spec2 6) : FVec Ideal S8x1x1024 .f32) = G
    blk_ext [idx2 t]
  · unfold iblk2
    generalize (V c (Pipeline.arrRef spec2 7) : FVec Ideal S1x1024 .f32) = G
    blk_ext [idx2 t]

theorem idx3 : ∀ t : Fin cfg3.N, win3_0.index t = ![48 + t.val, 0] ∧ win3_1.index t = ![0, t.val, 0] ∧ win3_2.index t = ![48 + t.val, 0] ∧ win3_3.index t = ![0, 0] ∧ win3_4.index t = ![0, 0]
    ∧ win3_5.index t = ![48 + t.val, 0] ∧ win3_6.index t = ![(48 + t.val) / 8, 0, 0] ∧ win3_7.index t = ![0, 0] ∧ win3_8.index t = ![48 + t.val, 0] :=
  (by decide +kernel : ∀ t : Fin grid3.N, _)

theorem hN3 (t : Fin cfg3.N) : t.val < 16 := t.isLt

/-- Row `a` of the blocks of step `t`. -/
abbrev bk3 (c : Dev nD) (t : Fin cfg3.N) (a : Fin 512) : Row :=
    bRow (iblk3 V c 0 t) (iblk3 V c 1 t) (iblk3 V c 2 t) (iblk3 V c 3 t) (iblk3 V c 4 t) (iblk3 V c 5 t) (iblk3 V c 6 t) (iblk3 V c 7 t) a

set_option maxHeartbeats 2000000 in
theorem rows3 (c : Dev nD) (t : Fin cfg3.N) (a : Fin 512) :
    bk3 V c t a
      = gRow (V c main_arg0) (V c main_v10) (V c main_arg2) (V c main_v1) (V c main_v2) (V c main_arg6) (V c main_arg7) (V c main_v3)
        ⟨(48 + t.val) * 512 + a.val, by have := hN3 t; omega⟩ ⟨t.val * 512 + a.val, by have := hN3 t; omega⟩ := by
  have e6 : (⟨(48 + t.val) / 8, by have := hN3 t; omega⟩ : Fin 8) = ⟨((48 + t.val) * 512 + a.val) / 4096, by have := hN3 t; omega⟩ := Fin.ext (by show (48 + t.val) / 8 = ((48 + t.val) * 512 + a.val) / 4096; omega)
  refine bRow_eq (V c main_arg0) (V c main_v10) (V c main_arg2) (V c main_v1) (V c main_v2) (V c main_arg6) (V c main_arg7) (V c main_v3) _ _ _ _ _ _ _ _ t.val (hN3 t) a _
    (fun k => ?_) (fun k l => ?_) (fun k => ?_) (fun i k => ?_) (fun i k => ?_) (fun k => ?_) (fun k => ?_) (fun k => ?_)
  · unfold iblk3
    generalize (V c (Pipeline.arrRef spec3 0) : FVec Ideal S32768x8 .f32) = G
    blk_ext [idx3 t]
  · unfold iblk3
    generalize (V c (Pipeline.arrRef spec3 1) : IVec S6x8192x512 32) = G
    blk_ext [idx3 t]
  · unfold iblk3
    generalize (V c (Pipeline.arrRef spec3 2) : FVec Ideal S32768x1024 .bf16) = G
    blk_ext [idx3 t]
  · unfold iblk3
    generalize (V c (Pipeline.arrRef spec3 3) : FVec Ideal S1024x512 .bf16) = G
    blk_ext [idx3 t]
  · unfold iblk3
    generalize (V c (Pipeline.arrRef spec3 4) : FVec Ideal S256x1024 .bf16) = G
    blk_ext [idx3 t]
  · unfold iblk3
    generalize (V c (Pipeline.arrRef spec3 5) : FVec Ideal S32768x1024 .f32) = G
    blk_ext [idx3 t]
  · rw [← e6]
    unfold iblk3
    generalize (V c (Pipeline.arrRef spec3 6) : FVec Ideal S8x1x1024 .f32) = G
    blk_ext [idx3 t]
  · unfold iblk3
    generalize (V c (Pipeline.arrRef spec3 7) : FVec Ideal S1x1024 .f32) = G
    blk_ext [idx3 t]

end

end Cert.Kernel4Ideal.In

end
-- ==== Proof.CbHost.lean ====
/- The arrays the host hands the four passes of the last step, and the rows the passes read, in the arguments. -/
module

public import proofs.«01_k».proof.Proof.CbRow

@[expose] public section

set_option maxRecDepth 16384

noncomputable section

namespace Cert.Kernel4Ideal.In

open Cert.Kernel4Ideal Cert.Kernel4Ideal.Gen
open Idealize.ShloMosaic Idealize.ShloMosaic.TcCoe
open Idealize.ShloMosaic.Tactic
open Cert.Cb
variable (m : (ℓ : Loc nD τ sig) → Buf (Elt Ideal) ℓ) (ρ : Dev nD → PrngReg)

/-- The numbers of row `r` in the kernel's arguments. -/
def kr (c : Dev nD) (r : Fin 32768) : Row where
  w k := m ((c.tc : Thread nD τ).loc main_arg0) (ix2 r k : S32768x8.Idx)
  p k j := if h : j.val < 512 then half (m ((c.tc : Thread nD τ).loc main_arg1) (ix3 k r ⟨j.val, h⟩ : S6x32768x512.Idx)) 0 else half (m ((c.tc : Thread nD τ).loc main_arg1) (ix3 k r ⟨j.val - 512, by omega⟩ : S6x32768x512.Idx)) 1
  h k := m ((c.tc : Thread nD τ).loc main_arg2) (ix2 r k : S32768x1024.Idx)
  wg i k := m ((c.tc : Thread nD τ).loc main_arg3) (ix2 i k : S1024x256.Idx)
  wu i k := m ((c.tc : Thread nD τ).loc main_arg4) (ix2 i k : S1024x256.Idx)
  wd k j := m ((c.tc : Thread nD τ).loc main_arg5) (ix2 k j : S256x1024.Idx)
  x j := m ((c.tc : Thread nD τ).loc main_arg6) (ix2 r j : S32768x1024.Idx)
  g2 j := m ((c.tc : Thread nD τ).loc main_arg7) (ix3 ⟨r.val / 4096, by omega⟩ 0 j : S8x1x1024.Idx)
  fg j := m ((c.tc : Thread nD τ).loc main_arg8) (ix1 j : S1024.Idx)

theorem v1_at (c : Dev nD) (i : Fin 1024) (k : Fin 512) : V1 m ρ c main_v1 (ix2 i k : S1024x512.Idx)
    = if h : k.val < 256 then m ((c.tc : Thread nD τ).loc main_arg3) (ix2 i ⟨k.val, h⟩ : S1024x256.Idx) else m ((c.tc : Thread nD τ).loc main_arg4) (ix2 i ⟨k.val - 256, by omega⟩ : S1024x256.Idx) := by
  unfold V1 W1
  simp only [hostOps0, List.flatten_cons, List.flatten_nil, List.append_nil, List.cons_append, List.nil_append]
  after_results_simp
  pointwise []

theorem v2_at (c : Dev nD) (i : Fin 256) (k : Fin 1024) : V1 m ρ c main_v2 (ix2 i k : S256x1024.Idx) = m ((c.tc : Thread nD τ).loc main_arg5) (ix2 i k : S256x1024.Idx) := by
  unfold V1 W1
  simp only [hostOps0, List.flatten_cons, List.flatten_nil, List.append_nil, List.cons_append, List.nil_append]
  after_results_simp
  pointwise []

theorem v3_at (c : Dev nD) (k : Fin 1024) : V1 m ρ c main_v3 (ix2 0 k : S1x1024.Idx) = m ((c.tc : Thread nD τ).loc main_arg8) (ix1 k : S1024.Idx) := by
  unfold V1 W1
  simp only [hostOps0, List.flatten_cons, List.flatten_nil, List.append_nil, List.cons_append, List.nil_append]
  after_results_simp
  pointwise []

theorem gath0 (c : Dev nD) (k : Fin 6) (b : Fin 8192) (l : Fin 512) : V1 m ρ c main_v4 (ix3 k b l : S6x8192x512.Idx)
    = m ((c.tc : Thread nD τ).loc main_arg1) (ix3 k ⟨0 + b.val, by omega⟩ l : S6x32768x512.Idx) := by
  unfold V1 W1
  simp only [hostOps0, List.flatten_cons, List.flatten_nil, List.append_nil, List.cons_append, List.nil_append]
  after_results_simp
  pointwise []

theorem gath1 (c : Dev nD) (k : Fin 6) (b : Fin 8192) (l : Fin 512) : V3 m ρ c main_v6 (ix3 k b l : S6x8192x512.Idx)
    = m ((c.tc : Thread nD τ).loc main_arg1) (ix3 k ⟨8192 + b.val, by omega⟩ l : S6x32768x512.Idx) := by
  rw [← W2_args m ρ c main_arg1 (by decide)]
  unfold V3 W3
  simp only [hostOps1, List.flatten_cons, List.flatten_nil, List.append_nil, List.cons_append, List.nil_append]
  after_results_simp
  pointwise []

theorem gath2 (c : Dev nD) (k : Fin 6) (b : Fin 8192) (l : Fin 512) : V5 m ρ c main_v8 (ix3 k b l : S6x8192x512.Idx)
    = m ((c.tc : Thread nD τ).loc main_arg1) (ix3 k ⟨16384 + b.val, by omega⟩ l : S6x32768x512.Idx) := by
  rw [← W4_args m ρ c main_arg1 (by decide)]
  unfold V5 W5
  simp only [hostOps2, List.flatten_cons, List.flatten_nil, List.append_nil, List.cons_append, List.nil_append]
  after_results_simp
  pointwise []

theorem gath3 (c : Dev nD) (k : Fin 6) (b : Fin 8192) (l : Fin 512) : V7 m ρ c main_v10 (ix3 k b l : S6x8192x512.Idx)
    = m ((c.tc : Thread nD τ).loc main_arg1) (ix3 k ⟨24576 + b.val, by omega⟩ l : S6x32768x512.Idx) := by
  rw [← W6_args m ρ c main_arg1 (by decide)]
  unfold V7 W7
  simp only [hostOps3, List.flatten_cons, List.flatten_nil, List.append_nil, List.cons_append, List.nil_append]
  after_results_simp
  pointwise []

theorem copy1 (c : Dev nD) : V3 m ρ c main_v7 = V2 m ρ c main_v5 := by
  unfold V3 W3
  simp only [hostOps1, List.flatten_cons, List.flatten_nil, List.append_nil, List.cons_append, List.nil_append]
  after_results_simp
  rfl

theorem copy2 (c : Dev nD) : V5 m ρ c main_v9 = V4 m ρ c main_v7 := by
  unfold V5 W5
  simp only [hostOps2, List.flatten_cons, List.flatten_nil, List.append_nil, List.cons_append, List.nil_append]
  after_results_simp
  rfl

theorem copy3 (c : Dev nD) : V7 m ρ c main_v11 = V6 m ρ c main_v9 := by
  unfold V7 W7
  simp only [hostOps3, List.flatten_cons, List.flatten_nil, List.append_nil, List.cons_append, List.nil_append]
  after_results_simp
  rfl

theorem keep1_1 (c : Dev nD) : V3 m ρ c main_v1 = V1 m ρ c main_v1 :=
  ((W3_of m ρ c main_v1 (by decide)).trans (W2_of m ρ c main_v1 (by decide))).trans rfl

theorem keep1_2 (c : Dev nD) : V3 m ρ c main_v2 = V1 m ρ c main_v2 :=
  ((W3_of m ρ c main_v2 (by decide)).trans (W2_of m ρ c main_v2 (by decide))).trans rfl

theorem keep1_3 (c : Dev nD) : V3 m ρ c main_v3 = V1 m ρ c main_v3 :=
  ((W3_of m ρ c main_v3 (by decide)).trans (W2_of m ρ c main_v3 (by decide))).trans rfl

theorem keep2_1 (c : Dev nD) : V5 m ρ c main_v1 = V1 m ρ c main_v1 :=
  ((W5_of m ρ c main_v1 (by decide)).trans (W4_of m ρ c main_v1 (by decide))).trans (keep1_1 m ρ c)

theorem keep2_2 (c : Dev nD) : V5 m ρ c main_v2 = V1 m ρ c main_v2 :=
  ((W5_of m ρ c main_v2 (by decide)).trans (W4_of m ρ c main_v2 (by decide))).trans (keep1_2 m ρ c)

theorem keep2_3 (c : Dev nD) : V5 m ρ c main_v3 = V1 m ρ c main_v3 :=
  ((W5_of m ρ c main_v3 (by decide)).trans (W4_of m ρ c main_v3 (by decide))).trans (keep1_3 m ρ c)

theorem keep3_1 (c : Dev nD) : V7 m ρ c main_v1 = V1 m ρ c main_v1 :=
  ((W7_of m ρ c main_v1 (by decide)).trans (W6_of m ρ c main_v1 (by decide))).trans (keep2_1 m ρ c)

theorem keep3_2 (c : Dev nD) : V7 m ρ c main_v2 = V1 m ρ c main_v2 :=
  ((W7_of m ρ c main_v2 (by decide)).trans (W6_of m ρ c main_v2 (by decide))).trans (keep2_2 m ρ c)

theorem keep3_3 (c : Dev nD) : V7 m ρ c main_v3 = V1 m ρ c main_v3 :=
  ((W7_of m ρ c main_v3 (by decide)).trans (W6_of m ρ c main_v3 (by decide))).trans (keep2_3 m ρ c)

/-- A pass's row is the arguments' row. -/
theorem gRow_eq (c : Dev nD) (g0 : FVec Ideal S32768x8 .f32) (g1 : IVec S6x8192x512 32) (g2 : FVec Ideal S32768x1024 .bf16) (g3 : FVec Ideal S1024x512 .bf16) (g4 : FVec Ideal S256x1024 .bf16) (g5 : FVec Ideal S32768x1024 .f32) (g6 : FVec Ideal S8x1x1024 .f32) (g7 : FVec Ideal S1x1024 .f32)
    (r : Fin 32768) (b : Fin 8192) (q : ℕ) (hq : q * 8192 + 8192 ≤ 32768) (hr : r.val = q * 8192 + b.val)
    (e0 : g0 = m ((c.tc : Thread nD τ).loc main_arg0)) (e1 : ∀ (k : Fin 6) (b : Fin 8192) (l : Fin 512), g1 (ix3 k b l : S6x8192x512.Idx) = m ((c.tc : Thread nD τ).loc main_arg1) (ix3 k ⟨q * 8192 + b.val, by omega⟩ l : S6x32768x512.Idx))
    (e2 : g2 = m ((c.tc : Thread nD τ).loc main_arg2)) (e3 : g3 = V1 m ρ c main_v1) (e4 : g4 = V1 m ρ c main_v2) (e5 : g5 = m ((c.tc : Thread nD τ).loc main_arg6)) (e6 : g6 = m ((c.tc : Thread nD τ).loc main_arg7)) (e7 : g7 = V1 m ρ c main_v3) :
    gRow g0 g1 g2 g3 g4 g5 g6 g7 r b = kr m c r := by
  subst e0 e2 e3 e4 e5 e6 e7
  refine Row.ext rfl (funext fun k => funext fun j => ?_) rfl (funext fun i => funext fun k => ?_) (funext fun i => funext fun k => ?_)
    (funext fun i => funext fun k => v2_at m ρ c i k) rfl rfl (funext fun j => v3_at m ρ c j)
  · have er : (⟨q * 8192 + b.val, by omega⟩ : Fin 32768) = r := Fin.ext hr.symm
    show (if h : j.val < 512 then half (g1 _) 0 else half (g1 _) 1) = if h : j.val < 512 then half _ 0 else half _ 1
    split_ifs with h
    · exact congrArg (fun z => half z 0) ((e1 _ _ _).trans (by rw [er]))
    · exact congrArg (fun z => half z 1) ((e1 _ _ _).trans (by rw [er]))
  · exact (v1_at m ρ c i ⟨k.val, by omega⟩).trans (dif_pos k.isLt)
  · refine (v1_at m ρ c i ⟨256 + k.val, by omega⟩).trans ((dif_neg (show ¬ 256 + k.val < 256 by omega)).trans ?_)
    exact congrArg (fun z => m ((c.tc : Thread nD τ).loc main_arg4) (ix2 i z : S1024x256.Idx)) (Fin.ext (show 256 + k.val - 256 = k.val by omega))

end Cert.Kernel4Ideal.In

end
-- ==== Proof.CbVal.lean ====
/- The result array of the last step. -/
module

public import proofs.«01_k».proof.Proof.CbHost
public import Idealize.ShloMosaic.Lib.Pipeline.ValueKit.Partial

@[expose] public section

set_option maxRecDepth 16384

noncomputable section

namespace Cert.Kernel4Ideal.In

open Cert.Kernel4Ideal Cert.Kernel4Ideal.Gen
open Idealize.ShloMosaic Idealize.ShloMosaic.TcCoe
open Idealize.ShloMosaic.Tactic
open Cert.Cb
variable (m : (ℓ : Loc nD τ sig) → Buf (Elt Ideal) ℓ) (ρ : Dev nD → PrngReg)

/-- The numbers of row `r`, the row a number (the first row past the last). -/
def krn (c : Dev nD) (r : ℕ) : Row := if h : r < 32768 then kr m c ⟨r, h⟩ else kr m c 0

theorem krn_eq (c : Dev nD) (r : Fin 32768) : krn m c r.val = kr m c r := dif_pos r.isLt

theorem trow0 (c : Dev nD) (t : Fin cfg0.N) (a : Fin 512) :
    bk0 (V1 m ρ) c t a = kr m c ⟨(t.val) * 512 + a.val, by have := hN0 t; omega⟩ :=
  (rows0 (V1 m ρ) c t a).trans (gRow_eq m ρ c _ _ _ _ _ _ _ _ _ _ 0 (by omega) (by show (t.val) * 512 + a.val = 0 * 8192 + (t.val * 512 + a.val); omega)
    (W1_args m ρ c main_arg0 (by decide)) (fun k b l => (gath0 m ρ c k b l).trans (congrArg (fun z => m ((c.tc : Thread nD τ).loc main_arg1) (ix3 k z _ : S6x32768x512.Idx)) (Fin.ext (by show 0 + b.val = 0 * 8192 + b.val; omega))))
    (W1_args m ρ c main_arg2 (by decide)) rfl rfl (W1_args m ρ c main_arg6 (by decide)) (W1_args m ρ c main_arg7 (by decide)) rfl)

theorem o0 (c : Dev nD) (t : Fin cfg0.N) (a : Fin 512) (j : Fin 1024) :
    out0_8 (iblk0 (V1 m ρ) c 0 t) (iblk0 (V1 m ρ) c 1 t) (iblk0 (V1 m ρ) c 2 t) (iblk0 (V1 m ρ) c 3 t) (iblk0 (V1 m ρ) c 4 t) (iblk0 (V1 m ρ) c 5 t) (iblk0 (V1 m ρ) c 6 t) (iblk0 (V1 m ρ) c 7 t) (ix2 a j : S512x1024.Idx) = (kr m c ⟨(t.val) * 512 + a.val, by have := hN0 t; omega⟩).out j := by
  rw [← trow0 m ρ]
  unfold out0_8
  frame_out
  exact outB_at _ _ _ _ _ _ _ _ a j

theorem final0 (c : Dev nD) : (dat0 (V1 m ρ) c).arrAt 8 cfg0.N
    = fun i : S32768x1024.Idx => if 0 ≤ (i 0).val / 512 ∧ (i 0).val / 512 < 16 then (krn m c (i 0).val).out (i 1) else V1 m ρ c main_v5 i := by
  refine (dat0 (V1 m ρ) c).arrAt_eq_of_coversWhere 8 _ (fun β => 0 ≤ β (0 : Fin 2) ∧ β (0 : Fin 2) < 16) (by decide +kernel) (fun t hf y => ?_) (fun j => Iff.rfl)
  blk_simp
  rw [after0_8]
  idx_vars y
  have e := (idx0 t).2.2.2.2.2.2.2.2
  have e0 : win0_8.index t 0 = t.val := congrFun e 0
  have e1 : win0_8.index t 1 = 0 := congrFun e 1
  refine (o0 m ρ c t y0 y1).trans ?_
  rw [← krn_eq, e0]
  refine congrArg _ (Fin.ext ?_)
  show y1.val = _
  simp [e1]

/-- The rows pass 1 and those before it write hold the layer's result after it. -/
theorem upto0 (c : Dev nD) (i : S32768x1024.Idx) (h : (i 0).val < 8192) : V2 m ρ c main_v5 i = (krn m c (i 0).val).out (i 1) := by
  refine (congrFun ((W2_arr m ρ c 8).trans (final0 m ρ c)) i).trans ?_
  exact if_pos ⟨Nat.zero_le _, by omega⟩

theorem trow1 (c : Dev nD) (t : Fin cfg1.N) (a : Fin 512) :
    bk1 (V3 m ρ) c t a = kr m c ⟨(16 + t.val) * 512 + a.val, by have := hN1 t; omega⟩ :=
  (rows1 (V3 m ρ) c t a).trans (gRow_eq m ρ c _ _ _ _ _ _ _ _ _ _ 1 (by omega) (by show (16 + t.val) * 512 + a.val = 1 * 8192 + (t.val * 512 + a.val); omega)
    (W3_args m ρ c main_arg0 (by decide)) (fun k b l => (gath1 m ρ c k b l).trans (congrArg (fun z => m ((c.tc : Thread nD τ).loc main_arg1) (ix3 k z _ : S6x32768x512.Idx)) (Fin.ext (by show 8192 + b.val = 1 * 8192 + b.val; omega))))
    (W3_args m ρ c main_arg2 (by decide)) (keep1_1 m ρ c) (keep1_2 m ρ c) (W3_args m ρ c main_arg6 (by decide)) (W3_args m ρ c main_arg7 (by decide)) (keep1_3 m ρ c))

theorem o1 (c : Dev nD) (t : Fin cfg1.N) (a : Fin 512) (j : Fin 1024) :
    outsAt1 (V3 m ρ) c t (ix2 a j : S512x1024.Idx) = (kr m c ⟨(16 + t.val) * 512 + a.val, by have := hN1 t; omega⟩).out j := by
  rw [← trow1 m ρ]
  unfold Gen.outsAt1
  frame_out
  exact outB_at _ _ _ _ _ _ _ _ a j

theorem final1 (c : Dev nD) : (dat1 (V3 m ρ) c).arrAt 8 cfg1.N
    = fun i : S32768x1024.Idx => if 16 ≤ (i 0).val / 512 ∧ (i 0).val / 512 < 32 then (krn m c (i 0).val).out (i 1) else V3 m ρ c main_v7 i := by
  refine (dat1 (V3 m ρ) c).arrAt_eq_of_coversWhere 8 _ (fun β => 16 ≤ β (0 : Fin 2) ∧ β (0 : Fin 2) < 32) (by decide +kernel) (fun t hf y => ?_) (fun j => Iff.rfl)
  blk_simp
  rw [after1_8]
  idx_vars y
  have e := (idx1 t).2.2.2.2.2.2.2.2
  have e0 : win1_8.index t 0 = 16 + t.val := congrFun e 0
  have e1 : win1_8.index t 1 = 0 := congrFun e 1
  refine (o1 m ρ c t y0 y1).trans ?_
  rw [← krn_eq, e0]
  refine congrArg _ (Fin.ext ?_)
  show y1.val = _
  simp [e1]

/-- The rows pass 2 and those before it write hold the layer's result after it. -/
theorem upto1 (c : Dev nD) (i : S32768x1024.Idx) (h : (i 0).val < 16384) : V4 m ρ c main_v7 i = (krn m c (i 0).val).out (i 1) := by
  refine (congrFun ((W4_arr m ρ c 8).trans (final1 m ρ c)) i).trans ?_
  by_cases hq : 16 ≤ (i 0).val / 512
  · exact if_pos ⟨hq, by omega⟩
  · refine (if_neg fun hn => hq hn.1).trans ?_
    rw [copy1]
    exact upto0 m ρ c i (by omega)

theorem trow2 (c : Dev nD) (t : Fin cfg2.N) (a : Fin 512) :
    bk2 (V5 m ρ) c t a = kr m c ⟨(32 + t.val) * 512 + a.val, by have := hN2 t; omega⟩ :=
  (rows2 (V5 m ρ) c t a).trans (gRow_eq m ρ c _ _ _ _ _ _ _ _ _ _ 2 (by omega) (by show (32 + t.val) * 512 + a.val = 2 * 8192 + (t.val * 512 + a.val); omega)
    (W5_args m ρ c main_arg0 (by decide)) (fun k b l => (gath2 m ρ c k b l).trans (congrArg (fun z => m ((c.tc : Thread nD τ).loc main_arg1) (ix3 k z _ : S6x32768x512.Idx)) (Fin.ext (by show 16384 + b.val = 2 * 8192 + b.val; omega))))
    (W5_args m ρ c main_arg2 (by decide)) (keep2_1 m ρ c) (keep2_2 m ρ c) (W5_args m ρ c main_arg6 (by decide)) (W5_args m ρ c main_arg7 (by decide)) (keep2_3 m ρ c))

theorem o2 (c : Dev nD) (t : Fin cfg2.N) (a : Fin 512) (j : Fin 1024) :
    outsAt2 (V5 m ρ) c t (ix2 a j : S512x1024.Idx) = (kr m c ⟨(32 + t.val) * 512 + a.val, by have := hN2 t; omega⟩).out j := by
  rw [← trow2 m ρ]
  unfold Gen.outsAt2
  frame_out
  exact outB_at _ _ _ _ _ _ _ _ a j

theorem final2 (c : Dev nD) : (dat2 (V5 m ρ) c).arrAt 8 cfg2.N
    = fun i : S32768x1024.Idx => if 32 ≤ (i 0).val / 512 ∧ (i 0).val / 512 < 48 then (krn m c (i 0).val).out (i 1) else V5 m ρ c main_v9 i := by
  refine (dat2 (V5 m ρ) c).arrAt_eq_of_coversWhere 8 _ (fun β => 32 ≤ β (0 : Fin 2) ∧ β (0 : Fin 2) < 48) (by decide +kernel) (fun t hf y => ?_) (fun j => Iff.rfl)
  blk_simp
  rw [after2_8]
  idx_vars y
  have e := (idx2 t).2.2.2.2.2.2.2.2
  have e0 : win2_8.index t 0 = 32 + t.val := congrFun e 0
  have e1 : win2_8.index t 1 = 0 := congrFun e 1
  refine (o2 m ρ c t y0 y1).trans ?_
  rw [← krn_eq, e0]
  refine congrArg _ (Fin.ext ?_)
  show y1.val = _
  simp [e1]

/-- The rows pass 3 and those before it write hold the layer's result after it. -/
theorem upto2 (c : Dev nD) (i : S32768x1024.Idx) (h : (i 0).val < 24576) : V6 m ρ c main_v9 i = (krn m c (i 0).val).out (i 1) := by
  refine (congrFun ((W6_arr m ρ c 8).trans (final2 m ρ c)) i).trans ?_
  by_cases hq : 32 ≤ (i 0).val / 512
  · exact if_pos ⟨hq, by omega⟩
  · refine (if_neg fun hn => hq hn.1).trans ?_
    rw [copy2]
    exact upto1 m ρ c i (by omega)

theorem trow3 (c : Dev nD) (t : Fin cfg3.N) (a : Fin 512) :
    bk3 (V7 m ρ) c t a = kr m c ⟨(48 + t.val) * 512 + a.val, by have := hN3 t; omega⟩ :=
  (rows3 (V7 m ρ) c t a).trans (gRow_eq m ρ c _ _ _ _ _ _ _ _ _ _ 3 (by omega) (by show (48 + t.val) * 512 + a.val = 3 * 8192 + (t.val * 512 + a.val); omega)
    (W7_args m ρ c main_arg0 (by decide)) (fun k b l => (gath3 m ρ c k b l).trans (congrArg (fun z => m ((c.tc : Thread nD τ).loc main_arg1) (ix3 k z _ : S6x32768x512.Idx)) (Fin.ext (by show 24576 + b.val = 3 * 8192 + b.val; omega))))
    (W7_args m ρ c main_arg2 (by decide)) (keep3_1 m ρ c) (keep3_2 m ρ c) (W7_args m ρ c main_arg6 (by decide)) (W7_args m ρ c main_arg7 (by decide)) (keep3_3 m ρ c))

theorem o3 (c : Dev nD) (t : Fin cfg3.N) (a : Fin 512) (j : Fin 1024) :
    outsAt3 (V7 m ρ) c t (ix2 a j : S512x1024.Idx) = (kr m c ⟨(48 + t.val) * 512 + a.val, by have := hN3 t; omega⟩).out j := by
  rw [← trow3 m ρ]
  unfold Gen.outsAt3
  frame_out
  exact outB_at _ _ _ _ _ _ _ _ a j

theorem final3 (c : Dev nD) : (dat3 (V7 m ρ) c).arrAt 8 cfg3.N
    = fun i : S32768x1024.Idx => if 48 ≤ (i 0).val / 512 ∧ (i 0).val / 512 < 64 then (krn m c (i 0).val).out (i 1) else V7 m ρ c main_v11 i := by
  refine (dat3 (V7 m ρ) c).arrAt_eq_of_coversWhere 8 _ (fun β => 48 ≤ β (0 : Fin 2) ∧ β (0 : Fin 2) < 64) (by decide +kernel) (fun t hf y => ?_) (fun j => Iff.rfl)
  blk_simp
  rw [after3_8]
  idx_vars y
  have e := (idx3 t).2.2.2.2.2.2.2.2
  have e0 : win3_8.index t 0 = 48 + t.val := congrFun e 0
  have e1 : win3_8.index t 1 = 0 := congrFun e 1
  refine (o3 m ρ c t y0 y1).trans ?_
  rw [← krn_eq, e0]
  refine congrArg _ (Fin.ext ?_)
  show y1.val = _
  simp [e1]

/-- The rows pass 4 and those before it write hold the layer's result after it. -/
theorem upto3 (c : Dev nD) (i : S32768x1024.Idx) (h : (i 0).val < 32768) : V8 m ρ c main_v11 i = (krn m c (i 0).val).out (i 1) := by
  refine (congrFun ((W8_arr m ρ c 8).trans (final3 m ρ c)) i).trans ?_
  by_cases hq : 48 ≤ (i 0).val / 512
  · exact if_pos ⟨hq, by omega⟩
  · refine (if_neg fun hn => hq hn.1).trans ?_
    rw [copy3]
    exact upto2 m ρ c i (by omega)

/-- The result array holds the layer's result at every row. -/
theorem result (c : Dev nD) : V8 m ρ c main_v11 = fun i : S32768x1024.Idx => (krn m c (i 0).val).out (i 1) :=
  funext fun (i : S32768x1024.Idx) => upto3 m ρ c i (i 0).isLt

end Cert.Kernel4Ideal.In

end
-- ==== Proof.CbRun.lean ====
/- The run of the last step, and its result array. -/
module

public import proofs.«01_k».proof.Proof.Gen.Kernel4Ideal.Frame

@[expose] public section

set_option maxRecDepth 16384

noncomputable section

namespace Cert.Kernel4Ideal.In

open Cert.Kernel4Ideal Cert.Kernel4Ideal.Gen
open Idealize.ShloMosaic Idealize.ShloMosaic.TcCoe
open Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
variable (m : (ℓ : Loc nD τ sig) → Buf (Elt F) ℓ) (ρ : Dev nD → PrngReg)

/-- From any memory with zero counters every weakly fair execution ends with the last pass's result array as the chain of
    passes leaves it. -/

theorem run_result : θ_run defs (onTc (τ := τ) (main (F := F))) ⟨m, fun _ => 0, ρ⟩ (fun r => ∀ c : Dev nD,
      r.2.mem ((c.tc : Thread nD τ).loc main_v11) = V8 m ρ c main_v11) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h hz => fun c => h c _ (mem_uc main_v11 (by decide)))

end Cert.Kernel4Ideal.In

end
-- ==== Proof.CbRef.lean ====
/- The reference of the last step at an index. -/
module

public import proofs.«01_k».proof.Proof.Gen.Reference4Ideal.Run
public import proofs.«01_k».proof.Proof.CbSpec
public import Idealize.ShloMosaic.Lib.Pipeline.ValueKit
public import Idealize.ShloMosaic.Lib.Pointwise
public import Idealize.ShloMosaic.Lib.BitcastConvert
public import Idealize.ShloMosaic.Lib.ValueIdxCore

@[expose] public section

set_option maxRecDepth 16384

noncomputable section

namespace Cert.Reference4Ideal.In

open Cert.Reference4Ideal Cert.Reference4Ideal.Gen
open Idealize.ShloMosaic Idealize.ShloMosaic.TcCoe
open Idealize.ShloMosaic.Tactic
open Cert.Cb Cert.Reference4Ideal.Value
variable (m : (ℓ : Loc nD τ sig) → Buf (Elt Ideal) ℓ) (c : Dev nD)

/-- The numbers of row `r` in the reference's arguments. -/
def rr (r : Fin 32768) : Row where
  w k := m ((c.tc : Thread nD τ).loc main_arg0) (ix2 r k : S32768x8.Idx)
  p k j := if h : j.val < 512 then half (m ((c.tc : Thread nD τ).loc main_arg1) (ix3 k r ⟨j.val, h⟩ : S6x32768x512.Idx)) 0 else half (m ((c.tc : Thread nD τ).loc main_arg1) (ix3 k r ⟨j.val - 512, by omega⟩ : S6x32768x512.Idx)) 1
  h k := m ((c.tc : Thread nD τ).loc main_arg2) (ix2 r k : S32768x1024.Idx)
  wg i k := m ((c.tc : Thread nD τ).loc main_arg3) (ix2 i k : S1024x256.Idx)
  wu i k := m ((c.tc : Thread nD τ).loc main_arg4) (ix2 i k : S1024x256.Idx)
  wd k j := m ((c.tc : Thread nD τ).loc main_arg5) (ix2 k j : S256x1024.Idx)
  x j := m ((c.tc : Thread nD τ).loc main_arg6) (ix2 r j : S32768x1024.Idx)
  g2 j := m ((c.tc : Thread nD τ).loc main_arg7) (ix3 ⟨r.val / 4096, by omega⟩ 0 j : S8x1x1024.Idx)
  fg j := m ((c.tc : Thread nD τ).loc main_arg8) (ix1 j : S1024.Idx)

/-- Argument 0. -/
abbrev a0 : FVec Ideal S32768x8 .f32 := m ((c.tc : Thread nD τ).loc main_arg0)
/-- Argument 1. -/
abbrev a1 : IVec S6x32768x512 32 := m ((c.tc : Thread nD τ).loc main_arg1)
/-- Argument 2. -/
abbrev a2 : FVec Ideal S32768x1024 .bf16 := m ((c.tc : Thread nD τ).loc main_arg2)
/-- Argument 3. -/
abbrev a3 : FVec Ideal S1024x256 .f32 := m ((c.tc : Thread nD τ).loc main_arg3)
/-- Argument 4. -/
abbrev a4 : FVec Ideal S1024x256 .f32 := m ((c.tc : Thread nD τ).loc main_arg4)
/-- Argument 5. -/
abbrev a5 : FVec Ideal S256x1024 .f32 := m ((c.tc : Thread nD τ).loc main_arg5)
/-- Argument 6. -/
abbrev a6 : FVec Ideal S32768x1024 .f32 := m ((c.tc : Thread nD τ).loc main_arg6)
/-- Argument 7. -/
abbrev a7 : FVec Ideal S8x1x1024 .f32 := m ((c.tc : Thread nD τ).loc main_arg7)
/-- Argument 8. -/
abbrev a8 : FVec Ideal S1024 .f32 := m ((c.tc : Thread nD τ).loc main_arg8)

/-- The picked rows, the words' halves. -/
def pickR : FVec Ideal S6x32768x1024 .bf16 := concatenate S6x32768x1024 2 [⟨S6x32768x512, (shapeCast _ (extractStridedSlice S6x32768x512x1 ![0, 0, 0, 0] (bitcastToFloat (F := Ideal) .bf16 (Host.bitcastConvertNarrow S6x32768x512x2 16 (a1 m c) splits_S6x32768x512_w32_S6x32768x512x2_w16)) slices_S6x32768x512x2_S6x32768x512x1_0_0_0_0) shapeCasts_S6x32768x512x1_S6x32768x512)⟩, ⟨S6x32768x512, (shapeCast _ (extractStridedSlice S6x32768x512x1 ![0, 0, 0, 1] (bitcastToFloat (F := Ideal) .bf16 (Host.bitcastConvertNarrow S6x32768x512x2 16 (a1 m c) splits_S6x32768x512_w32_S6x32768x512x2_w16)) slices_S6x32768x512x2_S6x32768x512x1_0_0_0_1) shapeCasts_S6x32768x512x1_S6x32768x512)⟩] concatenates_S6x32768x512_S6x32768x512_S6x32768x1024_d2

theorem drop_at (k : Fin 6) (r : Fin 32768) (l : Fin 512) (n : Fin 2) :
    splits_S6x32768x512_w32_S6x32768x512x2_w16.drop (ix4 k r l n : S6x32768x512x2.Idx) = (ix3 k r l : S6x32768x512.Idx) := by
  funext a
  fin_cases a <;> rfl

theorem pickR_at (k : Fin 6) (r : Fin 32768) (j : Fin 1024) : pickR m c (ix3 k r j : S6x32768x1024.Idx) = (rr m c r).p k j := by
  unfold rr half
  pointwise [pickR, drop_at]

/-- The gate's product. -/
def gaR : FVec Ideal S32768x256 .f32 := Host.dotGeneral dot_S32768x1024_S1024x256_S32768x256_1_0_0_1_n_n none (extf .f32 (a2 m c) bitsLt_bf16_f32) (a3 m c)

theorem gaR_at (r : Fin 32768) (k : Fin 256) : gaR m c (ix2 r k : S32768x256.Idx) = (rr m c r).ga k := by
  pointwise [gaR]
  rfl

/-- The shared expert's hidden rows. -/
def hidR : FVec Ideal S32768x256 .f32 := mulf (mulf (gaR m c) (Host.divf (broadcastInDim S32768x256 ![] bcast_S_S32768x256 (constant S_ .f32 0x3F800000#32)) (addf (broadcastInDim S32768x256 ![] bcast_S_S32768x256 (constant S_ .f32 0x3F800000#32)) (Host.exp (Host.negf (gaR m c)))))) (Host.dotGeneral dot_S32768x1024_S1024x256_S32768x256_1_0_0_1_n_n none (extf .f32 (a2 m c) bitsLt_bf16_f32) (a4 m c))

theorem hidR_at (r : Fin 32768) (k : Fin 256) : hidR m c (ix2 r k : S32768x256.Idx) = (rr m c r).hid k := by
  pointwise [hidR, gaR_at]
  rfl

/-- The shared expert and the picked rows under their weights. -/
def mixR : FVec Ideal S32768x1024 .f32 := addf (addf (addf (addf (addf (addf (Host.dotGeneral dot_S32768x256_S256x1024_S32768x1024_1_0_0_1_n_n none (hidR m c) (a5 m c)) (mulf (broadcastInDim S32768x1024 ![0, 1] bcast_S32768x1_S32768x1024_0_1 (extractStridedSlice S32768x1 ![0, 0] (a0 m c) slices_S32768x8_S32768x1_0_0)) (extf .f32 (shapeCast _ (extractStridedSlice S1x32768x1024 ![0, 0, 0] (pickR m c) slices_S6x32768x1024_S1x32768x1024_0_0_0) shapeCasts_S1x32768x1024_S32768x1024) bitsLt_bf16_f32))) (mulf (broadcastInDim S32768x1024 ![0, 1] bcast_S32768x1_S32768x1024_0_1 (extractStridedSlice S32768x1 ![0, 1] (a0 m c) slices_S32768x8_S32768x1_0_1)) (extf .f32 (shapeCast _ (extractStridedSlice S1x32768x1024 ![1, 0, 0] (pickR m c) slices_S6x32768x1024_S1x32768x1024_1_0_0) shapeCasts_S1x32768x1024_S32768x1024) bitsLt_bf16_f32))) (mulf (broadcastInDim S32768x1024 ![0, 1] bcast_S32768x1_S32768x1024_0_1 (extractStridedSlice S32768x1 ![0, 2] (a0 m c) slices_S32768x8_S32768x1_0_2)) (extf .f32 (shapeCast _ (extractStridedSlice S1x32768x1024 ![2, 0, 0] (pickR m c) slices_S6x32768x1024_S1x32768x1024_2_0_0) shapeCasts_S1x32768x1024_S32768x1024) bitsLt_bf16_f32))) (mulf (broadcastInDim S32768x1024 ![0, 1] bcast_S32768x1_S32768x1024_0_1 (extractStridedSlice S32768x1 ![0, 3] (a0 m c) slices_S32768x8_S32768x1_0_3)) (extf .f32 (shapeCast _ (extractStridedSlice S1x32768x1024 ![3, 0, 0] (pickR m c) slices_S6x32768x1024_S1x32768x1024_3_0_0) shapeCasts_S1x32768x1024_S32768x1024) bitsLt_bf16_f32))) (mulf (broadcastInDim S32768x1024 ![0, 1] bcast_S32768x1_S32768x1024_0_1 (extractStridedSlice S32768x1 ![0, 4] (a0 m c) slices_S32768x8_S32768x1_0_4)) (extf .f32 (shapeCast _ (extractStridedSlice S1x32768x1024 ![4, 0, 0] (pickR m c) slices_S6x32768x1024_S1x32768x1024_4_0_0) shapeCasts_S1x32768x1024_S32768x1024) bitsLt_bf16_f32))) (mulf (broadcastInDim S32768x1024 ![0, 1] bcast_S32768x1_S32768x1024_0_1 (extractStridedSlice S32768x1 ![0, 5] (a0 m c) slices_S32768x8_S32768x1_0_5)) (extf .f32 (shapeCast _ (extractStridedSlice S1x32768x1024 ![5, 0, 0] (pickR m c) slices_S6x32768x1024_S1x32768x1024_5_0_0) shapeCasts_S1x32768x1024_S32768x1024) bitsLt_bf16_f32))

theorem mixR_at (r : Fin 32768) (j : Fin 1024) : mixR m c (ix2 r j : S32768x1024.Idx) = (rr m c r).mix j := by
  pointwise [mixR, hidR_at, pickR_at]
  rfl

theorem row_eq (r : Fin 32768) : (⟨(r.val / 4096) * 4096 + r.val % 4096, by omega⟩ : Fin 32768) = r := Fin.ext (by show r.val / 4096 * 4096 + r.val % 4096 = r.val; omega)

theorem row_div (n : Fin 8) (l : Fin 4096) : (⟨(n.val * 4096 + l.val) / 4096, by omega⟩ : Fin 8) = n := Fin.ext (by show (n.val * 4096 + l.val) / 4096 = n.val; omega)

/-- The rows with the experts added. -/
def xR : FVec Ideal S8x4096x1024 .f32 := addf (shapeCast _ (a6 m c) shapeCasts_S32768x1024_S8x4096x1024) (mulf (broadcastInDim S8x4096x1024 ![0, 1, 2] bcast_S8x1x1024_S8x4096x1024_0_1_2 (a7 m c)) (shapeCast _ (mixR m c) shapeCasts_S32768x1024_S8x4096x1024))

theorem xR_at (n : Fin 8) (l : Fin 4096) (j : Fin 1024) : xR m c (ix3 n l j : S8x4096x1024.Idx) = (rr m c ⟨n.val * 4096 + l.val, by omega⟩).x2 j := by
  pointwise [xR, mixR_at]
  unfold Row.x2
  have e : (rr m c ⟨n.val * 4096 + l.val, by omega⟩).g2 j = m ((c.tc : Thread nD τ).loc main_arg7) (ix3 n 0 j : S8x1x1024.Idx) :=
    congrArg (fun z => m ((c.tc : Thread nD τ).loc main_arg7) (ix3 z 0 j : S8x1x1024.Idx)) (row_div n l)
  rw [e]
  rfl

theorem v72_eq : res_main_v72 m c = (shapeCast _ (mulf (mulf (xR m c) (broadcastInDim S8x4096x1024 ![0, 1, 2] bcast_S8x4096x1_S8x4096x1024_0_1_2 (Host.rsqrt (addf (Host.divf (broadcastInDim S8x4096x1 ![0, 1] bcast_S8x4096_S8x4096x1_0_1 (Host.reduceAdd (mulf (xR m c) (xR m c)) (constant S_ .f32 0x00000000#32) reducesTo_S8x4096x1024_S8x4096_d2 h_S_)) (broadcastInDim S8x4096x1 ![] bcast_S_S8x4096x1 (constant S_ .f32 0x44800000#32))) (broadcastInDim S8x4096x1 ![] bcast_S_S8x4096x1 (constant S_ .f32 0x358637BD#32)))))) (broadcastInDim S8x4096x1024 ![0, 1, 2] bcast_S1x1x1024_S8x4096x1024_0_1_2 (broadcastInDim S1x1x1024 ![2] bcast_S1024_S1x1x1024_2 (a8 m c)))) shapeCasts_S8x4096x1024_S32768x1024 : FVec Ideal S32768x1024 .f32) := rfl

theorem v72_at (r : Fin 32768) (j : Fin 1024) : res_main_v72 m c (ix2 r j : S32768x1024.Idx) = (rr m c r).out j := by
  rw [v72_eq]
  pointwise [xR_at]
  simp only [row_eq]
  rfl

end Cert.Reference4Ideal.In

end
-- ==== Proof.CbClaims.lean ====
/- The claims about the last step: the reference's run, and the two programs' results being equal. -/
module

public import proofs.«01_k».proof.Defs
public import proofs.«01_k».proof.Proof.CbVal
public import proofs.«01_k».proof.Proof.CbRun
public import proofs.«01_k».proof.Proof.CbRef
public import Idealize.ShloMosaic.Lib.Quiescent

@[expose] public section

set_option maxRecDepth 16384

noncomputable section

namespace Cert.Proof.Last

open Idealize.ShloMosaic Idealize.ShloMosaic.TcCoe Idealize.SL.Sem
open Idealize.ShloMosaic.Tactic
open Idealize.ShloMosaic.StableHlo

/-- The reference runs, its arguments end unchanged, every counter at zero. -/
theorem frame_reference : Cert.quiescent_Reference4Ideal := fun m ρ _ =>
  (θ_run Cert.Reference4Ideal.defs _ _).mono (fun r h => ⟨fun c => (h c).2, Idealize.ShloMosaic.sem_eq_zero_of_no_sems (by decide) r.2⟩)
    (Cert.Reference4Ideal.Value.run (F := Ideal) m ρ)

/-- The idealized kernel is the kernel as it stands. -/
theorem preserves : Cert.preserves_Kernel4_Kernel4Ideal := trivial

section

variable (m : (ℓ : Loc Cert.Kernel4Ideal.nD Cert.Kernel4Ideal.τ Cert.Kernel4Ideal.sig) → Buf (Elt Ideal) ℓ) (ρ : Dev Cert.Kernel4Ideal.nD → PrngReg)
  (m' : (ℓ : Loc Cert.Reference4Ideal.nD Cert.Reference4Ideal.τ Cert.Reference4Ideal.sig) → Buf (Elt Ideal) ℓ)

/-- An array of the kernel. -/
abbrev kv (c : Dev Cert.Kernel4Ideal.nD) (b : Ref Cert.Kernel4Ideal.sig .tc) := m ((c.tc : Thread Cert.Kernel4Ideal.nD Cert.Kernel4Ideal.τ).loc b)

/-- An array of the reference. -/
abbrev rv (c : Dev Cert.Kernel4Ideal.nD) (b : Ref Cert.Reference4Ideal.sig .tc) := m' ((c.tc : Thread Cert.Reference4Ideal.nD Cert.Reference4Ideal.τ).loc b)

/-- The two memories agree on the arguments. -/
def Agree (c : Dev Cert.Kernel4Ideal.nD) : Prop :=
  rv m' c Cert.Reference4Ideal.main_arg0 = kv m c Cert.Kernel4Ideal.main_arg0
  ∧ rv m' c Cert.Reference4Ideal.main_arg1 = kv m c Cert.Kernel4Ideal.main_arg1
  ∧ rv m' c Cert.Reference4Ideal.main_arg2 = kv m c Cert.Kernel4Ideal.main_arg2
  ∧ rv m' c Cert.Reference4Ideal.main_arg3 = kv m c Cert.Kernel4Ideal.main_arg3
  ∧ rv m' c Cert.Reference4Ideal.main_arg4 = kv m c Cert.Kernel4Ideal.main_arg4
  ∧ rv m' c Cert.Reference4Ideal.main_arg5 = kv m c Cert.Kernel4Ideal.main_arg5
  ∧ rv m' c Cert.Reference4Ideal.main_arg6 = kv m c Cert.Kernel4Ideal.main_arg6
  ∧ rv m' c Cert.Reference4Ideal.main_arg7 = kv m c Cert.Kernel4Ideal.main_arg7
  ∧ rv m' c Cert.Reference4Ideal.main_arg8 = kv m c Cert.Kernel4Ideal.main_arg8

theorem row (c : Dev Cert.Kernel4Ideal.nD) (h : Agree m m' c) (r : Fin 32768) : Cert.Reference4Ideal.In.rr m' c r = Cert.Kernel4Ideal.In.krn m c r.val := by
  unfold Agree rv kv at h
  obtain ⟨e0, e1, e2, e3, e4, e5, e6, e7, e8⟩ := h
  rw [Cert.Kernel4Ideal.In.krn_eq]
  unfold Cert.Reference4Ideal.In.rr Cert.Kernel4Ideal.In.kr
  rw [e0, e1, e2, e3, e4, e5, e6, e7, e8]

theorem result_eq (c : Dev Cert.Kernel4Ideal.nD) (h : Agree m m' c) : Cert.Reference4Ideal.Value.res_main_v72 m' c = Cert.Kernel4Ideal.Gen.V8 m ρ c Cert.Kernel4Ideal.main_v11 := by
  rw [Cert.Kernel4Ideal.In.result]
  refine funext fun (i : Cert.Reference4Ideal.S32768x1024.Idx) => ?_
  idx_vars i
  refine (Cert.Reference4Ideal.In.v72_at m' c i0 i1).trans ?_
  rw [row m m' c h i0]

end

/-- From arguments that agree the two programs end with equal results. -/
theorem algebraic : Cert.algebraic_Kernel4Ideal_Reference4Ideal := by
  intro m ρ m' ρ' _ hagree
  refine ⟨fun c => Cert.Kernel4Ideal.Gen.V8 m ρ c Cert.Kernel4Ideal.main_v11,
    (θ_run Cert.Kernel4Ideal.defs _ _).mono (fun _ h c => ⟨h.2 c, h.1 c⟩)
      (θ_run_and (Cert.Kernel4Ideal.Gen.unchanged (F := Ideal) m ρ) (Cert.Kernel4Ideal.In.run_result (F := Ideal) m ρ)), ?_⟩
  refine (θ_run Cert.Reference4Ideal.defs _ _).mono (fun _ h c => ?_) (Cert.Reference4Ideal.Value.run (F := Ideal) m' ρ')
  exact ⟨(h c).1.trans (result_eq m ρ m' c (hagree c)), (h c).2⟩

end Cert.Proof.Last

end
-- ==== Proof.lean ====
module

public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Reference2Ideal
public import proofs.«01_k».proof.Proof.Gen.Reference2Ideal.Run
public import proofs.«01_k».proof.Defs
public import proofs.«01_k».proof.Proof.FrameKernel
public import proofs.«01_k».proof.Proof.FrameKernelIdeal
public import proofs.«01_k».proof.Proof.Gen.ReferenceIdeal
public import proofs.«01_k».proof.Proof.Gen.ReferenceIdeal.Run
public import proofs.«01_k».proof.Proof.Gen.Pre_finite
public import proofs.«01_k».proof.Proof.Claims
public import proofs.«01_k».proof.Proof.InClaims
public import proofs.«01_k».proof.Proof.MgClaims
public import proofs.«01_k».proof.Proof.CbClaims
public import Idealize.ShloMosaic.Adequacy
public import Idealize.ShloMosaic.Init

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Pre_finite.Gen.facts,
    fun m g _ => Cert.Kernel.Hand.frame_quiescent m g,
    fun m g _ => Cert.KernelIdeal.Hand.frame_quiescent m g,
    fun m g _ => Cert.KernelIdeal.Hand.frame_quiescent m g,
    Cert.Proof.Attention.frame_reference, Cert.Proof.Attention.frame_reference_finite,
    fun m g _ => Cert.Kernel2.Gen.frame m g, fun m g _ => Cert.Kernel2Ideal.Gen.frame m g, Cert.Proof.Projection.frame_reference,
    fun m g _ => Cert.Kernel3.Gen.frame m g, fun m g _ => Cert.Kernel3Ideal.Gen.frame m g, Cert.Proof.Merge.frame_reference,
    fun m g _ => Cert.Kernel4.Gen.frame m g, fun m g _ => Cert.Kernel4Ideal.Gen.frame m g, Cert.Proof.Last.frame_reference,
    Cert.Proof.Attention.preserves, Cert.Proof.Attention.algebraic,
    Cert.Proof.Projection.preserves, Cert.Proof.Projection.algebraic,
    Cert.Proof.Merge.preserves, Cert.Proof.Merge.algebraic,
    Cert.Proof.Last.preserves, Cert.Proof.Last.algebraic⟩

end Cert.Proof

end
